-- ==== Defs.lean ====
def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_norm_finite [hPre_norm_finite : Cert.Pre_norm_finite.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_norm_finite [hPre_norm_finite : Cert.Pre_norm_finite.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4))) = (fun _ => 1#1)

def Pre_LnKernel (m : (ℓ : Loc Cert.LnKernel.nD Cert.LnKernel.τ Cert.LnKernel.sig) → Buf (Elt Bits) ℓ) : Prop :=
  True

def Pre_LnKernelIdeal (m : (ℓ : Loc Cert.LnKernelIdeal.nD Cert.LnKernelIdeal.τ Cert.LnKernelIdeal.sig) → Buf (Elt Ideal) ℓ) : Prop :=
  True

def Pre_LnKernelIdeal_ln_finite [hPre_ln_finite : Cert.Pre_ln_finite.Facts] (m : (ℓ : Loc Cert.LnKernelIdeal.nD Cert.LnKernelIdeal.τ Cert.LnKernelIdeal.sig) → Buf (Elt Ideal) ℓ) : Prop :=
  ∀ c : Dev Cert.LnKernelIdeal.nD,
    (Cert.Pre_ln_finite.fn (F := Ideal) (m ((c.tc : Thread Cert.LnKernelIdeal.nD Cert.LnKernelIdeal.τ).loc Cert.LnKernelIdeal.main_arg0)) (m ((c.tc : Thread Cert.LnKernelIdeal.nD Cert.LnKernelIdeal.τ).loc Cert.LnKernelIdeal.main_arg1)) (m ((c.tc : Thread Cert.LnKernelIdeal.nD Cert.LnKernelIdeal.τ).loc Cert.LnKernelIdeal.main_arg2)) (m ((c.tc : Thread Cert.LnKernelIdeal.nD Cert.LnKernelIdeal.τ).loc Cert.LnKernelIdeal.main_arg3))) = (fun _ => 1#1)

def Pre_LnReferenceIdeal (m : (ℓ : Loc Cert.LnReferenceIdeal.nD Cert.LnReferenceIdeal.τ Cert.LnReferenceIdeal.sig) → Buf (Elt Ideal) ℓ) : Prop :=
  True

def Pre_LnReferenceIdeal_ln_finite [hPre_ln_finite : Cert.Pre_ln_finite.Facts] (m : (ℓ : Loc Cert.LnReferenceIdeal.nD Cert.LnReferenceIdeal.τ Cert.LnReferenceIdeal.sig) → Buf (Elt Ideal) ℓ) : Prop :=
  ∀ c : Dev Cert.LnReferenceIdeal.nD,
    (Cert.Pre_ln_finite.fn (F := Ideal) (m ((c.tc : Thread Cert.LnReferenceIdeal.nD Cert.LnReferenceIdeal.τ).loc Cert.LnReferenceIdeal.main_arg0)) (m ((c.tc : Thread Cert.LnReferenceIdeal.nD Cert.LnReferenceIdeal.τ).loc Cert.LnReferenceIdeal.main_arg1)) (m ((c.tc : Thread Cert.LnReferenceIdeal.nD Cert.LnReferenceIdeal.τ).loc Cert.LnReferenceIdeal.main_arg2)) (m ((c.tc : Thread Cert.LnReferenceIdeal.nD Cert.LnReferenceIdeal.τ).loc Cert.LnReferenceIdeal.main_arg3))) = (fun _ => 1#1)

def Pre_NaKernel (m : (ℓ : Loc Cert.NaKernel.nD Cert.NaKernel.τ Cert.NaKernel.sig) → Buf (Elt Bits) ℓ) : Prop :=
  True

def Pre_NaKernelIdeal (m : (ℓ : Loc Cert.NaKernelIdeal.nD Cert.NaKernelIdeal.τ Cert.NaKernelIdeal.sig) → Buf (Elt Ideal) ℓ) : Prop :=
  True

def Pre_NaKernelIdeal_na_finite [hPre_na_finite : Cert.Pre_na_finite.Facts] (m : (ℓ : Loc Cert.NaKernelIdeal.nD Cert.NaKernelIdeal.τ Cert.NaKernelIdeal.sig) → Buf (Elt Ideal) ℓ) : Prop :=
  ∀ c : Dev Cert.NaKernelIdeal.nD,
    (Cert.Pre_na_finite.fn (F := Ideal) (m ((c.tc : Thread Cert.NaKernelIdeal.nD Cert.NaKernelIdeal.τ).loc Cert.NaKernelIdeal.main_arg0)) (m ((c.tc : Thread Cert.NaKernelIdeal.nD Cert.NaKernelIdeal.τ).loc Cert.NaKernelIdeal.main_arg1)) (m ((c.tc : Thread Cert.NaKernelIdeal.nD Cert.NaKernelIdeal.τ).loc Cert.NaKernelIdeal.main_arg2)) (m ((c.tc : Thread Cert.NaKernelIdeal.nD Cert.NaKernelIdeal.τ).loc Cert.NaKernelIdeal.main_arg3))) = (fun _ => 1#1)

def Pre_NaReferenceIdeal (m : (ℓ : Loc Cert.NaReferenceIdeal.nD Cert.NaReferenceIdeal.τ Cert.NaReferenceIdeal.sig) → Buf (Elt Ideal) ℓ) : Prop :=
  True

def Pre_NaReferenceIdeal_na_finite [hPre_na_finite : Cert.Pre_na_finite.Facts] (m : (ℓ : Loc Cert.NaReferenceIdeal.nD Cert.NaReferenceIdeal.τ Cert.NaReferenceIdeal.sig) → Buf (Elt Ideal) ℓ) : Prop :=
  ∀ c : Dev Cert.NaReferenceIdeal.nD,
    (Cert.Pre_na_finite.fn (F := Ideal) (m ((c.tc : Thread Cert.NaReferenceIdeal.nD Cert.NaReferenceIdeal.τ).loc Cert.NaReferenceIdeal.main_arg0)) (m ((c.tc : Thread Cert.NaReferenceIdeal.nD Cert.NaReferenceIdeal.τ).loc Cert.NaReferenceIdeal.main_arg1)) (m ((c.tc : Thread Cert.NaReferenceIdeal.nD Cert.NaReferenceIdeal.τ).loc Cert.NaReferenceIdeal.main_arg2)) (m ((c.tc : Thread Cert.NaReferenceIdeal.nD Cert.NaReferenceIdeal.τ).loc Cert.NaReferenceIdeal.main_arg3))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))) = (fun _ => 1#1)

def Pre_SduKernel (m : (ℓ : Loc Cert.SduKernel.nD Cert.SduKernel.τ Cert.SduKernel.sig) → Buf (Elt Bits) ℓ) : Prop :=
  True

def Pre_SduKernelIdeal (m : (ℓ : Loc Cert.SduKernelIdeal.nD Cert.SduKernelIdeal.τ Cert.SduKernelIdeal.sig) → Buf (Elt Ideal) ℓ) : Prop :=
  True

def Pre_SduReferenceIdeal (m : (ℓ : Loc Cert.SduReferenceIdeal.nD Cert.SduReferenceIdeal.τ Cert.SduReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_GresKernel (m : (ℓ : Loc Cert.GresKernel.nD Cert.GresKernel.τ Cert.GresKernel.sig) → Buf (Elt Bits) ℓ) : Prop :=
  True

def Pre_GresKernelIdeal (m : (ℓ : Loc Cert.GresKernelIdeal.nD Cert.GresKernelIdeal.τ Cert.GresKernelIdeal.sig) → Buf (Elt Ideal) ℓ) : Prop :=
  True

def Pre_GresReferenceIdeal (m : (ℓ : Loc Cert.GresReferenceIdeal.nD Cert.GresReferenceIdeal.τ Cert.GresReferenceIdeal.sig) → Buf (Elt Ideal) ℓ) : Prop :=
  True

def Pre_RnKernel (m : (ℓ : Loc Cert.RnKernel.nD Cert.RnKernel.τ Cert.RnKernel.sig) → Buf (Elt Bits) ℓ) : Prop :=
  True

def Pre_RnKernelIdeal (m : (ℓ : Loc Cert.RnKernelIdeal.nD Cert.RnKernelIdeal.τ Cert.RnKernelIdeal.sig) → Buf (Elt Ideal) ℓ) : Prop :=
  True

def Pre_RnReferenceIdeal (m : (ℓ : Loc Cert.RnReferenceIdeal.nD Cert.RnReferenceIdeal.τ Cert.RnReferenceIdeal.sig) → Buf (Elt Ideal) ℓ) : Prop :=
  True

def Pre_MidKernel (m : (ℓ : Loc Cert.MidKernel.nD Cert.MidKernel.τ Cert.MidKernel.sig) → Buf (Elt Bits) ℓ) : Prop :=
  True

def Pre_MidKernelIdeal (m : (ℓ : Loc Cert.MidKernelIdeal.nD Cert.MidKernelIdeal.τ Cert.MidKernelIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_GlufKernel (m : (ℓ : Loc Cert.GlufKernel.nD Cert.GlufKernel.τ Cert.GlufKernel.sig) → Buf (Elt Bits) ℓ) : Prop :=
  True

def Pre_GlufKernelIdeal (m : (ℓ : Loc Cert.GlufKernelIdeal.nD Cert.GlufKernelIdeal.τ Cert.GlufKernelIdeal.sig) → Buf (Elt Ideal) ℓ) : Prop :=
  True

def Pre_GlufReferenceIdeal (m : (ℓ : Loc Cert.GlufReferenceIdeal.nD Cert.GlufReferenceIdeal.τ Cert.GlufReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluKernelIdeal_glu_finite [hPre_glu_finite : Cert.Pre_glu_finite.Facts] (m : (ℓ : Loc Cert.GluKernelIdeal.nD Cert.GluKernelIdeal.τ Cert.GluKernelIdeal.sig) → Buf (Elt Ideal) ℓ) : Prop :=
  ∀ c : Dev Cert.GluKernelIdeal.nD,
    (Cert.Pre_glu_finite.fn (F := Ideal) (m ((c.tc : Thread Cert.GluKernelIdeal.nD Cert.GluKernelIdeal.τ).loc Cert.GluKernelIdeal.main_arg0)) (m ((c.tc : Thread Cert.GluKernelIdeal.nD Cert.GluKernelIdeal.τ).loc Cert.GluKernelIdeal.main_arg1)) (m ((c.tc : Thread Cert.GluKernelIdeal.nD Cert.GluKernelIdeal.τ).loc Cert.GluKernelIdeal.main_arg2)) (m ((c.tc : Thread Cert.GluKernelIdeal.nD Cert.GluKernelIdeal.τ).loc Cert.GluKernelIdeal.main_arg3)) (m ((c.tc : Thread Cert.GluKernelIdeal.nD Cert.GluKernelIdeal.τ).loc Cert.GluKernelIdeal.main_arg4)) (m ((c.tc : Thread Cert.GluKernelIdeal.nD Cert.GluKernelIdeal.τ).loc Cert.GluKernelIdeal.main_arg5))) = (fun _ => 1#1)

def Pre_GluReferenceIdeal (m : (ℓ : Loc Cert.GluReferenceIdeal.nD Cert.GluReferenceIdeal.τ Cert.GluReferenceIdeal.sig) → Buf (Elt Ideal) ℓ) : Prop :=
  True

def Pre_GluReferenceIdeal_glu_finite [hPre_glu_finite : Cert.Pre_glu_finite.Facts] (m : (ℓ : Loc Cert.GluReferenceIdeal.nD Cert.GluReferenceIdeal.τ Cert.GluReferenceIdeal.sig) → Buf (Elt Ideal) ℓ) : Prop :=
  ∀ c : Dev Cert.GluReferenceIdeal.nD,
    (Cert.Pre_glu_finite.fn (F := Ideal) (m ((c.tc : Thread Cert.GluReferenceIdeal.nD Cert.GluReferenceIdeal.τ).loc Cert.GluReferenceIdeal.main_arg0)) (m ((c.tc : Thread Cert.GluReferenceIdeal.nD Cert.GluReferenceIdeal.τ).loc Cert.GluReferenceIdeal.main_arg1)) (m ((c.tc : Thread Cert.GluReferenceIdeal.nD Cert.GluReferenceIdeal.τ).loc Cert.GluReferenceIdeal.main_arg2)) (m ((c.tc : Thread Cert.GluReferenceIdeal.nD Cert.GluReferenceIdeal.τ).loc Cert.GluReferenceIdeal.main_arg3)) (m ((c.tc : Thread Cert.GluReferenceIdeal.nD Cert.GluReferenceIdeal.τ).loc Cert.GluReferenceIdeal.main_arg4)) (m ((c.tc : Thread Cert.GluReferenceIdeal.nD Cert.GluReferenceIdeal.τ).loc Cert.GluReferenceIdeal.main_arg5))) = (fun _ => 1#1)

def Pre_DnKernel (m : (ℓ : Loc Cert.DnKernel.nD Cert.DnKernel.τ Cert.DnKernel.sig) → Buf (Elt Bits) ℓ) : Prop :=
  True

def Pre_DnKernelIdeal (m : (ℓ : Loc Cert.DnKernelIdeal.nD Cert.DnKernelIdeal.τ Cert.DnKernelIdeal.sig) → Buf (Elt Ideal) ℓ) : Prop :=
  True

def Pre_DnReferenceIdeal (m : (ℓ : Loc Cert.DnReferenceIdeal.nD Cert.DnReferenceIdeal.τ Cert.DnReferenceIdeal.sig) → Buf (Elt Ideal) ℓ) : Prop :=
  True

def Pre_DnxKernel (m : (ℓ : Loc Cert.DnxKernel.nD Cert.DnxKernel.τ Cert.DnxKernel.sig) → Buf (Elt Bits) ℓ) : Prop :=
  True

def Pre_DnxKernelIdeal (m : (ℓ : Loc Cert.DnxKernelIdeal.nD Cert.DnxKernelIdeal.τ Cert.DnxKernelIdeal.sig) → Buf (Elt Ideal) ℓ) : Prop :=
  True

def Pre_DnxReferenceIdeal (m : (ℓ : Loc Cert.DnxReferenceIdeal.nD Cert.DnxReferenceIdeal.τ Cert.DnxReferenceIdeal.sig) → Buf (Elt Ideal) ℓ) : Prop :=
  True

def Pre_DnwKernel (m : (ℓ : Loc Cert.DnwKernel.nD Cert.DnwKernel.τ Cert.DnwKernel.sig) → Buf (Elt Bits) ℓ) : Prop :=
  True

def Pre_DnwKernelIdeal (m : (ℓ : Loc Cert.DnwKernelIdeal.nD Cert.DnwKernelIdeal.τ Cert.DnwKernelIdeal.sig) → Buf (Elt Ideal) ℓ) : Prop :=
  True

def Pre_DnwReferenceIdeal (m : (ℓ : Loc Cert.DnwReferenceIdeal.nD Cert.DnwReferenceIdeal.τ Cert.DnwReferenceIdeal.sig) → Buf (Elt Ideal) ℓ) : Prop :=
  True

def Pre_UpfKernel (m : (ℓ : Loc Cert.UpfKernel.nD Cert.UpfKernel.τ Cert.UpfKernel.sig) → Buf (Elt Bits) ℓ) : Prop :=
  True

def Pre_UpfKernelIdeal (m : (ℓ : Loc Cert.UpfKernelIdeal.nD Cert.UpfKernelIdeal.τ Cert.UpfKernelIdeal.sig) → Buf (Elt Ideal) ℓ) : Prop :=
  True

def Pre_UpfReferenceIdeal (m : (ℓ : Loc Cert.UpfReferenceIdeal.nD Cert.UpfReferenceIdeal.τ Cert.UpfReferenceIdeal.sig) → Buf (Elt Ideal) ℓ) : Prop :=
  True

def Pre_UpwKernel (m : (ℓ : Loc Cert.UpwKernel.nD Cert.UpwKernel.τ Cert.UpwKernel.sig) → Buf (Elt Bits) ℓ) : Prop :=
  True

def Pre_UpwKernelIdeal (m : (ℓ : Loc Cert.UpwKernelIdeal.nD Cert.UpwKernelIdeal.τ Cert.UpwKernelIdeal.sig) → Buf (Elt Ideal) ℓ) : Prop :=
  True

def Pre_UpwReferenceIdeal (m : (ℓ : Loc Cert.UpwReferenceIdeal.nD Cert.UpwReferenceIdeal.τ Cert.UpwReferenceIdeal.sig) → Buf (Elt Ideal) ℓ) : Prop :=
  True

def Pre_UpxKernel (m : (ℓ : Loc Cert.UpxKernel.nD Cert.UpxKernel.τ Cert.UpxKernel.sig) → Buf (Elt Bits) ℓ) : Prop :=
  True

def Pre_UpxKernelIdeal (m : (ℓ : Loc Cert.UpxKernelIdeal.nD Cert.UpxKernelIdeal.τ Cert.UpxKernelIdeal.sig) → Buf (Elt Ideal) ℓ) : Prop :=
  True

def Pre_UpxReferenceIdeal (m : (ℓ : Loc Cert.UpxReferenceIdeal.nD Cert.UpxReferenceIdeal.τ Cert.UpxReferenceIdeal.sig) → Buf (Elt Ideal) ℓ) : Prop :=
  True

def Pre_InxKernel (m : (ℓ : Loc Cert.InxKernel.nD Cert.InxKernel.τ Cert.InxKernel.sig) → Buf (Elt Bits) ℓ) : Prop :=
  True

def Pre_InxKernelIdeal (m : (ℓ : Loc Cert.InxKernelIdeal.nD Cert.InxKernelIdeal.τ Cert.InxKernelIdeal.sig) → Buf (Elt Ideal) ℓ) : Prop :=
  True

def Pre_InxReferenceIdeal (m : (ℓ : Loc Cert.InxReferenceIdeal.nD Cert.InxReferenceIdeal.τ Cert.InxReferenceIdeal.sig) → Buf (Elt Ideal) ℓ) : Prop :=
  True

def Pre_AddhKernel (m : (ℓ : Loc Cert.AddhKernel.nD Cert.AddhKernel.τ Cert.AddhKernel.sig) → Buf (Elt Bits) ℓ) : Prop :=
  True

def Pre_AddhKernelIdeal (m : (ℓ : Loc Cert.AddhKernelIdeal.nD Cert.AddhKernelIdeal.τ Cert.AddhKernelIdeal.sig) → Buf (Elt Ideal) ℓ) : Prop :=
  True

def Pre_AddhReferenceIdeal (m : (ℓ : Loc Cert.AddhReferenceIdeal.nD Cert.AddhReferenceIdeal.τ Cert.AddhReferenceIdeal.sig) → Buf (Elt Ideal) ℓ) : Prop :=
  True

def Pre_SumlKernel (m : (ℓ : Loc Cert.SumlKernel.nD Cert.SumlKernel.τ Cert.SumlKernel.sig) → Buf (Elt Bits) ℓ) : Prop :=
  True

def Pre_SumlKernelIdeal (m : (ℓ : Loc Cert.SumlKernelIdeal.nD Cert.SumlKernelIdeal.τ Cert.SumlKernelIdeal.sig) → Buf (Elt Ideal) ℓ) : Prop :=
  True

def Pre_SumlReferenceIdeal (m : (ℓ : Loc Cert.SumlReferenceIdeal.nD Cert.SumlReferenceIdeal.τ Cert.SumlReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4)
      ∧ r.2.mem ((c.tc : Thread Cert.NormKernel.nD Cert.NormKernel.τ).loc Cert.NormKernel.main_arg5) = m ((c.tc : Thread Cert.NormKernel.nD Cert.NormKernel.τ).loc Cert.NormKernel.main_arg5))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5))
      ∧ r.2.sem = fun _ => 0)

def quiescent_NormKernelIdeal_pre_norm_finite [hNormKernelIdeal : Cert.NormKernelIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_norm_finite m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def quiescent_NormReferenceIdeal_pre_norm_finite [hNormReferenceIdeal : Cert.NormReferenceIdeal.Facts] [hPre_norm_finite : Cert.Pre_norm_finite.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_norm_finite m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_LnKernel [hLnKernel : Cert.LnKernel.Facts] : Prop :=
  ∀ (m : (ℓ : Loc Cert.LnKernel.nD Cert.LnKernel.τ Cert.LnKernel.sig) → Buf (Elt Bits) ℓ) (g : Dev Cert.LnKernel.nD → PrngReg), Pre_LnKernel m →
    θ_run (Cert.LnKernel.defs (F := Bits)) (onTc (τ := Cert.LnKernel.τ) (Cert.LnKernel.main (F := Bits))) ⟨m, fun _ => 0, g⟩ (fun r => (∀ c : Dev Cert.LnKernel.nD,
      r.2.mem ((c.tc : Thread Cert.LnKernel.nD Cert.LnKernel.τ).loc Cert.LnKernel.main_arg0) = m ((c.tc : Thread Cert.LnKernel.nD Cert.LnKernel.τ).loc Cert.LnKernel.main_arg0)
      ∧ r.2.mem ((c.tc : Thread Cert.LnKernel.nD Cert.LnKernel.τ).loc Cert.LnKernel.main_arg1) = m ((c.tc : Thread Cert.LnKernel.nD Cert.LnKernel.τ).loc Cert.LnKernel.main_arg1)
      ∧ r.2.mem ((c.tc : Thread Cert.LnKernel.nD Cert.LnKernel.τ).loc Cert.LnKernel.main_arg2) = m ((c.tc : Thread Cert.LnKernel.nD Cert.LnKernel.τ).loc Cert.LnKernel.main_arg2)
      ∧ r.2.mem ((c.tc : Thread Cert.LnKernel.nD Cert.LnKernel.τ).loc Cert.LnKernel.main_arg3) = m ((c.tc : Thread Cert.LnKernel.nD Cert.LnKernel.τ).loc Cert.LnKernel.main_arg3))
      ∧ r.2.sem = fun _ => 0)

def quiescent_LnKernelIdeal [hLnKernelIdeal : Cert.LnKernelIdeal.Facts] : Prop :=
  ∀ (m : (ℓ : Loc Cert.LnKernelIdeal.nD Cert.LnKernelIdeal.τ Cert.LnKernelIdeal.sig) → Buf (Elt Ideal) ℓ) (g : Dev Cert.LnKernelIdeal.nD → PrngReg), Pre_LnKernelIdeal m →
    θ_run (Cert.LnKernelIdeal.defs (F := Ideal)) (onTc (τ := Cert.LnKernelIdeal.τ) (Cert.LnKernelIdeal.main (F := Ideal))) ⟨m, fun _ => 0, g⟩ (fun r => (∀ c : Dev Cert.LnKernelIdeal.nD,
      r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
      ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
      ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
      ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3))
      ∧ r.2.sem = fun _ => 0)

def quiescent_LnKernelIdeal_pre_ln_finite [hLnKernelIdeal : Cert.LnKernelIdeal.Facts] [hPre_ln_finite : Cert.Pre_ln_finite.Facts] : Prop :=
  ∀ (m : (ℓ : Loc Cert.LnKernelIdeal.nD Cert.LnKernelIdeal.τ Cert.LnKernelIdeal.sig) → Buf (Elt Ideal) ℓ) (g : Dev Cert.LnKernelIdeal.nD → PrngReg), Pre_LnKernelIdeal_ln_finite m →
    θ_run (Cert.LnKernelIdeal.defs (F := Ideal)) (onTc (τ := Cert.LnKernelIdeal.τ) (Cert.LnKernelIdeal.main (F := Ideal))) ⟨m, fun _ => 0, g⟩ (fun r => (∀ c : Dev Cert.LnKernelIdeal.nD,
      r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
      ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
      ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
      ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3))
      ∧ r.2.sem = fun _ => 0)

def quiescent_LnReferenceIdeal [hLnReferenceIdeal : Cert.LnReferenceIdeal.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3))
      ∧ r.2.sem = fun _ => 0)

def quiescent_LnReferenceIdeal_pre_ln_finite [hLnReferenceIdeal : Cert.LnReferenceIdeal.Facts] [hPre_ln_finite : Cert.Pre_ln_finite.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal_ln_finite m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3))
      ∧ r.2.sem = fun _ => 0)

def quiescent_NaKernel [hNaKernel : Cert.NaKernel.Facts] : Prop :=
  ∀ (m : (ℓ : Loc Cert.NaKernel.nD Cert.NaKernel.τ Cert.NaKernel.sig) → Buf (Elt Bits) ℓ) (g : Dev Cert.NaKernel.nD → PrngReg), Pre_NaKernel m →
    θ_run (Cert.NaKernel.defs (F := Bits)) (onTc (τ := Cert.NaKernel.τ) (Cert.NaKernel.main (F := Bits))) ⟨m, fun _ => 0, g⟩ (fun r => (∀ c : Dev Cert.NaKernel.nD,
      r.2.mem ((c.tc : Thread Cert.NaKernel.nD Cert.NaKernel.τ).loc Cert.NaKernel.main_arg0) = m ((c.tc : Thread Cert.NaKernel.nD Cert.NaKernel.τ).loc Cert.NaKernel.main_arg0)
      ∧ r.2.mem ((c.tc : Thread Cert.NaKernel.nD Cert.NaKernel.τ).loc Cert.NaKernel.main_arg1) = m ((c.tc : Thread Cert.NaKernel.nD Cert.NaKernel.τ).loc Cert.NaKernel.main_arg1)
      ∧ r.2.mem ((c.tc : Thread Cert.NaKernel.nD Cert.NaKernel.τ).loc Cert.NaKernel.main_arg2) = m ((c.tc : Thread Cert.NaKernel.nD Cert.NaKernel.τ).loc Cert.NaKernel.main_arg2)
      ∧ r.2.mem ((c.tc : Thread Cert.NaKernel.nD Cert.NaKernel.τ).loc Cert.NaKernel.main_arg3) = m ((c.tc : Thread Cert.NaKernel.nD Cert.NaKernel.τ).loc Cert.NaKernel.main_arg3))
      ∧ r.2.sem = fun _ => 0)

def quiescent_NaKernelIdeal [hNaKernelIdeal : Cert.NaKernelIdeal.Facts] : Prop :=
  ∀ (m : (ℓ : Loc Cert.NaKernelIdeal.nD Cert.NaKernelIdeal.τ Cert.NaKernelIdeal.sig) → Buf (Elt Ideal) ℓ) (g : Dev Cert.NaKernelIdeal.nD → PrngReg), Pre_NaKernelIdeal m →
    θ_run (Cert.NaKernelIdeal.defs (F := Ideal)) (onTc (τ := Cert.NaKernelIdeal.τ) (Cert.NaKernelIdeal.main (F := Ideal))) ⟨m, fun _ => 0, g⟩ (fun r => (∀ c : Dev Cert.NaKernelIdeal.nD,
      r.2.mem ((c.tc : Thread Cert.NaKernelIdeal.nD Cert.NaKernelIdeal.τ).loc Cert.NaKernelIdeal.main_arg0) = m ((c.tc : Thread Cert.NaKernelIdeal.nD Cert.NaKernelIdeal.τ).loc Cert.NaKernelIdeal.main_arg0)
      ∧ r.2.mem ((c.tc : Thread Cert.NaKernelIdeal.nD Cert.NaKernelIdeal.τ).loc Cert.NaKernelIdeal.main_arg1) = m ((c.tc : Thread Cert.NaKernelIdeal.nD Cert.NaKernelIdeal.τ).loc Cert.NaKernelIdeal.main_arg1)
      ∧ r.2.mem ((c.tc : Thread Cert.NaKernelIdeal.nD Cert.NaKernelIdeal.τ).loc Cert.NaKernelIdeal.main_arg2) = m ((c.tc : Thread Cert.NaKernelIdeal.nD Cert.NaKernelIdeal.τ).loc Cert.NaKernelIdeal.main_arg2)
      ∧ r.2.mem ((c.tc : Thread Cert.NaKernelIdeal.nD Cert.NaKernelIdeal.τ).loc Cert.NaKernelIdeal.main_arg3) = m ((c.tc : Thread Cert.NaKernelIdeal.nD Cert.NaKernelIdeal.τ).loc Cert.NaKernelIdeal.main_arg3))
      ∧ r.2.sem = fun _ => 0)

def quiescent_NaKernelIdeal_pre_na_finite [hNaKernelIdeal : Cert.NaKernelIdeal.Facts] [hPre_na_finite : Cert.Pre_na_finite.Facts] : Prop :=
  ∀ (m : (ℓ : Loc Cert.NaKernelIdeal.nD Cert.NaKernelIdeal.τ Cert.NaKernelIdeal.sig) → Buf (Elt Ideal) ℓ) (g : Dev Cert.NaKernelIdeal.nD → PrngReg), Pre_NaKernelIdeal_na_finite m →
    θ_run (Cert.NaKernelIdeal.defs (F := Ideal)) (onTc (τ := Cert.NaKernelIdeal.τ) (Cert.NaKernelIdeal.main (F := Ideal))) ⟨m, fun _ => 0, g⟩ (fun r => (∀ c : Dev Cert.NaKernelIdeal.nD,
      r.2.mem ((c.tc : Thread Cert.NaKernelIdeal.nD Cert.NaKernelIdeal.τ).loc Cert.NaKernelIdeal.main_arg0) = m ((c.tc : Thread Cert.NaKernelIdeal.nD Cert.NaKernelIdeal.τ).loc Cert.NaKernelIdeal.main_arg0)
      ∧ r.2.mem ((c.tc : Thread Cert.NaKernelIdeal.nD Cert.NaKernelIdeal.τ).loc Cert.NaKernelIdeal.main_arg1) = m ((c.tc : Thread Cert.NaKernelIdeal.nD Cert.NaKernelIdeal.τ).loc Cert.NaKernelIdeal.main_arg1)
      ∧ r.2.mem ((c.tc : Thread Cert.NaKernelIdeal.nD Cert.NaKernelIdeal.τ).loc Cert.NaKernelIdeal.main_arg2) = m ((c.tc : Thread Cert.NaKernelIdeal.nD Cert.NaKernelIdeal.τ).loc Cert.NaKernelIdeal.main_arg2)
      ∧ r.2.mem ((c.tc : Thread Cert.NaKernelIdeal.nD Cert.NaKernelIdeal.τ).loc Cert.NaKernelIdeal.main_arg3) = m ((c.tc : Thread Cert.NaKernelIdeal.nD Cert.NaKernelIdeal.τ).loc Cert.NaKernelIdeal.main_arg3))
      ∧ r.2.sem = fun _ => 0)

def quiescent_NaReferenceIdeal [hNaReferenceIdeal : Cert.NaReferenceIdeal.Facts] : Prop :=
  ∀ (m : (ℓ : Loc Cert.NaReferenceIdeal.nD Cert.NaReferenceIdeal.τ Cert.NaReferenceIdeal.sig) → Buf (Elt Ideal) ℓ) (g : Dev Cert.NaReferenceIdeal.nD → PrngReg), Pre_NaReferenceIdeal m →
    θ_run (Cert.NaReferenceIdeal.defs (F := Ideal)) (onTc (τ := Cert.NaReferenceIdeal.τ) (Cert.NaReferenceIdeal.main (F := Ideal))) ⟨m, fun _ => 0, g⟩ (fun r => (∀ c : Dev Cert.NaReferenceIdeal.nD,
      r.2.mem ((c.tc : Thread Cert.NaReferenceIdeal.nD Cert.NaReferenceIdeal.τ).loc Cert.NaReferenceIdeal.main_arg0) = m ((c.tc : Thread Cert.NaReferenceIdeal.nD Cert.NaReferenceIdeal.τ).loc Cert.NaReferenceIdeal.main_arg0)
      ∧ r.2.mem ((c.tc : Thread Cert.NaReferenceIdeal.nD Cert.NaReferenceIdeal.τ).loc Cert.NaReferenceIdeal.main_arg1) = m ((c.tc : Thread Cert.NaReferenceIdeal.nD Cert.NaReferenceIdeal.τ).loc Cert.NaReferenceIdeal.main_arg1)
      ∧ r.2.mem ((c.tc : Thread Cert.NaReferenceIdeal.nD Cert.NaReferenceIdeal.τ).loc Cert.NaReferenceIdeal.main_arg2) = m ((c.tc : Thread Cert.NaReferenceIdeal.nD Cert.NaReferenceIdeal.τ).loc Cert.NaReferenceIdeal.main_arg2)
      ∧ r.2.mem ((c.tc : Thread Cert.NaReferenceIdeal.nD Cert.NaReferenceIdeal.τ).loc Cert.NaReferenceIdeal.main_arg3) = m ((c.tc : Thread Cert.NaReferenceIdeal.nD Cert.NaReferenceIdeal.τ).loc Cert.NaReferenceIdeal.main_arg3))
      ∧ r.2.sem = fun _ => 0)

def quiescent_NaReferenceIdeal_pre_na_finite [hNaReferenceIdeal : Cert.NaReferenceIdeal.Facts] [hPre_na_finite : Cert.Pre_na_finite.Facts] : Prop :=
  ∀ (m : (ℓ : Loc Cert.NaReferenceIdeal.nD Cert.NaReferenceIdeal.τ Cert.NaReferenceIdeal.sig) → Buf (Elt Ideal) ℓ) (g : Dev Cert.NaReferenceIdeal.nD → PrngReg), Pre_NaReferenceIdeal_na_finite m →
    θ_run (Cert.NaReferenceIdeal.defs (F := Ideal)) (onTc (τ := Cert.NaReferenceIdeal.τ) (Cert.NaReferenceIdeal.main (F := Ideal))) ⟨m, fun _ => 0, g⟩ (fun r => (∀ c : Dev Cert.NaReferenceIdeal.nD,
      r.2.mem ((c.tc : Thread Cert.NaReferenceIdeal.nD Cert.NaReferenceIdeal.τ).loc Cert.NaReferenceIdeal.main_arg0) = m ((c.tc : Thread Cert.NaReferenceIdeal.nD Cert.NaReferenceIdeal.τ).loc Cert.NaReferenceIdeal.main_arg0)
      ∧ r.2.mem ((c.tc : Thread Cert.NaReferenceIdeal.nD Cert.NaReferenceIdeal.τ).loc Cert.NaReferenceIdeal.main_arg1) = m ((c.tc : Thread Cert.NaReferenceIdeal.nD Cert.NaReferenceIdeal.τ).loc Cert.NaReferenceIdeal.main_arg1)
      ∧ r.2.mem ((c.tc : Thread Cert.NaReferenceIdeal.nD Cert.NaReferenceIdeal.τ).loc Cert.NaReferenceIdeal.main_arg2) = m ((c.tc : Thread Cert.NaReferenceIdeal.nD Cert.NaReferenceIdeal.τ).loc Cert.NaReferenceIdeal.main_arg2)
      ∧ r.2.mem ((c.tc : Thread Cert.NaReferenceIdeal.nD Cert.NaReferenceIdeal.τ).loc Cert.NaReferenceIdeal.main_arg3) = m ((c.tc : Thread Cert.NaReferenceIdeal.nD Cert.NaReferenceIdeal.τ).loc Cert.NaReferenceIdeal.main_arg3))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_SduKernel [hSduKernel : Cert.SduKernel.Facts] : Prop :=
  ∀ (m : (ℓ : Loc Cert.SduKernel.nD Cert.SduKernel.τ Cert.SduKernel.sig) → Buf (Elt Bits) ℓ) (g : Dev Cert.SduKernel.nD → PrngReg), Pre_SduKernel m →
    θ_run (Cert.SduKernel.defs (F := Bits)) (onTc (τ := Cert.SduKernel.τ) (Cert.SduKernel.main (F := Bits))) ⟨m, fun _ => 0, g⟩ (fun r => (∀ c : Dev Cert.SduKernel.nD,
      r.2.mem ((c.tc : Thread Cert.SduKernel.nD Cert.SduKernel.τ).loc Cert.SduKernel.main_arg0) = m ((c.tc : Thread Cert.SduKernel.nD Cert.SduKernel.τ).loc Cert.SduKernel.main_arg0)
      ∧ r.2.mem ((c.tc : Thread Cert.SduKernel.nD Cert.SduKernel.τ).loc Cert.SduKernel.main_arg1) = m ((c.tc : Thread Cert.SduKernel.nD Cert.SduKernel.τ).loc Cert.SduKernel.main_arg1)
      ∧ r.2.mem ((c.tc : Thread Cert.SduKernel.nD Cert.SduKernel.τ).loc Cert.SduKernel.main_arg2) = m ((c.tc : Thread Cert.SduKernel.nD Cert.SduKernel.τ).loc Cert.SduKernel.main_arg2)
      ∧ r.2.mem ((c.tc : Thread Cert.SduKernel.nD Cert.SduKernel.τ).loc Cert.SduKernel.main_arg3) = m ((c.tc : Thread Cert.SduKernel.nD Cert.SduKernel.τ).loc Cert.SduKernel.main_arg3))
      ∧ r.2.sem = fun _ => 0)

def quiescent_SduKernelIdeal [hSduKernelIdeal : Cert.SduKernelIdeal.Facts] : Prop :=
  ∀ (m : (ℓ : Loc Cert.SduKernelIdeal.nD Cert.SduKernelIdeal.τ Cert.SduKernelIdeal.sig) → Buf (Elt Ideal) ℓ) (g : Dev Cert.SduKernelIdeal.nD → PrngReg), Pre_SduKernelIdeal m →
    θ_run (Cert.SduKernelIdeal.defs (F := Ideal)) (onTc (τ := Cert.SduKernelIdeal.τ) (Cert.SduKernelIdeal.main (F := Ideal))) ⟨m, fun _ => 0, g⟩ (fun r => (∀ c : Dev Cert.SduKernelIdeal.nD,
      r.2.mem ((c.tc : Thread Cert.SduKernelIdeal.nD Cert.SduKernelIdeal.τ).loc Cert.SduKernelIdeal.main_arg0) = m ((c.tc : Thread Cert.SduKernelIdeal.nD Cert.SduKernelIdeal.τ).loc Cert.SduKernelIdeal.main_arg0)
      ∧ r.2.mem ((c.tc : Thread Cert.SduKernelIdeal.nD Cert.SduKernelIdeal.τ).loc Cert.SduKernelIdeal.main_arg1) = m ((c.tc : Thread Cert.SduKernelIdeal.nD Cert.SduKernelIdeal.τ).loc Cert.SduKernelIdeal.main_arg1)
      ∧ r.2.mem ((c.tc : Thread Cert.SduKernelIdeal.nD Cert.SduKernelIdeal.τ).loc Cert.SduKernelIdeal.main_arg2) = m ((c.tc : Thread Cert.SduKernelIdeal.nD Cert.SduKernelIdeal.τ).loc Cert.SduKernelIdeal.main_arg2)
      ∧ r.2.mem ((c.tc : Thread Cert.SduKernelIdeal.nD Cert.SduKernelIdeal.τ).loc Cert.SduKernelIdeal.main_arg3) = m ((c.tc : Thread Cert.SduKernelIdeal.nD Cert.SduKernelIdeal.τ).loc Cert.SduKernelIdeal.main_arg3))
      ∧ r.2.sem = fun _ => 0)

def quiescent_SduReferenceIdeal [hSduReferenceIdeal : Cert.SduReferenceIdeal.Facts] : Prop :=
  ∀ (m : (ℓ : Loc Cert.SduReferenceIdeal.nD Cert.SduReferenceIdeal.τ Cert.SduReferenceIdeal.sig) → Buf (Elt Ideal) ℓ) (g : Dev Cert.SduReferenceIdeal.nD → PrngReg), Pre_SduReferenceIdeal m →
    θ_run (Cert.SduReferenceIdeal.defs (F := Ideal)) (onTc (τ := Cert.SduReferenceIdeal.τ) (Cert.SduReferenceIdeal.main (F := Ideal))) ⟨m, fun _ => 0, g⟩ (fun r => (∀ c : Dev Cert.SduReferenceIdeal.nD,
      r.2.mem ((c.tc : Thread Cert.SduReferenceIdeal.nD Cert.SduReferenceIdeal.τ).loc Cert.SduReferenceIdeal.main_arg0) = m ((c.tc : Thread Cert.SduReferenceIdeal.nD Cert.SduReferenceIdeal.τ).loc Cert.SduReferenceIdeal.main_arg0)
      ∧ r.2.mem ((c.tc : Thread Cert.SduReferenceIdeal.nD Cert.SduReferenceIdeal.τ).loc Cert.SduReferenceIdeal.main_arg1) = m ((c.tc : Thread Cert.SduReferenceIdeal.nD Cert.SduReferenceIdeal.τ).loc Cert.SduReferenceIdeal.main_arg1)
      ∧ r.2.mem ((c.tc : Thread Cert.SduReferenceIdeal.nD Cert.SduReferenceIdeal.τ).loc Cert.SduReferenceIdeal.main_arg2) = m ((c.tc : Thread Cert.SduReferenceIdeal.nD Cert.SduReferenceIdeal.τ).loc Cert.SduReferenceIdeal.main_arg2)
      ∧ r.2.mem ((c.tc : Thread Cert.SduReferenceIdeal.nD Cert.SduReferenceIdeal.τ).loc Cert.SduReferenceIdeal.main_arg3) = m ((c.tc : Thread Cert.SduReferenceIdeal.nD Cert.SduReferenceIdeal.τ).loc Cert.SduReferenceIdeal.main_arg3))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2)
      ∧ r.2.mem ((c.tc : Thread Cert.ModKernel.nD Cert.ModKernel.τ).loc Cert.ModKernel.main_arg3) = m ((c.tc : Thread Cert.ModKernel.nD Cert.ModKernel.τ).loc Cert.ModKernel.main_arg3))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
      ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def quiescent_GresKernel [hGresKernel : Cert.GresKernel.Facts] : Prop :=
  ∀ (m : (ℓ : Loc Cert.GresKernel.nD Cert.GresKernel.τ Cert.GresKernel.sig) → Buf (Elt Bits) ℓ) (g : Dev Cert.GresKernel.nD → PrngReg), Pre_GresKernel m →
    θ_run (Cert.GresKernel.defs (F := Bits)) (onTc (τ := Cert.GresKernel.τ) (Cert.GresKernel.main (F := Bits))) ⟨m, fun _ => 0, g⟩ (fun r => (∀ c : Dev Cert.GresKernel.nD,
      r.2.mem ((c.tc : Thread Cert.GresKernel.nD Cert.GresKernel.τ).loc Cert.GresKernel.main_arg0) = m ((c.tc : Thread Cert.GresKernel.nD Cert.GresKernel.τ).loc Cert.GresKernel.main_arg0)
      ∧ r.2.mem ((c.tc : Thread Cert.GresKernel.nD Cert.GresKernel.τ).loc Cert.GresKernel.main_arg1) = m ((c.tc : Thread Cert.GresKernel.nD Cert.GresKernel.τ).loc Cert.GresKernel.main_arg1)
      ∧ r.2.mem ((c.tc : Thread Cert.GresKernel.nD Cert.GresKernel.τ).loc Cert.GresKernel.main_arg2) = m ((c.tc : Thread Cert.GresKernel.nD Cert.GresKernel.τ).loc Cert.GresKernel.main_arg2))
      ∧ r.2.sem = fun _ => 0)

def quiescent_GresKernelIdeal [hGresKernelIdeal : Cert.GresKernelIdeal.Facts] : Prop :=
  ∀ (m : (ℓ : Loc Cert.GresKernelIdeal.nD Cert.GresKernelIdeal.τ Cert.GresKernelIdeal.sig) → Buf (Elt Ideal) ℓ) (g : Dev Cert.GresKernelIdeal.nD → PrngReg), Pre_GresKernelIdeal m →
    θ_run (Cert.GresKernelIdeal.defs (F := Ideal)) (onTc (τ := Cert.GresKernelIdeal.τ) (Cert.GresKernelIdeal.main (F := Ideal))) ⟨m, fun _ => 0, g⟩ (fun r => (∀ c : Dev Cert.GresKernelIdeal.nD,
      r.2.mem ((c.tc : Thread Cert.GresKernelIdeal.nD Cert.GresKernelIdeal.τ).loc Cert.GresKernelIdeal.main_arg0) = m ((c.tc : Thread Cert.GresKernelIdeal.nD Cert.GresKernelIdeal.τ).loc Cert.GresKernelIdeal.main_arg0)
      ∧ r.2.mem ((c.tc : Thread Cert.GresKernelIdeal.nD Cert.GresKernelIdeal.τ).loc Cert.GresKernelIdeal.main_arg1) = m ((c.tc : Thread Cert.GresKernelIdeal.nD Cert.GresKernelIdeal.τ).loc Cert.GresKernelIdeal.main_arg1)
      ∧ r.2.mem ((c.tc : Thread Cert.GresKernelIdeal.nD Cert.GresKernelIdeal.τ).loc Cert.GresKernelIdeal.main_arg2) = m ((c.tc : Thread Cert.GresKernelIdeal.nD Cert.GresKernelIdeal.τ).loc Cert.GresKernelIdeal.main_arg2))
      ∧ r.2.sem = fun _ => 0)

def quiescent_GresReferenceIdeal [hGresReferenceIdeal : Cert.GresReferenceIdeal.Facts] : Prop :=
  ∀ (m : (ℓ : Loc Cert.GresReferenceIdeal.nD Cert.GresReferenceIdeal.τ Cert.GresReferenceIdeal.sig) → Buf (Elt Ideal) ℓ) (g : Dev Cert.GresReferenceIdeal.nD → PrngReg), Pre_GresReferenceIdeal m →
    θ_run (Cert.GresReferenceIdeal.defs (F := Ideal)) (onTc (τ := Cert.GresReferenceIdeal.τ) (Cert.GresReferenceIdeal.main (F := Ideal))) ⟨m, fun _ => 0, g⟩ (fun r => (∀ c : Dev Cert.GresReferenceIdeal.nD,
      r.2.mem ((c.tc : Thread Cert.GresReferenceIdeal.nD Cert.GresReferenceIdeal.τ).loc Cert.GresReferenceIdeal.main_arg0) = m ((c.tc : Thread Cert.GresReferenceIdeal.nD Cert.GresReferenceIdeal.τ).loc Cert.GresReferenceIdeal.main_arg0)
      ∧ r.2.mem ((c.tc : Thread Cert.GresReferenceIdeal.nD Cert.GresReferenceIdeal.τ).loc Cert.GresReferenceIdeal.main_arg1) = m ((c.tc : Thread Cert.GresReferenceIdeal.nD Cert.GresReferenceIdeal.τ).loc Cert.GresReferenceIdeal.main_arg1)
      ∧ r.2.mem ((c.tc : Thread Cert.GresReferenceIdeal.nD Cert.GresReferenceIdeal.τ).loc Cert.GresReferenceIdeal.main_arg2) = m ((c.tc : Thread Cert.GresReferenceIdeal.nD Cert.GresReferenceIdeal.τ).loc Cert.GresReferenceIdeal.main_arg2))
      ∧ r.2.sem = fun _ => 0)

def quiescent_RnKernel [hRnKernel : Cert.RnKernel.Facts] : Prop :=
  ∀ (m : (ℓ : Loc Cert.RnKernel.nD Cert.RnKernel.τ Cert.RnKernel.sig) → Buf (Elt Bits) ℓ) (g : Dev Cert.RnKernel.nD → PrngReg), Pre_RnKernel m →
    θ_run (Cert.RnKernel.defs (F := Bits)) (onTc (τ := Cert.RnKernel.τ) (Cert.RnKernel.main (F := Bits))) ⟨m, fun _ => 0, g⟩ (fun r => (∀ c : Dev Cert.RnKernel.nD,
      r.2.mem ((c.tc : Thread Cert.RnKernel.nD Cert.RnKernel.τ).loc Cert.RnKernel.main_arg0) = m ((c.tc : Thread Cert.RnKernel.nD Cert.RnKernel.τ).loc Cert.RnKernel.main_arg0)
      ∧ r.2.mem ((c.tc : Thread Cert.RnKernel.nD Cert.RnKernel.τ).loc Cert.RnKernel.main_arg1) = m ((c.tc : Thread Cert.RnKernel.nD Cert.RnKernel.τ).loc Cert.RnKernel.main_arg1)
      ∧ r.2.mem ((c.tc : Thread Cert.RnKernel.nD Cert.RnKernel.τ).loc Cert.RnKernel.main_arg2) = m ((c.tc : Thread Cert.RnKernel.nD Cert.RnKernel.τ).loc Cert.RnKernel.main_arg2)
      ∧ r.2.mem ((c.tc : Thread Cert.RnKernel.nD Cert.RnKernel.τ).loc Cert.RnKernel.main_arg3) = m ((c.tc : Thread Cert.RnKernel.nD Cert.RnKernel.τ).loc Cert.RnKernel.main_arg3)
      ∧ r.2.mem ((c.tc : Thread Cert.RnKernel.nD Cert.RnKernel.τ).loc Cert.RnKernel.main_arg4) = m ((c.tc : Thread Cert.RnKernel.nD Cert.RnKernel.τ).loc Cert.RnKernel.main_arg4)
      ∧ r.2.mem ((c.tc : Thread Cert.RnKernel.nD Cert.RnKernel.τ).loc Cert.RnKernel.main_arg5) = m ((c.tc : Thread Cert.RnKernel.nD Cert.RnKernel.τ).loc Cert.RnKernel.main_arg5))
      ∧ r.2.sem = fun _ => 0)

def quiescent_RnKernelIdeal [hRnKernelIdeal : Cert.RnKernelIdeal.Facts] : Prop :=
  ∀ (m : (ℓ : Loc Cert.RnKernelIdeal.nD Cert.RnKernelIdeal.τ Cert.RnKernelIdeal.sig) → Buf (Elt Ideal) ℓ) (g : Dev Cert.RnKernelIdeal.nD → PrngReg), Pre_RnKernelIdeal m →
    θ_run (Cert.RnKernelIdeal.defs (F := Ideal)) (onTc (τ := Cert.RnKernelIdeal.τ) (Cert.RnKernelIdeal.main (F := Ideal))) ⟨m, fun _ => 0, g⟩ (fun r => (∀ c : Dev Cert.RnKernelIdeal.nD,
      r.2.mem ((c.tc : Thread Cert.RnKernelIdeal.nD Cert.RnKernelIdeal.τ).loc Cert.RnKernelIdeal.main_arg0) = m ((c.tc : Thread Cert.RnKernelIdeal.nD Cert.RnKernelIdeal.τ).loc Cert.RnKernelIdeal.main_arg0)
      ∧ r.2.mem ((c.tc : Thread Cert.RnKernelIdeal.nD Cert.RnKernelIdeal.τ).loc Cert.RnKernelIdeal.main_arg1) = m ((c.tc : Thread Cert.RnKernelIdeal.nD Cert.RnKernelIdeal.τ).loc Cert.RnKernelIdeal.main_arg1)
      ∧ r.2.mem ((c.tc : Thread Cert.RnKernelIdeal.nD Cert.RnKernelIdeal.τ).loc Cert.RnKernelIdeal.main_arg2) = m ((c.tc : Thread Cert.RnKernelIdeal.nD Cert.RnKernelIdeal.τ).loc Cert.RnKernelIdeal.main_arg2)
      ∧ r.2.mem ((c.tc : Thread Cert.RnKernelIdeal.nD Cert.RnKernelIdeal.τ).loc Cert.RnKernelIdeal.main_arg3) = m ((c.tc : Thread Cert.RnKernelIdeal.nD Cert.RnKernelIdeal.τ).loc Cert.RnKernelIdeal.main_arg3)
      ∧ r.2.mem ((c.tc : Thread Cert.RnKernelIdeal.nD Cert.RnKernelIdeal.τ).loc Cert.RnKernelIdeal.main_arg4) = m ((c.tc : Thread Cert.RnKernelIdeal.nD Cert.RnKernelIdeal.τ).loc Cert.RnKernelIdeal.main_arg4)
      ∧ r.2.mem ((c.tc : Thread Cert.RnKernelIdeal.nD Cert.RnKernelIdeal.τ).loc Cert.RnKernelIdeal.main_arg5) = m ((c.tc : Thread Cert.RnKernelIdeal.nD Cert.RnKernelIdeal.τ).loc Cert.RnKernelIdeal.main_arg5))
      ∧ r.2.sem = fun _ => 0)

def quiescent_RnReferenceIdeal [hRnReferenceIdeal : Cert.RnReferenceIdeal.Facts] : Prop :=
  ∀ (m : (ℓ : Loc Cert.RnReferenceIdeal.nD Cert.RnReferenceIdeal.τ Cert.RnReferenceIdeal.sig) → Buf (Elt Ideal) ℓ) (g : Dev Cert.RnReferenceIdeal.nD → PrngReg), Pre_RnReferenceIdeal m →
    θ_run (Cert.RnReferenceIdeal.defs (F := Ideal)) (onTc (τ := Cert.RnReferenceIdeal.τ) (Cert.RnReferenceIdeal.main (F := Ideal))) ⟨m, fun _ => 0, g⟩ (fun r => (∀ c : Dev Cert.RnReferenceIdeal.nD,
      r.2.mem ((c.tc : Thread Cert.RnReferenceIdeal.nD Cert.RnReferenceIdeal.τ).loc Cert.RnReferenceIdeal.main_arg0) = m ((c.tc : Thread Cert.RnReferenceIdeal.nD Cert.RnReferenceIdeal.τ).loc Cert.RnReferenceIdeal.main_arg0)
      ∧ r.2.mem ((c.tc : Thread Cert.RnReferenceIdeal.nD Cert.RnReferenceIdeal.τ).loc Cert.RnReferenceIdeal.main_arg1) = m ((c.tc : Thread Cert.RnReferenceIdeal.nD Cert.RnReferenceIdeal.τ).loc Cert.RnReferenceIdeal.main_arg1)
      ∧ r.2.mem ((c.tc : Thread Cert.RnReferenceIdeal.nD Cert.RnReferenceIdeal.τ).loc Cert.RnReferenceIdeal.main_arg2) = m ((c.tc : Thread Cert.RnReferenceIdeal.nD Cert.RnReferenceIdeal.τ).loc Cert.RnReferenceIdeal.main_arg2)
      ∧ r.2.mem ((c.tc : Thread Cert.RnReferenceIdeal.nD Cert.RnReferenceIdeal.τ).loc Cert.RnReferenceIdeal.main_arg3) = m ((c.tc : Thread Cert.RnReferenceIdeal.nD Cert.RnReferenceIdeal.τ).loc Cert.RnReferenceIdeal.main_arg3)
      ∧ r.2.mem ((c.tc : Thread Cert.RnReferenceIdeal.nD Cert.RnReferenceIdeal.τ).loc Cert.RnReferenceIdeal.main_arg4) = m ((c.tc : Thread Cert.RnReferenceIdeal.nD Cert.RnReferenceIdeal.τ).loc Cert.RnReferenceIdeal.main_arg4)
      ∧ r.2.mem ((c.tc : Thread Cert.RnReferenceIdeal.nD Cert.RnReferenceIdeal.τ).loc Cert.RnReferenceIdeal.main_arg5) = m ((c.tc : Thread Cert.RnReferenceIdeal.nD Cert.RnReferenceIdeal.τ).loc Cert.RnReferenceIdeal.main_arg5))
      ∧ r.2.sem = fun _ => 0)

def quiescent_MidKernel [hMidKernel : Cert.MidKernel.Facts] : Prop :=
  ∀ (m : (ℓ : Loc Cert.MidKernel.nD Cert.MidKernel.τ Cert.MidKernel.sig) → Buf (Elt Bits) ℓ) (g : Dev Cert.MidKernel.nD → PrngReg), Pre_MidKernel m →
    θ_run (Cert.MidKernel.defs (F := Bits)) (onTc (τ := Cert.MidKernel.τ) (Cert.MidKernel.main (F := Bits))) ⟨m, fun _ => 0, g⟩ (fun r => (∀ c : Dev Cert.MidKernel.nD,
      r.2.mem ((c.tc : Thread Cert.MidKernel.nD Cert.MidKernel.τ).loc Cert.MidKernel.main_arg0) = m ((c.tc : Thread Cert.MidKernel.nD Cert.MidKernel.τ).loc Cert.MidKernel.main_arg0)
      ∧ r.2.mem ((c.tc : Thread Cert.MidKernel.nD Cert.MidKernel.τ).loc Cert.MidKernel.main_arg1) = m ((c.tc : Thread Cert.MidKernel.nD Cert.MidKernel.τ).loc Cert.MidKernel.main_arg1)
      ∧ r.2.mem ((c.tc : Thread Cert.MidKernel.nD Cert.MidKernel.τ).loc Cert.MidKernel.main_arg2) = m ((c.tc : Thread Cert.MidKernel.nD Cert.MidKernel.τ).loc Cert.MidKernel.main_arg2))
      ∧ r.2.sem = fun _ => 0)

def quiescent_MidKernelIdeal [hMidKernelIdeal : Cert.MidKernelIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2))
      ∧ r.2.sem = fun _ => 0)

def quiescent_GlufKernel [hGlufKernel : Cert.GlufKernel.Facts] : Prop :=
  ∀ (m : (ℓ : Loc Cert.GlufKernel.nD Cert.GlufKernel.τ Cert.GlufKernel.sig) → Buf (Elt Bits) ℓ) (g : Dev Cert.GlufKernel.nD → PrngReg), Pre_GlufKernel m →
    θ_run (Cert.GlufKernel.defs (F := Bits)) (onTc (τ := Cert.GlufKernel.τ) (Cert.GlufKernel.main (F := Bits))) ⟨m, fun _ => 0, g⟩ (fun r => (∀ c : Dev Cert.GlufKernel.nD,
      r.2.mem ((c.tc : Thread Cert.GlufKernel.nD Cert.GlufKernel.τ).loc Cert.GlufKernel.main_arg0) = m ((c.tc : Thread Cert.GlufKernel.nD Cert.GlufKernel.τ).loc Cert.GlufKernel.main_arg0)
      ∧ r.2.mem ((c.tc : Thread Cert.GlufKernel.nD Cert.GlufKernel.τ).loc Cert.GlufKernel.main_arg1) = m ((c.tc : Thread Cert.GlufKernel.nD Cert.GlufKernel.τ).loc Cert.GlufKernel.main_arg1)
      ∧ r.2.mem ((c.tc : Thread Cert.GlufKernel.nD Cert.GlufKernel.τ).loc Cert.GlufKernel.main_arg2) = m ((c.tc : Thread Cert.GlufKernel.nD Cert.GlufKernel.τ).loc Cert.GlufKernel.main_arg2)
      ∧ r.2.mem ((c.tc : Thread Cert.GlufKernel.nD Cert.GlufKernel.τ).loc Cert.GlufKernel.main_arg3) = m ((c.tc : Thread Cert.GlufKernel.nD Cert.GlufKernel.τ).loc Cert.GlufKernel.main_arg3)
      ∧ r.2.mem ((c.tc : Thread Cert.GlufKernel.nD Cert.GlufKernel.τ).loc Cert.GlufKernel.main_arg4) = m ((c.tc : Thread Cert.GlufKernel.nD Cert.GlufKernel.τ).loc Cert.GlufKernel.main_arg4))
      ∧ r.2.sem = fun _ => 0)

def quiescent_GlufKernelIdeal [hGlufKernelIdeal : Cert.GlufKernelIdeal.Facts] : Prop :=
  ∀ (m : (ℓ : Loc Cert.GlufKernelIdeal.nD Cert.GlufKernelIdeal.τ Cert.GlufKernelIdeal.sig) → Buf (Elt Ideal) ℓ) (g : Dev Cert.GlufKernelIdeal.nD → PrngReg), Pre_GlufKernelIdeal m →
    θ_run (Cert.GlufKernelIdeal.defs (F := Ideal)) (onTc (τ := Cert.GlufKernelIdeal.τ) (Cert.GlufKernelIdeal.main (F := Ideal))) ⟨m, fun _ => 0, g⟩ (fun r => (∀ c : Dev Cert.GlufKernelIdeal.nD,
      r.2.mem ((c.tc : Thread Cert.GlufKernelIdeal.nD Cert.GlufKernelIdeal.τ).loc Cert.GlufKernelIdeal.main_arg0) = m ((c.tc : Thread Cert.GlufKernelIdeal.nD Cert.GlufKernelIdeal.τ).loc Cert.GlufKernelIdeal.main_arg0)
      ∧ r.2.mem ((c.tc : Thread Cert.GlufKernelIdeal.nD Cert.GlufKernelIdeal.τ).loc Cert.GlufKernelIdeal.main_arg1) = m ((c.tc : Thread Cert.GlufKernelIdeal.nD Cert.GlufKernelIdeal.τ).loc Cert.GlufKernelIdeal.main_arg1)
      ∧ r.2.mem ((c.tc : Thread Cert.GlufKernelIdeal.nD Cert.GlufKernelIdeal.τ).loc Cert.GlufKernelIdeal.main_arg2) = m ((c.tc : Thread Cert.GlufKernelIdeal.nD Cert.GlufKernelIdeal.τ).loc Cert.GlufKernelIdeal.main_arg2)
      ∧ r.2.mem ((c.tc : Thread Cert.GlufKernelIdeal.nD Cert.GlufKernelIdeal.τ).loc Cert.GlufKernelIdeal.main_arg3) = m ((c.tc : Thread Cert.GlufKernelIdeal.nD Cert.GlufKernelIdeal.τ).loc Cert.GlufKernelIdeal.main_arg3)
      ∧ r.2.mem ((c.tc : Thread Cert.GlufKernelIdeal.nD Cert.GlufKernelIdeal.τ).loc Cert.GlufKernelIdeal.main_arg4) = m ((c.tc : Thread Cert.GlufKernelIdeal.nD Cert.GlufKernelIdeal.τ).loc Cert.GlufKernelIdeal.main_arg4))
      ∧ r.2.sem = fun _ => 0)

def quiescent_GlufReferenceIdeal [hGlufReferenceIdeal : Cert.GlufReferenceIdeal.Facts] : Prop :=
  ∀ (m : (ℓ : Loc Cert.GlufReferenceIdeal.nD Cert.GlufReferenceIdeal.τ Cert.GlufReferenceIdeal.sig) → Buf (Elt Ideal) ℓ) (g : Dev Cert.GlufReferenceIdeal.nD → PrngReg), Pre_GlufReferenceIdeal m →
    θ_run (Cert.GlufReferenceIdeal.defs (F := Ideal)) (onTc (τ := Cert.GlufReferenceIdeal.τ) (Cert.GlufReferenceIdeal.main (F := Ideal))) ⟨m, fun _ => 0, g⟩ (fun r => (∀ c : Dev Cert.GlufReferenceIdeal.nD,
      r.2.mem ((c.tc : Thread Cert.GlufReferenceIdeal.nD Cert.GlufReferenceIdeal.τ).loc Cert.GlufReferenceIdeal.main_arg0) = m ((c.tc : Thread Cert.GlufReferenceIdeal.nD Cert.GlufReferenceIdeal.τ).loc Cert.GlufReferenceIdeal.main_arg0)
      ∧ r.2.mem ((c.tc : Thread Cert.GlufReferenceIdeal.nD Cert.GlufReferenceIdeal.τ).loc Cert.GlufReferenceIdeal.main_arg1) = m ((c.tc : Thread Cert.GlufReferenceIdeal.nD Cert.GlufReferenceIdeal.τ).loc Cert.GlufReferenceIdeal.main_arg1)
      ∧ r.2.mem ((c.tc : Thread Cert.GlufReferenceIdeal.nD Cert.GlufReferenceIdeal.τ).loc Cert.GlufReferenceIdeal.main_arg2) = m ((c.tc : Thread Cert.GlufReferenceIdeal.nD Cert.GlufReferenceIdeal.τ).loc Cert.GlufReferenceIdeal.main_arg2)
      ∧ r.2.mem ((c.tc : Thread Cert.GlufReferenceIdeal.nD Cert.GlufReferenceIdeal.τ).loc Cert.GlufReferenceIdeal.main_arg3) = m ((c.tc : Thread Cert.GlufReferenceIdeal.nD Cert.GlufReferenceIdeal.τ).loc Cert.GlufReferenceIdeal.main_arg3)
      ∧ r.2.mem ((c.tc : Thread Cert.GlufReferenceIdeal.nD Cert.GlufReferenceIdeal.τ).loc Cert.GlufReferenceIdeal.main_arg4) = m ((c.tc : Thread Cert.GlufReferenceIdeal.nD Cert.GlufReferenceIdeal.τ).loc Cert.GlufReferenceIdeal.main_arg4))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2)
      ∧ r.2.mem ((c.tc : Thread Cert.GluKernel.nD Cert.GluKernel.τ).loc Cert.GluKernel.main_arg3) = m ((c.tc : Thread Cert.GluKernel.nD Cert.GluKernel.τ).loc Cert.GluKernel.main_arg3)
      ∧ r.2.mem ((c.tc : Thread Cert.GluKernel.nD Cert.GluKernel.τ).loc Cert.GluKernel.main_arg4) = m ((c.tc : Thread Cert.GluKernel.nD Cert.GluKernel.τ).loc Cert.GluKernel.main_arg4)
      ∧ r.2.mem ((c.tc : Thread Cert.GluKernel.nD Cert.GluKernel.τ).loc Cert.GluKernel.main_arg5) = m ((c.tc : Thread Cert.GluKernel.nD Cert.GluKernel.τ).loc Cert.GluKernel.main_arg5))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
      ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4)
      ∧ r.2.mem ((c.tc : Thread Cert.GluKernelIdeal.nD Cert.GluKernelIdeal.τ).loc Cert.GluKernelIdeal.main_arg5) = m ((c.tc : Thread Cert.GluKernelIdeal.nD Cert.GluKernelIdeal.τ).loc Cert.GluKernelIdeal.main_arg5))
      ∧ r.2.sem = fun _ => 0)

def quiescent_GluKernelIdeal_pre_glu_finite [hGluKernelIdeal : Cert.GluKernelIdeal.Facts] [hPre_glu_finite : Cert.Pre_glu_finite.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal_glu_finite m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
      ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4)
      ∧ r.2.mem ((c.tc : Thread Cert.GluKernelIdeal.nD Cert.GluKernelIdeal.τ).loc Cert.GluKernelIdeal.main_arg5) = m ((c.tc : Thread Cert.GluKernelIdeal.nD Cert.GluKernelIdeal.τ).loc Cert.GluKernelIdeal.main_arg5))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4)
      ∧ r.2.mem ((c.tc : Thread Cert.GluReferenceIdeal.nD Cert.GluReferenceIdeal.τ).loc Cert.GluReferenceIdeal.main_arg5) = m ((c.tc : Thread Cert.GluReferenceIdeal.nD Cert.GluReferenceIdeal.τ).loc Cert.GluReferenceIdeal.main_arg5))
      ∧ r.2.sem = fun _ => 0)

def quiescent_GluReferenceIdeal_pre_glu_finite [hGluReferenceIdeal : Cert.GluReferenceIdeal.Facts] [hPre_glu_finite : Cert.Pre_glu_finite.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal_glu_finite m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4)
      ∧ r.2.mem ((c.tc : Thread Cert.GluReferenceIdeal.nD Cert.GluReferenceIdeal.τ).loc Cert.GluReferenceIdeal.main_arg5) = m ((c.tc : Thread Cert.GluReferenceIdeal.nD Cert.GluReferenceIdeal.τ).loc Cert.GluReferenceIdeal.main_arg5))
      ∧ r.2.sem = fun _ => 0)

def quiescent_DnKernel [hDnKernel : Cert.DnKernel.Facts] : Prop :=
  ∀ (m : (ℓ : Loc Cert.DnKernel.nD Cert.DnKernel.τ Cert.DnKernel.sig) → Buf (Elt Bits) ℓ) (g : Dev Cert.DnKernel.nD → PrngReg), Pre_DnKernel m →
    θ_run (Cert.DnKernel.defs (F := Bits)) (onTc (τ := Cert.DnKernel.τ) (Cert.DnKernel.main (F := Bits))) ⟨m, fun _ => 0, g⟩ (fun r => (∀ c : Dev Cert.DnKernel.nD,
      r.2.mem ((c.tc : Thread Cert.DnKernel.nD Cert.DnKernel.τ).loc Cert.DnKernel.main_arg0) = m ((c.tc : Thread Cert.DnKernel.nD Cert.DnKernel.τ).loc Cert.DnKernel.main_arg0)
      ∧ r.2.mem ((c.tc : Thread Cert.DnKernel.nD Cert.DnKernel.τ).loc Cert.DnKernel.main_arg1) = m ((c.tc : Thread Cert.DnKernel.nD Cert.DnKernel.τ).loc Cert.DnKernel.main_arg1))
      ∧ r.2.sem = fun _ => 0)

def quiescent_DnKernelIdeal [hDnKernelIdeal : Cert.DnKernelIdeal.Facts] : Prop :=
  ∀ (m : (ℓ : Loc Cert.DnKernelIdeal.nD Cert.DnKernelIdeal.τ Cert.DnKernelIdeal.sig) → Buf (Elt Ideal) ℓ) (g : Dev Cert.DnKernelIdeal.nD → PrngReg), Pre_DnKernelIdeal m →
    θ_run (Cert.DnKernelIdeal.defs (F := Ideal)) (onTc (τ := Cert.DnKernelIdeal.τ) (Cert.DnKernelIdeal.main (F := Ideal))) ⟨m, fun _ => 0, g⟩ (fun r => (∀ c : Dev Cert.DnKernelIdeal.nD,
      r.2.mem ((c.tc : Thread Cert.DnKernelIdeal.nD Cert.DnKernelIdeal.τ).loc Cert.DnKernelIdeal.main_arg0) = m ((c.tc : Thread Cert.DnKernelIdeal.nD Cert.DnKernelIdeal.τ).loc Cert.DnKernelIdeal.main_arg0)
      ∧ r.2.mem ((c.tc : Thread Cert.DnKernelIdeal.nD Cert.DnKernelIdeal.τ).loc Cert.DnKernelIdeal.main_arg1) = m ((c.tc : Thread Cert.DnKernelIdeal.nD Cert.DnKernelIdeal.τ).loc Cert.DnKernelIdeal.main_arg1))
      ∧ r.2.sem = fun _ => 0)

def quiescent_DnReferenceIdeal [hDnReferenceIdeal : Cert.DnReferenceIdeal.Facts] : Prop :=
  ∀ (m : (ℓ : Loc Cert.DnReferenceIdeal.nD Cert.DnReferenceIdeal.τ Cert.DnReferenceIdeal.sig) → Buf (Elt Ideal) ℓ) (g : Dev Cert.DnReferenceIdeal.nD → PrngReg), Pre_DnReferenceIdeal m →
    θ_run (Cert.DnReferenceIdeal.defs (F := Ideal)) (onTc (τ := Cert.DnReferenceIdeal.τ) (Cert.DnReferenceIdeal.main (F := Ideal))) ⟨m, fun _ => 0, g⟩ (fun r => (∀ c : Dev Cert.DnReferenceIdeal.nD,
      r.2.mem ((c.tc : Thread Cert.DnReferenceIdeal.nD Cert.DnReferenceIdeal.τ).loc Cert.DnReferenceIdeal.main_arg0) = m ((c.tc : Thread Cert.DnReferenceIdeal.nD Cert.DnReferenceIdeal.τ).loc Cert.DnReferenceIdeal.main_arg0)
      ∧ r.2.mem ((c.tc : Thread Cert.DnReferenceIdeal.nD Cert.DnReferenceIdeal.τ).loc Cert.DnReferenceIdeal.main_arg1) = m ((c.tc : Thread Cert.DnReferenceIdeal.nD Cert.DnReferenceIdeal.τ).loc Cert.DnReferenceIdeal.main_arg1))
      ∧ r.2.sem = fun _ => 0)

def quiescent_DnxKernel [hDnxKernel : Cert.DnxKernel.Facts] : Prop :=
  ∀ (m : (ℓ : Loc Cert.DnxKernel.nD Cert.DnxKernel.τ Cert.DnxKernel.sig) → Buf (Elt Bits) ℓ) (g : Dev Cert.DnxKernel.nD → PrngReg), Pre_DnxKernel m →
    θ_run (Cert.DnxKernel.defs (F := Bits)) (onTc (τ := Cert.DnxKernel.τ) (Cert.DnxKernel.main (F := Bits))) ⟨m, fun _ => 0, g⟩ (fun r => (∀ c : Dev Cert.DnxKernel.nD,
      r.2.mem ((c.tc : Thread Cert.DnxKernel.nD Cert.DnxKernel.τ).loc Cert.DnxKernel.main_arg0) = m ((c.tc : Thread Cert.DnxKernel.nD Cert.DnxKernel.τ).loc Cert.DnxKernel.main_arg0)
      ∧ r.2.mem ((c.tc : Thread Cert.DnxKernel.nD Cert.DnxKernel.τ).loc Cert.DnxKernel.main_arg1) = m ((c.tc : Thread Cert.DnxKernel.nD Cert.DnxKernel.τ).loc Cert.DnxKernel.main_arg1))
      ∧ r.2.sem = fun _ => 0)

def quiescent_DnxKernelIdeal [hDnxKernelIdeal : Cert.DnxKernelIdeal.Facts] : Prop :=
  ∀ (m : (ℓ : Loc Cert.DnxKernelIdeal.nD Cert.DnxKernelIdeal.τ Cert.DnxKernelIdeal.sig) → Buf (Elt Ideal) ℓ) (g : Dev Cert.DnxKernelIdeal.nD → PrngReg), Pre_DnxKernelIdeal m →
    θ_run (Cert.DnxKernelIdeal.defs (F := Ideal)) (onTc (τ := Cert.DnxKernelIdeal.τ) (Cert.DnxKernelIdeal.main (F := Ideal))) ⟨m, fun _ => 0, g⟩ (fun r => (∀ c : Dev Cert.DnxKernelIdeal.nD,
      r.2.mem ((c.tc : Thread Cert.DnxKernelIdeal.nD Cert.DnxKernelIdeal.τ).loc Cert.DnxKernelIdeal.main_arg0) = m ((c.tc : Thread Cert.DnxKernelIdeal.nD Cert.DnxKernelIdeal.τ).loc Cert.DnxKernelIdeal.main_arg0)
      ∧ r.2.mem ((c.tc : Thread Cert.DnxKernelIdeal.nD Cert.DnxKernelIdeal.τ).loc Cert.DnxKernelIdeal.main_arg1) = m ((c.tc : Thread Cert.DnxKernelIdeal.nD Cert.DnxKernelIdeal.τ).loc Cert.DnxKernelIdeal.main_arg1))
      ∧ r.2.sem = fun _ => 0)

def quiescent_DnxReferenceIdeal [hDnxReferenceIdeal : Cert.DnxReferenceIdeal.Facts] : Prop :=
  ∀ (m : (ℓ : Loc Cert.DnxReferenceIdeal.nD Cert.DnxReferenceIdeal.τ Cert.DnxReferenceIdeal.sig) → Buf (Elt Ideal) ℓ) (g : Dev Cert.DnxReferenceIdeal.nD → PrngReg), Pre_DnxReferenceIdeal m →
    θ_run (Cert.DnxReferenceIdeal.defs (F := Ideal)) (onTc (τ := Cert.DnxReferenceIdeal.τ) (Cert.DnxReferenceIdeal.main (F := Ideal))) ⟨m, fun _ => 0, g⟩ (fun r => (∀ c : Dev Cert.DnxReferenceIdeal.nD,
      r.2.mem ((c.tc : Thread Cert.DnxReferenceIdeal.nD Cert.DnxReferenceIdeal.τ).loc Cert.DnxReferenceIdeal.main_arg0) = m ((c.tc : Thread Cert.DnxReferenceIdeal.nD Cert.DnxReferenceIdeal.τ).loc Cert.DnxReferenceIdeal.main_arg0)
      ∧ r.2.mem ((c.tc : Thread Cert.DnxReferenceIdeal.nD Cert.DnxReferenceIdeal.τ).loc Cert.DnxReferenceIdeal.main_arg1) = m ((c.tc : Thread Cert.DnxReferenceIdeal.nD Cert.DnxReferenceIdeal.τ).loc Cert.DnxReferenceIdeal.main_arg1))
      ∧ r.2.sem = fun _ => 0)

def quiescent_DnwKernel [hDnwKernel : Cert.DnwKernel.Facts] : Prop :=
  ∀ (m : (ℓ : Loc Cert.DnwKernel.nD Cert.DnwKernel.τ Cert.DnwKernel.sig) → Buf (Elt Bits) ℓ) (g : Dev Cert.DnwKernel.nD → PrngReg), Pre_DnwKernel m →
    θ_run (Cert.DnwKernel.defs (F := Bits)) (onTc (τ := Cert.DnwKernel.τ) (Cert.DnwKernel.main (F := Bits))) ⟨m, fun _ => 0, g⟩ (fun r => (∀ c : Dev Cert.DnwKernel.nD,
      r.2.mem ((c.tc : Thread Cert.DnwKernel.nD Cert.DnwKernel.τ).loc Cert.DnwKernel.main_arg0) = m ((c.tc : Thread Cert.DnwKernel.nD Cert.DnwKernel.τ).loc Cert.DnwKernel.main_arg0)
      ∧ r.2.mem ((c.tc : Thread Cert.DnwKernel.nD Cert.DnwKernel.τ).loc Cert.DnwKernel.main_arg1) = m ((c.tc : Thread Cert.DnwKernel.nD Cert.DnwKernel.τ).loc Cert.DnwKernel.main_arg1))
      ∧ r.2.sem = fun _ => 0)

def quiescent_DnwKernelIdeal [hDnwKernelIdeal : Cert.DnwKernelIdeal.Facts] : Prop :=
  ∀ (m : (ℓ : Loc Cert.DnwKernelIdeal.nD Cert.DnwKernelIdeal.τ Cert.DnwKernelIdeal.sig) → Buf (Elt Ideal) ℓ) (g : Dev Cert.DnwKernelIdeal.nD → PrngReg), Pre_DnwKernelIdeal m →
    θ_run (Cert.DnwKernelIdeal.defs (F := Ideal)) (onTc (τ := Cert.DnwKernelIdeal.τ) (Cert.DnwKernelIdeal.main (F := Ideal))) ⟨m, fun _ => 0, g⟩ (fun r => (∀ c : Dev Cert.DnwKernelIdeal.nD,
      r.2.mem ((c.tc : Thread Cert.DnwKernelIdeal.nD Cert.DnwKernelIdeal.τ).loc Cert.DnwKernelIdeal.main_arg0) = m ((c.tc : Thread Cert.DnwKernelIdeal.nD Cert.DnwKernelIdeal.τ).loc Cert.DnwKernelIdeal.main_arg0)
      ∧ r.2.mem ((c.tc : Thread Cert.DnwKernelIdeal.nD Cert.DnwKernelIdeal.τ).loc Cert.DnwKernelIdeal.main_arg1) = m ((c.tc : Thread Cert.DnwKernelIdeal.nD Cert.DnwKernelIdeal.τ).loc Cert.DnwKernelIdeal.main_arg1))
      ∧ r.2.sem = fun _ => 0)

def quiescent_DnwReferenceIdeal [hDnwReferenceIdeal : Cert.DnwReferenceIdeal.Facts] : Prop :=
  ∀ (m : (ℓ : Loc Cert.DnwReferenceIdeal.nD Cert.DnwReferenceIdeal.τ Cert.DnwReferenceIdeal.sig) → Buf (Elt Ideal) ℓ) (g : Dev Cert.DnwReferenceIdeal.nD → PrngReg), Pre_DnwReferenceIdeal m →
    θ_run (Cert.DnwReferenceIdeal.defs (F := Ideal)) (onTc (τ := Cert.DnwReferenceIdeal.τ) (Cert.DnwReferenceIdeal.main (F := Ideal))) ⟨m, fun _ => 0, g⟩ (fun r => (∀ c : Dev Cert.DnwReferenceIdeal.nD,
      r.2.mem ((c.tc : Thread Cert.DnwReferenceIdeal.nD Cert.DnwReferenceIdeal.τ).loc Cert.DnwReferenceIdeal.main_arg0) = m ((c.tc : Thread Cert.DnwReferenceIdeal.nD Cert.DnwReferenceIdeal.τ).loc Cert.DnwReferenceIdeal.main_arg0)
      ∧ r.2.mem ((c.tc : Thread Cert.DnwReferenceIdeal.nD Cert.DnwReferenceIdeal.τ).loc Cert.DnwReferenceIdeal.main_arg1) = m ((c.tc : Thread Cert.DnwReferenceIdeal.nD Cert.DnwReferenceIdeal.τ).loc Cert.DnwReferenceIdeal.main_arg1))
      ∧ r.2.sem = fun _ => 0)

def quiescent_UpfKernel [hUpfKernel : Cert.UpfKernel.Facts] : Prop :=
  ∀ (m : (ℓ : Loc Cert.UpfKernel.nD Cert.UpfKernel.τ Cert.UpfKernel.sig) → Buf (Elt Bits) ℓ) (g : Dev Cert.UpfKernel.nD → PrngReg), Pre_UpfKernel m →
    θ_run (Cert.UpfKernel.defs (F := Bits)) (onTc (τ := Cert.UpfKernel.τ) (Cert.UpfKernel.main (F := Bits))) ⟨m, fun _ => 0, g⟩ (fun r => (∀ c : Dev Cert.UpfKernel.nD,
      r.2.mem ((c.tc : Thread Cert.UpfKernel.nD Cert.UpfKernel.τ).loc Cert.UpfKernel.main_arg0) = m ((c.tc : Thread Cert.UpfKernel.nD Cert.UpfKernel.τ).loc Cert.UpfKernel.main_arg0)
      ∧ r.2.mem ((c.tc : Thread Cert.UpfKernel.nD Cert.UpfKernel.τ).loc Cert.UpfKernel.main_arg1) = m ((c.tc : Thread Cert.UpfKernel.nD Cert.UpfKernel.τ).loc Cert.UpfKernel.main_arg1))
      ∧ r.2.sem = fun _ => 0)

def quiescent_UpfKernelIdeal [hUpfKernelIdeal : Cert.UpfKernelIdeal.Facts] : Prop :=
  ∀ (m : (ℓ : Loc Cert.UpfKernelIdeal.nD Cert.UpfKernelIdeal.τ Cert.UpfKernelIdeal.sig) → Buf (Elt Ideal) ℓ) (g : Dev Cert.UpfKernelIdeal.nD → PrngReg), Pre_UpfKernelIdeal m →
    θ_run (Cert.UpfKernelIdeal.defs (F := Ideal)) (onTc (τ := Cert.UpfKernelIdeal.τ) (Cert.UpfKernelIdeal.main (F := Ideal))) ⟨m, fun _ => 0, g⟩ (fun r => (∀ c : Dev Cert.UpfKernelIdeal.nD,
      r.2.mem ((c.tc : Thread Cert.UpfKernelIdeal.nD Cert.UpfKernelIdeal.τ).loc Cert.UpfKernelIdeal.main_arg0) = m ((c.tc : Thread Cert.UpfKernelIdeal.nD Cert.UpfKernelIdeal.τ).loc Cert.UpfKernelIdeal.main_arg0)
      ∧ r.2.mem ((c.tc : Thread Cert.UpfKernelIdeal.nD Cert.UpfKernelIdeal.τ).loc Cert.UpfKernelIdeal.main_arg1) = m ((c.tc : Thread Cert.UpfKernelIdeal.nD Cert.UpfKernelIdeal.τ).loc Cert.UpfKernelIdeal.main_arg1))
      ∧ r.2.sem = fun _ => 0)

def quiescent_UpfReferenceIdeal [hUpfReferenceIdeal : Cert.UpfReferenceIdeal.Facts] : Prop :=
  ∀ (m : (ℓ : Loc Cert.UpfReferenceIdeal.nD Cert.UpfReferenceIdeal.τ Cert.UpfReferenceIdeal.sig) → Buf (Elt Ideal) ℓ) (g : Dev Cert.UpfReferenceIdeal.nD → PrngReg), Pre_UpfReferenceIdeal m →
    θ_run (Cert.UpfReferenceIdeal.defs (F := Ideal)) (onTc (τ := Cert.UpfReferenceIdeal.τ) (Cert.UpfReferenceIdeal.main (F := Ideal))) ⟨m, fun _ => 0, g⟩ (fun r => (∀ c : Dev Cert.UpfReferenceIdeal.nD,
      r.2.mem ((c.tc : Thread Cert.UpfReferenceIdeal.nD Cert.UpfReferenceIdeal.τ).loc Cert.UpfReferenceIdeal.main_arg0) = m ((c.tc : Thread Cert.UpfReferenceIdeal.nD Cert.UpfReferenceIdeal.τ).loc Cert.UpfReferenceIdeal.main_arg0)
      ∧ r.2.mem ((c.tc : Thread Cert.UpfReferenceIdeal.nD Cert.UpfReferenceIdeal.τ).loc Cert.UpfReferenceIdeal.main_arg1) = m ((c.tc : Thread Cert.UpfReferenceIdeal.nD Cert.UpfReferenceIdeal.τ).loc Cert.UpfReferenceIdeal.main_arg1))
      ∧ r.2.sem = fun _ => 0)

def quiescent_UpwKernel [hUpwKernel : Cert.UpwKernel.Facts] : Prop :=
  ∀ (m : (ℓ : Loc Cert.UpwKernel.nD Cert.UpwKernel.τ Cert.UpwKernel.sig) → Buf (Elt Bits) ℓ) (g : Dev Cert.UpwKernel.nD → PrngReg), Pre_UpwKernel m →
    θ_run (Cert.UpwKernel.defs (F := Bits)) (onTc (τ := Cert.UpwKernel.τ) (Cert.UpwKernel.main (F := Bits))) ⟨m, fun _ => 0, g⟩ (fun r => (∀ c : Dev Cert.UpwKernel.nD,
      r.2.mem ((c.tc : Thread Cert.UpwKernel.nD Cert.UpwKernel.τ).loc Cert.UpwKernel.main_arg0) = m ((c.tc : Thread Cert.UpwKernel.nD Cert.UpwKernel.τ).loc Cert.UpwKernel.main_arg0)
      ∧ r.2.mem ((c.tc : Thread Cert.UpwKernel.nD Cert.UpwKernel.τ).loc Cert.UpwKernel.main_arg1) = m ((c.tc : Thread Cert.UpwKernel.nD Cert.UpwKernel.τ).loc Cert.UpwKernel.main_arg1))
      ∧ r.2.sem = fun _ => 0)

def quiescent_UpwKernelIdeal [hUpwKernelIdeal : Cert.UpwKernelIdeal.Facts] : Prop :=
  ∀ (m : (ℓ : Loc Cert.UpwKernelIdeal.nD Cert.UpwKernelIdeal.τ Cert.UpwKernelIdeal.sig) → Buf (Elt Ideal) ℓ) (g : Dev Cert.UpwKernelIdeal.nD → PrngReg), Pre_UpwKernelIdeal m →
    θ_run (Cert.UpwKernelIdeal.defs (F := Ideal)) (onTc (τ := Cert.UpwKernelIdeal.τ) (Cert.UpwKernelIdeal.main (F := Ideal))) ⟨m, fun _ => 0, g⟩ (fun r => (∀ c : Dev Cert.UpwKernelIdeal.nD,
      r.2.mem ((c.tc : Thread Cert.UpwKernelIdeal.nD Cert.UpwKernelIdeal.τ).loc Cert.UpwKernelIdeal.main_arg0) = m ((c.tc : Thread Cert.UpwKernelIdeal.nD Cert.UpwKernelIdeal.τ).loc Cert.UpwKernelIdeal.main_arg0)
      ∧ r.2.mem ((c.tc : Thread Cert.UpwKernelIdeal.nD Cert.UpwKernelIdeal.τ).loc Cert.UpwKernelIdeal.main_arg1) = m ((c.tc : Thread Cert.UpwKernelIdeal.nD Cert.UpwKernelIdeal.τ).loc Cert.UpwKernelIdeal.main_arg1))
      ∧ r.2.sem = fun _ => 0)

def quiescent_UpwReferenceIdeal [hUpwReferenceIdeal : Cert.UpwReferenceIdeal.Facts] : Prop :=
  ∀ (m : (ℓ : Loc Cert.UpwReferenceIdeal.nD Cert.UpwReferenceIdeal.τ Cert.UpwReferenceIdeal.sig) → Buf (Elt Ideal) ℓ) (g : Dev Cert.UpwReferenceIdeal.nD → PrngReg), Pre_UpwReferenceIdeal m →
    θ_run (Cert.UpwReferenceIdeal.defs (F := Ideal)) (onTc (τ := Cert.UpwReferenceIdeal.τ) (Cert.UpwReferenceIdeal.main (F := Ideal))) ⟨m, fun _ => 0, g⟩ (fun r => (∀ c : Dev Cert.UpwReferenceIdeal.nD,
      r.2.mem ((c.tc : Thread Cert.UpwReferenceIdeal.nD Cert.UpwReferenceIdeal.τ).loc Cert.UpwReferenceIdeal.main_arg0) = m ((c.tc : Thread Cert.UpwReferenceIdeal.nD Cert.UpwReferenceIdeal.τ).loc Cert.UpwReferenceIdeal.main_arg0)
      ∧ r.2.mem ((c.tc : Thread Cert.UpwReferenceIdeal.nD Cert.UpwReferenceIdeal.τ).loc Cert.UpwReferenceIdeal.main_arg1) = m ((c.tc : Thread Cert.UpwReferenceIdeal.nD Cert.UpwReferenceIdeal.τ).loc Cert.UpwReferenceIdeal.main_arg1))
      ∧ r.2.sem = fun _ => 0)

def quiescent_UpxKernel [hUpxKernel : Cert.UpxKernel.Facts] : Prop :=
  ∀ (m : (ℓ : Loc Cert.UpxKernel.nD Cert.UpxKernel.τ Cert.UpxKernel.sig) → Buf (Elt Bits) ℓ) (g : Dev Cert.UpxKernel.nD → PrngReg), Pre_UpxKernel m →
    θ_run (Cert.UpxKernel.defs (F := Bits)) (onTc (τ := Cert.UpxKernel.τ) (Cert.UpxKernel.main (F := Bits))) ⟨m, fun _ => 0, g⟩ (fun r => (∀ c : Dev Cert.UpxKernel.nD,
      r.2.mem ((c.tc : Thread Cert.UpxKernel.nD Cert.UpxKernel.τ).loc Cert.UpxKernel.main_arg0) = m ((c.tc : Thread Cert.UpxKernel.nD Cert.UpxKernel.τ).loc Cert.UpxKernel.main_arg0)
      ∧ r.2.mem ((c.tc : Thread Cert.UpxKernel.nD Cert.UpxKernel.τ).loc Cert.UpxKernel.main_arg1) = m ((c.tc : Thread Cert.UpxKernel.nD Cert.UpxKernel.τ).loc Cert.UpxKernel.main_arg1))
      ∧ r.2.sem = fun _ => 0)

def quiescent_UpxKernelIdeal [hUpxKernelIdeal : Cert.UpxKernelIdeal.Facts] : Prop :=
  ∀ (m : (ℓ : Loc Cert.UpxKernelIdeal.nD Cert.UpxKernelIdeal.τ Cert.UpxKernelIdeal.sig) → Buf (Elt Ideal) ℓ) (g : Dev Cert.UpxKernelIdeal.nD → PrngReg), Pre_UpxKernelIdeal m →
    θ_run (Cert.UpxKernelIdeal.defs (F := Ideal)) (onTc (τ := Cert.UpxKernelIdeal.τ) (Cert.UpxKernelIdeal.main (F := Ideal))) ⟨m, fun _ => 0, g⟩ (fun r => (∀ c : Dev Cert.UpxKernelIdeal.nD,
      r.2.mem ((c.tc : Thread Cert.UpxKernelIdeal.nD Cert.UpxKernelIdeal.τ).loc Cert.UpxKernelIdeal.main_arg0) = m ((c.tc : Thread Cert.UpxKernelIdeal.nD Cert.UpxKernelIdeal.τ).loc Cert.UpxKernelIdeal.main_arg0)
      ∧ r.2.mem ((c.tc : Thread Cert.UpxKernelIdeal.nD Cert.UpxKernelIdeal.τ).loc Cert.UpxKernelIdeal.main_arg1) = m ((c.tc : Thread Cert.UpxKernelIdeal.nD Cert.UpxKernelIdeal.τ).loc Cert.UpxKernelIdeal.main_arg1))
      ∧ r.2.sem = fun _ => 0)

def quiescent_UpxReferenceIdeal [hUpxReferenceIdeal : Cert.UpxReferenceIdeal.Facts] : Prop :=
  ∀ (m : (ℓ : Loc Cert.UpxReferenceIdeal.nD Cert.UpxReferenceIdeal.τ Cert.UpxReferenceIdeal.sig) → Buf (Elt Ideal) ℓ) (g : Dev Cert.UpxReferenceIdeal.nD → PrngReg), Pre_UpxReferenceIdeal m →
    θ_run (Cert.UpxReferenceIdeal.defs (F := Ideal)) (onTc (τ := Cert.UpxReferenceIdeal.τ) (Cert.UpxReferenceIdeal.main (F := Ideal))) ⟨m, fun _ => 0, g⟩ (fun r => (∀ c : Dev Cert.UpxReferenceIdeal.nD,
      r.2.mem ((c.tc : Thread Cert.UpxReferenceIdeal.nD Cert.UpxReferenceIdeal.τ).loc Cert.UpxReferenceIdeal.main_arg0) = m ((c.tc : Thread Cert.UpxReferenceIdeal.nD Cert.UpxReferenceIdeal.τ).loc Cert.UpxReferenceIdeal.main_arg0)
      ∧ r.2.mem ((c.tc : Thread Cert.UpxReferenceIdeal.nD Cert.UpxReferenceIdeal.τ).loc Cert.UpxReferenceIdeal.main_arg1) = m ((c.tc : Thread Cert.UpxReferenceIdeal.nD Cert.UpxReferenceIdeal.τ).loc Cert.UpxReferenceIdeal.main_arg1))
      ∧ r.2.sem = fun _ => 0)

def quiescent_InxKernel [hInxKernel : Cert.InxKernel.Facts] : Prop :=
  ∀ (m : (ℓ : Loc Cert.InxKernel.nD Cert.InxKernel.τ Cert.InxKernel.sig) → Buf (Elt Bits) ℓ) (g : Dev Cert.InxKernel.nD → PrngReg), Pre_InxKernel m →
    θ_run (Cert.InxKernel.defs (F := Bits)) (onTc (τ := Cert.InxKernel.τ) (Cert.InxKernel.main (F := Bits))) ⟨m, fun _ => 0, g⟩ (fun r => (∀ c : Dev Cert.InxKernel.nD,
      r.2.mem ((c.tc : Thread Cert.InxKernel.nD Cert.InxKernel.τ).loc Cert.InxKernel.main_arg0) = m ((c.tc : Thread Cert.InxKernel.nD Cert.InxKernel.τ).loc Cert.InxKernel.main_arg0)
      ∧ r.2.mem ((c.tc : Thread Cert.InxKernel.nD Cert.InxKernel.τ).loc Cert.InxKernel.main_arg1) = m ((c.tc : Thread Cert.InxKernel.nD Cert.InxKernel.τ).loc Cert.InxKernel.main_arg1)
      ∧ r.2.mem ((c.tc : Thread Cert.InxKernel.nD Cert.InxKernel.τ).loc Cert.InxKernel.main_arg2) = m ((c.tc : Thread Cert.InxKernel.nD Cert.InxKernel.τ).loc Cert.InxKernel.main_arg2)
      ∧ r.2.mem ((c.tc : Thread Cert.InxKernel.nD Cert.InxKernel.τ).loc Cert.InxKernel.main_arg3) = m ((c.tc : Thread Cert.InxKernel.nD Cert.InxKernel.τ).loc Cert.InxKernel.main_arg3)
      ∧ r.2.mem ((c.tc : Thread Cert.InxKernel.nD Cert.InxKernel.τ).loc Cert.InxKernel.main_arg4) = m ((c.tc : Thread Cert.InxKernel.nD Cert.InxKernel.τ).loc Cert.InxKernel.main_arg4))
      ∧ r.2.sem = fun _ => 0)

def quiescent_InxKernelIdeal [hInxKernelIdeal : Cert.InxKernelIdeal.Facts] : Prop :=
  ∀ (m : (ℓ : Loc Cert.InxKernelIdeal.nD Cert.InxKernelIdeal.τ Cert.InxKernelIdeal.sig) → Buf (Elt Ideal) ℓ) (g : Dev Cert.InxKernelIdeal.nD → PrngReg), Pre_InxKernelIdeal m →
    θ_run (Cert.InxKernelIdeal.defs (F := Ideal)) (onTc (τ := Cert.InxKernelIdeal.τ) (Cert.InxKernelIdeal.main (F := Ideal))) ⟨m, fun _ => 0, g⟩ (fun r => (∀ c : Dev Cert.InxKernelIdeal.nD,
      r.2.mem ((c.tc : Thread Cert.InxKernelIdeal.nD Cert.InxKernelIdeal.τ).loc Cert.InxKernelIdeal.main_arg0) = m ((c.tc : Thread Cert.InxKernelIdeal.nD Cert.InxKernelIdeal.τ).loc Cert.InxKernelIdeal.main_arg0)
      ∧ r.2.mem ((c.tc : Thread Cert.InxKernelIdeal.nD Cert.InxKernelIdeal.τ).loc Cert.InxKernelIdeal.main_arg1) = m ((c.tc : Thread Cert.InxKernelIdeal.nD Cert.InxKernelIdeal.τ).loc Cert.InxKernelIdeal.main_arg1)
      ∧ r.2.mem ((c.tc : Thread Cert.InxKernelIdeal.nD Cert.InxKernelIdeal.τ).loc Cert.InxKernelIdeal.main_arg2) = m ((c.tc : Thread Cert.InxKernelIdeal.nD Cert.InxKernelIdeal.τ).loc Cert.InxKernelIdeal.main_arg2)
      ∧ r.2.mem ((c.tc : Thread Cert.InxKernelIdeal.nD Cert.InxKernelIdeal.τ).loc Cert.InxKernelIdeal.main_arg3) = m ((c.tc : Thread Cert.InxKernelIdeal.nD Cert.InxKernelIdeal.τ).loc Cert.InxKernelIdeal.main_arg3)
      ∧ r.2.mem ((c.tc : Thread Cert.InxKernelIdeal.nD Cert.InxKernelIdeal.τ).loc Cert.InxKernelIdeal.main_arg4) = m ((c.tc : Thread Cert.InxKernelIdeal.nD Cert.InxKernelIdeal.τ).loc Cert.InxKernelIdeal.main_arg4))
      ∧ r.2.sem = fun _ => 0)

def quiescent_InxReferenceIdeal [hInxReferenceIdeal : Cert.InxReferenceIdeal.Facts] : Prop :=
  ∀ (m : (ℓ : Loc Cert.InxReferenceIdeal.nD Cert.InxReferenceIdeal.τ Cert.InxReferenceIdeal.sig) → Buf (Elt Ideal) ℓ) (g : Dev Cert.InxReferenceIdeal.nD → PrngReg), Pre_InxReferenceIdeal m →
    θ_run (Cert.InxReferenceIdeal.defs (F := Ideal)) (onTc (τ := Cert.InxReferenceIdeal.τ) (Cert.InxReferenceIdeal.main (F := Ideal))) ⟨m, fun _ => 0, g⟩ (fun r => (∀ c : Dev Cert.InxReferenceIdeal.nD,
      r.2.mem ((c.tc : Thread Cert.InxReferenceIdeal.nD Cert.InxReferenceIdeal.τ).loc Cert.InxReferenceIdeal.main_arg0) = m ((c.tc : Thread Cert.InxReferenceIdeal.nD Cert.InxReferenceIdeal.τ).loc Cert.InxReferenceIdeal.main_arg0)
      ∧ r.2.mem ((c.tc : Thread Cert.InxReferenceIdeal.nD Cert.InxReferenceIdeal.τ).loc Cert.InxReferenceIdeal.main_arg1) = m ((c.tc : Thread Cert.InxReferenceIdeal.nD Cert.InxReferenceIdeal.τ).loc Cert.InxReferenceIdeal.main_arg1)
      ∧ r.2.mem ((c.tc : Thread Cert.InxReferenceIdeal.nD Cert.InxReferenceIdeal.τ).loc Cert.InxReferenceIdeal.main_arg2) = m ((c.tc : Thread Cert.InxReferenceIdeal.nD Cert.InxReferenceIdeal.τ).loc Cert.InxReferenceIdeal.main_arg2)
      ∧ r.2.mem ((c.tc : Thread Cert.InxReferenceIdeal.nD Cert.InxReferenceIdeal.τ).loc Cert.InxReferenceIdeal.main_arg3) = m ((c.tc : Thread Cert.InxReferenceIdeal.nD Cert.InxReferenceIdeal.τ).loc Cert.InxReferenceIdeal.main_arg3)
      ∧ r.2.mem ((c.tc : Thread Cert.InxReferenceIdeal.nD Cert.InxReferenceIdeal.τ).loc Cert.InxReferenceIdeal.main_arg4) = m ((c.tc : Thread Cert.InxReferenceIdeal.nD Cert.InxReferenceIdeal.τ).loc Cert.InxReferenceIdeal.main_arg4))
      ∧ r.2.sem = fun _ => 0)

def quiescent_AddhKernel [hAddhKernel : Cert.AddhKernel.Facts] : Prop :=
  ∀ (m : (ℓ : Loc Cert.AddhKernel.nD Cert.AddhKernel.τ Cert.AddhKernel.sig) → Buf (Elt Bits) ℓ) (g : Dev Cert.AddhKernel.nD → PrngReg), Pre_AddhKernel m →
    θ_run (Cert.AddhKernel.defs (F := Bits)) (onTc (τ := Cert.AddhKernel.τ) (Cert.AddhKernel.main (F := Bits))) ⟨m, fun _ => 0, g⟩ (fun r => (∀ c : Dev Cert.AddhKernel.nD,
      r.2.mem ((c.tc : Thread Cert.AddhKernel.nD Cert.AddhKernel.τ).loc Cert.AddhKernel.main_arg0) = m ((c.tc : Thread Cert.AddhKernel.nD Cert.AddhKernel.τ).loc Cert.AddhKernel.main_arg0)
      ∧ r.2.mem ((c.tc : Thread Cert.AddhKernel.nD Cert.AddhKernel.τ).loc Cert.AddhKernel.main_arg1) = m ((c.tc : Thread Cert.AddhKernel.nD Cert.AddhKernel.τ).loc Cert.AddhKernel.main_arg1)
      ∧ r.2.mem ((c.tc : Thread Cert.AddhKernel.nD Cert.AddhKernel.τ).loc Cert.AddhKernel.main_arg2) = m ((c.tc : Thread Cert.AddhKernel.nD Cert.AddhKernel.τ).loc Cert.AddhKernel.main_arg2))
      ∧ r.2.sem = fun _ => 0)

def quiescent_AddhKernelIdeal [hAddhKernelIdeal : Cert.AddhKernelIdeal.Facts] : Prop :=
  ∀ (m : (ℓ : Loc Cert.AddhKernelIdeal.nD Cert.AddhKernelIdeal.τ Cert.AddhKernelIdeal.sig) → Buf (Elt Ideal) ℓ) (g : Dev Cert.AddhKernelIdeal.nD → PrngReg), Pre_AddhKernelIdeal m →
    θ_run (Cert.AddhKernelIdeal.defs (F := Ideal)) (onTc (τ := Cert.AddhKernelIdeal.τ) (Cert.AddhKernelIdeal.main (F := Ideal))) ⟨m, fun _ => 0, g⟩ (fun r => (∀ c : Dev Cert.AddhKernelIdeal.nD,
      r.2.mem ((c.tc : Thread Cert.AddhKernelIdeal.nD Cert.AddhKernelIdeal.τ).loc Cert.AddhKernelIdeal.main_arg0) = m ((c.tc : Thread Cert.AddhKernelIdeal.nD Cert.AddhKernelIdeal.τ).loc Cert.AddhKernelIdeal.main_arg0)
      ∧ r.2.mem ((c.tc : Thread Cert.AddhKernelIdeal.nD Cert.AddhKernelIdeal.τ).loc Cert.AddhKernelIdeal.main_arg1) = m ((c.tc : Thread Cert.AddhKernelIdeal.nD Cert.AddhKernelIdeal.τ).loc Cert.AddhKernelIdeal.main_arg1)
      ∧ r.2.mem ((c.tc : Thread Cert.AddhKernelIdeal.nD Cert.AddhKernelIdeal.τ).loc Cert.AddhKernelIdeal.main_arg2) = m ((c.tc : Thread Cert.AddhKernelIdeal.nD Cert.AddhKernelIdeal.τ).loc Cert.AddhKernelIdeal.main_arg2))
      ∧ r.2.sem = fun _ => 0)

def quiescent_AddhReferenceIdeal [hAddhReferenceIdeal : Cert.AddhReferenceIdeal.Facts] : Prop :=
  ∀ (m : (ℓ : Loc Cert.AddhReferenceIdeal.nD Cert.AddhReferenceIdeal.τ Cert.AddhReferenceIdeal.sig) → Buf (Elt Ideal) ℓ) (g : Dev Cert.AddhReferenceIdeal.nD → PrngReg), Pre_AddhReferenceIdeal m →
    θ_run (Cert.AddhReferenceIdeal.defs (F := Ideal)) (onTc (τ := Cert.AddhReferenceIdeal.τ) (Cert.AddhReferenceIdeal.main (F := Ideal))) ⟨m, fun _ => 0, g⟩ (fun r => (∀ c : Dev Cert.AddhReferenceIdeal.nD,
      r.2.mem ((c.tc : Thread Cert.AddhReferenceIdeal.nD Cert.AddhReferenceIdeal.τ).loc Cert.AddhReferenceIdeal.main_arg0) = m ((c.tc : Thread Cert.AddhReferenceIdeal.nD Cert.AddhReferenceIdeal.τ).loc Cert.AddhReferenceIdeal.main_arg0)
      ∧ r.2.mem ((c.tc : Thread Cert.AddhReferenceIdeal.nD Cert.AddhReferenceIdeal.τ).loc Cert.AddhReferenceIdeal.main_arg1) = m ((c.tc : Thread Cert.AddhReferenceIdeal.nD Cert.AddhReferenceIdeal.τ).loc Cert.AddhReferenceIdeal.main_arg1)
      ∧ r.2.mem ((c.tc : Thread Cert.AddhReferenceIdeal.nD Cert.AddhReferenceIdeal.τ).loc Cert.AddhReferenceIdeal.main_arg2) = m ((c.tc : Thread Cert.AddhReferenceIdeal.nD Cert.AddhReferenceIdeal.τ).loc Cert.AddhReferenceIdeal.main_arg2))
      ∧ r.2.sem = fun _ => 0)

def quiescent_SumlKernel [hSumlKernel : Cert.SumlKernel.Facts] : Prop :=
  ∀ (m : (ℓ : Loc Cert.SumlKernel.nD Cert.SumlKernel.τ Cert.SumlKernel.sig) → Buf (Elt Bits) ℓ) (g : Dev Cert.SumlKernel.nD → PrngReg), Pre_SumlKernel m →
    θ_run (Cert.SumlKernel.defs (F := Bits)) (onTc (τ := Cert.SumlKernel.τ) (Cert.SumlKernel.main (F := Bits))) ⟨m, fun _ => 0, g⟩ (fun r => (∀ c : Dev Cert.SumlKernel.nD,
      r.2.mem ((c.tc : Thread Cert.SumlKernel.nD Cert.SumlKernel.τ).loc Cert.SumlKernel.main_arg0) = m ((c.tc : Thread Cert.SumlKernel.nD Cert.SumlKernel.τ).loc Cert.SumlKernel.main_arg0))
      ∧ r.2.sem = fun _ => 0)

def quiescent_SumlKernelIdeal [hSumlKernelIdeal : Cert.SumlKernelIdeal.Facts] : Prop :=
  ∀ (m : (ℓ : Loc Cert.SumlKernelIdeal.nD Cert.SumlKernelIdeal.τ Cert.SumlKernelIdeal.sig) → Buf (Elt Ideal) ℓ) (g : Dev Cert.SumlKernelIdeal.nD → PrngReg), Pre_SumlKernelIdeal m →
    θ_run (Cert.SumlKernelIdeal.defs (F := Ideal)) (onTc (τ := Cert.SumlKernelIdeal.τ) (Cert.SumlKernelIdeal.main (F := Ideal))) ⟨m, fun _ => 0, g⟩ (fun r => (∀ c : Dev Cert.SumlKernelIdeal.nD,
      r.2.mem ((c.tc : Thread Cert.SumlKernelIdeal.nD Cert.SumlKernelIdeal.τ).loc Cert.SumlKernelIdeal.main_arg0) = m ((c.tc : Thread Cert.SumlKernelIdeal.nD Cert.SumlKernelIdeal.τ).loc Cert.SumlKernelIdeal.main_arg0))
      ∧ r.2.sem = fun _ => 0)

def quiescent_SumlReferenceIdeal [hSumlReferenceIdeal : Cert.SumlReferenceIdeal.Facts] : Prop :=
  ∀ (m : (ℓ : Loc Cert.SumlReferenceIdeal.nD Cert.SumlReferenceIdeal.τ Cert.SumlReferenceIdeal.sig) → Buf (Elt Ideal) ℓ) (g : Dev Cert.SumlReferenceIdeal.nD → PrngReg), Pre_SumlReferenceIdeal m →
    θ_run (Cert.SumlReferenceIdeal.defs (F := Ideal)) (onTc (τ := Cert.SumlReferenceIdeal.τ) (Cert.SumlReferenceIdeal.main (F := Ideal))) ⟨m, fun _ => 0, g⟩ (fun r => (∀ c : Dev Cert.SumlReferenceIdeal.nD,
      r.2.mem ((c.tc : Thread Cert.SumlReferenceIdeal.nD Cert.SumlReferenceIdeal.τ).loc Cert.SumlReferenceIdeal.main_arg0) = m ((c.tc : Thread Cert.SumlReferenceIdeal.nD Cert.SumlReferenceIdeal.τ).loc Cert.SumlReferenceIdeal.main_arg0))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v1_0)) (v1 : (c : Dev Cert.GateKernelIdeal.nD) → Buf (Elt Ideal) ((c.tc : Thread Cert.GateKernelIdeal.nD Cert.GateKernelIdeal.τ).loc Cert.GateKernelIdeal.main_v2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v1_0) = v0 c
          ∧ r.2.mem ((c.tc : Thread Cert.GateKernelIdeal.nD Cert.GateKernelIdeal.τ).loc Cert.GateKernelIdeal.main_v2) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v10) = v0 c
          ∧ r.2.mem ((c.tc : Thread Cert.GateReferenceIdeal.nD Cert.GateReferenceIdeal.τ).loc Cert.GateReferenceIdeal.main_v9) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_NormKernel_NormKernelIdeal : Prop :=
  True

def algebraic_NormKernelIdeal_NormReferenceIdeal_pre_norm_finite [hNormKernelIdeal : Cert.NormKernelIdeal.Facts] [hNormReferenceIdeal : Cert.NormReferenceIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_norm_finite m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)
      ∧ m' ((c.tc : Thread Cert.NormReferenceIdeal.nD Cert.NormReferenceIdeal.τ).loc Cert.NormReferenceIdeal.main_arg5) = m ((c.tc : Thread Cert.NormKernelIdeal.nD Cert.NormKernelIdeal.τ).loc Cert.NormKernelIdeal.main_arg5)) →
    ∃ (v0 : (c : Dev Cert.NormKernelIdeal.nD) → Buf (Elt Ideal) ((c.tc : Thread Cert.NormKernelIdeal.nD Cert.NormKernelIdeal.τ).loc Cert.NormKernelIdeal.main_v4_0)) (v1 : (c : Dev Cert.NormKernelIdeal.nD) → Buf (Elt Ideal) ((c.tc : Thread Cert.NormKernelIdeal.nD Cert.NormKernelIdeal.τ).loc Cert.NormKernelIdeal.main_v8)) (v2 : (c : Dev Cert.NormKernelIdeal.nD) → Buf (Elt Ideal) ((c.tc : Thread Cert.NormKernelIdeal.nD Cert.NormKernelIdeal.τ).loc Cert.NormKernelIdeal.main_v9)) (v3 : (c : Dev Cert.NormKernelIdeal.nD) → Buf (Elt Ideal) ((c.tc : Thread Cert.NormKernelIdeal.nD Cert.NormKernelIdeal.τ).loc Cert.NormKernelIdeal.main_v11)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v4_0) = v0 c
          ∧ r.2.mem ((c.tc : Thread Cert.NormKernelIdeal.nD Cert.NormKernelIdeal.τ).loc Cert.NormKernelIdeal.main_v8) = v1 c
          ∧ r.2.mem ((c.tc : Thread Cert.NormKernelIdeal.nD Cert.NormKernelIdeal.τ).loc Cert.NormKernelIdeal.main_v9) = v2 c
          ∧ r.2.mem ((c.tc : Thread Cert.NormKernelIdeal.nD Cert.NormKernelIdeal.τ).loc Cert.NormKernelIdeal.main_v11) = v3 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
          ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v54) = v0 c
          ∧ r.2.mem ((c.tc : Thread Cert.NormReferenceIdeal.nD Cert.NormReferenceIdeal.τ).loc Cert.NormReferenceIdeal.main_v41) = v1 c
          ∧ r.2.mem ((c.tc : Thread Cert.NormReferenceIdeal.nD Cert.NormReferenceIdeal.τ).loc Cert.NormReferenceIdeal.main_v29) = v2 c
          ∧ r.2.mem ((c.tc : Thread Cert.NormReferenceIdeal.nD Cert.NormReferenceIdeal.τ).loc Cert.NormReferenceIdeal.main_v35) = v3 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5))

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)) →
    ∃ (v0 : (c : Dev Cert.LossKernelIdeal.nD) → Buf (Elt Ideal) ((c.tc : Thread Cert.LossKernelIdeal.nD Cert.LossKernelIdeal.τ).loc Cert.LossKernelIdeal.main_v4)) (v1 : (c : Dev Cert.LossKernelIdeal.nD) → Buf (Elt Ideal) ((c.tc : Thread Cert.LossKernelIdeal.nD Cert.LossKernelIdeal.τ).loc Cert.LossKernelIdeal.main_v2_0)) (v2 : (c : Dev Cert.LossKernelIdeal.nD) → Buf (Elt Ideal) ((c.tc : Thread Cert.LossKernelIdeal.nD Cert.LossKernelIdeal.τ).loc Cert.LossKernelIdeal.main_v5)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v4) = v0 c
          ∧ r.2.mem ((c.tc : Thread Cert.LossKernelIdeal.nD Cert.LossKernelIdeal.τ).loc Cert.LossKernelIdeal.main_v2_0) = v1 c
          ∧ r.2.mem ((c.tc : Thread Cert.LossKernelIdeal.nD Cert.LossKernelIdeal.τ).loc Cert.LossKernelIdeal.main_v5) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v31) = v0 c
          ∧ r.2.mem ((c.tc : Thread Cert.LossReferenceIdeal.nD Cert.LossReferenceIdeal.τ).loc Cert.LossReferenceIdeal.main_v55) = v1 c
          ∧ r.2.mem ((c.tc : Thread Cert.LossReferenceIdeal.nD Cert.LossReferenceIdeal.τ).loc Cert.LossReferenceIdeal.main_v43) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_LnKernel_LnKernelIdeal : Prop :=
  True

def algebraic_LnKernelIdeal_LnReferenceIdeal_pre_ln_finite [hLnKernelIdeal : Cert.LnKernelIdeal.Facts] [hLnReferenceIdeal : Cert.LnReferenceIdeal.Facts] [hPre_ln_finite : Cert.Pre_ln_finite.Facts] : Prop :=
  ∀ (m : (ℓ : Loc Cert.LnKernelIdeal.nD Cert.LnKernelIdeal.τ Cert.LnKernelIdeal.sig) → Buf (Elt Ideal) ℓ) (g : Dev Cert.LnKernelIdeal.nD → PrngReg)
    (m' : (ℓ : Loc Cert.LnReferenceIdeal.nD Cert.LnReferenceIdeal.τ Cert.LnReferenceIdeal.sig) → Buf (Elt Ideal) ℓ) (g' : Dev Cert.LnReferenceIdeal.nD → PrngReg), Pre_LnKernelIdeal_ln_finite m →
    (∀ c : Dev Cert.LnKernelIdeal.nD,
      m' ((c.tc : Thread Cert.LnReferenceIdeal.nD Cert.LnReferenceIdeal.τ).loc Cert.LnReferenceIdeal.main_arg0) = m ((c.tc : Thread Cert.LnKernelIdeal.nD Cert.LnKernelIdeal.τ).loc Cert.LnKernelIdeal.main_arg0)
      ∧ m' ((c.tc : Thread Cert.LnReferenceIdeal.nD Cert.LnReferenceIdeal.τ).loc Cert.LnReferenceIdeal.main_arg1) = m ((c.tc : Thread Cert.LnKernelIdeal.nD Cert.LnKernelIdeal.τ).loc Cert.LnKernelIdeal.main_arg1)
      ∧ m' ((c.tc : Thread Cert.LnReferenceIdeal.nD Cert.LnReferenceIdeal.τ).loc Cert.LnReferenceIdeal.main_arg2) = m ((c.tc : Thread Cert.LnKernelIdeal.nD Cert.LnKernelIdeal.τ).loc Cert.LnKernelIdeal.main_arg2)
      ∧ m' ((c.tc : Thread Cert.LnReferenceIdeal.nD Cert.LnReferenceIdeal.τ).loc Cert.LnReferenceIdeal.main_arg3) = m ((c.tc : Thread Cert.LnKernelIdeal.nD Cert.LnKernelIdeal.τ).loc Cert.LnKernelIdeal.main_arg3)) →
    ∃ (v0 : (c : Dev Cert.LnKernelIdeal.nD) → Buf (Elt Ideal) ((c.tc : Thread Cert.LnKernelIdeal.nD Cert.LnKernelIdeal.τ).loc Cert.LnKernelIdeal.main_v2_0)) (v1 : (c : Dev Cert.LnKernelIdeal.nD) → Buf (Elt Ideal) ((c.tc : Thread Cert.LnKernelIdeal.nD Cert.LnKernelIdeal.τ).loc Cert.LnKernelIdeal.main_v3)) (v2 : (c : Dev Cert.LnKernelIdeal.nD) → Buf (Elt Ideal) ((c.tc : Thread Cert.LnKernelIdeal.nD Cert.LnKernelIdeal.τ).loc Cert.LnKernelIdeal.main_v4)),
      θ_run (Cert.LnKernelIdeal.defs (F := Ideal)) (onTc (τ := Cert.LnKernelIdeal.τ) (Cert.LnKernelIdeal.main (F := Ideal))) ⟨m, fun _ => 0, g⟩ (fun r => ∀ c : Dev Cert.LnKernelIdeal.nD,
          r.2.mem ((c.tc : Thread Cert.LnKernelIdeal.nD Cert.LnKernelIdeal.τ).loc Cert.LnKernelIdeal.main_v2_0) = v0 c
          ∧ r.2.mem ((c.tc : Thread Cert.LnKernelIdeal.nD Cert.LnKernelIdeal.τ).loc Cert.LnKernelIdeal.main_v3) = v1 c
          ∧ r.2.mem ((c.tc : Thread Cert.LnKernelIdeal.nD Cert.LnKernelIdeal.τ).loc Cert.LnKernelIdeal.main_v4) = v2 c
          ∧ r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
          ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
          ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
          ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3))
      ∧ θ_run (Cert.LnReferenceIdeal.defs (F := Ideal)) (onTc (τ := Cert.LnReferenceIdeal.τ) (Cert.LnReferenceIdeal.main (F := Ideal))) ⟨m', fun _ => 0, g'⟩ (fun r => ∀ c : Dev Cert.LnReferenceIdeal.nD,
          r.2.mem ((c.tc : Thread Cert.LnReferenceIdeal.nD Cert.LnReferenceIdeal.τ).loc Cert.LnReferenceIdeal.main_v65) = v0 c
          ∧ r.2.mem ((c.tc : Thread Cert.LnReferenceIdeal.nD Cert.LnReferenceIdeal.τ).loc Cert.LnReferenceIdeal.main_v40) = v1 c
          ∧ r.2.mem ((c.tc : Thread Cert.LnReferenceIdeal.nD Cert.LnReferenceIdeal.τ).loc Cert.LnReferenceIdeal.main_v34) = v2 c
          ∧ r.2.mem ((c.tc : Thread Cert.LnReferenceIdeal.nD Cert.LnReferenceIdeal.τ).loc Cert.LnReferenceIdeal.main_arg0) = m' ((c.tc : Thread Cert.LnReferenceIdeal.nD Cert.LnReferenceIdeal.τ).loc Cert.LnReferenceIdeal.main_arg0)
          ∧ r.2.mem ((c.tc : Thread Cert.LnReferenceIdeal.nD Cert.LnReferenceIdeal.τ).loc Cert.LnReferenceIdeal.main_arg1) = m' ((c.tc : Thread Cert.LnReferenceIdeal.nD Cert.LnReferenceIdeal.τ).loc Cert.LnReferenceIdeal.main_arg1)
          ∧ r.2.mem ((c.tc : Thread Cert.LnReferenceIdeal.nD Cert.LnReferenceIdeal.τ).loc Cert.LnReferenceIdeal.main_arg2) = m' ((c.tc : Thread Cert.LnReferenceIdeal.nD Cert.LnReferenceIdeal.τ).loc Cert.LnReferenceIdeal.main_arg2)
          ∧ r.2.mem ((c.tc : Thread Cert.LnReferenceIdeal.nD Cert.LnReferenceIdeal.τ).loc Cert.LnReferenceIdeal.main_arg3) = m' ((c.tc : Thread Cert.LnReferenceIdeal.nD Cert.LnReferenceIdeal.τ).loc Cert.LnReferenceIdeal.main_arg3))

def preserves_NaKernel_NaKernelIdeal : Prop :=
  True

def algebraic_NaKernelIdeal_NaReferenceIdeal_pre_na_finite [hNaKernelIdeal : Cert.NaKernelIdeal.Facts] [hNaReferenceIdeal : Cert.NaReferenceIdeal.Facts] [hPre_na_finite : Cert.Pre_na_finite.Facts] : Prop :=
  ∀ (m : (ℓ : Loc Cert.NaKernelIdeal.nD Cert.NaKernelIdeal.τ Cert.NaKernelIdeal.sig) → Buf (Elt Ideal) ℓ) (g : Dev Cert.NaKernelIdeal.nD → PrngReg)
    (m' : (ℓ : Loc Cert.NaReferenceIdeal.nD Cert.NaReferenceIdeal.τ Cert.NaReferenceIdeal.sig) → Buf (Elt Ideal) ℓ) (g' : Dev Cert.NaReferenceIdeal.nD → PrngReg), Pre_NaKernelIdeal_na_finite m →
    (∀ c : Dev Cert.NaKernelIdeal.nD,
      m' ((c.tc : Thread Cert.NaReferenceIdeal.nD Cert.NaReferenceIdeal.τ).loc Cert.NaReferenceIdeal.main_arg0) = m ((c.tc : Thread Cert.NaKernelIdeal.nD Cert.NaKernelIdeal.τ).loc Cert.NaKernelIdeal.main_arg0)
      ∧ m' ((c.tc : Thread Cert.NaReferenceIdeal.nD Cert.NaReferenceIdeal.τ).loc Cert.NaReferenceIdeal.main_arg1) = m ((c.tc : Thread Cert.NaKernelIdeal.nD Cert.NaKernelIdeal.τ).loc Cert.NaKernelIdeal.main_arg1)
      ∧ m' ((c.tc : Thread Cert.NaReferenceIdeal.nD Cert.NaReferenceIdeal.τ).loc Cert.NaReferenceIdeal.main_arg2) = m ((c.tc : Thread Cert.NaKernelIdeal.nD Cert.NaKernelIdeal.τ).loc Cert.NaKernelIdeal.main_arg2)
      ∧ m' ((c.tc : Thread Cert.NaReferenceIdeal.nD Cert.NaReferenceIdeal.τ).loc Cert.NaReferenceIdeal.main_arg3) = m ((c.tc : Thread Cert.NaKernelIdeal.nD Cert.NaKernelIdeal.τ).loc Cert.NaKernelIdeal.main_arg3)) →
    ∃ (v0 : (c : Dev Cert.NaKernelIdeal.nD) → Buf (Elt Ideal) ((c.tc : Thread Cert.NaKernelIdeal.nD Cert.NaKernelIdeal.τ).loc Cert.NaKernelIdeal.main_v55_0)) (v1 : (c : Dev Cert.NaKernelIdeal.nD) → Buf (Elt Ideal) ((c.tc : Thread Cert.NaKernelIdeal.nD Cert.NaKernelIdeal.τ).loc Cert.NaKernelIdeal.main_v56_0)) (v2 : (c : Dev Cert.NaKernelIdeal.nD) → Buf (Elt Ideal) ((c.tc : Thread Cert.NaKernelIdeal.nD Cert.NaKernelIdeal.τ).loc Cert.NaKernelIdeal.main_v56_1)) (v3 : (c : Dev Cert.NaKernelIdeal.nD) → Buf (Elt Ideal) ((c.tc : Thread Cert.NaKernelIdeal.nD Cert.NaKernelIdeal.τ).loc Cert.NaKernelIdeal.main_v56_2)) (v4 : (c : Dev Cert.NaKernelIdeal.nD) → Buf (Elt Ideal) ((c.tc : Thread Cert.NaKernelIdeal.nD Cert.NaKernelIdeal.τ).loc Cert.NaKernelIdeal.main_v56_3)) (v5 : (c : Dev Cert.NaKernelIdeal.nD) → Buf (Elt Ideal) ((c.tc : Thread Cert.NaKernelIdeal.nD Cert.NaKernelIdeal.τ).loc Cert.NaKernelIdeal.main_v56_4)) (v6 : (c : Dev Cert.NaKernelIdeal.nD) → Buf (Elt Ideal) ((c.tc : Thread Cert.NaKernelIdeal.nD Cert.NaKernelIdeal.τ).loc Cert.NaKernelIdeal.main_v109)),
      θ_run (Cert.NaKernelIdeal.defs (F := Ideal)) (onTc (τ := Cert.NaKernelIdeal.τ) (Cert.NaKernelIdeal.main (F := Ideal))) ⟨m, fun _ => 0, g⟩ (fun r => ∀ c : Dev Cert.NaKernelIdeal.nD,
          r.2.mem ((c.tc : Thread Cert.NaKernelIdeal.nD Cert.NaKernelIdeal.τ).loc Cert.NaKernelIdeal.main_v55_0) = v0 c
          ∧ r.2.mem ((c.tc : Thread Cert.NaKernelIdeal.nD Cert.NaKernelIdeal.τ).loc Cert.NaKernelIdeal.main_v56_0) = v1 c
          ∧ r.2.mem ((c.tc : Thread Cert.NaKernelIdeal.nD Cert.NaKernelIdeal.τ).loc Cert.NaKernelIdeal.main_v56_1) = v2 c
          ∧ r.2.mem ((c.tc : Thread Cert.NaKernelIdeal.nD Cert.NaKernelIdeal.τ).loc Cert.NaKernelIdeal.main_v56_2) = v3 c
          ∧ r.2.mem ((c.tc : Thread Cert.NaKernelIdeal.nD Cert.NaKernelIdeal.τ).loc Cert.NaKernelIdeal.main_v56_3) = v4 c
          ∧ r.2.mem ((c.tc : Thread Cert.NaKernelIdeal.nD Cert.NaKernelIdeal.τ).loc Cert.NaKernelIdeal.main_v56_4) = v5 c
          ∧ r.2.mem ((c.tc : Thread Cert.NaKernelIdeal.nD Cert.NaKernelIdeal.τ).loc Cert.NaKernelIdeal.main_v109) = v6 c
          ∧ r.2.mem ((c.tc : Thread Cert.NaKernelIdeal.nD Cert.NaKernelIdeal.τ).loc Cert.NaKernelIdeal.main_arg0) = m ((c.tc : Thread Cert.NaKernelIdeal.nD Cert.NaKernelIdeal.τ).loc Cert.NaKernelIdeal.main_arg0)
          ∧ r.2.mem ((c.tc : Thread Cert.NaKernelIdeal.nD Cert.NaKernelIdeal.τ).loc Cert.NaKernelIdeal.main_arg1) = m ((c.tc : Thread Cert.NaKernelIdeal.nD Cert.NaKernelIdeal.τ).loc Cert.NaKernelIdeal.main_arg1)
          ∧ r.2.mem ((c.tc : Thread Cert.NaKernelIdeal.nD Cert.NaKernelIdeal.τ).loc Cert.NaKernelIdeal.main_arg2) = m ((c.tc : Thread Cert.NaKernelIdeal.nD Cert.NaKernelIdeal.τ).loc Cert.NaKernelIdeal.main_arg2)
          ∧ r.2.mem ((c.tc : Thread Cert.NaKernelIdeal.nD Cert.NaKernelIdeal.τ).loc Cert.NaKernelIdeal.main_arg3) = m ((c.tc : Thread Cert.NaKernelIdeal.nD Cert.NaKernelIdeal.τ).loc Cert.NaKernelIdeal.main_arg3))
      ∧ θ_run (Cert.NaReferenceIdeal.defs (F := Ideal)) (onTc (τ := Cert.NaReferenceIdeal.τ) (Cert.NaReferenceIdeal.main (F := Ideal))) ⟨m', fun _ => 0, g'⟩ (fun r => ∀ c : Dev Cert.NaReferenceIdeal.nD,
          r.2.mem ((c.tc : Thread Cert.NaReferenceIdeal.nD Cert.NaReferenceIdeal.τ).loc Cert.NaReferenceIdeal.main_v199) = v0 c
          ∧ r.2.mem ((c.tc : Thread Cert.NaReferenceIdeal.nD Cert.NaReferenceIdeal.τ).loc Cert.NaReferenceIdeal.main_v200) = v1 c
          ∧ r.2.mem ((c.tc : Thread Cert.NaReferenceIdeal.nD Cert.NaReferenceIdeal.τ).loc Cert.NaReferenceIdeal.main_v197) = v2 c
          ∧ r.2.mem ((c.tc : Thread Cert.NaReferenceIdeal.nD Cert.NaReferenceIdeal.τ).loc Cert.NaReferenceIdeal.main_v196) = v3 c
          ∧ r.2.mem ((c.tc : Thread Cert.NaReferenceIdeal.nD Cert.NaReferenceIdeal.τ).loc Cert.NaReferenceIdeal.main_v195) = v4 c
          ∧ r.2.mem ((c.tc : Thread Cert.NaReferenceIdeal.nD Cert.NaReferenceIdeal.τ).loc Cert.NaReferenceIdeal.main_v194) = v5 c
          ∧ r.2.mem ((c.tc : Thread Cert.NaReferenceIdeal.nD Cert.NaReferenceIdeal.τ).loc Cert.NaReferenceIdeal.main_v193) = v6 c
          ∧ r.2.mem ((c.tc : Thread Cert.NaReferenceIdeal.nD Cert.NaReferenceIdeal.τ).loc Cert.NaReferenceIdeal.main_arg0) = m' ((c.tc : Thread Cert.NaReferenceIdeal.nD Cert.NaReferenceIdeal.τ).loc Cert.NaReferenceIdeal.main_arg0)
          ∧ r.2.mem ((c.tc : Thread Cert.NaReferenceIdeal.nD Cert.NaReferenceIdeal.τ).loc Cert.NaReferenceIdeal.main_arg1) = m' ((c.tc : Thread Cert.NaReferenceIdeal.nD Cert.NaReferenceIdeal.τ).loc Cert.NaReferenceIdeal.main_arg1)
          ∧ r.2.mem ((c.tc : Thread Cert.NaReferenceIdeal.nD Cert.NaReferenceIdeal.τ).loc Cert.NaReferenceIdeal.main_arg2) = m' ((c.tc : Thread Cert.NaReferenceIdeal.nD Cert.NaReferenceIdeal.τ).loc Cert.NaReferenceIdeal.main_arg2)
          ∧ r.2.mem ((c.tc : Thread Cert.NaReferenceIdeal.nD Cert.NaReferenceIdeal.τ).loc Cert.NaReferenceIdeal.main_arg3) = m' ((c.tc : Thread Cert.NaReferenceIdeal.nD Cert.NaReferenceIdeal.τ).loc Cert.NaReferenceIdeal.main_arg3))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v28_0)) (v1 : (c : Dev Cert.FfnKernelIdeal.nD) → Buf (Elt Ideal) ((c.tc : Thread Cert.FfnKernelIdeal.nD Cert.FfnKernelIdeal.τ).loc Cert.FfnKernelIdeal.main_v30)) (v2 : (c : Dev Cert.FfnKernelIdeal.nD) → Buf (Elt Ideal) ((c.tc : Thread Cert.FfnKernelIdeal.nD Cert.FfnKernelIdeal.τ).loc Cert.FfnKernelIdeal.main_v31)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v28_0) = v0 c
          ∧ r.2.mem ((c.tc : Thread Cert.FfnKernelIdeal.nD Cert.FfnKernelIdeal.τ).loc Cert.FfnKernelIdeal.main_v30) = v1 c
          ∧ r.2.mem ((c.tc : Thread Cert.FfnKernelIdeal.nD Cert.FfnKernelIdeal.τ).loc Cert.FfnKernelIdeal.main_v31) = v2 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v78) = v0 c
          ∧ r.2.mem ((c.tc : Thread Cert.FfnReferenceIdeal.nD Cert.FfnReferenceIdeal.τ).loc Cert.FfnReferenceIdeal.main_v72) = v1 c
          ∧ r.2.mem ((c.tc : Thread Cert.FfnReferenceIdeal.nD Cert.FfnReferenceIdeal.τ).loc Cert.FfnReferenceIdeal.main_v41) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_SduKernel_SduKernelIdeal : Prop :=
  True

def algebraic_SduKernelIdeal_SduReferenceIdeal [hSduKernelIdeal : Cert.SduKernelIdeal.Facts] [hSduReferenceIdeal : Cert.SduReferenceIdeal.Facts] : Prop :=
  ∀ (m : (ℓ : Loc Cert.SduKernelIdeal.nD Cert.SduKernelIdeal.τ Cert.SduKernelIdeal.sig) → Buf (Elt Ideal) ℓ) (g : Dev Cert.SduKernelIdeal.nD → PrngReg)
    (m' : (ℓ : Loc Cert.SduReferenceIdeal.nD Cert.SduReferenceIdeal.τ Cert.SduReferenceIdeal.sig) → Buf (Elt Ideal) ℓ) (g' : Dev Cert.SduReferenceIdeal.nD → PrngReg), Pre_SduKernelIdeal m →
    (∀ c : Dev Cert.SduKernelIdeal.nD,
      m' ((c.tc : Thread Cert.SduReferenceIdeal.nD Cert.SduReferenceIdeal.τ).loc Cert.SduReferenceIdeal.main_arg0) = m ((c.tc : Thread Cert.SduKernelIdeal.nD Cert.SduKernelIdeal.τ).loc Cert.SduKernelIdeal.main_arg0)
      ∧ m' ((c.tc : Thread Cert.SduReferenceIdeal.nD Cert.SduReferenceIdeal.τ).loc Cert.SduReferenceIdeal.main_arg1) = m ((c.tc : Thread Cert.SduKernelIdeal.nD Cert.SduKernelIdeal.τ).loc Cert.SduKernelIdeal.main_arg1)
      ∧ m' ((c.tc : Thread Cert.SduReferenceIdeal.nD Cert.SduReferenceIdeal.τ).loc Cert.SduReferenceIdeal.main_arg2) = m ((c.tc : Thread Cert.SduKernelIdeal.nD Cert.SduKernelIdeal.τ).loc Cert.SduKernelIdeal.main_arg2)
      ∧ m' ((c.tc : Thread Cert.SduReferenceIdeal.nD Cert.SduReferenceIdeal.τ).loc Cert.SduReferenceIdeal.main_arg3) = m ((c.tc : Thread Cert.SduKernelIdeal.nD Cert.SduKernelIdeal.τ).loc Cert.SduKernelIdeal.main_arg3)) →
    ∃ (v0 : (c : Dev Cert.SduKernelIdeal.nD) → Buf (Elt Ideal) ((c.tc : Thread Cert.SduKernelIdeal.nD Cert.SduKernelIdeal.τ).loc Cert.SduKernelIdeal.main_v1)),
      θ_run (Cert.SduKernelIdeal.defs (F := Ideal)) (onTc (τ := Cert.SduKernelIdeal.τ) (Cert.SduKernelIdeal.main (F := Ideal))) ⟨m, fun _ => 0, g⟩ (fun r => ∀ c : Dev Cert.SduKernelIdeal.nD,
          r.2.mem ((c.tc : Thread Cert.SduKernelIdeal.nD Cert.SduKernelIdeal.τ).loc Cert.SduKernelIdeal.main_v1) = v0 c
          ∧ r.2.mem ((c.tc : Thread Cert.SduKernelIdeal.nD Cert.SduKernelIdeal.τ).loc Cert.SduKernelIdeal.main_arg0) = m ((c.tc : Thread Cert.SduKernelIdeal.nD Cert.SduKernelIdeal.τ).loc Cert.SduKernelIdeal.main_arg0)
          ∧ r.2.mem ((c.tc : Thread Cert.SduKernelIdeal.nD Cert.SduKernelIdeal.τ).loc Cert.SduKernelIdeal.main_arg1) = m ((c.tc : Thread Cert.SduKernelIdeal.nD Cert.SduKernelIdeal.τ).loc Cert.SduKernelIdeal.main_arg1)
          ∧ r.2.mem ((c.tc : Thread Cert.SduKernelIdeal.nD Cert.SduKernelIdeal.τ).loc Cert.SduKernelIdeal.main_arg2) = m ((c.tc : Thread Cert.SduKernelIdeal.nD Cert.SduKernelIdeal.τ).loc Cert.SduKernelIdeal.main_arg2)
          ∧ r.2.mem ((c.tc : Thread Cert.SduKernelIdeal.nD Cert.SduKernelIdeal.τ).loc Cert.SduKernelIdeal.main_arg3) = m ((c.tc : Thread Cert.SduKernelIdeal.nD Cert.SduKernelIdeal.τ).loc Cert.SduKernelIdeal.main_arg3))
      ∧ θ_run (Cert.SduReferenceIdeal.defs (F := Ideal)) (onTc (τ := Cert.SduReferenceIdeal.τ) (Cert.SduReferenceIdeal.main (F := Ideal))) ⟨m', fun _ => 0, g'⟩ (fun r => ∀ c : Dev Cert.SduReferenceIdeal.nD,
          r.2.mem ((c.tc : Thread Cert.SduReferenceIdeal.nD Cert.SduReferenceIdeal.τ).loc Cert.SduReferenceIdeal.main_v8) = v0 c
          ∧ r.2.mem ((c.tc : Thread Cert.SduReferenceIdeal.nD Cert.SduReferenceIdeal.τ).loc Cert.SduReferenceIdeal.main_arg0) = m' ((c.tc : Thread Cert.SduReferenceIdeal.nD Cert.SduReferenceIdeal.τ).loc Cert.SduReferenceIdeal.main_arg0)
          ∧ r.2.mem ((c.tc : Thread Cert.SduReferenceIdeal.nD Cert.SduReferenceIdeal.τ).loc Cert.SduReferenceIdeal.main_arg1) = m' ((c.tc : Thread Cert.SduReferenceIdeal.nD Cert.SduReferenceIdeal.τ).loc Cert.SduReferenceIdeal.main_arg1)
          ∧ r.2.mem ((c.tc : Thread Cert.SduReferenceIdeal.nD Cert.SduReferenceIdeal.τ).loc Cert.SduReferenceIdeal.main_arg2) = m' ((c.tc : Thread Cert.SduReferenceIdeal.nD Cert.SduReferenceIdeal.τ).loc Cert.SduReferenceIdeal.main_arg2)
          ∧ r.2.mem ((c.tc : Thread Cert.SduReferenceIdeal.nD Cert.SduReferenceIdeal.τ).loc Cert.SduReferenceIdeal.main_arg3) = m' ((c.tc : Thread Cert.SduReferenceIdeal.nD Cert.SduReferenceIdeal.τ).loc Cert.SduReferenceIdeal.main_arg3))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)
      ∧ m' ((c.tc : Thread Cert.ModReferenceIdeal.nD Cert.ModReferenceIdeal.τ).loc Cert.ModReferenceIdeal.main_arg3) = m ((c.tc : Thread Cert.ModKernelIdeal.nD Cert.ModKernelIdeal.τ).loc Cert.ModKernelIdeal.main_arg3)) →
    ∃ (v0 : (c : Dev Cert.ModKernelIdeal.nD) → Buf (Elt Ideal) ((c.tc : Thread Cert.ModKernelIdeal.nD Cert.ModKernelIdeal.τ).loc Cert.ModKernelIdeal.main_v5)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v5) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
          ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v21) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def preserves_GresKernel_GresKernelIdeal : Prop :=
  True

def algebraic_GresKernelIdeal_GresReferenceIdeal [hGresKernelIdeal : Cert.GresKernelIdeal.Facts] [hGresReferenceIdeal : Cert.GresReferenceIdeal.Facts] : Prop :=
  ∀ (m : (ℓ : Loc Cert.GresKernelIdeal.nD Cert.GresKernelIdeal.τ Cert.GresKernelIdeal.sig) → Buf (Elt Ideal) ℓ) (g : Dev Cert.GresKernelIdeal.nD → PrngReg)
    (m' : (ℓ : Loc Cert.GresReferenceIdeal.nD Cert.GresReferenceIdeal.τ Cert.GresReferenceIdeal.sig) → Buf (Elt Ideal) ℓ) (g' : Dev Cert.GresReferenceIdeal.nD → PrngReg), Pre_GresKernelIdeal m →
    (∀ c : Dev Cert.GresKernelIdeal.nD,
      m' ((c.tc : Thread Cert.GresReferenceIdeal.nD Cert.GresReferenceIdeal.τ).loc Cert.GresReferenceIdeal.main_arg0) = m ((c.tc : Thread Cert.GresKernelIdeal.nD Cert.GresKernelIdeal.τ).loc Cert.GresKernelIdeal.main_arg0)
      ∧ m' ((c.tc : Thread Cert.GresReferenceIdeal.nD Cert.GresReferenceIdeal.τ).loc Cert.GresReferenceIdeal.main_arg1) = m ((c.tc : Thread Cert.GresKernelIdeal.nD Cert.GresKernelIdeal.τ).loc Cert.GresKernelIdeal.main_arg1)
      ∧ m' ((c.tc : Thread Cert.GresReferenceIdeal.nD Cert.GresReferenceIdeal.τ).loc Cert.GresReferenceIdeal.main_arg2) = m ((c.tc : Thread Cert.GresKernelIdeal.nD Cert.GresKernelIdeal.τ).loc Cert.GresKernelIdeal.main_arg2)) →
    ∃ (v0 : (c : Dev Cert.GresKernelIdeal.nD) → Buf (Elt Ideal) ((c.tc : Thread Cert.GresKernelIdeal.nD Cert.GresKernelIdeal.τ).loc Cert.GresKernelIdeal.main_v1)),
      θ_run (Cert.GresKernelIdeal.defs (F := Ideal)) (onTc (τ := Cert.GresKernelIdeal.τ) (Cert.GresKernelIdeal.main (F := Ideal))) ⟨m, fun _ => 0, g⟩ (fun r => ∀ c : Dev Cert.GresKernelIdeal.nD,
          r.2.mem ((c.tc : Thread Cert.GresKernelIdeal.nD Cert.GresKernelIdeal.τ).loc Cert.GresKernelIdeal.main_v1) = v0 c
          ∧ r.2.mem ((c.tc : Thread Cert.GresKernelIdeal.nD Cert.GresKernelIdeal.τ).loc Cert.GresKernelIdeal.main_arg0) = m ((c.tc : Thread Cert.GresKernelIdeal.nD Cert.GresKernelIdeal.τ).loc Cert.GresKernelIdeal.main_arg0)
          ∧ r.2.mem ((c.tc : Thread Cert.GresKernelIdeal.nD Cert.GresKernelIdeal.τ).loc Cert.GresKernelIdeal.main_arg1) = m ((c.tc : Thread Cert.GresKernelIdeal.nD Cert.GresKernelIdeal.τ).loc Cert.GresKernelIdeal.main_arg1)
          ∧ r.2.mem ((c.tc : Thread Cert.GresKernelIdeal.nD Cert.GresKernelIdeal.τ).loc Cert.GresKernelIdeal.main_arg2) = m ((c.tc : Thread Cert.GresKernelIdeal.nD Cert.GresKernelIdeal.τ).loc Cert.GresKernelIdeal.main_arg2))
      ∧ θ_run (Cert.GresReferenceIdeal.defs (F := Ideal)) (onTc (τ := Cert.GresReferenceIdeal.τ) (Cert.GresReferenceIdeal.main (F := Ideal))) ⟨m', fun _ => 0, g'⟩ (fun r => ∀ c : Dev Cert.GresReferenceIdeal.nD,
          r.2.mem ((c.tc : Thread Cert.GresReferenceIdeal.nD Cert.GresReferenceIdeal.τ).loc Cert.GresReferenceIdeal.main_v4) = v0 c
          ∧ r.2.mem ((c.tc : Thread Cert.GresReferenceIdeal.nD Cert.GresReferenceIdeal.τ).loc Cert.GresReferenceIdeal.main_arg0) = m' ((c.tc : Thread Cert.GresReferenceIdeal.nD Cert.GresReferenceIdeal.τ).loc Cert.GresReferenceIdeal.main_arg0)
          ∧ r.2.mem ((c.tc : Thread Cert.GresReferenceIdeal.nD Cert.GresReferenceIdeal.τ).loc Cert.GresReferenceIdeal.main_arg1) = m' ((c.tc : Thread Cert.GresReferenceIdeal.nD Cert.GresReferenceIdeal.τ).loc Cert.GresReferenceIdeal.main_arg1)
          ∧ r.2.mem ((c.tc : Thread Cert.GresReferenceIdeal.nD Cert.GresReferenceIdeal.τ).loc Cert.GresReferenceIdeal.main_arg2) = m' ((c.tc : Thread Cert.GresReferenceIdeal.nD Cert.GresReferenceIdeal.τ).loc Cert.GresReferenceIdeal.main_arg2))

def preserves_RnKernel_RnKernelIdeal : Prop :=
  True

def algebraic_RnKernelIdeal_RnReferenceIdeal [hRnKernelIdeal : Cert.RnKernelIdeal.Facts] [hRnReferenceIdeal : Cert.RnReferenceIdeal.Facts] : Prop :=
  ∀ (m : (ℓ : Loc Cert.RnKernelIdeal.nD Cert.RnKernelIdeal.τ Cert.RnKernelIdeal.sig) → Buf (Elt Ideal) ℓ) (g : Dev Cert.RnKernelIdeal.nD → PrngReg)
    (m' : (ℓ : Loc Cert.RnReferenceIdeal.nD Cert.RnReferenceIdeal.τ Cert.RnReferenceIdeal.sig) → Buf (Elt Ideal) ℓ) (g' : Dev Cert.RnReferenceIdeal.nD → PrngReg), Pre_RnKernelIdeal m →
    (∀ c : Dev Cert.RnKernelIdeal.nD,
      m' ((c.tc : Thread Cert.RnReferenceIdeal.nD Cert.RnReferenceIdeal.τ).loc Cert.RnReferenceIdeal.main_arg0) = m ((c.tc : Thread Cert.RnKernelIdeal.nD Cert.RnKernelIdeal.τ).loc Cert.RnKernelIdeal.main_arg0)
      ∧ m' ((c.tc : Thread Cert.RnReferenceIdeal.nD Cert.RnReferenceIdeal.τ).loc Cert.RnReferenceIdeal.main_arg1) = m ((c.tc : Thread Cert.RnKernelIdeal.nD Cert.RnKernelIdeal.τ).loc Cert.RnKernelIdeal.main_arg1)
      ∧ m' ((c.tc : Thread Cert.RnReferenceIdeal.nD Cert.RnReferenceIdeal.τ).loc Cert.RnReferenceIdeal.main_arg2) = m ((c.tc : Thread Cert.RnKernelIdeal.nD Cert.RnKernelIdeal.τ).loc Cert.RnKernelIdeal.main_arg2)
      ∧ m' ((c.tc : Thread Cert.RnReferenceIdeal.nD Cert.RnReferenceIdeal.τ).loc Cert.RnReferenceIdeal.main_arg3) = m ((c.tc : Thread Cert.RnKernelIdeal.nD Cert.RnKernelIdeal.τ).loc Cert.RnKernelIdeal.main_arg3)
      ∧ m' ((c.tc : Thread Cert.RnReferenceIdeal.nD Cert.RnReferenceIdeal.τ).loc Cert.RnReferenceIdeal.main_arg4) = m ((c.tc : Thread Cert.RnKernelIdeal.nD Cert.RnKernelIdeal.τ).loc Cert.RnKernelIdeal.main_arg4)
      ∧ m' ((c.tc : Thread Cert.RnReferenceIdeal.nD Cert.RnReferenceIdeal.τ).loc Cert.RnReferenceIdeal.main_arg5) = m ((c.tc : Thread Cert.RnKernelIdeal.nD Cert.RnKernelIdeal.τ).loc Cert.RnKernelIdeal.main_arg5)) →
    ∃ (v0 : (c : Dev Cert.RnKernelIdeal.nD) → Buf (Elt Ideal) ((c.tc : Thread Cert.RnKernelIdeal.nD Cert.RnKernelIdeal.τ).loc Cert.RnKernelIdeal.main_v6_0)) (v1 : (c : Dev Cert.RnKernelIdeal.nD) → Buf (Elt Ideal) ((c.tc : Thread Cert.RnKernelIdeal.nD Cert.RnKernelIdeal.τ).loc Cert.RnKernelIdeal.main_v6_1)),
      θ_run (Cert.RnKernelIdeal.defs (F := Ideal)) (onTc (τ := Cert.RnKernelIdeal.τ) (Cert.RnKernelIdeal.main (F := Ideal))) ⟨m, fun _ => 0, g⟩ (fun r => ∀ c : Dev Cert.RnKernelIdeal.nD,
          r.2.mem ((c.tc : Thread Cert.RnKernelIdeal.nD Cert.RnKernelIdeal.τ).loc Cert.RnKernelIdeal.main_v6_0) = v0 c
          ∧ r.2.mem ((c.tc : Thread Cert.RnKernelIdeal.nD Cert.RnKernelIdeal.τ).loc Cert.RnKernelIdeal.main_v6_1) = v1 c
          ∧ r.2.mem ((c.tc : Thread Cert.RnKernelIdeal.nD Cert.RnKernelIdeal.τ).loc Cert.RnKernelIdeal.main_arg0) = m ((c.tc : Thread Cert.RnKernelIdeal.nD Cert.RnKernelIdeal.τ).loc Cert.RnKernelIdeal.main_arg0)
          ∧ r.2.mem ((c.tc : Thread Cert.RnKernelIdeal.nD Cert.RnKernelIdeal.τ).loc Cert.RnKernelIdeal.main_arg1) = m ((c.tc : Thread Cert.RnKernelIdeal.nD Cert.RnKernelIdeal.τ).loc Cert.RnKernelIdeal.main_arg1)
          ∧ r.2.mem ((c.tc : Thread Cert.RnKernelIdeal.nD Cert.RnKernelIdeal.τ).loc Cert.RnKernelIdeal.main_arg2) = m ((c.tc : Thread Cert.RnKernelIdeal.nD Cert.RnKernelIdeal.τ).loc Cert.RnKernelIdeal.main_arg2)
          ∧ r.2.mem ((c.tc : Thread Cert.RnKernelIdeal.nD Cert.RnKernelIdeal.τ).loc Cert.RnKernelIdeal.main_arg3) = m ((c.tc : Thread Cert.RnKernelIdeal.nD Cert.RnKernelIdeal.τ).loc Cert.RnKernelIdeal.main_arg3)
          ∧ r.2.mem ((c.tc : Thread Cert.RnKernelIdeal.nD Cert.RnKernelIdeal.τ).loc Cert.RnKernelIdeal.main_arg4) = m ((c.tc : Thread Cert.RnKernelIdeal.nD Cert.RnKernelIdeal.τ).loc Cert.RnKernelIdeal.main_arg4)
          ∧ r.2.mem ((c.tc : Thread Cert.RnKernelIdeal.nD Cert.RnKernelIdeal.τ).loc Cert.RnKernelIdeal.main_arg5) = m ((c.tc : Thread Cert.RnKernelIdeal.nD Cert.RnKernelIdeal.τ).loc Cert.RnKernelIdeal.main_arg5))
      ∧ θ_run (Cert.RnReferenceIdeal.defs (F := Ideal)) (onTc (τ := Cert.RnReferenceIdeal.τ) (Cert.RnReferenceIdeal.main (F := Ideal))) ⟨m', fun _ => 0, g'⟩ (fun r => ∀ c : Dev Cert.RnReferenceIdeal.nD,
          r.2.mem ((c.tc : Thread Cert.RnReferenceIdeal.nD Cert.RnReferenceIdeal.τ).loc Cert.RnReferenceIdeal.main_v4) = v0 c
          ∧ r.2.mem ((c.tc : Thread Cert.RnReferenceIdeal.nD Cert.RnReferenceIdeal.τ).loc Cert.RnReferenceIdeal.main_v26) = v1 c
          ∧ r.2.mem ((c.tc : Thread Cert.RnReferenceIdeal.nD Cert.RnReferenceIdeal.τ).loc Cert.RnReferenceIdeal.main_arg0) = m' ((c.tc : Thread Cert.RnReferenceIdeal.nD Cert.RnReferenceIdeal.τ).loc Cert.RnReferenceIdeal.main_arg0)
          ∧ r.2.mem ((c.tc : Thread Cert.RnReferenceIdeal.nD Cert.RnReferenceIdeal.τ).loc Cert.RnReferenceIdeal.main_arg1) = m' ((c.tc : Thread Cert.RnReferenceIdeal.nD Cert.RnReferenceIdeal.τ).loc Cert.RnReferenceIdeal.main_arg1)
          ∧ r.2.mem ((c.tc : Thread Cert.RnReferenceIdeal.nD Cert.RnReferenceIdeal.τ).loc Cert.RnReferenceIdeal.main_arg2) = m' ((c.tc : Thread Cert.RnReferenceIdeal.nD Cert.RnReferenceIdeal.τ).loc Cert.RnReferenceIdeal.main_arg2)
          ∧ r.2.mem ((c.tc : Thread Cert.RnReferenceIdeal.nD Cert.RnReferenceIdeal.τ).loc Cert.RnReferenceIdeal.main_arg3) = m' ((c.tc : Thread Cert.RnReferenceIdeal.nD Cert.RnReferenceIdeal.τ).loc Cert.RnReferenceIdeal.main_arg3)
          ∧ r.2.mem ((c.tc : Thread Cert.RnReferenceIdeal.nD Cert.RnReferenceIdeal.τ).loc Cert.RnReferenceIdeal.main_arg4) = m' ((c.tc : Thread Cert.RnReferenceIdeal.nD Cert.RnReferenceIdeal.τ).loc Cert.RnReferenceIdeal.main_arg4)
          ∧ r.2.mem ((c.tc : Thread Cert.RnReferenceIdeal.nD Cert.RnReferenceIdeal.τ).loc Cert.RnReferenceIdeal.main_arg5) = m' ((c.tc : Thread Cert.RnReferenceIdeal.nD Cert.RnReferenceIdeal.τ).loc Cert.RnReferenceIdeal.main_arg5))

def preserves_MidKernel_MidKernelIdeal : Prop :=
  True

def algebraic_MidKernelIdeal_MidReferenceIdeal [hMidKernelIdeal : Cert.MidKernelIdeal.Facts] [hMidReferenceIdeal : Cert.MidReferenceIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidKernelIdeal m →
    (∀ c : Dev Cert.MidKernelIdeal.nD,
      m' ((c.tc : Thread Cert.MidReferenceIdeal.nD Cert.MidReferenceIdeal.τ).loc Cert.MidReferenceIdeal.main_arg0) = m ((c.tc : Thread Cert.MidKernelIdeal.nD Cert.MidKernelIdeal.τ).loc Cert.MidKernelIdeal.main_arg0)
      ∧ m' ((c.tc : Thread Cert.MidReferenceIdeal.nD Cert.MidReferenceIdeal.τ).loc Cert.MidReferenceIdeal.main_arg1) = m ((c.tc : Thread Cert.MidKernelIdeal.nD Cert.MidKernelIdeal.τ).loc Cert.MidKernelIdeal.main_arg1)
      ∧ m' ((c.tc : Thread Cert.MidReferenceIdeal.nD Cert.MidReferenceIdeal.τ).loc Cert.MidReferenceIdeal.main_arg2) = m ((c.tc : Thread Cert.MidKernelIdeal.nD Cert.MidKernelIdeal.τ).loc Cert.MidKernelIdeal.main_arg2)) →
    ∃ (v0 : (c : Dev Cert.MidKernelIdeal.nD) → Buf (Elt Ideal) ((c.tc : Thread Cert.MidKernelIdeal.nD Cert.MidKernelIdeal.τ).loc Cert.MidKernelIdeal.main_v25)),
      θ_run (Cert.MidKernelIdeal.defs (F := Ideal)) (onTc (τ := Cert.MidKernelIdeal.τ) (Cert.MidKernelIdeal.main (F := Ideal))) ⟨m, fun _ => 0, g⟩ (fun r => ∀ c : Dev Cert.MidKernelIdeal.nD,
          r.2.mem ((c.tc : Thread Cert.MidKernelIdeal.nD Cert.MidKernelIdeal.τ).loc Cert.MidKernelIdeal.main_v25) = v0 c
          ∧ r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
          ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
          ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v32) = v0 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2))

def preserves_GlufKernel_GlufKernelIdeal : Prop :=
  True

def algebraic_GlufKernelIdeal_GlufReferenceIdeal [hGlufKernelIdeal : Cert.GlufKernelIdeal.Facts] [hGlufReferenceIdeal : Cert.GlufReferenceIdeal.Facts] : Prop :=
  ∀ (m : (ℓ : Loc Cert.GlufKernelIdeal.nD Cert.GlufKernelIdeal.τ Cert.GlufKernelIdeal.sig) → Buf (Elt Ideal) ℓ) (g : Dev Cert.GlufKernelIdeal.nD → PrngReg)
    (m' : (ℓ : Loc Cert.GlufReferenceIdeal.nD Cert.GlufReferenceIdeal.τ Cert.GlufReferenceIdeal.sig) → Buf (Elt Ideal) ℓ) (g' : Dev Cert.GlufReferenceIdeal.nD → PrngReg), Pre_GlufKernelIdeal m →
    (∀ c : Dev Cert.GlufKernelIdeal.nD,
      m' ((c.tc : Thread Cert.GlufReferenceIdeal.nD Cert.GlufReferenceIdeal.τ).loc Cert.GlufReferenceIdeal.main_arg0) = m ((c.tc : Thread Cert.GlufKernelIdeal.nD Cert.GlufKernelIdeal.τ).loc Cert.GlufKernelIdeal.main_arg0)
      ∧ m' ((c.tc : Thread Cert.GlufReferenceIdeal.nD Cert.GlufReferenceIdeal.τ).loc Cert.GlufReferenceIdeal.main_arg1) = m ((c.tc : Thread Cert.GlufKernelIdeal.nD Cert.GlufKernelIdeal.τ).loc Cert.GlufKernelIdeal.main_arg1)
      ∧ m' ((c.tc : Thread Cert.GlufReferenceIdeal.nD Cert.GlufReferenceIdeal.τ).loc Cert.GlufReferenceIdeal.main_arg2) = m ((c.tc : Thread Cert.GlufKernelIdeal.nD Cert.GlufKernelIdeal.τ).loc Cert.GlufKernelIdeal.main_arg2)
      ∧ m' ((c.tc : Thread Cert.GlufReferenceIdeal.nD Cert.GlufReferenceIdeal.τ).loc Cert.GlufReferenceIdeal.main_arg3) = m ((c.tc : Thread Cert.GlufKernelIdeal.nD Cert.GlufKernelIdeal.τ).loc Cert.GlufKernelIdeal.main_arg3)
      ∧ m' ((c.tc : Thread Cert.GlufReferenceIdeal.nD Cert.GlufReferenceIdeal.τ).loc Cert.GlufReferenceIdeal.main_arg4) = m ((c.tc : Thread Cert.GlufKernelIdeal.nD Cert.GlufKernelIdeal.τ).loc Cert.GlufKernelIdeal.main_arg4)) →
    ∃ (v0 : (c : Dev Cert.GlufKernelIdeal.nD) → Buf (Elt Ideal) ((c.tc : Thread Cert.GlufKernelIdeal.nD Cert.GlufKernelIdeal.τ).loc Cert.GlufKernelIdeal.main_v2)),
      θ_run (Cert.GlufKernelIdeal.defs (F := Ideal)) (onTc (τ := Cert.GlufKernelIdeal.τ) (Cert.GlufKernelIdeal.main (F := Ideal))) ⟨m, fun _ => 0, g⟩ (fun r => ∀ c : Dev Cert.GlufKernelIdeal.nD,
          r.2.mem ((c.tc : Thread Cert.GlufKernelIdeal.nD Cert.GlufKernelIdeal.τ).loc Cert.GlufKernelIdeal.main_v2) = v0 c
          ∧ r.2.mem ((c.tc : Thread Cert.GlufKernelIdeal.nD Cert.GlufKernelIdeal.τ).loc Cert.GlufKernelIdeal.main_arg0) = m ((c.tc : Thread Cert.GlufKernelIdeal.nD Cert.GlufKernelIdeal.τ).loc Cert.GlufKernelIdeal.main_arg0)
          ∧ r.2.mem ((c.tc : Thread Cert.GlufKernelIdeal.nD Cert.GlufKernelIdeal.τ).loc Cert.GlufKernelIdeal.main_arg1) = m ((c.tc : Thread Cert.GlufKernelIdeal.nD Cert.GlufKernelIdeal.τ).loc Cert.GlufKernelIdeal.main_arg1)
          ∧ r.2.mem ((c.tc : Thread Cert.GlufKernelIdeal.nD Cert.GlufKernelIdeal.τ).loc Cert.GlufKernelIdeal.main_arg2) = m ((c.tc : Thread Cert.GlufKernelIdeal.nD Cert.GlufKernelIdeal.τ).loc Cert.GlufKernelIdeal.main_arg2)
          ∧ r.2.mem ((c.tc : Thread Cert.GlufKernelIdeal.nD Cert.GlufKernelIdeal.τ).loc Cert.GlufKernelIdeal.main_arg3) = m ((c.tc : Thread Cert.GlufKernelIdeal.nD Cert.GlufKernelIdeal.τ).loc Cert.GlufKernelIdeal.main_arg3)
          ∧ r.2.mem ((c.tc : Thread Cert.GlufKernelIdeal.nD Cert.GlufKernelIdeal.τ).loc Cert.GlufKernelIdeal.main_arg4) = m ((c.tc : Thread Cert.GlufKernelIdeal.nD Cert.GlufKernelIdeal.τ).loc Cert.GlufKernelIdeal.main_arg4))
      ∧ θ_run (Cert.GlufReferenceIdeal.defs (F := Ideal)) (onTc (τ := Cert.GlufReferenceIdeal.τ) (Cert.GlufReferenceIdeal.main (F := Ideal))) ⟨m', fun _ => 0, g'⟩ (fun r => ∀ c : Dev Cert.GlufReferenceIdeal.nD,
          r.2.mem ((c.tc : Thread Cert.GlufReferenceIdeal.nD Cert.GlufReferenceIdeal.τ).loc Cert.GlufReferenceIdeal.main_v26) = v0 c
          ∧ r.2.mem ((c.tc : Thread Cert.GlufReferenceIdeal.nD Cert.GlufReferenceIdeal.τ).loc Cert.GlufReferenceIdeal.main_arg0) = m' ((c.tc : Thread Cert.GlufReferenceIdeal.nD Cert.GlufReferenceIdeal.τ).loc Cert.GlufReferenceIdeal.main_arg0)
          ∧ r.2.mem ((c.tc : Thread Cert.GlufReferenceIdeal.nD Cert.GlufReferenceIdeal.τ).loc Cert.GlufReferenceIdeal.main_arg1) = m' ((c.tc : Thread Cert.GlufReferenceIdeal.nD Cert.GlufReferenceIdeal.τ).loc Cert.GlufReferenceIdeal.main_arg1)
          ∧ r.2.mem ((c.tc : Thread Cert.GlufReferenceIdeal.nD Cert.GlufReferenceIdeal.τ).loc Cert.GlufReferenceIdeal.main_arg2) = m' ((c.tc : Thread Cert.GlufReferenceIdeal.nD Cert.GlufReferenceIdeal.τ).loc Cert.GlufReferenceIdeal.main_arg2)
          ∧ r.2.mem ((c.tc : Thread Cert.GlufReferenceIdeal.nD Cert.GlufReferenceIdeal.τ).loc Cert.GlufReferenceIdeal.main_arg3) = m' ((c.tc : Thread Cert.GlufReferenceIdeal.nD Cert.GlufReferenceIdeal.τ).loc Cert.GlufReferenceIdeal.main_arg3)
          ∧ r.2.mem ((c.tc : Thread Cert.GlufReferenceIdeal.nD Cert.GlufReferenceIdeal.τ).loc Cert.GlufReferenceIdeal.main_arg4) = m' ((c.tc : Thread Cert.GlufReferenceIdeal.nD Cert.GlufReferenceIdeal.τ).loc Cert.GlufReferenceIdeal.main_arg4))

def preserves_GluKernel_GluKernelIdeal : Prop :=
  IdealRules.named_const.Statement Cert.GluKernelIdeal.κ "cubic" .f32 0x3D372713#32 ((8943 / 200000 : ℝ) : EReal)
  ∧ IdealRules.named_const.Statement Cert.GluKernelIdeal.κ "cubic3" .f32 0x3E095D4F#32 ((26829 / 200000 : ℝ) : EReal)

def algebraic_GluKernelIdeal_GluReferenceIdeal_pre_glu_finite [hGluKernelIdeal : Cert.GluKernelIdeal.Facts] [hGluReferenceIdeal : Cert.GluReferenceIdeal.Facts] [hPre_glu_finite : Cert.Pre_glu_finite.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal_glu_finite m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)
      ∧ m' ((c.tc : Thread Cert.GluReferenceIdeal.nD Cert.GluReferenceIdeal.τ).loc Cert.GluReferenceIdeal.main_arg3) = m ((c.tc : Thread Cert.GluKernelIdeal.nD Cert.GluKernelIdeal.τ).loc Cert.GluKernelIdeal.main_arg3)
      ∧ m' ((c.tc : Thread Cert.GluReferenceIdeal.nD Cert.GluReferenceIdeal.τ).loc Cert.GluReferenceIdeal.main_arg4) = m ((c.tc : Thread Cert.GluKernelIdeal.nD Cert.GluKernelIdeal.τ).loc Cert.GluKernelIdeal.main_arg4)
      ∧ m' ((c.tc : Thread Cert.GluReferenceIdeal.nD Cert.GluReferenceIdeal.τ).loc Cert.GluReferenceIdeal.main_arg5) = m ((c.tc : Thread Cert.GluKernelIdeal.nD Cert.GluKernelIdeal.τ).loc Cert.GluKernelIdeal.main_arg5)) →
    ∃ (v0 : (c : Dev Cert.GluKernelIdeal.nD) → Buf (Elt Ideal) ((c.tc : Thread Cert.GluKernelIdeal.nD Cert.GluKernelIdeal.τ).loc Cert.GluKernelIdeal.main_v4_0)) (v1 : (c : Dev Cert.GluKernelIdeal.nD) → Buf (Elt Ideal) ((c.tc : Thread Cert.GluKernelIdeal.nD Cert.GluKernelIdeal.τ).loc Cert.GluKernelIdeal.main_v4_1)) (v2 : (c : Dev Cert.GluKernelIdeal.nD) → Buf (Elt Ideal) ((c.tc : Thread Cert.GluKernelIdeal.nD Cert.GluKernelIdeal.τ).loc Cert.GluKernelIdeal.main_v4_2)) (v3 : (c : Dev Cert.GluKernelIdeal.nD) → Buf (Elt Ideal) ((c.tc : Thread Cert.GluKernelIdeal.nD Cert.GluKernelIdeal.τ).loc Cert.GluKernelIdeal.main_v5)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v4_0) = v0 c
          ∧ r.2.mem ((c.tc : Thread Cert.GluKernelIdeal.nD Cert.GluKernelIdeal.τ).loc Cert.GluKernelIdeal.main_v4_1) = v1 c
          ∧ r.2.mem ((c.tc : Thread Cert.GluKernelIdeal.nD Cert.GluKernelIdeal.τ).loc Cert.GluKernelIdeal.main_v4_2) = v2 c
          ∧ r.2.mem ((c.tc : Thread Cert.GluKernelIdeal.nD Cert.GluKernelIdeal.τ).loc Cert.GluKernelIdeal.main_v5) = v3 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
          ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
          ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4)
          ∧ r.2.mem ((c.tc : Thread Cert.GluKernelIdeal.nD Cert.GluKernelIdeal.τ).loc Cert.GluKernelIdeal.main_arg5) = m ((c.tc : Thread Cert.GluKernelIdeal.nD Cert.GluKernelIdeal.τ).loc Cert.GluKernelIdeal.main_arg5))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v1_0) = v0 c
          ∧ r.2.mem ((c.tc : Thread Cert.GluReferenceIdeal.nD Cert.GluReferenceIdeal.τ).loc Cert.GluReferenceIdeal.main_v1_1) = v1 c
          ∧ r.2.mem ((c.tc : Thread Cert.GluReferenceIdeal.nD Cert.GluReferenceIdeal.τ).loc Cert.GluReferenceIdeal.main_v1_2) = v2 c
          ∧ r.2.mem ((c.tc : Thread Cert.GluReferenceIdeal.nD Cert.GluReferenceIdeal.τ).loc Cert.GluReferenceIdeal.main_v2) = v3 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4)
          ∧ r.2.mem ((c.tc : Thread Cert.GluReferenceIdeal.nD Cert.GluReferenceIdeal.τ).loc Cert.GluReferenceIdeal.main_arg5) = m' ((c.tc : Thread Cert.GluReferenceIdeal.nD Cert.GluReferenceIdeal.τ).loc Cert.GluReferenceIdeal.main_arg5))

def preserves_DnKernel_DnKernelIdeal : Prop :=
  True

def algebraic_DnKernelIdeal_DnReferenceIdeal [hDnKernelIdeal : Cert.DnKernelIdeal.Facts] [hDnReferenceIdeal : Cert.DnReferenceIdeal.Facts] : Prop :=
  ∀ (m : (ℓ : Loc Cert.DnKernelIdeal.nD Cert.DnKernelIdeal.τ Cert.DnKernelIdeal.sig) → Buf (Elt Ideal) ℓ) (g : Dev Cert.DnKernelIdeal.nD → PrngReg)
    (m' : (ℓ : Loc Cert.DnReferenceIdeal.nD Cert.DnReferenceIdeal.τ Cert.DnReferenceIdeal.sig) → Buf (Elt Ideal) ℓ) (g' : Dev Cert.DnReferenceIdeal.nD → PrngReg), Pre_DnKernelIdeal m →
    (∀ c : Dev Cert.DnKernelIdeal.nD,
      m' ((c.tc : Thread Cert.DnReferenceIdeal.nD Cert.DnReferenceIdeal.τ).loc Cert.DnReferenceIdeal.main_arg0) = m ((c.tc : Thread Cert.DnKernelIdeal.nD Cert.DnKernelIdeal.τ).loc Cert.DnKernelIdeal.main_arg0)
      ∧ m' ((c.tc : Thread Cert.DnReferenceIdeal.nD Cert.DnReferenceIdeal.τ).loc Cert.DnReferenceIdeal.main_arg1) = m ((c.tc : Thread Cert.DnKernelIdeal.nD Cert.DnKernelIdeal.τ).loc Cert.DnKernelIdeal.main_arg1)) →
    ∃ (v0 : (c : Dev Cert.DnKernelIdeal.nD) → Buf (Elt Ideal) ((c.tc : Thread Cert.DnKernelIdeal.nD Cert.DnKernelIdeal.τ).loc Cert.DnKernelIdeal.main_v1)),
      θ_run (Cert.DnKernelIdeal.defs (F := Ideal)) (onTc (τ := Cert.DnKernelIdeal.τ) (Cert.DnKernelIdeal.main (F := Ideal))) ⟨m, fun _ => 0, g⟩ (fun r => ∀ c : Dev Cert.DnKernelIdeal.nD,
          r.2.mem ((c.tc : Thread Cert.DnKernelIdeal.nD Cert.DnKernelIdeal.τ).loc Cert.DnKernelIdeal.main_v1) = v0 c
          ∧ r.2.mem ((c.tc : Thread Cert.DnKernelIdeal.nD Cert.DnKernelIdeal.τ).loc Cert.DnKernelIdeal.main_arg0) = m ((c.tc : Thread Cert.DnKernelIdeal.nD Cert.DnKernelIdeal.τ).loc Cert.DnKernelIdeal.main_arg0)
          ∧ r.2.mem ((c.tc : Thread Cert.DnKernelIdeal.nD Cert.DnKernelIdeal.τ).loc Cert.DnKernelIdeal.main_arg1) = m ((c.tc : Thread Cert.DnKernelIdeal.nD Cert.DnKernelIdeal.τ).loc Cert.DnKernelIdeal.main_arg1))
      ∧ θ_run (Cert.DnReferenceIdeal.defs (F := Ideal)) (onTc (τ := Cert.DnReferenceIdeal.τ) (Cert.DnReferenceIdeal.main (F := Ideal))) ⟨m', fun _ => 0, g'⟩ (fun r => ∀ c : Dev Cert.DnReferenceIdeal.nD,
          r.2.mem ((c.tc : Thread Cert.DnReferenceIdeal.nD Cert.DnReferenceIdeal.τ).loc Cert.DnReferenceIdeal.main_v2) = v0 c
          ∧ r.2.mem ((c.tc : Thread Cert.DnReferenceIdeal.nD Cert.DnReferenceIdeal.τ).loc Cert.DnReferenceIdeal.main_arg0) = m' ((c.tc : Thread Cert.DnReferenceIdeal.nD Cert.DnReferenceIdeal.τ).loc Cert.DnReferenceIdeal.main_arg0)
          ∧ r.2.mem ((c.tc : Thread Cert.DnReferenceIdeal.nD Cert.DnReferenceIdeal.τ).loc Cert.DnReferenceIdeal.main_arg1) = m' ((c.tc : Thread Cert.DnReferenceIdeal.nD Cert.DnReferenceIdeal.τ).loc Cert.DnReferenceIdeal.main_arg1))

def preserves_DnxKernel_DnxKernelIdeal : Prop :=
  True

def algebraic_DnxKernelIdeal_DnxReferenceIdeal [hDnxKernelIdeal : Cert.DnxKernelIdeal.Facts] [hDnxReferenceIdeal : Cert.DnxReferenceIdeal.Facts] : Prop :=
  ∀ (m : (ℓ : Loc Cert.DnxKernelIdeal.nD Cert.DnxKernelIdeal.τ Cert.DnxKernelIdeal.sig) → Buf (Elt Ideal) ℓ) (g : Dev Cert.DnxKernelIdeal.nD → PrngReg)
    (m' : (ℓ : Loc Cert.DnxReferenceIdeal.nD Cert.DnxReferenceIdeal.τ Cert.DnxReferenceIdeal.sig) → Buf (Elt Ideal) ℓ) (g' : Dev Cert.DnxReferenceIdeal.nD → PrngReg), Pre_DnxKernelIdeal m →
    (∀ c : Dev Cert.DnxKernelIdeal.nD,
      m' ((c.tc : Thread Cert.DnxReferenceIdeal.nD Cert.DnxReferenceIdeal.τ).loc Cert.DnxReferenceIdeal.main_arg0) = m ((c.tc : Thread Cert.DnxKernelIdeal.nD Cert.DnxKernelIdeal.τ).loc Cert.DnxKernelIdeal.main_arg0)
      ∧ m' ((c.tc : Thread Cert.DnxReferenceIdeal.nD Cert.DnxReferenceIdeal.τ).loc Cert.DnxReferenceIdeal.main_arg1) = m ((c.tc : Thread Cert.DnxKernelIdeal.nD Cert.DnxKernelIdeal.τ).loc Cert.DnxKernelIdeal.main_arg1)) →
    ∃ (v0 : (c : Dev Cert.DnxKernelIdeal.nD) → Buf (Elt Ideal) ((c.tc : Thread Cert.DnxKernelIdeal.nD Cert.DnxKernelIdeal.τ).loc Cert.DnxKernelIdeal.main_v1)),
      θ_run (Cert.DnxKernelIdeal.defs (F := Ideal)) (onTc (τ := Cert.DnxKernelIdeal.τ) (Cert.DnxKernelIdeal.main (F := Ideal))) ⟨m, fun _ => 0, g⟩ (fun r => ∀ c : Dev Cert.DnxKernelIdeal.nD,
          r.2.mem ((c.tc : Thread Cert.DnxKernelIdeal.nD Cert.DnxKernelIdeal.τ).loc Cert.DnxKernelIdeal.main_v1) = v0 c
          ∧ r.2.mem ((c.tc : Thread Cert.DnxKernelIdeal.nD Cert.DnxKernelIdeal.τ).loc Cert.DnxKernelIdeal.main_arg0) = m ((c.tc : Thread Cert.DnxKernelIdeal.nD Cert.DnxKernelIdeal.τ).loc Cert.DnxKernelIdeal.main_arg0)
          ∧ r.2.mem ((c.tc : Thread Cert.DnxKernelIdeal.nD Cert.DnxKernelIdeal.τ).loc Cert.DnxKernelIdeal.main_arg1) = m ((c.tc : Thread Cert.DnxKernelIdeal.nD Cert.DnxKernelIdeal.τ).loc Cert.DnxKernelIdeal.main_arg1))
      ∧ θ_run (Cert.DnxReferenceIdeal.defs (F := Ideal)) (onTc (τ := Cert.DnxReferenceIdeal.τ) (Cert.DnxReferenceIdeal.main (F := Ideal))) ⟨m', fun _ => 0, g'⟩ (fun r => ∀ c : Dev Cert.DnxReferenceIdeal.nD,
          r.2.mem ((c.tc : Thread Cert.DnxReferenceIdeal.nD Cert.DnxReferenceIdeal.τ).loc Cert.DnxReferenceIdeal.main_v4) = v0 c
          ∧ r.2.mem ((c.tc : Thread Cert.DnxReferenceIdeal.nD Cert.DnxReferenceIdeal.τ).loc Cert.DnxReferenceIdeal.main_arg0) = m' ((c.tc : Thread Cert.DnxReferenceIdeal.nD Cert.DnxReferenceIdeal.τ).loc Cert.DnxReferenceIdeal.main_arg0)
          ∧ r.2.mem ((c.tc : Thread Cert.DnxReferenceIdeal.nD Cert.DnxReferenceIdeal.τ).loc Cert.DnxReferenceIdeal.main_arg1) = m' ((c.tc : Thread Cert.DnxReferenceIdeal.nD Cert.DnxReferenceIdeal.τ).loc Cert.DnxReferenceIdeal.main_arg1))

def preserves_DnwKernel_DnwKernelIdeal : Prop :=
  True

def algebraic_DnwKernelIdeal_DnwReferenceIdeal [hDnwKernelIdeal : Cert.DnwKernelIdeal.Facts] [hDnwReferenceIdeal : Cert.DnwReferenceIdeal.Facts] : Prop :=
  ∀ (m : (ℓ : Loc Cert.DnwKernelIdeal.nD Cert.DnwKernelIdeal.τ Cert.DnwKernelIdeal.sig) → Buf (Elt Ideal) ℓ) (g : Dev Cert.DnwKernelIdeal.nD → PrngReg)
    (m' : (ℓ : Loc Cert.DnwReferenceIdeal.nD Cert.DnwReferenceIdeal.τ Cert.DnwReferenceIdeal.sig) → Buf (Elt Ideal) ℓ) (g' : Dev Cert.DnwReferenceIdeal.nD → PrngReg), Pre_DnwKernelIdeal m →
    (∀ c : Dev Cert.DnwKernelIdeal.nD,
      m' ((c.tc : Thread Cert.DnwReferenceIdeal.nD Cert.DnwReferenceIdeal.τ).loc Cert.DnwReferenceIdeal.main_arg0) = m ((c.tc : Thread Cert.DnwKernelIdeal.nD Cert.DnwKernelIdeal.τ).loc Cert.DnwKernelIdeal.main_arg0)
      ∧ m' ((c.tc : Thread Cert.DnwReferenceIdeal.nD Cert.DnwReferenceIdeal.τ).loc Cert.DnwReferenceIdeal.main_arg1) = m ((c.tc : Thread Cert.DnwKernelIdeal.nD Cert.DnwKernelIdeal.τ).loc Cert.DnwKernelIdeal.main_arg1)) →
    ∃ (v0 : (c : Dev Cert.DnwKernelIdeal.nD) → Buf (Elt Ideal) ((c.tc : Thread Cert.DnwKernelIdeal.nD Cert.DnwKernelIdeal.τ).loc Cert.DnwKernelIdeal.main_v0)),
      θ_run (Cert.DnwKernelIdeal.defs (F := Ideal)) (onTc (τ := Cert.DnwKernelIdeal.τ) (Cert.DnwKernelIdeal.main (F := Ideal))) ⟨m, fun _ => 0, g⟩ (fun r => ∀ c : Dev Cert.DnwKernelIdeal.nD,
          r.2.mem ((c.tc : Thread Cert.DnwKernelIdeal.nD Cert.DnwKernelIdeal.τ).loc Cert.DnwKernelIdeal.main_v0) = v0 c
          ∧ r.2.mem ((c.tc : Thread Cert.DnwKernelIdeal.nD Cert.DnwKernelIdeal.τ).loc Cert.DnwKernelIdeal.main_arg0) = m ((c.tc : Thread Cert.DnwKernelIdeal.nD Cert.DnwKernelIdeal.τ).loc Cert.DnwKernelIdeal.main_arg0)
          ∧ r.2.mem ((c.tc : Thread Cert.DnwKernelIdeal.nD Cert.DnwKernelIdeal.τ).loc Cert.DnwKernelIdeal.main_arg1) = m ((c.tc : Thread Cert.DnwKernelIdeal.nD Cert.DnwKernelIdeal.τ).loc Cert.DnwKernelIdeal.main_arg1))
      ∧ θ_run (Cert.DnwReferenceIdeal.defs (F := Ideal)) (onTc (τ := Cert.DnwReferenceIdeal.τ) (Cert.DnwReferenceIdeal.main (F := Ideal))) ⟨m', fun _ => 0, g'⟩ (fun r => ∀ c : Dev Cert.DnwReferenceIdeal.nD,
          r.2.mem ((c.tc : Thread Cert.DnwReferenceIdeal.nD Cert.DnwReferenceIdeal.τ).loc Cert.DnwReferenceIdeal.main_v6) = v0 c
          ∧ r.2.mem ((c.tc : Thread Cert.DnwReferenceIdeal.nD Cert.DnwReferenceIdeal.τ).loc Cert.DnwReferenceIdeal.main_arg0) = m' ((c.tc : Thread Cert.DnwReferenceIdeal.nD Cert.DnwReferenceIdeal.τ).loc Cert.DnwReferenceIdeal.main_arg0)
          ∧ r.2.mem ((c.tc : Thread Cert.DnwReferenceIdeal.nD Cert.DnwReferenceIdeal.τ).loc Cert.DnwReferenceIdeal.main_arg1) = m' ((c.tc : Thread Cert.DnwReferenceIdeal.nD Cert.DnwReferenceIdeal.τ).loc Cert.DnwReferenceIdeal.main_arg1))

def preserves_UpfKernel_UpfKernelIdeal : Prop :=
  True

def algebraic_UpfKernelIdeal_UpfReferenceIdeal [hUpfKernelIdeal : Cert.UpfKernelIdeal.Facts] [hUpfReferenceIdeal : Cert.UpfReferenceIdeal.Facts] : Prop :=
  ∀ (m : (ℓ : Loc Cert.UpfKernelIdeal.nD Cert.UpfKernelIdeal.τ Cert.UpfKernelIdeal.sig) → Buf (Elt Ideal) ℓ) (g : Dev Cert.UpfKernelIdeal.nD → PrngReg)
    (m' : (ℓ : Loc Cert.UpfReferenceIdeal.nD Cert.UpfReferenceIdeal.τ Cert.UpfReferenceIdeal.sig) → Buf (Elt Ideal) ℓ) (g' : Dev Cert.UpfReferenceIdeal.nD → PrngReg), Pre_UpfKernelIdeal m →
    (∀ c : Dev Cert.UpfKernelIdeal.nD,
      m' ((c.tc : Thread Cert.UpfReferenceIdeal.nD Cert.UpfReferenceIdeal.τ).loc Cert.UpfReferenceIdeal.main_arg0) = m ((c.tc : Thread Cert.UpfKernelIdeal.nD Cert.UpfKernelIdeal.τ).loc Cert.UpfKernelIdeal.main_arg0)
      ∧ m' ((c.tc : Thread Cert.UpfReferenceIdeal.nD Cert.UpfReferenceIdeal.τ).loc Cert.UpfReferenceIdeal.main_arg1) = m ((c.tc : Thread Cert.UpfKernelIdeal.nD Cert.UpfKernelIdeal.τ).loc Cert.UpfKernelIdeal.main_arg1)) →
    ∃ (v0 : (c : Dev Cert.UpfKernelIdeal.nD) → Buf (Elt Ideal) ((c.tc : Thread Cert.UpfKernelIdeal.nD Cert.UpfKernelIdeal.τ).loc Cert.UpfKernelIdeal.main_v3)),
      θ_run (Cert.UpfKernelIdeal.defs (F := Ideal)) (onTc (τ := Cert.UpfKernelIdeal.τ) (Cert.UpfKernelIdeal.main (F := Ideal))) ⟨m, fun _ => 0, g⟩ (fun r => ∀ c : Dev Cert.UpfKernelIdeal.nD,
          r.2.mem ((c.tc : Thread Cert.UpfKernelIdeal.nD Cert.UpfKernelIdeal.τ).loc Cert.UpfKernelIdeal.main_v3) = v0 c
          ∧ r.2.mem ((c.tc : Thread Cert.UpfKernelIdeal.nD Cert.UpfKernelIdeal.τ).loc Cert.UpfKernelIdeal.main_arg0) = m ((c.tc : Thread Cert.UpfKernelIdeal.nD Cert.UpfKernelIdeal.τ).loc Cert.UpfKernelIdeal.main_arg0)
          ∧ r.2.mem ((c.tc : Thread Cert.UpfKernelIdeal.nD Cert.UpfKernelIdeal.τ).loc Cert.UpfKernelIdeal.main_arg1) = m ((c.tc : Thread Cert.UpfKernelIdeal.nD Cert.UpfKernelIdeal.τ).loc Cert.UpfKernelIdeal.main_arg1))
      ∧ θ_run (Cert.UpfReferenceIdeal.defs (F := Ideal)) (onTc (τ := Cert.UpfReferenceIdeal.τ) (Cert.UpfReferenceIdeal.main (F := Ideal))) ⟨m', fun _ => 0, g'⟩ (fun r => ∀ c : Dev Cert.UpfReferenceIdeal.nD,
          r.2.mem ((c.tc : Thread Cert.UpfReferenceIdeal.nD Cert.UpfReferenceIdeal.τ).loc Cert.UpfReferenceIdeal.main_v4) = v0 c
          ∧ r.2.mem ((c.tc : Thread Cert.UpfReferenceIdeal.nD Cert.UpfReferenceIdeal.τ).loc Cert.UpfReferenceIdeal.main_arg0) = m' ((c.tc : Thread Cert.UpfReferenceIdeal.nD Cert.UpfReferenceIdeal.τ).loc Cert.UpfReferenceIdeal.main_arg0)
          ∧ r.2.mem ((c.tc : Thread Cert.UpfReferenceIdeal.nD Cert.UpfReferenceIdeal.τ).loc Cert.UpfReferenceIdeal.main_arg1) = m' ((c.tc : Thread Cert.UpfReferenceIdeal.nD Cert.UpfReferenceIdeal.τ).loc Cert.UpfReferenceIdeal.main_arg1))

def preserves_UpwKernel_UpwKernelIdeal : Prop :=
  True

def algebraic_UpwKernelIdeal_UpwReferenceIdeal [hUpwKernelIdeal : Cert.UpwKernelIdeal.Facts] [hUpwReferenceIdeal : Cert.UpwReferenceIdeal.Facts] : Prop :=
  ∀ (m : (ℓ : Loc Cert.UpwKernelIdeal.nD Cert.UpwKernelIdeal.τ Cert.UpwKernelIdeal.sig) → Buf (Elt Ideal) ℓ) (g : Dev Cert.UpwKernelIdeal.nD → PrngReg)
    (m' : (ℓ : Loc Cert.UpwReferenceIdeal.nD Cert.UpwReferenceIdeal.τ Cert.UpwReferenceIdeal.sig) → Buf (Elt Ideal) ℓ) (g' : Dev Cert.UpwReferenceIdeal.nD → PrngReg), Pre_UpwKernelIdeal m →
    (∀ c : Dev Cert.UpwKernelIdeal.nD,
      m' ((c.tc : Thread Cert.UpwReferenceIdeal.nD Cert.UpwReferenceIdeal.τ).loc Cert.UpwReferenceIdeal.main_arg0) = m ((c.tc : Thread Cert.UpwKernelIdeal.nD Cert.UpwKernelIdeal.τ).loc Cert.UpwKernelIdeal.main_arg0)
      ∧ m' ((c.tc : Thread Cert.UpwReferenceIdeal.nD Cert.UpwReferenceIdeal.τ).loc Cert.UpwReferenceIdeal.main_arg1) = m ((c.tc : Thread Cert.UpwKernelIdeal.nD Cert.UpwKernelIdeal.τ).loc Cert.UpwKernelIdeal.main_arg1)) →
    ∃ (v0 : (c : Dev Cert.UpwKernelIdeal.nD) → Buf (Elt Ideal) ((c.tc : Thread Cert.UpwKernelIdeal.nD Cert.UpwKernelIdeal.τ).loc Cert.UpwKernelIdeal.main_v2)),
      θ_run (Cert.UpwKernelIdeal.defs (F := Ideal)) (onTc (τ := Cert.UpwKernelIdeal.τ) (Cert.UpwKernelIdeal.main (F := Ideal))) ⟨m, fun _ => 0, g⟩ (fun r => ∀ c : Dev Cert.UpwKernelIdeal.nD,
          r.2.mem ((c.tc : Thread Cert.UpwKernelIdeal.nD Cert.UpwKernelIdeal.τ).loc Cert.UpwKernelIdeal.main_v2) = v0 c
          ∧ r.2.mem ((c.tc : Thread Cert.UpwKernelIdeal.nD Cert.UpwKernelIdeal.τ).loc Cert.UpwKernelIdeal.main_arg0) = m ((c.tc : Thread Cert.UpwKernelIdeal.nD Cert.UpwKernelIdeal.τ).loc Cert.UpwKernelIdeal.main_arg0)
          ∧ r.2.mem ((c.tc : Thread Cert.UpwKernelIdeal.nD Cert.UpwKernelIdeal.τ).loc Cert.UpwKernelIdeal.main_arg1) = m ((c.tc : Thread Cert.UpwKernelIdeal.nD Cert.UpwKernelIdeal.τ).loc Cert.UpwKernelIdeal.main_arg1))
      ∧ θ_run (Cert.UpwReferenceIdeal.defs (F := Ideal)) (onTc (τ := Cert.UpwReferenceIdeal.τ) (Cert.UpwReferenceIdeal.main (F := Ideal))) ⟨m', fun _ => 0, g'⟩ (fun r => ∀ c : Dev Cert.UpwReferenceIdeal.nD,
          r.2.mem ((c.tc : Thread Cert.UpwReferenceIdeal.nD Cert.UpwReferenceIdeal.τ).loc Cert.UpwReferenceIdeal.main_v8) = v0 c
          ∧ r.2.mem ((c.tc : Thread Cert.UpwReferenceIdeal.nD Cert.UpwReferenceIdeal.τ).loc Cert.UpwReferenceIdeal.main_arg0) = m' ((c.tc : Thread Cert.UpwReferenceIdeal.nD Cert.UpwReferenceIdeal.τ).loc Cert.UpwReferenceIdeal.main_arg0)
          ∧ r.2.mem ((c.tc : Thread Cert.UpwReferenceIdeal.nD Cert.UpwReferenceIdeal.τ).loc Cert.UpwReferenceIdeal.main_arg1) = m' ((c.tc : Thread Cert.UpwReferenceIdeal.nD Cert.UpwReferenceIdeal.τ).loc Cert.UpwReferenceIdeal.main_arg1))

def preserves_UpxKernel_UpxKernelIdeal : Prop :=
  True

def algebraic_UpxKernelIdeal_UpxReferenceIdeal [hUpxKernelIdeal : Cert.UpxKernelIdeal.Facts] [hUpxReferenceIdeal : Cert.UpxReferenceIdeal.Facts] : Prop :=
  ∀ (m : (ℓ : Loc Cert.UpxKernelIdeal.nD Cert.UpxKernelIdeal.τ Cert.UpxKernelIdeal.sig) → Buf (Elt Ideal) ℓ) (g : Dev Cert.UpxKernelIdeal.nD → PrngReg)
    (m' : (ℓ : Loc Cert.UpxReferenceIdeal.nD Cert.UpxReferenceIdeal.τ Cert.UpxReferenceIdeal.sig) → Buf (Elt Ideal) ℓ) (g' : Dev Cert.UpxReferenceIdeal.nD → PrngReg), Pre_UpxKernelIdeal m →
    (∀ c : Dev Cert.UpxKernelIdeal.nD,
      m' ((c.tc : Thread Cert.UpxReferenceIdeal.nD Cert.UpxReferenceIdeal.τ).loc Cert.UpxReferenceIdeal.main_arg0) = m ((c.tc : Thread Cert.UpxKernelIdeal.nD Cert.UpxKernelIdeal.τ).loc Cert.UpxKernelIdeal.main_arg0)
      ∧ m' ((c.tc : Thread Cert.UpxReferenceIdeal.nD Cert.UpxReferenceIdeal.τ).loc Cert.UpxReferenceIdeal.main_arg1) = m ((c.tc : Thread Cert.UpxKernelIdeal.nD Cert.UpxKernelIdeal.τ).loc Cert.UpxKernelIdeal.main_arg1)) →
    ∃ (v0 : (c : Dev Cert.UpxKernelIdeal.nD) → Buf (Elt Ideal) ((c.tc : Thread Cert.UpxKernelIdeal.nD Cert.UpxKernelIdeal.τ).loc Cert.UpxKernelIdeal.main_v5)),
      θ_run (Cert.UpxKernelIdeal.defs (F := Ideal)) (onTc (τ := Cert.UpxKernelIdeal.τ) (Cert.UpxKernelIdeal.main (F := Ideal))) ⟨m, fun _ => 0, g⟩ (fun r => ∀ c : Dev Cert.UpxKernelIdeal.nD,
          r.2.mem ((c.tc : Thread Cert.UpxKernelIdeal.nD Cert.UpxKernelIdeal.τ).loc Cert.UpxKernelIdeal.main_v5) = v0 c
          ∧ r.2.mem ((c.tc : Thread Cert.UpxKernelIdeal.nD Cert.UpxKernelIdeal.τ).loc Cert.UpxKernelIdeal.main_arg0) = m ((c.tc : Thread Cert.UpxKernelIdeal.nD Cert.UpxKernelIdeal.τ).loc Cert.UpxKernelIdeal.main_arg0)
          ∧ r.2.mem ((c.tc : Thread Cert.UpxKernelIdeal.nD Cert.UpxKernelIdeal.τ).loc Cert.UpxKernelIdeal.main_arg1) = m ((c.tc : Thread Cert.UpxKernelIdeal.nD Cert.UpxKernelIdeal.τ).loc Cert.UpxKernelIdeal.main_arg1))
      ∧ θ_run (Cert.UpxReferenceIdeal.defs (F := Ideal)) (onTc (τ := Cert.UpxReferenceIdeal.τ) (Cert.UpxReferenceIdeal.main (F := Ideal))) ⟨m', fun _ => 0, g'⟩ (fun r => ∀ c : Dev Cert.UpxReferenceIdeal.nD,
          r.2.mem ((c.tc : Thread Cert.UpxReferenceIdeal.nD Cert.UpxReferenceIdeal.τ).loc Cert.UpxReferenceIdeal.main_v4) = v0 c
          ∧ r.2.mem ((c.tc : Thread Cert.UpxReferenceIdeal.nD Cert.UpxReferenceIdeal.τ).loc Cert.UpxReferenceIdeal.main_arg0) = m' ((c.tc : Thread Cert.UpxReferenceIdeal.nD Cert.UpxReferenceIdeal.τ).loc Cert.UpxReferenceIdeal.main_arg0)
          ∧ r.2.mem ((c.tc : Thread Cert.UpxReferenceIdeal.nD Cert.UpxReferenceIdeal.τ).loc Cert.UpxReferenceIdeal.main_arg1) = m' ((c.tc : Thread Cert.UpxReferenceIdeal.nD Cert.UpxReferenceIdeal.τ).loc Cert.UpxReferenceIdeal.main_arg1))

def preserves_InxKernel_InxKernelIdeal : Prop :=
  True

def algebraic_InxKernelIdeal_InxReferenceIdeal [hInxKernelIdeal : Cert.InxKernelIdeal.Facts] [hInxReferenceIdeal : Cert.InxReferenceIdeal.Facts] : Prop :=
  ∀ (m : (ℓ : Loc Cert.InxKernelIdeal.nD Cert.InxKernelIdeal.τ Cert.InxKernelIdeal.sig) → Buf (Elt Ideal) ℓ) (g : Dev Cert.InxKernelIdeal.nD → PrngReg)
    (m' : (ℓ : Loc Cert.InxReferenceIdeal.nD Cert.InxReferenceIdeal.τ Cert.InxReferenceIdeal.sig) → Buf (Elt Ideal) ℓ) (g' : Dev Cert.InxReferenceIdeal.nD → PrngReg), Pre_InxKernelIdeal m →
    (∀ c : Dev Cert.InxKernelIdeal.nD,
      m' ((c.tc : Thread Cert.InxReferenceIdeal.nD Cert.InxReferenceIdeal.τ).loc Cert.InxReferenceIdeal.main_arg0) = m ((c.tc : Thread Cert.InxKernelIdeal.nD Cert.InxKernelIdeal.τ).loc Cert.InxKernelIdeal.main_arg0)
      ∧ m' ((c.tc : Thread Cert.InxReferenceIdeal.nD Cert.InxReferenceIdeal.τ).loc Cert.InxReferenceIdeal.main_arg1) = m ((c.tc : Thread Cert.InxKernelIdeal.nD Cert.InxKernelIdeal.τ).loc Cert.InxKernelIdeal.main_arg1)
      ∧ m' ((c.tc : Thread Cert.InxReferenceIdeal.nD Cert.InxReferenceIdeal.τ).loc Cert.InxReferenceIdeal.main_arg2) = m ((c.tc : Thread Cert.InxKernelIdeal.nD Cert.InxKernelIdeal.τ).loc Cert.InxKernelIdeal.main_arg2)
      ∧ m' ((c.tc : Thread Cert.InxReferenceIdeal.nD Cert.InxReferenceIdeal.τ).loc Cert.InxReferenceIdeal.main_arg3) = m ((c.tc : Thread Cert.InxKernelIdeal.nD Cert.InxKernelIdeal.τ).loc Cert.InxKernelIdeal.main_arg3)
      ∧ m' ((c.tc : Thread Cert.InxReferenceIdeal.nD Cert.InxReferenceIdeal.τ).loc Cert.InxReferenceIdeal.main_arg4) = m ((c.tc : Thread Cert.InxKernelIdeal.nD Cert.InxKernelIdeal.τ).loc Cert.InxKernelIdeal.main_arg4)) →
    ∃ (v0 : (c : Dev Cert.InxKernelIdeal.nD) → Buf (Elt Ideal) ((c.tc : Thread Cert.InxKernelIdeal.nD Cert.InxKernelIdeal.τ).loc Cert.InxKernelIdeal.main_v3)),
      θ_run (Cert.InxKernelIdeal.defs (F := Ideal)) (onTc (τ := Cert.InxKernelIdeal.τ) (Cert.InxKernelIdeal.main (F := Ideal))) ⟨m, fun _ => 0, g⟩ (fun r => ∀ c : Dev Cert.InxKernelIdeal.nD,
          r.2.mem ((c.tc : Thread Cert.InxKernelIdeal.nD Cert.InxKernelIdeal.τ).loc Cert.InxKernelIdeal.main_v3) = v0 c
          ∧ r.2.mem ((c.tc : Thread Cert.InxKernelIdeal.nD Cert.InxKernelIdeal.τ).loc Cert.InxKernelIdeal.main_arg0) = m ((c.tc : Thread Cert.InxKernelIdeal.nD Cert.InxKernelIdeal.τ).loc Cert.InxKernelIdeal.main_arg0)
          ∧ r.2.mem ((c.tc : Thread Cert.InxKernelIdeal.nD Cert.InxKernelIdeal.τ).loc Cert.InxKernelIdeal.main_arg1) = m ((c.tc : Thread Cert.InxKernelIdeal.nD Cert.InxKernelIdeal.τ).loc Cert.InxKernelIdeal.main_arg1)
          ∧ r.2.mem ((c.tc : Thread Cert.InxKernelIdeal.nD Cert.InxKernelIdeal.τ).loc Cert.InxKernelIdeal.main_arg2) = m ((c.tc : Thread Cert.InxKernelIdeal.nD Cert.InxKernelIdeal.τ).loc Cert.InxKernelIdeal.main_arg2)
          ∧ r.2.mem ((c.tc : Thread Cert.InxKernelIdeal.nD Cert.InxKernelIdeal.τ).loc Cert.InxKernelIdeal.main_arg3) = m ((c.tc : Thread Cert.InxKernelIdeal.nD Cert.InxKernelIdeal.τ).loc Cert.InxKernelIdeal.main_arg3)
          ∧ r.2.mem ((c.tc : Thread Cert.InxKernelIdeal.nD Cert.InxKernelIdeal.τ).loc Cert.InxKernelIdeal.main_arg4) = m ((c.tc : Thread Cert.InxKernelIdeal.nD Cert.InxKernelIdeal.τ).loc Cert.InxKernelIdeal.main_arg4))
      ∧ θ_run (Cert.InxReferenceIdeal.defs (F := Ideal)) (onTc (τ := Cert.InxReferenceIdeal.τ) (Cert.InxReferenceIdeal.main (F := Ideal))) ⟨m', fun _ => 0, g'⟩ (fun r => ∀ c : Dev Cert.InxReferenceIdeal.nD,
          r.2.mem ((c.tc : Thread Cert.InxReferenceIdeal.nD Cert.InxReferenceIdeal.τ).loc Cert.InxReferenceIdeal.main_v5) = v0 c
          ∧ r.2.mem ((c.tc : Thread Cert.InxReferenceIdeal.nD Cert.InxReferenceIdeal.τ).loc Cert.InxReferenceIdeal.main_arg0) = m' ((c.tc : Thread Cert.InxReferenceIdeal.nD Cert.InxReferenceIdeal.τ).loc Cert.InxReferenceIdeal.main_arg0)
          ∧ r.2.mem ((c.tc : Thread Cert.InxReferenceIdeal.nD Cert.InxReferenceIdeal.τ).loc Cert.InxReferenceIdeal.main_arg1) = m' ((c.tc : Thread Cert.InxReferenceIdeal.nD Cert.InxReferenceIdeal.τ).loc Cert.InxReferenceIdeal.main_arg1)
          ∧ r.2.mem ((c.tc : Thread Cert.InxReferenceIdeal.nD Cert.InxReferenceIdeal.τ).loc Cert.InxReferenceIdeal.main_arg2) = m' ((c.tc : Thread Cert.InxReferenceIdeal.nD Cert.InxReferenceIdeal.τ).loc Cert.InxReferenceIdeal.main_arg2)
          ∧ r.2.mem ((c.tc : Thread Cert.InxReferenceIdeal.nD Cert.InxReferenceIdeal.τ).loc Cert.InxReferenceIdeal.main_arg3) = m' ((c.tc : Thread Cert.InxReferenceIdeal.nD Cert.InxReferenceIdeal.τ).loc Cert.InxReferenceIdeal.main_arg3)
          ∧ r.2.mem ((c.tc : Thread Cert.InxReferenceIdeal.nD Cert.InxReferenceIdeal.τ).loc Cert.InxReferenceIdeal.main_arg4) = m' ((c.tc : Thread Cert.InxReferenceIdeal.nD Cert.InxReferenceIdeal.τ).loc Cert.InxReferenceIdeal.main_arg4))

def preserves_AddhKernel_AddhKernelIdeal : Prop :=
  True

def algebraic_AddhKernelIdeal_AddhReferenceIdeal [hAddhKernelIdeal : Cert.AddhKernelIdeal.Facts] [hAddhReferenceIdeal : Cert.AddhReferenceIdeal.Facts] : Prop :=
  ∀ (m : (ℓ : Loc Cert.AddhKernelIdeal.nD Cert.AddhKernelIdeal.τ Cert.AddhKernelIdeal.sig) → Buf (Elt Ideal) ℓ) (g : Dev Cert.AddhKernelIdeal.nD → PrngReg)
    (m' : (ℓ : Loc Cert.AddhReferenceIdeal.nD Cert.AddhReferenceIdeal.τ Cert.AddhReferenceIdeal.sig) → Buf (Elt Ideal) ℓ) (g' : Dev Cert.AddhReferenceIdeal.nD → PrngReg), Pre_AddhKernelIdeal m →
    (∀ c : Dev Cert.AddhKernelIdeal.nD,
      m' ((c.tc : Thread Cert.AddhReferenceIdeal.nD Cert.AddhReferenceIdeal.τ).loc Cert.AddhReferenceIdeal.main_arg0) = m ((c.tc : Thread Cert.AddhKernelIdeal.nD Cert.AddhKernelIdeal.τ).loc Cert.AddhKernelIdeal.main_arg0)
      ∧ m' ((c.tc : Thread Cert.AddhReferenceIdeal.nD Cert.AddhReferenceIdeal.τ).loc Cert.AddhReferenceIdeal.main_arg1) = m ((c.tc : Thread Cert.AddhKernelIdeal.nD Cert.AddhKernelIdeal.τ).loc Cert.AddhKernelIdeal.main_arg1)
      ∧ m' ((c.tc : Thread Cert.AddhReferenceIdeal.nD Cert.AddhReferenceIdeal.τ).loc Cert.AddhReferenceIdeal.main_arg2) = m ((c.tc : Thread Cert.AddhKernelIdeal.nD Cert.AddhKernelIdeal.τ).loc Cert.AddhKernelIdeal.main_arg2)) →
    ∃ (v0 : (c : Dev Cert.AddhKernelIdeal.nD) → Buf (Elt Ideal) ((c.tc : Thread Cert.AddhKernelIdeal.nD Cert.AddhKernelIdeal.τ).loc Cert.AddhKernelIdeal.main_v2)),
      θ_run (Cert.AddhKernelIdeal.defs (F := Ideal)) (onTc (τ := Cert.AddhKernelIdeal.τ) (Cert.AddhKernelIdeal.main (F := Ideal))) ⟨m, fun _ => 0, g⟩ (fun r => ∀ c : Dev Cert.AddhKernelIdeal.nD,
          r.2.mem ((c.tc : Thread Cert.AddhKernelIdeal.nD Cert.AddhKernelIdeal.τ).loc Cert.AddhKernelIdeal.main_v2) = v0 c
          ∧ r.2.mem ((c.tc : Thread Cert.AddhKernelIdeal.nD Cert.AddhKernelIdeal.τ).loc Cert.AddhKernelIdeal.main_arg0) = m ((c.tc : Thread Cert.AddhKernelIdeal.nD Cert.AddhKernelIdeal.τ).loc Cert.AddhKernelIdeal.main_arg0)
          ∧ r.2.mem ((c.tc : Thread Cert.AddhKernelIdeal.nD Cert.AddhKernelIdeal.τ).loc Cert.AddhKernelIdeal.main_arg1) = m ((c.tc : Thread Cert.AddhKernelIdeal.nD Cert.AddhKernelIdeal.τ).loc Cert.AddhKernelIdeal.main_arg1)
          ∧ r.2.mem ((c.tc : Thread Cert.AddhKernelIdeal.nD Cert.AddhKernelIdeal.τ).loc Cert.AddhKernelIdeal.main_arg2) = m ((c.tc : Thread Cert.AddhKernelIdeal.nD Cert.AddhKernelIdeal.τ).loc Cert.AddhKernelIdeal.main_arg2))
      ∧ θ_run (Cert.AddhReferenceIdeal.defs (F := Ideal)) (onTc (τ := Cert.AddhReferenceIdeal.τ) (Cert.AddhReferenceIdeal.main (F := Ideal))) ⟨m', fun _ => 0, g'⟩ (fun r => ∀ c : Dev Cert.AddhReferenceIdeal.nD,
          r.2.mem ((c.tc : Thread Cert.AddhReferenceIdeal.nD Cert.AddhReferenceIdeal.τ).loc Cert.AddhReferenceIdeal.main_v9) = v0 c
          ∧ r.2.mem ((c.tc : Thread Cert.AddhReferenceIdeal.nD Cert.AddhReferenceIdeal.τ).loc Cert.AddhReferenceIdeal.main_arg0) = m' ((c.tc : Thread Cert.AddhReferenceIdeal.nD Cert.AddhReferenceIdeal.τ).loc Cert.AddhReferenceIdeal.main_arg0)
          ∧ r.2.mem ((c.tc : Thread Cert.AddhReferenceIdeal.nD Cert.AddhReferenceIdeal.τ).loc Cert.AddhReferenceIdeal.main_arg1) = m' ((c.tc : Thread Cert.AddhReferenceIdeal.nD Cert.AddhReferenceIdeal.τ).loc Cert.AddhReferenceIdeal.main_arg1)
          ∧ r.2.mem ((c.tc : Thread Cert.AddhReferenceIdeal.nD Cert.AddhReferenceIdeal.τ).loc Cert.AddhReferenceIdeal.main_arg2) = m' ((c.tc : Thread Cert.AddhReferenceIdeal.nD Cert.AddhReferenceIdeal.τ).loc Cert.AddhReferenceIdeal.main_arg2))

def preserves_SumlKernel_SumlKernelIdeal : Prop :=
  True

def algebraic_SumlKernelIdeal_SumlReferenceIdeal [hSumlKernelIdeal : Cert.SumlKernelIdeal.Facts] [hSumlReferenceIdeal : Cert.SumlReferenceIdeal.Facts] : Prop :=
  ∀ (m : (ℓ : Loc Cert.SumlKernelIdeal.nD Cert.SumlKernelIdeal.τ Cert.SumlKernelIdeal.sig) → Buf (Elt Ideal) ℓ) (g : Dev Cert.SumlKernelIdeal.nD → PrngReg)
    (m' : (ℓ : Loc Cert.SumlReferenceIdeal.nD Cert.SumlReferenceIdeal.τ Cert.SumlReferenceIdeal.sig) → Buf (Elt Ideal) ℓ) (g' : Dev Cert.SumlReferenceIdeal.nD → PrngReg), Pre_SumlKernelIdeal m →
    (∀ c : Dev Cert.SumlKernelIdeal.nD,
      m' ((c.tc : Thread Cert.SumlReferenceIdeal.nD Cert.SumlReferenceIdeal.τ).loc Cert.SumlReferenceIdeal.main_arg0) = m ((c.tc : Thread Cert.SumlKernelIdeal.nD Cert.SumlKernelIdeal.τ).loc Cert.SumlKernelIdeal.main_arg0)) →
    ∃ (v0 : (c : Dev Cert.SumlKernelIdeal.nD) → Buf (Elt Ideal) ((c.tc : Thread Cert.SumlKernelIdeal.nD Cert.SumlKernelIdeal.τ).loc Cert.SumlKernelIdeal.main_v0)),
      θ_run (Cert.SumlKernelIdeal.defs (F := Ideal)) (onTc (τ := Cert.SumlKernelIdeal.τ) (Cert.SumlKernelIdeal.main (F := Ideal))) ⟨m, fun _ => 0, g⟩ (fun r => ∀ c : Dev Cert.SumlKernelIdeal.nD,
          r.2.mem ((c.tc : Thread Cert.SumlKernelIdeal.nD Cert.SumlKernelIdeal.τ).loc Cert.SumlKernelIdeal.main_v0) = v0 c
          ∧ r.2.mem ((c.tc : Thread Cert.SumlKernelIdeal.nD Cert.SumlKernelIdeal.τ).loc Cert.SumlKernelIdeal.main_arg0) = m ((c.tc : Thread Cert.SumlKernelIdeal.nD Cert.SumlKernelIdeal.τ).loc Cert.SumlKernelIdeal.main_arg0))
      ∧ θ_run (Cert.SumlReferenceIdeal.defs (F := Ideal)) (onTc (τ := Cert.SumlReferenceIdeal.τ) (Cert.SumlReferenceIdeal.main (F := Ideal))) ⟨m', fun _ => 0, g'⟩ (fun r => ∀ c : Dev Cert.SumlReferenceIdeal.nD,
          r.2.mem ((c.tc : Thread Cert.SumlReferenceIdeal.nD Cert.SumlReferenceIdeal.τ).loc Cert.SumlReferenceIdeal.main_v0) = v0 c
          ∧ r.2.mem ((c.tc : Thread Cert.SumlReferenceIdeal.nD Cert.SumlReferenceIdeal.τ).loc Cert.SumlReferenceIdeal.main_arg0) = m' ((c.tc : Thread Cert.SumlReferenceIdeal.nD Cert.SumlReferenceIdeal.τ).loc Cert.SumlReferenceIdeal.main_arg0))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def Claim : Prop :=
  ∃ (hGateKernel : Cert.GateKernel.Facts) (hGateKernelIdeal : Cert.GateKernelIdeal.Facts) (hGateReferenceIdeal : Cert.GateReferenceIdeal.Facts) (hNormKernel : Cert.NormKernel.Facts) (hNormKernelIdeal : Cert.NormKernelIdeal.Facts) (hNormReferenceIdeal : Cert.NormReferenceIdeal.Facts) (hLossKernel : Cert.LossKernel.Facts) (hLossKernelIdeal : Cert.LossKernelIdeal.Facts) (hLossReferenceIdeal : Cert.LossReferenceIdeal.Facts) (hLnKernel : Cert.LnKernel.Facts) (hLnKernelIdeal : Cert.LnKernelIdeal.Facts) (hLnReferenceIdeal : Cert.LnReferenceIdeal.Facts) (hNaKernel : Cert.NaKernel.Facts) (hNaKernelIdeal : Cert.NaKernelIdeal.Facts) (hNaReferenceIdeal : Cert.NaReferenceIdeal.Facts) (hFfnKernel : Cert.FfnKernel.Facts) (hFfnKernelIdeal : Cert.FfnKernelIdeal.Facts) (hFfnReferenceIdeal : Cert.FfnReferenceIdeal.Facts) (hSduKernel : Cert.SduKernel.Facts) (hSduKernelIdeal : Cert.SduKernelIdeal.Facts) (hSduReferenceIdeal : Cert.SduReferenceIdeal.Facts) (hModKernel : Cert.ModKernel.Facts) (hModKernelIdeal : Cert.ModKernelIdeal.Facts) (hModReferenceIdeal : Cert.ModReferenceIdeal.Facts) (hGresKernel : Cert.GresKernel.Facts) (hGresKernelIdeal : Cert.GresKernelIdeal.Facts) (hGresReferenceIdeal : Cert.GresReferenceIdeal.Facts) (hRnKernel : Cert.RnKernel.Facts) (hRnKernelIdeal : Cert.RnKernelIdeal.Facts) (hRnReferenceIdeal : Cert.RnReferenceIdeal.Facts) (hMidKernel : Cert.MidKernel.Facts) (hMidKernelIdeal : Cert.MidKernelIdeal.Facts) (hMidReferenceIdeal : Cert.MidReferenceIdeal.Facts) (hGlufKernel : Cert.GlufKernel.Facts) (hGlufKernelIdeal : Cert.GlufKernelIdeal.Facts) (hGlufReferenceIdeal : Cert.GlufReferenceIdeal.Facts) (hGluKernel : Cert.GluKernel.Facts) (hGluKernelIdeal : Cert.GluKernelIdeal.Facts) (hGluReferenceIdeal : Cert.GluReferenceIdeal.Facts) (hDnKernel : Cert.DnKernel.Facts) (hDnKernelIdeal : Cert.DnKernelIdeal.Facts) (hDnReferenceIdeal : Cert.DnReferenceIdeal.Facts) (hDnxKernel : Cert.DnxKernel.Facts) (hDnxKernelIdeal : Cert.DnxKernelIdeal.Facts) (hDnxReferenceIdeal : Cert.DnxReferenceIdeal.Facts) (hDnwKernel : Cert.DnwKernel.Facts) (hDnwKernelIdeal : Cert.DnwKernelIdeal.Facts) (hDnwReferenceIdeal : Cert.DnwReferenceIdeal.Facts) (hUpfKernel : Cert.UpfKernel.Facts) (hUpfKernelIdeal : Cert.UpfKernelIdeal.Facts) (hUpfReferenceIdeal : Cert.UpfReferenceIdeal.Facts) (hUpwKernel : Cert.UpwKernel.Facts) (hUpwKernelIdeal : Cert.UpwKernelIdeal.Facts) (hUpwReferenceIdeal : Cert.UpwReferenceIdeal.Facts) (hUpxKernel : Cert.UpxKernel.Facts) (hUpxKernelIdeal : Cert.UpxKernelIdeal.Facts) (hUpxReferenceIdeal : Cert.UpxReferenceIdeal.Facts) (hInxKernel : Cert.InxKernel.Facts) (hInxKernelIdeal : Cert.InxKernelIdeal.Facts) (hInxReferenceIdeal : Cert.InxReferenceIdeal.Facts) (hAddhKernel : Cert.AddhKernel.Facts) (hAddhKernelIdeal : Cert.AddhKernelIdeal.Facts) (hAddhReferenceIdeal : Cert.AddhReferenceIdeal.Facts) (hSumlKernel : Cert.SumlKernel.Facts) (hSumlKernelIdeal : Cert.SumlKernelIdeal.Facts) (hSumlReferenceIdeal : Cert.SumlReferenceIdeal.Facts) (hAdamKernel : Cert.AdamKernel.Facts) (hAdamKernelIdeal : Cert.AdamKernelIdeal.Facts) (hAdamReferenceIdeal : Cert.AdamReferenceIdeal.Facts) (hPre_norm_finite : Cert.Pre_norm_finite.Facts) (hPre_loss_finite : Cert.Pre_loss_finite.Facts) (hPre_ln_finite : Cert.Pre_ln_finite.Facts) (hPre_na_finite : Cert.Pre_na_finite.Facts) (hPre_ffn_finite : Cert.Pre_ffn_finite.Facts) (hPre_glu_finite : Cert.Pre_glu_finite.Facts),
    quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_NormKernel (hNormKernel := hNormKernel)
    ∧ quiescent_NormKernelIdeal (hNormKernelIdeal := hNormKernelIdeal)
    ∧ quiescent_NormKernelIdeal_pre_norm_finite (hNormKernelIdeal := hNormKernelIdeal) (hPre_norm_finite := hPre_norm_finite)
    ∧ quiescent_NormReferenceIdeal (hNormReferenceIdeal := hNormReferenceIdeal)
    ∧ quiescent_NormReferenceIdeal_pre_norm_finite (hNormReferenceIdeal := hNormReferenceIdeal) (hPre_norm_finite := hPre_norm_finite)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_LnKernel (hLnKernel := hLnKernel)
    ∧ quiescent_LnKernelIdeal (hLnKernelIdeal := hLnKernelIdeal)
    ∧ quiescent_LnKernelIdeal_pre_ln_finite (hLnKernelIdeal := hLnKernelIdeal) (hPre_ln_finite := hPre_ln_finite)
    ∧ quiescent_LnReferenceIdeal (hLnReferenceIdeal := hLnReferenceIdeal)
    ∧ quiescent_LnReferenceIdeal_pre_ln_finite (hLnReferenceIdeal := hLnReferenceIdeal) (hPre_ln_finite := hPre_ln_finite)
    ∧ quiescent_NaKernel (hNaKernel := hNaKernel)
    ∧ quiescent_NaKernelIdeal (hNaKernelIdeal := hNaKernelIdeal)
    ∧ quiescent_NaKernelIdeal_pre_na_finite (hNaKernelIdeal := hNaKernelIdeal) (hPre_na_finite := hPre_na_finite)
    ∧ quiescent_NaReferenceIdeal (hNaReferenceIdeal := hNaReferenceIdeal)
    ∧ quiescent_NaReferenceIdeal_pre_na_finite (hNaReferenceIdeal := hNaReferenceIdeal) (hPre_na_finite := hPre_na_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_SduKernel (hSduKernel := hSduKernel)
    ∧ quiescent_SduKernelIdeal (hSduKernelIdeal := hSduKernelIdeal)
    ∧ quiescent_SduReferenceIdeal (hSduReferenceIdeal := hSduReferenceIdeal)
    ∧ quiescent_ModKernel (hModKernel := hModKernel)
    ∧ quiescent_ModKernelIdeal (hModKernelIdeal := hModKernelIdeal)
    ∧ quiescent_ModReferenceIdeal (hModReferenceIdeal := hModReferenceIdeal)
    ∧ quiescent_GresKernel (hGresKernel := hGresKernel)
    ∧ quiescent_GresKernelIdeal (hGresKernelIdeal := hGresKernelIdeal)
    ∧ quiescent_GresReferenceIdeal (hGresReferenceIdeal := hGresReferenceIdeal)
    ∧ quiescent_RnKernel (hRnKernel := hRnKernel)
    ∧ quiescent_RnKernelIdeal (hRnKernelIdeal := hRnKernelIdeal)
    ∧ quiescent_RnReferenceIdeal (hRnReferenceIdeal := hRnReferenceIdeal)
    ∧ quiescent_MidKernel (hMidKernel := hMidKernel)
    ∧ quiescent_MidKernelIdeal (hMidKernelIdeal := hMidKernelIdeal)
    ∧ quiescent_MidReferenceIdeal (hMidReferenceIdeal := hMidReferenceIdeal)
    ∧ quiescent_GlufKernel (hGlufKernel := hGlufKernel)
    ∧ quiescent_GlufKernelIdeal (hGlufKernelIdeal := hGlufKernelIdeal)
    ∧ quiescent_GlufReferenceIdeal (hGlufReferenceIdeal := hGlufReferenceIdeal)
    ∧ quiescent_GluKernel (hGluKernel := hGluKernel)
    ∧ quiescent_GluKernelIdeal (hGluKernelIdeal := hGluKernelIdeal)
    ∧ quiescent_GluKernelIdeal_pre_glu_finite (hGluKernelIdeal := hGluKernelIdeal) (hPre_glu_finite := hPre_glu_finite)
    ∧ quiescent_GluReferenceIdeal (hGluReferenceIdeal := hGluReferenceIdeal)
    ∧ quiescent_GluReferenceIdeal_pre_glu_finite (hGluReferenceIdeal := hGluReferenceIdeal) (hPre_glu_finite := hPre_glu_finite)
    ∧ quiescent_DnKernel (hDnKernel := hDnKernel)
    ∧ quiescent_DnKernelIdeal (hDnKernelIdeal := hDnKernelIdeal)
    ∧ quiescent_DnReferenceIdeal (hDnReferenceIdeal := hDnReferenceIdeal)
    ∧ quiescent_DnxKernel (hDnxKernel := hDnxKernel)
    ∧ quiescent_DnxKernelIdeal (hDnxKernelIdeal := hDnxKernelIdeal)
    ∧ quiescent_DnxReferenceIdeal (hDnxReferenceIdeal := hDnxReferenceIdeal)
    ∧ quiescent_DnwKernel (hDnwKernel := hDnwKernel)
    ∧ quiescent_DnwKernelIdeal (hDnwKernelIdeal := hDnwKernelIdeal)
    ∧ quiescent_DnwReferenceIdeal (hDnwReferenceIdeal := hDnwReferenceIdeal)
    ∧ quiescent_UpfKernel (hUpfKernel := hUpfKernel)
    ∧ quiescent_UpfKernelIdeal (hUpfKernelIdeal := hUpfKernelIdeal)
    ∧ quiescent_UpfReferenceIdeal (hUpfReferenceIdeal := hUpfReferenceIdeal)
    ∧ quiescent_UpwKernel (hUpwKernel := hUpwKernel)
    ∧ quiescent_UpwKernelIdeal (hUpwKernelIdeal := hUpwKernelIdeal)
    ∧ quiescent_UpwReferenceIdeal (hUpwReferenceIdeal := hUpwReferenceIdeal)
    ∧ quiescent_UpxKernel (hUpxKernel := hUpxKernel)
    ∧ quiescent_UpxKernelIdeal (hUpxKernelIdeal := hUpxKernelIdeal)
    ∧ quiescent_UpxReferenceIdeal (hUpxReferenceIdeal := hUpxReferenceIdeal)
    ∧ quiescent_InxKernel (hInxKernel := hInxKernel)
    ∧ quiescent_InxKernelIdeal (hInxKernelIdeal := hInxKernelIdeal)
    ∧ quiescent_InxReferenceIdeal (hInxReferenceIdeal := hInxReferenceIdeal)
    ∧ quiescent_AddhKernel (hAddhKernel := hAddhKernel)
    ∧ quiescent_AddhKernelIdeal (hAddhKernelIdeal := hAddhKernelIdeal)
    ∧ quiescent_AddhReferenceIdeal (hAddhReferenceIdeal := hAddhReferenceIdeal)
    ∧ quiescent_SumlKernel (hSumlKernel := hSumlKernel)
    ∧ quiescent_SumlKernelIdeal (hSumlKernelIdeal := hSumlKernelIdeal)
    ∧ quiescent_SumlReferenceIdeal (hSumlReferenceIdeal := hSumlReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ preserves_GateKernel_GateKernelIdeal
    ∧ algebraic_GateKernelIdeal_GateReferenceIdeal (hGateKernelIdeal := hGateKernelIdeal) (hGateReferenceIdeal := hGateReferenceIdeal)
    ∧ preserves_NormKernel_NormKernelIdeal
    ∧ algebraic_NormKernelIdeal_NormReferenceIdeal_pre_norm_finite (hNormKernelIdeal := hNormKernelIdeal) (hNormReferenceIdeal := hNormReferenceIdeal) (hPre_norm_finite := hPre_norm_finite)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_LnKernel_LnKernelIdeal
    ∧ algebraic_LnKernelIdeal_LnReferenceIdeal_pre_ln_finite (hLnKernelIdeal := hLnKernelIdeal) (hLnReferenceIdeal := hLnReferenceIdeal) (hPre_ln_finite := hPre_ln_finite)
    ∧ preserves_NaKernel_NaKernelIdeal
    ∧ algebraic_NaKernelIdeal_NaReferenceIdeal_pre_na_finite (hNaKernelIdeal := hNaKernelIdeal) (hNaReferenceIdeal := hNaReferenceIdeal) (hPre_na_finite := hPre_na_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_SduKernel_SduKernelIdeal
    ∧ algebraic_SduKernelIdeal_SduReferenceIdeal (hSduKernelIdeal := hSduKernelIdeal) (hSduReferenceIdeal := hSduReferenceIdeal)
    ∧ preserves_ModKernel_ModKernelIdeal
    ∧ algebraic_ModKernelIdeal_ModReferenceIdeal (hModKernelIdeal := hModKernelIdeal) (hModReferenceIdeal := hModReferenceIdeal)
    ∧ preserves_GresKernel_GresKernelIdeal
    ∧ algebraic_GresKernelIdeal_GresReferenceIdeal (hGresKernelIdeal := hGresKernelIdeal) (hGresReferenceIdeal := hGresReferenceIdeal)
    ∧ preserves_RnKernel_RnKernelIdeal
    ∧ algebraic_RnKernelIdeal_RnReferenceIdeal (hRnKernelIdeal := hRnKernelIdeal) (hRnReferenceIdeal := hRnReferenceIdeal)
    ∧ preserves_MidKernel_MidKernelIdeal
    ∧ algebraic_MidKernelIdeal_MidReferenceIdeal (hMidKernelIdeal := hMidKernelIdeal) (hMidReferenceIdeal := hMidReferenceIdeal)
    ∧ preserves_GlufKernel_GlufKernelIdeal
    ∧ algebraic_GlufKernelIdeal_GlufReferenceIdeal (hGlufKernelIdeal := hGlufKernelIdeal) (hGlufReferenceIdeal := hGlufReferenceIdeal)
    ∧ preserves_GluKernel_GluKernelIdeal
    ∧ algebraic_GluKernelIdeal_GluReferenceIdeal_pre_glu_finite (hGluKernelIdeal := hGluKernelIdeal) (hGluReferenceIdeal := hGluReferenceIdeal) (hPre_glu_finite := hPre_glu_finite)
    ∧ preserves_DnKernel_DnKernelIdeal
    ∧ algebraic_DnKernelIdeal_DnReferenceIdeal (hDnKernelIdeal := hDnKernelIdeal) (hDnReferenceIdeal := hDnReferenceIdeal)
    ∧ preserves_DnxKernel_DnxKernelIdeal
    ∧ algebraic_DnxKernelIdeal_DnxReferenceIdeal (hDnxKernelIdeal := hDnxKernelIdeal) (hDnxReferenceIdeal := hDnxReferenceIdeal)
    ∧ preserves_DnwKernel_DnwKernelIdeal
    ∧ algebraic_DnwKernelIdeal_DnwReferenceIdeal (hDnwKernelIdeal := hDnwKernelIdeal) (hDnwReferenceIdeal := hDnwReferenceIdeal)
    ∧ preserves_UpfKernel_UpfKernelIdeal
    ∧ algebraic_UpfKernelIdeal_UpfReferenceIdeal (hUpfKernelIdeal := hUpfKernelIdeal) (hUpfReferenceIdeal := hUpfReferenceIdeal)
    ∧ preserves_UpwKernel_UpwKernelIdeal
    ∧ algebraic_UpwKernelIdeal_UpwReferenceIdeal (hUpwKernelIdeal := hUpwKernelIdeal) (hUpwReferenceIdeal := hUpwReferenceIdeal)
    ∧ preserves_UpxKernel_UpxKernelIdeal
    ∧ algebraic_UpxKernelIdeal_UpxReferenceIdeal (hUpxKernelIdeal := hUpxKernelIdeal) (hUpxReferenceIdeal := hUpxReferenceIdeal)
    ∧ preserves_InxKernel_InxKernelIdeal
    ∧ algebraic_InxKernelIdeal_InxReferenceIdeal (hInxKernelIdeal := hInxKernelIdeal) (hInxReferenceIdeal := hInxReferenceIdeal)
    ∧ preserves_AddhKernel_AddhKernelIdeal
    ∧ algebraic_AddhKernelIdeal_AddhReferenceIdeal (hAddhKernelIdeal := hAddhKernelIdeal) (hAddhReferenceIdeal := hAddhReferenceIdeal)
    ∧ preserves_SumlKernel_SumlKernelIdeal
    ∧ algebraic_SumlKernelIdeal_SumlReferenceIdeal (hSumlKernelIdeal := hSumlKernelIdeal) (hSumlReferenceIdeal := hSumlReferenceIdeal)
    ∧ preserves_AdamKernel_AdamKernelIdeal
    ∧ algebraic_AdamKernelIdeal_AdamReferenceIdeal (hAdamKernelIdeal := hAdamKernelIdeal) (hAdamReferenceIdeal := hAdamReferenceIdeal)
-- ==== Pre_ffn_finite.lean ====
abbrev S4096x11264 : Shape := ⟨2, ![4096, 11264]⟩
abbrev S3x11264 : Shape := ⟨2, ![3, 11264]⟩
abbrev S11264 : Shape := ⟨1, ![11264]⟩
abbrev S4096x5632 : Shape := ⟨2, ![4096, 5632]⟩
abbrev S_ : Shape := ⟨0, ![]⟩

class Facts : Prop where
  bcast_S_S4096x11264 : S_.BroadcastsInDim S4096x11264 (![] : Fin 0 → Fin S4096x11264.rank)
  reducesTo_S4096x11264_S_d0_1 : S4096x11264.ReducesTo [0, 1] S_
  h_S_ : 0 < S_.numel
  bcast_S_S3x11264 : S_.BroadcastsInDim S3x11264 (![] : Fin 0 → Fin S3x11264.rank)
  reducesTo_S3x11264_S_d0_1 : S3x11264.ReducesTo [0, 1] S_
  bcast_S_S11264 : S_.BroadcastsInDim S11264 (![] : Fin 0 → Fin S11264.rank)
  reducesTo_S11264_S_d0 : S11264.ReducesTo [0] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_v8 : IVec S_ 1) (main_v12 : IVec S_ 1) (main_v15 : IVec S4096x5632 1) (main_c_5 : IVec S_ 1) : IVec S_ 1 :=
  let main_v16 : IVec S_ 1 := (fun x v => Host.reduce IntOp.andi x v reducesTo_S4096x5632_S_d0_1 h_S_) main_v15 main_c_5
  let main_v17 : IVec S_ 1 := andi main_v12 main_v16
  let main_v18 : IVec S_ 1 := andi main_v8 main_v17
  main_v18

def fn {F : FTy → Type} [FloatOps F] (main_arg0 : FVec F S4096x11264 .bf16) (main_arg1 : FVec F S3x11264 .f32) (main_arg2 : FVec F S11264 .f32) (main_arg3 : FVec F S4096x5632 .bf16) : IVec S_ 1 :=
  let main_v0 : FVec F S4096x11264 .bf16 := Host.absf main_arg0
  let main_cst : FVec F S_ .bf16 := constant S_ .bf16 0x7F80#16
  let main_v1 : FVec F S4096x11264 .bf16 := broadcastInDim S4096x11264 ![] bcast_S_S4096x11264 main_cst
  let main_v2 : IVec S4096x11264 1 := cmpf .olt main_v0 main_v1
  let main_c : IVec S_ 1 := constantI S_ 1 1#1
  let main_v3 : IVec S_ 1 := (fun x v => Host.reduce IntOp.andi x v reducesTo_S4096x11264_S_d0_1 h_S_) main_v2 main_c
  let main_v4 : FVec F S3x11264 .f32 := Host.absf main_arg1
  let main_cst_0 : FVec F S_ .f32 := constant S_ .f32 0x7F800000#32
  let main_v5 : FVec F S3x11264 .f32 := broadcastInDim S3x11264 ![] bcast_S_S3x11264 main_cst_0
  let main_v6 : IVec S3x11264 1 := cmpf .olt main_v4 main_v5
  let main_c_1 : IVec S_ 1 := constantI S_ 1 1#1
  let main_v7 : IVec S_ 1 := (fun x v => Host.reduce IntOp.andi x v reducesTo_S3x11264_S_d0_1 h_S_) main_v6 main_c_1
  let main_v8 : IVec S_ 1 := andi main_v3 main_v7
  let main_v9 : FVec F S11264 .f32 := Host.absf main_arg2
  let main_cst_2 : FVec F S_ .f32 := constant S_ .f32 0x7F800000#32
  let main_v10 : FVec F S11264 .f32 := broadcastInDim S11264 ![] bcast_S_S11264 main_cst_2
  let main_v11 : IVec S11264 1 := cmpf .olt main_v9 main_v10
  let main_c_3 : IVec S_ 1 := constantI S_ 1 1#1
  let main_v12 : IVec S_ 1 := (fun x v => Host.reduce IntOp.andi x v reducesTo_S11264_S_d0 h_S_) main_v11 main_c_3
  let main_v13 : FVec F S4096x5632 .bf16 := Host.absf main_arg3
  let main_cst_4 : FVec F S_ .bf16 := constant S_ .bf16 0x7F80#16
  let main_v14 : FVec F S4096x5632 .bf16 := broadcastInDim S4096x5632 ![] bcast_S_S4096x5632 main_cst_4
  let main_v15 : IVec S4096x5632 1 := cmpf .olt main_v13 main_v14
  let main_c_5 : IVec S_ 1 := constantI S_ 1 1#1
  fn_part1 (F := F) main_v8 main_v12 main_v15 main_c_5
-- ==== Pre_glu_finite.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S4096x1024 .bf16) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S4096x1024 .bf16 := Host.absf main_arg5
  let main_cst_8 : FVec F S_ .bf16 := constant S_ .bf16 0x7F80#16
  let main_v25 : FVec F S4096x1024 .bf16 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S4096x1024 .f32) (main_arg3 : FVec F S1024 .f32) (main_arg4 : FVec F S1024x1024 .f32) (main_arg5 : FVec F S4096x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Pre_ln_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_
  bitsLt_bf16_f32 : FTy.bits .bf16 < FTy.bits .f32

variable [Facts]

def fn_part1 {F : FTy → Type} [FloatOps F] (main_v8 : IVec S_ 1) (main_v12 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v12 main_v17
  let main_v19 : IVec S_ 1 := andi main_v8 main_v18
  main_v19

def fn {F : FTy → Type} [FloatOps F] (main_arg0 : FVec F S4096x2048 .f32) (main_arg1 : FVec F S2048 .f32) (main_arg2 : FVec F S2048 .f32) (main_arg3 : FVec F S4096x2048 .bf16) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : FVec F S4096x2048 .f32 := (extf .f32 · bitsLt_bf16_f32) main_arg3
  let main_v14 : FVec F S4096x2048 .f32 := Host.absf main_v13
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v8 main_v12 main_v16
-- ==== Pre_loss_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bitsLt_bf16_f32 : FTy.bits .bf16 < FTy.bits .f32
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S4096x2048 .f32) (main_v9 : IVec S_ 1) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : IVec S_ 1 := andi main_v9 main_v18
  let main_v20 : FVec F S4096x2048 .f32 := Host.absf main_arg4
  let main_cst_6 : FVec F S_ .f32 := constant S_ .f32 0x7F800000#32
  let main_v21 : FVec F S4096x2048 .f32 := broadcastInDim S4096x2048 ![] bcast_S_S4096x2048 main_cst_6
  let main_v22 : IVec S4096x2048 1 := cmpf .olt main_v20 main_v21
  let main_c_7 : IVec S_ 1 := constantI S_ 1 1#1
  let main_v23 : IVec S_ 1 := (fun x v => Host.reduce IntOp.andi x v reducesTo_S4096x2048_S_d0_1 h_S_) main_v22 main_c_7
  let main_v24 : IVec S_ 1 := andi main_v19 main_v23
  main_v24

def fn {F : FTy → Type} [FloatOps F] (main_arg0 : FVec F S4096x2048 .f32) (main_arg1 : FVec F S4096x2048 .bf16) (main_arg2 : FVec F S2048 .f32) (main_arg3 : FVec F S2048 .f32) (main_arg4 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := (extf .f32 · bitsLt_bf16_f32) main_arg1
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_c_1 : IVec S_ 1 := constantI S_ 1 1#1
  let main_v8 : IVec S_ 1 := (fun x v => Host.reduce IntOp.andi x v reducesTo_S4096x2048_S_d0_1 h_S_) main_v7 main_c_1
  let main_v9 : IVec S_ 1 := andi main_v3 main_v8
  let main_v10 : FVec F S2048 .f32 := Host.absf main_arg2
  let main_cst_2 : FVec F S_ .f32 := constant S_ .f32 0x7F800000#32
  let main_v11 : FVec F S2048 .f32 := broadcastInDim S2048 ![] bcast_S_S2048 main_cst_2
  let main_v12 : IVec S2048 1 := cmpf .olt main_v10 main_v11
  let main_c_3 : IVec S_ 1 := constantI S_ 1 1#1
  let main_v13 : IVec S_ 1 := (fun x v => Host.reduce IntOp.andi x v reducesTo_S2048_S_d0 h_S_) main_v12 main_c_3
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v9 main_v13 main_v16
-- ==== Pre_na_finite.lean ====
abbrev S4096x3072 : Shape := ⟨2, ![4096, 3072]⟩
abbrev S256x2048 : Shape := ⟨2, ![256, 2048]⟩
abbrev S8x15x31 : Shape := ⟨3, ![8, 15, 31]⟩
abbrev S4096x2048 : Shape := ⟨2, ![4096, 2048]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S8x15x31 : S_.BroadcastsInDim S8x15x31 (![] : Fin 0 → Fin S8x15x31.rank)
  reducesTo_S8x15x31_S_d0_1_2 : S8x15x31.ReducesTo [0, 1, 2] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x3072 .bf16) (main_arg1 : FVec F S256x2048 .bf16) (main_arg2 : FVec F S8x15x31 .f32) (main_arg3 : FVec F S4096x2048 .bf16) : IVec S_ 1 :=
  let main_v0 : FVec F S4096x3072 .bf16 := Host.absf main_arg0
  let main_cst : FVec F S_ .bf16 := constant S_ .bf16 0x7F80#16
  let main_v1 : FVec F S4096x3072 .bf16 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S256x2048 .bf16 := Host.absf main_arg1
  let main_cst_0 : FVec F S_ .bf16 := constant S_ .bf16 0x7F80#16
  let main_v5 : FVec F S256x2048 .bf16 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S8x15x31 .f32 := Host.absf main_arg2
  let main_cst_2 : FVec F S_ .f32 := constant S_ .f32 0x7F800000#32
  let main_v10 : FVec F S8x15x31 .f32 := broadcastInDim S8x15x31 ![] bcast_S_S8x15x31 main_cst_2
  let main_v11 : IVec S8x15x31 1 := cmpf .olt main_v9 main_v10
  let main_c_3 : IVec S_ 1 := constantI S_ 1 1#1
  let main_v12 : IVec S_ 1 := (fun x v => Host.reduce IntOp.andi x v reducesTo_S8x15x31_S_d0_1_2 h_S_) main_v11 main_c_3
  let main_v13 : IVec S_ 1 := andi main_v8 main_v12
  let main_v14 : FVec F S4096x2048 .bf16 := Host.absf main_arg3
  let main_cst_4 : FVec F S_ .bf16 := constant S_ .bf16 0x7F80#16
  let main_v15 : FVec F S4096x2048 .bf16 := broadcastInDim S4096x2048 ![] bcast_S_S4096x2048 main_cst_4
  let main_v16 : IVec S4096x2048 1 := cmpf .olt main_v14 main_v15
  fn_part1 (F := F) main_v13 main_v16
-- ==== Pre_norm_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_
  bitsLt_bf16_f32 : FTy.bits .bf16 < FTy.bits .f32

variable [Facts]

def fn_part1 {F : FTy → Type} [FloatOps F] (main_v8 : IVec S_ 1) (main_v12 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v12 main_v17
  let main_v19 : IVec S_ 1 := andi main_v8 main_v18
  main_v19

def fn {F : FTy → Type} [FloatOps F] (main_arg0 : FVec F S4096x2048 .f32) (main_arg1 : FVec F S2048 .f32) (main_arg2 : FVec F S2048 .f32) (main_arg3 : FVec F S2048 .f32) (main_arg4 : FVec F S4096x2048 .bf16) (main_arg5 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : FVec F S4096x2048 .f32 := (extf .f32 · bitsLt_bf16_f32) main_arg4
  let main_v14 : FVec F S4096x2048 .f32 := Host.absf main_v13
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v8 main_v12 main_v16
-- ==== GateKernel.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S1x2048, .f32⟩
  | .hbm, ⟨6, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_7 : BitVec 32 := 0#32
  let v14 : BitVec 1 := Scalar.cmpi .ne v13 c0_i32_7
  v14

def k0_cond2 (i : grid0.Coords) : BitVec 1 :=
  let arg0 : BitVec 32 := BitVec.ofNat 32 (i 0).val
  let c0_i32_8 : BitVec 32 := 0#32
  let v15 : BitVec 1 := Scalar.cmpi .sgt arg0 c0_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateReferenceIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S_, .f32⟩
  | .hbm, ⟨14, _⟩ => ⟨S2048, .f32⟩
  | .hbm, ⟨15, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== NormKernel.lean ====
abbrev S4096x2048 : Shape := ⟨2, ![4096, 2048]⟩
abbrev S2048 : Shape := ⟨1, ![2048]⟩
abbrev S_ : Shape := ⟨0, ![]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 22
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S4096x2048, .bf16⟩
  | .hbm, ⟨5, _⟩ => ⟨S4096x2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S4096x2048, .f32⟩
  | .hbm, ⟨12, _⟩ => ⟨S1x2048, .f32⟩
  | .hbm, ⟨13, _⟩ => ⟨S1x2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def k0_cond3 (i : grid0.Coords) : BitVec 1 :=
  let arg0 : BitVec 32 := BitVec.ofNat 32 (i 0).val
  let c0_i32_18 : BitVec 32 := 0#32
  let v41 : BitVec 1 := Scalar.cmpi .eq arg0 c0_i32_18
  let v42 : BitVec 32 := Scalar.extui v41
  let c0_i32_19 : BitVec 32 := 0#32
  let v43 : BitVec 1 := Scalar.cmpi .ne v42 c0_i32_19
  v43

def k0_cond4 (i : grid0.Coords) : BitVec 1 :=
  let arg0 : BitVec 32 := BitVec.ofNat 32 (i 0).val
  let c0_i32_20 : BitVec 32 := 0#32
  let v44 : BitVec 1 := Scalar.cmpi .sgt arg0 c0_i32_20
  let v45 : BitVec 32 := Scalar.extui v44
  let c0_i32_21 : BitVec 32 := 0#32
  let v46 : BitVec 1 := Scalar.cmpi .ne v45 c0_i32_21
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 76
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S_, .f32⟩
  | .hbm, ⟨43, _⟩ => ⟨S2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S2048, .f32⟩
  | .hbm, ⟨60, _⟩ => ⟨S4096x2048, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x2048, .f32⟩
  | .hbm, ⟨74, _⟩ => ⟨S4096x2048, .f32⟩
  | .hbm, ⟨75, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== LossKernel.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S_ : Shape := ⟨0, ![]⟩

abbrev nBuf : Space → Nat
  | .hbm => 13
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048, .f32⟩
  | .hbm, ⟨3, _⟩ => ⟨S2048, .f32⟩
  | .hbm, ⟨4, _⟩ => ⟨S4096x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S1x2048, .f32⟩
  | .hbm, ⟨9, _⟩ => ⟨S1x128, .f32⟩
  | .hbm, ⟨10, _⟩ => ⟨S1x1, .f32⟩
  | .hbm, ⟨11, _⟩ => ⟨S_, .f32⟩
  | .hbm, ⟨12, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_19 : BitVec 32 := 0#32
  let v46 : BitVec 1 := Scalar.cmpi .ne v45 c0_i32_19
  v46

def k0_cond2 (i : grid0.Coords) : BitVec 1 :=
  let arg0 : BitVec 32 := BitVec.ofNat 32 (i 0).val
  let c0_i32_20 : BitVec 32 := 0#32
  let v47 : BitVec 1 := Scalar.cmpi .sgt arg0 c0_i32_20
  let v48 : BitVec 32 := Scalar.extui v47
  let c0_i32_21 : BitVec 32 := 0#32
  let v49 : BitVec 1 := Scalar.cmpi .ne v48 c0_i32_21
  v49

def k0_cond3 (i : grid0.Coords) : BitVec 1 :=
  let arg0 : BitVec 32 := BitVec.ofNat 32 (i 0).val
  let c0_i32_26 : BitVec 32 := 0#32
  let v61 : BitVec 1 := Scalar.cmpi .eq arg0 c0_i32_26
  let v62 : BitVec 32 := Scalar.extui v61
  let c0_i32_27 : BitVec 32 := 0#32
  let v63 : BitVec 1 := Scalar.cmpi .ne v62 c0_i32_27
  v63

def k0_cond4 (i : grid0.Coords) : BitVec 1 :=
  let arg0 : BitVec 32 := BitVec.ofNat 32 (i 0).val
  let c0_i32_28 : BitVec 32 := 0#32
  let v64 : BitVec 1 := Scalar.cmpi .sgt arg0 c0_i32_28
  let v65 : BitVec 32 := Scalar.extui v64
  let c0_i32_29 : BitVec 32 := 0#32
  let v66 : BitVec 1 := Scalar.cmpi .ne v65 c0_i32_29
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossReferenceIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 79
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x2048, .f32⟩
  | .hbm, ⟨29, _⟩ => ⟨S4096x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S2048, .f32⟩
  | .hbm, ⟨64, _⟩ => ⟨S4096x2048, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x2048, .f32⟩
  | .hbm, ⟨69, _⟩ => ⟨S4096x2048, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x2048, .f32⟩
  | .hbm, ⟨77, _⟩ => ⟨S4096x2048, .f32⟩
  | .hbm, ⟨78, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_cst_9 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_cst_16 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== LnKernel.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S4096x2048, .bf16⟩
  | .hbm, ⟨4, _⟩ => ⟨S1x2048, .f32⟩
  | .hbm, ⟨5, _⟩ => ⟨S1x2048, .f32⟩
  | .hbm, ⟨6, _⟩ => ⟨S4096x2048, .bf16⟩
  | .hbm, ⟨7, _⟩ => ⟨S1x2048, .f32⟩
  | .hbm, ⟨8, _⟩ => ⟨S1x2048, .f32⟩
  | .hbm, ⟨9, _⟩ => ⟨S2048, .f32⟩
  | .hbm, ⟨10, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_17 : BitVec 32 := 0#32
  let v46 : BitVec 1 := Scalar.cmpi .ne v45 c0_i32_17
  v46

def k0_cond2 (i : grid0.Coords) : BitVec 1 :=
  let arg0 : BitVec 32 := BitVec.ofNat 32 (i 0).val
  let c0_i32_18 : BitVec 32 := 0#32
  let v47 : BitVec 1 := Scalar.cmpi .sgt arg0 c0_i32_18
  let v48 : BitVec 32 := Scalar.extui v47
  let c0_i32_19 : BitVec 32 := 0#32
  let v49 : BitVec 1 := Scalar.cmpi .ne v48 c0_i32_19
  v49

def k0_cond3 (i : grid0.Coords) : BitVec 1 :=
  let arg0 : BitVec 32 := BitVec.ofNat 32 (i 0).val
  let c0_i32_21 : BitVec 32 := 0#32
  let v52 : BitVec 1 := Scalar.cmpi .eq arg0 c0_i32_21
  let v53 : BitVec 32 := Scalar.extui v52
  let c0_i32_22 : BitVec 32 := 0#32
  let v54 : BitVec 1 := Scalar.cmpi .ne v53 c0_i32_22
  v54

def k0_cond4 (i : grid0.Coords) : BitVec 1 :=
  let arg0 : BitVec 32 := BitVec.ofNat 32 (i 0).val
  let c0_i32_23 : BitVec 32 := 0#32
  let v55 : BitVec 1 := Scalar.cmpi .sgt arg0 c0_i32_23
  let v56 : BitVec 32 := Scalar.extui v55
  let c0_i32_24 : BitVec 32 := 0#32
  let v57 : BitVec 1 := Scalar.cmpi .ne v56 c0_i32_24
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 103
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S4096x2048, .bf16⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S_, .f32⟩
  | .hbm, ⟨62, _⟩ => ⟨S2048, .f32⟩
  | .hbm, ⟨63, _⟩ => ⟨S4096x2048, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S2048, .f32⟩
  | .hbm, ⟨71, _⟩ => ⟨S4096x2048, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x2048, .f32⟩
  | .hbm, ⟨76, _⟩ => ⟨S4096x2048, .f32⟩
  | .hbm, ⟨77, _⟩ => ⟨S4096x1, .f32⟩
  | .hbm, ⟨78, _⟩ => ⟨S4096x2048, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x2048, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x2048, .f32⟩
  | .hbm, ⟨101, _⟩ => ⟨S4096x2048, .f32⟩
  | .hbm, ⟨102, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v29_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v29_1 : Ref sig .tc := ⟨.hbm, 51, rfl⟩
abbrev main_v29_0 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_v51 : Ref sig .tc := ⟨.hbm, 84, rfl⟩
abbrev main_cst_13 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_14 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_v60 : Ref sig .tc := ⟨.hbm, 96, rfl⟩
abbrev main_v61 : Ref sig .tc := ⟨.hbm, 97, rfl⟩
abbrev main_cst_16 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩

abbrev nD : Nat := 1
abbrev τ : Topo := Topo.v7x

variable {F : FTy → Type} [FloatOps F]
-- ==== NaKernel.lean ====
abbrev S4096x3072 : Shape := ⟨2, ![4096, 3072]⟩
abbrev S256x2048 : Shape := ⟨2, ![256, 2048]⟩
abbrev S8x15x31 : Shape := ⟨3, ![8, 15, 31]⟩
abbrev S4096x2048 : Shape := ⟨2, ![4096, 2048]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S4096 : Shape := ⟨1, ![4096]⟩
abbrev S1x4096 : Shape := ⟨2, ![1, 4096]⟩
abbrev S128 : Shape := ⟨1, ![128]⟩
abbrev S128x1 : Shape := ⟨2, ![128, 1]⟩
abbrev S128x4096 : Shape := ⟨2, ![128, 4096]⟩
abbrev S120x31 : Shape := ⟨2, ![120, 31]⟩
abbrev S120x128 : Shape := ⟨2, ![120, 128]⟩
abbrev S120x128x1 : Shape := ⟨3, ![120, 128, 1]⟩
abbrev S1x128x4096 : Shape := ⟨3, ![1, 128, 4096]⟩
abbrev S120x128x4096 : Shape := ⟨3, ![120, 128, 4096]⟩
abbrev S120x4096 : Shape := ⟨2, ![120, 4096]⟩
abbrev S8x15x64x64 : Shape := ⟨4, ![8, 15, 64, 64]⟩
abbrev S8x14x64x64 : Shape := ⟨4, ![8, 14, 64, 64]⟩
abbrev S8x14x64x128 : Shape := ⟨4, ![8, 14, 64, 128]⟩
abbrev S4096x1024 : Shape := ⟨2, ![4096, 1024]⟩
abbrev S8x4096x1 : Shape := ⟨3, ![8, 4096, 1]⟩
abbrev S64x256 : Shape := ⟨2, ![64, 256]⟩
abbrev S4096x256 : Shape := ⟨2, ![4096, 256]⟩
abbrev S256x256 : Shape := ⟨2, ![256, 256]⟩
abbrev S2x14x64x128 : Shape := ⟨4, ![2, 14, 64, 128]⟩
abbrev S2x64x1 : Shape := ⟨3, ![2, 64, 1]⟩
abbrev S64x128 : Shape := ⟨2, ![64, 128]⟩
abbrev S512x128 : Shape := ⟨2, ![512, 128]⟩
abbrev S64x512 : Shape := ⟨2, ![64, 512]⟩
abbrev S1x1x64x128 : Shape := ⟨4, ![1, 1, 64, 128]⟩
abbrev S256x128 : Shape := ⟨2, ![256, 128]⟩
abbrev S1x64x1 : Shape := ⟨3, ![1, 64, 1]⟩
abbrev S256x1024 : Shape := ⟨2, ![256, 1024]⟩
abbrev S120x1x4096 : Shape := ⟨3, ![120, 1, 4096]⟩

abbrev nBuf : Space → Nat
  | .hbm => 176
  | .vmem => 46
  | .smem => 0
  | _ => 0

abbrev hbmTy0_0 (i : Nat) : BufTy := match i % 128 with
  | 0 => ⟨S4096x3072, .bf16⟩
  | 1 => ⟨S256x2048, .bf16⟩
  | 2 => ⟨S8x15x31, .f32⟩
  | 3 => ⟨S4096x2048, .bf16⟩
  | 4 => ⟨S64, .i32⟩
  | 5 => ⟨S_, .i32⟩
  | 6 => ⟨S64, .i32⟩
  | 7 => ⟨S64, .i32⟩
  | 8 => ⟨S_, .i32⟩
  | 9 => ⟨S_, .i32⟩
  | 10 => ⟨S_, .i32⟩
  | 11 => ⟨S64, .i32⟩
  | 12 => ⟨S64, .i32⟩
  | 13 => ⟨S_, .i32⟩
  | 14 => ⟨S64, .i32⟩
  | 15 => ⟨S64, .i32⟩
  | 16 => ⟨S1x64, .i32⟩
  | 17 => ⟨S64x1, .i32⟩
  | 18 => ⟨S64x64, .i32⟩
  | 19 => ⟨S64x64, .i32⟩
  | 20 => ⟨S64x64, .i1⟩
  | 21 => ⟨S1x64, .i32⟩
  | 22 => ⟨S64x1, .i32⟩
  | 23 => ⟨S_, .i32⟩
  | 24 => ⟨S64x1, .i32⟩
  | 25 => ⟨S64x1, .i32⟩
  | 26 => ⟨S64x64, .i32⟩
  | 27 => ⟨S64x64, .i32⟩
  | 28 => ⟨S64x64, .i1⟩
  | 29 => ⟨S64x64, .i1⟩
  | 30 => ⟨S4096, .i1⟩
  | 31 => ⟨S1x64, .i32⟩
  | 32 => ⟨S64x1, .i32⟩
  | 33 => ⟨S64x64, .i32⟩
  | 34 => ⟨S64x64, .i32⟩
  | 35 => ⟨S64x64, .i32⟩
  | 36 => ⟨S_, .i32⟩
  | 37 => ⟨S64x64, .i32⟩
  | 38 => ⟨S64x64, .i32⟩
  | 39 => ⟨S_, .i32⟩
  | 40 => ⟨S_, .i32⟩
  | 41 => ⟨S_, .i32⟩
  | 42 => ⟨S64x64, .i32⟩
  | 43 => ⟨S64x64, .i32⟩
  | 44 => ⟨S_, .i32⟩
  | 45 => ⟨S64x64, .i32⟩
  | 46 => ⟨S64x64, .i32⟩
  | 47 => ⟨S4096, .i32⟩
  | 48 => ⟨S1x4096, .i32⟩
  | 49 => ⟨S128, .i32⟩
  | 50 => ⟨S128x1, .i32⟩
  | 51 => ⟨S128x4096, .i32⟩
  | 52 => ⟨S128x4096, .i32⟩
  | 53 => ⟨S128x4096, .i1⟩
  | 54 => ⟨S1x4096, .i1⟩
  | 55 => ⟨S128x4096, .i1⟩
  | 56 => ⟨S128x4096, .i1⟩
  | 57 => ⟨S_, .f32⟩
  | 58 => ⟨S_, .f32⟩
  | 59 => ⟨S128x4096, .f32⟩
  | 60 => ⟨S128x4096, .f32⟩
  | 61 => ⟨S128x4096, .f32⟩
  | 62 => ⟨S120x31, .f32⟩
  | 63 => ⟨S_, .i32⟩
  | 64 => ⟨S_, .f32⟩
  | 65 => ⟨S120x128, .f32⟩
  | 66 => ⟨S120x128x1, .f32⟩
  | 67 => ⟨S1x128x4096, .f32⟩
  | 68 => ⟨S1x128x4096, .f32⟩
  | 69 => ⟨S120x128x4096, .f32⟩
  | 70 => ⟨S120x128x4096, .f32⟩
  | 71 => ⟨S120x128x4096, .f32⟩
  | 72 => ⟨S_, .f32⟩
  | 73 => ⟨S120x4096, .f32⟩
  | 74 => ⟨S_, .f32⟩
  | 75 => ⟨S_, .f32⟩
  | 76 => ⟨S4096, .f32⟩
  | 77 => ⟨S4096, .f32⟩
  | 78 => ⟨S4096, .f32⟩
  | 79 => ⟨S4096, .f32⟩
  | 80 => ⟨S1x4096, .f32⟩
  | 81 => ⟨S120x4096, .f32⟩
  | 82 => ⟨S120x4096, .f32⟩
  | 83 => ⟨S8x15x64x64, .f32⟩
  | 84 => ⟨S8x14x64x64, .f32⟩
  | 85 => ⟨S8x14x64x64, .f32⟩
  | 86 => ⟨S8x14x64x128, .f32⟩
  | 87 => ⟨S4096x1024, .bf16⟩
  | 88 => ⟨S8x4096x1, .f32⟩
  | 89 => ⟨S4096x1024, .bf16⟩
  | 90 => ⟨S4096x1024, .f32⟩
  | 91 => ⟨S4096x1024, .f32⟩
  | 92 => ⟨S256x1024, .f32⟩
  | 93 => ⟨S256x1024, .f32⟩
  | 94 => ⟨S8x14x64x128, .f32⟩
  | 95 => ⟨S8x14x64x64, .f32⟩
  | 96 => ⟨S8x14x64x64, .f32⟩
  | 97 => ⟨S_, .i32⟩
  | 98 => ⟨S_, .f32⟩
  | 99 => ⟨S8x15x64x64, .f32⟩
  | 100 => ⟨S_, .i32⟩
  | 101 => ⟨S_, .f32⟩
  | 102 => ⟨S8x15x64x64, .f32⟩
  | 103 => ⟨S8x15x64x64, .f32⟩
  | 104 => ⟨S120x4096, .f32⟩
  | 105 => ⟨S_, .i32⟩
  | 106 => ⟨S_, .f32⟩
  | 107 => ⟨S120x4096, .f32⟩
  | 108 => ⟨S120x1x4096, .f32⟩
  | 109 => ⟨S64, .i32⟩
  | 110 => ⟨S_, .i32⟩
  | 111 => ⟨S64, .i32⟩
  | 112 => ⟨S64, .i32⟩
  | 113 => ⟨S_, .i32⟩
  | 114 => ⟨S_, .i32⟩
  | 115 => ⟨S_, .i32⟩
  | 116 => ⟨S64, .i32⟩
  | 117 => ⟨S64, .i32⟩
  | 118 => ⟨S_, .i32⟩
  | 119 => ⟨S64, .i32⟩
  | 120 => ⟨S64, .i32⟩
  | 121 => ⟨S1x64, .i32⟩
  | 122 => ⟨S64x1, .i32⟩
  | 123 => ⟨S64x64, .i32⟩
  | 124 => ⟨S64x64, .i32⟩
  | 125 => ⟨S64x64, .i1⟩
  | 126 => ⟨S1x64, .i32⟩
  | 127 => ⟨S64x1, .i32⟩
  | _ => ⟨S4096x3072, .bf16⟩

abbrev hbmTy0_1 (i : Nat) : BufTy := match i % 128 with
  | 0 => ⟨S_, .i32⟩
  | 1 => ⟨S64x1, .i32⟩
  | 2 => ⟨S64x1, .i32⟩
  | 3 => ⟨S64x64, .i32⟩
  | 4 => ⟨S64x64, .i32⟩
  | 5 => ⟨S64x64, .i1⟩
  | 6 => ⟨S64x64, .i1⟩
  | 7 => ⟨S4096, .i1⟩
  | 8 => ⟨S1x64, .i32⟩
  | 9 => ⟨S64x1, .i32⟩
  | 10 => ⟨S64x64, .i32⟩
  | 11 => ⟨S64x64, .i32⟩
  | 12 => ⟨S64x64, .i32⟩
  | 13 => ⟨S_, .i32⟩
  | 14 => ⟨S64x64, .i32⟩
  | 15 => ⟨S64x64, .i32⟩
  | 16 => ⟨S_, .i32⟩
  | 17 => ⟨S_, .i32⟩
  | 18 => ⟨S_, .i32⟩
  | 19 => ⟨S64x64, .i32⟩
  | 20 => ⟨S64x64, .i32⟩
  | 21 => ⟨S_, .i32⟩
  | 22 => ⟨S64x64, .i32⟩
  | 23 => ⟨S64x64, .i32⟩
  | 24 => ⟨S4096, .i32⟩
  | 25 => ⟨S1x4096, .i32⟩
  | 26 => ⟨S128, .i32⟩
  | 27 => ⟨S128x1, .i32⟩
  | 28 => ⟨S128x4096, .i32⟩
  | 29 => ⟨S128x4096, .i32⟩
  | 30 => ⟨S128x4096, .i1⟩
  | 31 => ⟨S1x4096, .i1⟩
  | 32 => ⟨S128x4096, .i1⟩
  | 33 => ⟨S128x4096, .i1⟩
  | 34 => ⟨S_, .f32⟩
  | 35 => ⟨S_, .f32⟩
  | 36 => ⟨S128x4096, .f32⟩
  | 37 => ⟨S128x4096, .f32⟩
  | 38 => ⟨S128x4096, .f32⟩
  | 39 => ⟨S1x128x4096, .f32⟩
  | 40 => ⟨S1x128x4096, .f32⟩
  | 41 => ⟨S120x128x4096, .f32⟩
  | 42 => ⟨S120x128x4096, .f32⟩
  | 43 => ⟨S120x128x4096, .f32⟩
  | 44 => ⟨S_, .f32⟩
  | 45 => ⟨S120x128, .f32⟩
  | 46 => ⟨S120x31, .f32⟩
  | 47 => ⟨S8x15x31, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | .local _ .vmem, ⟨0, _⟩ => ⟨S64x256, .bf16⟩
  | .local _ .vmem, ⟨1, _⟩ => ⟨S64x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S2x14x64x128, .f32⟩
  | .local _ .vmem, ⟨11, _⟩ => ⟨S2x14x64x128, .f32⟩
  | .local _ .vmem, ⟨12, _⟩ => ⟨S64x256, .bf16⟩
  | .local _ .vmem, ⟨13, _⟩ => ⟨S64x256, .bf16⟩
  | .local _ .vmem, ⟨14, _⟩ => ⟨S2x64x1, .f32⟩
  | .local _ .vmem, ⟨15, _⟩ => ⟨S2x64x1, .f32⟩
  | .local _ .vmem, ⟨16, _⟩ => ⟨S64x256, .bf16⟩
  | .local _ .vmem, ⟨17, _⟩ => ⟨S64x256, .bf16⟩
  | .local _ .vmem, ⟨18, _⟩ => ⟨S4096x256, .bf16⟩
  | .local _ .vmem, ⟨19, _⟩ => ⟨S4096x256, .bf16⟩
  | .local _ .vmem, ⟨20, _⟩ => ⟨S4096x256, .bf16⟩
  | .local _ .vmem, ⟨21, _⟩ => ⟨S4096x256, .bf16⟩
  | .local _ .vmem, ⟨22, _⟩ => ⟨S256x256, .bf16⟩
  | .local _ .vmem, ⟨23, _⟩ => ⟨S256x256, .bf16⟩
  | .local _ .vmem, ⟨24, _⟩ => ⟨S256x256, .bf16⟩
  | .local _ .vmem, ⟨25, _⟩ => ⟨S256x256, .bf16⟩
  | .local _ .vmem, ⟨26, _⟩ => ⟨S2x14x64x128, .f32⟩
  | .local _ .vmem, ⟨27, _⟩ => ⟨S2x14x64x128, .f32⟩
  | .local _ .vmem, ⟨28, _⟩ => ⟨S64x256, .bf16⟩
  | .local _ .vmem, ⟨29, _⟩ => ⟨S64x256, .bf16⟩
  | .local _ .vmem, ⟨30, _⟩ => ⟨S2x64x1, .f32⟩
  | .local _ .vmem, ⟨31, _⟩ => ⟨S2x64x1, .f32⟩
  | .local _ .vmem, ⟨32, _⟩ => ⟨S64x256, .bf16⟩
  | .local _ .vmem, ⟨33, _⟩ => ⟨S64x256, .bf16⟩
  | .local _ .vmem, ⟨34, _⟩ => ⟨S64x256, .bf16⟩
  | .local _ .vmem, ⟨35, _⟩ => ⟨S64x256, .bf16⟩
  | .local _ .vmem, ⟨36, _⟩ => ⟨S4096x256, .f32⟩
  | .local _ .vmem, ⟨37, _⟩ => ⟨S4096x256, .f32⟩
  | .local _ .vmem, ⟨38, _⟩ => ⟨S4096x256, .f32⟩
  | .local _ .vmem, ⟨39, _⟩ => ⟨S4096x256, .f32⟩
  | .local _ .vmem, ⟨40, _⟩ => ⟨S256x256, .f32⟩
  | .local _ .vmem, ⟨41, _⟩ => ⟨S256x256, .f32⟩
  | .local _ .vmem, ⟨42, _⟩ => ⟨S256x256, .f32⟩
  | .local _ .vmem, ⟨43, _⟩ => ⟨S256x256, .f32⟩
  | .local _ .vmem, ⟨44, _⟩ => ⟨S2x14x64x128, .f32⟩
  | .local _ .vmem, ⟨45, _⟩ => ⟨S2x14x64x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst : Ref sig .tc := ⟨.hbm, 57, rfl⟩
abbrev main_cst_6 : Ref sig .tc := ⟨.hbm, 58, rfl⟩
abbrev main_call2_v0 : Ref sig .tc := ⟨.hbm, 59, rfl⟩
abbrev main_call2_v1 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_call3_v0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_cst_9 : Ref sig .tc := ⟨.hbm, 74, rfl⟩
abbrev main_cst_10 : Ref sig .tc := ⟨.hbm, 75, rfl⟩
abbrev main_call4_v0 : Ref sig .tc := ⟨.hbm, 76, rfl⟩
abbrev main_call4_v1 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55_0 : Ref sig .tc := ⟨.hbm, 87, rfl⟩
abbrev main_v55_1 : Ref sig .tc := ⟨.hbm, 88, rfl⟩
abbrev main_v56_0 : Ref sig .tc := ⟨.hbm, 89, rfl⟩
abbrev main_v56_1 : Ref sig .tc := ⟨.hbm, 90, rfl⟩
abbrev main_v56_2 : Ref sig .tc := ⟨.hbm, 91, rfl⟩
abbrev main_v56_3 : Ref sig .tc := ⟨.hbm, 92, rfl⟩
abbrev main_v56_4 : Ref sig .tc := ⟨.hbm, 93, rfl⟩
abbrev main_v56_5 : Ref sig .tc := ⟨.hbm, 94, rfl⟩
abbrev main_v57 : Ref sig .tc := ⟨.hbm, 95, rfl⟩
abbrev main_v58 : Ref sig .tc := ⟨.hbm, 96, rfl⟩
abbrev main_c_11 : Ref sig .tc := ⟨.hbm, 97, rfl⟩
abbrev main_call5_v0 : Ref sig .tc := ⟨.hbm, 98, rfl⟩
abbrev main_v59 : Ref sig .tc := ⟨.hbm, 99, rfl⟩
abbrev main_c_12 : Ref sig .tc := ⟨.hbm, 100, rfl⟩
abbrev main_call6_v0 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_13 : Ref sig .tc := ⟨.hbm, 105, rfl⟩
abbrev main_call7_v0 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_c_14 : Ref sig .tc := ⟨.hbm, 110, rfl⟩
abbrev main_v66 : Ref sig .tc := ⟨.hbm, 111, rfl⟩
abbrev main_v67 : Ref sig .tc := ⟨.hbm, 112, rfl⟩
abbrev main_c_15 : Ref sig .tc := ⟨.hbm, 113, rfl⟩
abbrev main_c_16 : Ref sig .tc := ⟨.hbm, 114, rfl⟩
abbrev main_call8_v0 : Ref sig .tc := ⟨.hbm, 115, rfl⟩
abbrev main_call8_v1 : Ref sig .tc := ⟨.hbm, 116, rfl⟩
abbrev main_call8_v2 : Ref sig .tc := ⟨.hbm, 117, rfl⟩
abbrev main_call8_v3 : Ref sig .tc := ⟨.hbm, 118, rfl⟩
abbrev main_call8_v4 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_c_17 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_c_18 : Ref sig .tc := ⟨.hbm, 141, rfl⟩
abbrev main_v88 : Ref sig .tc := ⟨.hbm, 142, rfl⟩
abbrev main_v89 : Ref sig .tc := ⟨.hbm, 143, rfl⟩
abbrev main_c_19 : Ref sig .tc := ⟨.hbm, 144, rfl⟩
abbrev main_c_20 : Ref sig .tc := ⟨.hbm, 145, rfl⟩
abbrev main_call9_v0 : Ref sig .tc := ⟨.hbm, 146, rfl⟩
abbrev main_call9_v1 : Ref sig .tc := ⟨.hbm, 147, rfl⟩
abbrev main_call9_v2 : Ref sig .tc := ⟨.hbm, 148, rfl⟩
abbrev main_call9_v3 : Ref sig .tc := ⟨.hbm, 149, rfl⟩
abbrev main_call9_v4 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_21 : Ref sig .tc := ⟨.hbm, 162, rfl⟩
abbrev main_cst_22 : Ref sig .tc := ⟨.hbm, 163, rfl⟩
abbrev main_call10_v0 : Ref sig .tc := ⟨.hbm, 164, rfl⟩
abbrev main_call10_v1 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_cst_23 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc1_stg12_1 : Ref sig .tc := ⟨.vmem, 41, rfl⟩
abbrev cc1_stg13_0 : Ref sig .tc := ⟨.vmem, 42, rfl⟩
abbrev cc1_stg13_1 : Ref sig .tc := ⟨.vmem, 43, rfl⟩
abbrev cc1_stg14_0 : Ref sig .tc := ⟨.vmem, 44, rfl⟩
abbrev cc1_stg14_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43
abbrev cc1_sem14_0 : DmaSem sig := 44
abbrev cc1_sem14_1 : DmaSem sig := 45

abbrev nD : Nat := 1
abbrev τ : Topo := Topo.v7x

variable {F : FTy → Type} [FloatOps F]

abbrev grid0 : Pipeline.Grid := ⟨2, ![4, 64], ![false, false]⟩

def k0_mult1 (i : grid0.Coords) : BitVec 32 :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  v3
def k0_off1 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v7 : Index := Scalar.indexCast v4
  let c0_1 : Index := 0#32
  ![v7.toNat, 0]
def k0_off2 (i : grid0.Coords) (c0_i32_3 : BitVec 32) : Fin 4 → Nat :=
  let c0_4 : Index := 0#32
  let c7_i32 : BitVec 32 := 7#32
  let arg1 : BitVec 32 := BitVec.ofNat 32 (i 1).val
  let c56_i32 : BitVec 32 := 56#32
  let c0_i32 : BitVec 32 := 0#32
  let c4_i32 : BitVec 32 := 4#32
  let v0 : BitVec 32 := Scalar.subi arg1 c4_i32
  let v1 : BitVec 32 := Scalar.maxsi c0_i32 v0
  let v2 : BitVec 32 := Scalar.minsi c56_i32 v1
  let v5 : BitVec 32 := Scalar.subi arg1 v2
  let v12 : BitVec 32 := Scalar.subi c7_i32 v5
  let v13 : BitVec 32 := Scalar.addi v12 c0_i32_3
  let v14 : Index := Scalar.indexCast v13
  let c0_5 : Index := 0#32
  let c0_6 : Index := 0#32
  ![0, v14.toNat, 0, 0]
def k0_off3 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v72 : Index := Scalar.indexCast v4
  let c128_39 : Index := 128#32
  ![v72.toNat, 128]
def k0_off4 (i : grid0.Coords) (c0_i32_43 : BitVec 32) : Fin 4 → Nat :=
  let c1 : Index := 1#32
  let c7_i32_42 : BitVec 32 := 7#32
  let arg1 : BitVec 32 := BitVec.ofNat 32 (i 1).val
  let c56_i32 : BitVec 32 := 56#32
  let c0_i32 : BitVec 32 := 0#32
  let c4_i32 : BitVec 32 := 4#32
  let v0 : BitVec 32 := Scalar.subi arg1 c4_i32
  let v1 : BitVec 32 := Scalar.maxsi c0_i32 v0
  let v2 : BitVec 32 := Scalar.minsi c56_i32 v1
  let v5 : BitVec 32 := Scalar.subi arg1 v2
  let v77 : BitVec 32 := Scalar.subi c7_i32_42 v5
  let v78 : BitVec 32 := Scalar.addi v77 c0_i32_43
  let v79 : Index := Scalar.indexCast v78
  let c0_44 : Index := 0#32
  let c0_45 : Index := 0#32
  ![1, v79.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x14x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x64x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 64], ![false, false]⟩

def k1_mult1 (i : grid1.Coords) : BitVec 32 :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  v3
def k1_off1 (i : grid1.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v10 : Index := Scalar.indexCast v4
  let c0_3 : Index := 0#32
  ![v10.toNat, 0]
def k1_off2 (i : grid1.Coords) (c0_i32_15 : BitVec 32) : Fin 4 → Nat :=
  let c0_16 : Index := 0#32
  let c7_i32 : BitVec 32 := 7#32
  let arg1 : BitVec 32 := BitVec.ofNat 32 (i 1).val
  let c56_i32 : BitVec 32 := 56#32
  let c0_i32 : BitVec 32 := 0#32
  let c4_i32 : BitVec 32 := 4#32
  let v0 : BitVec 32 := Scalar.subi arg1 c4_i32
  let v1 : BitVec 32 := Scalar.maxsi c0_i32 v0
  let v2 : BitVec 32 := Scalar.minsi c56_i32 v1
  let v5 : BitVec 32 := Scalar.subi arg1 v2
  let v22 : BitVec 32 := Scalar.subi c7_i32 v5
  let v23 : BitVec 32 := Scalar.addi v22 c0_i32_15
  let v24 : Index := Scalar.indexCast v23
  let c0_17 : Index := 0#32
  let c0_18 : Index := 0#32
  ![0, v24.toNat, 0, 0]
def k1_off3 (i : grid1.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v152 : Index := Scalar.indexCast v4
  let c128_95 : Index := 128#32
  ![v152.toNat, 128]
def k1_off4 (i : grid1.Coords) (c0_i32_108 : BitVec 32) : Fin 4 → Nat :=
  let c1_109 : Index := 1#32
  let c7_i32_107 : BitVec 32 := 7#32
  let arg1 : BitVec 32 := BitVec.ofNat 32 (i 1).val
  let c56_i32 : BitVec 32 := 56#32
  let c0_i32 : BitVec 32 := 0#32
  let c4_i32 : BitVec 32 := 4#32
  let v0 : BitVec 32 := Scalar.subi arg1 c4_i32
  let v1 : BitVec 32 := Scalar.maxsi c0_i32 v0
  let v2 : BitVec 32 := Scalar.minsi c56_i32 v1
  let v5 : BitVec 32 := Scalar.subi arg1 v2
  let v164 : BitVec 32 := Scalar.subi c7_i32_107 v5
  let v165 : BitVec 32 := Scalar.addi v164 c0_i32_108
  let v166 : Index := Scalar.indexCast v165
  let c0_110 : Index := 0#32
  let c0_111 : Index := 0#32
  ![1, v166.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_14 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S64x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2x14x64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S64x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2x64x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S64x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S64x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S4096x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S4096x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S256x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S256x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 2 → Memref sig .tc .vmem S2x14x64x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]
-- ==== NaReferenceIdeal.lean ====
abbrev S4096x3072 : Shape := ⟨2, ![4096, 3072]⟩
abbrev S256x2048 : Shape := ⟨2, ![256, 2048]⟩
abbrev S8x15x31 : Shape := ⟨3, ![8, 15, 31]⟩
abbrev S4096x2048 : Shape := ⟨2, ![4096, 2048]⟩
abbrev S4096x1024 : Shape := ⟨2, ![4096, 1024]⟩
abbrev S256x1024 : Shape := ⟨2, ![256, 1024]⟩
abbrev S1x4096x8x128 : Shape := ⟨4, ![1, 4096, 8, 128]⟩
abbrev S1x256x8x128 : Shape := ⟨4, ![1, 256, 8, 128]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S1x64 : Shape := ⟨2, ![1, 64]⟩
abbrev S64x64 : Shape := ⟨2, ![64, 64]⟩
abbrev S64x1x8x1 : Shape := ⟨4, ![64, 1, 8, 1]⟩
abbrev S1x64x1x64 : Shape := ⟨4, ![1, 64, 1, 64]⟩
abbrev S64x64x8x64 : Shape := ⟨4, ![64, 64, 8, 64]⟩
abbrev S64x64x8x64x1 : Shape := ⟨5, ![64, 64, 8, 64, 1]⟩
abbrev S64x64x8x64x2 : Shape := ⟨5, ![64, 64, 8, 64, 2]⟩
abbrev S8x64x64x8x64 : Shape := ⟨5, ![8, 64, 64, 8, 64]⟩
abbrev S1x64x64x8x128 : Shape := ⟨5, ![1, 64, 64, 8, 128]⟩
abbrev S64x8x1 : Shape := ⟨3, ![64, 8, 1]⟩
abbrev S1x64x8x64x8x128 : Shape := ⟨6, ![1, 64, 8, 64, 8, 128]⟩
abbrev S1x8x64x64x8x64 : Shape := ⟨6, ![1, 8, 64, 64, 8, 64]⟩
abbrev S64x1x64 : Shape := ⟨3, ![64, 1, 64]⟩
abbrev S1x8x64x64x512 : Shape := ⟨5, ![1, 8, 64, 64, 512]⟩
abbrev S1x8x64x64x256 : Shape := ⟨5, ![1, 8, 64, 64, 256]⟩
abbrev S1x8x64x64x768 : Shape := ⟨5, ![1, 8, 64, 64, 768]⟩
abbrev S1x8x64x64 : Shape := ⟨4, ![1, 8, 64, 64]⟩
abbrev S1x8x64x64x1 : Shape := ⟨5, ![1, 8, 64, 64, 1]⟩
abbrev S1x64x8x128x64 : Shape := ⟨5, ![1, 64, 8, 128, 64]⟩
abbrev S1x8x128x64x64 : Shape := ⟨5, ![1, 8, 128, 64, 64]⟩
abbrev S1x4096x1024 : Shape := ⟨3, ![1, 4096, 1024]⟩
abbrev S1x8x128x256 : Shape := ⟨4, ![1, 8, 128, 256]⟩
abbrev S1x64x8x64x8x64 : Shape := ⟨6, ![1, 64, 8, 64, 8, 64]⟩
abbrev S1x64x8x128x8x64 : Shape := ⟨6, ![1, 64, 8, 128, 8, 64]⟩
abbrev S8x64x64 : Shape := ⟨3, ![8, 64, 64]⟩
abbrev S1x8x256x128 : Shape := ⟨4, ![1, 8, 256, 128]⟩
abbrev S1x8x64x64x128 : Shape := ⟨5, ![1, 8, 64, 64, 128]⟩
abbrev S1x8x64x8x64x128 : Shape := ⟨6, ![1, 8, 64, 8, 64, 128]⟩

abbrev nBuf : Space → Nat
  | .hbm => 269
  | .vmem => 0
  | .smem => 0
  | _ => 0

abbrev hbmTy0_0 (i : Nat) : BufTy := match i % 128 with
  | 0 => ⟨S4096x3072, .bf16⟩
  | 1 => ⟨S256x2048, .bf16⟩
  | 2 => ⟨S8x15x31, .f32⟩
  | 3 => ⟨S4096x2048, .bf16⟩
  | 4 => ⟨S4096x3072, .f32⟩
  | 5 => ⟨S4096x1024, .f32⟩
  | 6 => ⟨S4096x1024, .f32⟩
  | 7 => ⟨S4096x1024, .f32⟩
  | 8 => ⟨S256x2048, .f32⟩
  | 9 => ⟨S256x1024, .f32⟩
  | 10 => ⟨S256x1024, .f32⟩
  | 11 => ⟨S1x4096x8x128, .f32⟩
  | 12 => ⟨S1x4096x8x128, .f32⟩
  | 13 => ⟨S1x4096x8x128, .f32⟩
  | 14 => ⟨S1x256x8x128, .f32⟩
  | 15 => ⟨S1x256x8x128, .f32⟩
  | 16 => ⟨S64, .i32⟩
  | 17 => ⟨S_, .i32⟩
  | 18 => ⟨S64, .i32⟩
  | 19 => ⟨S64, .i32⟩
  | 20 => ⟨S_, .i32⟩
  | 21 => ⟨S_, .i32⟩
  | 22 => ⟨S_, .i32⟩
  | 23 => ⟨S64, .i32⟩
  | 24 => ⟨S64, .i32⟩
  | 25 => ⟨S_, .i32⟩
  | 26 => ⟨S64, .i32⟩
  | 27 => ⟨S64, .i32⟩
  | 28 => ⟨S64x1, .i32⟩
  | 29 => ⟨S8, .i32⟩
  | 30 => ⟨S1x8, .i32⟩
  | 31 => ⟨S64x8, .i32⟩
  | 32 => ⟨S64x8, .i32⟩
  | 33 => ⟨S64x8, .i32⟩
  | 34 => ⟨S64, .i32⟩
  | 35 => ⟨S_, .i32⟩
  | 36 => ⟨S64, .i32⟩
  | 37 => ⟨S64, .i32⟩
  | 38 => ⟨S_, .i32⟩
  | 39 => ⟨S_, .i32⟩
  | 40 => ⟨S_, .i32⟩
  | 41 => ⟨S64, .i32⟩
  | 42 => ⟨S64, .i32⟩
  | 43 => ⟨S_, .i32⟩
  | 44 => ⟨S64, .i32⟩
  | 45 => ⟨S64, .i32⟩
  | 46 => ⟨S1x64, .i32⟩
  | 47 => ⟨S64x1, .i32⟩
  | 48 => ⟨S64x64, .i32⟩
  | 49 => ⟨S64x64, .i32⟩
  | 50 => ⟨S64x64, .i1⟩
  | 51 => ⟨S1x64, .i32⟩
  | 52 => ⟨S64x1, .i32⟩
  | 53 => ⟨S_, .i32⟩
  | 54 => ⟨S64x1, .i32⟩
  | 55 => ⟨S64x1, .i32⟩
  | 56 => ⟨S64x64, .i32⟩
  | 57 => ⟨S64x64, .i32⟩
  | 58 => ⟨S64x64, .i1⟩
  | 59 => ⟨S64x64, .i1⟩
  | 60 => ⟨S64x1, .i32⟩
  | 61 => ⟨S64x8, .i32⟩
  | 62 => ⟨S64x8, .i32⟩
  | 63 => ⟨S_, .i32⟩
  | 64 => ⟨S64x8, .i32⟩
  | 65 => ⟨S64x8, .i32⟩
  | 66 => ⟨S1x64, .i32⟩
  | 67 => ⟨S64x1, .i32⟩
  | 68 => ⟨S64x64, .i32⟩
  | 69 => ⟨S64x64, .i32⟩
  | 70 => ⟨S64x64, .i32⟩
  | 71 => ⟨S_, .i32⟩
  | 72 => ⟨S64x64, .i32⟩
  | 73 => ⟨S64x64, .i32⟩
  | 74 => ⟨S_, .i32⟩
  | 75 => ⟨S_, .i32⟩
  | 76 => ⟨S_, .i32⟩
  | 77 => ⟨S64x64, .i32⟩
  | 78 => ⟨S64x64, .i32⟩
  | 79 => ⟨S_, .i32⟩
  | 80 => ⟨S64x64, .i32⟩
  | 81 => ⟨S64x64, .i32⟩
  | 82 => ⟨S64x1x8x1, .i32⟩
  | 83 => ⟨S1x64x1x64, .i32⟩
  | 84 => ⟨S_, .i32⟩
  | 85 => ⟨S64x1x8x1, .i32⟩
  | 86 => ⟨S64x1x8x1, .i1⟩
  | 87 => ⟨S_, .i32⟩
  | 88 => ⟨S64x1x8x1, .i32⟩
  | 89 => ⟨S64x1x8x1, .i32⟩
  | 90 => ⟨S64x1x8x1, .i32⟩
  | 91 => ⟨S_, .i32⟩
  | 92 => ⟨S1x64x1x64, .i32⟩
  | 93 => ⟨S1x64x1x64, .i1⟩
  | 94 => ⟨S_, .i32⟩
  | 95 => ⟨S1x64x1x64, .i32⟩
  | 96 => ⟨S1x64x1x64, .i32⟩
  | 97 => ⟨S1x64x1x64, .i32⟩
  | 98 => ⟨S64x64x8x64, .i32⟩
  | 99 => ⟨S64x64x8x64, .i32⟩
  | 100 => ⟨S64x64x8x64x1, .i32⟩
  | 101 => ⟨S64x64x8x64x1, .i32⟩
  | 102 => ⟨S64x64x8x64x2, .i32⟩
  | 103 => ⟨S8x64x64x8x64, .f32⟩
  | 104 => ⟨S1x64x64x8x128, .f32⟩
  | 105 => ⟨S1x64x64x8x128, .f32⟩
  | 106 => ⟨S_, .i32⟩
  | 107 => ⟨S64x8, .i32⟩
  | 108 => ⟨S64x8, .i1⟩
  | 109 => ⟨S_, .i32⟩
  | 110 => ⟨S64x8, .i32⟩
  | 111 => ⟨S64x8, .i32⟩
  | 112 => ⟨S64x8, .i32⟩
  | 113 => ⟨S64x8x1, .i32⟩
  | 114 => ⟨S1x64x8x64x8x128, .f32⟩
  | 115 => ⟨S1x64x64x8x128, .f32⟩
  | 116 => ⟨S_, .i32⟩
  | 117 => ⟨S64x8, .i32⟩
  | 118 => ⟨S64x8, .i1⟩
  | 119 => ⟨S_, .i32⟩
  | 120 => ⟨S64x8, .i32⟩
  | 121 => ⟨S64x8, .i32⟩
  | 122 => ⟨S64x8, .i32⟩
  | 123 => ⟨S64x8x1, .i32⟩
  | 124 => ⟨S1x64x8x64x8x128, .f32⟩
  | 125 => ⟨S1x8x64x64x8x64, .f32⟩
  | 126 => ⟨S_, .f32⟩
  | 127 => ⟨S1x8x64x64x8x64, .f32⟩
  | _ => ⟨S4096x3072, .bf16⟩

abbrev hbmTy0_1 (i : Nat) : BufTy := match i % 128 with
  | 0 => ⟨S1x8x64x64x8x64, .f32⟩
  | 1 => ⟨S1x8x64x64x8x64, .f32⟩
  | 2 => ⟨S1x8x64x64x8x64, .f32⟩
  | 3 => ⟨S64x1x64, .i1⟩
  | 4 => ⟨S_, .f32⟩
  | 5 => ⟨S_, .f32⟩
  | 6 => ⟨S1x8x64x64x8x64, .i1⟩
  | 7 => ⟨S1x8x64x64x8x64, .f32⟩
  | 8 => ⟨S1x8x64x64x8x64, .f32⟩
  | 9 => ⟨S_, .f32⟩
  | 10 => ⟨S1x8x64x64x8x64, .f32⟩
  | 11 => ⟨S1x8x64x64x512, .f32⟩
  | 12 => ⟨S1x8x64x64x256, .f32⟩
  | 13 => ⟨S_, .f32⟩
  | 14 => ⟨S1x8x64x64x256, .f32⟩
  | 15 => ⟨S1x8x64x64x256, .f32⟩
  | 16 => ⟨S1x8x64x64x768, .f32⟩
  | 17 => ⟨S_, .f32⟩
  | 18 => ⟨S1x8x64x64, .f32⟩
  | 19 => ⟨S1x8x64x64x1, .f32⟩
  | 20 => ⟨S1x8x64x64x768, .f32⟩
  | 21 => ⟨S1x8x64x64x768, .i1⟩
  | 22 => ⟨S1x8x64x64x768, .f32⟩
  | 23 => ⟨S_, .f32⟩
  | 24 => ⟨S1x8x64x64, .f32⟩
  | 25 => ⟨S_, .f32⟩
  | 26 => ⟨S1x8x64x64, .f32⟩
  | 27 => ⟨S1x8x64x64, .f32⟩
  | 28 => ⟨S_, .f32⟩
  | 29 => ⟨S1x8x64x64, .f32⟩
  | 30 => ⟨S1x8x64x64, .i1⟩
  | 31 => ⟨S_, .f32⟩
  | 32 => ⟨S1x8x64x64, .f32⟩
  | 33 => ⟨S1x8x64x64, .i1⟩
  | 34 => ⟨S_, .f32⟩
  | 35 => ⟨S1x8x64x64, .f32⟩
  | 36 => ⟨S_, .f32⟩
  | 37 => ⟨S1x8x64x64, .f32⟩
  | 38 => ⟨S_, .f32⟩
  | 39 => ⟨S1x8x64x64, .f32⟩
  | 40 => ⟨S1x8x64x64, .f32⟩
  | 41 => ⟨S1x8x64x64, .f32⟩
  | 42 => ⟨S1x8x64x64x1, .f32⟩
  | 43 => ⟨S1x8x64x64x768, .f32⟩
  | 44 => ⟨S1x8x64x64x768, .f32⟩
  | 45 => ⟨S1x8x64x64x768, .f32⟩
  | 46 => ⟨S_, .f32⟩
  | 47 => ⟨S1x8x64x64, .f32⟩
  | 48 => ⟨S1x8x64x64x1, .f32⟩
  | 49 => ⟨S1x8x64x64x768, .f32⟩
  | 50 => ⟨S1x8x64x64x768, .f32⟩
  | 51 => ⟨S1x8x64x64x1, .f32⟩
  | 52 => ⟨S_, .f32⟩
  | 53 => ⟨S1x8x64x64x1, .f32⟩
  | 54 => ⟨S1x8x64x64x1, .f32⟩
  | 55 => ⟨S1x8x64x64x512, .f32⟩
  | 56 => ⟨S1x8x64x64x8x64, .f32⟩
  | 57 => ⟨S1x8x64x64x256, .f32⟩
  | 58 => ⟨S1x64x8x128x64, .f32⟩
  | 59 => ⟨S1x64x64x8x128, .f32⟩
  | 60 => ⟨S1x8x128x64x64, .f32⟩
  | 61 => ⟨S1x64x64x8x128, .f32⟩
  | 62 => ⟨S1x64x64x8x128, .f32⟩
  | 63 => ⟨S1x4096x1024, .f32⟩
  | 64 => ⟨S4096x1024, .f32⟩
  | 65 => ⟨S4096x1024, .bf16⟩
  | 66 => ⟨S4096x1024, .f32⟩
  | 67 => ⟨S1x4096x1024, .f32⟩
  | 68 => ⟨S1x64x64x8x128, .f32⟩
  | 69 => ⟨S1x8x128x64x64, .f32⟩
  | 70 => ⟨S1x8x64x64x256, .f32⟩
  | 71 => ⟨S1x8x128x256, .f32⟩
  | 72 => ⟨S1x256x8x128, .f32⟩
  | 73 => ⟨S1x64x8x128x64, .f32⟩
  | 74 => ⟨S1x64x8x64x8x64, .f32⟩
  | 75 => ⟨S1x8x64x64x8x64, .f32⟩
  | 76 => ⟨S1x64x8x128x8x64, .f32⟩
  | 77 => ⟨S1x64x8x64x8x128, .f32⟩
  | 78 => ⟨S_, .f32⟩
  | 79 => ⟨S1x8x64x64x768, .f32⟩
  | 80 => ⟨S1x8x64x64x512, .f32⟩
  | 81 => ⟨S_, .f32⟩
  | 82 => ⟨S1x8x64x64x768, .f32⟩
  | 83 => ⟨S1x8x64x64x768, .f32⟩
  | 84 => ⟨S1x8x64x64x768, .f32⟩
  | 85 => ⟨S1x8x64x64x768, .f32⟩
  | 86 => ⟨S1x8x64x64x768, .f32⟩
  | 87 => ⟨S_, .f32⟩
  | 88 => ⟨S1x8x64x64, .f32⟩
  | 89 => ⟨S1x8x64x64x1, .f32⟩
  | 90 => ⟨S1x8x64x64x1, .f32⟩
  | 91 => ⟨S1x8x64x64x768, .f32⟩
  | 92 => ⟨S1x8x64x64x768, .f32⟩
  | 93 => ⟨S_, .f32⟩
  | 94 => ⟨S8x64x64, .f32⟩
  | 95 => ⟨S1x8x64x64, .f32⟩
  | 96 => ⟨S1x8x64x64x768, .f32⟩
  | 97 => ⟨S1x8x64x64x768, .f32⟩
  | 98 => ⟨S1x8x64x64x768, .f32⟩
  | 99 => ⟨S1x8x64x64x512, .f32⟩
  | 100 => ⟨S1x8x64x64x256, .f32⟩
  | 101 => ⟨S_, .f32⟩
  | 102 => ⟨S1x8x64x64x256, .f32⟩
  | 103 => ⟨S1x8x64x64x256, .f32⟩
  | 104 => ⟨S1x8x256x128, .f32⟩
  | 105 => ⟨S1x256x8x128, .f32⟩
  | 106 => ⟨S1x8x64x64x128, .f32⟩
  | 107 => ⟨S1x64x64x8x128, .f32⟩
  | 108 => ⟨S1x8x64x64x8x64, .f32⟩
  | 109 => ⟨S_, .f32⟩
  | 110 => ⟨S1x8x64x64x8x64, .f32⟩
  | 111 => ⟨S1x8x64x64x8x64, .f32⟩
  | 112 => ⟨S_, .f32⟩
  | 113 => ⟨S8x64x64x8x64, .f32⟩
  | 114 => ⟨S_, .f32⟩
  | 115 => ⟨S1x8x64x64x8x64, .f32⟩
  | 116 => ⟨S1x8x64x64x8x64, .f32⟩
  | 117 => ⟨S1x8x64x8x64x128, .f32⟩
  | 118 => ⟨S1x64x8x64x8x128, .f32⟩
  | 119 => ⟨S1x8x64x64x128, .f32⟩
  | 120 => ⟨S1x64x64x8x128, .f32⟩
  | 121 => ⟨S1x64x64x8x128, .f32⟩
  | 122 => ⟨S_, .f32⟩
  | 123 => ⟨S1x64x64x8x128, .f32⟩
  | 124 => ⟨S1x64x64x8x128, .f32⟩
  | 125 => ⟨S1x4096x8x128, .f32⟩
  | 126 => ⟨S_, .f32⟩
  | 127 => ⟨S1x64x64x8x128, .f32⟩
  | _ => ⟨S4096x3072, .bf16⟩

abbrev hbmTy0_2 (i : Nat) : BufTy := match i % 128 with
  | 0 => ⟨S1x64x64x8x128, .f32⟩
  | 1 => ⟨S1x4096x8x128, .f32⟩
  | 2 => ⟨S1x4096x8x128, .f32⟩
  | 3 => ⟨S_, .f32⟩
  | 4 => ⟨S8x15x31, .f32⟩
  | 5 => ⟨S8x15x31, .f32⟩
  | 6 => ⟨S256x1024, .f32⟩
  | 7 => ⟨S256x1024, .f32⟩
  | 8 => ⟨S4096x1024, .f32⟩
  | 9 => ⟨S4096x1024, .f32⟩
  | 10 => ⟨S4096x1024, .f32⟩
  | 11 => ⟨S4096x1024, .bf16⟩
  | 12 => ⟨S4096x1024, .bf16⟩
  | _ => ⟨S4096x3072, .bf16⟩

abbrev hbmTy (i : Nat) : BufTy := match i / 128 with
  | 0 => hbmTy0_0 i
  | 1 => hbmTy0_1 i
  | 2 => hbmTy0_2 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_c_4 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_7 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_c_9 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_12 : Ref sig .tc := ⟨.hbm, 91, rfl⟩
abbrev main_v59 : Ref sig .tc := ⟨.hbm, 92, rfl⟩
abbrev main_v60 : Ref sig .tc := ⟨.hbm, 93, rfl⟩
abbrev main_c_13 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_14 : Ref sig .tc := ⟨.hbm, 106, rfl⟩
abbrev main_v72 : Ref sig .tc := ⟨.hbm, 107, rfl⟩
abbrev main_v73 : Ref sig .tc := ⟨.hbm, 108, rfl⟩
abbrev main_c_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_16 : Ref sig .tc := ⟨.hbm, 116, rfl⟩
abbrev main_v80 : Ref sig .tc := ⟨.hbm, 117, rfl⟩
abbrev main_v81 : Ref sig .tc := ⟨.hbm, 118, rfl⟩
abbrev main_c_17 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_18 : Ref sig .tc := ⟨.hbm, 132, rfl⟩
abbrev main_call3_v0 : Ref sig .tc := ⟨.hbm, 133, rfl⟩
abbrev main_v93_1 : Ref sig .tc := ⟨.hbm, 134, rfl⟩
abbrev main_call3_v2 : Ref sig .tc := ⟨.hbm, 135, rfl⟩
abbrev main_v93_0 : Ref sig .tc := ⟨.hbm, 136, rfl⟩
abbrev main_call3_cst : Ref sig .tc := ⟨.hbm, 137, rfl⟩
abbrev main_v93_2 : Ref sig .tc := ⟨.hbm, 138, rfl⟩
abbrev main_v94 : Ref sig .tc := ⟨.hbm, 139, rfl⟩
abbrev main_v95 : Ref sig .tc := ⟨.hbm, 140, rfl⟩
abbrev main_cst_19 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_20 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_21 : Ref sig .tc := ⟨.hbm, 151, rfl⟩
abbrev main_v104 : Ref sig .tc := ⟨.hbm, 152, rfl⟩
abbrev main_cst_22 : Ref sig .tc := ⟨.hbm, 153, rfl⟩
abbrev main_v105 : Ref sig .tc := ⟨.hbm, 154, rfl⟩
abbrev main_v106 : Ref sig .tc := ⟨.hbm, 155, rfl⟩
abbrev main_cst_23 : Ref sig .tc := ⟨.hbm, 156, rfl⟩
abbrev main_v107 : Ref sig .tc := ⟨.hbm, 157, rfl⟩
abbrev main_v108 : Ref sig .tc := ⟨.hbm, 158, rfl⟩
abbrev main_cst_24 : Ref sig .tc := ⟨.hbm, 159, rfl⟩
abbrev main_v109 : Ref sig .tc := ⟨.hbm, 160, rfl⟩
abbrev main_v110 : Ref sig .tc := ⟨.hbm, 161, rfl⟩
abbrev main_cst_25 : Ref sig .tc := ⟨.hbm, 162, rfl⟩
abbrev main_v111 : Ref sig .tc := ⟨.hbm, 163, rfl⟩
abbrev main_cst_26 : Ref sig .tc := ⟨.hbm, 164, rfl⟩
abbrev main_v112 : Ref sig .tc := ⟨.hbm, 165, rfl⟩
abbrev main_cst_27 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_28 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_29 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_cst_30 : Ref sig .tc := ⟨.hbm, 206, rfl⟩
abbrev main_v150 : Ref sig .tc := ⟨.hbm, 207, rfl⟩
abbrev main_v151 : Ref sig .tc := ⟨.hbm, 208, rfl⟩
abbrev main_cst_31 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_cst_32 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_cst_33 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_cst_34 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_call4_cst : Ref sig .tc := ⟨.hbm, 237, rfl⟩
abbrev main_call4_v0 : Ref sig .tc := ⟨.hbm, 238, rfl⟩
abbrev main_v176 : Ref sig .tc := ⟨.hbm, 239, rfl⟩
abbrev main_cst_35 : Ref sig .tc := ⟨.hbm, 240, rfl⟩
abbrev main_v177 : Ref sig .tc := ⟨.hbm, 241, rfl⟩
abbrev main_cst_36 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_cst_37 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_cst_38 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_cst_39 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩

abbrev nD : Nat := 1
abbrev τ : Topo := Topo.v7x

variable {F : FTy → Type} [FloatOps F]
-- ==== FfnKernel.lean ====
abbrev S4096x11264 : Shape := ⟨2, ![4096, 11264]⟩
abbrev S3x11264 : Shape := ⟨2, ![3, 11264]⟩
abbrev S11264 : Shape := ⟨1, ![11264]⟩
abbrev S4096x5632 : Shape := ⟨2, ![4096, 5632]⟩
abbrev S4096x2x5632 : Shape := ⟨3, ![4096, 2, 5632]⟩
abbrev S2x4096x5632 : Shape := ⟨3, ![2, 4096, 5632]⟩
abbrev S3x2x5632 : Shape := ⟨3, ![3, 2, 5632]⟩
abbrev S2x3x5632 : Shape := ⟨3, ![2, 3, 5632]⟩
abbrev S2x1x5632 : Shape := ⟨3, ![2, 1, 5632]⟩
abbrev S1x4096x5632 : Shape := ⟨3, ![1, 4096, 5632]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1x256x256 : Shape := ⟨3, ![1, 256, 256]⟩
abbrev S2x256x256 : Shape := ⟨3, ![2, 256, 256]⟩
abbrev S2x16x512 : Shape := ⟨3, ![2, 16, 512]⟩
abbrev S2x256x512 : Shape := ⟨3, ![2, 256, 512]⟩
abbrev S1x16x512 : Shape := ⟨3, ![1, 16, 512]⟩
abbrev S1x256x512 : Shape := ⟨3, ![1, 256, 512]⟩
abbrev S2x3x512 : Shape := ⟨3, ![2, 3, 512]⟩
abbrev S2x1x512 : Shape := ⟨3, ![2, 1, 512]⟩
abbrev S256x512 : Shape := ⟨2, ![256, 512]⟩
abbrev S16x512 : Shape := ⟨2, ![16, 512]⟩
abbrev S1x512 : Shape := ⟨2, ![1, 512]⟩
abbrev S1x1x512 : Shape := ⟨3, ![1, 1, 512]⟩
abbrev S512 : Shape := ⟨1, ![512]⟩

abbrev nBuf : Space → Nat
  | .hbm => 44
  | .vmem => 23
  | .smem => 0
  | _ => 0

abbrev bufTy : (tb : Table) → Fin (tcTables nBuf tb) → BufTy
  | .hbm, ⟨0, _⟩ => ⟨S4096x11264, .bf16⟩
  | .hbm, ⟨1, _⟩ => ⟨S3x11264, .f32⟩
  | .hbm, ⟨2, _⟩ => ⟨S11264, .f32⟩
  | .hbm, ⟨3, _⟩ => ⟨S4096x5632, .bf16⟩
  | .hbm, ⟨4, _⟩ => ⟨S4096x2x5632, .bf16⟩
  | .hbm, ⟨5, _⟩ => ⟨S2x4096x5632, .bf16⟩
  | .hbm, ⟨6, _⟩ => ⟨S3x2x5632, .f32⟩
  | .hbm, ⟨7, _⟩ => ⟨S2x3x5632, .f32⟩
  | .hbm, ⟨8, _⟩ => ⟨S2x1x5632, .f32⟩
  | .hbm, ⟨9, _⟩ => ⟨S1x4096x5632, .bf16⟩
  | .hbm, ⟨10, _⟩ => ⟨S1x4096x5632, .bf16⟩
  | .hbm, ⟨11, _⟩ => ⟨S1x4096x5632, .bf16⟩
  | .hbm, ⟨12, _⟩ => ⟨S256, .i32⟩
  | .hbm, ⟨13, _⟩ => ⟨S256x1, .i32⟩
  | .hbm, ⟨14, _⟩ => ⟨S_, .i32⟩
  | .hbm, ⟨15, _⟩ => ⟨S256x1, .i32⟩
  | .hbm, ⟨16, _⟩ => ⟨S256x1, .i32⟩
  | .hbm, ⟨17, _⟩ => ⟨S1x256, .i32⟩
  | .hbm, ⟨18, _⟩ => ⟨S256x256, .i32⟩
  | .hbm, ⟨19, _⟩ => ⟨S256x256, .i32⟩
  | .hbm, ⟨20, _⟩ => ⟨S256x256, .i1⟩
  | .hbm, ⟨21, _⟩ => ⟨S256x1, .i32⟩
  | .hbm, ⟨22, _⟩ => ⟨S_, .i32⟩
  | .hbm, ⟨23, _⟩ => ⟨S256x1, .i32⟩
  | .hbm, ⟨24, _⟩ => ⟨S256x1, .i32⟩
  | .hbm, ⟨25, _⟩ => ⟨S1x256, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S1x256x256, .i1⟩
  | .hbm, ⟨30, _⟩ => ⟨S1x256x256, .i1⟩
  | .hbm, ⟨31, _⟩ => ⟨S2x256x256, .i1⟩
  | .hbm, ⟨32, _⟩ => ⟨S_, .f32⟩
  | .hbm, ⟨33, _⟩ => ⟨S_, .f32⟩
  | .hbm, ⟨34, _⟩ => ⟨S2x256x256, .f32⟩
  | .hbm, ⟨35, _⟩ => ⟨S2x256x256, .f32⟩
  | .hbm, ⟨36, _⟩ => ⟨S2x256x256, .f32⟩
  | .hbm, ⟨37, _⟩ => ⟨S2x256x256, .bf16⟩
  | .hbm, ⟨38, _⟩ => ⟨S2x4096x5632, .bf16⟩
  | .hbm, ⟨39, _⟩ => ⟨S2x3x5632, .f32⟩
  | .hbm, ⟨40, _⟩ => ⟨S2x1x5632, .f32⟩
  | .hbm, ⟨41, _⟩ => ⟨S3x2x5632, .f32⟩
  | .hbm, ⟨42, _⟩ => ⟨S3x11264, .f32⟩
  | .hbm, ⟨43, _⟩ => ⟨S11264, .f32⟩
  | .local _ .vmem, ⟨0, _⟩ => ⟨S2x16x512, .bf16⟩
  | .local _ .vmem, ⟨1, _⟩ => ⟨S2x16x512, .bf16⟩
  | .local _ .vmem, ⟨2, _⟩ => ⟨S2x256x512, .bf16⟩
  | .local _ .vmem, ⟨3, _⟩ => ⟨S2x256x512, .bf16⟩
  | .local _ .vmem, ⟨4, _⟩ => ⟨S2x16x512, .bf16⟩
  | .local _ .vmem, ⟨5, _⟩ => ⟨S2x16x512, .bf16⟩
  | .local _ .vmem, ⟨6, _⟩ => ⟨S1x16x512, .bf16⟩
  | .local _ .vmem, ⟨7, _⟩ => ⟨S1x16x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x16x512, .bf16⟩
  | .local _ .vmem, ⟨11, _⟩ => ⟨S1x16x512, .bf16⟩
  | .local _ .vmem, ⟨12, _⟩ => ⟨S2x3x512, .f32⟩
  | .local _ .vmem, ⟨13, _⟩ => ⟨S2x3x512, .f32⟩
  | .local _ .vmem, ⟨14, _⟩ => ⟨S2x1x512, .f32⟩
  | .local _ .vmem, ⟨15, _⟩ => ⟨S2x1x512, .f32⟩
  | .local _ .vmem, ⟨16, _⟩ => ⟨S2x256x256, .bf16⟩
  | .local _ .vmem, ⟨17, _⟩ => ⟨S2x256x512, .bf16⟩
  | .local _ .vmem, ⟨18, _⟩ => ⟨S2x256x512, .bf16⟩
  | .local _ .vmem, ⟨19, _⟩ => ⟨S2x3x512, .f32⟩
  | .local _ .vmem, ⟨20, _⟩ => ⟨S2x3x512, .f32⟩
  | .local _ .vmem, ⟨21, _⟩ => ⟨S2x1x512, .f32⟩
  | .local _ .vmem, ⟨22, _⟩ => ⟨S2x1x512, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v28_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![11, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![c0_i32.toNat, v2.toNat, arg0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![c0_i32.toNat, v2.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S2x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnReferenceIdeal.lean ====
abbrev S4096x11264 : Shape := ⟨2, ![4096, 11264]⟩
abbrev S3x11264 : Shape := ⟨2, ![3, 11264]⟩
abbrev S11264 : Shape := ⟨1, ![11264]⟩
abbrev S4096x5632 : Shape := ⟨2, ![4096, 5632]⟩
abbrev S_ : Shape := ⟨0, ![]⟩
abbrev S1x11264 : Shape := ⟨2, ![1, 11264]⟩
abbrev S4098x11264 : Shape := ⟨2, ![4098, 11264]⟩
abbrev S4096x2x5632 : Shape := ⟨3, ![4096, 2, 5632]⟩
abbrev S2x4096x5632 : Shape := ⟨3, ![2, 4096, 5632]⟩

abbrev nBuf : Space → Nat
  | .hbm => 116
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S3x11264, .f32⟩
  | .hbm, ⟨2, _⟩ => ⟨S11264, .f32⟩
  | .hbm, ⟨3, _⟩ => ⟨S4096x5632, .bf16⟩
  | .hbm, ⟨4, _⟩ => ⟨S4096x11264, .f32⟩
  | .hbm, ⟨5, _⟩ => ⟨S_, .f32⟩
  | .hbm, ⟨6, _⟩ => ⟨S1x11264, .f32⟩
  | .hbm, ⟨7, _⟩ => ⟨S4098x11264, .f32⟩
  | .hbm, ⟨8, _⟩ => ⟨S_, .f32⟩
  | .hbm, ⟨9, _⟩ => ⟨S1x11264, .f32⟩
  | .hbm, ⟨10, _⟩ => ⟨S_, .f32⟩
  | .hbm, ⟨11, _⟩ => ⟨S1x11264, .f32⟩
  | .hbm, ⟨12, _⟩ => ⟨S1x11264, .f32⟩
  | .hbm, ⟨13, _⟩ => ⟨S11264, .f32⟩
  | .hbm, ⟨14, _⟩ => ⟨S4096x11264, .f32⟩
  | .hbm, ⟨15, _⟩ => ⟨S1x11264, .f32⟩
  | .hbm, ⟨16, _⟩ => ⟨S4096x11264, .f32⟩
  | .hbm, ⟨17, _⟩ => ⟨S4096x11264, .f32⟩
  | .hbm, ⟨18, _⟩ => ⟨S_, .f32⟩
  | .hbm, ⟨19, _⟩ => ⟨S4096x11264, .f32⟩
  | .hbm, ⟨20, _⟩ => ⟨S4096x11264, .f32⟩
  | .hbm, ⟨21, _⟩ => ⟨S1x11264, .f32⟩
  | .hbm, ⟨22, _⟩ => ⟨S11264, .f32⟩
  | .hbm, ⟨23, _⟩ => ⟨S4096x11264, .f32⟩
  | .hbm, ⟨24, _⟩ => ⟨S1x11264, .f32⟩
  | .hbm, ⟨25, _⟩ => ⟨S4096x11264, .f32⟩
  | .hbm, ⟨26, _⟩ => ⟨S4096x11264, .f32⟩
  | .hbm, ⟨27, _⟩ => ⟨S4096x11264, .f32⟩
  | .hbm, ⟨28, _⟩ => ⟨S1x11264, .f32⟩
  | .hbm, ⟨29, _⟩ => ⟨S11264, .f32⟩
  | .hbm, ⟨30, _⟩ => ⟨S4096x11264, .f32⟩
  | .hbm, ⟨31, _⟩ => ⟨S1x11264, .f32⟩
  | .hbm, ⟨32, _⟩ => ⟨S4096x11264, .f32⟩
  | .hbm, ⟨33, _⟩ => ⟨S4096x11264, .f32⟩
  | .hbm, ⟨34, _⟩ => ⟨S4096x11264, .f32⟩
  | .hbm, ⟨35, _⟩ => ⟨S1x11264, .f32⟩
  | .hbm, ⟨36, _⟩ => ⟨S4096x11264, .f32⟩
  | .hbm, ⟨37, _⟩ => ⟨S4096x11264, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S_, .f32⟩
  | .hbm, ⟨43, _⟩ => ⟨S4096x5632, .f32⟩
  | .hbm, ⟨44, _⟩ => ⟨S4096x5632, .f32⟩
  | .hbm, ⟨45, _⟩ => ⟨S_, .f32⟩
  | .hbm, ⟨46, _⟩ => ⟨S4096x5632, .f32⟩
  | .hbm, ⟨47, _⟩ => ⟨S4096x5632, .f32⟩
  | .hbm, ⟨48, _⟩ => ⟨S_, .f32⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S4096x5632, .f32⟩
  | .hbm, ⟨54, _⟩ => ⟨S4096x5632, .f32⟩
  | .hbm, ⟨55, _⟩ => ⟨S4096x5632, .f32⟩
  | .hbm, ⟨56, _⟩ => ⟨S4096x5632, .f32⟩
  | .hbm, ⟨57, _⟩ => ⟨S4096x5632, .f32⟩
  | .hbm, ⟨58, _⟩ => ⟨S4096x5632, .f32⟩
  | .hbm, ⟨59, _⟩ => ⟨S4096x5632, .f32⟩
  | .hbm, ⟨60, _⟩ => ⟨S4096x5632, .f32⟩
  | .hbm, ⟨61, _⟩ => ⟨S4096x11264, .f32⟩
  | .hbm, ⟨62, _⟩ => ⟨S_, .f32⟩
  | .hbm, ⟨63, _⟩ => ⟨S11264, .f32⟩
  | .hbm, ⟨64, _⟩ => ⟨S1x11264, .f32⟩
  | .hbm, ⟨65, _⟩ => ⟨S_, .f32⟩
  | .hbm, ⟨66, _⟩ => ⟨S11264, .f32⟩
  | .hbm, ⟨67, _⟩ => ⟨S4096x11264, .f32⟩
  | .hbm, ⟨68, _⟩ => ⟨S4096x11264, .f32⟩
  | .hbm, ⟨69, _⟩ => ⟨S4096x11264, .f32⟩
  | .hbm, ⟨70, _⟩ => ⟨S_, .f32⟩
  | .hbm, ⟨71, _⟩ => ⟨S11264, .f32⟩
  | .hbm, ⟨72, _⟩ => ⟨S1x11264, .f32⟩
  | .hbm, ⟨73, _⟩ => ⟨S_, .f32⟩
  | .hbm, ⟨74, _⟩ => ⟨S11264, .f32⟩
  | .hbm, ⟨75, _⟩ => ⟨S_, .f32⟩
  | .hbm, ⟨76, _⟩ => ⟨S4098x11264, .f32⟩
  | .hbm, ⟨77, _⟩ => ⟨S1x11264, .f32⟩
  | .hbm, ⟨78, _⟩ => ⟨S_, .f32⟩
  | .hbm, ⟨79, _⟩ => ⟨S3x11264, .f32⟩
  | .hbm, ⟨80, _⟩ => ⟨S4096x11264, .f32⟩
  | .hbm, ⟨81, _⟩ => ⟨S4096x11264, .f32⟩
  | .hbm, ⟨82, _⟩ => ⟨S4096x11264, .f32⟩
  | .hbm, ⟨83, _⟩ => ⟨S_, .f32⟩
  | .hbm, ⟨84, _⟩ => ⟨S11264, .f32⟩
  | .hbm, ⟨85, _⟩ => ⟨S1x11264, .f32⟩
  | .hbm, ⟨86, _⟩ => ⟨S_, .f32⟩
  | .hbm, ⟨87, _⟩ => ⟨S11264, .f32⟩
  | .hbm, ⟨88, _⟩ => ⟨S_, .f32⟩
  | .hbm, ⟨89, _⟩ => ⟨S4098x11264, .f32⟩
  | .hbm, ⟨90, _⟩ => ⟨S4098x11264, .f32⟩
  | .hbm, ⟨91, _⟩ => ⟨S1x11264, .f32⟩
  | .hbm, ⟨92, _⟩ => ⟨S_, .f32⟩
  | .hbm, ⟨93, _⟩ => ⟨S3x11264, .f32⟩
  | .hbm, ⟨94, _⟩ => ⟨S3x11264, .f32⟩
  | .hbm, ⟨95, _⟩ => ⟨S4096x11264, .f32⟩
  | .hbm, ⟨96, _⟩ => ⟨S4096x11264, .f32⟩
  | .hbm, ⟨97, _⟩ => ⟨S4096x11264, .f32⟩
  | .hbm, ⟨98, _⟩ => ⟨S_, .f32⟩
  | .hbm, ⟨99, _⟩ => ⟨S11264, .f32⟩
  | .hbm, ⟨100, _⟩ => ⟨S1x11264, .f32⟩
  | .hbm, ⟨101, _⟩ => ⟨S_, .f32⟩
  | .hbm, ⟨102, _⟩ => ⟨S11264, .f32⟩
  | .hbm, ⟨103, _⟩ => ⟨S_, .f32⟩
  | .hbm, ⟨104, _⟩ => ⟨S4098x11264, .f32⟩
  | .hbm, ⟨105, _⟩ => ⟨S4098x11264, .f32⟩
  | .hbm, ⟨106, _⟩ => ⟨S1x11264, .f32⟩
  | .hbm, ⟨107, _⟩ => ⟨S_, .f32⟩
  | .hbm, ⟨108, _⟩ => ⟨S3x11264, .f32⟩
  | .hbm, ⟨109, _⟩ => ⟨S3x11264, .f32⟩
  | .hbm, ⟨110, _⟩ => ⟨S1x11264, .f32⟩
  | .hbm, ⟨111, _⟩ => ⟨S4096x11264, .f32⟩
  | .hbm, ⟨112, _⟩ => ⟨S1x11264, .f32⟩
  | .hbm, ⟨113, _⟩ => ⟨S4096x11264, .bf16⟩
  | .hbm, ⟨114, _⟩ => ⟨S4096x2x5632, .bf16⟩
  | .hbm, ⟨115, _⟩ => ⟨S2x4096x5632, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v32_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v32_1 : Ref sig .tc := ⟨.hbm, 51, rfl⟩
abbrev main_v32_0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_16 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩

abbrev nD : Nat := 1
abbrev τ : Topo := Topo.v7x

variable {F : FTy → Type} [FloatOps F]
-- ==== SduKernel.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SduReferenceIdeal.lean ====
abbrev S4096x1024 : Shape := ⟨2, ![4096, 1024]⟩
abbrev S1024 : Shape := ⟨1, ![1024]⟩
abbrev S_ : Shape := ⟨0, ![]⟩
abbrev S1x1024 : Shape := ⟨2, ![1, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S_, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== ModKernel.lean ====
abbrev S4096x2048 : Shape := ⟨2, ![4096, 2048]⟩
abbrev S2048 : Shape := ⟨1, ![2048]⟩
abbrev S_ : Shape := ⟨0, ![]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .bf16⟩
  | .local _ .vmem, ⟨5, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== GresKernel.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048, .f32⟩
  | .hbm, ⟨3, _⟩ => ⟨S1x2048, .f32⟩
  | .hbm, ⟨4, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GresReferenceIdeal.lean ====
abbrev S4096x2048 : Shape := ⟨2, ![4096, 2048]⟩
abbrev S2048 : Shape := ⟨1, ![2048]⟩
abbrev S1x2048 : Shape := ⟨2, ![1, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RnKernel.lean ====
abbrev S4096x2048 : Shape := ⟨2, ![4096, 2048]⟩
abbrev S2048 : Shape := ⟨1, ![2048]⟩
abbrev S_ : Shape := ⟨0, ![]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S4096x2048, .f32⟩
  | .hbm, ⟨14, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RnReferenceIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S4096x2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== MidKernel.lean ====
abbrev S4096x11264 : Shape := ⟨2, ![4096, 11264]⟩
abbrev S3x11264 : Shape := ⟨2, ![3, 11264]⟩
abbrev S11264 : Shape := ⟨1, ![11264]⟩
abbrev S4096x2x5632 : Shape := ⟨3, ![4096, 2, 5632]⟩
abbrev S2x4096x5632 : Shape := ⟨3, ![2, 4096, 5632]⟩
abbrev S3x2x5632 : Shape := ⟨3, ![3, 2, 5632]⟩
abbrev S2x3x5632 : Shape := ⟨3, ![2, 3, 5632]⟩
abbrev S2x1x5632 : Shape := ⟨3, ![2, 1, 5632]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1x256x256 : Shape := ⟨3, ![1, 256, 256]⟩
abbrev S2x256x256 : Shape := ⟨3, ![2, 256, 256]⟩
abbrev S4096x5632 : Shape := ⟨2, ![4096, 5632]⟩
abbrev S2x16x512 : Shape := ⟨3, ![2, 16, 512]⟩
abbrev S2x256x512 : Shape := ⟨3, ![2, 256, 512]⟩
abbrev S2x3x512 : Shape := ⟨3, ![2, 3, 512]⟩
abbrev S2x1x512 : Shape := ⟨3, ![2, 1, 512]⟩
abbrev S256x512 : Shape := ⟨2, ![256, 512]⟩
abbrev S1x256x512 : Shape := ⟨3, ![1, 256, 512]⟩
abbrev S1x16x512 : Shape := ⟨3, ![1, 16, 512]⟩
abbrev S16x512 : Shape := ⟨2, ![16, 512]⟩
abbrev S1x512 : Shape := ⟨2, ![1, 512]⟩
abbrev S1x1x512 : Shape := ⟨3, ![1, 1, 512]⟩

abbrev nBuf : Space → Nat
  | .hbm => 35
  | .vmem => 13
  | .smem => 0
  | _ => 0

abbrev bufTy : (tb : Table) → Fin (tcTables nBuf tb) → BufTy
  | .hbm, ⟨0, _⟩ => ⟨S4096x11264, .bf16⟩
  | .hbm, ⟨1, _⟩ => ⟨S3x11264, .f32⟩
  | .hbm, ⟨2, _⟩ => ⟨S11264, .f32⟩
  | .hbm, ⟨3, _⟩ => ⟨S4096x2x5632, .bf16⟩
  | .hbm, ⟨4, _⟩ => ⟨S2x4096x5632, .bf16⟩
  | .hbm, ⟨5, _⟩ => ⟨S3x2x5632, .f32⟩
  | .hbm, ⟨6, _⟩ => ⟨S2x3x5632, .f32⟩
  | .hbm, ⟨7, _⟩ => ⟨S2x1x5632, .f32⟩
  | .hbm, ⟨8, _⟩ => ⟨S256, .i32⟩
  | .hbm, ⟨9, _⟩ => ⟨S256x1, .i32⟩
  | .hbm, ⟨10, _⟩ => ⟨S_, .i32⟩
  | .hbm, ⟨11, _⟩ => ⟨S256x1, .i32⟩
  | .hbm, ⟨12, _⟩ => ⟨S256x1, .i32⟩
  | .hbm, ⟨13, _⟩ => ⟨S1x256, .i32⟩
  | .hbm, ⟨14, _⟩ => ⟨S256x256, .i32⟩
  | .hbm, ⟨15, _⟩ => ⟨S256x256, .i32⟩
  | .hbm, ⟨16, _⟩ => ⟨S256x256, .i1⟩
  | .hbm, ⟨17, _⟩ => ⟨S256x1, .i32⟩
  | .hbm, ⟨18, _⟩ => ⟨S_, .i32⟩
  | .hbm, ⟨19, _⟩ => ⟨S256x1, .i32⟩
  | .hbm, ⟨20, _⟩ => ⟨S256x1, .i32⟩
  | .hbm, ⟨21, _⟩ => ⟨S1x256, .i32⟩
  | .hbm, ⟨22, _⟩ => ⟨S256x256, .i32⟩
  | .hbm, ⟨23, _⟩ => ⟨S256x256, .i32⟩
  | .hbm, ⟨24, _⟩ => ⟨S256x256, .i1⟩
  | .hbm, ⟨25, _⟩ => ⟨S1x256x256, .i1⟩
  | .hbm, ⟨26, _⟩ => ⟨S1x256x256, .i1⟩
  | .hbm, ⟨27, _⟩ => ⟨S2x256x256, .i1⟩
  | .hbm, ⟨28, _⟩ => ⟨S_, .f32⟩
  | .hbm, ⟨29, _⟩ => ⟨S_, .f32⟩
  | .hbm, ⟨30, _⟩ => ⟨S2x256x256, .f32⟩
  | .hbm, ⟨31, _⟩ => ⟨S2x256x256, .f32⟩
  | .hbm, ⟨32, _⟩ => ⟨S2x256x256, .f32⟩
  | .hbm, ⟨33, _⟩ => ⟨S2x256x256, .bf16⟩
  | .hbm, ⟨34, _⟩ => ⟨S4096x5632, .bf16⟩
  | .local _ .vmem, ⟨0, _⟩ => ⟨S2x16x512, .bf16⟩
  | .local _ .vmem, ⟨1, _⟩ => ⟨S2x16x512, .bf16⟩
  | .local _ .vmem, ⟨2, _⟩ => ⟨S2x256x512, .bf16⟩
  | .local _ .vmem, ⟨3, _⟩ => ⟨S2x256x512, .bf16⟩
  | .local _ .vmem, ⟨4, _⟩ => ⟨S2x16x512, .bf16⟩
  | .local _ .vmem, ⟨5, _⟩ => ⟨S2x16x512, .bf16⟩
  | .local _ .vmem, ⟨6, _⟩ => ⟨S2x3x512, .f32⟩
  | .local _ .vmem, ⟨7, _⟩ => ⟨S2x3x512, .f32⟩
  | .local _ .vmem, ⟨8, _⟩ => ⟨S2x1x512, .f32⟩
  | .local _ .vmem, ⟨9, _⟩ => ⟨S2x1x512, .f32⟩
  | .local _ .vmem, ⟨10, _⟩ => ⟨S2x256x256, .bf16⟩
  | .local _ .vmem, ⟨11, _⟩ => ⟨S256x512, .bf16⟩
  | .local _ .vmem, ⟨12, _⟩ => ⟨S256x512, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![11, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![c0_i32.toNat, v2.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MidReferenceIdeal.lean ====
abbrev S4096x11264 : Shape := ⟨2, ![4096, 11264]⟩
abbrev S3x11264 : Shape := ⟨2, ![3, 11264]⟩
abbrev S11264 : Shape := ⟨1, ![11264]⟩
abbrev S_ : Shape := ⟨0, ![]⟩
abbrev S1x11264 : Shape := ⟨2, ![1, 11264]⟩
abbrev S4098x11264 : Shape := ⟨2, ![4098, 11264]⟩
abbrev S4096x5632 : Shape := ⟨2, ![4096, 5632]⟩

abbrev nBuf : Space → Nat
  | .hbm => 46
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S3x11264, .f32⟩
  | .hbm, ⟨2, _⟩ => ⟨S11264, .f32⟩
  | .hbm, ⟨3, _⟩ => ⟨S4096x11264, .f32⟩
  | .hbm, ⟨4, _⟩ => ⟨S_, .f32⟩
  | .hbm, ⟨5, _⟩ => ⟨S1x11264, .f32⟩
  | .hbm, ⟨6, _⟩ => ⟨S4098x11264, .f32⟩
  | .hbm, ⟨7, _⟩ => ⟨S1x11264, .f32⟩
  | .hbm, ⟨8, _⟩ => ⟨S11264, .f32⟩
  | .hbm, ⟨9, _⟩ => ⟨S4096x11264, .f32⟩
  | .hbm, ⟨10, _⟩ => ⟨S1x11264, .f32⟩
  | .hbm, ⟨11, _⟩ => ⟨S4096x11264, .f32⟩
  | .hbm, ⟨12, _⟩ => ⟨S4096x11264, .f32⟩
  | .hbm, ⟨13, _⟩ => ⟨S_, .f32⟩
  | .hbm, ⟨14, _⟩ => ⟨S4096x11264, .f32⟩
  | .hbm, ⟨15, _⟩ => ⟨S4096x11264, .f32⟩
  | .hbm, ⟨16, _⟩ => ⟨S1x11264, .f32⟩
  | .hbm, ⟨17, _⟩ => ⟨S11264, .f32⟩
  | .hbm, ⟨18, _⟩ => ⟨S4096x11264, .f32⟩
  | .hbm, ⟨19, _⟩ => ⟨S1x11264, .f32⟩
  | .hbm, ⟨20, _⟩ => ⟨S4096x11264, .f32⟩
  | .hbm, ⟨21, _⟩ => ⟨S4096x11264, .f32⟩
  | .hbm, ⟨22, _⟩ => ⟨S4096x11264, .f32⟩
  | .hbm, ⟨23, _⟩ => ⟨S1x11264, .f32⟩
  | .hbm, ⟨24, _⟩ => ⟨S11264, .f32⟩
  | .hbm, ⟨25, _⟩ => ⟨S4096x11264, .f32⟩
  | .hbm, ⟨26, _⟩ => ⟨S1x11264, .f32⟩
  | .hbm, ⟨27, _⟩ => ⟨S4096x11264, .f32⟩
  | .hbm, ⟨28, _⟩ => ⟨S4096x11264, .f32⟩
  | .hbm, ⟨29, _⟩ => ⟨S4096x11264, .f32⟩
  | .hbm, ⟨30, _⟩ => ⟨S1x11264, .f32⟩
  | .hbm, ⟨31, _⟩ => ⟨S4096x11264, .f32⟩
  | .hbm, ⟨32, _⟩ => ⟨S4096x11264, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S_, .f32⟩
  | .hbm, ⟨38, _⟩ => ⟨S4096x5632, .f32⟩
  | .hbm, ⟨39, _⟩ => ⟨S4096x5632, .f32⟩
  | .hbm, ⟨40, _⟩ => ⟨S_, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .f32⟩
  | .hbm, ⟨45, _⟩ => ⟨S4096x5632, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== GlufKernel.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GlufReferenceIdeal.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== GluKernel.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096x2048 : Shape := ⟨2, ![4096, 2048]⟩
abbrev S1x1024 : Shape := ⟨2, ![1, 1024]⟩
abbrev S512x1024 : Shape := ⟨2, ![512, 1024]⟩

abbrev nBuf : Space → Nat
  | .hbm => 16
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024x1024, .f32⟩
  | .hbm, ⟨5, _⟩ => ⟨S4096x1024, .bf16⟩
  | .hbm, ⟨6, _⟩ => ⟨S_, .bf16⟩
  | .hbm, ⟨7, _⟩ => ⟨S4096x1024, .bf16⟩
  | .hbm, ⟨8, _⟩ => ⟨S4096x2048, .bf16⟩
  | .hbm, ⟨9, _⟩ => ⟨S1024x1024, .bf16⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S4096x1024, .bf16⟩
  | .hbm, ⟨14, _⟩ => ⟨S1x1024, .f32⟩
  | .hbm, ⟨15, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v82 : BitVec 1 := Scalar.cmpi .eq arg0 c0_i32
  let v83 : BitVec 32 := Scalar.extui v82
  let c0_i32_38 : BitVec 32 := 0#32
  let v84 : BitVec 1 := Scalar.cmpi .ne v83 c0_i32_38
  v84

def k0_cond2 (i : grid0.Coords) : BitVec 1 :=
  let arg0 : BitVec 32 := BitVec.ofNat 32 (i 0).val
  let c0_i32_39 : BitVec 32 := 0#32
  let v85 : BitVec 1 := Scalar.cmpi .sgt arg0 c0_i32_39
  let v86 : BitVec 32 := Scalar.extui v85
  let c0_i32_40 : BitVec 32 := 0#32
  let v87 : BitVec 1 := Scalar.cmpi .ne v86 c0_i32_40
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GluKernelIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== GluReferenceIdeal.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1024x1024, .f32⟩
  | .hbm, ⟨5, _⟩ => ⟨S4096x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S1x1024, .f32⟩
  | .hbm, ⟨11, _⟩ => ⟨S1024, .f32⟩
  | .local _ .vmem, ⟨0, _⟩ => ⟨S4096x1024, .f32⟩
  | .local _ .vmem, ⟨1, _⟩ => ⟨S4096x1024, .f32⟩
  | .local _ .vmem, ⟨2, _⟩ => ⟨S4096x1024, .f32⟩
  | .local _ .vmem, ⟨3, _⟩ => ⟨S1x1024, .f32⟩
  | .local _ .vmem, ⟨4, _⟩ => ⟨S1024x1024, .f32⟩
  | .local _ .vmem, ⟨5, _⟩ => ⟨S4096x1024, .bf16⟩
  | .local _ .vmem, ⟨6, _⟩ => ⟨S4096x1024, .f32⟩
  | .local _ .vmem, ⟨7, _⟩ => ⟨S4096x1024, .bf16⟩
  | .local _ .vmem, ⟨8, _⟩ => ⟨S4096x1024, .bf16⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "cubic" => some ((8943 / 200000 : ℝ) : EReal)
  | _ => none

abbrev grid0 : Pipeline.Grid := .none

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== DnKernel.lean ====
abbrev S4096x5632 : Shape := ⟨2, ![4096, 5632]⟩
abbrev S5632x2048 : Shape := ⟨2, ![5632, 2048]⟩
abbrev S4096x2048 : Shape := ⟨2, ![4096, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S5632x2048, .bf16⟩
  | .hbm, ⟨3, _⟩ => ⟨S4096x2048, .bf16⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DnReferenceIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x5632, .f32⟩
  | .hbm, ⟨3, _⟩ => ⟨S4096x2048, .f32⟩
  | .hbm, ⟨4, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DnxKernel.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S5632x2048, .bf16⟩
  | .hbm, ⟨3, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DnxReferenceIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x2048, .f32⟩
  | .hbm, ⟨6, _⟩ => ⟨S4096x5632, .f32⟩
  | .hbm, ⟨7, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DnwKernel.lean ====
abbrev S4096x5632 : Shape := ⟨2, ![4096, 5632]⟩
abbrev S4096x2048 : Shape := ⟨2, ![4096, 2048]⟩
abbrev S5632x2048 : Shape := ⟨2, ![5632, 2048]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DnwReferenceIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpfKernel.lean ====
abbrev S4096x2048 : Shape := ⟨2, ![4096, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S2x4096x5632 : Shape := ⟨3, ![2, 4096, 5632]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .f32⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S2x4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.divsi v16 c2_i32_4
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c0_i32_7 : BitVec 32 := 0#32
  let v23 : BitVec 1 := Scalar.cmpi .sgt c2_i32_4 c0_i32_7
  let v24 : BitVec 32 := Scalar.extui v23
  let c0_i32_8 : BitVec 32 := 0#32
  let v25 : BitVec 1 := Scalar.cmpi .slt c2_i32_4 c0_i32_8
  let v26 : BitVec 32 := Scalar.extui v25
  let v27 : BitVec 32 := Scalar.subi v24 v26
  let v28 : BitVec 1 := Scalar.cmpi .ne v22 v27
  let v29 : BitVec 32 := Scalar.remsi v16 c2_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c2_i32_11 : BitVec 32 := 2#32
  let v34 : BitVec 32 := Scalar.divsi arg1 c2_i32_11
  let c0_i32_12 : BitVec 32 := 0#32
  let v35 : BitVec 1 := Scalar.cmpi .sgt arg1 c0_i32_12
  let v36 : BitVec 32 := Scalar.extui v35
  let c0_i32_13 : BitVec 32 := 0#32
  let v37 : BitVec 1 := Scalar.cmpi .slt arg1 c0_i32_13
  let v38 : BitVec 32 := Scalar.extui v37
  let v39 : BitVec 32 := Scalar.subi v36 v38
  let c0_i32_14 : BitVec 32 := 0#32
  let v40 : BitVec 1 := Scalar.cmpi .sgt c2_i32_11 c0_i32_14
  let v41 : BitVec 32 := Scalar.extui v40
  let c0_i32_15 : BitVec 32 := 0#32
  let v42 : BitVec 1 := Scalar.cmpi .slt c2_i32_11 c0_i32_15
  let v43 : BitVec 32 := Scalar.extui v42
  let v44 : BitVec 32 := Scalar.subi v41 v43
  let v45 : BitVec 1 := Scalar.cmpi .ne v39 v44
  let v46 : BitVec 32 := Scalar.remsi arg1 c2_i32_11
  let c0_i32_16 : BitVec 32 := 0#32
  let v47 : BitVec 1 := Scalar.cmpi .ne v46 c0_i32_16
  let v48 : BitVec 1 := Scalar.andi v45 v47
  let c1_i32_17 : BitVec 32 := 1#32
  let v49 : BitVec 32 := Scalar.subi v34 c1_i32_17
  let v50 : BitVec 32 := Scalar.select v48 v49 v34
  let c2_i32_18 : BitVec 32 := 2#32
  let c0_i32_19 : BitVec 32 := 0#32
  let v51 : BitVec 1 := Scalar.cmpi .eq c2_i32_18 c0_i32_19
  let c1_i32_20 : BitVec 32 := 1#32
  let v52 : BitVec 32 := Scalar.select v51 c1_i32_20 c2_i32_18
  let v53 : BitVec 32 := Scalar.remsi v50 v52
  let c0_i32_21 : BitVec 32 := 0#32
  let v54 : BitVec 1 := Scalar.cmpi .ne v53 c0_i32_21
  let c0_i32_22 : BitVec 32 := 0#32
  let v55 : BitVec 1 := Scalar.cmpi .slt v53 c0_i32_22
  let c0_i32_23 : BitVec 32 := 0#32
  let v56 : BitVec 1 := Scalar.cmpi .slt v52 c0_i32_23
  let v57 : BitVec 1 := Scalar.xori v55 v56
  let v58 : BitVec 1 := Scalar.andi v57 v54
  let v59 : BitVec 32 := Scalar.addi v53 v52
  let v60 : BitVec 32 := Scalar.select v58 v59 v53
  let c2_i32_24 : BitVec 32 := 2#32
  let v61 : BitVec 32 := Scalar.muli v60 c2_i32_24
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi arg1 v63
  let c0_i32_28 : BitVec 32 := 0#32
  let v65 : BitVec 1 := Scalar.cmpi .ne v64 c0_i32_28
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let v69 : BitVec 1 := Scalar.andi v68 v65
  let v70 : BitVec 32 := Scalar.addi v64 v63
  let v71 : BitVec 32 := Scalar.select v69 v70 v64
  let v72 : BitVec 32 := Scalar.addi v61 v71
  let c0_i32_31 : BitVec 32 := 0#32
  ![v33.toNat, arg0.toNat, v72.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpfReferenceIdeal.lean ====
abbrev S4096x2048 : Shape := ⟨2, ![4096, 2048]⟩
abbrev S2048x11264 : Shape := ⟨2, ![2048, 11264]⟩
abbrev S4096x11264 : Shape := ⟨2, ![4096, 11264]⟩
abbrev S4096x2x5632 : Shape := ⟨3, ![4096, 2, 5632]⟩
abbrev S2x4096x5632 : Shape := ⟨3, ![2, 4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .f32⟩
  | .hbm, ⟨2, _⟩ => ⟨S4096x2048, .f32⟩
  | .hbm, ⟨3, _⟩ => ⟨S4096x11264, .f32⟩
  | .hbm, ⟨4, _⟩ => ⟨S4096x11264, .bf16⟩
  | .hbm, ⟨5, _⟩ => ⟨S4096x2x5632, .bf16⟩
  | .hbm, ⟨6, _⟩ => ⟨S2x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpwKernel.lean ====
abbrev S4096x2048 : Shape := ⟨2, ![4096, 2048]⟩
abbrev S4096x11264 : Shape := ⟨2, ![4096, 11264]⟩
abbrev S4096x2x5632 : Shape := ⟨3, ![4096, 2, 5632]⟩
abbrev S2x4096x5632 : Shape := ⟨3, ![2, 4096, 5632]⟩
abbrev S4x2048x2816 : Shape := ⟨3, ![4, 2048, 2816]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S4096x2x5632, .bf16⟩
  | .hbm, ⟨3, _⟩ => ⟨S2x4096x5632, .bf16⟩
  | .hbm, ⟨4, _⟩ => ⟨S4x2048x2816, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.divsi v16 c2_i32_4
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c0_i32_7 : BitVec 32 := 0#32
  let v23 : BitVec 1 := Scalar.cmpi .sgt c2_i32_4 c0_i32_7
  let v24 : BitVec 32 := Scalar.extui v23
  let c0_i32_8 : BitVec 32 := 0#32
  let v25 : BitVec 1 := Scalar.cmpi .slt c2_i32_4 c0_i32_8
  let v26 : BitVec 32 := Scalar.extui v25
  let v27 : BitVec 32 := Scalar.subi v24 v26
  let v28 : BitVec 1 := Scalar.cmpi .ne v22 v27
  let v29 : BitVec 32 := Scalar.remsi v16 c2_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c2_i32_11 : BitVec 32 := 2#32
  let v34 : BitVec 32 := Scalar.divsi arg1 c2_i32_11
  let c0_i32_12 : BitVec 32 := 0#32
  let v35 : BitVec 1 := Scalar.cmpi .sgt arg1 c0_i32_12
  let v36 : BitVec 32 := Scalar.extui v35
  let c0_i32_13 : BitVec 32 := 0#32
  let v37 : BitVec 1 := Scalar.cmpi .slt arg1 c0_i32_13
  let v38 : BitVec 32 := Scalar.extui v37
  let v39 : BitVec 32 := Scalar.subi v36 v38
  let c0_i32_14 : BitVec 32 := 0#32
  let v40 : BitVec 1 := Scalar.cmpi .sgt c2_i32_11 c0_i32_14
  let v41 : BitVec 32 := Scalar.extui v40
  let c0_i32_15 : BitVec 32 := 0#32
  let v42 : BitVec 1 := Scalar.cmpi .slt c2_i32_11 c0_i32_15
  let v43 : BitVec 32 := Scalar.extui v42
  let v44 : BitVec 32 := Scalar.subi v41 v43
  let v45 : BitVec 1 := Scalar.cmpi .ne v39 v44
  let v46 : BitVec 32 := Scalar.remsi arg1 c2_i32_11
  let c0_i32_16 : BitVec 32 := 0#32
  let v47 : BitVec 1 := Scalar.cmpi .ne v46 c0_i32_16
  let v48 : BitVec 1 := Scalar.andi v45 v47
  let c1_i32_17 : BitVec 32 := 1#32
  let v49 : BitVec 32 := Scalar.subi v34 c1_i32_17
  let v50 : BitVec 32 := Scalar.select v48 v49 v34
  let c2_i32_18 : BitVec 32 := 2#32
  let c0_i32_19 : BitVec 32 := 0#32
  let v51 : BitVec 1 := Scalar.cmpi .eq c2_i32_18 c0_i32_19
  let c1_i32_20 : BitVec 32 := 1#32
  let v52 : BitVec 32 := Scalar.select v51 c1_i32_20 c2_i32_18
  let v53 : BitVec 32 := Scalar.remsi v50 v52
  let c0_i32_21 : BitVec 32 := 0#32
  let v54 : BitVec 1 := Scalar.cmpi .ne v53 c0_i32_21
  let c0_i32_22 : BitVec 32 := 0#32
  let v55 : BitVec 1 := Scalar.cmpi .slt v53 c0_i32_22
  let c0_i32_23 : BitVec 32 := 0#32
  let v56 : BitVec 1 := Scalar.cmpi .slt v52 c0_i32_23
  let v57 : BitVec 1 := Scalar.xori v55 v56
  let v58 : BitVec 1 := Scalar.andi v57 v54
  let v59 : BitVec 32 := Scalar.addi v53 v52
  let v60 : BitVec 32 := Scalar.select v58 v59 v53
  let c2_i32_24 : BitVec 32 := 2#32
  let v61 : BitVec 32 := Scalar.muli v60 c2_i32_24
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi arg1 v63
  let c0_i32_28 : BitVec 32 := 0#32
  let v65 : BitVec 1 := Scalar.cmpi .ne v64 c0_i32_28
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let v69 : BitVec 1 := Scalar.andi v68 v65
  let v70 : BitVec 32 := Scalar.addi v64 v63
  let v71 : BitVec 32 := Scalar.select v69 v70 v64
  let v72 : BitVec 32 := Scalar.addi v61 v71
  let c0_i32_31 : BitVec 32 := 0#32
  let c0_i32_32 : BitVec 32 := 0#32
  ![v33.toNat, c0_i32_31.toNat, v72.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpwReferenceIdeal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | .hbm, ⟨10, _⟩ => ⟨S2048x4x2816, .bf16⟩
  | .hbm, ⟨11, _⟩ => ⟨S4x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpxKernel.lean ====
abbrev S4096x11264 : Shape := ⟨2, ![4096, 11264]⟩
abbrev S2048x11264 : Shape := ⟨2, ![2048, 11264]⟩
abbrev S4096x2x5632 : Shape := ⟨3, ![4096, 2, 5632]⟩
abbrev S2x4096x5632 : Shape := ⟨3, ![2, 4096, 5632]⟩
abbrev S2048x4x2816 : Shape := ⟨3, ![2048, 4, 2816]⟩
abbrev S4x2048x2816 : Shape := ⟨3, ![4, 2048, 2816]⟩
abbrev S4096x2048 : Shape := ⟨2, ![4096, 2048]⟩
abbrev S1x1024x2816 : Shape := ⟨3, ![1, 1024, 2816]⟩
abbrev S1024x1024 : Shape := ⟨2, ![1024, 1024]⟩
abbrev S1024x2816 : Shape := ⟨2, ![1024, 2816]⟩

abbrev nBuf : Space → Nat
  | .hbm => 8
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .f32⟩
  | .hbm, ⟨2, _⟩ => ⟨S4096x2x5632, .bf16⟩
  | .hbm, ⟨3, _⟩ => ⟨S2x4096x5632, .bf16⟩
  | .hbm, ⟨4, _⟩ => ⟨S2048x11264, .bf16⟩
  | .hbm, ⟨5, _⟩ => ⟨S2048x4x2816, .bf16⟩
  | .hbm, ⟨6, _⟩ => ⟨S4x2048x2816, .bf16⟩
  | .hbm, ⟨7, _⟩ => ⟨S4096x2048, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpxReferenceIdeal.lean ====
abbrev S4096x11264 : Shape := ⟨2, ![4096, 11264]⟩
abbrev S2048x11264 : Shape := ⟨2, ![2048, 11264]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .f32⟩
  | .hbm, ⟨2, _⟩ => ⟨S_, .f32⟩
  | .hbm, ⟨3, _⟩ => ⟨S4096x2048, .f32⟩
  | .hbm, ⟨4, _⟩ => ⟨S4096x11264, .f32⟩
  | .hbm, ⟨5, _⟩ => ⟨S4096x11264, .f32⟩
  | .hbm, ⟨6, _⟩ => ⟨S4096x2048, .f32⟩
  | .hbm, ⟨7, _⟩ => ⟨S4096x2048, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InxKernel.lean ====
abbrev S4096x1024 : Shape := ⟨2, ![4096, 1024]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S2048x4096, .f32⟩
  | .hbm, ⟨5, _⟩ => ⟨S2048x4096, .bf16⟩
  | .hbm, ⟨6, _⟩ => ⟨S2048x4x1024, .bf16⟩
  | .hbm, ⟨7, _⟩ => ⟨S4x2048x1024, .bf16⟩
  | .hbm, ⟨8, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def k0_cond5 (i : grid0.Coords) : BitVec 1 :=
  let arg2 : BitVec 32 := BitVec.ofNat 32 (i 2).val
  let c3_i32_4 : BitVec 32 := 3#32
  let v12 : BitVec 1 := Scalar.cmpi .eq arg2 c3_i32_4
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== InxReferenceIdeal.lean ====
abbrev S4096x1024 : Shape := ⟨2, ![4096, 1024]⟩
abbrev S2048x4096 : Shape := ⟨2, ![2048, 4096]⟩
abbrev S4096x4096 : Shape := ⟨2, ![4096, 4096]⟩
abbrev S_ : Shape := ⟨0, ![]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S2048x4096, .f32⟩
  | .hbm, ⟨5, _⟩ => ⟨S4096x4096, .bf16⟩
  | .hbm, ⟨6, _⟩ => ⟨S4096x4096, .f32⟩
  | .hbm, ⟨7, _⟩ => ⟨S_, .f32⟩
  | .hbm, ⟨8, _⟩ => ⟨S4096x2048, .f32⟩
  | .hbm, ⟨9, _⟩ => ⟨S4096x4096, .f32⟩
  | .hbm, ⟨10, _⟩ => ⟨S4096x2048, .f32⟩
  | .hbm, ⟨11, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== AddhKernel.lean ====
abbrev S4x2048x2816 : Shape := ⟨3, ![4, 2048, 2816]⟩
abbrev S4x1024x2816 : Shape := ⟨3, ![4, 1024, 2816]⟩
abbrev S1 : Shape := ⟨1, ![1]⟩
abbrev S_ : Shape := ⟨0, ![]⟩
abbrev S1x256x2816 : Shape := ⟨3, ![1, 256, 2816]⟩
abbrev S256x2816 : Shape := ⟨2, ![256, 2816]⟩

abbrev nBuf : Space → Nat
  | .hbm => 6
  | .vmem => 6
  | .smem => 1
  | _ => 0

abbrev bufTy : (tb : Table) → Fin (tcTables nBuf tb) → BufTy
  | .hbm, ⟨0, _⟩ => ⟨S4x2048x2816, .bf16⟩
  | .hbm, ⟨1, _⟩ => ⟨S4x1024x2816, .bf16⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S4x1024x2816, .bf16⟩
  | .local _ .vmem, ⟨0, _⟩ => ⟨S1x256x2816, .bf16⟩
  | .local _ .vmem, ⟨1, _⟩ => ⟨S1x256x2816, .bf16⟩
  | .local _ .vmem, ⟨2, _⟩ => ⟨S1x256x2816, .bf16⟩
  | .local _ .vmem, ⟨3, _⟩ => ⟨S1x256x2816, .bf16⟩
  | .local _ .vmem, ⟨4, _⟩ => ⟨S1x256x2816, .bf16⟩
  | .local _ .vmem, ⟨5, _⟩ => ⟨S1x256x2816, .bf16⟩
  | .local _ .smem, ⟨0, _⟩ => ⟨S1, .i32⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v2 : Ref sig .tc := ⟨.hbm, 5, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddhReferenceIdeal.lean ====
abbrev S4x2048x2816 : Shape := ⟨3, ![4, 2048, 2816]⟩
abbrev S4x1024x2816 : Shape := ⟨3, ![4, 1024, 2816]⟩
abbrev S1 : Shape := ⟨1, ![1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S4x1024x2816, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S4x1024x2816, .bf16⟩
  | .hbm, ⟨9, _⟩ => ⟨S4x1024x2816, .bf16⟩
  | .hbm, ⟨10, _⟩ => ⟨S4x1024x2816, .bf16⟩
  | .hbm, ⟨11, _⟩ => ⟨S4x1024x2816, .f32⟩
  | .hbm, ⟨12, _⟩ => ⟨S4x1024x2816, .f32⟩
  | .hbm, ⟨13, _⟩ => ⟨S4x1024x2816, .f32⟩
  | .hbm, ⟨14, _⟩ => ⟨S4x1024x2816, .bf16⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== SumlKernel.lean ====
abbrev S8x8x12288 : Shape := ⟨3, ![8, 8, 12288]⟩
abbrev S8x12288 : Shape := ⟨2, ![8, 12288]⟩
abbrev S1x8x12288 : Shape := ⟨3, ![1, 8, 12288]⟩

abbrev nBuf : Space → Nat
  | .hbm => 2
  | .vmem => 2
  | .smem => 0
  | _ => 0

abbrev bufTy : (tb : Table) → Fin (tcTables nBuf tb) → BufTy
  | .hbm, ⟨0, _⟩ => ⟨S8x8x12288, .f32⟩
  | .hbm, ⟨1, _⟩ => ⟨S8x12288, .f32⟩
  | .local _ .vmem, ⟨0, _⟩ => ⟨S8x8x12288, .f32⟩
  | .local _ .vmem, ⟨1, _⟩ => ⟨S8x12288, .f32⟩
  | _, _ => ⟨S8x8x12288, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumlReferenceIdeal.lean ====
abbrev S8x8x12288 : Shape := ⟨3, ![8, 8, 12288]⟩
abbrev S_ : Shape := ⟨0, ![]⟩
abbrev S8x12288 : Shape := ⟨2, ![8, 12288]⟩

abbrev nBuf : Space → Nat
  | .hbm => 3
  | .vmem => 0
  | .smem => 0
  | _ => 0

abbrev bufTy : (tb : Table) → Fin (tcTables nBuf tb) → BufTy
  | .hbm, ⟨0, _⟩ => ⟨S8x8x12288, .f32⟩
  | .hbm, ⟨1, _⟩ => ⟨S_, .f32⟩
  | .hbm, ⟨2, _⟩ => ⟨S8x12288, .f32⟩
  | _, _ => ⟨S8x8x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamKernel.lean ====
abbrev S2048x12288 : Shape := ⟨2, ![2048, 12288]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x12288, .f32⟩
  | .hbm, ⟨1, _⟩ => ⟨S2048x12288, .f32⟩
  | .hbm, ⟨2, _⟩ => ⟨S2048x12288, .f32⟩
  | .hbm, ⟨3, _⟩ => ⟨S2048x12288, .f32⟩
  | .hbm, ⟨4, _⟩ => ⟨S2048x12288, .f32⟩
  | .hbm, ⟨5, _⟩ => ⟨S2048x12288, .f32⟩
  | .hbm, ⟨6, _⟩ => ⟨S2048x12288, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamReferenceIdeal.lean ====
abbrev S2048x12288 : Shape := ⟨2, ![2048, 12288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x12288, .f32⟩
  | .hbm, ⟨1, _⟩ => ⟨S2048x12288, .f32⟩
  | .hbm, ⟨2, _⟩ => ⟨S2048x12288, .f32⟩
  | .hbm, ⟨3, _⟩ => ⟨S2048x12288, .f32⟩
  | .hbm, ⟨4, _⟩ => ⟨S_, .f32⟩
  | .hbm, ⟨5, _⟩ => ⟨S2048x12288, .f32⟩
  | .hbm, ⟨6, _⟩ => ⟨S2048x12288, .f32⟩
  | .hbm, ⟨7, _⟩ => ⟨S_, .f32⟩
  | .hbm, ⟨8, _⟩ => ⟨S2048x12288, .f32⟩
  | .hbm, ⟨9, _⟩ => ⟨S2048x12288, .f32⟩
  | .hbm, ⟨10, _⟩ => ⟨S2048x12288, .f32⟩
  | .hbm, ⟨11, _⟩ => ⟨S_, .f32⟩
  | .hbm, ⟨12, _⟩ => ⟨S2048x12288, .f32⟩
  | .hbm, ⟨13, _⟩ => ⟨S2048x12288, .f32⟩
  | .hbm, ⟨14, _⟩ => ⟨S2048x12288, .f32⟩
  | .hbm, ⟨15, _⟩ => ⟨S_, .f32⟩
  | .hbm, ⟨16, _⟩ => ⟨S2048x12288, .f32⟩
  | .hbm, ⟨17, _⟩ => ⟨S2048x12288, .f32⟩
  | .hbm, ⟨18, _⟩ => ⟨S2048x12288, .f32⟩
  | .hbm, ⟨19, _⟩ => ⟨S_, .f32⟩
  | .hbm, ⟨20, _⟩ => ⟨S2048x12288, .f32⟩
  | .hbm, ⟨21, _⟩ => ⟨S2048x12288, .f32⟩
  | .hbm, ⟨22, _⟩ => ⟨S_, .f32⟩
  | .hbm, ⟨23, _⟩ => ⟨S2048x12288, .f32⟩
  | .hbm, ⟨24, _⟩ => ⟨S2048x12288, .f32⟩
  | .hbm, ⟨25, _⟩ => ⟨S2048x12288, .f32⟩
  | .hbm, ⟨26, _⟩ => ⟨S_, .f32⟩
  | .hbm, ⟨27, _⟩ => ⟨S2048x12288, .f32⟩
  | .hbm, ⟨28, _⟩ => ⟨S2048x12288, .f32⟩
  | .hbm, ⟨29, _⟩ => ⟨S2048x12288, .f32⟩
  | .hbm, ⟨30, _⟩ => ⟨S_, .f32⟩
  | .hbm, ⟨31, _⟩ => ⟨S2048x12288, .f32⟩
  | .hbm, ⟨32, _⟩ => ⟨S2048x12288, .f32⟩
  | .hbm, ⟨33, _⟩ => ⟨S2048x12288, .f32⟩
  | .hbm, ⟨34, _⟩ => ⟨S_, .f32⟩
  | .hbm, ⟨35, _⟩ => ⟨S2048x12288, .f32⟩
  | .hbm, ⟨36, _⟩ => ⟨S2048x12288, .f32⟩
  | _, _ => ⟨S2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.GateValue.lean ====
/- What the gate's backward call leaves in its two result arrays, over the extended reals: the gradient of the gated
   branch is the gate times the incoming gradient, entry by entry, and the gradient of the gate is the column sum of
   the incoming gradient times the branch, gathered over the sixteen blocks of rows. -/
module

public import proofs.«01_k».proof.Proof.Gen.GateKernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateMath

open Cert.GateKernelIdeal Cert.GateKernelIdeal.Gen

variable (m : (ℓ : Loc nD τ sig) → Buf (Elt Ideal) ℓ)

/-- The gradient of the branch: the gate times the incoming gradient. -/
def branch (g : FVec Ideal S2048 .f32) (dx : FVec Ideal S4096x2048 .f32) : FVec Ideal S4096x2048 .bf16 :=
  fun i => g (ix1 (i 1)) * dx i

/-- The gradient of the gate: for each column, the sum over the rows of gradient times branch. -/
def gate (y : FVec Ideal S4096x2048 .bf16) (dx : FVec Ideal S4096x2048 .f32) : FVec Ideal S1x2048 .f32 :=
  fun j => ∑ i : Fin 4096, dx (ix2 i (j 1)) * y (ix2 i (j 1))

/-- Which block each window shows at each grid point. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ t.val < 16 :=
  (by decide +kernel : ∀ t : Fin grid0.N, _)

/-- The gate reaches the call as one row. -/
theorem gate_row (c : Dev nD) (i : S1x2048.Idx) :
    V m c main_v0 i = m ((c : Thread nD τ).loc main_arg1) (ix1 (i 1)) := by
  simp only [V, V0, List.flatten_cons, List.flatten_nil, List.append_nil]
  entry_read
  pointwise

/-- One block of the branch's gradient. -/
theorem branch_point (c : Dev nD) (t : Fin cfg0.N) (y : S256x2048.Idx) :
    k0_pay1 (iblk m c 0 t) (iblk m c 2 t) y
      = branch (m ((c : Thread nD τ).loc main_arg1)) (m ((c : Thread nD τ).loc main_arg2))
          (((cfg0.win 3).blk t).view.emb y) := by
  pointwise [k0_pay1, branch]
  blk_simp [iblk, idx t]
  rw [gate_row]
  blk_point [iblk, V, idx t]

theorem branch_final (c : Dev nD) : (dats m 0 c).arrAt 3 (cfgs 0).N
    = branch (m ((c : Thread nD τ).loc main_arg1)) (m ((c : Thread nD τ).loc main_arg2)) := by
  refine (dats m 0 c).arrAt_eq_of_covers 3 _ (by decide +kernel) fun t _ y => ?_
  blk_simp
  rw [after0_3]
  by_cases h1 : 1 ≤ t.val
  · rw [outsAt0_B m c t (by have := (idx t).2.2.2.2.2; omega) h1]; frame_out
    exact branch_point m c t y
  · rw [outsAt0_A m c t (by omega) h1]; frame_out
    exact branch_point m c t y

theorem first_pay (dx : Vec Ideal S256x2048 .f32) (y : Vec Ideal S256x2048 .bf16) (j : S1x2048.Idx) :
    k0_pay2 dx y j = 0 + ∑ k : Fin 256, dx (ix2 k (j 1)) * y (ix2 k (j 1)) := by
  pointwise [k0_pay2]

theorem step_pay (dx : Vec Ideal S256x2048 .f32) (y : Vec Ideal S256x2048 .bf16) (acc : Vec Ideal S1x2048 .f32)
    (j : S1x2048.Idx) :
    k0_pay3 dx y acc j = acc j + ∑ k : Fin 256, dx (ix2 k (j 1)) * y (ix2 k (j 1)) := by
  pointwise [k0_pay3, k0_pay2]

theorem gate_final (c : Dev nD) : (dats m 0 c).arrAt 4 (cfgs 0).N
    = gate (m ((c : Thread nD τ).loc main_arg0)) (m ((c : Thread nD τ).loc main_arg2)) := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0) _
    (fun t h j => by
      rw [outsAt0_A m c t h (by have := (idx t).2.2.2.2.2; omega)]; frame_out; rw [first_pay])
    (fun t h j => by rw [outsAt0_B m c t h (by omega)]; frame_out; rw [step_pay])
    (le_of_eq N_0) t0_15 rfl j, zero_add]
  unfold gate
  refine Fin.sum_mul_add_congr fun t k hl => ?_
  blk_point [iblk, V, idx t]

end Cert.GateMath

end
-- ==== Proof.GateClaims.lean ====
/- The claims about the gate's backward call: both programs run without fault, and over the extended reals the call
   returns the gradients that differentiating the gated residual gives. -/
module

public import proofs.«01_k».proof.Defs
public import proofs.«01_k».proof.Proof.Gen.GateKernel.Frame
public import proofs.«01_k».proof.Proof.Gen.GateKernelIdeal.Frame
public import proofs.«01_k».proof.Proof.Gen.GateReferenceIdeal.Run
public import proofs.«01_k».proof.Proof.Gen.GateReferenceIdeal.Read
public import proofs.«01_k».proof.Proof.GateValue
public import Idealize.ShloMosaic.Lib.Claim

@[expose] public section

set_option maxRecDepth 16384

noncomputable section

open Idealize.ShloMosaic Idealize.ShloMosaic.TcCoe Idealize.SL.Sem

namespace Cert.GateMath

theorem reference_branch (g : FVec Ideal Cert.GateReferenceIdeal.S2048 .f32)
    (dx : FVec Ideal Cert.GateReferenceIdeal.S4096x2048 .f32) :
    Cert.GateReferenceIdeal.Read.val_main_v10 (F := Ideal) g dx = branch g dx := by
  funext i
  pointwise [Cert.GateReferenceIdeal.Read.val_main_v10, Cert.GateReferenceIdeal.Read.val_main_v5,
    Cert.GateReferenceIdeal.Read.val_main_v4, Cert.GateReferenceIdeal.Read.val_main_v1, branch]

theorem reference_gate (y : FVec Ideal Cert.GateReferenceIdeal.S4096x2048 .bf16)
    (dx : FVec Ideal Cert.GateReferenceIdeal.S4096x2048 .f32) (j : Cert.GateReferenceIdeal.S2048.Idx) :
    Cert.GateReferenceIdeal.Read.val_main_v9 (F := Ideal) y dx j = gate y dx (ix2 0 (j 0)) := by
  pointwise [Cert.GateReferenceIdeal.Read.val_main_v9, Cert.GateReferenceIdeal.Read.val_main_cst_0, Cert.GateReferenceIdeal.Read.val_main_v8,
    Cert.GateReferenceIdeal.Read.val_main_v7, Cert.GateReferenceIdeal.Read.val_main_cst,
    Cert.GateReferenceIdeal.Read.val_main_v6, Cert.GateReferenceIdeal.Read.val_main_v0, gate]
  exact Fin.sum_univ_one _

open Cert.GateKernelIdeal Cert.GateKernelIdeal.Gen in
theorem gate_result (m : (ℓ : Loc nD τ sig) → Buf (Elt Ideal) ℓ) (c : Dev nD) (j : S2048.Idx) :
    Pipeline.afterTail₀ cfgs (dats m) 0 (V0 m) [hostOps1] c main_v2 j
      = gate (m ((c : Thread nD τ).loc main_arg0)) (m ((c : Thread nD τ).loc main_arg2)) (ix2 0 (j 0)) := by
  unfold Pipeline.afterTail₀
  simp only [List.flatten_cons, List.flatten_nil, List.append_nil]
  entry_read
  rw [show Pipeline.withArrays (cfgs 0).spec c (V0 m c) (fun w => (dats m 0 c).arrAt w (cfgs 0).N) (Proc.tc.devRef main_v1_1)
      = (dats m 0 c).arrAt 4 (cfgs 0).N
    from Pipeline.withArrays_arr spec0 (by decide) c (V0 m c) (fun w => (dats m 0 c).arrAt w (cfgs 0).N) 4, gate_final]
  pointwise

theorem frame_reference : Cert.quiescent_GateReferenceIdeal := fun m ρ _ =>
  (θ_run Cert.GateReferenceIdeal.defs _ _).mono
    (fun r h => ⟨fun c => (h c).2.2, sem_eq_zero_of_no_sems (by decide) r.2⟩) (Cert.GateReferenceIdeal.Value.run m ρ)

theorem value : Cert.algebraic_GateKernelIdeal_GateReferenceIdeal := by
  pair_intro
  · run_from Cert.GateKernelIdeal.Gen.run_main m g & Cert.GateKernelIdeal.Gen.unchanged m g
  · run_from Cert.GateReferenceIdeal.Value.run m' g'
    · exact (Cert.GateReferenceIdeal.Read.val_main_v10_eq _ _).trans
        ((reference_branch _ _).trans (branch_final m c).symm)
    · refine (Cert.GateReferenceIdeal.Read.val_main_v9_eq _ _).trans (funext fun j => ?_)
      exact (reference_gate _ _ j).trans (gate_result m c j).symm

end Cert.GateMath

end
-- ==== Proof.NormValue.lean ====
/- What the norm's backward call leaves in its three result arrays, over the extended reals: the gradient of the
   residual, and for each column the sum of the incoming gradient and of that gradient times the normalised input. -/
module

public import proofs.«01_k».proof.Proof.Gen.NormKernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormMath

open Cert.NormKernelIdeal Cert.NormKernelIdeal.Gen

variable (m : (ℓ : Loc nD τ sig) → Buf (Elt Ideal) ℓ)

/-- One over the root mean square of a row. -/
def inv (x : FVec Ideal S4096x2048 .f32) (i : Fin 4096) : EReal :=
  Ideal.rsqrt (Ideal.div (∑ k : Fin 2048, x (ix2 i k) * x (ix2 i k)) (Ideal.ofBits .f32 0x45000000#32) + Ideal.ofBits .f32 0x358637BD#32)

/-- The gradient with respect to the input of the norm, beside the residual's. `w` is the column's factor. -/
def input (w : Fin 2048 → EReal) (x : FVec Ideal S4096x2048 .f32) (dh : FVec Ideal S4096x2048 .bf16)
    (dres : FVec Ideal S4096x2048 .f32) : FVec Ideal S4096x2048 .f32 :=
  fun i => dres i + inv x (i 0) * (dh i * w (i 1) - x i * inv x (i 0)
    * Ideal.div (∑ k : Fin 2048, dh (ix2 (i 0) k) * w k * (x (ix2 (i 0) k) * inv x (i 0))) (Ideal.ofBits .f32 0x45000000#32))

/-- Column sums of the incoming gradient. -/
def shiftSum (dh : FVec Ideal S4096x2048 .bf16) : FVec Ideal S1x2048 .f32 :=
  fun j => ∑ i : Fin 4096, dh (ix2 i (j 1))

/-- Column sums of the incoming gradient times the normalised input. -/
def scaleSum (x : FVec Ideal S4096x2048 .f32) (dh : FVec Ideal S4096x2048 .bf16) : FVec Ideal S1x2048 .f32 :=
  fun j => ∑ i : Fin 4096, dh (ix2 i (j 1)) * (x (ix2 i (j 1)) * inv x i)

/-- The factor of each column: the norm's gain times one plus the modulation's scale. -/
def factor (g sc : FVec Ideal S2048 .f32) (k : Fin 2048) : EReal :=
  g (ix1 k) * (1 + sc (ix1 k))

/-- The gradient of the norm's gain. -/
def gain (x : FVec Ideal S4096x2048 .f32) (sc : FVec Ideal S2048 .f32) (dh : FVec Ideal S4096x2048 .bf16) : FVec Ideal S2048 .f32 :=
  fun j => scaleSum x dh (ix2 0 (j 0)) * (1 + sc (ix1 (j 0)))

/-- The gradient of the modulation's scale. -/
def scale (x : FVec Ideal S4096x2048 .f32) (g : FVec Ideal S2048 .f32) (dh : FVec Ideal S4096x2048 .bf16) : FVec Ideal S2048 .f32 :=
  fun j => scaleSum x dh (ix2 0 (j 0)) * g (ix1 (j 0))

/-- The gradient of the modulation's shift. -/
def shift (dh : FVec Ideal S4096x2048 .bf16) : FVec Ideal S2048 .f32 :=
  fun j => shiftSum dh (ix2 0 (j 0))

/-- An argument that only the host reads is, after the call, as it began. -/
theorem after_call (c : Dev nD) (b : Ref sig .tc) (hb : ∀ w, Pipeline.arrRef spec0 w ≠ b) :
    Pipeline.withArrays (cfgs 0).spec c (V0 m c) (fun w => (dats m 0 c).arrAt w (cfgs 0).N) (Proc.tc.devRef b) = V0 m c (Proc.tc.devRef b) :=
  Pipeline.withArrays_of_ne spec0 c (V0 m c) _ b hb

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] ∧ t.val < 16 :=
  (by decide +kernel : ∀ t : Fin grid0.N, _)

/-- The columns' factors reach the call as one row. -/
theorem factor_row (c : Dev nD) (i : S1x2048.Idx) :
    V m c main_v3 i = factor (m ((c : Thread nD τ).loc main_arg1)) (m ((c : Thread nD τ).loc main_arg3)) (i 1) := by
  simp only [V, V0, List.flatten_cons, List.flatten_nil, List.append_nil]
  entry_read
  pointwise [factor]

theorem inv_point (c : Dev nD) (t : Fin cfg0.N) (i : S256x1.Idx) (j : Fin 4096) (hj : j.val = t.val * 256 + (i 0).val) :
    k0_pay4 (iblk m c 0 t) i = inv (m ((c : Thread nD τ).loc main_arg0)) j := by
  pointwise [k0_pay4, inv]
  blk_point [iblk, V, idx t]

theorem input_point (c : Dev nD) (t : Fin cfg0.N) (y : S256x2048.Idx) :
    k0_pay7 (iblk m c 0 t) (iblk m c 1 t) (iblk m c 2 t) (iblk m c 3 t) y
      = input (factor (m ((c : Thread nD τ).loc main_arg1)) (m ((c : Thread nD τ).loc main_arg3))) (m ((c : Thread nD τ).loc main_arg0))
        (m ((c : Thread nD τ).loc main_arg4)) (m ((c : Thread nD τ).loc main_arg5))
          (((cfg0.win 4).blk t).view.emb y) := by
  pointwise [k0_pay7, k0_pay4, k0_pay5, k0_pay6, input, inv]
  blk_simp [iblk, idx t]
  blk_point [iblk, V, idx t] <;> (rw [factor_row]; unfold factor; blk_point [idx t])

theorem input_final (c : Dev nD) : (dats m 0 c).arrAt 4 (cfgs 0).N
    = input (factor (m ((c : Thread nD τ).loc main_arg1)) (m ((c : Thread nD τ).loc main_arg3))) (m ((c : Thread nD τ).loc main_arg0))
        (m ((c : Thread nD τ).loc main_arg4)) (m ((c : Thread nD τ).loc main_arg5)) := by
  refine (dats m 0 c).arrAt_eq_of_covers 4 _ (by decide +kernel) fun t _ y => ?_
  blk_simp
  rw [after0_4]
  by_cases h1 : 1 ≤ t.val
  · rw [outsAt0_B m c t (by have := (idx t).2.2.2.2.2.2.2; omega) h1 (by have := (idx t).2.2.2.2.2.2.2; omega) h1]; frame_out
    exact input_point m c t y
  · rw [outsAt0_A m c t (by omega) h1 (by omega) h1]; frame_out
    exact input_point m c t y

theorem first_shift (dh : Vec Ideal S256x2048 .bf16) (j : S1x2048.Idx) :
    k0_pay8 dh j = 0 + ∑ k : Fin 256, dh (ix2 k (j 1)) := by
  pointwise [k0_pay8, k0_pay6]

theorem step_shift (dh : Vec Ideal S256x2048 .bf16) (acc : Vec Ideal S1x2048 .f32) (j : S1x2048.Idx) :
    k0_pay1 (k0_pay8 dh) acc j = acc j + ∑ k : Fin 256, dh (ix2 k (j 1)) := by
  pointwise [k0_pay1, k0_pay8, k0_pay6]

theorem shift_final (c : Dev nD) : (dats m 0 c).arrAt 5 (cfgs 0).N = shiftSum (m ((c : Thread nD τ).loc main_arg4)) := by
  refine (dats m 0 c).arrAt_eq_of_after_last 5 t0_15 (by decide +kernel) _ fun j => ?_
  blk_simp
  rw [after0_5, Pipeline.eq_sum_fin_of_reset_step_apply_last (fun n h => (outsAt0 m c n h).2.1) 16 (fun _ => 0) _
    (fun t h j => by
      rw [outsAt0_A m c t h (by have := (idx t).2.2.2.2.2.2.2; omega) h (by have := (idx t).2.2.2.2.2.2.2; omega)]; frame_out; rw [first_shift])
    (fun t h j => by rw [outsAt0_B m c t h (by omega) h (by omega)]; frame_out; rw [step_shift])
    (le_of_eq N_0) t0_15 rfl j, zero_add]
  unfold shiftSum
  refine Fin.sum_mul_add_congr fun t k hl => ?_
  blk_point [iblk, V, idx t]

theorem first_scale (x : Vec Ideal S256x2048 .f32) (dh : Vec Ideal S256x2048 .bf16) (j : S1x2048.Idx) :
    k0_pay2 (k0_pay5 x) (k0_pay6 dh) j = 0 + ∑ k : Fin 256, dh (ix2 k (j 1)) * (x (ix2 k (j 1)) * k0_pay4 x (ix2 k 0)) := by
  pointwise [k0_pay2, k0_pay5, k0_pay6]

theorem step_scale (x : Vec Ideal S256x2048 .f32) (dh : Vec Ideal S256x2048 .bf16) (acc : Vec Ideal S1x2048 .f32) (j : S1x2048.Idx) :
    k0_pay3 (k0_pay5 x) (k0_pay6 dh) acc j
      = acc j + ∑ k : Fin 256, dh (ix2 k (j 1)) * (x (ix2 k (j 1)) * k0_pay4 x (ix2 k 0)) := by
  pointwise [k0_pay3, k0_pay2, k0_pay5, k0_pay6]

theorem scale_final (c : Dev nD) : (dats m 0 c).arrAt 6 (cfgs 0).N
    = scaleSum (m ((c : Thread nD τ).loc main_arg0)) (m ((c : Thread nD τ).loc main_arg4)) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0) _
    (fun t h j => by
      rw [outsAt0_A m c t h (by have := (idx t).2.2.2.2.2.2.2; omega) h (by have := (idx t).2.2.2.2.2.2.2; omega)]; frame_out; rw [first_scale])
    (fun t h j => by rw [outsAt0_B m c t h (by omega) h (by omega)]; frame_out; rw [step_scale])
    (le_of_eq N_0) t0_15 rfl j, zero_add]
  unfold scaleSum
  refine Fin.sum_mul_add_congr fun t k hl => ?_
  rw [inv_point m c t (ix2 k 0) ⟨t.val * 256 + k.val, hl⟩ rfl]
  blk_point [iblk, V, idx t]

end Cert.NormMath

end
-- ==== Proof.Reals.lean ====
/- Extended reals that are numbers: what the operations give on them, and what a precondition of finiteness says. -/
module

public import Idealize.ShloMosaic.Lib.Pointwise
public import Idealize.ShloMosaic.Lib.ReduceAll
public import Idealize.ShloMosaic.Lib.IdealHost

@[expose] public section

noncomputable section

open Idealize.ShloMosaic

namespace Cert.Reals

/-- A finite sum of numbers is the number that sums them. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

theorem div_coe_coe (x : ℝ) {y : ℝ} (h : y ≠ 0) : Ideal.div (x : EReal) (y : EReal) = ((x / y : ℝ) : EReal) := by
  rw [Ideal.div_coe h, ← EReal.coe_mul, mul_one_div]

theorem rsqrt_coe {x : ℝ} (h : 0 < x) : Ideal.rsqrt (x : EReal) = (((Real.sqrt x)⁻¹ : ℝ) : EReal) := by
  show (if x < 0 then (⊥ : EReal) else if x = 0 then ⊤ else ((Real.sqrt x)⁻¹ : ℝ)) = _
  rw [if_neg (not_lt.2 h.le), if_neg h.ne']

theorem exp_coe (x : ℝ) : Ideal.exp (x : EReal) = ((Real.exp x : ℝ) : EReal) := rfl

theorem log_coe {x : ℝ} (h : 0 < x) : Ideal.log (x : EReal) = ((Real.log x : ℝ) : EReal) := by
  show (if x ≤ 0 then (⊥ : EReal) else (Real.log x : EReal)) = _
  rw [if_neg (not_le.2 h)]

/-- An extended real whose absolute value is below +∞ is a number. -/
theorem exists_of_abs_lt {a : EReal} (h : max a (-a) < ⊤) : ∃ r : ℝ, a = (r : EReal) := by
  induction a with
  | bot => simp at h
  | top => simp at h
  | coe r => exact ⟨r, rfl⟩

theorem ofBits_inf : Ideal.ofBits .f32 0x7F800000#32 = ⊤ := by
  simp [Ideal.ofBits, Ideal.ieee]

/-- An array that the test `all (|x| < ∞)` accepts holds numbers. -/
theorem finite_of_all {s t v : Shape} [Subsingleton t.Idx] {axes : List (Fin s.rank)} (x : FVec Ideal s .f32)
    (hb : (⟨0, ![]⟩ : Shape).BroadcastsInDim s ![]) (init : v.Idx → BitVec 1) (h : s.ReducesTo axes t) (hv : 0 < v.numel) (j : t.Idx)
    (e : Host.reduce IntOp.andi (cmpf .olt (Host.absf x) (broadcastInDim s ![] hb (constant (F := Ideal) ⟨0, ![]⟩ .f32 0x7F800000#32))) init h hv j = 1#1) :
    ∃ r : s.Idx → ℝ, x = fun i => (r i : EReal) := by
  have hx : ∀ i, ∃ r : ℝ, x i = (r : EReal) := fun i => by
    have hi := Host.reduce_andi_all _ _ _ _ j e i
    have hc : Ideal.cmp .olt (max (x i) (-(x i))) (Ideal.ofBits .f32 0x7F800000#32) = 1 := hi
    rw [Ideal.cmp_olt_eq_one, ofBits_inf] at hc
    exact exists_of_abs_lt hc
  choose r hr using hx
  exact ⟨r, funext hr⟩

theorem ofBits_inf16 : Ideal.ofBits .bf16 0x7F80#16 = ⊤ := by
  simp [Ideal.ofBits, Ideal.ieee]

/-- A sixteen-bit array that the test `all (|x| < ∞)` accepts holds numbers. -/
theorem finite16 {s t v : Shape} [Subsingleton t.Idx] {axes : List (Fin s.rank)} (x : FVec Ideal s .bf16)
    (hb : (⟨0, ![]⟩ : Shape).BroadcastsInDim s ![]) (init : v.Idx → BitVec 1) (h : s.ReducesTo axes t) (hv : 0 < v.numel) (j : t.Idx)
    (e : Host.reduce IntOp.andi (cmpf .olt (Host.absf x) (broadcastInDim s ![] hb (constant (F := Ideal) ⟨0, ![]⟩ .bf16 0x7F80#16))) init h hv j = 1#1) :
    ∃ r : s.Idx → ℝ, x = fun i => (r i : EReal) := by
  choose r hr using fun i => by
    have hi := Host.reduce_andi_all _ _ _ _ j e i
    have hc : Ideal.cmp .olt (max (x i) (-(x i))) (Ideal.ofBits .bf16 0x7F80#16) = 1 := hi
    rw [Ideal.cmp_olt_eq_one, ofBits_inf16] at hc
    exact exists_of_abs_lt hc
  exact ⟨r, funext hr⟩

/-- Both sides of a conjunction of two tests hold where the conjunction does. -/
theorem of_andi {s : Shape} {a b : IVec s 1} {i : s.Idx} (h : andi a b i = 1#1) : a i = 1#1 ∧ b i = 1#1 := by
  have h' : a i &&& b i = 1#1 := h
  generalize a i = p at *
  generalize b i = q at *
  revert p q
  decide

theorem ofBits_2048 : Ideal.ofBits .f32 0x45000000#32 = ((2048 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_half : Ideal.ofBits .f32 0xBF000000#32 = ((-1 / 2 : ℝ) : EReal) := by
  simp [Ideal.ofBits, Ideal.ieee, -EReal.coe_mul, -EReal.coe_neg]; norm_num

/-- The small constant beside a mean of squares, as the word that writes it. -/
theorem ofBits_eps : Ideal.ofBits .f32 0x358637BD#32 = ((8796093 / 2 ^ 43 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_inv_2048 : Ideal.ofBits .f32 0x3A000000#32 = ((1 / 2048 : ℝ) : EReal) := by
  simp [Ideal.ofBits, Ideal.ieee, -EReal.coe_mul]; norm_num

/-- The logistic function of a number. -/
theorem logistic_coe (x : ℝ) : Ideal.div 1 (1 + Ideal.exp (-(x : EReal))) = ((1 / (1 + Real.exp (-x)) : ℝ) : EReal) := by
  rw [← EReal.coe_neg, exp_coe, ← EReal.coe_one, ← EReal.coe_add, div_coe_coe _ (by positivity)]

end Cert.Reals

end
-- ==== Proof.NormClaims.lean ====
/- The claims about the norm's backward call: both programs run without fault, and over the extended reals the call
   returns the gradients that differentiating the modulated norm beside the residual gives, for finite inputs. -/
module

public import proofs.«01_k».proof.Defs
public import proofs.«01_k».proof.Proof.Gen.NormKernel.Frame
public import proofs.«01_k».proof.Proof.Gen.NormKernelIdeal.Frame
public import proofs.«01_k».proof.Proof.Gen.NormReferenceIdeal.Run
public import proofs.«01_k».proof.Proof.Gen.NormReferenceIdeal.Read
public import proofs.«01_k».proof.Proof.Gen.Pre_norm_finite
public import proofs.«01_k».proof.Proof.NormValue
public import proofs.«01_k».proof.Proof.Reals
public import Idealize.ShloMosaic.Lib.Claim

@[expose] public section

set_option maxRecDepth 16384

noncomputable section

open Idealize.ShloMosaic Idealize.ShloMosaic.TcCoe Idealize.SL.Sem

namespace Cert.NormMath

section

open Cert.NormReferenceIdeal Cert.NormReferenceIdeal.Read

/-- What the precondition says of the arrays it reads. -/
theorem of_finite (x : FVec Ideal S4096x2048 .f32) (g sh sc : FVec Ideal S2048 .f32) (dh : FVec Ideal S4096x2048 .bf16)
    (dres : FVec Ideal S4096x2048 .f32) (h : Cert.Pre_norm_finite.fn (F := Ideal) x g sh sc dh dres = fun _ => 1#1) :
    (∃ r : S4096x2048.Idx → ℝ, x = fun i => (r i : EReal)) ∧ (∃ r : S2048.Idx → ℝ, g = fun i => (r i : EReal))
    ∧ (∃ r : S2048.Idx → ℝ, sc = fun i => (r i : EReal)) ∧ (∃ r : S4096x2048.Idx → ℝ, dh = fun i => (r i : EReal)) := by
  have e := congrFun h (fun a => a.elim0)
  simp only [Cert.Pre_norm_finite.fn, Cert.Pre_norm_finite.fn_part1] at e
  obtain ⟨e1, e2⟩ := Cert.Reals.of_andi e
  obtain ⟨hx, hg⟩ := Cert.Reals.of_andi e1
  obtain ⟨hs, hd⟩ := Cert.Reals.of_andi e2
  exact ⟨Cert.Reals.finite_of_all x _ _ _ _ _ hx, Cert.Reals.finite_of_all g _ _ _ _ _ hg,
    Cert.Reals.finite_of_all sc _ _ _ _ _ hs, Cert.Reals.finite_of_all (extf .f32 dh _) _ _ _ _ _ hd⟩

/-- The mean of squares of a row plus the small constant, over the reals. -/
def meanR (x : S4096x2048.Idx → ℝ) (i : Fin 4096) : ℝ := (∑ k : Fin 2048, x (ix2 i k) * x (ix2 i k)) / 2048 + 8796093 / 2 ^ 43

theorem meanR_pos (x : S4096x2048.Idx → ℝ) (i : Fin 4096) : 0 < meanR x i := by
  have : 0 ≤ ∑ k : Fin 2048, x (ix2 i k) * x (ix2 i k) := Finset.sum_nonneg fun k _ => mul_self_nonneg _
  unfold meanR; positivity

theorem mean_coe (x : S4096x2048.Idx → ℝ) (i : Fin 4096) :
    Ideal.div (∑ k : Fin 2048, (x (ix2 i k) : EReal) * (x (ix2 i k) : EReal)) (Ideal.ofBits .f32 0x45000000#32) + Ideal.ofBits .f32 0x358637BD#32
      = ((meanR x i : ℝ) : EReal) := by
  have h : (∑ k : Fin 2048, (x (ix2 i k) : EReal) * (x (ix2 i k) : EReal)) = ((∑ k : Fin 2048, x (ix2 i k) * x (ix2 i k) : ℝ) : EReal) := by
    rw [Cert.Reals.coe_sum]; exact Finset.sum_congr rfl fun k _ => (EReal.coe_mul _ _).symm
  rw [h, Cert.Reals.ofBits_2048, Cert.Reals.ofBits_eps, Cert.Reals.div_coe_coe _ (by norm_num), ← EReal.coe_add]; rfl

theorem inv_coe (x : S4096x2048.Idx → ℝ) (i : Fin 4096) :
    inv (fun i => (x i : EReal)) i = (((Real.sqrt (meanR x i))⁻¹ : ℝ) : EReal) := by
  unfold inv
  rw [mean_coe, Cert.Reals.rsqrt_coe (meanR_pos x i)]

theorem reference_shift (dh : FVec Ideal S4096x2048 .bf16) (b : Fin 2048) :
    val_main_v29 (F := Ideal) dh (ix1 b) = shift dh (ix1 b) := by
  pointwise [val_main_v29, val_main_v28, val_main_v27, val_main_v26, val_main_cst_5, val_main_cst_6, shift, shiftSum]
  exact Fin.sum_univ_one _

theorem reference_gain (x : S4096x2048.Idx → ℝ) (sc : S2048.Idx → ℝ) (dh : S4096x2048.Idx → ℝ) (b : Fin 2048) :
    val_main_v41 (F := Ideal) (fun i => (x i : EReal)) (fun i => (sc i : EReal)) (fun i => (dh i : EReal)) (ix1 b)
      = gain (fun i => (x i : EReal)) (fun i => (sc i : EReal)) (fun i => (dh i : EReal)) (ix1 b) := by
  pointwise [val_main_v41, val_main_cst_10, val_main_v38, val_main_v37, val_main_cst_9, val_main_v36, val_main_v34, val_main_v33,
    val_main_v20, val_main_v19, val_main_v18, val_main_cst_4, val_main_v14, val_main_v13, val_main_v9, val_main_v8, val_main_v7,
    val_main_cst_2, val_main_v6, val_main_v5, val_main_cst_1, val_main_v4, val_main_v3, val_main_cst_0, val_main_v0, val_main_v26]
  refine (Fin.sum_univ_one _).trans ?_
  unfold gain scaleSum
  simp only [ix1_0, ix2_0, ix2_1, mean_coe, inv_coe, Cert.Reals.rsqrt_coe (meanR_pos _ _)]
  simp only [← EReal.coe_one, ← EReal.coe_add, ← EReal.coe_mul, ← Cert.Reals.coe_sum]
  rw [Finset.sum_mul]
  exact congrArg _ (Finset.sum_congr rfl fun k _ => by ring)

theorem reference_scale (x : S4096x2048.Idx → ℝ) (g : S2048.Idx → ℝ) (dh : S4096x2048.Idx → ℝ) (b : Fin 2048) :
    val_main_v35 (F := Ideal) (fun i => (x i : EReal)) (fun i => (g i : EReal)) (fun i => (dh i : EReal)) (ix1 b)
      = scale (fun i => (x i : EReal)) (fun i => (g i : EReal)) (fun i => (dh i : EReal)) (ix1 b) := by
  pointwise [val_main_v35, val_main_cst_8, val_main_v32, val_main_v31, val_main_cst_7, val_main_v30, val_main_v17, val_main_v16, val_main_v15,
    val_main_v14, val_main_v13, val_main_v9, val_main_v8, val_main_v7,
    val_main_cst_2, val_main_v6, val_main_v5, val_main_cst_1, val_main_v4, val_main_v3, val_main_cst_0, val_main_v0, val_main_v26]
  refine (Fin.sum_univ_one _).trans ?_
  unfold scale scaleSum
  simp only [ix1_0, ix2_0, ix2_1, mean_coe, inv_coe, Cert.Reals.rsqrt_coe (meanR_pos _ _)]
  simp only [← EReal.coe_mul, ← Cert.Reals.coe_sum]
  rw [Finset.sum_mul]
  exact congrArg _ (Finset.sum_congr rfl fun k _ => by ring)

/-- The algebra of the input's gradient: with `r` one over the root of the mean `v`, the term that the mean's derivative adds
    is the one the kernel subtracts. -/
theorem input_algebra (v r d x S : ℝ) (hv : 0 < v) (hr : r = (Real.sqrt v)⁻¹) :
    d * r + S * (-1 / 2 * (r / v)) / 2048 * (2 * x) = r * (d - x * r * (S * r / 2048)) := by
  have h : r * r = 1 / v := by
    rw [hr, ← mul_inv, Real.mul_self_sqrt hv.le, one_div]
  have : r / v = r * (r * r) := by rw [h]; ring
  rw [this]; ring

theorem reference_input (x : S4096x2048.Idx → ℝ) (g sc : S2048.Idx → ℝ) (dh : S4096x2048.Idx → ℝ)
    (dres : FVec Ideal S4096x2048 .f32) (a : Fin 4096) (b : Fin 2048) :
    val_main_v54 (F := Ideal) (fun i => (x i : EReal)) (fun i => (g i : EReal)) (fun i => (sc i : EReal)) (fun i => (dh i : EReal)) dres (ix2 a b)
      = input (factor (fun i => (g i : EReal)) (fun i => (sc i : EReal))) (fun i => (x i : EReal)) (fun i => (dh i : EReal)) dres (ix2 a b) := by
  pointwise [val_main_v54, val_main_v53, val_main_v2, val_main_v1, val_main_cst, val_main_v52, val_main_v51, val_main_cst_13, val_main_v50,
    val_main_v49, val_main_cst_12, val_main_v48, val_main_v44, val_main_v43, val_main_cst_11, val_main_v42, val_main_v40, val_main_v39, val_main_v15,
    val_main_v12, val_main_v11, val_main_cst_3, val_main_v10, val_main_v47, val_main_v46, val_main_v45, val_main_v34, val_main_v33,
    val_main_v20, val_main_v19, val_main_v18, val_main_cst_4, val_main_v9, val_main_v8, val_main_v7,
    val_main_cst_2, val_main_v6, val_main_v5, val_main_cst_1, val_main_v4, val_main_v3, val_main_cst_0, val_main_v0, val_main_v26]
  rw [Fin.sum_univ_one, add_assoc]
  unfold input factor
  refine congrArg _ ?_
  simp only [ix2_0, ix2_1, mean_coe, inv_coe, Cert.Reals.rsqrt_coe (meanR_pos _ _)]
  simp only [Cert.Reals.ofBits_2048, Cert.Reals.ofBits_neg_half, Cert.Reals.ofBits_two,
    Cert.Reals.div_coe_coe _ (meanR_pos _ _).ne', Cert.Reals.div_coe_coe _ (show (2048 : ℝ) ≠ 0 by norm_num),
    ← EReal.coe_one, ← EReal.coe_add, ← EReal.coe_mul, ← EReal.coe_sub, ix2_0, ix2_1, ← Cert.Reals.coe_sum]
  refine congrArg _ ?_
  refine Eq.trans ?_ ((input_algebra _ _ (dh (ix2 a b) * (g (ix1 b) * (1 + sc (ix1 b)))) (x (ix2 a b)) (∑ k : Fin 2048, dh (ix2 a k) * (g (ix1 k) * (1 + sc (ix1 k))) * x (ix2 a k)) (meanR_pos x a) rfl).trans ?_)
  · rw [show (∑ k : Fin 2048, x (ix2 a k) * (dh (ix2 a k) * (1 + sc (ix1 k)) * g (ix1 k)))
      = ∑ k : Fin 2048, dh (ix2 a k) * (g (ix1 k) * (1 + sc (ix1 k))) * x (ix2 a k) from Finset.sum_congr rfl fun k _ => by ring]
    ring
  · rw [Finset.sum_mul]
    simp only [mul_assoc]

end

section

open Cert.NormKernelIdeal Cert.NormKernelIdeal.Gen

variable (m : (ℓ : Loc nD τ sig) → Buf (Elt Ideal) ℓ)

theorem gain_result (c : Dev nD) : Pipeline.afterTail₀ cfgs (dats m) 0 (V0 m) [hostOps1] c main_v8
    = gain (m ((c : Thread nD τ).loc main_arg0)) (m ((c : Thread nD τ).loc main_arg3)) (m ((c : Thread nD τ).loc main_arg4)) := by
  funext j
  unfold Pipeline.afterTail₀
  simp only [List.flatten_cons, List.flatten_nil, List.append_nil]
  entry_read
  rw [show Pipeline.withArrays (cfgs 0).spec c (V0 m c) (fun w => (dats m 0 c).arrAt w (cfgs 0).N) (Proc.tc.devRef main_v4_2)
      = (dats m 0 c).arrAt 6 (cfgs 0).N
    from Pipeline.withArrays_arr spec0 (by decide) c (V0 m c) (fun w => (dats m 0 c).arrAt w (cfgs 0).N) 6, scale_final,
    after_call m c main_arg3 (by decide)]
  simp only [V0, List.flatten_cons, List.flatten_nil, List.append_nil]
  entry_read
  pointwise [gain, scaleSum]

theorem scale_result (c : Dev nD) : Pipeline.afterTail₀ cfgs (dats m) 0 (V0 m) [hostOps1] c main_v11
    = scale (m ((c : Thread nD τ).loc main_arg0)) (m ((c : Thread nD τ).loc main_arg1)) (m ((c : Thread nD τ).loc main_arg4)) := by
  funext j
  unfold Pipeline.afterTail₀
  simp only [List.flatten_cons, List.flatten_nil, List.append_nil]
  entry_read
  rw [show Pipeline.withArrays (cfgs 0).spec c (V0 m c) (fun w => (dats m 0 c).arrAt w (cfgs 0).N) (Proc.tc.devRef main_v4_2)
      = (dats m 0 c).arrAt 6 (cfgs 0).N
    from Pipeline.withArrays_arr spec0 (by decide) c (V0 m c) (fun w => (dats m 0 c).arrAt w (cfgs 0).N) 6, scale_final,
    after_call m c main_arg1 (by decide)]
  simp only [V0, List.flatten_cons, List.flatten_nil, List.append_nil]
  entry_read
  pointwise [scale, scaleSum]

theorem shift_result (c : Dev nD) : Pipeline.afterTail₀ cfgs (dats m) 0 (V0 m) [hostOps1] c main_v9
    = shift (m ((c : Thread nD τ).loc main_arg4)) := by
  funext j
  unfold Pipeline.afterTail₀
  simp only [List.flatten_cons, List.flatten_nil, List.append_nil]
  entry_read
  rw [show Pipeline.withArrays (cfgs 0).spec c (V0 m c) (fun w => (dats m 0 c).arrAt w (cfgs 0).N) (Proc.tc.devRef main_v4_1)
      = (dats m 0 c).arrAt 5 (cfgs 0).N
    from Pipeline.withArrays_arr spec0 (by decide) c (V0 m c) (fun w => (dats m 0 c).arrAt w (cfgs 0).N) 5, shift_final]
  pointwise [shift, shiftSum]

end

theorem frame_reference : Cert.quiescent_NormReferenceIdeal := fun m ρ _ =>
  (θ_run Cert.NormReferenceIdeal.defs _ _).mono
    (fun r h => ⟨fun c => (h c).2.2.2.2, sem_eq_zero_of_no_sems (by decide) r.2⟩) (Cert.NormReferenceIdeal.Value.run m ρ)

section

open Cert.NormReferenceIdeal Cert.NormReferenceIdeal.Read

variable {x : FVec Ideal S4096x2048 .f32} {g sh sc : FVec Ideal S2048 .f32} {dh : FVec Ideal S4096x2048 .bf16}
  {dres : FVec Ideal S4096x2048 .f32} (h : Cert.Pre_norm_finite.fn (F := Ideal) x g sh sc dh dres = fun _ => 1#1)

include h

theorem input_eq : val_main_v54 (F := Ideal) x g sc dh dres = input (factor g sc) x dh dres := by
  obtain ⟨⟨x, rfl⟩, ⟨g, rfl⟩, ⟨sc, rfl⟩, ⟨dh, rfl⟩⟩ := of_finite x g sh sc dh dres h
  funext j
  rw [eq_ix2 j]
  exact reference_input x g sc dh dres (j 0) (j 1)

theorem gain_eq : val_main_v41 (F := Ideal) x sc dh = gain x sc dh := by
  obtain ⟨⟨x, rfl⟩, ⟨g, rfl⟩, ⟨sc, rfl⟩, ⟨dh, rfl⟩⟩ := of_finite x g sh sc dh dres h
  funext j
  rw [eq_ix1 j]
  exact reference_gain x sc dh (j 0)

theorem scale_eq : val_main_v35 (F := Ideal) x g dh = scale x g dh := by
  obtain ⟨⟨x, rfl⟩, ⟨g, rfl⟩, ⟨sc, rfl⟩, ⟨dh, rfl⟩⟩ := of_finite x g sh sc dh dres h
  funext j
  rw [eq_ix1 j]
  exact reference_scale x g dh (j 0)

end

theorem shift_eq (dh : FVec Ideal Cert.NormReferenceIdeal.S4096x2048 .bf16) :
    Cert.NormReferenceIdeal.Read.val_main_v29 (F := Ideal) dh = shift dh := by
  funext j
  rw [eq_ix1 j]
  exact reference_shift dh (j 0)

theorem value : Cert.algebraic_NormKernelIdeal_NormReferenceIdeal_pre_norm_finite := by
  pair_intro
  · run_from Cert.NormKernelIdeal.Gen.run_main m g & Cert.NormKernelIdeal.Gen.unchanged m g
  · run_from Cert.NormReferenceIdeal.Value.run m' g'
    · exact (Cert.NormReferenceIdeal.Read.val_main_v54_eq _ _ _ _ _).trans ((input_eq (hpre c)).trans (input_final m c).symm)
    · exact (Cert.NormReferenceIdeal.Read.val_main_v41_eq _ _ _).trans ((gain_eq (hpre c)).trans (gain_result m c).symm)
    · exact (Cert.NormReferenceIdeal.Read.val_main_v29_eq _).trans ((shift_eq _).trans (shift_result m c).symm)
    · exact (Cert.NormReferenceIdeal.Read.val_main_v35_eq _ _ _).trans ((scale_eq (hpre c)).trans (scale_result m c).symm)

end Cert.NormMath

end
-- ==== Proof.LossValue.lean ====
/- What the loss's call leaves in its three result arrays, over the extended reals: the gradient of the last residual,
   for each column the sum that is the gradient of the norm's gain, and the loss. -/
module

public import proofs.«01_k».proof.Proof.Gen.LossKernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LossMath

open Cert.LossKernelIdeal Cert.LossKernelIdeal.Gen

variable (m : (ℓ : Loc nD τ sig) → Buf (Elt Ideal) ℓ)

/-- The mean of a row's terms. -/
def mean (f : Fin 2048 → EReal) : EReal := Ideal.div (∑ k : Fin 2048, f k) (Ideal.ofBits .f32 0x45000000#32)

/-- The last residual: the input beside the gated branch. -/
def res (x : FVec Ideal S4096x2048 .f32) (y : FVec Ideal S4096x2048 .bf16) (gt : FVec Ideal S2048 .f32) (i : Fin 4096) (j : Fin 2048) : EReal :=
  x (ix2 i j) + gt (ix1 j) * y (ix2 i j)

/-- One over the root mean square of a row of the residual. -/
def rs (x : FVec Ideal S4096x2048 .f32) (y : FVec Ideal S4096x2048 .bf16) (gt : FVec Ideal S2048 .f32) (i : Fin 4096) : EReal :=
  Ideal.rsqrt (mean (fun k => res x y gt i k * res x y gt i k) + Ideal.ofBits .f32 0x358637BD#32)

/-- The norm's output less the target. -/
def err (x : FVec Ideal S4096x2048 .f32) (y : FVec Ideal S4096x2048 .bf16) (gt : FVec Ideal S2048 .f32) (g : FVec Ideal S2048 .f32) (t : FVec Ideal S4096x2048 .f32)
    (i : Fin 4096) (j : Fin 2048) : EReal :=
  res x y gt i j * rs x y gt i * g (ix1 j) - t (ix2 i j)

/-- The gradient of the norm's output. -/
def out (x : FVec Ideal S4096x2048 .f32) (y : FVec Ideal S4096x2048 .bf16) (gt : FVec Ideal S2048 .f32) (g : FVec Ideal S2048 .f32) (t : FVec Ideal S4096x2048 .f32)
    (i : Fin 4096) (j : Fin 2048) : EReal :=
  err x y gt g t i j * Ideal.ofBits .f32 0x3A000000#32

/-- The gradient of the last residual. -/
def input (x : FVec Ideal S4096x2048 .f32) (y : FVec Ideal S4096x2048 .bf16) (gt : FVec Ideal S2048 .f32) (g : FVec Ideal S2048 .f32) (t : FVec Ideal S4096x2048 .f32) :
    FVec Ideal S4096x2048 .f32 :=
  fun i => rs x y gt (i 0) * (out x y gt g t (i 0) (i 1) * g (ix1 (i 1))
    - res x y gt (i 0) (i 1) * rs x y gt (i 0) * mean fun k => out x y gt g t (i 0) k * g (ix1 k) * (res x y gt (i 0) k * rs x y gt (i 0)))

/-- The gradient of the norm's gain. -/
def gain (x : FVec Ideal S4096x2048 .f32) (y : FVec Ideal S4096x2048 .bf16) (gt : FVec Ideal S2048 .f32) (g : FVec Ideal S2048 .f32) (t : FVec Ideal S4096x2048 .f32) :
    FVec Ideal S1x2048 .f32 :=
  fun j => ∑ i : Fin 4096, out x y gt g t i (j 1) * (res x y gt i (j 1) * rs x y gt i)

/-- The loss, as it is summed: 256 rows at a time. Every lane holds it. -/
def total (x : FVec Ideal S4096x2048 .f32) (y : FVec Ideal S4096x2048 .bf16) (gt : FVec Ideal S2048 .f32) (g : FVec Ideal S2048 .f32) (t : FVec Ideal S4096x2048 .f32) :
    FVec Ideal S1x128 .f32 :=
  fun j => ∑ n : Fin 16, Ideal.ofBits .f32 0x3F000000#32 * ∑ a : Fin 256,
    (∑ k : Fin 2048, err x y gt g t ⟨n.val * 256 + a.val, by omega⟩ k * err x y gt g t ⟨n.val * 256 + a.val, by omega⟩ k)
      * Ideal.ofBits .f32 0x3A000000#32

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![0, 0] ∧ t.val < 16 :=
  (by decide +kernel : ∀ t : Fin grid0.N, _)

/-- The gate and the gain reach the call as one row each. -/
theorem gate_row (c : Dev nD) (i : S1x2048.Idx) : V m c main_v0 i = m ((c : Thread nD τ).loc main_arg2) (ix1 (i 1)) := by
  simp only [V, V0, List.flatten_cons, List.flatten_nil, List.append_nil]
  entry_read
  pointwise []

theorem gain_row (c : Dev nD) (i : S1x2048.Idx) : V m c main_v1 i = m ((c : Thread nD τ).loc main_arg3) (ix1 (i 1)) := by
  simp only [V, V0, List.flatten_cons, List.flatten_nil, List.append_nil]
  entry_read
  pointwise []

theorem gate_block (c : Dev nD) (t : Fin cfg0.N) (b : Fin 2048) :
    iblk m c 2 t (ix2 0 b : S1x2048.Idx) = m ((c : Thread nD τ).loc main_arg2) (ix1 b) := by
  refine (gate_row m c _).trans ?_
  blk_point [idx t]

theorem gain_block (c : Dev nD) (t : Fin cfg0.N) (b : Fin 2048) :
    iblk m c 3 t (ix2 0 b : S1x2048.Idx) = m ((c : Thread nD τ).loc main_arg3) (ix1 b) := by
  refine (gain_row m c _).trans ?_
  blk_point [idx t]

section

variable (c : Dev nD) (t : Fin cfg0.N) (a : Fin 256) (r : Fin 4096) (hr : r.val = t.val * 256 + a.val)

include hr

theorem res_point (b : Fin 2048) : k0_pay5 (iblk m c 0 t) (iblk m c 2 t) (iblk m c 1 t) (ix2 a b)
    = res (m ((c : Thread nD τ).loc main_arg0)) (m ((c : Thread nD τ).loc main_arg1)) (m ((c : Thread nD τ).loc main_arg2)) r b := by
  pointwise [k0_pay5, res]
  simp only [gate_block]
  blk_point [iblk, V, idx t]

theorem rs_point : k0_pay6 (iblk m c 0 t) (iblk m c 2 t) (iblk m c 1 t) (ix2 a 0)
    = rs (m ((c : Thread nD τ).loc main_arg0)) (m ((c : Thread nD τ).loc main_arg1)) (m ((c : Thread nD τ).loc main_arg2)) r := by
  pointwise [k0_pay6, rs, mean]
  simp only [ix2_0, ix2_1, res_point m c t a r hr]

theorem norm_point (b : Fin 2048) : k0_pay7 (iblk m c 0 t) (iblk m c 2 t) (iblk m c 1 t) (ix2 a b)
    = res (m ((c : Thread nD τ).loc main_arg0)) (m ((c : Thread nD τ).loc main_arg1)) (m ((c : Thread nD τ).loc main_arg2)) r b
      * rs (m ((c : Thread nD τ).loc main_arg0)) (m ((c : Thread nD τ).loc main_arg1)) (m ((c : Thread nD τ).loc main_arg2)) r := by
  pointwise [k0_pay7]
  simp only [ix2_0, ix2_1, res_point m c t a r hr, rs_point m c t a r hr]

theorem err_point (b : Fin 2048) :
    k0_pay8 (iblk m c 0 t) (iblk m c 2 t) (iblk m c 1 t) (iblk m c 3 t) (iblk m c 4 t) (ix2 a b)
      = err (m ((c : Thread nD τ).loc main_arg0)) (m ((c : Thread nD τ).loc main_arg1)) (m ((c : Thread nD τ).loc main_arg2)) (m ((c : Thread nD τ).loc main_arg3)) (m ((c : Thread nD τ).loc main_arg4)) r b := by
  pointwise [k0_pay8, err]
  simp only [ix2_0, ix2_1, norm_point m c t a r hr, gain_block]
  blk_point [iblk, V, idx t]

theorem out_point (b : Fin 2048) :
    k0_pay9 (iblk m c 0 t) (iblk m c 2 t) (iblk m c 1 t) (iblk m c 3 t) (iblk m c 4 t) (ix2 a b)
      = out (m ((c : Thread nD τ).loc main_arg0)) (m ((c : Thread nD τ).loc main_arg1)) (m ((c : Thread nD τ).loc main_arg2)) (m ((c : Thread nD τ).loc main_arg3)) (m ((c : Thread nD τ).loc main_arg4)) r b := by
  pointwise [k0_pay9, out]
  simp only [ix2_0, ix2_1, err_point m c t a r hr]

theorem input_point (b : Fin 2048) :
    k0_pay10 (iblk m c 0 t) (iblk m c 2 t) (iblk m c 1 t) (iblk m c 3 t) (iblk m c 4 t) (iblk m c 3 t) (ix2 a b)
      = input (m ((c : Thread nD τ).loc main_arg0)) (m ((c : Thread nD τ).loc main_arg1)) (m ((c : Thread nD τ).loc main_arg2)) (m ((c : Thread nD τ).loc main_arg3)) (m ((c : Thread nD τ).loc main_arg4)) (ix2 r b) := by
  pointwise [k0_pay10, input, mean]
  simp only [ix2_0, ix2_1, norm_point m c t a r hr, out_point m c t a r hr, rs_point m c t a r hr, gain_block]

end

theorem input_final (c : Dev nD) : (dats m 0 c).arrAt 5 (cfgs 0).N
    = input (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  have ht := (idx t).2.2.2.2.2.2.2.2
  have hy : y = ix2 (y 0) (y 1) := eq_ix2 y
  have hr : ((cfg0.win 5).blk t).view.emb y = ix2 ⟨t.val * 256 + (y 0).val, by have := (y 0).isLt; change (y 0).val < 256 at this; omega⟩ (y 1) := by
    blk_ext! [idx t]
  rw [hr, hy]
  rw [after0_5]
  by_cases h1 : 1 ≤ t.val
  · rw [outsAt0_B m c t (by omega) h1 (by omega) h1]; frame_out
    exact input_point m c t (y 0) _ rfl (y 1)
  · rw [outsAt0_A m c t (by omega) h1 (by omega) h1]; frame_out
    exact input_point m c t (y 0) _ rfl (y 1)

theorem first_gain (n s : FVec Ideal S256x2048 .f32) (j : S1x2048.Idx) :
    k0_pay1 n s j = 0 + ∑ k : Fin 256, s (ix2 k (j 1)) * n (ix2 k (j 1)) := by
  pointwise [k0_pay1]

theorem step_gain (n s : FVec Ideal S256x2048 .f32) (acc : Vec Ideal S1x2048 .f32) (j : S1x2048.Idx) :
    k0_pay2 n s acc j = acc j + ∑ k : Fin 256, s (ix2 k (j 1)) * n (ix2 k (j 1)) := by
  pointwise [k0_pay2, k0_pay1]

theorem gain_final (c : Dev nD) : (dats m 0 c).arrAt 6 (cfgs 0).N
    = gain (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0) _
    (fun t h j => by
      rw [outsAt0_A m c t h (by have := (idx t).2.2.2.2.2.2.2.2; omega) h (by have := (idx t).2.2.2.2.2.2.2.2; omega)]; frame_out; rw [first_gain])
    (fun t h j => by rw [outsAt0_B m c t h (by omega) h (by omega)]; frame_out; rw [step_gain])
    (le_of_eq N_0) t0_15 rfl j, zero_add]
  unfold gain
  refine Fin.sum_mul_add_congr fun t k hl => ?_
  exact congrArg₂ (· * ·) (out_point m c t k ⟨t.val * 256 + k.val, hl⟩ rfl (j 1)) (norm_point m c t k ⟨t.val * 256 + k.val, hl⟩ rfl (j 1))

theorem first_total (e : FVec Ideal S256x2048 .f32) (j : S1x128.Idx) :
    k0_pay3 e j = 0 + Ideal.ofBits .f32 0x3F000000#32 * ∑ a : Fin 256, (∑ k : Fin 2048, e (ix2 a k) * e (ix2 a k)) * Ideal.ofBits .f32 0x3A000000#32 := by
  pointwise [k0_pay3]

theorem step_total (e : FVec Ideal S256x2048 .f32) (acc : Vec Ideal S1x128 .f32) (j : S1x128.Idx) :
    k0_pay4 e acc j = acc j
      + Ideal.ofBits .f32 0x3F000000#32 * ∑ a : Fin 256, (∑ k : Fin 2048, e (ix2 a k) * e (ix2 a k)) * Ideal.ofBits .f32 0x3A000000#32 := by
  pointwise [k0_pay4, k0_pay3]

theorem total_point (c : Dev nD) (t : Fin cfg0.N) (n : Fin 16) (h : t.val = n.val) :
    Ideal.ofBits .f32 0x3F000000#32 * ∑ a : Fin 256, (∑ k : Fin 2048,
        k0_pay8 (iblk m c 0 t) (iblk m c 2 t) (iblk m c 1 t) (iblk m c 3 t) (iblk m c 4 t) (ix2 a k)
          * k0_pay8 (iblk m c 0 t) (iblk m c 2 t) (iblk m c 1 t) (iblk m c 3 t) (iblk m c 4 t) (ix2 a k)) * Ideal.ofBits .f32 0x3A000000#32
      = Ideal.ofBits .f32 0x3F000000#32 * ∑ a : Fin 256, (∑ k : Fin 2048,
        err (m ((c : Thread nD τ).loc main_arg0)) (m ((c : Thread nD τ).loc main_arg1)) (m ((c : Thread nD τ).loc main_arg2)) (m ((c : Thread nD τ).loc main_arg3)) (m ((c : Thread nD τ).loc main_arg4)) ⟨n.val * 256 + a.val, by omega⟩ k
          * err (m ((c : Thread nD τ).loc main_arg0)) (m ((c : Thread nD τ).loc main_arg1)) (m ((c : Thread nD τ).loc main_arg2)) (m ((c : Thread nD τ).loc main_arg3)) (m ((c : Thread nD τ).loc main_arg4)) ⟨n.val * 256 + a.val, by omega⟩ k) * Ideal.ofBits .f32 0x3A000000#32 := by
  refine congrArg _ (Finset.sum_congr rfl fun a _ => congrArg (· * _) (Finset.sum_congr rfl fun k _ => ?_))
  rw [err_point m c t a ⟨n.val * 256 + a.val, by omega⟩ (by rw [h])]

theorem total_final (c : Dev nD) : (dats m 0 c).arrAt 7 (cfgs 0).N
    = total (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0) _
    (fun t h j => by
      rw [outsAt0_A m c t h (by have := (idx t).2.2.2.2.2.2.2.2; omega) h (by have := (idx t).2.2.2.2.2.2.2.2; omega)]; frame_out; rw [first_total])
    (fun t h j => by rw [outsAt0_B m c t h (by omega) h (by omega)]; frame_out; rw [step_total])
    (le_of_eq N_0) t0_15 rfl j, zero_add]
  unfold total
  exact Finset.sum_congr (M := EReal) rfl fun n _ => total_point m c _ n rfl

end Cert.LossMath

end
-- ==== Proof.LossClaims.lean ====
/- The claims about the loss's call: both programs run without fault, and over the extended reals the call returns the
   loss of the normalised last residual and the gradients that differentiating it gives, for finite inputs. -/
module

public import proofs.«01_k».proof.Defs
public import proofs.«01_k».proof.Proof.Gen.LossKernel.Frame
public import proofs.«01_k».proof.Proof.Gen.LossKernelIdeal.Frame
public import proofs.«01_k».proof.Proof.Gen.LossReferenceIdeal.Run
public import proofs.«01_k».proof.Proof.Gen.LossReferenceIdeal.Read
public import proofs.«01_k».proof.Proof.Gen.Pre_loss_finite
public import proofs.«01_k».proof.Proof.LossValue
public import proofs.«01_k».proof.Proof.Reals
public import Idealize.ShloMosaic.Lib.Claim

@[expose] public section

set_option maxRecDepth 16384

noncomputable section

open Idealize.ShloMosaic Idealize.ShloMosaic.TcCoe Idealize.SL.Sem

namespace Cert.LossMath

section

open Cert.LossReferenceIdeal Cert.LossReferenceIdeal.Read

/-- What the precondition says of the arrays it reads. -/
theorem of_finite (x : FVec Ideal S4096x2048 .f32) (y : FVec Ideal S4096x2048 .bf16) (gt g : FVec Ideal S2048 .f32)
    (t : FVec Ideal S4096x2048 .f32) (h : Cert.Pre_loss_finite.fn (F := Ideal) x y gt g t = fun _ => 1#1) :
    (∃ r : S4096x2048.Idx → ℝ, x = fun i => (r i : EReal)) ∧ (∃ r : S4096x2048.Idx → ℝ, y = fun i => (r i : EReal))
    ∧ (∃ r : S2048.Idx → ℝ, gt = fun i => (r i : EReal)) ∧ (∃ r : S2048.Idx → ℝ, g = fun i => (r i : EReal))
    ∧ (∃ r : S4096x2048.Idx → ℝ, t = fun i => (r i : EReal)) := by
  have e := congrFun h (fun a => a.elim0)
  simp only [Cert.Pre_loss_finite.fn, Cert.Pre_loss_finite.fn_part1] at e
  obtain ⟨e, ht⟩ := Cert.Reals.of_andi e
  obtain ⟨e1, e2⟩ := Cert.Reals.of_andi e
  obtain ⟨hx, hy⟩ := Cert.Reals.of_andi e1
  obtain ⟨hgt, hg⟩ := Cert.Reals.of_andi e2
  exact ⟨Cert.Reals.finite_of_all x _ _ _ _ _ hx, Cert.Reals.finite_of_all (extf .f32 y _) _ _ _ _ _ hy,
    Cert.Reals.finite_of_all gt _ _ _ _ _ hgt, Cert.Reals.finite_of_all g _ _ _ _ _ hg, Cert.Reals.finite_of_all t _ _ _ _ _ ht⟩

/-! The loss's quantities over the reals. -/

variable (x y : S4096x2048.Idx → ℝ) (gt g : S2048.Idx → ℝ) (t : S4096x2048.Idx → ℝ) (i : Fin 4096) (j : Fin 2048)

def resR : ℝ := x (ix2 i j) + gt (ix1 j) * y (ix2 i j)

def varR : ℝ := (∑ k : Fin 2048, resR x y gt i k * resR x y gt i k) / 2048 + 8796093 / 2 ^ 43

def rsR : ℝ := (Real.sqrt (varR x y gt i))⁻¹

def errR : ℝ := resR x y gt i j * rsR x y gt i * g (ix1 j) - t (ix2 i j)

theorem varR_pos : 0 < varR x y gt i := by
  have : 0 ≤ ∑ k : Fin 2048, resR x y gt i k * resR x y gt i k := Finset.sum_nonneg fun k _ => mul_self_nonneg _
  unfold varR; positivity

theorem mean_coe (f : Fin 2048 → ℝ) : mean (fun k => (f k : EReal)) = (((∑ k : Fin 2048, f k) / 2048 : ℝ) : EReal) := by
  unfold mean
  rw [← Cert.Reals.coe_sum, Cert.Reals.ofBits_2048, Cert.Reals.div_coe_coe _ (by norm_num)]

theorem res_coe : res (fun i => (x i : EReal)) (fun i => (y i : EReal)) (fun i => (gt i : EReal)) i j = ((resR x y gt i j : ℝ) : EReal) := by
  unfold res; rw [← EReal.coe_mul, ← EReal.coe_add]; rfl

theorem rs_coe : rs (fun i => (x i : EReal)) (fun i => (y i : EReal)) (fun i => (gt i : EReal)) i = ((rsR x y gt i : ℝ) : EReal) := by
  unfold rs
  simp only [res_coe, ← EReal.coe_mul]
  rw [mean_coe, Cert.Reals.ofBits_eps, ← EReal.coe_add]
  exact Cert.Reals.rsqrt_coe (varR_pos x y gt i)

theorem err_coe : err (fun i => (x i : EReal)) (fun i => (y i : EReal)) (fun i => (gt i : EReal))
    (fun i => (g i : EReal)) (fun i => (t i : EReal)) i j = ((errR x y gt g t i j : ℝ) : EReal) := by
  unfold err
  simp only [res_coe, rs_coe, ← EReal.coe_mul, ← EReal.coe_sub]; rfl

theorem out_coe : out (fun i => (x i : EReal)) (fun i => (y i : EReal)) (fun i => (gt i : EReal))
    (fun i => (g i : EReal)) (fun i => (t i : EReal)) i j = ((errR x y gt g t i j * (1 / 2048) : ℝ) : EReal) := by
  unfold out
  rw [err_coe, Cert.Reals.ofBits_inv_2048, ← EReal.coe_mul]

/-! What the reference's arrays hold, over the reals. -/

theorem reference_res : val_main_v4 (F := Ideal) (fun i => (x i : EReal)) (fun i => (y i : EReal)) (fun i => (gt i : EReal)) (ix2 i j) = ((resR x y gt i j : ℝ) : EReal) := by
  pointwise [val_main_v4, val_main_v3, val_main_v2, val_main_v1, val_main_v0]
  exact res_coe x y gt i j

theorem reference_var : val_main_v13 (F := Ideal) (fun i => (x i : EReal)) (fun i => (y i : EReal)) (fun i => (gt i : EReal)) (ix2 i 0) = ((varR x y gt i : ℝ) : EReal) := by
  pointwise [val_main_v13, val_main_v12, val_main_v11, val_main_v10, val_main_v9, val_main_v8, val_main_v5, val_main_cst_0, val_main_cst_1, val_main_cst_2]
  simp only [ix2_0, ix2_1, reference_res, ← EReal.coe_mul, ← Cert.Reals.coe_sum, Cert.Reals.ofBits_2048, Cert.Reals.ofBits_eps,
    Cert.Reals.div_coe_coe _ (show (2048 : ℝ) ≠ 0 by norm_num), ← EReal.coe_add]
  rfl

theorem reference_rs : val_main_v14 (F := Ideal) (fun i => (x i : EReal)) (fun i => (y i : EReal)) (fun i => (gt i : EReal)) (ix2 i 0) = ((rsR x y gt i : ℝ) : EReal) := by
  pointwise [val_main_v14]
  simp only [ix2_0, ix2_1, reference_var, Cert.Reals.rsqrt_coe (varR_pos _ _ _ _)]
  rfl

theorem reference_norm : val_main_v19 (F := Ideal) (fun i => (x i : EReal)) (fun i => (y i : EReal)) (fun i => (gt i : EReal)) (ix2 i j) = ((resR x y gt i j * rsR x y gt i : ℝ) : EReal) := by
  pointwise [val_main_v19, val_main_v18]
  simp only [ix2_0, ix2_1, reference_res, reference_rs, ← EReal.coe_mul]

theorem reference_err : val_main_v23 (F := Ideal) (fun i => (x i : EReal)) (fun i => (y i : EReal)) (fun i => (gt i : EReal))
    (fun i => (g i : EReal)) (fun i => (t i : EReal)) (ix2 i j)
    = ((errR x y gt g t i j : ℝ) : EReal) := by
  pointwise [val_main_v23, val_main_v22, val_main_v21, val_main_v20]
  simp only [ix2_0, ix2_1, reference_norm, ← EReal.coe_mul, ← EReal.coe_sub]
  rfl

theorem reference_out : val_main_v37 (F := Ideal) (fun i => (x i : EReal)) (fun i => (y i : EReal)) (fun i => (gt i : EReal))
    (fun i => (g i : EReal)) (fun i => (t i : EReal)) (ix2 i j)
    = ((errR x y gt g t i j * (1 / 2048) : ℝ) : EReal) := by
  pointwise [val_main_v37, val_main_v36, val_main_v35, val_main_v34, val_main_v33, val_main_v32, val_main_cst_9, val_main_cst_10, val_main_cst_11,
    val_main_v26, val_main_v25, val_main_cst_4]
  simp only [ix2_0, ix2_1, reference_err, Cert.Reals.ofBits_2048, Cert.Reals.ofBits_half, Cert.Reals.ofBits_two, ← EReal.coe_one, ← EReal.coe_mul,
    Cert.Reals.div_coe_coe _ (show (2048 : ℝ) ≠ 0 by norm_num)]
  exact congrArg _ (by ring)

theorem reference_gain : val_main_v43 (F := Ideal) (fun i => (x i : EReal)) (fun i => (y i : EReal)) (fun i => (gt i : EReal))
    (fun i => (g i : EReal)) (fun i => (t i : EReal)) (ix1 j)
    = gain (fun i => (x i : EReal)) (fun i => (y i : EReal)) (fun i => (gt i : EReal))
    (fun i => (g i : EReal)) (fun i => (t i : EReal)) (ix2 0 j) := by
  pointwise [val_main_v43, val_main_v40, val_main_v39, val_main_v38, val_main_cst_12, val_main_cst_13]
  refine (Fin.sum_univ_one _).trans ?_
  unfold gain
  simp only [reference_out, reference_norm, out_coe, res_coe, rs_coe, ix2_1, ← EReal.coe_mul]
  exact Finset.sum_congr rfl fun k _ => congrArg _ (mul_comm _ _)

theorem input_algebra (v r d x S : ℝ) (hv : 0 < v) (hr : r = (Real.sqrt v)⁻¹) :
    d * r + S * (-1 / 2 * (r / v)) / 2048 * (2 * x) = r * (d - x * r * (S * r / 2048)) := by
  have h : r / v = r * (r * r) := by
    rw [hr, ← mul_inv, Real.mul_self_sqrt hv.le]; rfl
  rw [h]; ring

theorem reference_input : val_main_v55 (F := Ideal) (fun i => (x i : EReal)) (fun i => (y i : EReal)) (fun i => (gt i : EReal))
    (fun i => (g i : EReal)) (fun i => (t i : EReal)) (ix2 i j)
    = input (fun i => (x i : EReal)) (fun i => (y i : EReal)) (fun i => (gt i : EReal))
    (fun i => (g i : EReal)) (fun i => (t i : EReal)) (ix2 i j) := by
  pointwise [val_main_v55, val_main_v48, val_main_v47, val_main_v42, val_main_v41, val_main_v20, val_main_v54, val_main_v53, val_main_v52,
    val_main_v51, val_main_v50, val_main_v49, val_main_v46, val_main_v45, val_main_v44, val_main_v17, val_main_v16, val_main_v15,
    val_main_v7, val_main_v6, val_main_cst, val_main_cst_3, val_main_cst_14, val_main_cst_15, val_main_cst_16]
  unfold input
  simp only [Fin.sum_univ_one, ix2_0, ix2_1, reference_res, reference_rs, reference_var, reference_out, out_coe, res_coe, rs_coe]
  simp only [Cert.Reals.ofBits_2048, Cert.Reals.ofBits_neg_half, Cert.Reals.ofBits_two,
    Cert.Reals.div_coe_coe _ (varR_pos _ _ _ _).ne', Cert.Reals.div_coe_coe _ (show (2048 : ℝ) ≠ 0 by norm_num),
    ← EReal.coe_add, ← EReal.coe_mul, ← EReal.coe_sub, ← EReal.coe_neg, ← Cert.Reals.coe_sum, mean_coe]
  refine congrArg _ (Eq.trans (input_algebra (varR x y gt i) (rsR x y gt i) (errR x y gt g t i j * (1 / 2048) * g (ix1 j)) (resR x y gt i j)
    (∑ k, resR x y gt i k * (errR x y gt g t i k * (1 / 2048) * g (ix1 k))) (varR_pos x y gt i) rfl) ?_)
  rw [Finset.sum_mul]
  refine congrArg (fun s => rsR x y gt i * (_ - _ * (s / 2048))) (Finset.sum_congr rfl fun k _ => by ring)

theorem reference_total (q : S_.Idx) : val_main_v31 (F := Ideal) (fun i => (x i : EReal)) (fun i => (y i : EReal)) (fun i => (gt i : EReal))
    (fun i => (g i : EReal)) (fun i => (t i : EReal)) q
    = total (fun i => (x i : EReal)) (fun i => (y i : EReal)) (fun i => (gt i : EReal))
    (fun i => (g i : EReal)) (fun i => (t i : EReal)) (ix2 0 0) := by
  pointwise [val_main_v31, val_main_v30, val_main_v29, val_main_v28, val_main_v27, val_main_v24, val_main_cst_5, val_main_cst_6, val_main_cst_7, val_main_cst_8]
  unfold total
  simp only [ix1_0, reference_err, err_coe, Cert.Reals.ofBits_2048, Cert.Reals.ofBits_half, Cert.Reals.ofBits_inv_2048, ← EReal.coe_mul, ← Cert.Reals.coe_sum,
    Cert.Reals.div_coe_coe _ (show (2048 : ℝ) ≠ 0 by norm_num)]
  refine congrArg _ ?_
  rw [← Finset.mul_sum]
  refine congrArg _ (Eq.symm (Fin.sum_mul_add_congr fun n a hl => ?_))
  ring

end

section

open Cert.LossKernelIdeal Cert.LossKernelIdeal.Gen

variable (m : (ℓ : Loc nD τ sig) → Buf (Elt Ideal) ℓ)

/-- A row of column sums as a vector. -/
def flat (v : FVec Ideal S1x2048 .f32) : FVec Ideal S2048 .f32 := fun j => v (ix2 0 (j 0))

/-- The first lane of a row as a scalar. -/
def lane (v : FVec Ideal S1x128 .f32) : FVec Ideal S_ .f32 := fun _ => v (ix2 0 0)

theorem gain_result (c : Dev nD) : Pipeline.afterTail₀ cfgs (dats m) 0 (V0 m) [hostOps1] c main_v5
    = flat (gain (m ((c : Thread nD τ).loc main_arg0)) (m ((c : Thread nD τ).loc main_arg1)) (m ((c : Thread nD τ).loc main_arg2))
        (m ((c : Thread nD τ).loc main_arg3)) (m ((c : Thread nD τ).loc main_arg4))) := by
  funext j
  unfold Pipeline.afterTail₀
  simp only [List.flatten_cons, List.flatten_nil, List.append_nil]
  entry_read
  rw [show Pipeline.withArrays (cfgs 0).spec c (V0 m c) (fun w => (dats m 0 c).arrAt w (cfgs 0).N) (Proc.tc.devRef main_v2_1)
      = (dats m 0 c).arrAt 6 (cfgs 0).N
    from Pipeline.withArrays_arr spec0 (by decide) c (V0 m c) (fun w => (dats m 0 c).arrAt w (cfgs 0).N) 6, gain_final]
  pointwise [flat]

theorem total_result (c : Dev nD) : Pipeline.afterTail₀ cfgs (dats m) 0 (V0 m) [hostOps1] c main_v4
    = lane (total (m ((c : Thread nD τ).loc main_arg0)) (m ((c : Thread nD τ).loc main_arg1)) (m ((c : Thread nD τ).loc main_arg2))
        (m ((c : Thread nD τ).loc main_arg3)) (m ((c : Thread nD τ).loc main_arg4))) := by
  funext j
  unfold Pipeline.afterTail₀
  simp only [List.flatten_cons, List.flatten_nil, List.append_nil]
  entry_read
  rw [show Pipeline.withArrays (cfgs 0).spec c (V0 m c) (fun w => (dats m 0 c).arrAt w (cfgs 0).N) (Proc.tc.devRef main_v2_2)
      = (dats m 0 c).arrAt 7 (cfgs 0).N
    from Pipeline.withArrays_arr spec0 (by decide) c (V0 m c) (fun w => (dats m 0 c).arrAt w (cfgs 0).N) 7, total_final]
  pointwise [lane]

end

theorem frame_reference : Cert.quiescent_LossReferenceIdeal := fun m ρ _ =>
  (θ_run Cert.LossReferenceIdeal.defs _ _).mono
    (fun r h => ⟨fun c => (h c).2.2.2, sem_eq_zero_of_no_sems (by decide) r.2⟩) (Cert.LossReferenceIdeal.Value.run m ρ)

section

open Cert.LossReferenceIdeal Cert.LossReferenceIdeal.Read

variable {x : FVec Ideal S4096x2048 .f32} {y : FVec Ideal S4096x2048 .bf16} {gt g : FVec Ideal S2048 .f32} {t : FVec Ideal S4096x2048 .f32}
  (h : Cert.Pre_loss_finite.fn (F := Ideal) x y gt g t = fun _ => 1#1)

include h

theorem total_eq : val_main_v31 (F := Ideal) x y gt g t = lane (total x y gt g t) := by
  obtain ⟨⟨x, rfl⟩, ⟨y, rfl⟩, ⟨gt, rfl⟩, ⟨g, rfl⟩, ⟨t, rfl⟩⟩ := of_finite x y gt g t h
  funext j
  exact reference_total x y gt g t j

theorem input_eq : val_main_v55 (F := Ideal) x y gt g t = input x y gt g t := by
  obtain ⟨⟨x, rfl⟩, ⟨y, rfl⟩, ⟨gt, rfl⟩, ⟨g, rfl⟩, ⟨t, rfl⟩⟩ := of_finite x y gt g t h
  funext j
  rw [eq_ix2 j]
  exact reference_input x y gt g t (j 0) (j 1)

theorem gain_eq : val_main_v43 (F := Ideal) x y gt g t = flat (gain x y gt g t) := by
  obtain ⟨⟨x, rfl⟩, ⟨y, rfl⟩, ⟨gt, rfl⟩, ⟨g, rfl⟩, ⟨t, rfl⟩⟩ := of_finite x y gt g t h
  funext j
  rw [eq_ix1 j]
  exact reference_gain x y gt g t (j 0)

end

theorem value : Cert.algebraic_LossKernelIdeal_LossReferenceIdeal_pre_loss_finite := by
  pair_intro
  · run_from Cert.LossKernelIdeal.Gen.run_main m g & Cert.LossKernelIdeal.Gen.unchanged m g
  · run_from Cert.LossReferenceIdeal.Value.run m' g'
    · exact (Cert.LossReferenceIdeal.Read.val_main_v31_eq _ _ _ _ _).trans ((total_eq (hpre c)).trans (total_result m c).symm)
    · refine (Cert.LossReferenceIdeal.Read.val_main_v55_eq m' c).trans ?_
      obtain ⟨a0, a1, a2, a3, a4⟩ := hagree c
      rw [a0, a1, a2, a3, a4]
      exact (input_eq (hpre c)).trans (input_final m c).symm
    · exact (Cert.LossReferenceIdeal.Read.val_main_v43_eq _ _ _ _ _).trans ((gain_eq (hpre c)).trans (gain_result m c).symm)

end Cert.LossMath

end
-- ==== Proof.LnValue.lean ====
/- What the layer norm's backward call leaves in its three result arrays, over the extended reals: the gradient of
   the norm's input, and for each column the sums that are the gradients of the norm's gain and bias. -/
module

public import proofs.«01_k».proof.Proof.Gen.LnKernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LnMath

open Cert.LnKernelIdeal Cert.LnKernelIdeal.Gen

variable (m : (ℓ : Loc nD τ sig) → Buf (Elt Ideal) ℓ)

/-- The mean of a row's terms. -/
def mean (f : Fin 2048 → EReal) : EReal := Ideal.div (∑ k : Fin 2048, f k) (Ideal.ofBits .f32 0x45000000#32)

/-- A row's element less the row's mean. -/
def cen (z : FVec Ideal S4096x2048 .f32) (i : Fin 4096) (j : Fin 2048) : EReal :=
  z (ix2 i j) - mean fun k => z (ix2 i k)

/-- One over the standard deviation of a row. -/
def rs (z : FVec Ideal S4096x2048 .f32) (i : Fin 4096) : EReal :=
  Ideal.rsqrt (mean (fun k => cen z i k * cen z i k) + Ideal.ofBits .f32 0x358637BD#32)

/-- The norm's output before the activation. -/
def pre (z : FVec Ideal S4096x2048 .f32) (g b : FVec Ideal S2048 .f32) (i : Fin 4096) (j : Fin 2048) : EReal :=
  cen z i j * rs z i * g (ix1 j) + b (ix1 j)

/-- The logistic function. -/
def sig' (x : EReal) : EReal := Ideal.div 1 (1 + Ideal.exp (0 - x))

/-- The gradient of the activation's input. -/
def act (z : FVec Ideal S4096x2048 .f32) (g b : FVec Ideal S2048 .f32) (d : FVec Ideal S4096x2048 .bf16) (i : Fin 4096)
    (j : Fin 2048) : EReal :=
  d (ix2 i j) * sig' (pre z g b i j) * (1 + pre z g b i j * (1 - sig' (pre z g b i j)))

/-- The gradient of the norm's input. -/
def input (z : FVec Ideal S4096x2048 .f32) (g b : FVec Ideal S2048 .f32) (d : FVec Ideal S4096x2048 .bf16) :
    FVec Ideal S4096x2048 .bf16 :=
  fun i => rs z (i 0) * (act z g b d (i 0) (i 1) * g (ix1 (i 1)) - mean (fun k => act z g b d (i 0) k * g (ix1 k))
    - cen z (i 0) (i 1) * rs z (i 0) * mean fun k => act z g b d (i 0) k * g (ix1 k) * (cen z (i 0) k * rs z (i 0)))

/-- The gradient of the norm's gain. -/
def gain (z : FVec Ideal S4096x2048 .f32) (g b : FVec Ideal S2048 .f32) (d : FVec Ideal S4096x2048 .bf16) : FVec Ideal S1x2048 .f32 :=
  fun j => ∑ i : Fin 4096, act z g b d i (j 1) * (cen z i (j 1) * rs z i)

/-- The gradient of the norm's bias. -/
def bias (z : FVec Ideal S4096x2048 .f32) (g b : FVec Ideal S2048 .f32) (d : FVec Ideal S4096x2048 .bf16) : FVec Ideal S1x2048 .f32 :=
  fun j => ∑ i : Fin 4096, act z g b d i (j 1)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0] ∧ t.val < 16 :=
  (by decide +kernel : ∀ t : Fin grid0.N, _)

/-- The gain and the bias reach the call as one row. -/
theorem gain_row (c : Dev nD) (i : S1x2048.Idx) : V m c main_v0 i = m ((c : Thread nD τ).loc main_arg1) (ix1 (i 1)) := by
  simp only [V, V0, List.flatten_cons, List.flatten_nil, List.append_nil]
  entry_read
  pointwise []

theorem bias_row (c : Dev nD) (i : S1x2048.Idx) : V m c main_v1 i = m ((c : Thread nD τ).loc main_arg2) (ix1 (i 1)) := by
  simp only [V, V0, List.flatten_cons, List.flatten_nil, List.append_nil]
  entry_read
  pointwise []

theorem gain_block (c : Dev nD) (t : Fin cfg0.N) (b : Fin 2048) :
    iblk m c 2 t (ix2 0 b : S1x2048.Idx) = m ((c : Thread nD τ).loc main_arg1) (ix1 b) := by
  refine (gain_row m c _).trans ?_
  blk_point [idx t]

theorem bias_block (c : Dev nD) (t : Fin cfg0.N) (b : Fin 2048) :
    iblk m c 3 t (ix2 0 b : S1x2048.Idx) = m ((c : Thread nD τ).loc main_arg2) (ix1 b) := by
  refine (bias_row m c _).trans ?_
  blk_point [idx t]

section

variable (c : Dev nD) (t : Fin cfg0.N) (a : Fin 256) (r : Fin 4096) (hr : r.val = t.val * 256 + a.val)

include hr

theorem cen_point (b : Fin 2048) : k0_pay1 (iblk m c 0 t) (ix2 a b) = cen (m ((c : Thread nD τ).loc main_arg0)) r b := by
  pointwise [k0_pay1, cen, mean]
  blk_point [iblk, V, idx t]

theorem rs_point : k0_pay2 (iblk m c 0 t) (ix2 a 0) = rs (m ((c : Thread nD τ).loc main_arg0)) r := by
  pointwise [k0_pay2, rs, mean]
  simp only [ix2_0, ix2_1, cen_point m c t a r hr]

theorem norm_point (b : Fin 2048) : k0_pay3 (iblk m c 0 t) (ix2 a b)
    = cen (m ((c : Thread nD τ).loc main_arg0)) r b * rs (m ((c : Thread nD τ).loc main_arg0)) r := by
  pointwise [k0_pay3]
  simp only [ix2_0, ix2_1, cen_point m c t a r hr, rs_point m c t a r hr]

theorem act_point (b : Fin 2048) :
    k0_pay4 (iblk m c 0 t) (iblk m c 2 t) (iblk m c 3 t) (iblk m c 1 t) (ix2 a b)
      = act (m ((c : Thread nD τ).loc main_arg0)) (m ((c : Thread nD τ).loc main_arg1)) (m ((c : Thread nD τ).loc main_arg2))
          (m ((c : Thread nD τ).loc main_arg3)) r b := by
  pointwise [k0_pay4, act, pre, sig']
  simp only [ix2_0, ix2_1, norm_point m c t a r hr, gain_block, bias_block]
  blk_point [iblk, V, idx t]

theorem input_point (b : Fin 2048) :
    k0_pay9 (k0_pay2 (iblk m c 0 t)) (k0_pay3 (iblk m c 0 t)) (k0_pay4 (iblk m c 0 t) (iblk m c 2 t) (iblk m c 3 t) (iblk m c 1 t))
        (iblk m c 2 t) (ix2 a b)
      = input (m ((c : Thread nD τ).loc main_arg0)) (m ((c : Thread nD τ).loc main_arg1)) (m ((c : Thread nD τ).loc main_arg2))
          (m ((c : Thread nD τ).loc main_arg3)) (ix2 r b) := by
  pointwise [k0_pay9, input, mean]
  simp only [ix2_0, ix2_1, norm_point m c t a r hr, act_point m c t a r hr, rs_point m c t a r hr, gain_block]

end

theorem input_final (c : Dev nD) : (dats m 0 c).arrAt 4 (cfgs 0).N
    = input (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  have ht := (idx t).2.2.2.2.2.2.2
  have hy : y = ix2 (y 0) (y 1) := eq_ix2 y
  have hr : ((cfg0.win 4).blk t).view.emb y = ix2 ⟨t.val * 256 + (y 0).val, by have := (y 0).isLt; change (y 0).val < 256 at this; omega⟩ (y 1) := by
    blk_ext! [idx t]
  rw [hr, hy]
  rw [after0_4]
  by_cases h1 : 1 ≤ t.val
  · rw [outsAt0_B m c t (by omega) h1 (by omega) h1]; frame_out
    exact input_point m c t (y 0) _ rfl (y 1)
  · rw [outsAt0_A m c t (by omega) h1 (by omega) h1]; frame_out
    exact input_point m c t (y 0) _ rfl (y 1)

theorem first_bias (s : FVec Ideal S256x2048 .f32) (j : S1x2048.Idx) : k0_pay7 s j = 0 + ∑ k : Fin 256, s (ix2 k (j 1)) := by
  pointwise [k0_pay7]

theorem step_bias (s : FVec Ideal S256x2048 .f32) (acc : Vec Ideal S1x2048 .f32) (j : S1x2048.Idx) :
    k0_pay8 s acc j = acc j + ∑ k : Fin 256, s (ix2 k (j 1)) := by
  pointwise [k0_pay8, k0_pay7]

theorem bias_final (c : Dev nD) : (dats m 0 c).arrAt 6 (cfgs 0).N
    = bias (m ((c : Thread nD τ).loc main_arg0)) (m ((c : Thread nD τ).loc main_arg1)) (m ((c : Thread nD τ).loc main_arg2))
        (m ((c : Thread nD τ).loc main_arg3)) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0) _
    (fun t h j => by
      rw [outsAt0_A m c t h (by have := (idx t).2.2.2.2.2.2.2; omega) h (by have := (idx t).2.2.2.2.2.2.2; omega)]; frame_out; rw [first_bias])
    (fun t h j => by rw [outsAt0_B m c t h (by omega) h (by omega)]; frame_out; rw [step_bias])
    (le_of_eq N_0) t0_15 rfl j, zero_add]
  unfold bias
  refine Fin.sum_mul_add_congr fun t k hl => ?_
  exact act_point m c t k ⟨t.val * 256 + k.val, hl⟩ rfl (j 1)

theorem first_gain (n s : FVec Ideal S256x2048 .f32) (j : S1x2048.Idx) :
    k0_pay5 n s j = 0 + ∑ k : Fin 256, s (ix2 k (j 1)) * n (ix2 k (j 1)) := by
  pointwise [k0_pay5]

theorem step_gain (n s : FVec Ideal S256x2048 .f32) (acc : Vec Ideal S1x2048 .f32) (j : S1x2048.Idx) :
    k0_pay6 n s acc j = acc j + ∑ k : Fin 256, s (ix2 k (j 1)) * n (ix2 k (j 1)) := by
  pointwise [k0_pay6, k0_pay5]

theorem gain_final (c : Dev nD) : (dats m 0 c).arrAt 5 (cfgs 0).N
    = gain (m ((c : Thread nD τ).loc main_arg0)) (m ((c : Thread nD τ).loc main_arg1)) (m ((c : Thread nD τ).loc main_arg2))
        (m ((c : Thread nD τ).loc main_arg3)) := by
  refine (dats m 0 c).arrAt_eq_of_after_last 5 t0_15 (by decide +kernel) _ fun j => ?_
  blk_simp
  rw [after0_5, Pipeline.eq_sum_fin_of_reset_step_apply_last (fun n h => (outsAt0 m c n h).2.1) 16 (fun _ => 0) _
    (fun t h j => by
      rw [outsAt0_A m c t h (by have := (idx t).2.2.2.2.2.2.2; omega) h (by have := (idx t).2.2.2.2.2.2.2; omega)]; frame_out; rw [first_gain])
    (fun t h j => by rw [outsAt0_B m c t h (by omega) h (by omega)]; frame_out; rw [step_gain])
    (le_of_eq N_0) t0_15 rfl j, zero_add]
  unfold gain
  refine Fin.sum_mul_add_congr fun t k hl => ?_
  exact congrArg₂ (· * ·) (act_point m c t k ⟨t.val * 256 + k.val, hl⟩ rfl (j 1)) (norm_point m c t k ⟨t.val * 256 + k.val, hl⟩ rfl (j 1))

end Cert.LnMath

end
-- ==== Proof.LnClaims.lean ====
/- The claims about the layer norm's backward call: both programs run without fault, and over the extended reals the
   call returns the gradients that differentiating the activated norm gives, for finite inputs. -/
module

public import proofs.«01_k».proof.Defs
public import proofs.«01_k».proof.Proof.Gen.LnKernel.Frame
public import proofs.«01_k».proof.Proof.Gen.LnKernelIdeal.Frame
public import proofs.«01_k».proof.Proof.Gen.LnReferenceIdeal.Run
public import proofs.«01_k».proof.Proof.Gen.LnReferenceIdeal.Read
public import proofs.«01_k».proof.Proof.Gen.Pre_ln_finite
public import proofs.«01_k».proof.Proof.LnValue
public import proofs.«01_k».proof.Proof.Reals
public import Idealize.ShloMosaic.Lib.Claim

@[expose] public section

set_option maxRecDepth 16384

noncomputable section

open Idealize.ShloMosaic Idealize.ShloMosaic.TcCoe Idealize.SL.Sem

namespace Cert.LnMath

section

open Cert.LnReferenceIdeal Cert.LnReferenceIdeal.Read

/-- What the precondition says of the arrays it reads. -/
theorem of_finite (z : FVec Ideal S4096x2048 .f32) (g b : FVec Ideal S2048 .f32) (d : FVec Ideal S4096x2048 .bf16)
    (h : Cert.Pre_ln_finite.fn (F := Ideal) z g b d = fun _ => 1#1) :
    (∃ r : S4096x2048.Idx → ℝ, z = fun i => (r i : EReal)) ∧ (∃ r : S2048.Idx → ℝ, g = fun i => (r i : EReal))
    ∧ (∃ r : S2048.Idx → ℝ, b = fun i => (r i : EReal)) ∧ (∃ r : S4096x2048.Idx → ℝ, d = fun i => (r i : EReal)) := by
  have e := congrFun h (fun a => a.elim0)
  simp only [Cert.Pre_ln_finite.fn, Cert.Pre_ln_finite.fn_part1] at e
  obtain ⟨e1, e2⟩ := Cert.Reals.of_andi e
  obtain ⟨hx, hg⟩ := Cert.Reals.of_andi e1
  obtain ⟨hs, hd⟩ := Cert.Reals.of_andi e2
  exact ⟨Cert.Reals.finite_of_all z _ _ _ _ _ hx, Cert.Reals.finite_of_all g _ _ _ _ _ hg,
    Cert.Reals.finite_of_all b _ _ _ _ _ hs, Cert.Reals.finite_of_all (extf .f32 d _) _ _ _ _ _ hd⟩

/-! The norm's quantities over the reals. -/

def cenR (z : S4096x2048.Idx → ℝ) (i : Fin 4096) (j : Fin 2048) : ℝ := z (ix2 i j) - (∑ k : Fin 2048, z (ix2 i k)) / 2048

def varR (z : S4096x2048.Idx → ℝ) (i : Fin 4096) : ℝ := (∑ k : Fin 2048, cenR z i k * cenR z i k) / 2048 + 8796093 / 2 ^ 43

def rsR (z : S4096x2048.Idx → ℝ) (i : Fin 4096) : ℝ := (Real.sqrt (varR z i))⁻¹

def sigR (x : ℝ) : ℝ := 1 / (1 + Real.exp (-x))

def preR (z : S4096x2048.Idx → ℝ) (g b : S2048.Idx → ℝ) (i : Fin 4096) (j : Fin 2048) : ℝ :=
  cenR z i j * rsR z i * g (ix1 j) + b (ix1 j)

def actR (z : S4096x2048.Idx → ℝ) (g b : S2048.Idx → ℝ) (d : S4096x2048.Idx → ℝ) (i : Fin 4096) (j : Fin 2048) : ℝ :=
  d (ix2 i j) * sigR (preR z g b i j) * (1 + preR z g b i j * (1 - sigR (preR z g b i j)))

theorem varR_pos (z : S4096x2048.Idx → ℝ) (i : Fin 4096) : 0 < varR z i := by
  have : 0 ≤ ∑ k : Fin 2048, cenR z i k * cenR z i k := Finset.sum_nonneg fun k _ => mul_self_nonneg _
  unfold varR; positivity

theorem mean_coe (f : Fin 2048 → ℝ) : mean (fun k => (f k : EReal)) = (((∑ k : Fin 2048, f k) / 2048 : ℝ) : EReal) := by
  unfold mean
  rw [← Cert.Reals.coe_sum, Cert.Reals.ofBits_2048, Cert.Reals.div_coe_coe _ (by norm_num)]

theorem sig_coe (x : ℝ) : Ideal.div 1 (1 + Ideal.exp (x : EReal)) = ((1 / (1 + Real.exp x) : ℝ) : EReal) := by
  rw [Cert.Reals.exp_coe, ← EReal.coe_one, ← EReal.coe_add, Cert.Reals.div_coe_coe _ (by positivity)]

variable (z : S4096x2048.Idx → ℝ) (g b : S2048.Idx → ℝ) (d : S4096x2048.Idx → ℝ) (i : Fin 4096) (j : Fin 2048)

theorem cen_coe : cen (fun i => (z i : EReal)) i j = ((cenR z i j : ℝ) : EReal) := by
  unfold cen; rw [mean_coe, ← EReal.coe_sub]; rfl

theorem rs_coe : rs (fun i => (z i : EReal)) i = ((rsR z i : ℝ) : EReal) := by
  unfold rs
  simp only [cen_coe, ← EReal.coe_mul]
  rw [mean_coe, Cert.Reals.ofBits_eps, ← EReal.coe_add]
  exact Cert.Reals.rsqrt_coe (varR_pos z i)

theorem pre_coe : pre (fun i => (z i : EReal)) (fun i => (g i : EReal)) (fun i => (b i : EReal)) i j = ((preR z g b i j : ℝ) : EReal) := by
  unfold pre
  simp only [cen_coe, rs_coe, ← EReal.coe_mul, ← EReal.coe_add]; rfl

theorem sig'_coe (x : ℝ) : sig' (x : EReal) = ((sigR x : ℝ) : EReal) := by
  unfold sig'
  rw [← EReal.coe_zero, ← EReal.coe_sub, sig_coe, zero_sub]; rfl

theorem act_coe : act (fun i => (z i : EReal)) (fun i => (g i : EReal)) (fun i => (b i : EReal)) (fun i => (d i : EReal)) i j
    = ((actR z g b d i j : ℝ) : EReal) := by
  unfold act
  simp only [pre_coe, sig'_coe, ← EReal.coe_one, ← EReal.coe_mul, ← EReal.coe_add, ← EReal.coe_sub]; rfl

/-! What the reference's arrays hold, over the reals. -/

theorem reference_cen : val_main_v14 (F := Ideal) (fun i => (z i : EReal)) (ix2 i j) = ((cenR z i j : ℝ) : EReal) := by
  pointwise [val_main_v14, val_main_v13, val_main_v3, val_main_v1, val_main_v0, val_main_cst, val_main_v2, val_main_cst_0]
  exact cen_coe z i j

theorem reference_cen' : val_main_v5 (F := Ideal) (fun i => (z i : EReal)) (ix2 i j) = ((cenR z i j : ℝ) : EReal) := by
  pointwise [val_main_v5, val_main_v4, val_main_v3, val_main_v1, val_main_v0, val_main_cst, val_main_v2, val_main_cst_0]
  exact cen_coe z i j

theorem reference_var : val_main_v16 (F := Ideal) (fun i => (z i : EReal)) (ix2 i 0) = ((varR z i : ℝ) : EReal) := by
  pointwise [val_main_v16, val_main_v12, val_main_v15, val_main_v10, val_main_v9, val_main_v6, val_main_cst_2, val_main_v11, val_main_cst_3, val_main_cst_4]
  simp only [ix2_0, ix2_1, reference_cen', ← EReal.coe_mul, ← Cert.Reals.coe_sum, Cert.Reals.ofBits_2048, Cert.Reals.ofBits_eps,
    Cert.Reals.div_coe_coe _ (show (2048 : ℝ) ≠ 0 by norm_num), ← EReal.coe_add]
  rfl

theorem reference_rs : val_main_v17 (F := Ideal) (fun i => (z i : EReal)) (ix2 i 0) = ((rsR z i : ℝ) : EReal) := by
  pointwise [val_main_v17]
  simp only [ix2_0, ix2_1, reference_var, Cert.Reals.rsqrt_coe (varR_pos _ _)]
  rfl

theorem reference_norm : val_main_v22 (F := Ideal) (fun i => (z i : EReal)) (ix2 i j) = ((cenR z i j * rsR z i : ℝ) : EReal) := by
  pointwise [val_main_v22, val_main_v21]
  simp only [ix2_0, ix2_1, reference_cen, reference_rs, ← EReal.coe_mul]

theorem reference_pre : val_main_v28 (F := Ideal) (fun i => (z i : EReal)) (fun i => (g i : EReal)) (fun i => (b i : EReal)) (ix2 i j)
    = ((preR z g b i j : ℝ) : EReal) := by
  pointwise [val_main_v28, val_main_v25, val_main_v24, val_main_v23, val_main_v27, val_main_v26]
  simp only [ix2_0, ix2_1, reference_norm, ← EReal.coe_mul, ← EReal.coe_add]
  rfl

theorem reference_sig : val_main_v29_2 (F := Ideal) (fun i => (z i : EReal)) (fun i => (g i : EReal)) (fun i => (b i : EReal)) (ix2 i j)
    = ((sigR (preR z g b i j) : ℝ) : EReal) := by
  pointwise [val_main_v29_2, val_main_call0_v4, val_main_call0_cst_0, val_main_call0_v3, val_main_call0_v2, val_main_call0_cst,
    val_main_call0_v1, val_main_call0_v0]
  simp only [ix2_0, ix2_1, reference_pre, ← EReal.coe_neg, sig_coe]
  rfl

theorem reference_act : val_main_v31 (F := Ideal) (fun i => (z i : EReal)) (fun i => (g i : EReal)) (fun i => (b i : EReal))
    (fun i => (d i : EReal)) (ix2 i j) = ((actR z g b d i j : ℝ) : EReal) := by
  pointwise [val_main_v31, val_main_call1_v1, val_main_v30, val_main_call1_v2, val_main_call1_v0, val_main_v29_1, val_main_call0_v7,
    val_main_call0_v6, val_main_call0_cst_1]
  simp only [ix2_0, ix2_1, reference_pre, reference_sig, ← EReal.coe_one, ← EReal.coe_mul, ← EReal.coe_add, ← EReal.coe_sub]
  refine congrArg _ ?_
  unfold actR; ring

theorem reference_bias : val_main_v34 (F := Ideal) (fun i => (z i : EReal)) (fun i => (g i : EReal)) (fun i => (b i : EReal))
    (fun i => (d i : EReal)) (ix1 j)
    = bias (fun i => (z i : EReal)) (fun i => (g i : EReal)) (fun i => (b i : EReal)) (fun i => (d i : EReal)) (ix2 0 j) := by
  pointwise [val_main_v34, val_main_v33, val_main_v32, val_main_cst_6, val_main_cst_7]
  refine (Fin.sum_univ_one _).trans ?_
  unfold bias
  simp only [reference_act, act_coe, ix2_1]

theorem reference_gain : val_main_v40 (F := Ideal) (fun i => (z i : EReal)) (fun i => (g i : EReal)) (fun i => (b i : EReal))
    (fun i => (d i : EReal)) (ix1 j)
    = gain (fun i => (z i : EReal)) (fun i => (g i : EReal)) (fun i => (b i : EReal)) (fun i => (d i : EReal)) (ix2 0 j) := by
  pointwise [val_main_v40, val_main_v37, val_main_v36, val_main_v35, val_main_cst_8, val_main_cst_9]
  refine (Fin.sum_univ_one _).trans ?_
  unfold gain
  simp only [reference_act, reference_norm, act_coe, cen_coe, rs_coe, ix2_1, ← EReal.coe_mul]
  exact Finset.sum_congr rfl fun k _ => congrArg _ (mul_comm _ _)

/-- A row's elements less their mean sum to zero. -/
theorem sum_cen : ∑ k : Fin 2048, cenR z i k = 0 := by
  unfold cenR
  rw [Finset.sum_sub_distrib, Finset.sum_const, Finset.card_univ, Fintype.card_fin, nsmul_eq_mul]
  push_cast
  ring

/-- The algebra of the input's gradient. `c` are the row's elements less their mean, which sum to zero; `r` is one over
    the root of `v`. -/
theorem input_algebra (c e : Fin 2048 → ℝ) (v r : ℝ) (hv : 0 < v) (hr : r = (Real.sqrt v)⁻¹) (hc : ∑ k, c k = 0) (j : Fin 2048) :
    e j * r + (∑ k, c k * e k) * (-1 / 2 * (r / v)) / 2048 * (2 * c j)
        + ((∑ k, -(e k * r)) + ∑ k, -((∑ k, c k * e k) * (-1 / 2 * (r / v)) / 2048 * (2 * c k))) / 2048
      = r * (e j - (∑ k, e k) / 2048 - c j * r * ((∑ k, e k * (c k * r)) / 2048)) := by
  have h : r / v = r * (r * r) := by
    rw [hr, ← mul_inv, Real.mul_self_sqrt hv.le]; rfl
  have e1 : ∑ k, -(e k * r) = -((∑ k, e k) * r) := by rw [Finset.sum_neg_distrib, Finset.sum_mul]
  have e2 : ∑ k, e k * (c k * r) = (∑ k, c k * e k) * r := by
    rw [Finset.sum_mul]; exact Finset.sum_congr rfl fun k _ => by ring
  generalize (∑ k, c k * e k) = S at *
  have e3 : ∑ k, -(S * (-1 / 2 * (r / v)) / 2048 * (2 * c k)) = 0 := by
    rw [Finset.sum_neg_distrib, ← Finset.mul_sum, ← Finset.mul_sum, hc]; ring
  rw [e1, e2, e3, h]; ring

theorem reference_input : val_main_v65 (F := Ideal) (fun i => (z i : EReal)) (fun i => (g i : EReal)) (fun i => (b i : EReal))
    (fun i => (d i : EReal)) (ix2 i j)
    = input (fun i => (z i : EReal)) (fun i => (g i : EReal)) (fun i => (b i : EReal)) (fun i => (d i : EReal)) (ix2 i j) := by
  pointwise [val_main_v65, val_main_v64, val_main_v58, val_main_v45, val_main_v44, val_main_v39, val_main_v38, val_main_v23,
    val_main_v54, val_main_v53, val_main_v52, val_main_v51, val_main_v46, val_main_v43, val_main_v42, val_main_v41, val_main_cst_10,
    val_main_v20, val_main_v19, val_main_cst_5, val_main_v18, val_main_v50, val_main_cst_12, val_main_cst_13, val_main_v8, val_main_v7,
    val_main_cst_1, val_main_v63, val_main_v62, val_main_v61, val_main_v59, val_main_v49, val_main_v48, val_main_v47, val_main_cst_11,
    val_main_v57, val_main_v56, val_main_v55, val_main_cst_14, val_main_v60, val_main_cst_15, val_main_cst_16]
  unfold input
  simp only [Fin.sum_univ_one, ix2_0, ix2_1, reference_cen, reference_cen', reference_rs, reference_var, reference_act, act_coe, cen_coe, rs_coe]
  simp only [Cert.Reals.ofBits_2048, Cert.Reals.ofBits_neg_half, Cert.Reals.ofBits_two,
    Cert.Reals.div_coe_coe _ (varR_pos _ _).ne', Cert.Reals.div_coe_coe _ (show (2048 : ℝ) ≠ 0 by norm_num),
    ← EReal.coe_add, ← EReal.coe_mul, ← EReal.coe_sub, ← EReal.coe_neg, ← Cert.Reals.coe_sum, mean_coe]
  exact congrArg _ (input_algebra (cenR z i) (fun k => actR z g b d i k * g (ix1 k)) (varR z i) (rsR z i) (varR_pos z i) rfl (sum_cen z i) j)

end

section

open Cert.LnKernelIdeal Cert.LnKernelIdeal.Gen

variable (m : (ℓ : Loc nD τ sig) → Buf (Elt Ideal) ℓ)

/-- A row of column sums as a vector. -/
def flat (v : FVec Ideal S1x2048 .f32) : FVec Ideal S2048 .f32 := fun j => v (ix2 0 (j 0))

theorem gain_result (c : Dev nD) : Pipeline.afterTail₀ cfgs (dats m) 0 (V0 m) [hostOps1] c main_v3
    = flat (gain (m ((c : Thread nD τ).loc main_arg0)) (m ((c : Thread nD τ).loc main_arg1)) (m ((c : Thread nD τ).loc main_arg2))
        (m ((c : Thread nD τ).loc main_arg3))) := by
  funext j
  unfold Pipeline.afterTail₀
  simp only [List.flatten_cons, List.flatten_nil, List.append_nil]
  entry_read
  rw [show Pipeline.withArrays (cfgs 0).spec c (V0 m c) (fun w => (dats m 0 c).arrAt w (cfgs 0).N) (Proc.tc.devRef main_v2_1)
      = (dats m 0 c).arrAt 5 (cfgs 0).N
    from Pipeline.withArrays_arr spec0 (by decide) c (V0 m c) (fun w => (dats m 0 c).arrAt w (cfgs 0).N) 5, gain_final]
  pointwise [flat]

theorem bias_result (c : Dev nD) : Pipeline.afterTail₀ cfgs (dats m) 0 (V0 m) [hostOps1] c main_v4
    = flat (bias (m ((c : Thread nD τ).loc main_arg0)) (m ((c : Thread nD τ).loc main_arg1)) (m ((c : Thread nD τ).loc main_arg2))
        (m ((c : Thread nD τ).loc main_arg3))) := by
  funext j
  unfold Pipeline.afterTail₀
  simp only [List.flatten_cons, List.flatten_nil, List.append_nil]
  entry_read
  rw [show Pipeline.withArrays (cfgs 0).spec c (V0 m c) (fun w => (dats m 0 c).arrAt w (cfgs 0).N) (Proc.tc.devRef main_v2_2)
      = (dats m 0 c).arrAt 6 (cfgs 0).N
    from Pipeline.withArrays_arr spec0 (by decide) c (V0 m c) (fun w => (dats m 0 c).arrAt w (cfgs 0).N) 6, bias_final]
  pointwise [flat]

end

theorem frame_reference : Cert.quiescent_LnReferenceIdeal := fun m ρ _ =>
  (θ_run Cert.LnReferenceIdeal.defs _ _).mono
    (fun r h => ⟨fun c => (h c).2.2.2, sem_eq_zero_of_no_sems (by decide) r.2⟩) (Cert.LnReferenceIdeal.Value.run m ρ)

section

open Cert.LnReferenceIdeal Cert.LnReferenceIdeal.Read

variable {z : FVec Ideal S4096x2048 .f32} {g b : FVec Ideal S2048 .f32} {d : FVec Ideal S4096x2048 .bf16}
  (h : Cert.Pre_ln_finite.fn (F := Ideal) z g b d = fun _ => 1#1)

include h

theorem input_eq : val_main_v65 (F := Ideal) z g b d = input z g b d := by
  obtain ⟨⟨z, rfl⟩, ⟨g, rfl⟩, ⟨b, rfl⟩, ⟨d, rfl⟩⟩ := of_finite z g b d h
  funext j
  rw [eq_ix2 j]
  exact reference_input z g b d (j 0) (j 1)

theorem gain_eq : val_main_v40 (F := Ideal) z g b d = flat (gain z g b d) := by
  obtain ⟨⟨z, rfl⟩, ⟨g, rfl⟩, ⟨b, rfl⟩, ⟨d, rfl⟩⟩ := of_finite z g b d h
  funext j
  rw [eq_ix1 j]
  exact reference_gain z g b d (j 0)

theorem bias_eq : val_main_v34 (F := Ideal) z g b d = flat (bias z g b d) := by
  obtain ⟨⟨z, rfl⟩, ⟨g, rfl⟩, ⟨b, rfl⟩, ⟨d, rfl⟩⟩ := of_finite z g b d h
  funext j
  rw [eq_ix1 j]
  exact reference_bias z g b d (j 0)

end

theorem value : Cert.algebraic_LnKernelIdeal_LnReferenceIdeal_pre_ln_finite := by
  pair_intro
  · run_from Cert.LnKernelIdeal.Gen.run_main m g & Cert.LnKernelIdeal.Gen.unchanged m g
  · run_from Cert.LnReferenceIdeal.Value.run m' g'
    · refine (Cert.LnReferenceIdeal.Read.val_main_v65_eq m' c).trans ?_
      obtain ⟨a0, a1, a2, a3⟩ := hagree c
      rw [a0, a1, a2, a3]
      exact (input_eq (hpre c)).trans (input_final m c).symm
    · refine (Cert.LnReferenceIdeal.Read.val_main_v40_eq m' c).trans ?_
      obtain ⟨a0, a1, a2, a3⟩ := hagree c
      rw [a0, a1, a2, a3]
      exact (gain_eq (hpre c)).trans (gain_result m c).symm
    · refine (Cert.LnReferenceIdeal.Read.val_main_v34_eq m' c).trans ?_
      obtain ⟨a0, a1, a2, a3⟩ := hagree c
      rw [a0, a1, a2, a3]
      exact (bias_eq (hpre c)).trans (bias_result m c).symm

end Cert.LnMath

end
-- ==== Proof.NaOff.lean ====
/- Where the attention kernels read and write their window of rows and their tiles of the bias, from a grid point's row. -/
module

public import proofs.«01_k».proof.Proof.Gen.NaKernelIdeal.Launch
public import proofs.«01_k».proof.Proof.Gen.NaKernelIdeal.Skeleton
public import proofs.«01_k».proof.Proof.Gen.NaKernelIdeal.Points
public import Idealize.ShloMosaic.Lib.Tactic

@[expose] public section

noncomputable section

namespace Cert.NaKernelIdeal.NaOff

open Idealize.ShloMosaic Idealize.ShloMosaic.TcCoe Idealize.ShloMosaic.Tactic
open Cert.NaKernelIdeal Cert.NaKernelIdeal.Gen

/-- The gradient body's branch: the point opens a column of the grid. -/
abbrev cond1 (i : grid1.Coords) : Prop :=
  Scalar.cmpi .ne (Scalar.extui (Scalar.cmpi .eq (BitVec.ofNat 32 (i 1).val) 0#32) : BitVec 32) 0#32 = 1#1

/-- The first row of the image's window at row `r`. -/
abbrev st (r : ℕ) : ℕ := min 56 (r - 4)

def stW (r : ℕ) : BitVec 32 := Scalar.minsi 56#32 (Scalar.maxsi 0#32 (Scalar.subi (BitVec.ofNat 32 r) 4#32))

theorem row_eq : ∀ r : Fin 64, (Scalar.muli (stW r.val) 64#32).toNat = 64 * st r.val := by decide +kernel

theorem tile_eq : ∀ r : Fin 64, ∀ n : Fin 7,
    (Scalar.addi (Scalar.subi 7#32 (Scalar.subi (BitVec.ofNat 32 r.val) (stW r.val))) (BitVec.ofNat 32 n.val)).toNat = 7 + st r.val + n.val - r.val := by
  decide +kernel

theorem lt1 (i : grid1.Coords) : (i 1).val < 64 := (i 1).isLt
theorem lt0 (i : grid0.Coords) : (i 1).val < 64 := (i 1).isLt

theorem k1_off1_eq (i : grid1.Coords) : k1_off1 i = ![64 * st (i 1).val, 0] :=
  congrArg (fun n => ![n, 0]) (row_eq ⟨(i 1).val, lt1 i⟩)
theorem k1_off3_eq (i : grid1.Coords) : k1_off3 i = ![64 * st (i 1).val, 128] :=
  congrArg (fun n => ![n, 128]) (row_eq ⟨(i 1).val, lt1 i⟩)
theorem k1_off2_eq (i : grid1.Coords) (n : Fin 7) : k1_off2 i (BitVec.ofNat 32 n.val) = ![0, 7 + st (i 1).val + n.val - (i 1).val, 0, 0] :=
  congrArg (fun k => ![0, k, 0, 0]) (tile_eq ⟨(i 1).val, lt1 i⟩ n)
theorem k1_off4_eq (i : grid1.Coords) (n : Fin 7) : k1_off4 i (BitVec.ofNat 32 n.val) = ![1, 7 + st (i 1).val + n.val - (i 1).val, 0, 0] :=
  congrArg (fun k => ![1, k, 0, 0]) (tile_eq ⟨(i 1).val, lt1 i⟩ n)

instance (i : grid1.Coords) : ClosedOff (k1_off1 i) := ⟨_, k1_off1_eq i⟩
instance (i : grid1.Coords) : ClosedOff (k1_off3 i) := ⟨_, k1_off3_eq i⟩
instance (i : grid1.Coords) : ClosedOff (k1_off2 i 0#32) := ⟨![0, 7 + st (i 1).val + 0 - (i 1).val, 0, 0], k1_off2_eq i 0⟩
instance (i : grid1.Coords) : ClosedOff (k1_off2 i 2#32) := ⟨![0, 7 + st (i 1).val + 2 - (i 1).val, 0, 0], k1_off2_eq i 2⟩
instance (i : grid1.Coords) : ClosedOff (k1_off2 i 4#32) := ⟨![0, 7 + st (i 1).val + 4 - (i 1).val, 0, 0], k1_off2_eq i 4⟩
instance (i : grid1.Coords) : ClosedOff (k1_off2 i 6#32) := ⟨![0, 7 + st (i 1).val + 6 - (i 1).val, 0, 0], k1_off2_eq i 6⟩
instance (i : grid1.Coords) : ClosedOff (k1_off4 i 0#32) := ⟨![1, 7 + st (i 1).val + 0 - (i 1).val, 0, 0], k1_off4_eq i 0⟩
instance (i : grid1.Coords) : ClosedOff (k1_off4 i 2#32) := ⟨![1, 7 + st (i 1).val + 2 - (i 1).val, 0, 0], k1_off4_eq i 2⟩
instance (i : grid1.Coords) : ClosedOff (k1_off4 i 4#32) := ⟨![1, 7 + st (i 1).val + 4 - (i 1).val, 0, 0], k1_off4_eq i 4⟩
instance (i : grid1.Coords) : ClosedOff (k1_off4 i 6#32) := ⟨![1, 7 + st (i 1).val + 6 - (i 1).val, 0, 0], k1_off4_eq i 6⟩

end Cert.NaKernelIdeal.NaOff

end

end
-- ==== Proof.NaBodyF.lean ====
/- What one grid point of the attention's forward call does to its blocks. -/
module

public import proofs.«01_k».proof.Proof.Gen.NaKernelIdeal.Launch
public import proofs.«01_k».proof.Proof.Gen.NaKernelIdeal.Skeleton
public import proofs.«01_k».proof.Proof.Gen.NaKernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.NaOff

@[expose] public section

set_option maxRecDepth 16384

noncomputable section

namespace Cert.NaKernelIdeal.NaBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.NaKernelIdeal Cert.NaKernelIdeal.Gen Cert.NaKernelIdeal.NaOff

variable {F : FTy → Type} [FloatOps F]

local notation "𝕄" => MT nD τ sig Unit (Elt F) ℕ (UR sig nD τ) ℕ

set_option maxHeartbeats 8000000 in
/-- What the forward body leaves: the blocks read as they were, the two blocks written with their stores. -/
noncomputable def fwdRun (c : Dev nD) (i : grid0.Coords) (arg2 : Memref sig .tc .vmem S64x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2x14x64x128 .f32) (harg7 : arg7.IsWhole) (arg8 : Memref sig .tc .vmem S64x256 .bf16) (harg8 : arg8.IsWhole) (arg9 : Memref sig .tc .vmem S2x64x1 .f32) (harg9 : arg9.IsWhole)
    (x0 : Vec F S64x256 .bf16) (x1 : Vec F S4096x256 .bf16) (x2 : Vec F S4096x256 .bf16) (x3 : Vec F S256x256 .bf16) (x4 : Vec F S256x256 .bf16) (x5 : Vec F S2x14x64x128 .f32) :
    Σ' (L6 : List (View.Piece (Elt F) S64x256 .bf16)), { L7 : List (View.Piece (Elt F) S2x64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_na_fwd i arg2 harg2 arg3 harg3 arg4 harg4 arg5 harg5 arg6 harg6 arg7 harg7 arg8 harg8 arg9 harg9) K } := by
  refine ⟨?_, ?_, fun E K => ?run⟩
  case run =>
    simp only [cc0_na_fwd_eq_skeleton]; unfold cc0_na_fwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

end Cert.NaKernelIdeal.NaBody

end

end
-- ==== Proof.NaBodyA.lean ====
/- What one grid point of the attention gradient's call does to its blocks. -/
module

public import proofs.«01_k».proof.Proof.Gen.NaKernelIdeal.Launch
public import proofs.«01_k».proof.Proof.Gen.NaKernelIdeal.Skeleton
public import proofs.«01_k».proof.Proof.Gen.NaKernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.NaOff

@[expose] public section

set_option maxRecDepth 16384

noncomputable section

namespace Cert.NaKernelIdeal.NaBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.NaKernelIdeal Cert.NaKernelIdeal.Gen Cert.NaKernelIdeal.NaOff

variable {F : FTy → Type} [FloatOps F]

local notation "𝕄" => MT nD τ sig Unit (Elt F) ℕ (UR sig nD τ) ℕ

set_option maxHeartbeats 64000000 in
/-- What the body leaves at a point that opens a column (the accumulators are filled with zeros first): the blocks read are as they were, each block written has its stores. -/
noncomputable def bwdRunA (c : Dev nD) (i : grid1.Coords) (arg2 : Memref sig .tc .vmem S64x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2x14x64x128 .f32) (harg7 : arg7.IsWhole) (arg8 : Memref sig .tc .vmem S64x256 .bf16) (harg8 : arg8.IsWhole) (arg9 : Memref sig .tc .vmem S2x64x1 .f32) (harg9 : arg9.IsWhole) (arg10 : Memref sig .tc .vmem S64x256 .bf16) (harg10 : arg10.IsWhole) (arg11 : Memref sig .tc .vmem S64x256 .bf16) (harg11 : arg11.IsWhole) (arg12 : Memref sig .tc .vmem S4096x256 .f32) (harg12 : arg12.IsWhole) (arg13 : Memref sig .tc .vmem S4096x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S2x14x64x128 .f32) (harg16 : arg16.IsWhole) (hc : cond1 i)
    (x0 : Vec F S64x256 .bf16) (x1 : Vec F S4096x256 .bf16) (x2 : Vec F S4096x256 .bf16) (x3 : Vec F S256x256 .bf16) (x4 : Vec F S256x256 .bf16) (x5 : Vec F S2x14x64x128 .f32) (x6 : Vec F S64x256 .bf16) (x7 : Vec F S2x64x1 .f32) (x8 : Vec F S64x256 .bf16) :
    Σ' (L9 : List (View.Piece (Elt F) S64x256 .bf16)), Σ' (L10 : List (View.Piece (Elt F) S4096x256 .f32)), Σ' (L11 : List (View.Piece (Elt F) S4096x256 .f32)), Σ' (L12 : List (View.Piece (Elt F) S256x256 .f32)), Σ' (L13 : List (View.Piece (Elt F) S256x256 .f32)), { L14 : List (View.Piece (Elt F) S2x14x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc1_na_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc1_na_bwd_eq_skeleton]; unfold cc1_na_bwd_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.NaKernelIdeal.NaBody

end

end
-- ==== Proof.NaBodyB.lean ====
/- What one grid point of the attention gradient's call does to its blocks. -/
module

public import proofs.«01_k».proof.Proof.Gen.NaKernelIdeal.Launch
public import proofs.«01_k».proof.Proof.Gen.NaKernelIdeal.Skeleton
public import proofs.«01_k».proof.Proof.Gen.NaKernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.NaOff

@[expose] public section

set_option maxRecDepth 16384

noncomputable section

namespace Cert.NaKernelIdeal.NaBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.NaKernelIdeal Cert.NaKernelIdeal.Gen Cert.NaKernelIdeal.NaOff

variable {F : FTy → Type} [FloatOps F]

local notation "𝕄" => MT nD τ sig Unit (Elt F) ℕ (UR sig nD τ) ℕ

set_option maxHeartbeats 64000000 in
/-- What the body leaves at a point after the first of its column: the blocks read are as they were, each block written has its stores. -/
noncomputable def bwdRunB (c : Dev nD) (i : grid1.Coords) (arg2 : Memref sig .tc .vmem S64x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2x14x64x128 .f32) (harg7 : arg7.IsWhole) (arg8 : Memref sig .tc .vmem S64x256 .bf16) (harg8 : arg8.IsWhole) (arg9 : Memref sig .tc .vmem S2x64x1 .f32) (harg9 : arg9.IsWhole) (arg10 : Memref sig .tc .vmem S64x256 .bf16) (harg10 : arg10.IsWhole) (arg11 : Memref sig .tc .vmem S64x256 .bf16) (harg11 : arg11.IsWhole) (arg12 : Memref sig .tc .vmem S4096x256 .f32) (harg12 : arg12.IsWhole) (arg13 : Memref sig .tc .vmem S4096x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S2x14x64x128 .f32) (harg16 : arg16.IsWhole) (hc : ¬ cond1 i)
    (x0 : Vec F S64x256 .bf16) (x1 : Vec F S4096x256 .bf16) (x2 : Vec F S4096x256 .bf16) (x3 : Vec F S256x256 .bf16) (x4 : Vec F S256x256 .bf16) (x5 : Vec F S2x14x64x128 .f32) (x6 : Vec F S64x256 .bf16) (x7 : Vec F S2x64x1 .f32) (x8 : Vec F S64x256 .bf16) (y10 : Vec F S4096x256 .f32) (y11 : Vec F S4096x256 .f32) (y12 : Vec F S256x256 .f32) (y13 : Vec F S256x256 .f32) (y14 : Vec F S2x14x64x128 .f32) :
    Σ' (L9 : List (View.Piece (Elt F) S64x256 .bf16)), Σ' (L10 : List (View.Piece (Elt F) S4096x256 .f32)), Σ' (L11 : List (View.Piece (Elt F) S4096x256 .f32)), Σ' (L12 : List (View.Piece (Elt F) S256x256 .f32)), Σ' (L13 : List (View.Piece (Elt F) S256x256 .f32)), { L14 : List (View.Piece (Elt F) S2x14x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare y14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread y10) L10) ∗ (arg13.view.loc (c : Thread nD τ) ↦[arg13.view.set]{fullShare} arg13.view.writes (Elt F) (harg13.unread y11) L11) ∗ (arg14.view.loc (c : Thread nD τ) ↦[arg14.view.set]{fullShare} arg14.view.writes (Elt F) (harg14.unread y12) L12) ∗ (arg15.view.loc (c : Thread nD τ) ↦[arg15.view.set]{fullShare} arg15.view.writes (Elt F) (harg15.unread y13) L13) ∗ (arg16.view.loc (c : Thread nD τ) ↦[arg16.view.set]{fullShare} arg16.view.writes (Elt F) (harg16.unread y14) L14)) -∗ K ⟨⟩))
          ⊢ wp frame (wpE (defs₀ (F := F)) Variants.none c none) E (cc1_na_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc1_na_bwd_eq_skeleton]; unfold cc1_na_bwd_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11; obtain rfl := harg14.eq_unread hf12; obtain rfl := harg15.eq_unread hf13; obtain rfl := harg16.eq_unread hf14
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexact H10
    isplitl [H11]; · iexact H11
    isplitl [H12]; · iexact H12
    isplitl [H13]; · iexact H13
    iexact H14

end Cert.NaKernelIdeal.NaBody

end

end
-- ==== Proof.NaRegion.lean ====
/- The two attention calls as pipelines: what each point's blocks hold, and that the bodies keep to it. -/
module

public import proofs.«01_k».proof.Proof.Gen.NaKernelIdeal.Launch
public import proofs.«01_k».proof.Proof.Gen.NaKernelIdeal.Skeleton
public import proofs.«01_k».proof.Proof.Gen.NaKernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.NaBodyF
public import proofs.«01_k».proof.Proof.NaBodyA
public import proofs.«01_k».proof.Proof.NaBodyB

@[expose] public section

set_option maxRecDepth 16384

noncomputable section

namespace Cert.NaKernelIdeal.NaRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.NaKernelIdeal Cert.NaKernelIdeal.Gen Cert.NaKernelIdeal.NaOff Cert.NaKernelIdeal.NaBody
open Idealize.ShloMosaic.Pipeline (Dat Cfg Window BodyObligation cellOf)

variable {F : FTy → Type} [FloatOps F]

local notation "𝕄" => MT nD τ sig Unit (Elt F) ℕ (UR sig nD τ) ℕ

section Calls

-- what the device's arrays hold when a call is entered
variable (V : (c : Dev nD) → (b : Ref sig .tc) → Buf (Elt F) ((c : Thread nD τ).loc b))

/-- The block of window `w` at point `t` of call 0, in the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S64x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x14x64x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x64x1 .f32 := win0_7.stage (cfg0.slots t 7)
abbrev hs0_7 (t : Fin cfg0.N) : (ms0_7 t).IsWhole := hstage0_7 ((cfg0.slots t 7).cast nbuf0_7)

/-- The forward body's stores at point `t`. -/
def ptF (c : Dev nD) (t : Fin cfg0.N) := fwdRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) (iblk0 V c 5 t)

theorem coverF_6 (c : Dev nD) (t : Fin cfg0.N) (y : S64x256.Idx) : ∃ pc ∈ (ptF V c t).1, y ∈ pc.1.set :=
  View.cover_of_tiledL (ptF V c t).1 S64x128.size (by sl_kernel_rfl) y
theorem coverF_7 (c : Dev nD) (t : Fin cfg0.N) (y : S2x64x1.Idx) : ∃ pc ∈ (ptF V c t).2.1, y ∈ pc.1.set :=
  View.cover_of_tiledL (ptF V c t).2.1 S1x64x1.size (by sl_kernel_rfl) y

/-- What the forward body leaves in its two blocks at point `t`: its stores read back. -/
def left0 (c : Dev nD) (t : Fin cfg0.N) : Vec F S64x256 .bf16 × Vec F S2x64x1 .f32 :=
  ((ms0_6 t).view.read (Elt F) ((ms0_6 t).view.writes (Elt F) (ms0_6 t).view.junk (ptF V c t).1),
   (ms0_7 t).view.read (Elt F) ((ms0_7 t).view.writes (Elt F) (ms0_7 t).view.junk (ptF V c t).2.1))

/-- The proof data of call 0: its arrays as found, each block read left as it is, each block written as `left0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (left0 V c t).1
    | ⟨7, _⟩ => (left0 V c t).2
  Φ _ := Pipeline.ΦA spec0 c
  q w := Pipeline.shareOf spec0 w
  owed _ := 0

theorem A_eq0 (c : Dev nD) (w : Fin cfg0.W) : (dat0 V c).A w = V c (Pipeline.arrRef spec0 w) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (left0 V c t).1 := by dsimp only [dat0]
theorem after0_7 (c : Dev nD) (t : Fin cfg0.N) : (dat0 V c).after 7 t = (left0 V c t).2 := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)

/-- What the body of call 0 is given at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 8000000 in
theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold left0; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((ptF V c t).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (coverF_6 V c t)
  unfold owns; iexists _; isplitr
  swap; · iexact H7
  ipureintro; exact View.read_writes_of_cover _ _ _ _ _ (coverF_7 V c t)

theorem row0 (t : Fin cfg0.N) : defs₀ (F := F) .tc cfg0.body (cfg0.bodyArgs t (cfg0.slots t)) = bodyAt0 t := by
  unfold defs₀; rw [Defs.onTc_tc]

theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

/-- The block of window `w` at point `t` of call 1, in the array the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S64x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x14x64x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2x64x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x256 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64x256 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S4096x256 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S4096x256 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S256x256 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S256x256 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S2x14x64x128 .f32 := win1_14.stage (cfg1.slots t 14)
abbrev hs1_14 (t : Fin cfg1.N) : (ms1_14 t).IsWhole := hstage1_14 ((cfg1.slots t 14).cast nbuf1_14)

theorem hcond1 : ∀ t : Fin cfg1.N, cond1 (grid1.coords t) ↔ t.val % 64 = 0 :=
  (by decide +kernel : ∀ t : Fin grid1.N, cond1 (grid1.coords t) ↔ t.val % 64 = 0)

/-- The accumulators: the gradients of k and v, of the context's k and v, and of the bias tiles. -/
abbrev Acc (F : FTy → Type) : Type := Vec F S4096x256 .f32 × Vec F S4096x256 .f32 × Vec F S256x256 .f32 × Vec F S256x256 .f32 × Vec F S2x14x64x128 .f32

/-- The gradient body's stores at a point that opens a column, -/
def ptA (c : Dev nD) (t : Fin cfg1.N) (h : t.val % 64 = 0) :=
  bwdRunA (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1 t).mpr h) (iblk1 V c 0 t) (iblk1 V c 1 t) (iblk1 V c 2 t) (iblk1 V c 3 t) (iblk1 V c 4 t) (iblk1 V c 5 t) (iblk1 V c 6 t) (iblk1 V c 7 t) (iblk1 V c 8 t)
/-- and at any other point, over what the accumulators hold. -/
def ptB (c : Dev nD) (t : Fin cfg1.N) (h : ¬ t.val % 64 = 0) (y : Acc F) :=
  bwdRunB (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun e => h ((hcond1 t).mp e)) (iblk1 V c 0 t) (iblk1 V c 1 t) (iblk1 V c 2 t) (iblk1 V c 3 t) (iblk1 V c 4 t) (iblk1 V c 5 t) (iblk1 V c 6 t) (iblk1 V c 7 t) (iblk1 V c 8 t) y.1 y.2.1 y.2.2.1 y.2.2.2.1 y.2.2.2.2

theorem coverA_9 (c : Dev nD) (t : Fin cfg1.N) (h) (y : S64x256.Idx) : ∃ pc ∈ (ptA V c t h).1, y ∈ pc.1.set :=
  View.cover_of_tiledL (ptA V c t h).1 S64x128.size (by sl_kernel_rfl) y
theorem coverB_9 (c : Dev nD) (t : Fin cfg1.N) (h) (z : Acc F) (y : S64x256.Idx) : ∃ pc ∈ (ptB V c t h z).1, y ∈ pc.1.set :=
  View.cover_of_tiledL (ptB V c t h z).1 S64x128.size (by sl_kernel_rfl) y
theorem coverA_10 (c : Dev nD) (t : Fin cfg1.N) (h) (y : S4096x256.Idx) : ∃ pc ∈ (ptA V c t h).2.1, y ∈ pc.1.set := by
  refine View.cover_of_wholeMem _ ?_ y
  exact View.Piece.wholeMem_cons (View.Piece.wholeMem_cons (View.Piece.wholeMem_here (by sl_kernel_rfl)))
theorem coverA_11 (c : Dev nD) (t : Fin cfg1.N) (h) (y : S4096x256.Idx) : ∃ pc ∈ (ptA V c t h).2.2.1, y ∈ pc.1.set := by
  refine View.cover_of_wholeMem _ ?_ y
  exact View.Piece.wholeMem_cons (View.Piece.wholeMem_cons (View.Piece.wholeMem_here (by sl_kernel_rfl)))
theorem coverA_12 (c : Dev nD) (t : Fin cfg1.N) (h) (y : S256x256.Idx) : ∃ pc ∈ (ptA V c t h).2.2.2.1, y ∈ pc.1.set := by
  refine View.cover_of_wholeMem _ ?_ y
  exact View.Piece.wholeMem_cons (View.Piece.wholeMem_cons (View.Piece.wholeMem_here (by sl_kernel_rfl)))
theorem coverA_13 (c : Dev nD) (t : Fin cfg1.N) (h) (y : S256x256.Idx) : ∃ pc ∈ (ptA V c t h).2.2.2.2.1, y ∈ pc.1.set := by
  refine View.cover_of_wholeMem _ ?_ y
  exact View.Piece.wholeMem_cons (View.Piece.wholeMem_cons (View.Piece.wholeMem_here (by sl_kernel_rfl)))
theorem coverA_14 (c : Dev nD) (t : Fin cfg1.N) (h) (y : S2x14x64x128.Idx) : ∃ pc ∈ (ptA V c t h).2.2.2.2.2.1, y ∈ pc.1.set := by
  refine View.cover_of_wholeMem _ ?_ y
  exact View.Piece.wholeMem_cons (View.Piece.wholeMem_cons (View.Piece.wholeMem_cons (View.Piece.wholeMem_cons (View.Piece.wholeMem_cons (View.Piece.wholeMem_cons (View.Piece.wholeMem_cons (View.Piece.wholeMem_cons (View.Piece.wholeMem_here (by sl_kernel_rfl)))))))))

/-- What the gradient body leaves at a point that opens a column: its stores read back. -/
def leftA (c : Dev nD) (t : Fin cfg1.N) (h : t.val % 64 = 0) : Vec F S64x256 .bf16 × Acc F :=
  ((ms1_9 t).view.read (Elt F) ((ms1_9 t).view.writes (Elt F) (ms1_9 t).view.junk (ptA V c t h).1),
   (ms1_10 t).view.read (Elt F) ((ms1_10 t).view.writes (Elt F) (ms1_10 t).view.junk (ptA V c t h).2.1),
   (ms1_11 t).view.read (Elt F) ((ms1_11 t).view.writes (Elt F) (ms1_11 t).view.junk (ptA V c t h).2.2.1),
   (ms1_12 t).view.read (Elt F) ((ms1_12 t).view.writes (Elt F) (ms1_12 t).view.junk (ptA V c t h).2.2.2.1),
   (ms1_13 t).view.read (Elt F) ((ms1_13 t).view.writes (Elt F) (ms1_13 t).view.junk (ptA V c t h).2.2.2.2.1),
   (ms1_14 t).view.read (Elt F) ((ms1_14 t).view.writes (Elt F) (ms1_14 t).view.junk (ptA V c t h).2.2.2.2.2.1))
/-- What it leaves at any other point: the block of dq from its stores, each accumulator with its stores. -/
def leftB (c : Dev nD) (t : Fin cfg1.N) (h : ¬ t.val % 64 = 0) (y : Acc F) : Vec F S64x256 .bf16 × Acc F :=
  ((ms1_9 t).view.read (Elt F) ((ms1_9 t).view.writes (Elt F) (ms1_9 t).view.junk (ptB V c t h y).1),
   (ms1_10 t).view.read (Elt F) ((ms1_10 t).view.writes (Elt F) ((hs1_10 t).unread y.1) (ptB V c t h y).2.1),
   (ms1_11 t).view.read (Elt F) ((ms1_11 t).view.writes (Elt F) ((hs1_11 t).unread y.2.1) (ptB V c t h y).2.2.1),
   (ms1_12 t).view.read (Elt F) ((ms1_12 t).view.writes (Elt F) ((hs1_12 t).unread y.2.2.1) (ptB V c t h y).2.2.2.1),
   (ms1_13 t).view.read (Elt F) ((ms1_13 t).view.writes (Elt F) ((hs1_13 t).unread y.2.2.2.1) (ptB V c t h y).2.2.2.2.1),
   (ms1_14 t).view.read (Elt F) ((ms1_14 t).view.writes (Elt F) ((hs1_14 t).unread y.2.2.2.2) (ptB V c t h y).2.2.2.2.2.1))

/-- What the blocks written hold after the body at point `n`. -/
def left1 (c : Dev nD) : (n : ℕ) → n < cfg1.N → Vec F S64x256 .bf16 × Acc F
  | 0, hn => leftA V c ⟨0, hn⟩ rfl
  | n + 1, hn => if h : (n + 1) % 64 = 0 then leftA V c ⟨n + 1, hn⟩ h else leftB V c ⟨n + 1, hn⟩ h (left1 c n (Nat.lt_of_succ_lt hn)).2

theorem left1_A (c : Dev nD) (t : Fin cfg1.N) (h : t.val % 64 = 0) : left1 V c t.val t.isLt = leftA V c t h := by
  obtain ⟨n, hn⟩ := t
  cases n with
  | zero => rfl
  | succ n => exact dif_pos h
theorem left1_B (c : Dev nD) (t : Fin cfg1.N) (h : ¬ t.val % 64 = 0) :
    left1 V c t.val t.isLt = leftB V c t h (left1 V c (t.val - 1) (Nat.lt_of_le_of_lt (Nat.sub_le _ _) t.isLt)).2 := by
  obtain ⟨n, hn⟩ := t
  cases n with
  | zero => exact absurd rfl h
  | succ n => exact dif_neg h

/-- The proof data of call 1: its arrays as found, each block read left as it is, each block written as `left1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (left1 V c t.val t.isLt).1
    | ⟨10, _⟩ => (left1 V c t.val t.isLt).2.1
    | ⟨11, _⟩ => (left1 V c t.val t.isLt).2.2.1
    | ⟨12, _⟩ => (left1 V c t.val t.isLt).2.2.2.1
    | ⟨13, _⟩ => (left1 V c t.val t.isLt).2.2.2.2.1
    | ⟨14, _⟩ => (left1 V c t.val t.isLt).2.2.2.2.2
  Φ _ := Pipeline.ΦA spec1 c
  q w := Pipeline.shareOf spec1 w
  owed _ := 0

theorem A_eq1 (c : Dev nD) (w : Fin cfg1.W) : (dat1 V c).A w = V c (Pipeline.arrRef spec1 w) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (left1 V c t.val t.isLt).1 := by dsimp only [dat1]
theorem after1_10 (c : Dev nD) (t : Fin cfg1.N) : (dat1 V c).after 10 t = (left1 V c t.val t.isLt).2.1 := by dsimp only [dat1]
theorem after1_11 (c : Dev nD) (t : Fin cfg1.N) : (dat1 V c).after 11 t = (left1 V c t.val t.isLt).2.2.1 := by dsimp only [dat1]
theorem after1_12 (c : Dev nD) (t : Fin cfg1.N) : (dat1 V c).after 12 t = (left1 V c t.val t.isLt).2.2.2.1 := by dsimp only [dat1]
theorem after1_13 (c : Dev nD) (t : Fin cfg1.N) : (dat1 V c).after 13 t = (left1 V c t.val t.isLt).2.2.2.2.1 := by dsimp only [dat1]
theorem after1_14 (c : Dev nD) (t : Fin cfg1.N) : (dat1 V c).after 14 t = (left1 V c t.val t.isLt).2.2.2.2.2 := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)

/-- What the body of call 1 is given at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t))
theorem before1_10 (c : Dev nD) (t : Fin cfg1.N) (h : ¬ t.val % 64 = 0) (d) :
    (dat1 V c).before 10 t d = (left1 V c (t.val - 1) (Nat.lt_of_le_of_lt (Nat.sub_le _ _) t.isLt)).2.1 := by
  refine ((dat1 V c).before_out_kept 10 rfl t (fun e => h (by rw [e])) ?_ (fun _ => rfl) (fun _ _ => rfl) d).trans (after1_10 V c _)
  refine Bool.eq_false_iff.mpr fun e => h ?_
  have := (flush1_10 _).mp e
  simp only at this; omega
theorem before1_11 (c : Dev nD) (t : Fin cfg1.N) (h : ¬ t.val % 64 = 0) (d) :
    (dat1 V c).before 11 t d = (left1 V c (t.val - 1) (Nat.lt_of_le_of_lt (Nat.sub_le _ _) t.isLt)).2.2.1 := by
  refine ((dat1 V c).before_out_kept 11 rfl t (fun e => h (by rw [e])) ?_ (fun _ => rfl) (fun _ _ => rfl) d).trans (after1_11 V c _)
  refine Bool.eq_false_iff.mpr fun e => h ?_
  have := (flush1_11 _).mp e
  simp only at this; omega
theorem before1_12 (c : Dev nD) (t : Fin cfg1.N) (h : ¬ t.val % 64 = 0) (d) :
    (dat1 V c).before 12 t d = (left1 V c (t.val - 1) (Nat.lt_of_le_of_lt (Nat.sub_le _ _) t.isLt)).2.2.2.1 := by
  refine ((dat1 V c).before_out_kept 12 rfl t (fun e => h (by rw [e])) ?_ (fun _ => rfl) (fun _ _ => rfl) d).trans (after1_12 V c _)
  refine Bool.eq_false_iff.mpr fun e => h ?_
  have := (flush1_12 _).mp e
  simp only at this; omega
theorem before1_13 (c : Dev nD) (t : Fin cfg1.N) (h : ¬ t.val % 64 = 0) (d) :
    (dat1 V c).before 13 t d = (left1 V c (t.val - 1) (Nat.lt_of_le_of_lt (Nat.sub_le _ _) t.isLt)).2.2.2.2.1 := by
  refine ((dat1 V c).before_out_kept 13 rfl t (fun e => h (by rw [e])) ?_ (fun _ => rfl) (fun _ _ => rfl) d).trans (after1_13 V c _)
  refine Bool.eq_false_iff.mpr fun e => h ?_
  have := (flush1_13 _).mp e
  simp only at this; omega
theorem before1_14 (c : Dev nD) (t : Fin cfg1.N) (h : ¬ t.val % 64 = 0) (d) :
    (dat1 V c).before 14 t d = (left1 V c (t.val - 1) (Nat.lt_of_le_of_lt (Nat.sub_le _ _) t.isLt)).2.2.2.2.2 := by
  refine ((dat1 V c).before_out_kept 14 rfl t (fun e => h (by rw [e])) ?_ (fun _ => rfl) (fun _ _ => rfl) d).trans (after1_14 V c _)
  refine Bool.eq_false_iff.mpr fun e => h ?_
  have := (flush1_14 _).mp e
  simp only at this; omega

set_option maxHeartbeats 16000000 in
theorem sound1A (c : Dev nD) (t : Fin cfg1.N) (h : t.val % 64 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  rw [left1_A V c t h]
  unfold leftA; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((ptA V c t h).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, ⟨%e9, H9⟩, ⟨%e10, H10⟩, ⟨%e11, H11⟩, ⟨%e12, H12⟩, ⟨%e13, H13⟩, ⟨%e14, H14⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (coverA_9 V c t h)
  isplitl [H10]
  · unfold owns; iexists _; isplitr
    swap; · iexact H10
    ipureintro; exact View.read_writes_of_cover _ _ _ _ _ (coverA_10 V c t h)
  isplitl [H11]
  · unfold owns; iexists _; isplitr
    swap; · iexact H11
    ipureintro; exact View.read_writes_of_cover _ _ _ _ _ (coverA_11 V c t h)
  isplitl [H12]
  · unfold owns; iexists _; isplitr
    swap; · iexact H12
    ipureintro; exact View.read_writes_of_cover _ _ _ _ _ (coverA_12 V c t h)
  isplitl [H13]
  · unfold owns; iexists _; isplitr
    swap; · iexact H13
    ipureintro; exact View.read_writes_of_cover _ _ _ _ _ (coverA_13 V c t h)
  · unfold owns; iexists _; isplitr
    swap; · iexact H14
    ipureintro; exact View.read_writes_of_cover _ _ _ _ _ (coverA_14 V c t h)

set_option maxHeartbeats 16000000 in
theorem sound1B (c : Dev nD) (t : Fin cfg1.N) (h : ¬ t.val % 64 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  simp only [before1_10 V c t h, before1_11 V c t h, before1_12 V c t h, before1_13 V c t h, before1_14 V c t h]
  rw [left1_B V c t h]
  generalize (left1 V c (t.val - 1) (Nat.lt_of_le_of_lt (Nat.sub_le _ _) t.isLt)).2 = z
  unfold leftB; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((ptB V c t h z).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, ⟨%e9, H9⟩, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (coverB_9 V c t h z)
  isplitl [H10]
  · unfold owns; iexists _; isplitr
    swap; · iexact H10
    ipureintro; rfl
  isplitl [H11]
  · unfold owns; iexists _; isplitr
    swap; · iexact H11
    ipureintro; rfl
  isplitl [H12]
  · unfold owns; iexists _; isplitr
    swap; · iexact H12
    ipureintro; rfl
  isplitl [H13]
  · unfold owns; iexists _; isplitr
    swap; · iexact H13
    ipureintro; rfl
  · unfold owns; iexists _; isplitr
    swap; · iexact H14
    ipureintro; rfl

theorem sound1 (c : Dev nD) (t : Fin cfg1.N) :
    bodyPre1 V c t ⊢ wp frame (wpE (defs₀ (F := F)) Variants.none c none) Set.univ (bodyAt1 t) (fun _ => bodyPost1 V c t) := by
  by_cases h : t.val % 64 = 0
  · exact sound1A V c t h
  · exact sound1B V c t h

theorem row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

end Calls

end Cert.NaKernelIdeal.NaRegion

end

end
-- ==== Proof.NaRun.lean ====
/- The whole run of the attention program: its two calls between their host lines, and what memory holds at the end. -/
module

public import proofs.«01_k».proof.Proof.Gen.NaKernelIdeal.Launch
public import proofs.«01_k».proof.Proof.Gen.NaKernelIdeal.Skeleton
public import proofs.«01_k».proof.Proof.Gen.NaKernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.NaRegion
public import proofs.«01_k».proof.Proof.Gen.NaKernelIdeal.Regions

@[expose] public section

set_option maxRecDepth 16384

noncomputable section

namespace Cert.NaKernelIdeal.NaRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.NaKernelIdeal Cert.NaKernelIdeal.Gen Cert.NaKernelIdeal.NaRegion
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- What the device's arrays hold when the forward call is entered, -/
abbrev In0 : (c : Dev nD) → (b : Ref sig .tc) → Buf (Elt F) ((c : Thread nD τ).loc b) := fun c b => V11 m c b
/-- after it, -/
def M0 (c : Dev nD) : Valuation τ sig (Elt F) :=
  Pipeline.withArrays spec0 c (V11 m c) fun w => (dat0 (In0 m) c).arrAt w cfg0.N
abbrev In1 : (c : Dev nD) → (b : Ref sig .tc) → Buf (Elt F) ((c : Thread nD τ).loc b) := fun c b => M0 m c b
/-- and after the gradient's call. -/
def M1 (c : Dev nD) : Valuation τ sig (Elt F) :=
  Pipeline.withArrays spec1 c (M0 m c) fun w => (dat1 (In1 m) c).arrAt w cfg1.N
abbrev Out1 : (c : Dev nD) → (b : Ref sig .tc) → Buf (Elt F) ((c : Thread nD τ).loc b) := fun c b => M1 m c b

/-- What the two calls leave in the arrays they write. -/
def outs : Outs (F := F) := fun k r c => if k = 12 then M0 m c r else M1 m c r

theorem M0_arr (c : Dev nD) (w : Fin cfg0.W) :
    M0 m c (Proc.devRef .tc (Pipeline.arrRef spec0 w)) = (dat0 (In0 m) c).arrAt w cfg0.N := by
  unfold M0; exact (dat0 (In0 m) c).withArrays_arrAt launch₀0.sharedIn _ (A_eq0 (In0 m) c) w
theorem M0_of_ne (c : Dev nD) (b : Ref sig .tc) (hb : ∀ w, Pipeline.arrRef spec0 w ≠ b) :
    M0 m c (Proc.devRef .tc b) = V11 m c (Proc.devRef .tc b) := by
  unfold M0; exact Pipeline.withArrays_of_ne spec0 c _ _ b hb
/-- An array that is no output of call 0 is as it was. -/
theorem M0_of (c : Dev nD) (r : Ref sig .tc) (h : ∀ w : Fin cfg0.W, Pipeline.arrRef spec0 w = r → (cfg0.win w).isOut = false) :
    M0 m c (Proc.devRef .tc r) = V11 m c (Proc.devRef .tc r) := by
  by_cases hw : ∃ w : Fin cfg0.W, Pipeline.arrRef spec0 w = r
  · obtain ⟨w, rfl⟩ := hw
    exact (M0_arr m c w).trans (((dat0 (In0 m) c).arrAt_in w (h w rfl) _).trans (A_eq0 (In0 m) c w))
  · exact M0_of_ne m c r fun w e => hw ⟨w, e⟩
theorem outs0 : ∀ w : Fin cfg0.W, (cfg0.win w).isOut = true → Pipeline.arrRef spec0 w ∈ ([main_v55_0, main_v55_1] : List (Ref sig .tc)) := by decide +kernel

theorem M1_arr (c : Dev nD) (w : Fin cfg1.W) :
    M1 m c (Proc.devRef .tc (Pipeline.arrRef spec1 w)) = (dat1 (In1 m) c).arrAt w cfg1.N := by
  unfold M1; exact (dat1 (In1 m) c).withArrays_arrAt launch₀1.sharedIn _ (A_eq1 (In1 m) c) w
theorem M1_of_ne (c : Dev nD) (b : Ref sig .tc) (hb : ∀ w, Pipeline.arrRef spec1 w ≠ b) :
    M1 m c (Proc.devRef .tc b) = M0 m c (Proc.devRef .tc b) := by
  unfold M1; exact Pipeline.withArrays_of_ne spec1 c _ _ b hb
/-- An array that is no output of call 1 is as it was. -/
theorem M1_of (c : Dev nD) (r : Ref sig .tc) (h : ∀ w : Fin cfg1.W, Pipeline.arrRef spec1 w = r → (cfg1.win w).isOut = false) :
    M1 m c (Proc.devRef .tc r) = M0 m c (Proc.devRef .tc r) := by
  by_cases hw : ∃ w : Fin cfg1.W, Pipeline.arrRef spec1 w = r
  · obtain ⟨w, rfl⟩ := hw
    exact (M1_arr m c w).trans (((dat1 (In1 m) c).arrAt_in w (h w rfl) _).trans (A_eq1 (In1 m) c w))
  · exact M1_of_ne m c r fun w e => hw ⟨w, e⟩
theorem outs1 : ∀ w : Fin cfg1.W, (cfg1.win w).isOut = true → Pipeline.arrRef spec1 w ∈ ([main_v56_0, main_v56_1, main_v56_2, main_v56_3, main_v56_4, main_v56_5] : List (Ref sig .tc)) := by decide +kernel

/-- Anything else is as it was. -/
theorem M0_rest (c : Dev nD) (b : DevRef τ sig) (h0 : b ≠ Proc.devRef .tc main_v55_0) (h1 : b ≠ Proc.devRef .tc main_v55_1) :
    M0 m c b = V11 m c b := by
  by_cases hb : ∃ w, Proc.devRef .tc (Pipeline.arrRef spec0 w) = b
  · obtain ⟨w, rfl⟩ := hb
    refine M0_of m c _ fun w' e => ?_
    by_contra ho
    have := outs0 w' (by simpa using ho)
    rw [e] at this
    simp only [List.mem_cons, List.not_mem_nil, or_false] at this
    rcases this with e | e
    · exact h0 (congrArg _ e)
    · exact h1 (congrArg _ e)
  · unfold M0 Pipeline.withArrays
    exact dif_neg hb

theorem V12_eq (c : Dev nD) : V12 m (outs m) c = M0 m c := by
  funext b
  unfold V12
  by_cases h1 : b = Proc.devRef .tc main_v55_1
  · subst h1; exact (Function.update_self ..).trans rfl
  refine (Function.update_of_ne h1 ..).trans ?_
  by_cases h0 : b = Proc.devRef .tc main_v55_0
  · subst h0; exact (Function.update_self ..).trans rfl
  refine (Function.update_of_ne h0 ..).trans ?_
  exact (M0_rest m c b h0 h1).symm

/-- Anything else is as it was. -/
theorem M1_rest (c : Dev nD) (b : DevRef τ sig) (h0 : b ≠ Proc.devRef .tc main_v56_0) (h1 : b ≠ Proc.devRef .tc main_v56_1) (h2 : b ≠ Proc.devRef .tc main_v56_2) (h3 : b ≠ Proc.devRef .tc main_v56_3) (h4 : b ≠ Proc.devRef .tc main_v56_4) (h5 : b ≠ Proc.devRef .tc main_v56_5) :
    M1 m c b = M0 m c b := by
  by_cases hb : ∃ w, Proc.devRef .tc (Pipeline.arrRef spec1 w) = b
  · obtain ⟨w, rfl⟩ := hb
    refine M1_of m c _ fun w' e => ?_
    by_contra ho
    have := outs1 w' (by simpa using ho)
    rw [e] at this
    simp only [List.mem_cons, List.not_mem_nil, or_false] at this
    rcases this with e | e | e | e | e | e
    · exact h0 (congrArg _ e)
    · exact h1 (congrArg _ e)
    · exact h2 (congrArg _ e)
    · exact h3 (congrArg _ e)
    · exact h4 (congrArg _ e)
    · exact h5 (congrArg _ e)
  · unfold M1 Pipeline.withArrays
    exact dif_neg hb

theorem V13_eq (c : Dev nD) : V13 m (outs m) c = M1 m c := by
  funext b
  unfold V13
  by_cases h5 : b = Proc.devRef .tc main_v56_5
  · subst h5; exact (Function.update_self ..).trans rfl
  refine (Function.update_of_ne h5 ..).trans ?_
  by_cases h4 : b = Proc.devRef .tc main_v56_4
  · subst h4; exact (Function.update_self ..).trans rfl
  refine (Function.update_of_ne h4 ..).trans ?_
  by_cases h3 : b = Proc.devRef .tc main_v56_3
  · subst h3; exact (Function.update_self ..).trans rfl
  refine (Function.update_of_ne h3 ..).trans ?_
  by_cases h2 : b = Proc.devRef .tc main_v56_2
  · subst h2; exact (Function.update_self ..).trans rfl
  refine (Function.update_of_ne h2 ..).trans ?_
  by_cases h1 : b = Proc.devRef .tc main_v56_1
  · subst h1; exact (Function.update_self ..).trans rfl
  refine (Function.update_of_ne h1 ..).trans ?_
  by_cases h0 : b = Proc.devRef .tc main_v56_0
  · subst h0; exact (Function.update_self ..).trans rfl
  refine (Function.update_of_ne h0 ..).trans ?_
  exact (congrFun (V12_eq m c) b).trans ((M1_rest m c b h0 h1 h2 h3 h4 h5).symm)

abbrev 𝒱₀ : Variants := Variants.none
abbrev L : GSem nD τ sig → Finset Unit := fun _ => ∅
abbrev lv : GSem nD τ sig → Unit → ℕ := fun _ _ => 0
/-- What rides beside the buffers: the generator's register and owing nothing. -/
abbrev Rest (c : Dev nD) : sProp 𝕄 := iprop((∃ r, prngReg c r) ∗ ∃ W, owes (c : Thread nD τ) (0 : CellTallies nD τ sig Unit) W)

/-- The two calls' proof data. -/
def pdats : (p : Fin 2) → (c : Dev nD) → Dat τ (Elt F) Unit ℕ (UR sig nD τ) ℕ (Pipeline.pin (pcfgs (F := F)) adm p) c
  | ⟨0, _⟩ => fun c => dat0 (In0 m) c
  | ⟨1, _⟩ => fun c => dat1 (In1 m) c

set_option backward.isDefEq.respectTransparency.types false in
/-- Call 0 as a segment: entered from `V11`, left at `M0`. -/
def reg0 : RegionSeg (pcfgs (F := F)) adm (pdats m) () defs₀ 𝒱₀ L lv 0 where
  win := launch₀0.win
  block_pos := launch₀0.block_pos
  stage_whole := launch₀0.stage_whole
  K := PEmpty
  osem k := k.elim
  ho := Pipeline.OwnSemFacts.none _
  hbody c := (obligation0 (In0 m) c).loose
  hwaits := Pipeline.hwaits_of_owed_zero _ _ _ _ L lv 0 fun _ _ => rfl
  pre c := iprop(StableHlo.held (c : Thread nD τ) (Pipeline.ucRefs τ sig) (V11 m c) ∗ Rest c)
  post c := iprop(StableHlo.held (c : Thread nD τ) (Pipeline.ucRefs τ sig) (M0 m c) ∗ Rest c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs_shared (p := 0) (pcfgs (F := F)) adm (pdats m) launch₀0.win launch₀0.sharedIn launch₀0.arr_whole c
      (fun _ _ => rfl) (In0 m c) (A_eq0 (In0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m) (fun _ _ => rfl)
      (In0 m c) (In1 m c) ((pdats m 0 c).arrAt · cfg0.N) (fun w => (M0_arr m c w).symm)
      (fun b hb => M0_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered from `M0`, left at `M1`. -/
def reg1 : RegionSeg (pcfgs (F := F)) adm (pdats m) () defs₀ 𝒱₀ L lv 1 where
  win := launch₀1.win
  block_pos := launch₀1.block_pos
  stage_whole := launch₀1.stage_whole
  K := PEmpty
  osem k := k.elim
  ho := Pipeline.OwnSemFacts.none _
  hbody c := (obligation1 (In1 m) c).loose
  hwaits := Pipeline.hwaits_of_owed_zero _ _ _ _ L lv 1 fun _ _ => rfl
  pre c := iprop(StableHlo.held (c : Thread nD τ) (Pipeline.ucRefs τ sig) (M0 m c) ∗ Rest c)
  post c := iprop(StableHlo.held (c : Thread nD τ) (Pipeline.ucRefs τ sig) (M1 m c) ∗ Rest c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (In1 m c) (A_eq1 (In1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (In1 m c) (Out1 m c) ((pdats m 1 c).arrAt · cfg1.N) (fun w => (M1_arr m c w).symm)
      (fun b hb => M1_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's pieces in order. -/
abbrev pieces : List (Seg (pcfgs (F := F)) adm (pdats m) () defs₀ 𝒱₀ L lv) :=
  [.host (seg0 m 𝒱₀ L lv (fun _ => Rest)),
   .host (seg1 m 𝒱₀ L lv (fun _ => Rest)),
   .host (seg2 m 𝒱₀ L lv (fun _ => Rest)),
   .host (seg3 m 𝒱₀ L lv (fun _ => Rest)),
   .host (seg4 m 𝒱₀ L lv (fun _ => Rest)),
   .host (seg5 m 𝒱₀ L lv (fun _ => Rest)),
   .host (seg6 m 𝒱₀ L lv (fun _ => Rest)),
   .host (seg7 m 𝒱₀ L lv (fun _ => Rest)),
   .host (seg8 m 𝒱₀ L lv (fun _ => Rest)),
   .host (seg9 m 𝒱₀ L lv (fun _ => Rest)),
   .host (seg10 m 𝒱₀ L lv (fun _ => Rest)),
   .region (reg0 m),
   .region (reg1 m),
   .host (seg13 m (outs m) 𝒱₀ L lv (fun _ => Rest)),
   .host (seg14 m (outs m) 𝒱₀ L lv (fun _ => Rest)),
   .host (seg15 m (outs m) 𝒱₀ L lv (fun _ => Rest)),
   .host (seg16 m (outs m) 𝒱₀ L lv (fun _ => Rest)),
   .host (seg17 m (outs m) 𝒱₀ L lv (fun _ => Rest)),
   .host (seg18 m (outs m) 𝒱₀ L lv (fun _ => Rest)),
   .host (seg19 m (outs m) 𝒱₀ L lv (fun _ => Rest)),
   .host (seg20 m (outs m) 𝒱₀ L lv (fun _ => Rest)),
   .host (seg21 m (outs m) 𝒱₀ L lv (fun _ => Rest)),
   .host (seg22 m (outs m) 𝒱₀ L lv (fun _ => Rest)),
   .host (seg23 m (outs m) 𝒱₀ L lv (fun _ => Rest)),
   .host (seg24 m (outs m) 𝒱₀ L lv (fun _ => Rest)),
   .host (seg25 m (outs m) 𝒱₀ L lv (fun _ => Rest))]

theorem main_pieces (c : Dev nD) : main (F := F) c = Seg.run (pieces m) := (main_chain c).trans (by chain_rfl)

/-- What the device's memory holds at the end. -/
abbrev Last (c : Dev nD) : Valuation τ sig (Elt F) := V26 m (outs m) c

set_option backward.isDefEq.respectTransparency.types false in
/-- Every execution ends, without a fault, with memory at `Last` and every counter at zero. -/
theorem run (ρ : Dev nD → PrngReg) : θ_run defs (onTc (τ := τ) (main (F := F))) ⟨m, fun _ => 0, ρ⟩ (fun r =>
      (∀ c : Dev nD, ∀ b ∈ Pipeline.ucRefs τ sig, r.2.mem (((c : Thread nD τ)).1, b) = Last m c b) ∧ r.2.sem = fun _ => 0) :=
  Pipeline.θ_run_regions_kit_sems (pcfgs (F := F)) adm (pdats m) () cellOf_inj emb₁ defs₀ 𝒱₀ L lv m ρ main (pieces m)
    (fun c Q => by rw [main_pieces m c])
    (by simp only [pieces, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => iprop(StableHlo.held (c : Thread nD τ) (Pipeline.ucRefs τ sig) (Last m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => (BIBase.Entails.of_eq (congrArg (fun W => iprop(StableHlo.held (c : Thread nD τ) (Pipeline.ucRefs τ sig) W ∗ Rest c)) (V13_eq m c).symm)), fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      refine (show iprop(StableHlo.held (c : Thread nD τ) (Pipeline.ucRefs τ sig) (Last m c) ∗ Rest c) ⊢ _ from ?_)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Last m c b)
    (hfin := fun c s' => by
      iintro ⟨⟨Hh, -⟩, HSI⟩
      unfold StableHlo.held
      imodintro
      iapply (pointsTo_read_all (Pipeline.ucRefs τ sig) (fun b => (((c : Thread nD τ)).1, b)) (Last m c) s')
      isplitl [Hh] <;> iassumption)
    (hQ := fun s h hz => ⟨h, funext fun g => hz g (.inr (regions_no_unscoped g.2))⟩)

/-- An array of the program at the end. -/
theorem at_end {r : (ℓ : Loc nD τ sig) → Buf (Elt F) ℓ} (h : ∀ c : Dev nD, ∀ b ∈ Pipeline.ucRefs τ sig, r (((c : Thread nD τ)).1, b) = Last m c b) (c : Dev nD) (b : Ref sig .tc)
    (hb : ¬ (Proc.devRef .tc b : DevRef τ sig).isScoped) : r ((c.tc : Thread nD τ).loc b) = Last m c (Proc.devRef .tc b) :=
  h c _ (Finset.mem_filter.mpr ⟨StableHlo.devRef_mem_tcRefs b, hb⟩)

/-- The arguments are unchanged and the counters zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(at_end m h.1 c main_arg0 (by decide)).trans (V26_main_arg0 m (outs m) c),
     (at_end m h.1 c main_arg1 (by decide)).trans (V26_main_arg1 m (outs m) c),
     (at_end m h.1 c main_arg2 (by decide)).trans (V26_main_arg2 m (outs m) c),
     (at_end m h.1 c main_arg3 (by decide)).trans (V26_main_arg3 m (outs m) c)⟩, h.2⟩) (run m ρ)

end Cert.NaKernelIdeal.NaRun

end

end
-- ==== Proof.NaSoft.lean ====
/- The attention of one block of 64 queries, over the reals: scores, weights, output and gradients; and what the
   body's arithmetic gives on blocks that hold numbers. -/
module

public import proofs.«01_k».proof.Proof.Gen.NaKernelIdeal.Skeleton
public import proofs.«01_k».proof.Proof.Reals
public import Idealize.ShloMosaic.Lib.Pipeline.ValueKit
public import Idealize.ShloMosaic.Lib.Pointwise

@[expose] public section

set_option maxRecDepth 16384

noncomputable section

open Idealize.ShloMosaic

namespace Cert.NaMath

open Cert.Reals

/-- The factor of the scores, as the word that writes it. -/
def scale : ℝ := 11863283 / 2 ^ 27

theorem ofBits_scale : Ideal.ofBits .f32 0x3DB504F3#32 = ((scale : ℝ) : EReal) := by
  unfold scale
  simp [Ideal.ofBits, Ideal.ieee, -EReal.coe_mul]; norm_num

theorem ofBits_ninf : Ideal.ofBits .f32 0xFF800000#32 = ⊥ := by
  simp [Ideal.ofBits, Ideal.ieee]

/-- The columns of keys that a column of queries sees. -/
def Sees (a k : ℕ) : Prop := min 48 (a - 8) ≤ k ∧ k < min 48 (a - 8) + 16

instance (a k : ℕ) : Decidable (Sees a k) := inferInstanceAs (Decidable (_ ∧ _))

/-- What one block of queries of one head reads: queries, the window's keys and values, the context's keys and
    values, the bias of the window's scores, and the cotangent of the output. -/
structure Blk where
  q : Fin 64 → Fin 128 → ℝ
  k : Fin 512 → Fin 128 → ℝ
  v : Fin 512 → Fin 128 → ℝ
  kc : Fin 256 → Fin 128 → ℝ
  vc : Fin 256 → Fin 128 → ℝ
  b : Fin 64 → Fin 512 → ℝ
  g : Fin 64 → Fin 128 → ℝ

namespace Blk

variable (X : Blk)

/-- Scores and their exponentials, of the window and of the context; -/
def s (a : Fin 64) (n : Fin 512) : ℝ := (∑ d, X.q a d * X.k n d) * scale + X.b a n
def sc (a : Fin 64) (n : Fin 256) : ℝ := (∑ d, X.q a d * X.kc n d) * scale
def e (a : Fin 64) (n : Fin 512) : ℝ := if Sees a.val (n.val % 64) then Real.exp (X.s a n) else 0
def ec (a : Fin 64) (n : Fin 256) : ℝ := Real.exp (X.sc a n)
/-- their sum; the weights; -/
def z (a : Fin 64) : ℝ := ∑ n, X.e a n + ∑ n, X.ec a n
def p (a : Fin 64) (n : Fin 512) : ℝ := X.e a n / X.z a
def pc (a : Fin 64) (n : Fin 256) : ℝ := X.ec a n / X.z a
/-- the output; -/
def o (a : Fin 64) (d : Fin 128) : ℝ := ∑ n, X.p a n * X.v n d + ∑ n, X.pc a n * X.vc n d
/-- the output's cotangent against the output, and the gradients of the scores; -/
def delta (a : Fin 64) : ℝ := ∑ d, X.g a d * X.o a d
def ds (a : Fin 64) (n : Fin 512) : ℝ := X.p a n * (∑ d, X.g a d * X.v n d - X.delta a)
def dsc (a : Fin 64) (n : Fin 256) : ℝ := X.pc a n * (∑ d, X.g a d * X.vc n d - X.delta a)
/-- the gradients of queries, keys and values that this block contributes. -/
def dq (a : Fin 64) (d : Fin 128) : ℝ := (∑ n, X.ds a n * X.k n d + ∑ n, X.dsc a n * X.kc n d) * scale
def dk (n : Fin 512) (d : Fin 128) : ℝ := (∑ a, X.ds a n * X.q a d) * scale
def dv (n : Fin 512) (d : Fin 128) : ℝ := ∑ a, X.p a n * X.g a d
def dkc (n : Fin 256) (d : Fin 128) : ℝ := (∑ a, X.dsc a n * X.q a d) * scale
def dvc (n : Fin 256) (d : Fin 128) : ℝ := ∑ a, X.pc a n * X.g a d

/-- The bias with what is not seen at −∞, and so the scores. -/
def bE (a : Fin 64) (n : Fin 512) : EReal := if Sees a.val (n.val % 64) then ((X.b a n : ℝ) : EReal) else ⊥
def sE (a : Fin 64) (n : Fin 512) : EReal := if Sees a.val (n.val % 64) then ((X.s a n : ℝ) : EReal) else ⊥

theorem z_pos (a : Fin 64) : 0 < X.z a := by
  refine add_pos_of_nonneg_of_pos (Finset.sum_nonneg fun n _ => ?_) (Finset.sum_pos (fun n _ => Real.exp_pos _) ⟨0, Finset.mem_univ _⟩)
  unfold e; split
  · exact (Real.exp_pos _).le
  · exact le_rfl

end Blk

/-- The greatest of finitely many terms each a number or −∞ is one too, and a number where a term is. -/
theorem fold_max {ι : Type*} (A : Finset ι) (f : ι → EReal) (hf : ∀ i, f i ≠ ⊤) : Finset.fold max ⊥ f A ≠ ⊤ := by
  classical
  induction A using Finset.induction_on with
  | empty => simp
  | insert i A hi ih =>
    rw [Finset.fold_insert hi]
    rcases max_choice (f i) (Finset.fold max ⊥ f A) with h | h <;> rw [h]
    · exact hf i
    · exact ih

theorem le_fold_max {ι : Type*} {A : Finset ι} {f : ι → EReal} {i : ι} (h : i ∈ A) : f i ≤ Finset.fold max ⊥ f A :=
  (Finset.le_fold_max _).2 (.inr ⟨i, h, le_rfl⟩)

theorem exp_sub (M x : ℝ) : Ideal.exp ((x : EReal) - (M : EReal)) = ((Real.exp (-M) * Real.exp x : ℝ) : EReal) := by
  rw [← EReal.coe_sub, exp_coe, ← Real.exp_add, neg_add_eq_sub]

theorem exp_bot_sub (M : ℝ) : Ideal.exp ((⊥ : EReal) - (M : EReal)) = ((0 : ℝ) : EReal) := by
  rw [sub_eq_add_neg, EReal.bot_add]; rfl

namespace Blk

variable (X : Blk)

theorem exp_sE (M : ℝ) (a : Fin 64) (n : Fin 512) : Ideal.exp (X.sE a n - (M : EReal)) = ((Real.exp (-M) * X.e a n : ℝ) : EReal) := by
  unfold sE e
  split
  · exact exp_sub M _
  · rw [exp_bot_sub, mul_zero]

/-- The body's operands hold what the block reads. -/
structure Reads (q : Vec Ideal Cert.NaKernelIdeal.S64x128 .bf16) (k v : Vec Ideal Cert.NaKernelIdeal.S512x128 .bf16)
    (kc vc : Vec Ideal Cert.NaKernelIdeal.S256x128 .bf16) (b0 b1 b2 b3 : Vec Ideal Cert.NaKernelIdeal.S1x1x64x128 .f32) : Prop where
  q : ∀ a d, q (ix2 a d) = ((X.q a d : ℝ) : EReal)
  k : ∀ a d, k (ix2 a d) = ((X.k a d : ℝ) : EReal)
  v : ∀ a d, v (ix2 a d) = ((X.v a d : ℝ) : EReal)
  kc : ∀ a d, kc (ix2 a d) = ((X.kc a d : ℝ) : EReal)
  vc : ∀ a d, vc (ix2 a d) = ((X.vc a d : ℝ) : EReal)
  b0 : ∀ a (n : Fin 512) (h : n.val < 128), b0 (ix4 0 0 a ⟨n.val, h⟩) = X.bE a n
  b1 : ∀ a (n : Fin 512) (h : n.val - 128 < 128), 128 ≤ n.val → b1 (ix4 0 0 a ⟨n.val - 128, h⟩) = X.bE a n
  b2 : ∀ a (n : Fin 512) (h : n.val - 128 - 128 < 128), 256 ≤ n.val → b2 (ix4 0 0 a ⟨n.val - 128 - 128, h⟩) = X.bE a n
  b3 : ∀ a (n : Fin 512) (h : n.val - 128 - 128 - 128 < 128), 384 ≤ n.val → b3 (ix4 0 0 a ⟨n.val - 128 - 128 - 128, h⟩) = X.bE a n

open Cert.NaKernelIdeal Cert.NaKernelIdeal.Gen

variable {X} {q : Vec Ideal S64x128 .bf16} {k v : Vec Ideal S512x128 .bf16} {kc vc : Vec Ideal S256x128 .bf16} {b0 b1 b2 b3 : Vec Ideal S1x1x64x128 .f32}
  (H : X.Reads q k v kc vc b0 b1 b2 b3)
include H

theorem scores (a : Fin 64) (n : Fin 512) : k0_pay21 q k b0 b1 b2 b3 (ix2 a n) = X.sE a n := by
  have hn := n.isLt
  have hb : (if h : n.val < 128 then b0 (ix4 0 0 a ⟨n.val, h⟩) else if h : n.val - 128 < 128 then b1 (ix4 0 0 a ⟨n.val - 128, h⟩)
      else if h : n.val - 128 - 128 < 128 then b2 (ix4 0 0 a ⟨n.val - 128 - 128, h⟩)
      else b3 (ix4 0 0 a ⟨n.val - 128 - 128 - 128, by omega⟩)) = X.bE a n := by
    split
    · exact H.b0 a n _
    split
    · exact H.b1 a n _ (by omega)
    split
    · exact H.b2 a n _ (by omega)
    · exact H.b3 a n _ (by omega)
  pointwise [k0_pay21]
  refine (congrArg (_ + ·) hb).trans ?_
  simp only [H.q, H.k, ofBits_scale, ← EReal.coe_mul, ← coe_sum]
  unfold bE sE s
  split
  · rw [← EReal.coe_add]
  · exact EReal.add_bot _

theorem scores_context (a : Fin 64) (n : Fin 256) : k0_pay1 (k0_pay22 q kc) (ix2 a n) = ((X.sc a n : ℝ) : EReal) := by
  pointwise [k0_pay22, k0_pay1]
  simp only [H.q, H.kc, ofBits_scale, ← EReal.coe_mul, ← coe_sum]
  rfl

theorem max_real (a : Fin 64) : ∃ M : ℝ, k0_pay2 (k0_pay21 q k b0 b1 b2 b3) (k0_pay22 q kc) (ix2 a 0) = (M : EReal) := by
  have h : k0_pay2 (k0_pay21 q k b0 b1 b2 b3) (k0_pay22 q kc) (ix2 a 0)
      = max (Finset.fold max ⊥ (fun n => X.sE a n) Finset.univ) (Finset.fold max ⊥ (fun n => ((X.sc a n : ℝ) : EReal)) Finset.univ) := by
    have e1 : ∀ x, k0_pay21 q k b0 b1 b2 b3 (ix2 a x) = X.sE a x := scores H a
    have e2 : ∀ x, k0_pay1 (k0_pay22 q kc) (ix2 a x) = ((X.sc a x : ℝ) : EReal) := scores_context H a
    pointwise [k0_pay2]
    simp only [e1, e2, ofBits_ninf]
  rw [h]
  have ht : max (Finset.fold max ⊥ (fun n => X.sE a n) Finset.univ) (Finset.fold max ⊥ (fun n => ((X.sc a n : ℝ) : EReal)) Finset.univ) ≠ ⊤ := by
    rcases max_choice (Finset.fold max ⊥ (fun n => X.sE a n) Finset.univ) (Finset.fold max ⊥ (fun n => ((X.sc a n : ℝ) : EReal)) Finset.univ) with h | h <;> rw [h]
    · refine fold_max _ _ fun n => ?_
      unfold sE; split <;> simp
    · exact fold_max _ _ fun n => EReal.coe_ne_top _
  have hb : max (Finset.fold max ⊥ (fun n => X.sE a n) Finset.univ) (Finset.fold max ⊥ (fun n => ((X.sc a n : ℝ) : EReal)) Finset.univ) ≠ ⊥ := fun hb => by
    have h0 : ((X.sc a 0 : ℝ) : EReal) ≤ _ := (le_fold_max (f := fun n => ((X.sc a n : ℝ) : EReal)) (Finset.mem_univ (0 : Fin 256))).trans (le_max_right (Finset.fold max ⊥ (fun n => X.sE a n) Finset.univ) _)
    rw [hb] at h0
    exact EReal.coe_ne_bot _ (le_bot_iff.1 h0)
  exact ⟨_, (EReal.coe_toReal ht hb).symm⟩

section
variable {M : ℝ} {a : Fin 64} (hM : k0_pay2 (k0_pay21 q k b0 b1 b2 b3) (k0_pay22 q kc) (ix2 a 0) = (M : EReal))
include hM

theorem exps (n : Fin 512) : k0_pay3 (k0_pay21 q k b0 b1 b2 b3) (k0_pay22 q kc) (ix2 a n) = ((Real.exp (-M) * X.e a n : ℝ) : EReal) := by
  have e1 := scores H a n
  pointwise [k0_pay3]
  rw [hM, e1]
  exact X.exp_sE M a n

theorem exps_context (n : Fin 256) : k0_pay4 (k0_pay21 q k b0 b1 b2 b3) (k0_pay22 q kc) (ix2 a n) = ((Real.exp (-M) * X.ec a n : ℝ) : EReal) := by
  have e1 := scores_context H a n
  pointwise [k0_pay4]
  rw [hM, e1]
  exact exp_sub M _

theorem total : k0_pay5 (k0_pay21 q k b0 b1 b2 b3) (k0_pay22 q kc) (ix2 a 0) = ((Real.exp (-M) * X.z a : ℝ) : EReal) := by
  have e1 := exps H hM
  have e2 := exps_context H hM
  pointwise [k0_pay5]
  simp only [e1, e2, ← coe_sum, ← EReal.coe_add, ← Finset.mul_sum, ← mul_add]
  rfl

end

/-- The output of the block, and the logarithm of its weights' sum. -/
theorem output (a : Fin 64) (d : Fin 128) : k0_pay6 (k0_pay21 q k b0 b1 b2 b3) (k0_pay22 q kc) v vc (ix2 a d) = ((X.o a d : ℝ) : EReal) := by
  obtain ⟨M, hM⟩ := max_real H a
  have e1 := exps H hM
  have e2 := exps_context H hM
  have e3 := total H hM
  have hz := mul_pos (Real.exp_pos (-M)) (X.z_pos a)
  pointwise [k0_pay6]
  simp only [e1, e2, e3, H.v, H.vc, ← EReal.coe_mul, ← coe_sum, ← EReal.coe_add]
  rw [div_coe_coe _ hz.ne']
  refine congrArg (fun r : ℝ => (r : EReal)) ?_
  unfold o p pc
  simp only [mul_assoc, ← Finset.mul_sum, ← mul_add, div_mul_eq_mul_div, ← Finset.sum_div, ← add_div]
  exact mul_div_mul_left _ _ (Real.exp_pos _).ne'

theorem logsum (a : Fin 64) : k0_pay7 (k0_pay21 q k b0 b1 b2 b3) (k0_pay22 q kc) (ix3 0 a 0) = ((Real.log (X.z a) : ℝ) : EReal) := by
  obtain ⟨M, hM⟩ := max_real H a
  have e3 := total H hM
  have hz := mul_pos (Real.exp_pos (-M)) (X.z_pos a)
  pointwise [k0_pay7]
  rw [hM, e3, log_coe hz, ← EReal.coe_add, Real.log_mul (Real.exp_pos _).ne' (X.z_pos a).ne', Real.log_exp]
  exact congrArg (fun r : ℝ => (r : EReal)) (by ring)

end Blk

namespace Blk

open Cert.NaKernelIdeal Cert.NaKernelIdeal.Gen

/-- The gradient body's operands: what the block reads, the output and the logarithm the forward call left, and the
    output's cotangent. -/
structure ReadsG (X : Blk) (q : Vec Ideal S64x128 .bf16) (k v : Vec Ideal S512x128 .bf16) (kc vc : Vec Ideal S256x128 .bf16)
    (b0 b1 b2 b3 : Vec Ideal S1x1x64x128 .f32) (o g : Vec Ideal S64x128 .bf16) (l : Vec Ideal S1x64x1 .f32) : Prop where
  reads : X.Reads q k v kc vc b0 b1 b2 b3
  o : ∀ a d, o (ix2 a d) = ((X.o a d : ℝ) : EReal)
  g : ∀ a d, g (ix2 a d) = ((X.g a d : ℝ) : EReal)
  l : ∀ a, l (ix3 0 a 0) = ((Real.log (X.z a) : ℝ) : EReal)

section

variable {X : Blk} {q : Vec Ideal S64x128 .bf16} {k v : Vec Ideal S512x128 .bf16} {kc vc : Vec Ideal S256x128 .bf16} {b0 b1 b2 b3 : Vec Ideal S1x1x64x128 .f32}
  {o g : Vec Ideal S64x128 .bf16} {l : Vec Ideal S1x64x1 .f32} (H : ReadsG X q k v kc vc b0 b1 b2 b3 o g l)
include H

theorem lse (a : Fin 64) : k1_pay30 l (ix2 a 0) = ((Real.log (X.z a) : ℝ) : EReal) := by
  pointwise [k1_pay30]
  exact H.l a

theorem weights (a : Fin 64) (n : Fin 512) :
    k1_pay32 (k1_pay30 l) (k1_pay31 q k) b0 b1 b2 b3 (ix2 a n) = ((X.p a n : ℝ) : EReal) := by
  have h : k1_pay32 (k1_pay30 l) (k1_pay31 q k) b0 b1 b2 b3 (ix2 a n)
      = Ideal.exp (k0_pay21 q k b0 b1 b2 b3 (ix2 a n) - k1_pay30 l (ix2 a 0)) := by
    pointwise [k1_pay32, k1_pay31, k0_pay21]
  rw [h, scores H.reads, lse H, X.exp_sE]
  exact congrArg (fun r : ℝ => (r : EReal)) (by rw [Real.exp_neg, Real.exp_log (X.z_pos a)]; unfold p; ring)

theorem weights_context (a : Fin 64) (n : Fin 256) : k1_pay33 q kc (k1_pay30 l) (ix2 a n) = ((X.pc a n : ℝ) : EReal) := by
  have h : k1_pay33 q kc (k1_pay30 l) (ix2 a n) = Ideal.exp (k0_pay1 (k0_pay22 q kc) (ix2 a n) - k1_pay30 l (ix2 a 0)) := by
    pointwise [k1_pay33, k0_pay1, k0_pay22]
  rw [h, scores_context H.reads, lse H, exp_sub]
  exact congrArg (fun r : ℝ => (r : EReal)) (by rw [Real.exp_neg, Real.exp_log (X.z_pos a)]; unfold pc ec; ring)

theorem deltas (a : Fin 64) : k1_pay34 g o (ix2 a 0) = ((X.delta a : ℝ) : EReal) := by
  pointwise [k1_pay34]
  simp only [H.o, H.g, ← EReal.coe_mul, ← coe_sum]
  rfl

theorem grads (a : Fin 64) (n : Fin 512) :
    k1_pay37 (k1_pay32 (k1_pay30 l) (k1_pay31 q k) b0 b1 b2 b3) (k1_pay35 v g) (k1_pay36 g o) (ix2 a n) = ((X.ds a n : ℝ) : EReal) := by
  have e1 := weights H a n
  have e2 := deltas H a
  pointwise [k1_pay37, k1_pay35, k1_pay36]
  rw [e1, e2]
  simp only [H.g, H.reads.v, ← EReal.coe_mul, ← coe_sum, ← EReal.coe_sub]
  rfl

theorem grads_context (a : Fin 64) (n : Fin 256) :
    k1_pay39 vc g (k1_pay33 q kc (k1_pay30 l)) (k1_pay34 g o) (ix2 a n) = ((X.dsc a n : ℝ) : EReal) := by
  have e1 := weights_context H a n
  have e2 := deltas H a
  pointwise [k1_pay39]
  rw [e1, e2]
  simp only [H.g, H.reads.vc, ← EReal.coe_mul, ← coe_sum, ← EReal.coe_sub]
  rfl

/-- The block's gradient of its queries; -/
theorem grad_q (a : Fin 64) (d : Fin 128) :
    k1_pay40 k kc vc g (k1_pay32 (k1_pay30 l) (k1_pay31 q k) b0 b1 b2 b3) (k1_pay33 q kc (k1_pay30 l)) (k1_pay34 g o) (k1_pay35 v g) (k1_pay36 g o) (ix2 a d)
      = ((X.dq a d : ℝ) : EReal) := by
  have e1 : ∀ n, k1_pay38 (k1_pay32 (k1_pay30 l) (k1_pay31 q k) b0 b1 b2 b3) (k1_pay35 v g) (k1_pay36 g o) (ix2 a n) = ((X.ds a n : ℝ) : EReal) := grads H a
  have e2 := grads_context H a
  pointwise [k1_pay40]
  simp only [e1, e2, H.reads.k, H.reads.kc, ofBits_scale, ← EReal.coe_mul, ← coe_sum, ← EReal.coe_add]
  rfl

/-- and what it adds to those of the window's keys and values, and of the context's. -/
theorem grad_k (y : Vec Ideal S512x128 .f32) (n : Fin 512) (d : Fin 128) :
    k1_pay41 q (k1_pay32 (k1_pay30 l) (k1_pay31 q k) b0 b1 b2 b3) (k1_pay35 v g) (k1_pay36 g o) y (ix2 n d) = y (ix2 n d) + ((X.dk n d : ℝ) : EReal) := by
  have e1 : ∀ a, k1_pay38 (k1_pay32 (k1_pay30 l) (k1_pay31 q k) b0 b1 b2 b3) (k1_pay35 v g) (k1_pay36 g o) (ix2 a n) = ((X.ds a n : ℝ) : EReal) := fun a => grads H a n
  pointwise [k1_pay41]
  simp only [e1, H.reads.q, ofBits_scale, ← EReal.coe_mul, ← coe_sum]
  rfl

theorem grad_v (y : Vec Ideal S512x128 .f32) (n : Fin 512) (d : Fin 128) :
    k1_pay42 g (k1_pay32 (k1_pay30 l) (k1_pay31 q k) b0 b1 b2 b3) y (ix2 n d) = y (ix2 n d) + ((X.dv n d : ℝ) : EReal) := by
  have e1 := fun a => weights H a n
  pointwise [k1_pay42]
  simp only [e1, H.g, ← EReal.coe_mul, ← coe_sum]
  rfl

theorem grad_kc (y : Vec Ideal S256x128 .f32) (n : Fin 256) (d : Fin 128) :
    k1_pay43 q vc g (k1_pay33 q kc (k1_pay30 l)) (k1_pay34 g o) y (ix2 n d) = y (ix2 n d) + ((X.dkc n d : ℝ) : EReal) := by
  have e1 := fun a => grads_context H a n
  pointwise [k1_pay43]
  simp only [e1, H.reads.q, ofBits_scale, ← EReal.coe_mul, ← coe_sum]
  rfl

theorem grad_vc (y : Vec Ideal S256x128 .f32) (n : Fin 256) (d : Fin 128) :
    k1_pay44 g (k1_pay33 q kc (k1_pay30 l)) y (ix2 n d) = y (ix2 n d) + ((X.dvc n d : ℝ) : EReal) := by
  have e1 := fun a => weights_context H a n
  pointwise [k1_pay44]
  simp only [e1, H.g, ← EReal.coe_mul, ← coe_sum]
  rfl

end

end Blk

end Cert.NaMath

end
-- ==== Proof.NaBias.lean ====
/- The bias of the scores that the host lays out: one tile per pair of window rows, −∞ where a column is not seen. -/
module

public import proofs.«01_k».proof.Proof.NaRun
public import proofs.«01_k».proof.Proof.NaSoft
public import Idealize.ShloMosaic.Lib.Claim

@[expose] public section

set_option maxRecDepth 16384

noncomputable section

namespace Cert.NaMath

open Idealize.ShloMosaic
open Cert.NaKernelIdeal Cert.NaKernelIdeal.Gen

/-- The column of the bias table that a query's column reads for a key's column. -/
def col (a k : ℕ) : ℕ := min 30 (k + 15 - a)

theorem col_lt (a k : ℕ) : col a k < 31 := by unfold col; omega

theorem start_word : ∀ a : Fin 64, IntOp.minsi 48#32 (IntOp.maxsi 0#32 (IntOp.subi (BitVec.ofNat 32 a.val) 8#32)) = BitVec.ofNat 32 (min 48 (a.val - 8)) := by
  decide +kernel
theorem seen_word : ∀ a k : Fin 64, IntOp.andi (IntOp.cmpi .sge (BitVec.ofNat 32 k.val) (BitVec.ofNat 32 (min 48 (a.val - 8))))
    (IntOp.cmpi .slt (BitVec.ofNat 32 k.val) (IntOp.addi (BitVec.ofNat 32 (min 48 (a.val - 8))) 16#32)) = if Sees a.val k.val then 1#1 else 0#1 := by
  decide +kernel
theorem col_word : ∀ a k : Fin 64, IntOp.minsi 30#32 (IntOp.maxsi 0#32 (IntOp.addi (IntOp.subi (BitVec.ofNat 32 k.val) (BitVec.ofNat 32 a.val)) 15#32))
    = BitVec.ofNat 32 (col a.val k.val) := by
  decide +kernel
theorem one_word : ∀ (t : Fin 31) (e : Fin 128) (P : Bool), IntOp.andi (IntOp.cmpi .eq (BitVec.ofNat 32 t.val) (BitVec.ofNat 32 e.val)) (if P then 1#1 else 0#1)
    = if (t.val = e.val ∧ P) then 1#1 else 0#1 := by
  decide +kernel

variable (σ : Valuation τ sig (Elt Ideal))

/-- A reference as one device's own. -/
abbrev dr (r : Ref sig .tc) : DevRef τ sig := Proc.devRef .tc r

theorem start_read (a : Fin 64) :
    (StableHlo.after hostOps0_1 (StableHlo.after hostOps0 σ) (dr main_v3) : Vec Ideal S64 .i32) (ix1 a) = BitVec.ofNat 32 (min 48 (a.val - 8)) := by
  entry_read
  simp -implicitDefEqProofs only [StableHlo.TRef.toBuf, StableHlo.TRef.ofBuf, cast_cast, cast_eq]
  pointwise []
  exact start_word a

theorem seen_read (H : ∀ a, (σ (dr main_v3) : Vec Ideal S64 .i32) (ix1 a) = BitVec.ofNat 32 (min 48 (a.val - 8)))
    (H0 : ∀ a, (σ (dr main_v0) : Vec Ideal S64 .i32) (ix1 a) = BitVec.ofNat 32 a.val) (x : Fin 4096) :
    (StableHlo.after hostOps0_2 σ (dr main_v17) : Vec Ideal S4096 .i1) (ix1 x) = if Sees (x.val / 64) (x.val % 64) then 1#1 else 0#1 := by
  entry_read
  pointwise []
  rw [H, H0]
  exact seen_word ⟨x.val / 64, by omega⟩ ⟨x.val % 64, by omega⟩

theorem col_read (H0 : ∀ a, (σ (dr main_v0) : Vec Ideal S64 .i32) (ix1 a) = BitVec.ofNat 32 a.val) (a k : Fin 64) :
    (StableHlo.after hostOps0_3 (StableHlo.after hostOps0_2 σ) (dr main_v25) : Vec Ideal S64x64 .i32) (ix2 a k) = BitVec.ofNat 32 (col a.val k.val) := by
  entry_read
  simp -implicitDefEqProofs only [StableHlo.TRef.toBuf, StableHlo.TRef.ofBuf, cast_cast, cast_eq]
  pointwise []
  rw [H0, H0]
  exact col_word a k

theorem one_read (H : ∀ x : Fin 4096, (σ (dr main_v17) : Vec Ideal S4096 .i1) (ix1 x) = if Sees (x.val / 64) (x.val % 64) then 1#1 else 0#1)
    (H0 : ∀ a k, (σ (dr main_v25) : Vec Ideal S64x64 .i32) (ix2 a k) = BitVec.ofNat 32 (col a.val k.val)) (e : Fin 128) (x : Fin 4096) :
    (StableHlo.after hostOps0_5 (StableHlo.after hostOps0_4 σ) (dr main_v36) : Vec Ideal S128x4096 .f32) (ix2 e x)
      = if col (x.val / 64) (x.val % 64) = e.val ∧ Sees (x.val / 64) (x.val % 64) then (1 : EReal) else 0 := by
  entry_read
  simp -implicitDefEqProofs only [StableHlo.TRef.toBuf, StableHlo.TRef.ofBuf, cast_cast, cast_eq]
  pointwise []
  rw [H, H0]
  have h := one_word ⟨_, col_lt (x.val / 64) (x.val % 64)⟩ e (decide (Sees (x.val / 64) (x.val % 64)))
  simp only [decide_eq_true_eq] at h
  rw [h]
  split <;> rfl

theorem zero_word : (FloatOps.sitofp .f32 (0#32) : Ideal .f32) = (0 : EReal) := by
  show (((0#32).toInt : ℝ) : EReal) = 0
  simp

theorem rows_read (hn : Fin 120) (e : Fin 128) :
    (StableHlo.after hostOps0_7 (StableHlo.after hostOps0_6 σ) (dr main_v38) : Vec Ideal S120x128 .f32) (ix2 hn e)
      = if h : e.val < 31 then (σ (dr main_arg2) : Vec Ideal S8x15x31 .f32) (ix3 ⟨hn.val / 15, by omega⟩ ⟨hn.val % 15, by omega⟩ ⟨e.val, h⟩) else (0 : EReal) := by
  entry_read
  simp -implicitDefEqProofs only [StableHlo.TRef.toBuf, StableHlo.TRef.ofBuf, cast_cast, cast_eq]
  pointwise []
  rw [zero_word]

/-- A table's row against a column of the selection is the entry that the column names, or nothing. -/
theorem sum_select (t : ℕ) (ht : t < 31) (P : Prop) [Decidable P] (f : Fin 31 → EReal) :
    ∑ e : Fin 128, (if h : e.val < 31 then f ⟨e.val, h⟩ else 0) * (if t = e.val ∧ P then (1 : EReal) else 0) = if P then f ⟨t, ht⟩ else 0 := by
  rw [Finset.sum_eq_single (⟨t, by omega⟩ : Fin 128)]
  · rw [dif_pos ht]
    by_cases h : P
    · rw [if_pos ⟨rfl, h⟩, if_pos h, mul_one]
    · rw [if_neg fun x => h x.2, if_neg h, mul_zero]
  · intro b _ hb
    rw [if_neg, mul_zero]
    rintro ⟨h, -⟩
    exact hb (Fin.ext h.symm)
  · exact fun h => absurd (Finset.mem_univ _) h

theorem tiles_read (A : Fin 120 → Fin 31 → EReal)
    (H1 : ∀ hn e, (σ (dr main_v38) : Vec Ideal S120x128 .f32) (ix2 hn e) = if h : e.val < 31 then A hn ⟨e.val, h⟩ else (0 : EReal))
    (H2 : ∀ e x, (σ (dr main_v36) : Vec Ideal S128x4096 .f32) (ix2 e x)
      = if col (x.val / 64) (x.val % 64) = e.val ∧ Sees (x.val / 64) (x.val % 64) then (1 : EReal) else 0)
    (H : ∀ x : Fin 4096, (σ (dr main_v17) : Vec Ideal S4096 .i1) (ix1 x) = if Sees (x.val / 64) (x.val % 64) then 1#1 else 0#1)
    (hn : Fin 120) (x : Fin 4096) :
    (StableHlo.after hostOps0_10 (StableHlo.after hostOps0_9 (StableHlo.after hostOps0_8 σ)) (dr main_v50) : Vec Ideal S120x4096 .f32) (ix2 hn x)
      = if Sees (x.val / 64) (x.val % 64) then A hn ⟨_, col_lt (x.val / 64) (x.val % 64)⟩ else (⊥ : EReal) := by
  entry_read
  simp -implicitDefEqProofs only [StableHlo.TRef.toBuf, StableHlo.TRef.ofBuf, cast_cast, cast_eq]
  pointwise []
  simp only [H1, H2, H]
  rw [sum_select _ (col_lt ..) _ (A hn), ofBits_ninf]
  split
  · exact add_zero (M := EReal) _
  · exact EReal.add_bot _

theorem pairs_read (h : Fin 8) (n : Fin 14) (q : Fin 64) (k : Fin 128) :
    (StableHlo.after hostOps0_10 σ (dr main_v54) : Vec Ideal S8x14x64x128 .f32) (ix4 h n q k)
      = (StableHlo.after hostOps0_10 σ (dr main_v50) : Vec Ideal S120x4096 .f32)
        (ix2 ⟨h.val * 15 + (n.val + k.val / 64), by omega⟩ ⟨q.val * 64 + k.val % 64, by omega⟩) := by
  entry_read
  pointwise []
  by_cases hk : k.val < 64
  · rw [dif_pos hk]
    simp only [show k.val / 64 = 0 by omega, show k.val % 64 = k.val by omega, add_zero]
  · rw [dif_neg hk]
    simp only [show k.val / 64 = 1 by omega, show k.val % 64 = k.val - 64 by omega, add_comm 1]

variable (m : (ℓ : Loc nD τ sig) → Buf (Elt Ideal) ℓ) (c : Dev nD)

theorem cols_at (a : Fin 64) : (V1 m c (dr main_v0) : Vec Ideal S64 .i32) (ix1 a) = BitVec.ofNat 32 a.val := by
  show (StableHlo.after hostOps0 (V0 m c) (dr main_v0) : Vec Ideal S64 .i32) (ix1 a) = _
  entry_read
  pointwise []

theorem cols_at2 (a : Fin 64) : (V2 m c (dr main_v0) : Vec Ideal S64 .i32) (ix1 a) = BitVec.ofNat 32 a.val := by
  rw [V2_of m c main_v0 (by decide)]
  exact cols_at m c a

theorem seen_at (x : Fin 4096) : (V3 m c (dr main_v17) : Vec Ideal S4096 .i1) (ix1 x) = if Sees (x.val / 64) (x.val % 64) then 1#1 else 0#1 :=
  seen_read (V2 m c) (start_read (V0 m c)) (cols_at2 m c) x

theorem one_at (e : Fin 128) (x : Fin 4096) : (V6 m c (dr main_v36) : Vec Ideal S128x4096 .f32) (ix2 e x)
    = if col (x.val / 64) (x.val % 64) = e.val ∧ Sees (x.val / 64) (x.val % 64) then (1 : EReal) else 0 :=
  one_read (V4 m c) (fun x => by rw [V4_of m c main_v17 (by decide)]; exact seen_at m c x)
    (col_read (V2 m c) (cols_at2 m c)) e x

/-- The bias that the scores of two window rows read. -/
theorem bias_at (h : Fin 8) (n : Fin 14) (q : Fin 64) (k : Fin 128) :
    (V11 m c (dr main_v54) : Vec Ideal S8x14x64x128 .f32) (ix4 h n q k)
      = if Sees q.val (k.val % 64) then (V0 m c (dr main_arg2) : Vec Ideal S8x15x31 .f32)
          (ix3 h ⟨n.val + k.val / 64, by omega⟩ ⟨col q.val (k.val % 64), col_lt ..⟩) else (⊥ : EReal) := by
  refine (pairs_read (V10 m c) h n q k).trans ?_
  refine (tiles_read (V8 m c) (fun hn e => (V0 m c (dr main_arg2) : Vec Ideal S8x15x31 .f32) (ix3 ⟨hn.val / 15, by omega⟩ ⟨hn.val % 15, by omega⟩ e))
    (fun hn e => ?_) (fun e x => ?_) (fun x => ?_) _ _).trans ?_
  · refine (rows_read (V6 m c) hn e).trans ?_
    rw [V6_of m c main_arg2 (by decide), V5_of m c main_arg2 (by decide), V4_of m c main_arg2 (by decide), V3_of m c main_arg2 (by decide),
      V2_of m c main_arg2 (by decide), V1_of m c main_arg2 (by decide)]
  · rw [V8_of m c main_v36 (by decide), V7_of m c main_v36 (by decide)]
    exact one_at m c e x
  · rw [V8_of m c main_v17 (by decide), V7_of m c main_v17 (by decide), V6_of m c main_v17 (by decide), V5_of m c main_v17 (by decide), V4_of m c main_v17 (by decide)]
    exact seen_at m c x
  · simp only [show (h.val * 15 + (n.val + k.val / 64)) / 15 = h.val by omega, show (h.val * 15 + (n.val + k.val / 64)) % 15 = n.val + k.val / 64 by omega,
      show (q.val * 64 + k.val % 64) / 64 = q.val by omega, show (q.val * 64 + k.val % 64) % 64 = k.val % 64 by omega]

end Cert.NaMath
-- ==== Proof.NaBlocks.lean ====
/- The block of queries of one head and one row of the image, cut out of the attention's arrays; what the loads of the
   two kernels read of it. -/
module

public import proofs.«01_k».proof.Proof.NaBias
public import Idealize.ShloMosaic.Lib.WholeRead
public import Idealize.ShloMosaic.Lib.WritesUnit

@[expose] public section

set_option maxRecDepth 16384

noncomputable section

namespace Cert.NaMath

open Idealize.ShloMosaic
open Cert.NaKernelIdeal Cert.NaKernelIdeal.Gen
open Cert.NaKernelIdeal.NaOff (st)

/-- The four arrays that the attention and its gradient are given, as numbers: queries, keys and values of the image;
    keys and values of the context; the table of biases; the cotangent (its right half is the output's). -/
structure Arrays where
  a0 : Fin 4096 → Fin 3072 → ℝ
  a1 : Fin 256 → Fin 2048 → ℝ
  a2 : Fin 8 → Fin 15 → Fin 31 → ℝ
  a3 : Fin 4096 → Fin 2048 → ℝ

variable (A : Arrays)

/-- What head `h` reads for row `r` of the image. -/
def blk (h : Fin 8) (r : Fin 64) : Blk where
  q a d := A.a0 ⟨r.val * 64 + a.val, by omega⟩ ⟨h.val * 128 + d.val, by omega⟩
  k n d := A.a0 ⟨st r.val * 64 + n.val, by unfold st; omega⟩ ⟨1024 + (h.val * 128 + d.val), by omega⟩
  v n d := A.a0 ⟨st r.val * 64 + n.val, by unfold st; omega⟩ ⟨2048 + (h.val * 128 + d.val), by omega⟩
  kc n d := A.a1 n ⟨h.val * 128 + d.val, by omega⟩
  vc n d := A.a1 n ⟨1024 + (h.val * 128 + d.val), by omega⟩
  b a n := A.a2 h ⟨7 + st r.val - r.val + n.val / 64, by unfold st; omega⟩ ⟨col a.val (n.val % 64), col_lt ..⟩
  g a d := A.a3 ⟨r.val * 64 + a.val, by omega⟩ ⟨1024 + (h.val * 128 + d.val), by omega⟩

/-- The blocks that a point of a kernel's grid holds, for the pair `g` of heads and row `r` of the image. -/
structure Holds (g : Fin 4) (r : Fin 64) (x0 : Vec Ideal S64x256 .bf16) (x1 x2 : Vec Ideal S4096x256 .bf16) (x3 x4 : Vec Ideal S256x256 .bf16)
    (x5 : Vec Ideal S2x14x64x128 .f32) : Prop where
  q : ∀ a j, x0 (ix2 a j) = ((A.a0 ⟨r.val * 64 + a.val, by omega⟩ ⟨g.val * 256 + j.val, by omega⟩ : ℝ) : EReal)
  k : ∀ i j, x1 (ix2 i j) = ((A.a0 i ⟨1024 + (g.val * 256 + j.val), by omega⟩ : ℝ) : EReal)
  v : ∀ i j, x2 (ix2 i j) = ((A.a0 i ⟨2048 + (g.val * 256 + j.val), by omega⟩ : ℝ) : EReal)
  kc : ∀ i j, x3 (ix2 i j) = ((A.a1 i ⟨g.val * 256 + j.val, by omega⟩ : ℝ) : EReal)
  vc : ∀ i j, x4 (ix2 i j) = ((A.a1 i ⟨1024 + (g.val * 256 + j.val), by omega⟩ : ℝ) : EReal)
  b : ∀ (hh : Fin 2) (n : Fin 14) (a : Fin 64) (k : Fin 128), x5 (ix4 hh n a k)
    = if Sees a.val (k.val % 64) then ((A.a2 ⟨2 * g.val + hh.val, by omega⟩ ⟨n.val + k.val / 64, by omega⟩ ⟨col a.val (k.val % 64), col_lt ..⟩ : ℝ) : EReal) else ⊥

/-- A load of a part of a whole block reads the block at the part's place. -/
theorem load {s : Shape} {e : EltTy} {mm : Memref sig .tc .vmem s e} (h : mm.IsWhole) (X : s.Idx → Elt Ideal e) {off off' size : Fin s.rank → ℕ} {inb}
    (heq : off = off') (i : (Rect.unit (s := s) off size inb).shape.Idx) (w : s.Idx) (hw : ∀ a, (w a).val = off' a + (i a).val) :
    View.readAt (Elt Ideal) mm.view (Rect.unit (s := s) off size inb).toLoadRect (h.unread X) i = X w := by
  subst heq
  refine (h.readAt_unread X _ i).trans (congrArg X (funext fun a => Fin.ext ?_))
  show off a + 1 * (i a).val = _
  rw [hw a, one_mul]

/-- Head `hh` of the pair `g`. -/
abbrev head (g : Fin 4) (hh : Fin 2) : Fin 8 := ⟨2 * g.val + hh.val, by omega⟩

section

variable {A} {g : Fin 4} {r : Fin 64} {x0 : Vec Ideal S64x256 .bf16} {x1 x2 : Vec Ideal S4096x256 .bf16} {x3 x4 : Vec Ideal S256x256 .bf16}
  {x5 : Vec Ideal S2x14x64x128 .f32} (H : Holds A g r x0 x1 x2 x3 x4 x5) (hh : Fin 2)
  {m0 : Memref sig .tc .vmem S64x256 .bf16} (h0 : m0.IsWhole) {m1 : Memref sig .tc .vmem S4096x256 .bf16} (h1 : m1.IsWhole)
  {m2 : Memref sig .tc .vmem S4096x256 .bf16} (h2 : m2.IsWhole) {m3 : Memref sig .tc .vmem S256x256 .bf16} (h3 : m3.IsWhole)
  {m4 : Memref sig .tc .vmem S256x256 .bf16} (h4 : m4.IsWhole) {m5 : Memref sig .tc .vmem S2x14x64x128 .f32} (h5 : m5.IsWhole)
include H

theorem bias_part {m5 : Memref sig .tc .vmem S2x14x64x128 .f32} (h5 : m5.IsWhole) {off : Fin S2x14x64x128.rank → ℕ} {inb} (j : ℕ) (hj : j ≤ 3)
    (heq : off = ![hh.val, 7 + st r.val + 2 * j - r.val, 0, 0]) (a : Fin 64) (n : Fin 512) (k : ℕ) (hk : k < 128) (hn : n.val = 128 * j + k) :
    (View.readAt (Elt Ideal) m5.view (Rect.unit (s := S2x14x64x128) off S1x1x64x128.size inb).toLoadRect (h5.unread x5) : Vec Ideal S1x1x64x128 .f32) (ix4 0 0 a ⟨k, hk⟩)
      = (blk A (head g hh) r).bE a n := by
  have hs : st r.val ≤ r.val ∧ r.val ≤ st r.val + 7 := by unfold st; omega
  refine (load h5 x5 heq (ix4 0 0 a ⟨k, hk⟩) (ix4 hh ⟨7 + st r.val + 2 * j - r.val, by omega⟩ a ⟨k, hk⟩) ?_).trans ((H.b ..).trans ?_)
  · intro b
    match b with
    | 0 => exact (add_zero _).symm
    | 1 => exact (add_zero _).symm
    | 2 => exact (zero_add _).symm
    | 3 => exact (zero_add _).symm
  · unfold Blk.bE blk
    have e : n.val % 64 = k % 64 := by omega
    have e' : 7 + st r.val + 2 * j - r.val + k / 64 = 7 + st r.val - r.val + n.val / 64 := by omega
    simp only [e, e']

theorem reads {offk offv : Fin S4096x256.rank → ℕ} {off0 : Fin S64x256.rank → ℕ} {off3 : Fin S256x256.rank → ℕ} {o0 o1 o2 o3 : Fin S2x14x64x128.rank → ℕ}
    {i0 i1 i2 i3 i4 j0 j1 j2 j3}
    (e0 : off0 = ![0, hh.val * 128]) (e1 : offk = ![64 * st r.val, hh.val * 128]) (e2 : offv = ![64 * st r.val, hh.val * 128]) (e3 : off3 = ![0, hh.val * 128])
    (b0 : o0 = ![hh.val, 7 + st r.val + 0 - r.val, 0, 0]) (b1 : o1 = ![hh.val, 7 + st r.val + 2 - r.val, 0, 0])
    (b2 : o2 = ![hh.val, 7 + st r.val + 4 - r.val, 0, 0]) (b3 : o3 = ![hh.val, 7 + st r.val + 6 - r.val, 0, 0]) :
    (blk A (head g hh) r).Reads
      (View.readAt (Elt Ideal) m0.view (Rect.unit (s := S64x256) off0 S64x128.size i0).toLoadRect (h0.unread x0))
      (View.readAt (Elt Ideal) m1.view (Rect.unit (s := S4096x256) offk S512x128.size i1).toLoadRect (h1.unread x1))
      (View.readAt (Elt Ideal) m2.view (Rect.unit (s := S4096x256) offv S512x128.size i2).toLoadRect (h2.unread x2))
      (View.readAt (Elt Ideal) m3.view (Rect.unit (s := S256x256) off3 S256x128.size i3).toLoadRect (h3.unread x3))
      (View.readAt (Elt Ideal) m4.view (Rect.unit (s := S256x256) off3 S256x128.size i4).toLoadRect (h4.unread x4))
      (View.readAt (Elt Ideal) m5.view (Rect.unit (s := S2x14x64x128) o0 S1x1x64x128.size j0).toLoadRect (h5.unread x5))
      (View.readAt (Elt Ideal) m5.view (Rect.unit (s := S2x14x64x128) o1 S1x1x64x128.size j1).toLoadRect (h5.unread x5))
      (View.readAt (Elt Ideal) m5.view (Rect.unit (s := S2x14x64x128) o2 S1x1x64x128.size j2).toLoadRect (h5.unread x5))
      (View.readAt (Elt Ideal) m5.view (Rect.unit (s := S2x14x64x128) o3 S1x1x64x128.size j3).toLoadRect (h5.unread x5)) where
  q a d := by
    refine (load h0 x0 e0 (ix2 a d) (ix2 a ⟨hh.val * 128 + d.val, by omega⟩) (fun b => match b with | 0 => (zero_add _).symm | 1 => rfl)).trans ((H.q ..).trans ?_)
    exact congrArg (fun j => ((A.a0 ⟨r.val * 64 + a.val, by omega⟩ j : ℝ) : EReal)) (Fin.ext (by simp only; omega))
  k n d := by
    refine (load h1 x1 e1 (ix2 n d) (ix2 ⟨64 * st r.val + n.val, by unfold st; omega⟩ ⟨hh.val * 128 + d.val, by omega⟩) (fun b => match b with | 0 => rfl | 1 => rfl)).trans ((H.k ..).trans ?_)
    exact congrArg₂ (fun i j => ((A.a0 i j : ℝ) : EReal)) (Fin.ext (by simp only; omega)) (Fin.ext (by simp only; omega))
  v n d := by
    refine (load h2 x2 e2 (ix2 n d) (ix2 ⟨64 * st r.val + n.val, by unfold st; omega⟩ ⟨hh.val * 128 + d.val, by omega⟩) (fun b => match b with | 0 => rfl | 1 => rfl)).trans ((H.v ..).trans ?_)
    exact congrArg₂ (fun i j => ((A.a0 i j : ℝ) : EReal)) (Fin.ext (by simp only; omega)) (Fin.ext (by simp only; omega))
  kc n d := by
    refine (load h3 x3 e3 (ix2 n d) (ix2 n ⟨hh.val * 128 + d.val, by omega⟩) (fun b => match b with | 0 => (zero_add _).symm | 1 => rfl)).trans ((H.kc ..).trans ?_)
    exact congrArg (fun j => ((A.a1 n j : ℝ) : EReal)) (Fin.ext (by simp only; omega))
  vc n d := by
    refine (load h4 x4 e3 (ix2 n d) (ix2 n ⟨hh.val * 128 + d.val, by omega⟩) (fun b => match b with | 0 => (zero_add _).symm | 1 => rfl)).trans ((H.vc ..).trans ?_)
    exact congrArg (fun j => ((A.a1 n j : ℝ) : EReal)) (Fin.ext (by simp only; omega))
  b0 a n h := bias_part H hh h5 0 (by omega) b0 a n _ h (by omega)
  b1 a n h h' := bias_part H hh h5 1 (by omega) b1 a n _ h (by omega)
  b2 a n h h' := bias_part H hh h5 2 (by omega) b2 a n _ h (by omega)
  b3 a n h h' := bias_part H hh h5 3 (by omega) b3 a n _ h (by omega)

end

end Cert.NaMath
-- ==== Proof.NaRefIdx.lean ====
/- The reference's integer arrays: the image row and the bias' row and column that a query reads, and what its gathers
   and its scatters do with them. -/
module

public import proofs.«01_k».proof.Proof.NaBlocks
public import proofs.«01_k».proof.Proof.Gen.NaReferenceIdeal.Read
public import Idealize.ShloMosaic.Lib.Routing.OpsPair

@[expose] public section

set_option maxRecDepth 16384

noncomputable section

namespace Cert.NaMath

open Idealize.ShloMosaic Idealize.ShloMosaic.Routing Cert.NaKernelIdeal.NaOff
open Cert.NaReferenceIdeal Cert.NaReferenceIdeal.Gen Cert.NaReferenceIdeal.Read

theorem row_word : ∀ (r : Fin 64) (i : Fin 8), IntOp.addi (IntOp.minsi 56#32 (IntOp.maxsi 0#32 (IntOp.subi (BitVec.ofNat 32 r.val) 4#32))) (BitVec.ofNat 32 i.val)
    = BitVec.ofNat 32 (st r.val + i.val) := by decide +kernel
theorem row_idx_word : ∀ (r : Fin 64) (i : Fin 8), IntOp.addi (IntOp.subi (BitVec.ofNat 32 (st r.val + i.val)) (BitVec.ofNat 32 r.val)) 7#32
    = BitVec.ofNat 32 (7 + st r.val - r.val + i.val) := by decide +kernel
theorem wrap64 : ∀ n : Fin 64, Scalar.select (IntOp.cmpi .slt (BitVec.ofNat 32 n.val) 0#32) (IntOp.addi (BitVec.ofNat 32 n.val) 64#32) (BitVec.ofNat 32 n.val) = BitVec.ofNat 32 n.val := by
  decide +kernel
theorem wrap15 : ∀ n : Fin 15, Scalar.select (IntOp.cmpi .slt (BitVec.ofNat 32 n.val) 0#32) (IntOp.addi (BitVec.ofNat 32 n.val) 15#32) (BitVec.ofNat 32 n.val) = BitVec.ofNat 32 n.val := by
  decide +kernel
theorem wrap31 : ∀ n : Fin 31, Scalar.select (IntOp.cmpi .slt (BitVec.ofNat 32 n.val) 0#32) (IntOp.addi (BitVec.ofNat 32 n.val) 31#32) (BitVec.ofNat 32 n.val) = BitVec.ofNat 32 n.val := by
  decide +kernel

theorem row_at (r : Fin 64) (i : Fin 8) : val_main_v21 (F := Ideal) (ix2 r i) = BitVec.ofNat 32 (st r.val + i.val) := by
  pointwise [val_main_v21, val_main_v20, val_main_v19, val_main_v18, val_main_v17, val_main_v16, val_main_v15, val_main_v14, val_main_v13, val_main_v12, val_main_c,
    val_main_c_0, val_main_c_1, val_main_call0_v4, val_main_call0_v3, val_main_call0_v2, val_main_call0_v1, val_main_call0_v0]
  exact row_word r i

theorem wrapped_at (r : Fin 64) (i : Fin 8) : val_main_v77 (F := Ideal) (ix3 r i 0) = BitVec.ofNat 32 (st r.val + i.val) := by
  have h := row_at r i
  pointwise [val_main_v77, val_main_v76, val_main_v75, val_main_v74, val_main_v73, val_main_v72, val_main_c_14, val_main_c_15]
  rw [h]
  exact wrap64 ⟨st r.val + i.val, by unfold st; omega⟩

theorem wrapped_at' : val_main_v85 (F := Ideal) = val_main_v77 (F := Ideal) := rfl

theorem bias_row_at (r : Fin 64) (a : Fin 64) (i : Fin 8) (k : Fin 64) : val_main_v68 (F := Ideal) (ix5 r a i k 0) = BitVec.ofNat 32 (7 + st r.val - r.val + i.val) := by
  have h := row_at r i
  pointwise [val_main_v68, val_main_v66, val_main_v64, val_main_v58, val_main_v57, val_main_v56, val_main_v55, val_main_v54, val_main_v52, val_main_c_10, val_main_c_11,
    val_main_v43, val_main_v42, val_main_v41, val_main_v40, val_main_v39, val_main_v12, val_main_c_6]
  rw [h, row_idx_word]
  exact wrap15 ⟨7 + st r.val - r.val + i.val, by unfold st; omega⟩

theorem bias_col_at (r : Fin 64) (a : Fin 64) (i : Fin 8) (k : Fin 64) : val_main_v68 (F := Ideal) (ix5 r a i k 1) = BitVec.ofNat 32 (col a.val k.val) := by
  pointwise [val_main_v68, val_main_v67, val_main_v65, val_main_v63, val_main_v62, val_main_v61, val_main_v60, val_main_v59, val_main_v53, val_main_c_12, val_main_c_13,
    val_main_v51, val_main_v50, val_main_v49, val_main_v48, val_main_v47, val_main_v46, val_main_v45, val_main_v44, val_main_v22, val_main_c_7, val_main_c_8, val_main_c_9,
    val_main_call2_v4, val_main_call2_v3, val_main_call2_v2, val_main_call2_v1, val_main_call2_v0]
  simp only [id_eq, constantI]
  rw [col_word]
  exact wrap31 ⟨col a.val k.val, col_lt ..⟩

theorem seen_at_ref (a k : Fin 64) : val_main_v38 (F := Ideal) (ix2 a k) = if Sees a.val k.val then 1#1 else 0#1 := by
  pointwise [val_main_v38, val_main_v37, val_main_v36, val_main_v35, val_main_v34, val_main_v33, val_main_v32, val_main_v31, val_main_v30, val_main_v29, val_main_v28,
    val_main_v27, val_main_v26, val_main_v25, val_main_v24, val_main_v23, val_main_v22, val_main_c_2, val_main_c_3, val_main_c_4, val_main_c_5,
    val_main_call1_v4, val_main_call1_v3, val_main_call1_v2, val_main_call1_v1, val_main_call1_v0]
  simp only [id_eq, constantI]
  rw [start_word]
  exact seen_word a k

theorem ofNat_toInt (n : ℕ) (h : n < 64) : (BitVec.ofNat 32 n).toInt = n := by
  rw [BitVec.toInt_eq_toNat_of_lt (by simp; omega), BitVec.toNat_ofNat, Nat.mod_eq_of_lt (by omega)]

theorem gather_rows (x : S1x64x64x8x128.Idx → EReal) (r : Fin 64) (i : Fin 8) (k : Fin 64) (h : Fin 8) (d : Fin 128) :
    Host.gather gather_S1x64x64x8x128_S64x8x1_S1x64x8x64x8x128_0345_1_n_n_1_2_11648128 x (val_main_v77 (F := Ideal)) (ix6 0 r i k h d)
      = x (ix5 0 ⟨st r.val + i.val, by unfold st; omega⟩ k h d) := by
  unfold Host.gather
  refine congrArg x (funext fun a => Fin.ext ?_)
  match a with
  | ⟨0, _⟩ => rfl
  | ⟨1, _⟩ =>
    show min (val_main_v77 (F := Ideal) _).toInt.toNat 63 + 0 + 0 = st r.val + i.val
    refine (congrArg (fun y => min (val_main_v77 (F := Ideal) y).toInt.toNat 63 + 0 + 0) (show _ = ix3 r i 0 from ?_)).trans ?_
    · funext b
      match b with
      | ⟨0, _⟩ => rfl
      | ⟨1, _⟩ => rfl
      | ⟨2, _⟩ => rfl
    · have h1 : st r.val + i.val < 64 := by unfold st; omega
      simp only [wrapped_at, ofNat_toInt _ h1]
      omega
  | ⟨2, _⟩ => exact Nat.zero_add _
  | ⟨3, _⟩ => exact Nat.zero_add _
  | ⟨4, _⟩ => exact Nat.zero_add _

theorem gather_bias (x : S8x15x31.Idx → EReal) (h : Fin 8) (r a : Fin 64) (i : Fin 8) (k : Fin 64) :
    Host.gather gather_S8x15x31_S64x64x8x64x2_S8x64x64x8x64_0_12_n_n_12_4_811 x (val_main_v68 (F := Ideal)) (ix5 h r a i k)
      = x (ix3 h ⟨7 + st r.val - r.val + i.val, by unfold st; omega⟩ ⟨col a.val k.val, col_lt ..⟩) := by
  have h1 : 7 + st r.val - r.val + i.val < 15 := by unfold st; omega
  have h2 := col_lt a.val k.val
  unfold Host.gather
  refine congrArg x (funext fun d => Fin.ext ?_)
  match d with
  | ⟨0, _⟩ => exact Nat.zero_add _
  | ⟨1, _⟩ =>
    show min (val_main_v68 (F := Ideal) _).toInt.toNat 14 + 0 + 0 = 7 + st r.val - r.val + i.val
    refine (congrArg (fun y => min (val_main_v68 (F := Ideal) y).toInt.toNat 14 + 0 + 0) (show _ = ix5 r a i k 0 from ?_)).trans ?_
    · funext b
      match b with
      | ⟨0, _⟩ => rfl
      | ⟨1, _⟩ => rfl
      | ⟨2, _⟩ => rfl
      | ⟨3, _⟩ => rfl
      | ⟨4, _⟩ => rfl
    · simp only [bias_row_at, ofNat_toInt _ (show 7 + st r.val - r.val + i.val < 64 by omega)]
      omega
  | ⟨2, _⟩ =>
    show min (val_main_v68 (F := Ideal) _).toInt.toNat 30 + 0 + 0 = col a.val k.val
    refine (congrArg (fun y => min (val_main_v68 (F := Ideal) y).toInt.toNat 30 + 0 + 0) (show _ = ix5 r a i k 1 from ?_)).trans ?_
    · funext b
      match b with
      | ⟨0, _⟩ => rfl
      | ⟨1, _⟩ => rfl
      | ⟨2, _⟩ => rfl
      | ⟨3, _⟩ => rfl
      | ⟨4, _⟩ => rfl
    · simp only [bias_col_at, ofNat_toInt _ (show col a.val k.val < 64 by omega)]
      omega

theorem lands_rows (r : Fin 64) (i : Fin 8) (k : Fin 64) (h : Fin 8) (d : Fin 128) (R k' : Fin 64) (h' : Fin 8) (d' : Fin 128) :
    scatter_S1x64x64x8x128_S64x8x1_S1x64x8x64x8x128_0345_1_1_2.resultIdx? (ix6 0 r i k h d) (val_main_v77 (F := Ideal)) = some (ix5 0 R k' h' d')
      ↔ st r.val + i.val = R.val ∧ k = k' ∧ h = h' ∧ d = d' := by
  have h1 : st r.val + i.val < 64 := by unfold st; omega
  have e1 : scatter_S1x64x64x8x128_S64x8x1_S1x64x8x64x8x128_0345_1_1_2.start (ix6 0 r i k h d) (val_main_v77 (F := Ideal)) 1 = ((st r.val + i.val : ℕ) : ℤ) := by
    show (val_main_v77 (F := Ideal) _).toInt = _
    refine (congrArg (fun y => (val_main_v77 (F := Ideal) y).toInt) (show _ = ix3 r i 0 from ?_)).trans ?_
    · funext b
      match b with
      | ⟨0, _⟩ => rfl
      | ⟨1, _⟩ => rfl
      | ⟨2, _⟩ => rfl
    · simp only [wrapped_at, ofNat_toInt _ h1]
  rw [resultIdx?_eq_some]
  constructor
  · intro H
    have H1 := H 1
    rw [e1] at H1
    have H1' : ((st r.val + i.val : ℕ) : ℤ) + ((0 : ℕ) : ℤ) = (R.val : ℤ) := H1
    have H2 : (0 : ℤ) + (k.val : ℤ) = k'.val := H 2
    have H3 : (0 : ℤ) + (h.val : ℤ) = h'.val := H 3
    have H4 : (0 : ℤ) + (d.val : ℤ) = d'.val := H 4
    exact ⟨by omega, Fin.ext (by omega), Fin.ext (by omega), Fin.ext (by omega)⟩
  · rintro ⟨H, rfl, rfl, rfl⟩ a
    match a with
    | ⟨0, _⟩ => rfl
    | ⟨1, _⟩ =>
      refine (congrArg (· + _) e1).trans ?_
      show ((st r.val + i.val : ℕ) : ℤ) + ((0 : ℕ) : ℤ) = (R.val : ℤ)
      omega
    | ⟨2, _⟩ => exact zero_add _
    | ⟨3, _⟩ => exact zero_add _
    | ⟨4, _⟩ => exact zero_add _

/-- The bias' scatter, as a record of dimensions. -/
abbrev biasDims := scatter_S8x15x31_S64x64x8x64x2_S8x64x64x8x64_0_12_12_4

theorem bias_si (h : Fin 8) (r a : Fin 64) (i : Fin 8) (k : Fin 64) (c : Fin 2) : biasDims.siIdx (ix5 h r a i k) c = ix5 r a i k c := by
  funext b
  match b with
  | ⟨0, _⟩ => rfl
  | ⟨1, _⟩ => rfl
  | ⟨2, _⟩ => rfl
  | ⟨3, _⟩ => rfl
  | ⟨4, _⟩ => rfl

theorem bias_start1 (h : Fin 8) (r a : Fin 64) (i : Fin 8) (k : Fin 64) :
    biasDims.start (ix5 h r a i k) (val_main_v68 (F := Ideal)) 1 = ((7 + st r.val - r.val + i.val : ℕ) : ℤ) := by
  have h1 : 7 + st r.val - r.val + i.val < 15 := by unfold st; omega
  unfold ScatterDims.start
  refine (dif_pos (show (1 : Fin S8x15x31.rank) ∈ biasDims.scatterDimsToOperandDims by decide)).trans ?_
  exact (congrArg (fun y => BitVec.toInt (val_main_v68 (F := Ideal) y)) (bias_si h r a i k 0)).trans
    ((congrArg BitVec.toInt (bias_row_at r a i k)).trans (ofNat_toInt _ (by omega)))

theorem bias_start2 (h : Fin 8) (r a : Fin 64) (i : Fin 8) (k : Fin 64) :
    biasDims.start (ix5 h r a i k) (val_main_v68 (F := Ideal)) 2 = ((col a.val k.val : ℕ) : ℤ) := by
  have h2 := col_lt a.val k.val
  unfold ScatterDims.start
  refine (dif_pos (show (2 : Fin S8x15x31.rank) ∈ biasDims.scatterDimsToOperandDims by decide)).trans ?_
  exact (congrArg (fun y => BitVec.toInt (val_main_v68 (F := Ideal) y)) (bias_si h r a i k 1)).trans
    ((congrArg BitVec.toInt (bias_col_at r a i k)).trans (ofNat_toInt _ (by omega)))

theorem lands_bias (h : Fin 8) (r a : Fin 64) (i : Fin 8) (k : Fin 64) (h' : Fin 8) (n : Fin 15) (e : Fin 31) :
    biasDims.resultIdx? (ix5 h r a i k) (val_main_v68 (F := Ideal)) = some (ix3 h' n e)
      ↔ h = h' ∧ 7 + st r.val - r.val + i.val = n.val ∧ col a.val k.val = e.val := by
  have s0 : biasDims.start (ix5 h r a i k) (val_main_v68 (F := Ideal)) 0 = 0 := by
    unfold ScatterDims.start
    exact dif_neg (show (0 : Fin S8x15x31.rank) ∉ biasDims.scatterDimsToOperandDims by decide)
  have w0 : biasDims.window (ix5 h r a i k) 0 = h.val := rfl
  have w1 : biasDims.window (ix5 h r a i k) 1 = 0 := rfl
  have w2 : biasDims.window (ix5 h r a i k) 2 = 0 := rfl
  have s1 := bias_start1 h r a i k
  have s2 := bias_start2 h r a i k
  have c0 : (ix3 h' n e 0).val = h'.val := rfl
  have c1 : (ix3 h' n e 1).val = n.val := rfl
  have c2 : (ix3 h' n e 2).val = e.val := rfl
  rw [resultIdx?_eq_some]
  constructor
  · intro H
    have H0 := H 0
    have H1 := H 1
    have H2 := H 2
    rw [s0, w0, c0] at H0
    rw [s1, w1, c1] at H1
    rw [s2, w2, c2] at H2
    exact ⟨Fin.ext (by omega), by omega, by omega⟩
  · rintro ⟨rfl, H1, H2⟩ b
    have K0 : biasDims.start (ix5 h r a i k) (val_main_v68 (F := Ideal)) 0 + (biasDims.window (ix5 h r a i k) 0 : ℤ) = ((ix3 h n e 0).val : ℤ) := by
      rw [s0, w0, c0]; omega
    have K1 : biasDims.start (ix5 h r a i k) (val_main_v68 (F := Ideal)) 1 + (biasDims.window (ix5 h r a i k) 1 : ℤ) = ((ix3 h n e 1).val : ℤ) := by
      rw [s1, w1, c1]; omega
    have K2 : biasDims.start (ix5 h r a i k) (val_main_v68 (F := Ideal)) 2 + (biasDims.window (ix5 h r a i k) 2 : ℤ) = ((ix3 h n e 2).val : ℤ) := by
      rw [s2, w2, c2]; omega
    match b with
    | ⟨0, _⟩ => exact K0
    | ⟨1, _⟩ => exact K1
    | ⟨2, _⟩ => exact K2

theorem scatter_rows (x : S1x64x64x8x128.Idx → EReal) (u : S1x64x8x64x8x128.Idx → EReal) (R k : Fin 64) (h : Fin 8) (d : Fin 128) :
    Ideal.hostScatterAdd scatter_S1x64x64x8x128_S64x8x1_S1x64x8x64x8x128_0345_1_1_2 x (val_main_v77 (F := Ideal)) u (ix5 0 R k h d)
      = x (ix5 0 R k h d) + ∑ r : Fin 64, ∑ i : Fin 8, if st r.val + i.val = R.val then u (ix6 0 r i k h d) else 0 := by
  unfold Ideal.hostScatterAdd
  rw [Finset.sum_filter, sum_idx6, Fin.sum_univ_one]
  refine congrArg (x _ + ·) (Finset.sum_congr rfl fun r _ => Finset.sum_congr rfl fun i _ => ?_)
  simp only [lands_rows, ite_and, Finset.sum_ite_eq', Finset.mem_univ, if_true, Finset.sum_ite_irrel, Finset.sum_const_zero]

theorem scatter_bias (x : S8x15x31.Idx → EReal) (u : S8x64x64x8x64.Idx → EReal) (h : Fin 8) (n : Fin 15) (e : Fin 31) :
    Ideal.hostScatterAdd scatter_S8x15x31_S64x64x8x64x2_S8x64x64x8x64_0_12_12_4 x (val_main_v68 (F := Ideal)) u (ix3 h n e)
      = x (ix3 h n e) + ∑ r : Fin 64, ∑ a : Fin 64, ∑ i : Fin 8, ∑ k : Fin 64,
          if 7 + st r.val - r.val + i.val = n.val ∧ col a.val k.val = e.val then u (ix5 h r a i k) else 0 := by
  unfold Ideal.hostScatterAdd
  rw [Finset.sum_filter, sum_idx5]
  refine congrArg (x _ + ·) ((Finset.sum_eq_single h (fun h' _ hn => ?_) fun hn => absurd (Finset.mem_univ _) hn).trans ?_)
  · refine Finset.sum_eq_zero fun r _ => Finset.sum_eq_zero fun a _ => Finset.sum_eq_zero fun i _ => Finset.sum_eq_zero fun k _ => ?_
    rw [if_neg fun H => hn ((lands_bias ..).1 H).1]
  · refine Finset.sum_congr rfl fun r _ => Finset.sum_congr rfl fun a _ => Finset.sum_congr rfl fun i _ => Finset.sum_congr rfl fun k _ => ?_
    simp only [lands_bias, true_and]

end Cert.NaMath
-- ==== Proof.NaRef.lean ====
/- What the reference's float arrays hold on arrays of numbers, by blocks of one head and one row of the image: what is
   read, the scores, the weights and the output. -/
module

public import proofs.«01_k».proof.Proof.NaRefIdx

@[expose] public section

set_option maxRecDepth 16384

noncomputable section

namespace Cert.NaMath

open Idealize.ShloMosaic Cert.Reals Cert.NaKernelIdeal.NaOff
open Cert.NaReferenceIdeal Cert.NaReferenceIdeal.Gen Cert.NaReferenceIdeal.Read

/-- The reference's arguments are the arrays' numbers. -/
structure Args (A : Arrays) (x0 : FVec Ideal S4096x3072 .bf16) (x1 : FVec Ideal S256x2048 .bf16) (x2 : FVec Ideal S8x15x31 .f32)
    (x3 : FVec Ideal S4096x2048 .bf16) : Prop where
  x0 : ∀ i j, x0 (ix2 i j) = ((A.a0 i j : ℝ) : EReal)
  x1 : ∀ i j, x1 (ix2 i j) = ((A.a1 i j : ℝ) : EReal)
  x2 : ∀ h n e, x2 (ix3 h n e) = ((A.a2 h n e : ℝ) : EReal)
  x3 : ∀ i j, x3 (ix2 i j) = ((A.a3 i j : ℝ) : EReal)

/-- Column `k` of row `i` of the window. -/
def wn (i : Fin 8) (k : Fin 64) : Fin 512 := ⟨i.val * 64 + k.val, by omega⟩

variable {A : Arrays} {x0 : FVec Ideal S4096x3072 .bf16} {x1 : FVec Ideal S256x2048 .bf16} {x2 : FVec Ideal S8x15x31 .f32}
  {x3 : FVec Ideal S4096x2048 .bf16} (H : Args A x0 x1 x2 x3)
include H

omit H in
theorem wn_div (n : Fin 512) : wn ⟨n.val / 64, by omega⟩ ⟨n.val % 64, by omega⟩ = n := Fin.ext (by unfold wn; simp only; omega)

omit H in
theorem sum_wn (f : Fin 512 → ℝ) : ∑ i : Fin 8, ∑ k : Fin 64, f (wn i k) = ∑ n, f n := by
  rw [← Finset.sum_product']
  refine Finset.sum_bij' (fun x _ => wn x.1 x.2) (fun n _ => (⟨n.val / 64, by omega⟩, ⟨n.val % 64, by omega⟩)) (fun _ _ => Finset.mem_univ _)
    (fun _ _ => by simp) (fun x _ => ?_) (fun n _ => wn_div n) (fun _ _ => rfl)
  obtain ⟨i, k⟩ := x
  exact Prod.ext (Fin.ext (by unfold wn; simp only; omega)) (Fin.ext (by unfold wn; simp only; omega))

theorem q_at (r a : Fin 64) (h : Fin 8) (d : Fin 128) : val_main_v70 (F := Ideal) x0 (ix5 0 r a h d) = (((blk A h r).q a d : ℝ) : EReal) := by
  pointwise [val_main_v70, val_main_v7, val_main_v1, val_main_v0]
  exact H.x0 _ _

theorem k_at (r : Fin 64) (i : Fin 8) (k : Fin 64) (h : Fin 8) (d : Fin 128) :
    val_main_v78 (F := Ideal) x0 (ix6 0 r i k h d) = (((blk A h r).k (wn i k) d : ℝ) : EReal) := by
  unfold val_main_v78
  rw [gather_rows]
  pointwise [val_main_v71, val_main_v8, val_main_v2, val_main_v0]
  refine (H.x0 _ _).trans (congrArg₂ (fun i j => ((A.a0 i j : ℝ) : EReal)) (Fin.ext ?_) (Fin.ext ?_))
  · unfold wn; simp only; omega
  · simp only

theorem v_at (r : Fin 64) (i : Fin 8) (k : Fin 64) (h : Fin 8) (d : Fin 128) :
    val_main_v86 (F := Ideal) x0 (ix6 0 r i k h d) = (((blk A h r).v (wn i k) d : ℝ) : EReal) := by
  unfold val_main_v86
  rw [wrapped_at', gather_rows]
  pointwise [val_main_v79, val_main_v9, val_main_v3, val_main_v0]
  refine (H.x0 _ _).trans (congrArg₂ (fun i j => ((A.a0 i j : ℝ) : EReal)) (Fin.ext ?_) (Fin.ext ?_))
  · unfold wn; simp only; omega
  · simp only

theorem kc_at (r : Fin 64) (n : Fin 256) (h : Fin 8) (d : Fin 128) : val_main_v10 (F := Ideal) x1 (ix4 0 n h d) = (((blk A h r).kc n d : ℝ) : EReal) := by
  pointwise [val_main_v10, val_main_v5, val_main_v4]
  exact H.x1 _ _

theorem vc_at (r : Fin 64) (n : Fin 256) (h : Fin 8) (d : Fin 128) : val_main_v11 (F := Ideal) x1 (ix4 0 n h d) = (((blk A h r).vc n d : ℝ) : EReal) := by
  pointwise [val_main_v11, val_main_v6, val_main_v4]
  exact H.x1 _ _

theorem g_at (r a : Fin 64) (h : Fin 8) (d : Fin 128) : val_main_v140 (F := Ideal) x3 (ix5 0 r a h d) = (((blk A h r).g a d : ℝ) : EReal) := by
  pointwise [val_main_v140, val_main_v139, val_main_v138, val_main_v137]
  exact H.x3 _ _

theorem b_at (r a : Fin 64) (i : Fin 8) (k : Fin 64) (h : Fin 8) : val_main_v69 (F := Ideal) x2 (ix5 h r a i k) = (((blk A h r).b a (wn i k) : ℝ) : EReal) := by
  unfold val_main_v69
  rw [gather_bias, H.x2]
  have e1 : (wn i k).val / 64 = i.val := by unfold wn; simp only; omega
  have e2 : (wn i k).val % 64 = k.val := by unfold wn; simp only; omega
  unfold blk
  simp only [e1, e2]

omit H in
theorem select_true {α : Type} (x y : α) : Scalar.select 1#1 x y = x := rfl
omit H in
theorem select_false {α : Type} (x y : α) : Scalar.select 0#1 x y = y := rfl

theorem score_at (h : Fin 8) (r a : Fin 64) (i : Fin 8) (k : Fin 64) :
    val_main_v93_0 (F := Ideal) x0 x2 (ix6 0 h r a i k) = (blk A h r).sE a (wn i k) := by
  have e1 := q_at H r a h
  have e2 := k_at H r i k h
  have e3 := b_at H r a i k h
  have e4 := seen_at_ref a k
  have e5 : (wn i k).val % 64 = k.val := by unfold wn; simp only; omega
  pointwise [val_main_v93_0, val_main_v93_1, val_main_v92, val_main_v91, val_main_v90, val_main_v89, val_main_v88, val_main_v87, val_main_cst, val_main_cst_18,
    val_main_call3_v0, val_main_call3_v2]
  simp only [e1, e2, e3, e4, ofBits_scale, ofBits_ninf, ← EReal.coe_mul, ← coe_sum, ← EReal.coe_add]
  unfold Blk.sE
  rw [e5]
  split
  · exact select_true _ _
  · exact (select_false _ _).trans ofBits_ninf

theorem score_context_at (h : Fin 8) (r a : Fin 64) (n : Fin 256) :
    val_main_v97 (F := Ideal) x0 x1 (ix5 0 h r a n) = (((blk A h r).sc a n : ℝ) : EReal) := by
  have e1 := q_at H r a h
  have e2 := kc_at H r n h
  pointwise [val_main_v97, val_main_v96, val_main_v95, val_main_cst_19]
  simp only [e1, e2, ofBits_scale, ← EReal.coe_mul, ← coe_sum]
  rfl

/-- A number for each column of the window and each of the context, in one row. -/
def row {α : Type} (f : Fin 512 → α) (g : Fin 256 → α) (n : Fin 768) : α := if h : n.val < 512 then f ⟨n.val, h⟩ else g ⟨n.val - 512, by omega⟩

omit H in
theorem sum_row (f : Fin 512 → ℝ) (g : Fin 256 → ℝ) : ∑ n, row f g n = ∑ n, f n + ∑ n, g n := by
  refine (Fin.sum_univ_add (a := 512) (b := 256) (row f g)).trans (congrArg₂ (· + ·) (Finset.sum_congr rfl fun n _ => ?_) (Finset.sum_congr rfl fun n _ => ?_))
  · exact dif_pos n.isLt
  · refine (dif_neg (by simp [Fin.natAdd])).trans (congrArg g (Fin.ext ?_))
    simp [Fin.natAdd]

theorem scores_at (h : Fin 8) (r a : Fin 64) (n : Fin 768) : val_main_v98 (F := Ideal) x0 x1 x2 (ix5 0 h r a n)
    = row (fun n => (blk A h r).sE a n) (fun n => (((blk A h r).sc a n : ℝ) : EReal)) n := by
  pointwise [val_main_v98, val_main_v94]
  unfold row
  split
  · refine (score_at H ..).trans (congrArg _ (wn_div ⟨n.val, _⟩))
  · exact score_context_at H ..

end Cert.NaMath
-- ==== Proof.NaRefSoft.lean ====
/- The reference's softmax: the greatest score, the exponentials, their sum, the weights and the output. -/
module

public import proofs.«01_k».proof.Proof.NaRef

@[expose] public section

set_option maxRecDepth 16384

noncomputable section

namespace Cert.NaMath

open Idealize.ShloMosaic Cert.Reals Cert.NaKernelIdeal.NaOff
open Cert.NaReferenceIdeal Cert.NaReferenceIdeal.Gen Cert.NaReferenceIdeal.Read

variable {A : Arrays} {x0 : FVec Ideal S4096x3072 .bf16} {x1 : FVec Ideal S256x2048 .bf16} {x2 : FVec Ideal S8x15x31 .f32}
  {x3 : FVec Ideal S4096x2048 .bf16} (H : Args A x0 x1 x2 x3)

theorem greatest (x : FVec Ideal S1x8x64x64x768 .f32) (h : Fin 8) (r a : Fin 64) :
    (Host.reduce FloatOps.maximumf x (val_main_cst_20 (F := Ideal)) reducesTo_S1x8x64x64x768_S1x8x64x64_d4 h_S_ : FVec Ideal S1x8x64x64 .f32) (ix4 0 h r a)
      = Finset.fold max ⊥ (fun n => x (ix5 0 h r a n)) Finset.univ := by
  pointwise [val_main_cst_20]
  simp only [ofBits_ninf]

theorem added (x : FVec Ideal S1x8x64x64x768 .f32) (h : Fin 8) (r a : Fin 64) :
    (Host.reduceAdd x (val_main_cst_28 (F := Ideal)) reducesTo_S1x8x64x64x768_S1x8x64x64_d4 h_S_ : FVec Ideal S1x8x64x64 .f32) (ix4 0 h r a)
      = ∑ n, x (ix5 0 h r a n) := by
  pointwise [val_main_cst_28]

theorem floored (y : FVec Ideal S1x8x64x64 .f32) (h : Fin 8) (r a : Fin 64) : maximumf (val_main_v105 (F := Ideal)) y (ix4 0 h r a) = y (ix4 0 h r a) := by
  pointwise [val_main_v105, val_main_cst_22]
  rw [ofBits_ninf]
  exact max_bot_left _

include H

/-- The greatest of a row's scores is a number. -/
theorem max_at (h : Fin 8) (r a : Fin 64) : ∃ M : ℝ, val_main_v99 (F := Ideal) x0 x1 x2 (ix4 0 h r a) = (M : EReal) := by
  have e : val_main_v99 (F := Ideal) x0 x1 x2 (ix4 0 h r a) = _ := greatest (val_main_v98 (F := Ideal) x0 x1 x2) h r a
  rw [e]
  have ht : Finset.fold max ⊥ (fun n => val_main_v98 (F := Ideal) x0 x1 x2 (ix5 0 h r a n)) Finset.univ ≠ ⊤ := by
    refine fold_max _ _ fun n => ?_
    rw [scores_at H h r a n]
    unfold row
    split
    · show (blk A h r).sE a _ ≠ ⊤
      unfold Blk.sE; split <;> simp
    · exact EReal.coe_ne_top _
  have hb : Finset.fold max ⊥ (fun n => val_main_v98 (F := Ideal) x0 x1 x2 (ix5 0 h r a n)) Finset.univ ≠ ⊥ := fun hb => by
    have h0 : val_main_v98 (F := Ideal) x0 x1 x2 (ix5 0 h r a 512) ≤ _ :=
      le_fold_max (f := fun n => val_main_v98 (F := Ideal) x0 x1 x2 (ix5 0 h r a n)) (Finset.mem_univ (512 : Fin 768))
    rw [hb, scores_at H h r a 512] at h0
    exact EReal.coe_ne_bot _ (le_bot_iff.1 h0)
  exact ⟨_, (EReal.coe_toReal ht hb).symm⟩

section

variable {h : Fin 8} {r a : Fin 64} {M : ℝ} (hM : val_main_v99 (F := Ideal) x0 x1 x2 (ix4 0 h r a) = (M : EReal))
include hM

theorem shift_at : val_main_v106 (F := Ideal) x0 x1 x2 (ix4 0 h r a) = (M : EReal) := by
  unfold val_main_v106
  exact (floored _ h r a).trans hM

theorem exp_at (n : Fin 768) : val_main_v119 (F := Ideal) x0 x1 x2 (ix5 0 h r a n)
    = ((Real.exp (-M) * row ((blk A h r).e a) ((blk A h r).ec a) n : ℝ) : EReal) := by
  have e1 := shift_at H hM
  have e2 := scores_at H h r a n
  pointwise [val_main_v119, val_main_v118, val_main_v117, val_main_v116]
  rw [e1, e2]
  unfold row
  split
  · exact (blk A h r).exp_sE M a _
  · exact exp_sub M _

theorem total_at : val_main_v121 (F := Ideal) x0 x1 x2 (ix5 0 h r a 0) = ((Real.exp (-M) * (blk A h r).z a : ℝ) : EReal) := by
  have e1 : val_main_v120 (F := Ideal) x0 x1 x2 (ix4 0 h r a) = _ := added (val_main_v119 (F := Ideal) x0 x1 x2) h r a
  pointwise [val_main_v121]
  rw [e1]
  simp only [exp_at H hM, ← coe_sum, ← Finset.mul_sum]
  rw [sum_row]
  rfl

theorem weight_at' (n : Fin 768) : val_main_v123 (F := Ideal) x0 x1 x2 (ix5 0 h r a n) = ((row ((blk A h r).p a) ((blk A h r).pc a) n : ℝ) : EReal) := by
  have e1 := exp_at H hM n
  have e2 := total_at H hM
  have hz := mul_pos (Real.exp_pos (-M)) ((blk A h r).z_pos a)
  pointwise [val_main_v123, val_main_v122]
  rw [e1, e2, div_coe_coe _ hz.ne', mul_div_mul_left _ _ (Real.exp_pos _).ne']
  refine congrArg (fun r : ℝ => (r : EReal)) ?_
  unfold row
  split <;> rfl

theorem inverse_at : val_main_v126 (F := Ideal) x0 x1 x2 (ix5 0 h r a 0)
    = ((1 / (Real.exp (-M) * (blk A h r).z a * (Real.exp (-M) * (blk A h r).z a)) : ℝ) : EReal) := by
  have e2 := total_at H hM
  have hz := mul_pos (Real.exp_pos (-M)) ((blk A h r).z_pos a)
  pointwise [val_main_v126, val_main_v125, val_main_v124, val_main_cst_29]
  rw [e2, ← EReal.coe_mul, ← EReal.coe_one, div_coe_coe _ (mul_pos hz hz).ne']

end

theorem weight_at (h : Fin 8) (r a : Fin 64) (n : Fin 768) :
    val_main_v123 (F := Ideal) x0 x1 x2 (ix5 0 h r a n) = ((row ((blk A h r).p a) ((blk A h r).pc a) n : ℝ) : EReal) := by
  obtain ⟨M, hM⟩ := max_at H h r a
  exact weight_at' H hM n

theorem window_weight_at (h : Fin 8) (r a : Fin 64) (i : Fin 8) (k : Fin 64) :
    val_main_v128 (F := Ideal) x0 x1 x2 (ix6 0 h r a i k) = (((blk A h r).p a (wn i k) : ℝ) : EReal) := by
  have e := weight_at H h r a
  pointwise [val_main_v128, val_main_v127]
  rw [e]
  refine congrArg (fun r : ℝ => (r : EReal)) ?_
  exact dif_pos (wn i k).isLt

theorem context_weight_at (h : Fin 8) (r a : Fin 64) (n : Fin 256) :
    val_main_v129 (F := Ideal) x0 x1 x2 (ix5 0 h r a n) = (((blk A h r).pc a n : ℝ) : EReal) := by
  have e := weight_at H h r a
  pointwise [val_main_v129]
  rw [e]
  refine congrArg (fun r : ℝ => (r : EReal)) ?_
  refine (dif_neg (show ¬ (512 + n.val < 512) by omega)).trans (congrArg _ (Fin.ext ?_))
  show 512 + n.val - 512 = n.val
  omega

theorem output_at (r a : Fin 64) (h : Fin 8) (d : Fin 128) :
    val_main_v134 (F := Ideal) x0 x1 x2 (ix5 0 r a h d) = (((blk A h r).o a d : ℝ) : EReal) := by
  have e1 := window_weight_at H h r a
  have e2 := context_weight_at H h r a
  have e3 := fun i k => v_at H r i k h d
  have e4 := fun n => vc_at H r n h d
  pointwise [val_main_v134, val_main_v133, val_main_v132, val_main_v131, val_main_v130]
  simp only [e1, e2, e3, e4, ← EReal.coe_mul, ← coe_sum, ← EReal.coe_add]
  refine congrArg (fun r : ℝ => (r : EReal)) ?_
  rw [sum_wn fun n => (blk A h r).v n d * (blk A h r).p a n]
  unfold Blk.o
  exact congrArg₂ (· + ·) (Finset.sum_congr rfl fun n _ => mul_comm _ _) (Finset.sum_congr rfl fun n _ => mul_comm _ _)

end Cert.NaMath
-- ==== Proof.NaRefBwd.lean ====
/- The reference's gradients: of the scores, then what each block gives to queries, keys, values, biases and context. -/
module

public import proofs.«01_k».proof.Proof.NaRefSoft

@[expose] public section

set_option maxRecDepth 16384

noncomputable section

namespace Cert.NaMath

open Idealize.ShloMosaic Cert.Reals Cert.NaKernelIdeal.NaOff
open Cert.NaReferenceIdeal Cert.NaReferenceIdeal.Gen Cert.NaReferenceIdeal.Read

/-- The output's cotangent against the values; -/
def Blk.gv (X : Blk) (a : Fin 64) (n : Fin 512) : ℝ := ∑ d, X.g a d * X.v n d
def Blk.gvc (X : Blk) (a : Fin 64) (n : Fin 256) : ℝ := ∑ d, X.g a d * X.vc n d

/-- against the output it is the weighted sum of those against the values. -/
theorem Blk.delta_eq (X : Blk) (a : Fin 64) : X.delta a = ∑ n, X.p a n * X.gv a n + ∑ n, X.pc a n * X.gvc a n := by
  unfold Blk.delta Blk.o Blk.gv Blk.gvc
  simp only [mul_add, Finset.mul_sum, Finset.sum_add_distrib]
  rw [Finset.sum_comm, Finset.sum_comm (γ := Fin 256)]
  exact congrArg₂ (· + ·) (Finset.sum_congr rfl fun n _ => Finset.sum_congr rfl fun d _ => by ring)
    (Finset.sum_congr rfl fun n _ => Finset.sum_congr rfl fun d _ => by ring)

variable {A : Arrays} {x0 : FVec Ideal S4096x3072 .bf16} {x1 : FVec Ideal S256x2048 .bf16} {x2 : FVec Ideal S8x15x31 .f32}
  {x3 : FVec Ideal S4096x2048 .bf16}

theorem added' (x : FVec Ideal S1x8x64x64x768 .f32) (h : Fin 8) (r a : Fin 64) :
    (Host.reduceAdd x (val_main_cst_32 (F := Ideal)) reducesTo_S1x8x64x64x768_S1x8x64x64_d4 h_S_ : FVec Ideal S1x8x64x64 .f32) (ix4 0 h r a)
      = ∑ n, x (ix5 0 h r a n) := by
  pointwise [val_main_cst_32]

theorem sum_only {ι κ : Type*} [Fintype ι] [DecidableEq κ] (f : ι → κ) (j : κ) (i0 : ι) (h0 : f i0 = j) (h : ∀ i, f i = j → i = i0) (x : ι → EReal) :
    ∑ i ∈ Finset.univ.filter (fun i => f i = j), x i = x i0 :=
  Finset.sum_eq_single_of_mem i0 (Finset.mem_filter.2 ⟨Finset.mem_univ _, h0⟩) fun i hi hn => absurd (h i (Finset.mem_filter.1 hi).2) hn

theorem kept (x : FVec Ideal S1x8x64x64x1 .f32) (h : Fin 8) (r a : Fin 64) :
    (Host.reduceAdd x (val_main_cst_33 (F := Ideal)) reducesTo_S1x8x64x64x1_S8x64x64_d0_4 h_S_ : FVec Ideal S8x64x64 .f32) (ix3 h r a)
      = x (ix5 0 h r a 0) := by
  have hd : ∀ z h' r' a' w, (reducesTo_S1x8x64x64x1_S8x64x64_d0_4).drop (ix5 z h' r' a' w) = ix3 h' r' a' := fun z h' r' a' w => by
    funext b
    match b with
    | ⟨0, _⟩ => rfl
    | ⟨1, _⟩ => rfl
    | ⟨2, _⟩ => rfl
  pointwise [val_main_cst_33]
  unfold Ideal.hostReduceAdd
  rw [sum_only _ _ (ix5 0 h r a 0) (hd ..) fun i hi => ?_]
  · exact zero_add (M := EReal) _
  · obtain ⟨z, h', r', a', w, rfl⟩ : ∃ z h' r' a' w, i = ix5 z h' r' a' w := ⟨_, _, _, _, _, eq_ix5 i⟩
    rw [hd] at hi
    have h1 : h' = h := congrFun hi 0
    have h2 : r' = r := congrFun hi 1
    have h3 : a' = a := congrFun hi 2
    rw [h1, h2, h3, Subsingleton.elim z 0, Subsingleton.elim w 0]

theorem dropped (x : FVec Ideal S1x8x64x64x8x64 .f32) (h : Fin 8) (r a : Fin 64) (i : Fin 8) (k : Fin 64) :
    (Host.reduceAdd x (val_main_cst_35 (F := Ideal)) reducesTo_S1x8x64x64x8x64_S8x64x64x8x64_d0 h_S_ : FVec Ideal S8x64x64x8x64 .f32) (ix5 h r a i k)
      = x (ix6 0 h r a i k) := by
  have hd : ∀ z h' r' a' i' k', (reducesTo_S1x8x64x64x8x64_S8x64x64x8x64_d0).drop (ix6 z h' r' a' i' k') = ix5 h' r' a' i' k' := fun z h' r' a' i' k' => by
    funext b
    match b with
    | ⟨0, _⟩ => rfl
    | ⟨1, _⟩ => rfl
    | ⟨2, _⟩ => rfl
    | ⟨3, _⟩ => rfl
    | ⟨4, _⟩ => rfl
  pointwise [val_main_cst_35]
  unfold Ideal.hostReduceAdd
  rw [sum_only _ _ (ix6 0 h r a i k) (hd ..) fun j hj => ?_]
  · exact zero_add (M := EReal) _
  · obtain ⟨z, h', r', a', i', k', rfl⟩ : ∃ z h' r' a' i' k', j = ix6 z h' r' a' i' k' := ⟨_, _, _, _, _, _, eq_ix6 j⟩
    rw [hd] at hj
    have h1 : h' = h := congrFun hj 0
    have h2 : r' = r := congrFun hj 1
    have h3 : a' = a := congrFun hj 2
    have h4 : i' = i := congrFun hj 3
    have h5 : k' = k := congrFun hj 4
    rw [h1, h2, h3, h4, h5, Subsingleton.elim z 0]

variable (H : Args A x0 x1 x2 x3)
include H

theorem values_context_at (h : Fin 8) (r a : Fin 64) (n : Fin 256) :
    val_main_v142 (F := Ideal) x1 x3 (ix5 0 h r a n) = (((blk A h r).gvc a n : ℝ) : EReal) := by
  have e1 := g_at H r a h
  have e2 := vc_at H r n h
  pointwise [val_main_v142, val_main_v141]
  simp only [e1, e2, ← EReal.coe_mul, ← coe_sum]
  rfl

theorem values_window_at (h : Fin 8) (r a : Fin 64) (i : Fin 8) (k : Fin 64) :
    val_main_v147 (F := Ideal) x0 x3 (ix6 0 h r a i k) = (((blk A h r).gv a (wn i k) : ℝ) : EReal) := by
  have e1 := g_at H r a h
  have e2 := v_at H r i k h
  pointwise [val_main_v147, val_main_v146, val_main_v145]
  simp only [e1, e2, ← EReal.coe_mul, ← coe_sum]
  rfl

theorem values_at (h : Fin 8) (r a : Fin 64) (n : Fin 768) : val_main_v153 (F := Ideal) x0 x1 x3 (ix5 0 h r a n)
    = ((row ((blk A h r).gv a) ((blk A h r).gvc a) n : ℝ) : EReal) := by
  have e1 := values_context_at H h r a
  have e2 := values_window_at H h r a
  pointwise [val_main_v153, val_main_v152, val_main_v151, val_main_v150, val_main_cst_30, val_main_cst_31]
  simp only [e1, e2]
  unfold row
  by_cases hn : n.val < 512
  · rw [dif_neg (by omega), dif_pos hn, dif_pos hn, wn_div ⟨n.val, hn⟩]
    exact zero_add (M := EReal) _
  · rw [dif_pos (by omega), dif_neg hn, dif_neg hn]
    exact add_zero (M := EReal) _

section

variable {h : Fin 8} {r a : Fin 64} {M : ℝ} (hM : val_main_v99 (F := Ideal) x0 x1 x2 (ix4 0 h r a) = (M : EReal))
include hM

theorem against_at : val_main_v162 (F := Ideal) x0 x1 x2 x3 (ix3 h r a)
    = ((-(∑ n, row ((blk A h r).gv a) ((blk A h r).gvc a) n * (1 / (Real.exp (-M) * (blk A h r).z a * (Real.exp (-M) * (blk A h r).z a)))
      * (Real.exp (-M) * row ((blk A h r).e a) ((blk A h r).ec a) n)) : ℝ) : EReal) := by
  have e0 : val_main_v162 (F := Ideal) x0 x1 x2 x3 (ix3 h r a) = _ := kept (val_main_v159 (F := Ideal) x0 x1 x2 x3) h r a
  have e1 : val_main_v157 (F := Ideal) x0 x1 x2 x3 (ix4 0 h r a) = _ := added' (val_main_v156 (F := Ideal) x0 x1 x2 x3) h r a
  have e2 : ∀ n, val_main_v156 (F := Ideal) x0 x1 x2 x3 (ix5 0 h r a n) = _ := fun n => by
    have f1 := exp_at H hM n
    have f2 := inverse_at H hM
    have f3 := values_at H h r a n
    pointwise [val_main_v156, val_main_v155, val_main_v154]
    rw [f1, f2, f3, ← EReal.coe_mul, ← EReal.coe_mul]
  rw [e0]
  pointwise [val_main_v159, val_main_v158]
  rw [e1]
  simp only [e2, ← coe_sum, ← EReal.coe_neg]

theorem grad_at' (n : Fin 768) : val_main_v166 (F := Ideal) x0 x1 x2 x3 (ix5 0 h r a n) = ((row ((blk A h r).ds a) ((blk A h r).dsc a) n : ℝ) : EReal) := by
  have e1 := exp_at H hM n
  have e2 := total_at H hM
  have e3 := values_at H h r a n
  have e4 := against_at H hM
  have hz := mul_pos (Real.exp_pos (-M)) ((blk A h r).z_pos a)
  pointwise [val_main_v166, val_main_v165, val_main_v164, val_main_v163, val_main_v161, val_main_v160]
  rw [e1, e2, e3, e4, div_coe_coe _ hz.ne', ← EReal.coe_add, ← EReal.coe_mul]
  refine congrArg (fun r : ℝ => (r : EReal)) ?_
  have hd : (blk A h r).delta a * (Real.exp (-M) * (blk A h r).z a)
      = ∑ n, row ((blk A h r).gv a) ((blk A h r).gvc a) n * (1 / (Real.exp (-M) * (blk A h r).z a * (Real.exp (-M) * (blk A h r).z a)))
        * (Real.exp (-M) * row ((blk A h r).e a) ((blk A h r).ec a) n) * (Real.exp (-M) * (blk A h r).z a) * (Real.exp (-M) * (blk A h r).z a) := by
    have hm : ∀ n, row ((blk A h r).gv a) ((blk A h r).gvc a) n * (1 / (Real.exp (-M) * (blk A h r).z a * (Real.exp (-M) * (blk A h r).z a)))
        * (Real.exp (-M) * row ((blk A h r).e a) ((blk A h r).ec a) n) * (Real.exp (-M) * (blk A h r).z a) * (Real.exp (-M) * (blk A h r).z a)
        = row (fun n => (blk A h r).p a n * (blk A h r).gv a n) (fun n => (blk A h r).pc a n * (blk A h r).gvc a n) n * (Real.exp (-M) * (blk A h r).z a) := fun n => by
      have hz0 := ((blk A h r).z_pos a).ne'
      have he := (Real.exp_pos (-M)).ne'
      unfold row Blk.p Blk.pc
      split
      · field_simp
      · field_simp
    rw [Finset.sum_congr rfl fun n _ => hm n, ← Finset.sum_mul, sum_row, Blk.delta_eq]
  have hs : ∑ n, row ((blk A h r).gv a) ((blk A h r).gvc a) n * (1 / (Real.exp (-M) * (blk A h r).z a * (Real.exp (-M) * (blk A h r).z a)))
        * (Real.exp (-M) * row ((blk A h r).e a) ((blk A h r).ec a) n) = (blk A h r).delta a / (Real.exp (-M) * (blk A h r).z a) := by
    rw [← Finset.sum_mul, ← Finset.sum_mul] at hd
    rw [eq_div_iff hz.ne']
    exact (mul_right_cancel₀ hz.ne' hd).symm
  rw [hs]
  have hz0 := ((blk A h r).z_pos a).ne'
  have he := (Real.exp_pos (-M)).ne'
  unfold row
  split
  · show _ = (blk A h r).p a _ * ((blk A h r).gv a _ - (blk A h r).delta a)
    unfold Blk.p
    field_simp
    ring
  · show _ = (blk A h r).pc a _ * ((blk A h r).gvc a _ - (blk A h r).delta a)
    unfold Blk.pc
    field_simp
    ring

end

theorem grad_at (h : Fin 8) (r a : Fin 64) (n : Fin 768) :
    val_main_v166 (F := Ideal) x0 x1 x2 x3 (ix5 0 h r a n) = ((row ((blk A h r).ds a) ((blk A h r).dsc a) n : ℝ) : EReal) := by
  obtain ⟨M, hM⟩ := max_at H h r a
  exact grad_at' H hM n

/-- Where a key is not seen its weight is zero, and so is the score's gradient. -/
theorem grad_window_at (h : Fin 8) (r a : Fin 64) (i : Fin 8) (k : Fin 64) :
    val_main_v176 (F := Ideal) x0 x1 x2 x3 (ix6 0 h r a i k) = (((blk A h r).ds a (wn i k) : ℝ) : EReal) := by
  have e := grad_at H h r a
  have e4 := seen_at_ref a k
  have e5 : (wn i k).val % 64 = k.val := by unfold wn; simp only; omega
  pointwise [val_main_v176, val_main_v175, val_main_v167, val_main_v93_1, val_main_v92, val_main_call4_v0, val_main_call4_cst]
  rw [e4, e]
  split
  · refine (select_true _ _).trans (congrArg (fun r : ℝ => (r : EReal)) ?_)
    exact dif_pos (wn i k).isLt
  · rename_i hs
    refine (select_false _ _).trans ?_
    unfold Blk.ds Blk.p Blk.e
    rw [e5, if_neg hs, zero_div, zero_mul]
    rfl

theorem grad_bias_at (h : Fin 8) (r a : Fin 64) (i : Fin 8) (k : Fin 64) :
    val_main_v177 (F := Ideal) x0 x1 x2 x3 (ix5 h r a i k) = (((blk A h r).ds a (wn i k) : ℝ) : EReal) :=
  (dropped (val_main_v176 (F := Ideal) x0 x1 x2 x3) h r a i k).trans (grad_window_at H h r a i k)

theorem scaled_window_at (h : Fin 8) (r a : Fin 64) (i : Fin 8) (k : Fin 64) :
    val_main_v179 (F := Ideal) x0 x1 x2 x3 (ix6 0 h r a i k) = (((blk A h r).ds a (wn i k) * scale : ℝ) : EReal) := by
  have e := grad_window_at H h r a i k
  pointwise [val_main_v179, val_main_v178, val_main_cst_36]
  rw [e, ofBits_scale, ← EReal.coe_mul]

theorem scaled_context_at (h : Fin 8) (r a : Fin 64) (n : Fin 256) :
    val_main_v170 (F := Ideal) x0 x1 x2 x3 (ix5 0 h r a n) = (((blk A h r).dsc a n * scale : ℝ) : EReal) := by
  have e := grad_at H h r a
  pointwise [val_main_v170, val_main_v169, val_main_v168, val_main_cst_34]
  rw [e, ofBits_scale, ← EReal.coe_mul]
  refine congrArg (fun r : ℝ => ((r * scale : ℝ) : EReal)) ?_
  refine (dif_neg (show ¬ (512 + n.val < 512) by omega)).trans (congrArg _ (Fin.ext ?_))
  show 512 + n.val - 512 = n.val
  omega

theorem queries_at (r a : Fin 64) (h : Fin 8) (d : Fin 128) :
    val_main_v184 (F := Ideal) x0 x1 x2 x3 (ix5 0 r a h d) = (((blk A h r).dq a d : ℝ) : EReal) := by
  have e1 := scaled_window_at H h r a
  have e2 := scaled_context_at H h r a
  have e3 := fun i k => k_at H r i k h d
  have e4 := fun n => kc_at H r n h d
  pointwise [val_main_v184, val_main_v183, val_main_v182, val_main_v174, val_main_v173]
  simp only [e1, e2, e3, e4, ← EReal.coe_mul, ← coe_sum, ← EReal.coe_add]
  refine congrArg (fun r : ℝ => (r : EReal)) ?_
  rw [sum_wn fun n => (blk A h r).ds a n * scale * (blk A h r).k n d, add_comm]
  unfold Blk.dq
  rw [add_mul, Finset.sum_mul, Finset.sum_mul]
  exact congrArg₂ (· + ·) (Finset.sum_congr rfl fun n _ => by ring) (Finset.sum_congr rfl fun n _ => by ring)

theorem keys_at (r : Fin 64) (i : Fin 8) (k : Fin 64) (h : Fin 8) (d : Fin 128) :
    val_main_v181 (F := Ideal) x0 x1 x2 x3 (ix6 0 r i k h d) = (((blk A h r).dk (wn i k) d : ℝ) : EReal) := by
  have e1 := fun a => scaled_window_at H h r a i k
  have e2 := fun a => q_at H r a h d
  pointwise [val_main_v181, val_main_v180]
  simp only [e1, e2, ← EReal.coe_mul, ← coe_sum]
  refine congrArg (fun r : ℝ => (r : EReal)) ?_
  unfold Blk.dk
  rw [Finset.sum_mul]
  exact Finset.sum_congr rfl fun n _ => by ring

theorem values_grad_at (r : Fin 64) (i : Fin 8) (k : Fin 64) (h : Fin 8) (d : Fin 128) :
    val_main_v149 (F := Ideal) x0 x1 x2 x3 (ix6 0 r i k h d) = (((blk A h r).dv (wn i k) d : ℝ) : EReal) := by
  have e1 := fun a => window_weight_at H h r a i k
  have e2 := fun a => g_at H r a h d
  pointwise [val_main_v149, val_main_v148, val_main_v145]
  simp only [e1, e2, ← EReal.coe_mul, ← coe_sum]
  refine congrArg (fun r : ℝ => (r : EReal)) ?_
  unfold Blk.dv
  exact Finset.sum_congr rfl fun n _ => by ring

theorem context_keys_at (n : Fin 256) (h : Fin 8) (d : Fin 128) :
    val_main_v172 (F := Ideal) x0 x1 x2 x3 (ix4 0 n h d) = ((∑ r, (blk A h r).dkc n d : ℝ) : EReal) := by
  have e1 := fun r a => scaled_context_at H h r a n
  have e2 := fun r a => q_at H r a h d
  pointwise [val_main_v172, val_main_v171]
  simp only [e1, e2, ← EReal.coe_mul, ← coe_sum]
  refine congrArg (fun r : ℝ => (r : EReal)) (Finset.sum_congr rfl fun r _ => ?_)
  unfold Blk.dkc
  rw [Finset.sum_mul]
  exact Finset.sum_congr rfl fun n _ => by ring

theorem context_values_at (n : Fin 256) (h : Fin 8) (d : Fin 128) :
    val_main_v144 (F := Ideal) x0 x1 x2 x3 (ix4 0 n h d) = ((∑ r, (blk A h r).dvc n d : ℝ) : EReal) := by
  have e1 := fun r a => context_weight_at H h r a n
  have e2 := fun r a => g_at H r a h d
  pointwise [val_main_v144, val_main_v143, val_main_v141]
  simp only [e1, e2, ← EReal.coe_mul, ← coe_sum]
  refine congrArg (fun r : ℝ => (r : EReal)) (Finset.sum_congr rfl fun r _ => ?_)
  unfold Blk.dvc
  exact Finset.sum_congr rfl fun n _ => by ring

end Cert.NaMath
-- ==== Proof.NaTail.lean ====
/- The gradient of the bias table, that the host makes of the tiles: each row of the table gathers the tiles' left halves
   of one window row and right halves of the row before, and each column the pairs of columns that read it. -/
module

public import proofs.«01_k».proof.Proof.NaBias

@[expose] public section

set_option maxRecDepth 16384

noncomputable section

namespace Cert.NaMath

open Idealize.ShloMosaic
open Cert.NaKernelIdeal Cert.NaKernelIdeal.Gen

section

variable (σ : Valuation τ sig (Elt Ideal))

theorem left_read (h : Fin 8) (n : Fin 15) (q k : Fin 64) :
    (StableHlo.after hostOps2_1 (StableHlo.after hostOps2 σ) (dr main_v59) : Vec Ideal S8x15x64x64 .f32) (ix4 h n q k)
      = if hn : n.val < 14 then (σ (dr main_v56_5) : Vec Ideal S8x14x64x128 .f32) (ix4 h ⟨n.val, hn⟩ q ⟨k.val, by omega⟩) else (0 : EReal) := by
  entry_read
  simp -implicitDefEqProofs only [StableHlo.TRef.toBuf, StableHlo.TRef.ofBuf, cast_cast, cast_eq]
  pointwise []
  rw [zero_word]

theorem cut_read (h : Fin 8) (n : Fin 14) (q k : Fin 64) :
    (StableHlo.after hostOps2 σ (dr main_v58) : Vec Ideal S8x14x64x64 .f32) (ix4 h n q k)
      = (σ (dr main_v56_5) : Vec Ideal S8x14x64x128 .f32) (ix4 h n q ⟨64 + k.val, by omega⟩) := by
  entry_read
  pointwise []

theorem right_read (h : Fin 8) (n : Fin 15) (q k : Fin 64) :
    (StableHlo.after hostOps2_3 (StableHlo.after hostOps2_2 σ) (dr main_v60) : Vec Ideal S8x15x64x64 .f32) (ix4 h n q k)
      = if hn : 1 ≤ n.val then (σ (dr main_v58) : Vec Ideal S8x14x64x64 .f32) (ix4 h ⟨n.val - 1, by omega⟩ q k) else (0 : EReal) := by
  entry_read
  simp -implicitDefEqProofs only [StableHlo.TRef.toBuf, StableHlo.TRef.ofBuf, cast_cast, cast_eq]
  pointwise []
  rw [zero_word]
  by_cases hn : 1 ≤ n.val
  · rw [dif_pos hn, dif_pos ⟨hn, by omega⟩]
  · rw [dif_neg hn, dif_neg fun h => hn h.1]

theorem sum_read (L R : Fin 8 → Fin 15 → Fin 64 → Fin 64 → EReal)
    (HL : ∀ h n q k, (σ (dr main_v59) : Vec Ideal S8x15x64x64 .f32) (ix4 h n q k) = L h n q k)
    (HR : ∀ h n q k, (σ (dr main_v60) : Vec Ideal S8x15x64x64 .f32) (ix4 h n q k) = R h n q k) (r : Fin 120) (x : Fin 4096) :
    (StableHlo.after hostOps2_4 σ (dr main_v62) : Vec Ideal S120x4096 .f32) (ix2 r x)
      = L ⟨r.val / 15, by omega⟩ ⟨r.val % 15, by omega⟩ ⟨x.val / 64, by omega⟩ ⟨x.val % 64, by omega⟩
        + R ⟨r.val / 15, by omega⟩ ⟨r.val % 15, by omega⟩ ⟨x.val / 64, by omega⟩ ⟨x.val % 64, by omega⟩ := by
  entry_read
  pointwise []
  exact congrArg₂ (fun a b : EReal => a + b) (HL _ _ _ _) (HR _ _ _ _)

theorem flat_read (r : Fin 120) (x : Fin 4096) :
    (StableHlo.after hostOps2_6 (StableHlo.after hostOps2_5 σ) (dr main_v64) : Vec Ideal S120x1x4096 .f32) (ix3 r 0 x)
      = (σ (dr main_v62) : Vec Ideal S120x4096 .f32) (ix2 r x) := by
  entry_read
  simp -implicitDefEqProofs only [StableHlo.TRef.toBuf, StableHlo.TRef.ofBuf, cast_cast, cast_eq]
  pointwise []

theorem start_read2 (a : Fin 64) :
    (StableHlo.after hostOps2_7 (StableHlo.after hostOps2_6 σ) (dr main_v68) : Vec Ideal S64 .i32) (ix1 a) = BitVec.ofNat 32 (min 48 (a.val - 8)) := by
  entry_read
  simp -implicitDefEqProofs only [StableHlo.TRef.toBuf, StableHlo.TRef.ofBuf, cast_cast, cast_eq]
  pointwise []
  exact start_word a

theorem cols_read2 (a : Fin 64) : (StableHlo.after hostOps2_6 σ (dr main_v65) : Vec Ideal S64 .i32) (ix1 a) = BitVec.ofNat 32 a.val := by
  entry_read
  pointwise []

theorem seen_read2 (H : ∀ a, (σ (dr main_v68) : Vec Ideal S64 .i32) (ix1 a) = BitVec.ofNat 32 (min 48 (a.val - 8)))
    (H0 : ∀ a, (σ (dr main_v65) : Vec Ideal S64 .i32) (ix1 a) = BitVec.ofNat 32 a.val) (x : Fin 4096) :
    (StableHlo.after hostOps2_8 σ (dr main_v82) : Vec Ideal S4096 .i1) (ix1 x) = if Sees (x.val / 64) (x.val % 64) then 1#1 else 0#1 := by
  entry_read
  pointwise []
  rw [H, H0]
  exact seen_word ⟨x.val / 64, by omega⟩ ⟨x.val % 64, by omega⟩

theorem col_read2 (H0 : ∀ a, (σ (dr main_v65) : Vec Ideal S64 .i32) (ix1 a) = BitVec.ofNat 32 a.val) (a k : Fin 64) :
    (StableHlo.after hostOps2_9 (StableHlo.after hostOps2_8 σ) (dr main_v90) : Vec Ideal S64x64 .i32) (ix2 a k) = BitVec.ofNat 32 (col a.val k.val) := by
  entry_read
  simp -implicitDefEqProofs only [StableHlo.TRef.toBuf, StableHlo.TRef.ofBuf, cast_cast, cast_eq]
  pointwise []
  rw [H0, H0]
  exact col_word a k

theorem one_read2 (H : ∀ x : Fin 4096, (σ (dr main_v82) : Vec Ideal S4096 .i1) (ix1 x) = if Sees (x.val / 64) (x.val % 64) then 1#1 else 0#1)
    (H0 : ∀ a k, (σ (dr main_v90) : Vec Ideal S64x64 .i32) (ix2 a k) = BitVec.ofNat 32 (col a.val k.val)) (e : Fin 128) (x : Fin 4096) :
    (StableHlo.after hostOps2_11 (StableHlo.after hostOps2_10 σ) (dr main_v101) : Vec Ideal S128x4096 .f32) (ix2 e x)
      = if col (x.val / 64) (x.val % 64) = e.val ∧ Sees (x.val / 64) (x.val % 64) then (1 : EReal) else 0 := by
  entry_read
  simp -implicitDefEqProofs only [StableHlo.TRef.toBuf, StableHlo.TRef.ofBuf, cast_cast, cast_eq]
  pointwise []
  rw [H, H0]
  have h := one_word ⟨_, col_lt (x.val / 64) (x.val % 64)⟩ e (decide (Sees (x.val / 64) (x.val % 64)))
  simp only [decide_eq_true_eq] at h
  rw [h]
  split <;> rfl

theorem table_read (T : Fin 120 → Fin 4096 → EReal) (P : Fin 128 → Fin 4096 → EReal)
    (HT : ∀ r x, (σ (dr main_v64) : Vec Ideal S120x1x4096 .f32) (ix3 r 0 x) = T r x)
    (HP : ∀ e x, (σ (dr main_v101) : Vec Ideal S128x4096 .f32) (ix2 e x) = P e x) (h : Fin 8) (n : Fin 15) (e : Fin 31) :
    (StableHlo.after hostOps2_12 σ (dr main_v109) : Vec Ideal S8x15x31 .f32) (ix3 h n e)
      = ∑ x : Fin 4096, T ⟨h.val * 15 + n.val, by omega⟩ x * P ⟨e.val, by omega⟩ x := by
  entry_read
  pointwise []
  refine Finset.sum_congr (M := EReal) rfl fun x _ => ?_
  rw [HT, HP]

end

end Cert.NaMath
-- ==== Proof.NaFwd.lean ====
/- The forward call: its two arrays, the outputs and the logarithms of the sums of exponentials. -/
module

public import proofs.«01_k».proof.Proof.NaBlocks
public import Idealize.ShloMosaic.Lib.Pipeline.ValueKit

@[expose] public section

set_option maxRecDepth 16384

noncomputable section

namespace Cert.NaMath

open Idealize.ShloMosaic Idealize.ShloMosaic.TcCoe
open Cert.NaKernelIdeal Cert.NaKernelIdeal.Gen Cert.NaKernelIdeal.NaRegion Cert.NaKernelIdeal.NaBody
open Cert.NaKernelIdeal.NaOff (st row_eq tile_eq lt0)

theorem k0_off1_eq (i : grid0.Coords) : k0_off1 i = ![64 * st (i 1).val, 0] := congrArg (fun n => ![n, 0]) (row_eq ⟨(i 1).val, lt0 i⟩)
theorem k0_off3_eq (i : grid0.Coords) : k0_off3 i = ![64 * st (i 1).val, 128] := congrArg (fun n => ![n, 128]) (row_eq ⟨(i 1).val, lt0 i⟩)
theorem k0_off2_eq (i : grid0.Coords) (n : Fin 7) : k0_off2 i (BitVec.ofNat 32 n.val) = ![0, 7 + st (i 1).val + n.val - (i 1).val, 0, 0] :=
  congrArg (fun k => ![0, k, 0, 0]) (tile_eq ⟨(i 1).val, lt0 i⟩ n)
theorem k0_off4_eq (i : grid0.Coords) (n : Fin 7) : k0_off4 i (BitVec.ofNat 32 n.val) = ![1, 7 + st (i 1).val + n.val - (i 1).val, 0, 0] :=
  congrArg (fun k => ![1, k, 0, 0]) (tile_eq ⟨(i 1).val, lt0 i⟩ n)

theorem idx0 : ∀ t : Fin cfg0.N, (win0_0.index t = ![t.val % 64, t.val / 64] ∧ win0_1.index t = ![0, 4 + t.val / 64] ∧ win0_2.index t = ![0, 8 + t.val / 64]
    ∧ win0_3.index t = ![0, t.val / 64] ∧ win0_4.index t = ![0, 4 + t.val / 64] ∧ win0_5.index t = ![t.val / 64, 0, 0, 0]
    ∧ win0_6.index t = ![t.val % 64, t.val / 64] ∧ win0_7.index t = ![t.val / 64, t.val % 64, 0]) ∧ t.val < 256 ∧ (grid0.coords t 1).val = t.val % 64 :=
  (by decide +kernel : ∀ t : Fin grid0.N, _)

/-- The first head's arithmetic is the second's. -/
theorem first_o (q : Vec Ideal S64x128 .bf16) (k v : Vec Ideal S512x128 .bf16) (kc vc : Vec Ideal S256x128 .bf16) (b0 b1 b2 b3 : Vec Ideal S1x1x64x128 .f32) :
    k0_pay18 q (k0_pay8 q k) (k0_pay9 b0) (k0_pay10 b1) (k0_pay11 b2) b3 kc v vc = k0_pay6 (k0_pay21 q k b0 b1 b2 b3) (k0_pay22 q kc) v vc := rfl
theorem first_l (q : Vec Ideal S64x128 .bf16) (k : Vec Ideal S512x128 .bf16) (kc : Vec Ideal S256x128 .bf16) (b0 b1 b2 b3 : Vec Ideal S1x1x64x128 .f32) :
    k0_pay20 (k0_pay19 q (k0_pay8 q k) (k0_pay9 b0) (k0_pay10 b1) (k0_pay11 b2) b3 kc) = k0_pay7 (k0_pay21 q k b0 b1 b2 b3) (k0_pay22 q kc) := rfl

/-- What the arrays hold when either call is entered. -/
structure In (A : Arrays) (V : (b : Ref sig .tc) → b.ty.Contents (Elt Ideal)) : Prop where
  x0 : ∀ i j, (V main_arg0 : Vec Ideal S4096x3072 .bf16) (ix2 i j) = ((A.a0 i j : ℝ) : EReal)
  x1 : ∀ i j, (V main_arg1 : Vec Ideal S256x2048 .bf16) (ix2 i j) = ((A.a1 i j : ℝ) : EReal)
  b : ∀ (h : Fin 8) (n : Fin 14) (q : Fin 64) (k : Fin 128), (V main_v54 : Vec Ideal S8x14x64x128 .f32) (ix4 h n q k)
    = if Sees q.val (k.val % 64) then ((A.a2 h ⟨n.val + k.val / 64, by omega⟩ ⟨col q.val (k.val % 64), col_lt ..⟩ : ℝ) : EReal) else ⊥

variable {A : Arrays} {V : (c : Dev nD) → (b : Ref sig .tc) → Buf (Elt Ideal) ((c : Thread nD τ).loc b)} {c : Dev nD} (I : In A (V c))
include I

theorem holds0 (t : Fin cfg0.N) (g : Fin 4) (r : Fin 64) (ht : t.val = g.val * 64 + r.val) :
    Holds A g r (iblk0 V c 0 t) (iblk0 V c 1 t) (iblk0 V c 2 t) (iblk0 V c 3 t) (iblk0 V c 4 t) (iblk0 V c 5 t) where
  q a j := by
    refine Eq.trans ?_ (I.x0 _ _)
    unfold iblk0
    blk_point [idx0 t]
  k i j := by
    refine Eq.trans ?_ (I.x0 _ _)
    unfold iblk0
    blk_point [idx0 t]
  v i j := by
    refine Eq.trans ?_ (I.x0 _ _)
    unfold iblk0
    blk_point [idx0 t]
  kc i j := by
    refine Eq.trans ?_ (I.x1 _ _)
    unfold iblk0
    blk_point [idx0 t]
  vc i j := by
    refine Eq.trans ?_ (I.x1 _ _)
    unfold iblk0
    blk_point [idx0 t]
  b hh n a k := by
    refine Eq.trans ?_ (I.b _ _ _ _)
    unfold iblk0
    blk_point [idx0 t]

theorem left_o0 (t : Fin cfg0.N) (g : Fin 4) (r : Fin 64) (ht : t.val = g.val * 64 + r.val) (a : Fin 64) (d : Fin 128) :
    ((left0 V c t).1 : Vec Ideal S64x256 .bf16) (ix2 a ⟨0 * 128 + d.val, by omega⟩) = (((blk A (head g 0) r).o a d : ℝ) : EReal) := by
  have hr : (grid0.coords t 1).val = r.val := by rw [(idx0 t).2.2]; omega
  unfold left0 ptF fwdRun
  dsimp only
  refine (View.read_writes_cons_unit_of_not_mem _ _ _ _ _ _ rfl (1 : Fin 2) (.inl ?_)).trans ?_
  · show 0 * 128 + d.val < 128
    omega
  refine (View.read_writes_cons_unit_of_mem _ _ _ _ _ _ (ix2 a d) rfl ?_).trans ?_
  · exact fun b => match b with | 0 => (zero_add _).symm | 1 => by simp [ix2]
  refine (congrFun (first_o _ _ _ _ _ _ _ _ _) _).trans ?_
  exact Blk.output (reads (holds0 I t g r ht) 0 _ _ _ _ _ _ rfl ((k0_off1_eq _).trans (by rw [hr]; rfl)) ((k0_off1_eq _).trans (by rw [hr]; rfl)) rfl
    ((k0_off2_eq _ 0).trans (by rw [hr]; rfl)) ((k0_off2_eq _ 2).trans (by rw [hr]; rfl)) ((k0_off2_eq _ 4).trans (by rw [hr]; rfl)) ((k0_off2_eq _ 6).trans (by rw [hr]; rfl))) a d

theorem left_o1 (t : Fin cfg0.N) (g : Fin 4) (r : Fin 64) (ht : t.val = g.val * 64 + r.val) (a : Fin 64) (d : Fin 128) :
    ((left0 V c t).1 : Vec Ideal S64x256 .bf16) (ix2 a ⟨1 * 128 + d.val, by omega⟩) = (((blk A (head g 1) r).o a d : ℝ) : EReal) := by
  have hr : (grid0.coords t 1).val = r.val := by rw [(idx0 t).2.2]; omega
  unfold left0 ptF fwdRun
  dsimp only
  refine (View.read_writes_cons_unit_of_mem _ _ _ _ _ _ (ix2 a d) rfl ?_).trans ?_
  · exact fun b => match b with | 0 => (zero_add _).symm | 1 => rfl
  exact Blk.output (reads (holds0 I t g r ht) 1 _ _ _ _ _ _ rfl ((k0_off3_eq _).trans (by rw [hr]; rfl)) ((k0_off3_eq _).trans (by rw [hr]; rfl)) rfl
    ((k0_off4_eq _ 0).trans (by rw [hr]; rfl)) ((k0_off4_eq _ 2).trans (by rw [hr]; rfl)) ((k0_off4_eq _ 4).trans (by rw [hr]; rfl)) ((k0_off4_eq _ 6).trans (by rw [hr]; rfl))) a d

theorem left_l0 (t : Fin cfg0.N) (g : Fin 4) (r : Fin 64) (ht : t.val = g.val * 64 + r.val) (a : Fin 64) :
    ((left0 V c t).2 : Vec Ideal S2x64x1 .f32) (ix3 0 a 0) = ((Real.log ((blk A (head g 0) r).z a) : ℝ) : EReal) := by
  have hr : (grid0.coords t 1).val = r.val := by rw [(idx0 t).2.2]; omega
  unfold left0 ptF fwdRun
  dsimp only
  refine (View.read_writes_cons_unit_of_not_mem _ _ _ _ _ _ rfl (0 : Fin 3) (.inl (by decide : (0 : ℕ) < 1))).trans ?_
  refine (View.read_writes_cons_unit_of_mem _ _ _ _ _ _ (ix3 0 a 0) rfl ?_).trans ?_
  · exact fun b => match b with | 0 => rfl | 1 => (zero_add _).symm | 2 => rfl
  refine (congrFun (first_l _ _ _ _ _ _ _) _).trans ?_
  exact Blk.logsum (reads (i2 := k0_off1_inb _) (i4 := inb_S256x256_S256x128_0_0) (holds0 I t g r ht) 0 _ _ (hs0_2 t) _ (hs0_4 t) _ rfl ((k0_off1_eq _).trans (by rw [hr]; rfl)) ((k0_off1_eq _).trans (by rw [hr]; rfl)) rfl
    ((k0_off2_eq _ 0).trans (by rw [hr]; rfl)) ((k0_off2_eq _ 2).trans (by rw [hr]; rfl)) ((k0_off2_eq _ 4).trans (by rw [hr]; rfl)) ((k0_off2_eq _ 6).trans (by rw [hr]; rfl))) a

theorem left_l1 (t : Fin cfg0.N) (g : Fin 4) (r : Fin 64) (ht : t.val = g.val * 64 + r.val) (a : Fin 64) :
    ((left0 V c t).2 : Vec Ideal S2x64x1 .f32) (ix3 1 a 0) = ((Real.log ((blk A (head g 1) r).z a) : ℝ) : EReal) := by
  have hr : (grid0.coords t 1).val = r.val := by rw [(idx0 t).2.2]; omega
  unfold left0 ptF fwdRun
  dsimp only
  refine (View.read_writes_cons_unit_of_mem _ _ _ _ _ _ (ix3 0 a 0) rfl ?_).trans ?_
  · exact fun b => match b with | 0 => rfl | 1 => (zero_add _).symm | 2 => rfl
  exact Blk.logsum (reads (i2 := k0_off3_inb _) (i4 := inb_S256x256_S256x128_0_128) (holds0 I t g r ht) 1 _ _ (hs0_2 t) _ (hs0_4 t) _ rfl ((k0_off3_eq _).trans (by rw [hr]; rfl)) ((k0_off3_eq _).trans (by rw [hr]; rfl)) rfl
    ((k0_off4_eq _ 0).trans (by rw [hr]; rfl)) ((k0_off4_eq _ 2).trans (by rw [hr]; rfl)) ((k0_off4_eq _ 4).trans (by rw [hr]; rfl)) ((k0_off4_eq _ 6).trans (by rw [hr]; rfl))) a

omit I in
/-- The outputs, and the logarithms of the sums. -/
def outO (A : Arrays) (i : Fin 4096) (j : Fin 1024) : ℝ := (blk A ⟨j.val / 128, by omega⟩ ⟨i.val / 64, by omega⟩).o ⟨i.val % 64, by omega⟩ ⟨j.val % 128, by omega⟩
omit I in
def outL (A : Arrays) (h : Fin 8) (i : Fin 4096) : ℝ := Real.log ((blk A h ⟨i.val / 64, by omega⟩).z ⟨i.val % 64, by omega⟩)

omit I in
theorem outO_at (g : Fin 4) (hh : Fin 2) (r a : Fin 64) (d : Fin 128) (i : Fin 4096) (j : Fin 1024) (hi : i.val = r.val * 64 + a.val)
    (hj : j.val = g.val * 256 + (hh.val * 128 + d.val)) : outO A i j = (blk A (head g hh) r).o a d := by
  unfold outO
  have e1 : (⟨j.val / 128, by omega⟩ : Fin 8) = head g hh := Fin.ext (by simp only; omega)
  have e2 : (⟨i.val / 64, by omega⟩ : Fin 64) = r := Fin.ext (by simp only; omega)
  have e3 : (⟨i.val % 64, by omega⟩ : Fin 64) = a := Fin.ext (by simp only; omega)
  have e4 : (⟨j.val % 128, by omega⟩ : Fin 128) = d := Fin.ext (by simp only; omega)
  rw [e1, e2, e3, e4]

omit I in
theorem outL_at (h : Fin 8) (r a : Fin 64) (i : Fin 4096) (hi : i.val = r.val * 64 + a.val) : outL A h i = Real.log ((blk A h r).z a) := by
  unfold outL
  have e2 : (⟨i.val / 64, by omega⟩ : Fin 64) = r := Fin.ext (by simp only; omega)
  have e3 : (⟨i.val % 64, by omega⟩ : Fin 64) = a := Fin.ext (by simp only; omega)
  rw [e2, e3]

theorem left_o (t : Fin cfg0.N) (g : Fin 4) (r : Fin 64) (ht : t.val = g.val * 64 + r.val) (hh : Fin 2) (a : Fin 64) (d : Fin 128) (j : Fin 256)
    (hj : j.val = hh.val * 128 + d.val) : ((left0 V c t).1 : Vec Ideal S64x256 .bf16) (ix2 a j) = (((blk A (head g hh) r).o a d : ℝ) : EReal) := by
  rw [show j = ⟨hh.val * 128 + d.val, by omega⟩ from Fin.ext hj]
  match hh with
  | 0 => exact left_o0 I t g r ht a d
  | 1 => exact left_o1 I t g r ht a d

theorem left_l (t : Fin cfg0.N) (g : Fin 4) (r : Fin 64) (ht : t.val = g.val * 64 + r.val) (hh : Fin 2) (a : Fin 64) :
    ((left0 V c t).2 : Vec Ideal S2x64x1 .f32) (ix3 hh a 0) = ((Real.log ((blk A (head g hh) r).z a) : ℝ) : EReal) := by
  match hh with
  | 0 => exact left_l0 I t g r ht a
  | 1 => exact left_l1 I t g r ht a

omit I in
/-- A column of a pair's block is a column of one of its two heads. -/
theorem split_col (j : Fin 256) : ∃ (hh : Fin 2) (d : Fin 128), j.val = hh.val * 128 + d.val :=
  ⟨⟨j.val / 128, by omega⟩, ⟨j.val % 128, by omega⟩, by simp only; omega⟩

theorem o_array : (dat0 V c).arrAt 6 cfg0.N = fun y : S4096x1024.Idx => ((outO A (y 0) (y 1) : ℝ) : EReal) := by
  refine (dat0 V c).arrAt_eq_of_covers 6 _ (by decide +kernel) fun t _ y => ?_
  have ht := (idx0 t).2.1
  obtain ⟨a, j, rfl⟩ : ∃ (a : Fin 64) (j : Fin 256), y = ix2 a j := ⟨y 0, y 1, eq_ix2 y⟩
  have hr : ((cfg0.win 6).blk t).view.emb (ix2 a j) = ix2 ⟨(t.val % 64) * 64 + a.val, by omega⟩ ⟨(t.val / 64) * 256 + j.val, by omega⟩ := by blk_ext! [idx0 t]
  obtain ⟨hh, d, hj⟩ := split_col j
  rw [hr, after0_6]
  refine (left_o I t ⟨t.val / 64, by omega⟩ ⟨t.val % 64, by omega⟩ (by simp only; omega) hh a d j hj).trans ?_
  exact congrArg (fun x : ℝ => (x : EReal)) (outO_at ⟨t.val / 64, by omega⟩ hh ⟨t.val % 64, by omega⟩ a d _ _ rfl (congrArg (t.val / 64 * 256 + ·) hj)).symm

theorem l_array : (dat0 V c).arrAt 7 cfg0.N = fun y : S8x4096x1.Idx => ((outL A (y 0) (y 1) : ℝ) : EReal) := by
  refine (dat0 V c).arrAt_eq_of_covers 7 _ (by decide +kernel) fun t _ y => ?_
  have ht := (idx0 t).2.1
  obtain ⟨hh, a, z, rfl⟩ : ∃ (hh : Fin 2) (a : Fin 64) (z : Fin 1), y = ix3 hh a z := ⟨y 0, y 1, y 2, eq_ix3 y⟩
  obtain rfl : z = 0 := Subsingleton.elim _ _
  have hr : ((cfg0.win 7).blk t).view.emb (ix3 hh a 0) = ix3 (head ⟨t.val / 64, by omega⟩ hh) ⟨(t.val % 64) * 64 + a.val, by omega⟩ 0 := by blk_ext! [idx0 t]
  rw [hr, after0_7]
  refine (left_l I t ⟨t.val / 64, by omega⟩ ⟨t.val % 64, by omega⟩ (by simp only; omega) hh a).trans ?_
  exact congrArg (fun x : ℝ => (x : EReal)) (outL_at _ ⟨t.val % 64, by omega⟩ a _ rfl).symm

end Cert.NaMath
-- ==== Proof.NaAcc.lean ====
/- Stores that add to what a block holds: what the block reads afterwards, one store at a time; the pieces that the
   gradient's stores add. -/
module

public import proofs.«01_k».proof.Proof.NaFwd

@[expose] public section

set_option maxRecDepth 16384

noncomputable section

namespace Cert.NaMath

open Idealize.ShloMosaic
open Cert.NaKernelIdeal Cert.NaKernelIdeal.Gen
open Cert.NaKernelIdeal.NaOff (st)

section

variable {s : Shape} {mm : Memref sig .tc .vmem s .f32} {C : mm.view.ty.Contents (Elt Ideal)} {L : List (View.Piece (Elt Ideal) s .f32)}
  {off off' size : Fin s.rank → ℕ} {inb : ∀ a, off a + size a ≤ s.size a}

/-- A load of a part reads what the stores before it left at the part's place. -/
theorem load_writes (heq : off = off') (x : (Rect.unit (s := s) off size inb).shape.Idx) (y : s.Idx) (h : ∀ a, (y a).val = off' a + (x a).val) :
    View.readAt (Elt Ideal) mm.view (Rect.unit (s := s) off size inb).toLoadRect (mm.view.writes (Elt Ideal) C L) x
      = mm.view.read (Elt Ideal) (mm.view.writes (Elt Ideal) C L) y := by
  subst heq
  have hy : (Rect.unit (s := s) off size inb).emb x = y := funext fun a => Fin.ext (by
    show off a + 1 * (x a).val = (y a).val
    rw [h a, one_mul])
  exact congrArg (mm.view.read (Elt Ideal) (mm.view.writes (Elt Ideal) C L)) hy

/-- A store of what was there and an addend, over a part of the block, adds the addend there. -/
theorem add_store' {w : (Rect.unit (s := s) off size inb).shape.Idx → Elt Ideal .f32} {f : s.Idx → EReal} (u : s.Idx → EReal)
    (hL : ∀ y, mm.view.read (Elt Ideal) (mm.view.writes (Elt Ideal) C L) y = f y) (heq : off = off')
    (hw : ∀ x (y : s.Idx), (∀ a, (y a).val = off' a + (x a).val) → w x = f y + u y)
    (hu : ∀ (y : s.Idx) a, (y a).val < off' a ∨ off' a + size a ≤ (y a).val → u y = 0) (y : s.Idx) :
    mm.view.read (Elt Ideal) (mm.view.writes (Elt Ideal) C (⟨Rect.unit off size inb, w⟩ :: L)) y = f y + u y := by
  by_cases h : ∀ a, off' a ≤ (y a).val ∧ (y a).val < off' a + size a
  · rw [View.read_writes_cons_unit mm.view C inb w L y heq, dif_pos h]
    refine hw _ y fun a => ?_
    have := h a
    rw [Rect.unitLocal_val]
    omega
  · obtain ⟨a, ha⟩ := not_forall.mp h
    have ha' : (y a).val < off' a ∨ off' a + size a ≤ (y a).val := by omega
    rw [View.read_writes_cons_unit_of_not_mem mm.view C inb w L y heq a ha', hL y, hu y a ha']
    exact (add_zero (M := EReal) _).symm

theorem add_store {w : (Rect.unit (s := s) off size inb).shape.Idx → Elt Ideal .f32} {f : s.Idx → EReal} (u : s.Idx → EReal)
    (hL : ∀ y, mm.view.read (Elt Ideal) (mm.view.writes (Elt Ideal) C L) y = f y) (heq : off = off')
    (hw : ∀ x (y : s.Idx), (∀ a, (y a).val = off' a + (x a).val) → w x = mm.view.read (Elt Ideal) (mm.view.writes (Elt Ideal) C L) y + u y)
    (hu : ∀ (y : s.Idx) a, (y a).val < off' a ∨ off' a + size a ≤ (y a).val → u y = 0) (y : s.Idx) :
    mm.view.read (Elt Ideal) (mm.view.writes (Elt Ideal) C (⟨Rect.unit off size inb, w⟩ :: L)) y = f y + u y :=
  add_store' u hL heq (fun x y h => (hw x y h).trans (congrArg (· + u y) (hL y))) hu y

/-- After a store of zeros over the whole block it reads zeros. -/
theorem zero_store {C : mm.view.ty.Contents (Elt Ideal)} {size : Fin s.rank → ℕ} {off : Fin s.rank → ℕ} {inb : ∀ a, off a + size a ≤ s.size a}
    {w : (Rect.unit (s := s) off size inb).shape.Idx → Elt Ideal .f32} (hs : size = s.size) (ho : off = fun _ => 0) (hw : ∀ x, w x = (0 : EReal)) (y : s.Idx) :
    mm.view.read (Elt Ideal) (mm.view.writes (Elt Ideal) C [⟨Rect.unit off size inb, w⟩]) y = (0 : EReal) := by
  subst hs
  exact (View.read_writes_cons_unit_of_mem mm.view C inb w [] y y ho fun a => (zero_add _).symm).trans (hw y)

end

/-- The rows from `r0` on, of an array of 4096 rows that is zero elsewhere. -/
def rowsAt (r0 : ℕ) (X : Fin 512 → Fin 128 → ℝ) (R : Fin 4096) (d : Fin 128) : ℝ := if h : r0 ≤ R.val ∧ R.val < r0 + 512 then X ⟨R.val - r0, by omega⟩ d else 0

/-- Head `hh`'s columns of a pair's block that is zero in the other head's. -/
def half {n : ℕ} (hh : ℕ) (Y : Fin n → Fin 128 → ℝ) (y : Shape.Idx ⟨2, ![n, 256]⟩) : EReal :=
  if hh * 128 ≤ (y 1).val ∧ (y 1).val < hh * 128 + 128 then ((Y (y 0) ⟨(y 1).val % 128, by omega⟩ : ℝ) : EReal) else 0

/-- One tile of a pair's tiles that are zero elsewhere. -/
def band (hh n : ℕ) (X : Fin 64 → Fin 128 → ℝ) (y : S2x14x64x128.Idx) : EReal := if (y 0).val = hh ∧ (y 1).val = n then ((X (y 2) (y 3) : ℝ) : EReal) else 0

theorem half_at {n : ℕ} {hh : ℕ} (hhh : hh < 2) (Y : Fin n → Fin 128 → ℝ) (y : Shape.Idx ⟨2, ![n, 256]⟩) (d : Fin 128) (h : (y 1).val = hh * 128 + d.val) :
    half hh Y y = ((Y (y 0) d : ℝ) : EReal) := by
  unfold half
  rw [if_pos (by omega)]
  exact congrArg (fun d => ((Y (y 0) d : ℝ) : EReal)) (Fin.ext (by simp only; omega))
theorem half_out {n : ℕ} {hh : ℕ} (Y : Fin n → Fin 128 → ℝ) (y : Shape.Idx ⟨2, ![n, 256]⟩) (h : (y 1).val < hh * 128 ∨ hh * 128 + 128 ≤ (y 1).val) : half hh Y y = 0 := by
  unfold half
  rw [if_neg (by omega)]
theorem half_zero {n : ℕ} {hh : ℕ} (Y : Fin n → Fin 128 → ℝ) (y : Shape.Idx ⟨2, ![n, 256]⟩) (h : ∀ d, Y (y 0) d = 0) : half hh Y y = 0 := by
  unfold half
  split
  · rw [h]; rfl
  · rfl
theorem rowsAt_at {r0 : ℕ} (X : Fin 512 → Fin 128 → ℝ) (R : Fin 4096) (n : Fin 512) (d : Fin 128) (h : R.val = r0 + n.val) : rowsAt r0 X R d = X n d := by
  unfold rowsAt
  rw [dif_pos (by omega)]
  exact congrArg (fun n => X n d) (Fin.ext (by simp only; omega))
theorem rowsAt_out {r0 : ℕ} (X : Fin 512 → Fin 128 → ℝ) (R : Fin 4096) (d : Fin 128) (h : R.val < r0 ∨ r0 + 512 ≤ R.val) : rowsAt r0 X R d = 0 := by
  unfold rowsAt
  rw [dif_neg (by omega)]

/-- One column of heads of one of the two heads. -/
theorem half_pair {n : ℕ} (Y : Fin 2 → Fin n → Fin 128 → ℝ) (y : Shape.Idx ⟨2, ![n, 256]⟩) (hh : Fin 2) (d : Fin 128) (h : (y 1).val = hh.val * 128 + d.val) (x : EReal) :
    x + half 0 (Y 0) y + half 1 (Y 1) y = x + ((Y hh (y 0) d : ℝ) : EReal) := by
  match hh with
  | 0 =>
    change (y 1).val = 0 * 128 + d.val at h
    rw [half_at (hh := 0) (by omega) (Y 0) y d h, half_out (hh := 1) (Y 1) y (by omega)]; exact add_zero (M := EReal) _
  | 1 =>
    change (y 1).val = 1 * 128 + d.val at h
    rw [half_at (hh := 1) (by omega) (Y 1) y d h, half_out (hh := 0) (Y 0) y (by omega)]; exact congrArg (· + _) (add_zero (M := EReal) _)

section

variable {N : ℕ} {mm : Memref sig .tc .vmem ⟨2, ![N, 256]⟩ .f32} {C : mm.view.ty.Contents (Elt Ideal)} {L : List (View.Piece (Elt Ideal) ⟨2, ![N, 256]⟩ .f32)}

/-- A store that adds numbers to one head's columns of a window of 512 rows. -/
theorem add_rows {mm : Memref sig .tc .vmem S4096x256 .f32} {C : mm.view.ty.Contents (Elt Ideal)} {L : List (View.Piece (Elt Ideal) S4096x256 .f32)}
    {hh r0 : ℕ} (hhh : hh < 2) {off : Fin S4096x256.rank → ℕ} {inb : ∀ a, off a + S512x128.size a ≤ S4096x256.size a}
    {w : (Rect.unit (s := S4096x256) off S512x128.size inb).shape.Idx → Elt Ideal .f32} {f : S4096x256.Idx → EReal} (X : Fin 512 → Fin 128 → ℝ)
    (hL : ∀ y, mm.view.read (Elt Ideal) (mm.view.writes (Elt Ideal) C L) y = f y) (heq : off = ![r0, hh * 128])
    (hw : ∃ Y : Vec Ideal S512x128 .f32, (∀ n d, w (ix2 n d) = Y (ix2 n d) + ((X n d : ℝ) : EReal)) ∧
      ∀ (x : S512x128.Idx) (y : S4096x256.Idx), (∀ a : Fin 2, (y a).val = (![r0, hh * 128] : Fin 2 → ℕ) a + (x a).val) →
      Y x = mm.view.read (Elt Ideal) (mm.view.writes (Elt Ideal) C L) y ∨ Y x = f y) (y : S4096x256.Idx) :
    mm.view.read (Elt Ideal) (mm.view.writes (Elt Ideal) C (⟨Rect.unit off S512x128.size inb, w⟩ :: L)) y = f y + half hh (rowsAt r0 X) y := by
  obtain ⟨Y, hw, hY⟩ := hw
  refine add_store' (half hh (rowsAt r0 X)) hL heq (fun x y h => ?_) (fun y a h => ?_) y
  · obtain ⟨n, d, rfl⟩ : ∃ (n : Fin 512) (d : Fin 128), x = ix2 n d := ⟨x 0, x 1, eq_ix2 x⟩
    refine (hw n d).trans (congrArg₂ (· + ·) ((hY _ y h).elim (fun e => e.trans (hL y)) id) ?_)
    exact ((half_at (hh := hh) hhh (rowsAt r0 X) y d (h 1)).trans (congrArg _ (rowsAt_at X (y 0) n d (h 0)))).symm
  · match a with
    | 0 => exact half_zero _ _ fun d => rowsAt_out X _ d h
    | 1 => exact half_out _ _ h

/-- A store that adds numbers to one head's columns. -/
theorem add_cols {mm : Memref sig .tc .vmem S256x256 .f32} {C : mm.view.ty.Contents (Elt Ideal)} {L : List (View.Piece (Elt Ideal) S256x256 .f32)}
    {hh : ℕ} (hhh : hh < 2) {off : Fin S256x256.rank → ℕ} {inb : ∀ a, off a + S256x128.size a ≤ S256x256.size a}
    {w : (Rect.unit (s := S256x256) off S256x128.size inb).shape.Idx → Elt Ideal .f32} {f : S256x256.Idx → EReal} (X : Fin 256 → Fin 128 → ℝ)
    (hL : ∀ y, mm.view.read (Elt Ideal) (mm.view.writes (Elt Ideal) C L) y = f y) (heq : off = ![0, hh * 128])
    (hw : ∃ Y : Vec Ideal S256x128 .f32, (∀ n d, w (ix2 n d) = Y (ix2 n d) + ((X n d : ℝ) : EReal)) ∧
      ∀ (x : S256x128.Idx) (y : S256x256.Idx), (∀ a : Fin 2, (y a).val = (![0, hh * 128] : Fin 2 → ℕ) a + (x a).val) →
      Y x = mm.view.read (Elt Ideal) (mm.view.writes (Elt Ideal) C L) y ∨ Y x = f y) (y : S256x256.Idx) :
    mm.view.read (Elt Ideal) (mm.view.writes (Elt Ideal) C (⟨Rect.unit off S256x128.size inb, w⟩ :: L)) y = f y + half hh X y := by
  obtain ⟨Y, hw, hY⟩ := hw
  refine add_store' (half hh X) hL heq (fun x y h => ?_) (fun y a h => ?_) y
  · obtain ⟨n, d, rfl⟩ : ∃ (n : Fin 256) (d : Fin 128), x = ix2 n d := ⟨x 0, x 1, eq_ix2 x⟩
    refine (hw n d).trans (congrArg₂ (· + ·) ((hY _ y h).elim (fun e => e.trans (hL y)) id) ?_)
    refine Eq.trans ?_ (half_at (hh := hh) hhh X y d (h 1)).symm
    exact congrArg (fun n => ((X n d : ℝ) : EReal)) (Fin.ext ((h 0).trans (zero_add _)).symm)
  · match a with
    | 0 => exact absurd h (by have := (y 0).isLt; change ¬ ((y 0).val < 0 ∨ 0 + 256 ≤ (y 0).val); change (y 0).val < 256 at this; omega)
    | 1 => exact half_out _ _ h

end

/-- A store that adds numbers to one tile. -/
theorem add_tile {mm : Memref sig .tc .vmem S2x14x64x128 .f32} {C : mm.view.ty.Contents (Elt Ideal)} {L : List (View.Piece (Elt Ideal) S2x14x64x128 .f32)}
    {hh n : ℕ} {off : Fin S2x14x64x128.rank → ℕ} {inb : ∀ a, off a + S1x1x64x128.size a ≤ S2x14x64x128.size a}
    {w : (Rect.unit (s := S2x14x64x128) off S1x1x64x128.size inb).shape.Idx → Elt Ideal .f32} {f : S2x14x64x128.Idx → EReal} (X : Fin 64 → Fin 128 → ℝ)
    (hL : ∀ y, mm.view.read (Elt Ideal) (mm.view.writes (Elt Ideal) C L) y = f y) (heq : off = ![hh, n, 0, 0])
    (hw : ∃ Y : Vec Ideal S1x1x64x128 .f32, (∀ a k, w (ix4 0 0 a k) = Y (ix4 0 0 a k) + ((X a k : ℝ) : EReal)) ∧
      ∀ (x : S1x1x64x128.Idx) (y : S2x14x64x128.Idx), (∀ a : Fin 4, (y a).val = (![hh, n, 0, 0] : Fin 4 → ℕ) a + (x a).val) →
      Y x = mm.view.read (Elt Ideal) (mm.view.writes (Elt Ideal) C L) y ∨ Y x = f y) (y : S2x14x64x128.Idx) :
    mm.view.read (Elt Ideal) (mm.view.writes (Elt Ideal) C (⟨Rect.unit off S1x1x64x128.size inb, w⟩ :: L)) y = f y + band hh n X y := by
  obtain ⟨Y, hw, hY⟩ := hw
  refine add_store' (band hh n X) hL heq (fun x y h => ?_) (fun y a h => ?_) y
  · obtain ⟨z0, z1, a, k, rfl⟩ : ∃ (z0 z1 : Fin 1) (a : Fin 64) (k : Fin 128), x = ix4 z0 z1 a k := ⟨x 0, x 1, x 2, x 3, eq_ix4 x⟩
    obtain rfl : z0 = 0 := Subsingleton.elim _ _
    obtain rfl : z1 = 0 := Subsingleton.elim _ _
    refine (hw a k).trans (congrArg₂ (· + ·) ((hY _ y h).elim (fun e => e.trans (hL y)) id) ?_)
    unfold band
    rw [if_pos ⟨h 0, h 1⟩]
    exact congrArg₂ (fun a k => ((X a k : ℝ) : EReal)) (Fin.ext ((h 2).trans (zero_add _)).symm) (Fin.ext ((h 3).trans (zero_add _)).symm)
  · unfold band
    match a with
    | 0 => rw [if_neg]; change (y 0).val < hh ∨ hh + 1 ≤ (y 0).val at h; omega
    | 1 => rw [if_neg]; change (y 1).val < n ∨ n + 1 ≤ (y 1).val at h; omega
    | 2 => exact absurd h (by have := (y 2).isLt; change ¬ ((y 2).val < 0 ∨ 0 + 64 ≤ (y 2).val); change (y 2).val < 64 at this; omega)
    | 3 => exact absurd h (by have := (y 3).isLt; change ¬ ((y 3).val < 0 ∨ 0 + 128 ≤ (y 3).val); change (y 3).val < 128 at this; omega)

end Cert.NaMath
-- ==== Proof.NaPoint.lean ====
/- The gradient's call: what its blocks hold, and what one point of its grid adds to each accumulator. -/
module

public import proofs.«01_k».proof.Proof.NaAcc

@[expose] public section

set_option maxRecDepth 16384

noncomputable section

namespace Cert.NaMath

open Idealize.ShloMosaic Idealize.ShloMosaic.TcCoe
open Cert.NaKernelIdeal Cert.NaKernelIdeal.Gen Cert.NaKernelIdeal.NaRegion Cert.NaKernelIdeal.NaBody
open Cert.NaKernelIdeal.NaOff (st k1_off1_eq k1_off2_eq k1_off3_eq k1_off4_eq)

theorem idx1 : ∀ t : Fin cfg1.N, (win1_0.index t = ![t.val % 64, t.val / 64] ∧ win1_1.index t = ![0, 4 + t.val / 64] ∧ win1_2.index t = ![0, 8 + t.val / 64]
    ∧ win1_3.index t = ![0, t.val / 64] ∧ win1_4.index t = ![0, 4 + t.val / 64] ∧ win1_5.index t = ![t.val / 64, 0, 0, 0]
    ∧ win1_6.index t = ![t.val % 64, t.val / 64] ∧ win1_7.index t = ![t.val / 64, t.val % 64, 0] ∧ win1_8.index t = ![t.val % 64, 4 + t.val / 64]
    ∧ win1_9.index t = ![t.val % 64, t.val / 64] ∧ win1_10.index t = ![0, t.val / 64] ∧ win1_11.index t = ![0, t.val / 64]
    ∧ win1_12.index t = ![0, t.val / 64] ∧ win1_13.index t = ![0, t.val / 64] ∧ win1_14.index t = ![t.val / 64, 0, 0, 0]) ∧ t.val < 256 ∧ (grid1.coords t 1).val = t.val % 64 :=
  (by decide +kernel : ∀ t : Fin grid1.N, _)

/-- What the arrays hold when the gradient's call is entered. -/
structure InG (A : Arrays) (V : (b : Ref sig .tc) → b.ty.Contents (Elt Ideal)) : Prop extends In A V where
  o : ∀ i j, (V main_v55_0 : Vec Ideal S4096x1024 .bf16) (ix2 i j) = ((outO A i j : ℝ) : EReal)
  l : ∀ h i, (V main_v55_1 : Vec Ideal S8x4096x1 .f32) (ix3 h i 0) = ((outL A h i : ℝ) : EReal)
  g : ∀ i j, (V main_arg3 : Vec Ideal S4096x2048 .bf16) (ix2 i j) = ((A.a3 i j : ℝ) : EReal)

/-- The blocks of a point: those of the forward call, the outputs, the logarithms and the cotangent. -/
structure HoldsG (A : Arrays) (g : Fin 4) (r : Fin 64) (x0 : Vec Ideal S64x256 .bf16) (x1 x2 : Vec Ideal S4096x256 .bf16) (x3 x4 : Vec Ideal S256x256 .bf16)
    (x5 : Vec Ideal S2x14x64x128 .f32) (x6 : Vec Ideal S64x256 .bf16) (x7 : Vec Ideal S2x64x1 .f32) (x8 : Vec Ideal S64x256 .bf16) : Prop
    extends Holds A g r x0 x1 x2 x3 x4 x5 where
  o : ∀ a j, x6 (ix2 a j) = ((outO A ⟨r.val * 64 + a.val, by omega⟩ ⟨g.val * 256 + j.val, by omega⟩ : ℝ) : EReal)
  l : ∀ hh a, x7 (ix3 hh a 0) = ((outL A (head g hh) ⟨r.val * 64 + a.val, by omega⟩ : ℝ) : EReal)
  g : ∀ a j, x8 (ix2 a j) = ((A.a3 ⟨r.val * 64 + a.val, by omega⟩ ⟨1024 + (g.val * 256 + j.val), by omega⟩ : ℝ) : EReal)

section

variable {A : Arrays} {g : Fin 4} {r : Fin 64} {x0 : Vec Ideal S64x256 .bf16} {x1 x2 : Vec Ideal S4096x256 .bf16} {x3 x4 : Vec Ideal S256x256 .bf16}
  {x5 : Vec Ideal S2x14x64x128 .f32} {x6 : Vec Ideal S64x256 .bf16} {x7 : Vec Ideal S2x64x1 .f32} {x8 : Vec Ideal S64x256 .bf16}
  (H : HoldsG A g r x0 x1 x2 x3 x4 x5 x6 x7 x8) (hh : Fin 2)
  {m0 : Memref sig .tc .vmem S64x256 .bf16} (h0 : m0.IsWhole) {m1 : Memref sig .tc .vmem S4096x256 .bf16} (h1 : m1.IsWhole)
  {m2 : Memref sig .tc .vmem S4096x256 .bf16} (h2 : m2.IsWhole) {m3 : Memref sig .tc .vmem S256x256 .bf16} (h3 : m3.IsWhole)
  {m4 : Memref sig .tc .vmem S256x256 .bf16} (h4 : m4.IsWhole) {m5 : Memref sig .tc .vmem S2x14x64x128 .f32} (h5 : m5.IsWhole)
  {m6 : Memref sig .tc .vmem S64x256 .bf16} (h6 : m6.IsWhole) {m7 : Memref sig .tc .vmem S2x64x1 .f32} (h7 : m7.IsWhole)
  {m8 : Memref sig .tc .vmem S64x256 .bf16} (h8 : m8.IsWhole)
include H

theorem readsG {offk offv : Fin S4096x256.rank → ℕ} {off0 off6 off8 : Fin S64x256.rank → ℕ} {off3 : Fin S256x256.rank → ℕ} {o0 o1 o2 o3 : Fin S2x14x64x128.rank → ℕ}
    {off7 : Fin S2x64x1.rank → ℕ} {i0 i1 i2 i3 i4 i6 i7 i8 j0 j1 j2 j3}
    (e0 : off0 = ![0, hh.val * 128]) (e1 : offk = ![64 * st r.val, hh.val * 128]) (e2 : offv = ![64 * st r.val, hh.val * 128]) (e3 : off3 = ![0, hh.val * 128])
    (b0 : o0 = ![hh.val, 7 + st r.val + 0 - r.val, 0, 0]) (b1 : o1 = ![hh.val, 7 + st r.val + 2 - r.val, 0, 0])
    (b2 : o2 = ![hh.val, 7 + st r.val + 4 - r.val, 0, 0]) (b3 : o3 = ![hh.val, 7 + st r.val + 6 - r.val, 0, 0])
    (e6 : off6 = ![0, hh.val * 128]) (e7 : off7 = ![hh.val, 0, 0]) (e8 : off8 = ![0, hh.val * 128]) :
    (blk A (head g hh) r).ReadsG
      (View.readAt (Elt Ideal) m0.view (Rect.unit (s := S64x256) off0 S64x128.size i0).toLoadRect (h0.unread x0))
      (View.readAt (Elt Ideal) m1.view (Rect.unit (s := S4096x256) offk S512x128.size i1).toLoadRect (h1.unread x1))
      (View.readAt (Elt Ideal) m2.view (Rect.unit (s := S4096x256) offv S512x128.size i2).toLoadRect (h2.unread x2))
      (View.readAt (Elt Ideal) m3.view (Rect.unit (s := S256x256) off3 S256x128.size i3).toLoadRect (h3.unread x3))
      (View.readAt (Elt Ideal) m4.view (Rect.unit (s := S256x256) off3 S256x128.size i4).toLoadRect (h4.unread x4))
      (View.readAt (Elt Ideal) m5.view (Rect.unit (s := S2x14x64x128) o0 S1x1x64x128.size j0).toLoadRect (h5.unread x5))
      (View.readAt (Elt Ideal) m5.view (Rect.unit (s := S2x14x64x128) o1 S1x1x64x128.size j1).toLoadRect (h5.unread x5))
      (View.readAt (Elt Ideal) m5.view (Rect.unit (s := S2x14x64x128) o2 S1x1x64x128.size j2).toLoadRect (h5.unread x5))
      (View.readAt (Elt Ideal) m5.view (Rect.unit (s := S2x14x64x128) o3 S1x1x64x128.size j3).toLoadRect (h5.unread x5))
      (View.readAt (Elt Ideal) m6.view (Rect.unit (s := S64x256) off6 S64x128.size i6).toLoadRect (h6.unread x6))
      (View.readAt (Elt Ideal) m8.view (Rect.unit (s := S64x256) off8 S64x128.size i8).toLoadRect (h8.unread x8))
      (View.readAt (Elt Ideal) m7.view (Rect.unit (s := S2x64x1) off7 S1x64x1.size i7).toLoadRect (h7.unread x7)) where
  reads := reads H.toHolds hh h0 h1 h2 h3 h4 h5 e0 e1 e2 e3 b0 b1 b2 b3
  o a d := by
    refine (load h6 x6 e6 (ix2 a d) (ix2 a ⟨hh.val * 128 + d.val, by omega⟩) (fun b => match b with | 0 => (zero_add _).symm | 1 => rfl)).trans ((H.o ..).trans ?_)
    exact congrArg (fun x : ℝ => (x : EReal)) (outO_at g hh r a d _ _ rfl rfl)
  g a d := by
    refine (load h8 x8 e8 (ix2 a d) (ix2 a ⟨hh.val * 128 + d.val, by omega⟩) (fun b => match b with | 0 => (zero_add _).symm | 1 => rfl)).trans ((H.g ..).trans ?_)
    exact congrArg (fun j => ((A.a3 ⟨r.val * 64 + a.val, by omega⟩ j : ℝ) : EReal)) (Fin.ext (by simp only; omega))
  l a := by
    refine (load (size := S1x64x1.size) (inb := i7) h7 x7 e7 (ix3 0 a 0) (ix3 hh a 0) (fun b => match b with | 0 => (add_zero _).symm | 1 => (zero_add _).symm | 2 => rfl)).trans ((H.l ..).trans ?_)
    exact congrArg (fun x : ℝ => (x : EReal)) (outL_at _ r a _ rfl)

end

section

variable (q g o : Vec Ideal S64x128 .bf16) (k v : Vec Ideal S512x128 .bf16) (kc vc : Vec Ideal S256x128 .bf16) (b0 b1 b2 b3 : Vec Ideal S1x1x64x128 .f32)
  (l : Vec Ideal S1x64x1 .f32)

/-- The weights, and the gradients of the scores, as the second head's arithmetic writes them. -/
abbrev wt := k1_pay32 (k1_pay30 l) (k1_pay31 q k) b0 b1 b2 b3
abbrev wtc := k1_pay33 q kc (k1_pay30 l)
abbrev gr := k1_pay37 (wt q k b0 b1 b2 b3 l) (k1_pay35 v g) (k1_pay36 g o)

/-- The first head's arithmetic is the second's. -/
theorem first_q : k1_pay18 k kc (k1_pay15 q kc vc g (k1_pay8 l) o) (k1_pay16 v g (k1_pay8 l) (k1_pay9 q k) (k1_pay10 b0) b1 b2 b3 o)
    = k1_pay40 k kc vc g (wt q k b0 b1 b2 b3 l) (wtc q kc l) (k1_pay34 g o) (k1_pay35 v g) (k1_pay36 g o) := rfl
theorem first_k (y : Vec Ideal S512x128 .f32) : k1_pay19 q (k1_pay16 v g (k1_pay8 l) (k1_pay9 q k) (k1_pay10 b0) b1 b2 b3 o) y
    = k1_pay41 q (wt q k b0 b1 b2 b3 l) (k1_pay35 v g) (k1_pay36 g o) y := rfl
theorem first_v (y : Vec Ideal S512x128 .f32) : k1_pay20 g (k1_pay11 (k1_pay8 l) (k1_pay9 q k) (k1_pay10 b0) b1 b2 b3) y = k1_pay42 g (wt q k b0 b1 b2 b3 l) y := rfl
theorem first_kc (y : Vec Ideal S256x128 .f32) : k1_pay21 q (k1_pay15 q kc vc g (k1_pay8 l) o) y = k1_pay43 q vc g (wtc q kc l) (k1_pay34 g o) y := rfl
theorem first_vc (y : Vec Ideal S256x128 .f32) : k1_pay24 g (k1_pay22 y) (k1_pay23 (k1_pay12 q kc (k1_pay8 l))) (constant S256x128 .f32 0x00000000#32) = k1_pay44 g (wtc q kc l) y := rfl
theorem first_gr : k1_pay14 v g (k1_pay8 l) (k1_pay9 q k) (k1_pay10 b0) b1 b2 b3 o = gr q g o k v b0 b1 b2 b3 l := rfl

end

section

variable (X : FVec Ideal S64x512 .f32) (y : Vec Ideal S1x1x64x128 .f32) (a : Fin 64) (k : Fin 128)

/-- The four stores of a head's tiles add the four lane blocks of the gradients of the scores. -/
theorem tile_0 : k1_pay45 X y (ix4 0 0 a k) = y (ix4 0 0 a k) + X (ix2 a ⟨128 * 0 + k.val, by omega⟩) := by pointwise [k1_pay45]
theorem tile_1 : k1_pay46 X y (ix4 0 0 a k) = y (ix4 0 0 a k) + X (ix2 a ⟨128 * 1 + k.val, by omega⟩) := by pointwise [k1_pay46]
theorem tile_2 : k1_pay1 X y (ix4 0 0 a k) = y (ix4 0 0 a k) + X (ix2 a ⟨128 * 2 + k.val, by omega⟩) := by pointwise [k1_pay1]
theorem tile_3 : k1_pay2 X y (ix4 0 0 a k) = y (ix4 0 0 a k) + X (ix2 a ⟨128 * 3 + k.val, by omega⟩) := by pointwise [k1_pay2]
theorem first_0 : k1_pay25 X y = k1_pay45 X y := rfl
theorem first_1 : k1_pay26 X y = k1_pay46 X y := rfl
theorem first_2 : k1_pay28 (k1_pay27 X y) = k1_pay1 X y := rfl
theorem first_3 : k1_pay29 X y = k1_pay2 X y := rfl

end

theorem ofBits_zero : Ideal.ofBits .f32 0x00000000#32 = 0 := by
  simp [Ideal.ofBits, Ideal.ieee]

/-- A store's zeros. -/
theorem zeros_3 (y : S4096x256.Idx) : (k1_pay3 (F := Ideal)) y = 0 := ofBits_zero
theorem zeros_4 (y : S4096x256.Idx) : (k1_pay4 (F := Ideal)) y = 0 := ofBits_zero
theorem zeros_5 (y : S256x256.Idx) : (k1_pay5 (F := Ideal)) y = 0 := ofBits_zero
theorem zeros_6 (y : S256x256.Idx) : (k1_pay6 (F := Ideal)) y = 0 := ofBits_zero
theorem zeros_7 (y : S2x14x64x128.Idx) : (k1_pay7 (F := Ideal)) y = 0 := ofBits_zero

section

variable {A : Arrays} {V : (c : Dev nD) → (b : Ref sig .tc) → Buf (Elt Ideal) ((c : Thread nD τ).loc b)} {c : Dev nD} (I : InG A (V c))
include I

theorem holds1 (t : Fin cfg1.N) (g : Fin 4) (r : Fin 64) (ht : t.val = g.val * 64 + r.val) :
    HoldsG A g r (iblk1 V c 0 t) (iblk1 V c 1 t) (iblk1 V c 2 t) (iblk1 V c 3 t) (iblk1 V c 4 t) (iblk1 V c 5 t) (iblk1 V c 6 t) (iblk1 V c 7 t) (iblk1 V c 8 t) where
  q a j := by
    refine Eq.trans ?_ (I.x0 _ _)
    unfold iblk1
    blk_point [idx1 t]
  k i j := by
    refine Eq.trans ?_ (I.x0 _ _)
    unfold iblk1
    blk_point [idx1 t]
  v i j := by
    refine Eq.trans ?_ (I.x0 _ _)
    unfold iblk1
    blk_point [idx1 t]
  kc i j := by
    refine Eq.trans ?_ (I.x1 _ _)
    unfold iblk1
    blk_point [idx1 t]
  vc i j := by
    refine Eq.trans ?_ (I.x1 _ _)
    unfold iblk1
    blk_point [idx1 t]
  b hh n a k := by
    refine Eq.trans ?_ (I.b _ _ _ _)
    unfold iblk1
    blk_point [idx1 t]
  o a j := by
    refine Eq.trans ?_ (I.o _ _)
    unfold iblk1
    blk_point [idx1 t]
  l hh a := by
    refine Eq.trans ?_ (I.l _ _)
    unfold iblk1
    blk_point [idx1 t]
  g a j := by
    refine Eq.trans ?_ (I.g _ _)
    unfold iblk1
    blk_point [idx1 t]

end

end Cert.NaMath
-- ==== Proof.NaStep.lean ====
/- What one point of the gradient's call leaves in each of its blocks. -/
module

public import proofs.«01_k».proof.Proof.NaPoint

@[expose] public section

set_option maxRecDepth 16384

noncomputable section

namespace Cert.NaMath

open Idealize.ShloMosaic Idealize.ShloMosaic.TcCoe
open Cert.NaKernelIdeal Cert.NaKernelIdeal.Gen Cert.NaKernelIdeal.NaRegion Cert.NaKernelIdeal.NaBody
open Cert.NaKernelIdeal.NaOff (st k1_off1_eq k1_off2_eq k1_off3_eq k1_off4_eq)

/-- What row `r` adds, for one head, to the gradients of the keys and of the values. -/
abbrev addK (A : Arrays) (h : Fin 8) (r : Fin 64) := rowsAt (64 * st r.val) (blk A h r).dk
abbrev addV (A : Arrays) (h : Fin 8) (r : Fin 64) := rowsAt (64 * st r.val) (blk A h r).dv

variable {A : Arrays} {V : (c : Dev nD) → (b : Ref sig .tc) → Buf (Elt Ideal) ((c : Thread nD τ).loc b)} {c : Dev nD} (I : InG A (V c))
include I

/-- What the loads of the point of pair `g` and row `r` read, for head 0 of the pair. -/
theorem reads_0 (t : Fin cfg1.N) (g : Fin 4) (r : Fin 64) (ht : t.val = g.val * 64 + r.val) : (blk A (head g 0) r).ReadsG
      (View.readAt (Elt Ideal) (ms1_0 t).view (Rect.unit (s := S64x256) ![0, 0] S64x128.size inb_S64x256_S64x128_0_0).toLoadRect ((hs1_0 t).unread (iblk1 V c 0 t)))
      (View.readAt (Elt Ideal) (ms1_1 t).view (Rect.unit (s := S4096x256) (k1_off1 (grid1.coords t)) S512x128.size (k1_off1_inb _)).toLoadRect ((hs1_1 t).unread (iblk1 V c 1 t)))
      (View.readAt (Elt Ideal) (ms1_2 t).view (Rect.unit (s := S4096x256) (k1_off1 (grid1.coords t)) S512x128.size (k1_off1_inb _)).toLoadRect ((hs1_2 t).unread (iblk1 V c 2 t)))
      (View.readAt (Elt Ideal) (ms1_3 t).view (Rect.unit (s := S256x256) ![0, 0] S256x128.size inb_S256x256_S256x128_0_0).toLoadRect ((hs1_3 t).unread (iblk1 V c 3 t)))
      (View.readAt (Elt Ideal) (ms1_4 t).view (Rect.unit (s := S256x256) ![0, 0] S256x128.size inb_S256x256_S256x128_0_0).toLoadRect ((hs1_4 t).unread (iblk1 V c 4 t)))
      (View.readAt (Elt Ideal) (ms1_5 t).view (Rect.unit (s := S2x14x64x128) (k1_off2 (grid1.coords t) 0#32) S1x1x64x128.size (k1_off2_inb _ 0)).toLoadRect ((hs1_5 t).unread (iblk1 V c 5 t)))
      (View.readAt (Elt Ideal) (ms1_5 t).view (Rect.unit (s := S2x14x64x128) (k1_off2 (grid1.coords t) 2#32) S1x1x64x128.size (k1_off2_inb _ 1)).toLoadRect ((hs1_5 t).unread (iblk1 V c 5 t)))
      (View.readAt (Elt Ideal) (ms1_5 t).view (Rect.unit (s := S2x14x64x128) (k1_off2 (grid1.coords t) 4#32) S1x1x64x128.size (k1_off2_inb _ 2)).toLoadRect ((hs1_5 t).unread (iblk1 V c 5 t)))
      (View.readAt (Elt Ideal) (ms1_5 t).view (Rect.unit (s := S2x14x64x128) (k1_off2 (grid1.coords t) 6#32) S1x1x64x128.size (k1_off2_inb _ 3)).toLoadRect ((hs1_5 t).unread (iblk1 V c 5 t)))
      (View.readAt (Elt Ideal) (ms1_6 t).view (Rect.unit (s := S64x256) ![0, 0] S64x128.size inb_S64x256_S64x128_0_0).toLoadRect ((hs1_6 t).unread (iblk1 V c 6 t)))
      (View.readAt (Elt Ideal) (ms1_8 t).view (Rect.unit (s := S64x256) ![0, 0] S64x128.size inb_S64x256_S64x128_0_0).toLoadRect ((hs1_8 t).unread (iblk1 V c 8 t)))
      (View.readAt (Elt Ideal) (ms1_7 t).view (Rect.unit (s := S2x64x1) ![0, 0, 0] S1x64x1.size inb_S2x64x1_S1x64x1_0_0_0).toLoadRect ((hs1_7 t).unread (iblk1 V c 7 t))) := by
  have hr : (grid1.coords t 1).val = r.val := by rw [(idx1 t).2.2]; omega
  exact readsG (holds1 I t g r ht) 0 _ _ _ _ _ _ _ _ _ rfl ((k1_off1_eq _).trans (by rw [hr]; rfl)) ((k1_off1_eq _).trans (by rw [hr]; rfl)) rfl
      ((k1_off2_eq _ 0).trans (by rw [hr]; rfl)) ((k1_off2_eq _ 2).trans (by rw [hr]; rfl)) ((k1_off2_eq _ 4).trans (by rw [hr]; rfl)) ((k1_off2_eq _ 6).trans (by rw [hr]; rfl)) rfl rfl rfl

/-- What the loads of the point of pair `g` and row `r` read, for head 1 of the pair. -/
theorem reads_1 (t : Fin cfg1.N) (g : Fin 4) (r : Fin 64) (ht : t.val = g.val * 64 + r.val) : (blk A (head g 1) r).ReadsG
      (View.readAt (Elt Ideal) (ms1_0 t).view (Rect.unit (s := S64x256) ![0, 128] S64x128.size inb_S64x256_S64x128_0_128).toLoadRect ((hs1_0 t).unread (iblk1 V c 0 t)))
      (View.readAt (Elt Ideal) (ms1_1 t).view (Rect.unit (s := S4096x256) (k1_off3 (grid1.coords t)) S512x128.size (k1_off3_inb _)).toLoadRect ((hs1_1 t).unread (iblk1 V c 1 t)))
      (View.readAt (Elt Ideal) (ms1_2 t).view (Rect.unit (s := S4096x256) (k1_off3 (grid1.coords t)) S512x128.size (k1_off3_inb _)).toLoadRect ((hs1_2 t).unread (iblk1 V c 2 t)))
      (View.readAt (Elt Ideal) (ms1_3 t).view (Rect.unit (s := S256x256) ![0, 128] S256x128.size inb_S256x256_S256x128_0_128).toLoadRect ((hs1_3 t).unread (iblk1 V c 3 t)))
      (View.readAt (Elt Ideal) (ms1_4 t).view (Rect.unit (s := S256x256) ![0, 128] S256x128.size inb_S256x256_S256x128_0_128).toLoadRect ((hs1_4 t).unread (iblk1 V c 4 t)))
      (View.readAt (Elt Ideal) (ms1_5 t).view (Rect.unit (s := S2x14x64x128) (k1_off4 (grid1.coords t) 0#32) S1x1x64x128.size (k1_off4_inb _ 0)).toLoadRect ((hs1_5 t).unread (iblk1 V c 5 t)))
      (View.readAt (Elt Ideal) (ms1_5 t).view (Rect.unit (s := S2x14x64x128) (k1_off4 (grid1.coords t) 2#32) S1x1x64x128.size (k1_off4_inb _ 1)).toLoadRect ((hs1_5 t).unread (iblk1 V c 5 t)))
      (View.readAt (Elt Ideal) (ms1_5 t).view (Rect.unit (s := S2x14x64x128) (k1_off4 (grid1.coords t) 4#32) S1x1x64x128.size (k1_off4_inb _ 2)).toLoadRect ((hs1_5 t).unread (iblk1 V c 5 t)))
      (View.readAt (Elt Ideal) (ms1_5 t).view (Rect.unit (s := S2x14x64x128) (k1_off4 (grid1.coords t) 6#32) S1x1x64x128.size (k1_off4_inb _ 3)).toLoadRect ((hs1_5 t).unread (iblk1 V c 5 t)))
      (View.readAt (Elt Ideal) (ms1_6 t).view (Rect.unit (s := S64x256) ![0, 128] S64x128.size inb_S64x256_S64x128_0_128).toLoadRect ((hs1_6 t).unread (iblk1 V c 6 t)))
      (View.readAt (Elt Ideal) (ms1_8 t).view (Rect.unit (s := S64x256) ![0, 128] S64x128.size inb_S64x256_S64x128_0_128).toLoadRect ((hs1_8 t).unread (iblk1 V c 8 t)))
      (View.readAt (Elt Ideal) (ms1_7 t).view (Rect.unit (s := S2x64x1) ![1, 0, 0] S1x64x1.size inb_S2x64x1_S1x64x1_1_0_0).toLoadRect ((hs1_7 t).unread (iblk1 V c 7 t))) := by
  have hr : (grid1.coords t 1).val = r.val := by rw [(idx1 t).2.2]; omega
  exact readsG (holds1 I t g r ht) 1 _ _ _ _ _ _ _ _ _ rfl ((k1_off3_eq _).trans (by rw [hr]; rfl)) ((k1_off3_eq _).trans (by rw [hr]; rfl)) rfl
      ((k1_off4_eq _ 0).trans (by rw [hr]; rfl)) ((k1_off4_eq _ 2).trans (by rw [hr]; rfl)) ((k1_off4_eq _ 4).trans (by rw [hr]; rfl)) ((k1_off4_eq _ 6).trans (by rw [hr]; rfl)) rfl rfl rfl

theorem k_A (t : Fin cfg1.N) (h : t.val % 64 = 0) (g : Fin 4) (r : Fin 64) (ht : t.val = g.val * 64 + r.val) (y : S4096x256.Idx) :
    ((leftA V c t h).2.1 : Vec Ideal S4096x256 .f32) y = 0 + half 0 (addK A (head g 0) r) y + half 1 (addK A (head g 1) r) y := by
  have hr : (grid1.coords t 1).val = r.val := by rw [(idx1 t).2.2]; omega
  unfold leftA ptA bwdRunA
  dsimp only
  refine add_rows (hh := 1) (r0 := 64 * st r.val) (by omega) (blk A (head g 1) r).dk (add_rows (hh := 0) (r0 := 64 * st r.val) (by omega) (blk A (head g 0) r).dk (zero_store rfl (funext fun a => match a with | 0 => rfl | 1 => rfl) zeros_3) ((k1_off1_eq _).trans (by rw [hr])) ?_) ((k1_off3_eq _).trans (by rw [hr])) ?_ y
  · exact ⟨_, fun n d => (congrFun (first_k _ _ _ _ _ _ _ _ _ _ _) _).trans (Blk.grad_k (reads_0 I t g r ht) _ n d),
      fun x y h => .inl (load_writes (mm := ms1_10 t) (off := k1_off1 _) (size := S512x128.size) (inb := k1_off1_inb _) ((k1_off1_eq _).trans (by rw [hr])) x y h)⟩
  · exact ⟨_, fun n d => Blk.grad_k (reads_1 I t g r ht) _ n d,
      fun x y h => .inl (load_writes (mm := ms1_10 t) (off := k1_off3 _) (size := S512x128.size) (inb := k1_off3_inb _) ((k1_off3_eq _).trans (by rw [hr])) x y h)⟩

theorem k_B (t : Fin cfg1.N) (h : ¬ t.val % 64 = 0) (z : Acc Ideal) (g : Fin 4) (r : Fin 64) (ht : t.val = g.val * 64 + r.val) (y : S4096x256.Idx) :
    ((leftB V c t h z).2.1 : Vec Ideal S4096x256 .f32) y = z.1 y + half 0 (addK A (head g 0) r) y + half 1 (addK A (head g 1) r) y := by
  have hr : (grid1.coords t 1).val = r.val := by rw [(idx1 t).2.2]; omega
  unfold leftB ptB bwdRunB
  dsimp only
  refine add_rows (hh := 1) (r0 := 64 * st r.val) (by omega) (blk A (head g 1) r).dk (add_rows (hh := 0) (r0 := 64 * st r.val) (by omega) (blk A (head g 0) r).dk (fun y => congrFun ((hs1_10 t).read_unread z.1) y) ((k1_off1_eq _).trans (by rw [hr])) ?_) ((k1_off3_eq _).trans (by rw [hr])) ?_ y
  · exact ⟨_, fun n d => (congrFun (first_k _ _ _ _ _ _ _ _ _ _ _) _).trans (Blk.grad_k (reads_0 I t g r ht) _ n d),
      fun x y h => .inr (load (hs1_10 t) z.1 ((k1_off1_eq _).trans (by rw [hr])) x y h)⟩
  · exact ⟨_, fun n d => Blk.grad_k (reads_1 I t g r ht) _ n d,
      fun x y h => .inr ((load (hs1_10 t) z.1 ((k1_off3_eq _).trans (by rw [hr])) x y h).trans (by rw [half_out _ y (.inr (by have := h 1; change (y 1).val = 1 * 128 + _ at this; omega))]; exact (add_zero (M := EReal) _).symm))⟩

theorem v_A (t : Fin cfg1.N) (h : t.val % 64 = 0) (g : Fin 4) (r : Fin 64) (ht : t.val = g.val * 64 + r.val) (y : S4096x256.Idx) :
    ((leftA V c t h).2.2.1 : Vec Ideal S4096x256 .f32) y = 0 + half 0 (addV A (head g 0) r) y + half 1 (addV A (head g 1) r) y := by
  have hr : (grid1.coords t 1).val = r.val := by rw [(idx1 t).2.2]; omega
  unfold leftA ptA bwdRunA
  dsimp only
  refine add_rows (hh := 1) (r0 := 64 * st r.val) (by omega) (blk A (head g 1) r).dv (add_rows (hh := 0) (r0 := 64 * st r.val) (by omega) (blk A (head g 0) r).dv (zero_store rfl (funext fun a => match a with | 0 => rfl | 1 => rfl) zeros_4) ((k1_off1_eq _).trans (by rw [hr])) ?_) ((k1_off3_eq _).trans (by rw [hr])) ?_ y
  · exact ⟨_, fun n d => (congrFun (first_v _ _ _ _ _ _ _ _ _) _).trans (Blk.grad_v (reads_0 I t g r ht) _ n d),
      fun x y h => .inl (load_writes (mm := ms1_11 t) (off := k1_off1 _) (size := S512x128.size) (inb := k1_off1_inb _) ((k1_off1_eq _).trans (by rw [hr])) x y h)⟩
  · exact ⟨_, fun n d => Blk.grad_v (reads_1 I t g r ht) _ n d,
      fun x y h => .inl (load_writes (mm := ms1_11 t) (off := k1_off3 _) (size := S512x128.size) (inb := k1_off3_inb _) ((k1_off3_eq _).trans (by rw [hr])) x y h)⟩

theorem v_B (t : Fin cfg1.N) (h : ¬ t.val % 64 = 0) (z : Acc Ideal) (g : Fin 4) (r : Fin 64) (ht : t.val = g.val * 64 + r.val) (y : S4096x256.Idx) :
    ((leftB V c t h z).2.2.1 : Vec Ideal S4096x256 .f32) y = z.2.1 y + half 0 (addV A (head g 0) r) y + half 1 (addV A (head g 1) r) y := by
  have hr : (grid1.coords t 1).val = r.val := by rw [(idx1 t).2.2]; omega
  unfold leftB ptB bwdRunB
  dsimp only
  refine add_rows (hh := 1) (r0 := 64 * st r.val) (by omega) (blk A (head g 1) r).dv (add_rows (hh := 0) (r0 := 64 * st r.val) (by omega) (blk A (head g 0) r).dv (fun y => congrFun ((hs1_11 t).read_unread z.2.1) y) ((k1_off1_eq _).trans (by rw [hr])) ?_) ((k1_off3_eq _).trans (by rw [hr])) ?_ y
  · exact ⟨_, fun n d => (congrFun (first_v _ _ _ _ _ _ _ _ _) _).trans (Blk.grad_v (reads_0 I t g r ht) _ n d),
      fun x y h => .inr (load (hs1_11 t) z.2.1 ((k1_off1_eq _).trans (by rw [hr])) x y h)⟩
  · exact ⟨_, fun n d => Blk.grad_v (reads_1 I t g r ht) _ n d,
      fun x y h => .inr ((load (hs1_11 t) z.2.1 ((k1_off3_eq _).trans (by rw [hr])) x y h).trans (by rw [half_out _ y (.inr (by have := h 1; change (y 1).val = 1 * 128 + _ at this; omega))]; exact (add_zero (M := EReal) _).symm))⟩

theorem kc_A (t : Fin cfg1.N) (h : t.val % 64 = 0) (g : Fin 4) (r : Fin 64) (ht : t.val = g.val * 64 + r.val) (y : S256x256.Idx) :
    ((leftA V c t h).2.2.2.1 : Vec Ideal S256x256 .f32) y = 0 + half 0 ((blk A (head g 0) r).dkc) y + half 1 ((blk A (head g 1) r).dkc) y := by
  have hr : (grid1.coords t 1).val = r.val := by rw [(idx1 t).2.2]; omega
  unfold leftA ptA bwdRunA
  dsimp only
  refine add_cols (hh := 1) (by omega) (blk A (head g 1) r).dkc (add_cols (hh := 0) (by omega) (blk A (head g 0) r).dkc (zero_store rfl (funext fun a => match a with | 0 => rfl | 1 => rfl) zeros_5) rfl ?_) rfl ?_ y
  · exact ⟨_, fun n d => (congrFun (first_kc _ _ _ _ _ _ _) _).trans (Blk.grad_kc (reads_0 I t g r ht) _ n d),
      fun x y h => .inl (load_writes (mm := ms1_12 t) (off := ![0, 0]) (size := S256x128.size) (inb := inb_S256x256_S256x128_0_0) rfl x y h)⟩
  · exact ⟨_, fun n d => Blk.grad_kc (reads_1 I t g r ht) _ n d,
      fun x y h => .inl (load_writes (mm := ms1_12 t) (off := ![0, 128]) (size := S256x128.size) (inb := inb_S256x256_S256x128_0_128) rfl x y h)⟩

theorem kc_B (t : Fin cfg1.N) (h : ¬ t.val % 64 = 0) (z : Acc Ideal) (g : Fin 4) (r : Fin 64) (ht : t.val = g.val * 64 + r.val) (y : S256x256.Idx) :
    ((leftB V c t h z).2.2.2.1 : Vec Ideal S256x256 .f32) y = z.2.2.1 y + half 0 ((blk A (head g 0) r).dkc) y + half 1 ((blk A (head g 1) r).dkc) y := by
  have hr : (grid1.coords t 1).val = r.val := by rw [(idx1 t).2.2]; omega
  unfold leftB ptB bwdRunB
  dsimp only
  refine add_cols (hh := 1) (by omega) (blk A (head g 1) r).dkc (add_cols (hh := 0) (by omega) (blk A (head g 0) r).dkc (fun y => congrFun ((hs1_12 t).read_unread z.2.2.1) y) rfl ?_) rfl ?_ y
  · exact ⟨_, fun n d => (congrFun (first_kc _ _ _ _ _ _ _) _).trans (Blk.grad_kc (reads_0 I t g r ht) _ n d),
      fun x y h => .inr (load (hs1_12 t) z.2.2.1 rfl x y h)⟩
  · exact ⟨_, fun n d => Blk.grad_kc (reads_1 I t g r ht) _ n d,
      fun x y h => .inr ((load (hs1_12 t) z.2.2.1 rfl x y h).trans (by rw [half_out _ y (.inr (by have := h 1; change (y 1).val = 1 * 128 + _ at this; omega))]; exact (add_zero (M := EReal) _).symm))⟩

theorem vc_A (t : Fin cfg1.N) (h : t.val % 64 = 0) (g : Fin 4) (r : Fin 64) (ht : t.val = g.val * 64 + r.val) (y : S256x256.Idx) :
    ((leftA V c t h).2.2.2.2.1 : Vec Ideal S256x256 .f32) y = 0 + half 0 ((blk A (head g 0) r).dvc) y + half 1 ((blk A (head g 1) r).dvc) y := by
  have hr : (grid1.coords t 1).val = r.val := by rw [(idx1 t).2.2]; omega
  unfold leftA ptA bwdRunA
  dsimp only
  refine add_cols (hh := 1) (by omega) (blk A (head g 1) r).dvc (add_cols (hh := 0) (by omega) (blk A (head g 0) r).dvc (zero_store rfl (funext fun a => match a with | 0 => rfl | 1 => rfl) zeros_6) rfl ?_) rfl ?_ y
  · exact ⟨_, fun n d => (congrFun (first_vc _ _ _ _ _) _).trans (Blk.grad_vc (reads_0 I t g r ht) _ n d),
      fun x y h => .inl (load_writes (mm := ms1_13 t) (off := ![0, 0]) (size := S256x128.size) (inb := inb_S256x256_S256x128_0_0) rfl x y h)⟩
  · exact ⟨_, fun n d => Blk.grad_vc (reads_1 I t g r ht) _ n d,
      fun x y h => .inl (load_writes (mm := ms1_13 t) (off := ![0, 128]) (size := S256x128.size) (inb := inb_S256x256_S256x128_0_128) rfl x y h)⟩

theorem vc_B (t : Fin cfg1.N) (h : ¬ t.val % 64 = 0) (z : Acc Ideal) (g : Fin 4) (r : Fin 64) (ht : t.val = g.val * 64 + r.val) (y : S256x256.Idx) :
    ((leftB V c t h z).2.2.2.2.1 : Vec Ideal S256x256 .f32) y = z.2.2.2.1 y + half 0 ((blk A (head g 0) r).dvc) y + half 1 ((blk A (head g 1) r).dvc) y := by
  have hr : (grid1.coords t 1).val = r.val := by rw [(idx1 t).2.2]; omega
  unfold leftB ptB bwdRunB
  dsimp only
  refine add_cols (hh := 1) (by omega) (blk A (head g 1) r).dvc (add_cols (hh := 0) (by omega) (blk A (head g 0) r).dvc (fun y => congrFun ((hs1_13 t).read_unread z.2.2.2.1) y) rfl ?_) rfl ?_ y
  · exact ⟨_, fun n d => (congrFun (first_vc _ _ _ _ _) _).trans (Blk.grad_vc (reads_0 I t g r ht) _ n d),
      fun x y h => .inr (load (hs1_13 t) z.2.2.2.1 rfl x y h)⟩
  · exact ⟨_, fun n d => Blk.grad_vc (reads_1 I t g r ht) _ n d,
      fun x y h => .inr ((load (hs1_13 t) z.2.2.2.1 rfl x y h).trans (by rw [half_out _ y (.inr (by have := h 1; change (y 1).val = 1 * 128 + _ at this; omega))]; exact (add_zero (M := EReal) _).symm))⟩

end Cert.NaMath
-- ==== Proof.NaTile.lean ====
/- What one point of the gradient's call adds to the tiles of the bias' gradient, and its block of the queries' gradient. -/
module

public import proofs.«01_k».proof.Proof.NaStep

@[expose] public section

set_option maxRecDepth 16384

noncomputable section

namespace Cert.NaMath

open Idealize.ShloMosaic Idealize.ShloMosaic.TcCoe
open Cert.NaKernelIdeal Cert.NaKernelIdeal.Gen Cert.NaKernelIdeal.NaRegion Cert.NaKernelIdeal.NaBody
open Cert.NaKernelIdeal.NaOff (st k1_off1_eq k1_off2_eq k1_off3_eq k1_off4_eq)

/-- The lane blocks of the gradients of a block's scores. -/
def lanes (X : Blk) (j : Fin 4) (a : Fin 64) (k : Fin 128) : ℝ := X.ds a ⟨128 * j.val + k.val, by omega⟩

/-- What row `r` adds to the tiles of one head: lane block `j` to tile `7 + st r + 2 j - r`. -/
abbrev addTile (A : Arrays) (h : Fin 8) (r : Fin 64) (hh : ℕ) (j : Fin 4) : S2x14x64x128.Idx → EReal := band hh (7 + st r.val + 2 * j.val - r.val) (lanes (blk A h r) j)

variable {A : Arrays} {V : (c : Dev nD) → (b : Ref sig .tc) → Buf (Elt Ideal) ((c : Thread nD τ).loc b)} {c : Dev nD} (I : InG A (V c))
include I

set_option maxHeartbeats 3200000 in
theorem tiles_A (t : Fin cfg1.N) (h : t.val % 64 = 0) (g : Fin 4) (r : Fin 64) (ht : t.val = g.val * 64 + r.val) (y : S2x14x64x128.Idx) :
    ((leftA V c t h).2.2.2.2.2 : Vec Ideal S2x14x64x128 .f32) y
      = 0 + addTile A (head g 0) r 0 0 y + addTile A (head g 0) r 0 1 y + addTile A (head g 0) r 0 2 y + addTile A (head g 0) r 0 3 y + addTile A (head g 1) r 1 0 y + addTile A (head g 1) r 1 1 y + addTile A (head g 1) r 1 2 y + addTile A (head g 1) r 1 3 y := by
  have hr : (grid1.coords t 1).val = r.val := by rw [(idx1 t).2.2]; omega
  unfold leftA ptA bwdRunA
  dsimp only
  refine add_tile (hh := 1) (n := 7 + st r.val + 2 * 3 - r.val) (lanes (blk A (head g 1) r) 3) (add_tile (hh := 1) (n := 7 + st r.val + 2 * 2 - r.val) (lanes (blk A (head g 1) r) 2) (add_tile (hh := 1) (n := 7 + st r.val + 2 * 1 - r.val) (lanes (blk A (head g 1) r) 1) (add_tile (hh := 1) (n := 7 + st r.val + 2 * 0 - r.val) (lanes (blk A (head g 1) r) 0) (add_tile (hh := 0) (n := 7 + st r.val + 2 * 3 - r.val) (lanes (blk A (head g 0) r) 3) (add_tile (hh := 0) (n := 7 + st r.val + 2 * 2 - r.val) (lanes (blk A (head g 0) r) 2) (add_tile (hh := 0) (n := 7 + st r.val + 2 * 1 - r.val) (lanes (blk A (head g 0) r) 1) (add_tile (hh := 0) (n := 7 + st r.val + 2 * 0 - r.val) (lanes (blk A (head g 0) r) 0) (zero_store rfl (funext fun a => match a with | 0 => rfl | 1 => rfl | 2 => rfl | 3 => rfl) zeros_7)
    ((k1_off2_eq _ 0).trans (by rw [hr]; rfl)) ?_)
    ((k1_off2_eq _ 2).trans (by rw [hr]; rfl)) ?_)
    ((k1_off2_eq _ 4).trans (by rw [hr]; rfl)) ?_)
    ((k1_off2_eq _ 6).trans (by rw [hr]; rfl)) ?_)
    ((k1_off4_eq _ 0).trans (by rw [hr]; rfl)) ?_)
    ((k1_off4_eq _ 2).trans (by rw [hr]; rfl)) ?_)
    ((k1_off4_eq _ 4).trans (by rw [hr]; rfl)) ?_)
    ((k1_off4_eq _ 6).trans (by rw [hr]; rfl)) ?_ y
  · exact ⟨_, fun a k => (congrFun (first_0 _ _) _).trans ((tile_0 _ _ a k).trans (congrArg (_ + ·) ((congrFun (first_gr _ _ _ _ _ _ _ _ _ _) _).trans (Blk.grads (reads_0 I t g r ht) a _)))),
      fun x y h => .inl (load_writes (mm := ms1_14 t) (off := k1_off2 (grid1.coords t) 0#32) (size := S1x1x64x128.size) (inb := k1_off2_inb _ 0) ((k1_off2_eq _ 0).trans (by rw [hr]; rfl)) x y h)⟩
  · exact ⟨_, fun a k => (congrFun (first_1 _ _) _).trans ((tile_1 _ _ a k).trans (congrArg (_ + ·) ((congrFun (first_gr _ _ _ _ _ _ _ _ _ _) _).trans (Blk.grads (reads_0 I t g r ht) a _)))),
      fun x y h => .inl (load_writes (mm := ms1_14 t) (off := k1_off2 (grid1.coords t) 2#32) (size := S1x1x64x128.size) (inb := k1_off2_inb _ 1) ((k1_off2_eq _ 2).trans (by rw [hr]; rfl)) x y h)⟩
  · exact ⟨_, fun a k => (congrFun (first_2 _ _) _).trans ((tile_2 _ _ a k).trans (congrArg (_ + ·) ((congrFun (first_gr _ _ _ _ _ _ _ _ _ _) _).trans (Blk.grads (reads_0 I t g r ht) a _)))),
      fun x y h => .inl (load_writes (mm := ms1_14 t) (off := k1_off2 (grid1.coords t) 4#32) (size := S1x1x64x128.size) (inb := k1_off2_inb _ 2) ((k1_off2_eq _ 4).trans (by rw [hr]; rfl)) x y h)⟩
  · exact ⟨_, fun a k => (congrFun (first_3 _ _) _).trans ((tile_3 _ _ a k).trans (congrArg (_ + ·) ((congrFun (first_gr _ _ _ _ _ _ _ _ _ _) _).trans (Blk.grads (reads_0 I t g r ht) a _)))),
      fun x y h => .inl (load_writes (mm := ms1_14 t) (off := k1_off2 (grid1.coords t) 6#32) (size := S1x1x64x128.size) (inb := k1_off2_inb _ 3) ((k1_off2_eq _ 6).trans (by rw [hr]; rfl)) x y h)⟩
  · exact ⟨_, fun a k => (tile_0 _ _ a k).trans (congrArg (_ + ·) (Blk.grads (reads_1 I t g r ht) a _)),
      fun x y h => .inl (load_writes (mm := ms1_14 t) (off := k1_off4 (grid1.coords t) 0#32) (size := S1x1x64x128.size) (inb := k1_off4_inb _ 0) ((k1_off4_eq _ 0).trans (by rw [hr]; rfl)) x y h)⟩
  · exact ⟨_, fun a k => (tile_1 _ _ a k).trans (congrArg (_ + ·) (Blk.grads (reads_1 I t g r ht) a _)),
      fun x y h => .inl (load_writes (mm := ms1_14 t) (off := k1_off4 (grid1.coords t) 2#32) (size := S1x1x64x128.size) (inb := k1_off4_inb _ 1) ((k1_off4_eq _ 2).trans (by rw [hr]; rfl)) x y h)⟩
  · exact ⟨_, fun a k => (tile_2 _ _ a k).trans (congrArg (_ + ·) (Blk.grads (reads_1 I t g r ht) a _)),
      fun x y h => .inl (load_writes (mm := ms1_14 t) (off := k1_off4 (grid1.coords t) 4#32) (size := S1x1x64x128.size) (inb := k1_off4_inb _ 2) ((k1_off4_eq _ 4).trans (by rw [hr]; rfl)) x y h)⟩
  · exact ⟨_, fun a k => (tile_3 _ _ a k).trans (congrArg (_ + ·) (Blk.grads (reads_1 I t g r ht) a _)),
      fun x y h => .inl (load_writes (mm := ms1_14 t) (off := k1_off4 (grid1.coords t) 6#32) (size := S1x1x64x128.size) (inb := k1_off4_inb _ 3) ((k1_off4_eq _ 6).trans (by rw [hr]; rfl)) x y h)⟩

omit I in
/-- The first head's tiles add nothing to the second's. -/
theorem no_tiles (y : S2x14x64x128.Idx) (x : EReal) (h : ¬ (y 0).val = 0) {n0 n1 n2 n3 : ℕ} {X0 X1 X2 X3 : Fin 64 → Fin 128 → ℝ} :
    x + band 0 n0 X0 y + band 0 n1 X1 y + band 0 n2 X2 y + band 0 n3 X3 y = x := by
  unfold band
  simp only [h, false_and, if_false]
  exact (add_zero (M := EReal) _).trans ((add_zero (M := EReal) _).trans ((add_zero (M := EReal) _).trans (add_zero (M := EReal) _)))

set_option maxHeartbeats 3200000 in
theorem tiles_B (t : Fin cfg1.N) (h : ¬ t.val % 64 = 0) (z : Acc Ideal) (g : Fin 4) (r : Fin 64) (ht : t.val = g.val * 64 + r.val) (y : S2x14x64x128.Idx) :
    ((leftB V c t h z).2.2.2.2.2 : Vec Ideal S2x14x64x128 .f32) y
      = z.2.2.2.2 y + addTile A (head g 0) r 0 0 y + addTile A (head g 0) r 0 1 y + addTile A (head g 0) r 0 2 y + addTile A (head g 0) r 0 3 y + addTile A (head g 1) r 1 0 y + addTile A (head g 1) r 1 1 y + addTile A (head g 1) r 1 2 y + addTile A (head g 1) r 1 3 y := by
  have hr : (grid1.coords t 1).val = r.val := by rw [(idx1 t).2.2]; omega
  unfold leftB ptB bwdRunB
  dsimp only
  refine add_tile (hh := 1) (n := 7 + st r.val + 2 * 3 - r.val) (lanes (blk A (head g 1) r) 3) (add_tile (hh := 1) (n := 7 + st r.val + 2 * 2 - r.val) (lanes (blk A (head g 1) r) 2) (add_tile (hh := 1) (n := 7 + st r.val + 2 * 1 - r.val) (lanes (blk A (head g 1) r) 1) (add_tile (hh := 1) (n := 7 + st r.val + 2 * 0 - r.val) (lanes (blk A (head g 1) r) 0) (add_tile (hh := 0) (n := 7 + st r.val + 2 * 3 - r.val) (lanes (blk A (head g 0) r) 3) (add_tile (hh := 0) (n := 7 + st r.val + 2 * 2 - r.val) (lanes (blk A (head g 0) r) 2) (add_tile (hh := 0) (n := 7 + st r.val + 2 * 1 - r.val) (lanes (blk A (head g 0) r) 1) (add_tile (hh := 0) (n := 7 + st r.val + 2 * 0 - r.val) (lanes (blk A (head g 0) r) 0) (fun y => congrFun ((hs1_14 t).read_unread z.2.2.2.2) y)
    ((k1_off2_eq _ 0).trans (by rw [hr]; rfl)) ?_)
    ((k1_off2_eq _ 2).trans (by rw [hr]; rfl)) ?_)
    ((k1_off2_eq _ 4).trans (by rw [hr]; rfl)) ?_)
    ((k1_off2_eq _ 6).trans (by rw [hr]; rfl)) ?_)
    ((k1_off4_eq _ 0).trans (by rw [hr]; rfl)) ?_)
    ((k1_off4_eq _ 2).trans (by rw [hr]; rfl)) ?_)
    ((k1_off4_eq _ 4).trans (by rw [hr]; rfl)) ?_)
    ((k1_off4_eq _ 6).trans (by rw [hr]; rfl)) ?_ y
  · exact ⟨_, fun a k => (congrFun (first_0 _ _) _).trans ((tile_0 _ _ a k).trans (congrArg (_ + ·) ((congrFun (first_gr _ _ _ _ _ _ _ _ _ _) _).trans (Blk.grads (reads_0 I t g r ht) a _)))),
      fun x y h => .inr (load (hs1_14 t) z.2.2.2.2 ((k1_off2_eq _ 0).trans (by rw [hr]; rfl)) x y h)⟩
  · exact ⟨_, fun a k => (congrFun (first_1 _ _) _).trans ((tile_1 _ _ a k).trans (congrArg (_ + ·) ((congrFun (first_gr _ _ _ _ _ _ _ _ _ _) _).trans (Blk.grads (reads_0 I t g r ht) a _)))),
      fun x y h => .inl (load_writes (mm := ms1_14 t) (off := k1_off2 (grid1.coords t) 2#32) (size := S1x1x64x128.size) (inb := k1_off2_inb _ 1) ((k1_off2_eq _ 2).trans (by rw [hr]; rfl)) x y h)⟩
  · exact ⟨_, fun a k => (congrFun (first_2 _ _) _).trans ((tile_2 _ _ a k).trans (congrArg (_ + ·) ((congrFun (first_gr _ _ _ _ _ _ _ _ _ _) _).trans (Blk.grads (reads_0 I t g r ht) a _)))),
      fun x y h => .inl (load_writes (mm := ms1_14 t) (off := k1_off2 (grid1.coords t) 4#32) (size := S1x1x64x128.size) (inb := k1_off2_inb _ 2) ((k1_off2_eq _ 4).trans (by rw [hr]; rfl)) x y h)⟩
  · exact ⟨_, fun a k => (congrFun (first_3 _ _) _).trans ((tile_3 _ _ a k).trans (congrArg (_ + ·) ((congrFun (first_gr _ _ _ _ _ _ _ _ _ _) _).trans (Blk.grads (reads_0 I t g r ht) a _)))),
      fun x y h => .inl (load_writes (mm := ms1_14 t) (off := k1_off2 (grid1.coords t) 6#32) (size := S1x1x64x128.size) (inb := k1_off2_inb _ 3) ((k1_off2_eq _ 6).trans (by rw [hr]; rfl)) x y h)⟩
  · exact ⟨_, fun a k => (tile_0 _ _ a k).trans (congrArg (_ + ·) (Blk.grads (reads_1 I t g r ht) a _)),
      fun x y h => .inr ((load (hs1_14 t) z.2.2.2.2 ((k1_off4_eq _ 0).trans (by rw [hr]; rfl)) x y h).trans (no_tiles y _ (show ¬ (y 0).val = 0 by have := h 0; change (y 0).val = 1 + _ at this; omega)).symm)⟩
  · exact ⟨_, fun a k => (tile_1 _ _ a k).trans (congrArg (_ + ·) (Blk.grads (reads_1 I t g r ht) a _)),
      fun x y h => .inl (load_writes (mm := ms1_14 t) (off := k1_off4 (grid1.coords t) 2#32) (size := S1x1x64x128.size) (inb := k1_off4_inb _ 1) ((k1_off4_eq _ 2).trans (by rw [hr]; rfl)) x y h)⟩
  · exact ⟨_, fun a k => (tile_2 _ _ a k).trans (congrArg (_ + ·) (Blk.grads (reads_1 I t g r ht) a _)),
      fun x y h => .inl (load_writes (mm := ms1_14 t) (off := k1_off4 (grid1.coords t) 4#32) (size := S1x1x64x128.size) (inb := k1_off4_inb _ 2) ((k1_off4_eq _ 4).trans (by rw [hr]; rfl)) x y h)⟩
  · exact ⟨_, fun a k => (tile_3 _ _ a k).trans (congrArg (_ + ·) (Blk.grads (reads_1 I t g r ht) a _)),
      fun x y h => .inl (load_writes (mm := ms1_14 t) (off := k1_off4 (grid1.coords t) 6#32) (size := S1x1x64x128.size) (inb := k1_off4_inb _ 3) ((k1_off4_eq _ 6).trans (by rw [hr]; rfl)) x y h)⟩

theorem q_A (t : Fin cfg1.N) (h : t.val % 64 = 0) (g : Fin 4) (r : Fin 64) (ht : t.val = g.val * 64 + r.val) (hh : Fin 2) (a : Fin 64) (d : Fin 128) (j : Fin 256)
    (hj : j.val = hh.val * 128 + d.val) : ((leftA V c t h).1 : Vec Ideal S64x256 .bf16) (ix2 a j) = (((blk A (head g hh) r).dq a d : ℝ) : EReal) := by
  unfold leftA ptA bwdRunA
  dsimp only
  match hh with
  | 0 =>
    change j.val = 0 * 128 + d.val at hj
    refine (View.read_writes_cons_unit_of_not_mem _ _ _ _ _ _ rfl (1 : Fin 2) (.inl (show j.val < 128 by omega))).trans ?_
    refine (View.read_writes_cons_unit_of_mem _ _ _ _ _ _ (ix2 a d) rfl ?_).trans ?_
    · exact fun b => match b with | 0 => (zero_add _).symm | 1 => hj.trans (by rw [zero_mul]; rfl)
    · exact (congrFun (first_q _ _ _ _ _ _ _ _ _ _ _ _) _).trans (Blk.grad_q (reads_0 I t g r ht) a d)
  | 1 =>
    refine (View.read_writes_cons_unit_of_mem _ _ _ _ _ _ (ix2 a d) rfl ?_).trans ?_
    · exact fun b => match b with | 0 => (zero_add _).symm | 1 => hj
    · exact Blk.grad_q (reads_1 I t g r ht) a d

theorem q_B (t : Fin cfg1.N) (h : ¬ t.val % 64 = 0) (z : Acc Ideal) (g : Fin 4) (r : Fin 64) (ht : t.val = g.val * 64 + r.val) (hh : Fin 2) (a : Fin 64) (d : Fin 128) (j : Fin 256)
    (hj : j.val = hh.val * 128 + d.val) : ((leftB V c t h z).1 : Vec Ideal S64x256 .bf16) (ix2 a j) = (((blk A (head g hh) r).dq a d : ℝ) : EReal) := by
  unfold leftB ptB bwdRunB
  dsimp only
  match hh with
  | 0 =>
    change j.val = 0 * 128 + d.val at hj
    refine (View.read_writes_cons_unit_of_not_mem _ _ _ _ _ _ rfl (1 : Fin 2) (.inl (show j.val < 128 by omega))).trans ?_
    refine (View.read_writes_cons_unit_of_mem _ _ _ _ _ _ (ix2 a d) rfl ?_).trans ?_
    · exact fun b => match b with | 0 => (zero_add _).symm | 1 => hj.trans (by rw [zero_mul]; rfl)
    · exact (congrFun (first_q _ _ _ _ _ _ _ _ _ _ _ _) _).trans (Blk.grad_q (reads_0 I t g r ht) a d)
  | 1 =>
    refine (View.read_writes_cons_unit_of_mem _ _ _ _ _ _ (ix2 a d) rfl ?_).trans ?_
    · exact fun b => match b with | 0 => (zero_add _).symm | 1 => hj
    · exact Blk.grad_q (reads_1 I t g r ht) a d

end Cert.NaMath
-- ==== Proof.NaBwd.lean ====
/- The gradient's call: its six arrays. -/
module

public import proofs.«01_k».proof.Proof.NaTile

@[expose] public section

set_option maxRecDepth 16384

noncomputable section

namespace Cert.NaMath

open Idealize.ShloMosaic Idealize.ShloMosaic.TcCoe
open Cert.NaKernelIdeal Cert.NaKernelIdeal.Gen Cert.NaKernelIdeal.NaRegion Cert.NaKernelIdeal.NaBody
open Cert.NaKernelIdeal.NaOff (st)

/-- The arrays of the gradients of queries, keys and values (image and context) and of the bias tiles. -/
def outQ (A : Arrays) (i : Fin 4096) (j : Fin 1024) : ℝ := (blk A ⟨j.val / 128, by omega⟩ ⟨i.val / 64, by omega⟩).dq ⟨i.val % 64, by omega⟩ ⟨j.val % 128, by omega⟩
def outK (A : Arrays) (i : Fin 4096) (j : Fin 1024) : ℝ := ∑ r, addK A ⟨j.val / 128, by omega⟩ r i ⟨j.val % 128, by omega⟩
def outV (A : Arrays) (i : Fin 4096) (j : Fin 1024) : ℝ := ∑ r, addV A ⟨j.val / 128, by omega⟩ r i ⟨j.val % 128, by omega⟩
def outKc (A : Arrays) (i : Fin 256) (j : Fin 1024) : ℝ := ∑ r, (blk A ⟨j.val / 128, by omega⟩ r).dkc i ⟨j.val % 128, by omega⟩
def outVc (A : Arrays) (i : Fin 256) (j : Fin 1024) : ℝ := ∑ r, (blk A ⟨j.val / 128, by omega⟩ r).dvc i ⟨j.val % 128, by omega⟩
def tileAt (A : Arrays) (h : Fin 8) (n : Fin 14) (a : Fin 64) (k : Fin 128) (r : Fin 64) : ℝ :=
  ∑ j : Fin 4, if n.val = 7 + st r.val + 2 * j.val - r.val then lanes (blk A h r) j a k else 0
def outT (A : Arrays) (h : Fin 8) (n : Fin 14) (a : Fin 64) (k : Fin 128) : ℝ := ∑ r, tileAt A h n a k r

variable {A : Arrays} {V : (c : Dev nD) → (b : Ref sig .tc) → Buf (Elt Ideal) ((c : Thread nD τ).loc b)} {c : Dev nD}

/-- An accumulator that starts at a run's first point and gains a number at each point of its run of 64 holds the numbers' sum. -/
theorem sum_run (f : (n : ℕ) → n < cfg1.N → EReal) (x : Fin 4 → Fin 64 → ℝ)
    (h0 : ∀ (t : Fin cfg1.N) (g : Fin 4) (r : Fin 64), t.val = g.val * 64 + r.val → t.val % 64 = 0 → f t.val t.isLt = 0 + ((x g r : ℝ) : EReal))
    (hs : ∀ (t : Fin cfg1.N) (g : Fin 4) (r : Fin 64), t.val = g.val * 64 + r.val → ¬ t.val % 64 = 0 →
      f t.val t.isLt = f (t.val - 1) (Nat.lt_of_le_of_lt (Nat.sub_le _ _) t.isLt) + ((x g r : ℝ) : EReal))
    (t : Fin cfg1.N) (h : t.val % 64 = 63) (g : Fin 4) (hg : t.val / 64 = g.val) : f t.val t.isLt = ((∑ r, x g r : ℝ) : EReal) := by
  rw [Pipeline.eq_sum_fin_of_reset_step_of_flush f 64 0
    (fun t => ((x ⟨t.val / 64, by have := (idx1 t).2.1; omega⟩ ⟨t.val % 64, by omega⟩ : ℝ) : EReal))
    (fun t h => h0 t _ _ (by simp only; omega) h) (fun t h => hs t _ _ (by simp only; omega) h) t h, zero_add, Cert.Reals.coe_sum]
  refine Finset.sum_congr (M := EReal) rfl fun s _ => ?_
  have e1 : (⟨(64 * (t.val / 64) + s.val) / 64, by have := (idx1 t).2.1; omega⟩ : Fin 4) = g := Fin.ext (by simp only; omega)
  have e2 : (⟨(64 * (t.val / 64) + s.val) % 64, by omega⟩ : Fin 64) = s := Fin.ext (by simp only; omega)
  simp only [e1, e2]

/-- A column of a pair's block is a column of one head. -/
theorem col_head (g : Fin 4) (hh : Fin 2) (d : Fin 128) (j : Fin 1024) (hj : j.val = g.val * 256 + (hh.val * 128 + d.val)) :
    (⟨j.val / 128, by omega⟩ : Fin 8) = head g hh ∧ (⟨j.val % 128, by omega⟩ : Fin 128) = d :=
  ⟨Fin.ext (by simp only; omega), Fin.ext (by simp only; omega)⟩

/-- The stores to one head's tiles, together. -/
theorem tiles_pair (g : Fin 4) (r : Fin 64) (hh : Fin 2) (n : Fin 14) (a : Fin 64) (k : Fin 128) (x : EReal) :
    x + addTile A (head g 0) r 0 0 (ix4 hh n a k) + addTile A (head g 0) r 0 1 (ix4 hh n a k) + addTile A (head g 0) r 0 2 (ix4 hh n a k) + addTile A (head g 0) r 0 3 (ix4 hh n a k)
      + addTile A (head g 1) r 1 0 (ix4 hh n a k) + addTile A (head g 1) r 1 1 (ix4 hh n a k) + addTile A (head g 1) r 1 2 (ix4 hh n a k) + addTile A (head g 1) r 1 3 (ix4 hh n a k)
      = x + ((tileAt A (head g hh) n a k r : ℝ) : EReal) := by
  have one : ∀ (h : Fin 8) (q : ℕ) (j : Fin 4), addTile A h r q j (ix4 hh n a k)
      = (((if hh.val = q ∧ n.val = 7 + st r.val + 2 * j.val - r.val then lanes (blk A h r) j a k else 0) : ℝ) : EReal) := fun h q j => by
    show (if _ then _ else _) = _
    split <;> rename_i e
    · rw [if_pos (show hh.val = q ∧ n.val = 7 + st r.val + 2 * j.val - r.val from e)]; rfl
    · rw [if_neg (show ¬ (hh.val = q ∧ n.val = 7 + st r.val + 2 * j.val - r.val) from e)]; rfl
  simp only [one, add_assoc (G := EReal), ← EReal.coe_add]
  refine congrArg (fun y : ℝ => x + (y : EReal)) ?_
  unfold tileAt
  rw [Fin.sum_univ_four]
  match hh with
  | 0 => simp [add_assoc]
  | 1 => simp [add_assoc]

variable (I : InG A (V c))
include I

theorem k_point (t : Fin cfg1.N) (ht : t.val % 64 = 63) (g : Fin 4) (hg : t.val / 64 = g.val) (hh : Fin 2) (i : Fin 4096) (d : Fin 128) (j : Fin 256)
    (hj : j.val = hh.val * 128 + d.val) : ((left1 V c t.val t.isLt).2.1 : Vec Ideal S4096x256 .f32) (ix2 i j) = ((∑ r, (addK A (head g hh) r) i d : ℝ) : EReal) :=
  sum_run (fun n h => ((left1 V c n h).2.1 : Vec Ideal S4096x256 .f32) (ix2 i j)) (fun g r => (addK A (head g hh) r) i d)
    (fun t g r hr h => (congrFun (congrArg (fun z => z.2.1) (left1_A V c t h)) _).trans ((k_A I t h g r hr _).trans (half_pair (fun hh => addK A (head g hh) r) _ hh d hj 0)))
    (fun t g r hr h => (congrFun (congrArg (fun z => z.2.1) (left1_B V c t h)) _).trans ((k_B I t h _ g r hr _).trans (half_pair (fun hh => addK A (head g hh) r) _ hh d hj _)))
    t ht g hg

theorem k_array : (dat1 V c).arrAt 10 cfg1.N = fun y : S4096x1024.Idx => ((outK A (y 0) (y 1) : ℝ) : EReal) := by
  refine (dat1 V c).arrAt_eq_of_covers 10 _ (by decide +kernel) fun t hf y => ?_
  have ht := (idx1 t).2.1
  obtain ⟨a, j, rfl⟩ : ∃ (a : Fin 4096) (j : Fin 256), y = ix2 a j := ⟨y 0, y 1, eq_ix2 y⟩
  have hr : ((cfg1.win 10).blk t).view.emb (ix2 a j) = ix2 a ⟨(t.val / 64) * 256 + j.val, by omega⟩ := by blk_ext! [idx1 t]
  obtain ⟨hh, d, hj⟩ := split_col j
  rw [hr, after1_10]
  refine (k_point I t ((flush1_10 t).mp hf) ⟨t.val / 64, by omega⟩ rfl hh a d j hj).trans ?_
  obtain ⟨e1, e2⟩ := col_head ⟨t.val / 64, by omega⟩ hh d ⟨(t.val / 64) * 256 + j.val, by omega⟩ (congrArg (t.val / 64 * 256 + ·) hj)
  show _ = ((outK A a ⟨(t.val / 64) * 256 + j.val, _⟩ : ℝ) : EReal)
  unfold outK
  rw [e1, e2]

theorem v_point (t : Fin cfg1.N) (ht : t.val % 64 = 63) (g : Fin 4) (hg : t.val / 64 = g.val) (hh : Fin 2) (i : Fin 4096) (d : Fin 128) (j : Fin 256)
    (hj : j.val = hh.val * 128 + d.val) : ((left1 V c t.val t.isLt).2.2.1 : Vec Ideal S4096x256 .f32) (ix2 i j) = ((∑ r, (addV A (head g hh) r) i d : ℝ) : EReal) :=
  sum_run (fun n h => ((left1 V c n h).2.2.1 : Vec Ideal S4096x256 .f32) (ix2 i j)) (fun g r => (addV A (head g hh) r) i d)
    (fun t g r hr h => (congrFun (congrArg (fun z => z.2.2.1) (left1_A V c t h)) _).trans ((v_A I t h g r hr _).trans (half_pair (fun hh => addV A (head g hh) r) _ hh d hj 0)))
    (fun t g r hr h => (congrFun (congrArg (fun z => z.2.2.1) (left1_B V c t h)) _).trans ((v_B I t h _ g r hr _).trans (half_pair (fun hh => addV A (head g hh) r) _ hh d hj _)))
    t ht g hg

theorem v_array : (dat1 V c).arrAt 11 cfg1.N = fun y : S4096x1024.Idx => ((outV A (y 0) (y 1) : ℝ) : EReal) := by
  refine (dat1 V c).arrAt_eq_of_covers 11 _ (by decide +kernel) fun t hf y => ?_
  have ht := (idx1 t).2.1
  obtain ⟨a, j, rfl⟩ : ∃ (a : Fin 4096) (j : Fin 256), y = ix2 a j := ⟨y 0, y 1, eq_ix2 y⟩
  have hr : ((cfg1.win 11).blk t).view.emb (ix2 a j) = ix2 a ⟨(t.val / 64) * 256 + j.val, by omega⟩ := by blk_ext! [idx1 t]
  obtain ⟨hh, d, hj⟩ := split_col j
  rw [hr, after1_11]
  refine (v_point I t ((flush1_11 t).mp hf) ⟨t.val / 64, by omega⟩ rfl hh a d j hj).trans ?_
  obtain ⟨e1, e2⟩ := col_head ⟨t.val / 64, by omega⟩ hh d ⟨(t.val / 64) * 256 + j.val, by omega⟩ (congrArg (t.val / 64 * 256 + ·) hj)
  show _ = ((outV A a ⟨(t.val / 64) * 256 + j.val, _⟩ : ℝ) : EReal)
  unfold outV
  rw [e1, e2]

theorem kc_point (t : Fin cfg1.N) (ht : t.val % 64 = 63) (g : Fin 4) (hg : t.val / 64 = g.val) (hh : Fin 2) (i : Fin 256) (d : Fin 128) (j : Fin 256)
    (hj : j.val = hh.val * 128 + d.val) : ((left1 V c t.val t.isLt).2.2.2.1 : Vec Ideal S256x256 .f32) (ix2 i j) = ((∑ r, ((blk A (head g hh) r).dkc) i d : ℝ) : EReal) :=
  sum_run (fun n h => ((left1 V c n h).2.2.2.1 : Vec Ideal S256x256 .f32) (ix2 i j)) (fun g r => ((blk A (head g hh) r).dkc) i d)
    (fun t g r hr h => (congrFun (congrArg (fun z => z.2.2.2.1) (left1_A V c t h)) _).trans ((kc_A I t h g r hr _).trans (half_pair (fun hh => (blk A (head g hh) r).dkc) _ hh d hj 0)))
    (fun t g r hr h => (congrFun (congrArg (fun z => z.2.2.2.1) (left1_B V c t h)) _).trans ((kc_B I t h _ g r hr _).trans (half_pair (fun hh => (blk A (head g hh) r).dkc) _ hh d hj _)))
    t ht g hg

theorem kc_array : (dat1 V c).arrAt 12 cfg1.N = fun y : S256x1024.Idx => ((outKc A (y 0) (y 1) : ℝ) : EReal) := by
  refine (dat1 V c).arrAt_eq_of_covers 12 _ (by decide +kernel) fun t hf y => ?_
  have ht := (idx1 t).2.1
  obtain ⟨a, j, rfl⟩ : ∃ (a : Fin 256) (j : Fin 256), y = ix2 a j := ⟨y 0, y 1, eq_ix2 y⟩
  have hr : ((cfg1.win 12).blk t).view.emb (ix2 a j) = ix2 a ⟨(t.val / 64) * 256 + j.val, by omega⟩ := by blk_ext! [idx1 t]
  obtain ⟨hh, d, hj⟩ := split_col j
  rw [hr, after1_12]
  refine (kc_point I t ((flush1_12 t).mp hf) ⟨t.val / 64, by omega⟩ rfl hh a d j hj).trans ?_
  obtain ⟨e1, e2⟩ := col_head ⟨t.val / 64, by omega⟩ hh d ⟨(t.val / 64) * 256 + j.val, by omega⟩ (congrArg (t.val / 64 * 256 + ·) hj)
  show _ = ((outKc A a ⟨(t.val / 64) * 256 + j.val, _⟩ : ℝ) : EReal)
  unfold outKc
  rw [e1, e2]

theorem vc_point (t : Fin cfg1.N) (ht : t.val % 64 = 63) (g : Fin 4) (hg : t.val / 64 = g.val) (hh : Fin 2) (i : Fin 256) (d : Fin 128) (j : Fin 256)
    (hj : j.val = hh.val * 128 + d.val) : ((left1 V c t.val t.isLt).2.2.2.2.1 : Vec Ideal S256x256 .f32) (ix2 i j) = ((∑ r, ((blk A (head g hh) r).dvc) i d : ℝ) : EReal) :=
  sum_run (fun n h => ((left1 V c n h).2.2.2.2.1 : Vec Ideal S256x256 .f32) (ix2 i j)) (fun g r => ((blk A (head g hh) r).dvc) i d)
    (fun t g r hr h => (congrFun (congrArg (fun z => z.2.2.2.2.1) (left1_A V c t h)) _).trans ((vc_A I t h g r hr _).trans (half_pair (fun hh => (blk A (head g hh) r).dvc) _ hh d hj 0)))
    (fun t g r hr h => (congrFun (congrArg (fun z => z.2.2.2.2.1) (left1_B V c t h)) _).trans ((vc_B I t h _ g r hr _).trans (half_pair (fun hh => (blk A (head g hh) r).dvc) _ hh d hj _)))
    t ht g hg

theorem vc_array : (dat1 V c).arrAt 13 cfg1.N = fun y : S256x1024.Idx => ((outVc A (y 0) (y 1) : ℝ) : EReal) := by
  refine (dat1 V c).arrAt_eq_of_covers 13 _ (by decide +kernel) fun t hf y => ?_
  have ht := (idx1 t).2.1
  obtain ⟨a, j, rfl⟩ : ∃ (a : Fin 256) (j : Fin 256), y = ix2 a j := ⟨y 0, y 1, eq_ix2 y⟩
  have hr : ((cfg1.win 13).blk t).view.emb (ix2 a j) = ix2 a ⟨(t.val / 64) * 256 + j.val, by omega⟩ := by blk_ext! [idx1 t]
  obtain ⟨hh, d, hj⟩ := split_col j
  rw [hr, after1_13]
  refine (vc_point I t ((flush1_13 t).mp hf) ⟨t.val / 64, by omega⟩ rfl hh a d j hj).trans ?_
  obtain ⟨e1, e2⟩ := col_head ⟨t.val / 64, by omega⟩ hh d ⟨(t.val / 64) * 256 + j.val, by omega⟩ (congrArg (t.val / 64 * 256 + ·) hj)
  show _ = ((outVc A a ⟨(t.val / 64) * 256 + j.val, _⟩ : ℝ) : EReal)
  unfold outVc
  rw [e1, e2]

theorem tiles_point (t : Fin cfg1.N) (ht : t.val % 64 = 63) (g : Fin 4) (hg : t.val / 64 = g.val) (hh : Fin 2) (n : Fin 14) (a : Fin 64) (k : Fin 128) :
    ((left1 V c t.val t.isLt).2.2.2.2.2 : Vec Ideal S2x14x64x128 .f32) (ix4 hh n a k) = ((outT A (head g hh) n a k : ℝ) : EReal) :=
  sum_run (fun m h => ((left1 V c m h).2.2.2.2.2 : Vec Ideal S2x14x64x128 .f32) (ix4 hh n a k)) (fun g r => tileAt A (head g hh) n a k r)
    (fun t g r hr h => (congrFun (congrArg (fun z => z.2.2.2.2.2) (left1_A V c t h)) _).trans ((tiles_A I t h g r hr _).trans (tiles_pair g r hh n a k 0)))
    (fun t g r hr h => (congrFun (congrArg (fun z => z.2.2.2.2.2) (left1_B V c t h)) _).trans ((tiles_B I t h _ g r hr _).trans (tiles_pair g r hh n a k _)))
    t ht g hg

theorem tiles_array : (dat1 V c).arrAt 14 cfg1.N = fun y : S8x14x64x128.Idx => ((outT A (y 0) (y 1) (y 2) (y 3) : ℝ) : EReal) := by
  refine (dat1 V c).arrAt_eq_of_covers 14 _ (by decide +kernel) fun t hf y => ?_
  have ht := (idx1 t).2.1
  obtain ⟨hh, n, a, k, rfl⟩ : ∃ (hh : Fin 2) (n : Fin 14) (a : Fin 64) (k : Fin 128), y = ix4 hh n a k := ⟨y 0, y 1, y 2, y 3, eq_ix4 y⟩
  have hr : ((cfg1.win 14).blk t).view.emb (ix4 hh n a k) = ix4 (head ⟨t.val / 64, by omega⟩ hh) n a k := by blk_ext! [idx1 t]
  rw [hr, after1_14]
  exact tiles_point I t ((flush1_14 t).mp hf) ⟨t.val / 64, by omega⟩ rfl hh n a k

theorem q_point (t : Fin cfg1.N) (g : Fin 4) (r : Fin 64) (ht : t.val = g.val * 64 + r.val) (hh : Fin 2) (a : Fin 64) (d : Fin 128) (j : Fin 256)
    (hj : j.val = hh.val * 128 + d.val) : ((left1 V c t.val t.isLt).1 : Vec Ideal S64x256 .bf16) (ix2 a j) = (((blk A (head g hh) r).dq a d : ℝ) : EReal) := by
  by_cases h : t.val % 64 = 0
  · exact (congrFun (congrArg Prod.fst (left1_A V c t h)) _).trans (q_A I t h g r ht hh a d j hj)
  · exact (congrFun (congrArg Prod.fst (left1_B V c t h)) _).trans (q_B I t h _ g r ht hh a d j hj)

theorem q_array : (dat1 V c).arrAt 9 cfg1.N = fun y : S4096x1024.Idx => ((outQ A (y 0) (y 1) : ℝ) : EReal) := by
  refine (dat1 V c).arrAt_eq_of_covers 9 _ (by decide +kernel) fun t _ y => ?_
  have ht := (idx1 t).2.1
  obtain ⟨a, j, rfl⟩ : ∃ (a : Fin 64) (j : Fin 256), y = ix2 a j := ⟨y 0, y 1, eq_ix2 y⟩
  have hr : ((cfg1.win 9).blk t).view.emb (ix2 a j) = ix2 ⟨(t.val % 64) * 64 + a.val, by omega⟩ ⟨(t.val / 64) * 256 + j.val, by omega⟩ := by blk_ext! [idx1 t]
  obtain ⟨hh, d, hj⟩ := split_col j
  rw [hr, after1_9]
  refine (q_point I t ⟨t.val / 64, by omega⟩ ⟨t.val % 64, by omega⟩ (by simp only; omega) hh a d j hj).trans ?_
  obtain ⟨e1, e2⟩ := col_head ⟨t.val / 64, by omega⟩ hh d ⟨(t.val / 64) * 256 + j.val, by omega⟩ (congrArg (t.val / 64 * 256 + ·) hj)
  have e3 : (⟨((t.val % 64) * 64 + a.val) / 64, by omega⟩ : Fin 64) = ⟨t.val % 64, by omega⟩ := Fin.ext (by simp only; omega)
  have e4 : (⟨((t.val % 64) * 64 + a.val) % 64, by omega⟩ : Fin 64) = a := Fin.ext (by simp only; omega)
  show _ = ((outQ A ⟨(t.val % 64) * 64 + a.val, _⟩ ⟨(t.val / 64) * 256 + j.val, _⟩ : ℝ) : EReal)
  unfold outQ
  rw [e1, e2, e3, e4]

end Cert.NaMath
-- ==== Proof.NaEnd.lean ====
/- What the whole program leaves in its seven results, on arguments that are numbers. -/
module

public import proofs.«01_k».proof.Proof.NaTail
public import proofs.«01_k».proof.Proof.NaBwd
public import proofs.«01_k».proof.Proof.NaRun

@[expose] public section

set_option maxRecDepth 16384

noncomputable section

namespace Cert.NaMath

open Idealize.ShloMosaic
open Cert.Reals Cert.NaKernelIdeal Cert.NaKernelIdeal.Gen Cert.NaKernelIdeal.NaRun Cert.NaKernelIdeal.NaRegion

/-- The arguments hold the numbers `A`. -/
structure Numbers (A : Arrays) (σ : Valuation τ sig (Elt Ideal)) : Prop where
  x0 : ∀ i j, (σ (dr main_arg0) : Vec Ideal S4096x3072 .bf16) (ix2 i j) = ((A.a0 i j : ℝ) : EReal)
  x1 : ∀ i j, (σ (dr main_arg1) : Vec Ideal S256x2048 .bf16) (ix2 i j) = ((A.a1 i j : ℝ) : EReal)
  x2 : ∀ h n e, (σ (dr main_arg2) : Vec Ideal S8x15x31 .f32) (ix3 h n e) = ((A.a2 h n e : ℝ) : EReal)
  x3 : ∀ i j, (σ (dr main_arg3) : Vec Ideal S4096x2048 .bf16) (ix2 i j) = ((A.a3 i j : ℝ) : EReal)

variable (m : (ℓ : Loc nD τ sig) → Buf (Elt Ideal) ℓ) (c : Dev nD)

/-- An array that the host's first lines do not write is as it was, -/
theorem start_of (r : Ref sig .tc) (h : r ∉ hostOps0_W ∧ r ∉ hostOps0_1_W ∧ r ∉ hostOps0_2_W ∧ r ∉ hostOps0_3_W ∧ r ∉ hostOps0_4_W ∧ r ∉ hostOps0_5_W
    ∧ r ∉ hostOps0_6_W ∧ r ∉ hostOps0_7_W ∧ r ∉ hostOps0_8_W ∧ r ∉ hostOps0_9_W ∧ r ∉ hostOps0_10_W) : V11 m c (dr r) = V0 m c (dr r) := by
  obtain ⟨h0, h1, h2, h3, h4, h5, h6, h7, h8, h9, h10⟩ := h
  rw [V11_of m c r h10, V10_of m c r h9, V9_of m c r h8, V8_of m c r h7, V7_of m c r h6, V6_of m c r h5, V5_of m c r h4, V4_of m c r h3, V3_of m c r h2,
    V2_of m c r h1, V1_of m c r h0]

/-- and one that its last lines do not write is as the gradient's call left it. -/
theorem last_of (r : Ref sig .tc) (h : r ∉ hostOps2_W ∧ r ∉ hostOps2_1_W ∧ r ∉ hostOps2_2_W ∧ r ∉ hostOps2_3_W ∧ r ∉ hostOps2_4_W ∧ r ∉ hostOps2_5_W
    ∧ r ∉ hostOps2_6_W ∧ r ∉ hostOps2_7_W ∧ r ∉ hostOps2_8_W ∧ r ∉ hostOps2_9_W ∧ r ∉ hostOps2_10_W ∧ r ∉ hostOps2_11_W ∧ r ∉ hostOps2_12_W) :
    Last m c (dr r) = M1 m c (dr r) := by
  obtain ⟨h0, h1, h2, h3, h4, h5, h6, h7, h8, h9, h10, h11, h12⟩ := h
  refine (V26_of m (outs m) c r h12).trans <| (V25_of m (outs m) c r h11).trans <| (V24_of m (outs m) c r h10).trans <|
    (V23_of m (outs m) c r h9).trans <| (V22_of m (outs m) c r h8).trans <| (V21_of m (outs m) c r h7).trans <| (V20_of m (outs m) c r h6).trans <|
    (V19_of m (outs m) c r h5).trans <| (V18_of m (outs m) c r h4).trans <| (V17_of m (outs m) c r h3).trans <| (V16_of m (outs m) c r h2).trans <|
    (V15_of m (outs m) c r h1).trans <| (V14_of m (outs m) c r h0).trans <| ?_
  exact congrFun (V13_eq m c) _

variable {A : Arrays} (I : Numbers A (V0 m c))
include I

theorem in0 : In A (In0 m c) where
  x0 i j := (congrFun (start_of m c main_arg0 (by decide)) (ix2 i j)).trans (I.x0 i j)
  x1 i j := (congrFun (start_of m c main_arg1 (by decide)) (ix2 i j)).trans (I.x1 i j)
  b h n q k := by
    refine (bias_at m c h n q k).trans ?_
    split
    · exact I.x2 _ _ _
    · rfl

theorem in1 : InG A (In1 m c) where
  x0 i j := (congrFun (M0_rest m c (dr main_arg0) (by decide) (by decide)) (ix2 i j)).trans ((in0 m c I).x0 i j)
  x1 i j := (congrFun (M0_rest m c (dr main_arg1) (by decide) (by decide)) (ix2 i j)).trans ((in0 m c I).x1 i j)
  b h n q k := (congrFun (M0_rest m c (dr main_v54) (by decide) (by decide)) (ix4 h n q k)).trans ((in0 m c I).b h n q k)
  o i j := congrFun ((M0_arr m c 6).trans (o_array (in0 m c I))) (ix2 i j)
  l h i := congrFun ((M0_arr m c 7).trans (l_array (in0 m c I))) (ix3 h i 0)
  g i j := (congrFun ((M0_rest m c (dr main_arg3) (by decide) (by decide)).trans (start_of m c main_arg3 (by decide))) (ix2 i j)).trans (I.x3 i j)

theorem last_o : (Last m c (dr main_v55_0) : Vec Ideal S4096x1024 .bf16) = fun y => ((outO A (y 0) (y 1) : ℝ) : EReal) :=
  (last_of m c main_v55_0 (by decide)).trans ((M1_rest m c (dr main_v55_0) (by decide) (by decide) (by decide) (by decide) (by decide) (by decide)).trans
    ((M0_arr m c 6).trans (o_array (in0 m c I))))
theorem last_q : (Last m c (dr main_v56_0) : Vec Ideal S4096x1024 .bf16) = fun y => ((outQ A (y 0) (y 1) : ℝ) : EReal) :=
  (last_of m c main_v56_0 (by decide)).trans ((M1_arr m c 9).trans (q_array (in1 m c I)))
theorem last_k : (Last m c (dr main_v56_1) : Vec Ideal S4096x1024 .f32) = fun y => ((outK A (y 0) (y 1) : ℝ) : EReal) :=
  (last_of m c main_v56_1 (by decide)).trans ((M1_arr m c 10).trans (k_array (in1 m c I)))
theorem last_v : (Last m c (dr main_v56_2) : Vec Ideal S4096x1024 .f32) = fun y => ((outV A (y 0) (y 1) : ℝ) : EReal) :=
  (last_of m c main_v56_2 (by decide)).trans ((M1_arr m c 11).trans (v_array (in1 m c I)))
theorem last_kc : (Last m c (dr main_v56_3) : Vec Ideal S256x1024 .f32) = fun y => ((outKc A (y 0) (y 1) : ℝ) : EReal) :=
  (last_of m c main_v56_3 (by decide)).trans ((M1_arr m c 12).trans (kc_array (in1 m c I)))
theorem last_vc : (Last m c (dr main_v56_4) : Vec Ideal S256x1024 .f32) = fun y => ((outVc A (y 0) (y 1) : ℝ) : EReal) :=
  (last_of m c main_v56_4 (by decide)).trans ((M1_arr m c 13).trans (vc_array (in1 m c I)))

theorem tiles_at (h : Fin 8) (n : Fin 14) (q : Fin 64) (k : Fin 128) :
    (V13 m (outs m) c (dr main_v56_5) : Vec Ideal S8x14x64x128 .f32) (ix4 h n q k) = ((outT A h n q k : ℝ) : EReal) :=
  congrFun ((congrFun (V13_eq m c) _).trans ((M1_arr m c 14).trans (tiles_array (in1 m c I)))) (ix4 h n q k)

/-- What one row of the table gathers: left halves of its own window row, right halves of the row before. -/
def tileSum (A : Arrays) (h : Fin 8) (n : Fin 15) (q k : Fin 64) : ℝ :=
  (if hn : n.val < 14 then outT A h ⟨n.val, hn⟩ q ⟨k.val, by omega⟩ else 0)
    + (if hn : 1 ≤ n.val then outT A h ⟨n.val - 1, by omega⟩ q ⟨64 + k.val, by omega⟩ else 0)

/-- The gradient of the table of biases. -/
def outB (A : Arrays) (h : Fin 8) (n : Fin 15) (e : Fin 31) : ℝ :=
  ∑ x : Fin 4096, tileSum A h n ⟨x.val / 64, by omega⟩ ⟨x.val % 64, by omega⟩
    * (if col (x.val / 64) (x.val % 64) = e.val ∧ Sees (x.val / 64) (x.val % 64) then 1 else 0)

theorem left_at (h : Fin 8) (n : Fin 15) (q k : Fin 64) : (V17 m (outs m) c (dr main_v59) : Vec Ideal S8x15x64x64 .f32) (ix4 h n q k)
    = (((if hn : n.val < 14 then outT A h ⟨n.val, hn⟩ q ⟨k.val, by omega⟩ else 0 : ℝ)) : EReal) := by
  rw [V17_of m (outs m) c main_v59 (by decide), V16_of m (outs m) c main_v59 (by decide)]
  refine (left_read (V13 m (outs m) c) h n q k).trans ?_
  split
  · exact tiles_at m c I _ _ _ _
  · rfl

theorem right_at (h : Fin 8) (n : Fin 15) (q k : Fin 64) : (V17 m (outs m) c (dr main_v60) : Vec Ideal S8x15x64x64 .f32) (ix4 h n q k)
    = (((if hn : 1 ≤ n.val then outT A h ⟨n.val - 1, by omega⟩ q ⟨64 + k.val, by omega⟩ else 0 : ℝ)) : EReal) := by
  refine (right_read (V15 m (outs m) c) h n q k).trans ?_
  split
  · rw [V15_of m (outs m) c main_v58 (by decide)]
    exact (cut_read (V13 m (outs m) c) _ _ _ _).trans (tiles_at m c I _ _ _ _)
  · rfl

theorem sum_at (r : Fin 120) (x : Fin 4096) : (V25 m (outs m) c (dr main_v64) : Vec Ideal S120x1x4096 .f32) (ix3 r 0 x)
    = ((tileSum A ⟨r.val / 15, by omega⟩ ⟨r.val % 15, by omega⟩ ⟨x.val / 64, by omega⟩ ⟨x.val % 64, by omega⟩ : ℝ) : EReal) := by
  rw [V25_of m (outs m) c main_v64 (by decide), V24_of m (outs m) c main_v64 (by decide), V23_of m (outs m) c main_v64 (by decide),
    V22_of m (outs m) c main_v64 (by decide), V21_of m (outs m) c main_v64 (by decide)]
  refine (flat_read (V18 m (outs m) c) r x).trans ?_
  refine (sum_read (V17 m (outs m) c) _ _ (left_at m c I) (right_at m c I) r x).trans ?_
  exact (EReal.coe_add _ _).symm

omit I in
theorem select_at (e : Fin 128) (x : Fin 4096) : (V25 m (outs m) c (dr main_v101) : Vec Ideal S128x4096 .f32) (ix2 e x)
    = if col (x.val / 64) (x.val % 64) = e.val ∧ Sees (x.val / 64) (x.val % 64) then (1 : EReal) else 0 := by
  have hc : ∀ a, (V21 m (outs m) c (dr main_v65) : Vec Ideal S64 .i32) (ix1 a) = BitVec.ofNat 32 a.val := fun a => by
    rw [V21_of m (outs m) c main_v65 (by decide)]
    exact cols_read2 (V19 m (outs m) c) a
  refine one_read2 (V23 m (outs m) c) (fun x => ?_) (col_read2 (V21 m (outs m) c) hc) e x
  rw [V23_of m (outs m) c main_v82 (by decide)]
  exact seen_read2 (V21 m (outs m) c) (start_read2 (V19 m (outs m) c)) hc x

theorem last_b : (Last m c (dr main_v109) : Vec Ideal S8x15x31 .f32) = fun y => ((outB A (y 0) (y 1) (y 2) : ℝ) : EReal) := by
  funext y
  obtain ⟨h, n, e, rfl⟩ : ∃ (h : Fin 8) (n : Fin 15) (e : Fin 31), y = ix3 h n e := ⟨y 0, y 1, y 2, eq_ix3 y⟩
  refine (table_read (V25 m (outs m) c) _ _ (sum_at m c I) (select_at m c) h n e).trans ?_
  show _ = ((outB A h n e : ℝ) : EReal)
  unfold outB
  rw [coe_sum]
  refine Finset.sum_congr (M := EReal) rfl fun x _ => ?_
  rw [EReal.coe_mul]
  refine congrArg₂ (fun a b : EReal => a * b) ?_ (by split <;> rfl)
  simp only [show (h.val * 15 + n.val) / 15 = h.val by omega, show (h.val * 15 + n.val) % 15 = n.val by omega]

end Cert.NaMath
-- ==== Proof.NaRefOut.lean ====
/- The reference's results on arrays of numbers are what the kernel's arrays hold: outputs, queries and context block by
   block; keys, values and biases as sums over the rows that read them. -/
module

public import proofs.«01_k».proof.Proof.NaRefBwd
public import proofs.«01_k».proof.Proof.NaEnd

@[expose] public section

set_option maxRecDepth 16384

noncomputable section

namespace Cert.NaMath

open Idealize.ShloMosaic Cert.Reals Cert.NaKernelIdeal.NaOff

/-- The row of the window that a row of the image is, if it is one. -/
theorem rows_sum (s : ℕ) (hs : s ≤ 56) (X : Fin 512 → Fin 128 → ℝ) (R : Fin 4096) (d : Fin 128) :
    ∑ i : Fin 8, (if s + i.val = R.val / 64 then X (wn i ⟨R.val % 64, by omega⟩) d else 0) = rowsAt (64 * s) X R d := by
  unfold rowsAt
  split
  · rename_i h
    refine (Finset.sum_eq_single (⟨R.val / 64 - s, by omega⟩ : Fin 8) (fun i _ hi => if_neg fun h' => hi (Fin.ext ?_)) fun h' => absurd (Finset.mem_univ _) h').trans ?_
    · show i.val = R.val / 64 - s
      omega
    · rw [if_pos (by simp only; omega)]
      refine congrArg (fun n => X n d) (Fin.ext ?_)
      unfold wn; simp only; omega
  · rename_i h
    exact Finset.sum_eq_zero fun i _ => if_neg fun h' => h (by omega)

/-- What is not seen has no gradient. -/
theorem ds_unseen (X : Blk) (a : Fin 64) (i : Fin 8) (k : Fin 64) (h : ¬ Sees a.val k.val) : X.ds a (wn i k) = 0 := by
  have e5 : (wn i k).val % 64 = k.val := by unfold wn; simp only; omega
  unfold Blk.ds Blk.p Blk.e
  rw [e5, if_neg h, zero_div, zero_mul]

/-- A tile of two neighbouring rows of biases, taken apart and added up, gives each row what the window's rows give it. -/
theorem tile_rows (A : Arrays) (h : Fin 8) (n : Fin 15) (q k : Fin 64) :
    tileSum A h n q k = ∑ r : Fin 64, ∑ i : Fin 8, if 7 + st r.val - r.val + i.val = n.val then (blk A h r).ds q (wn i k) else 0 := by
  have hl : (if hn : n.val < 14 then outT A h ⟨n.val, hn⟩ q ⟨k.val, by omega⟩ else 0)
      = ∑ r : Fin 64, ∑ j : Fin 4, if 7 + st r.val - r.val + 2 * j.val = n.val then (blk A h r).ds q (wn ⟨2 * j.val, by omega⟩ k) else 0 := by
    split
    · refine Finset.sum_congr rfl fun r _ => Finset.sum_congr rfl fun j _ => ?_
      have hr : r.val ≤ 7 + st r.val := by unfold st; omega
      refine if_congr ⟨fun h => by simp only at h; omega, fun h => by simp only; omega⟩ ?_ rfl
      unfold lanes wn
      exact congrArg _ (Fin.ext (by simp only; omega))
    · refine (Finset.sum_eq_zero fun r _ => Finset.sum_eq_zero fun j _ => if_neg fun h => ?_).symm
      have hr : st r.val ≤ r.val := by unfold st; omega
      omega
  have hr : (if hn : 1 ≤ n.val then outT A h ⟨n.val - 1, by omega⟩ q ⟨64 + k.val, by omega⟩ else 0)
      = ∑ r : Fin 64, ∑ j : Fin 4, if 7 + st r.val - r.val + (2 * j.val + 1) = n.val then (blk A h r).ds q (wn ⟨2 * j.val + 1, by omega⟩ k) else 0 := by
    split
    · refine Finset.sum_congr rfl fun r _ => Finset.sum_congr rfl fun j _ => ?_
      have hr : r.val ≤ 7 + st r.val := by unfold st; omega
      refine if_congr ⟨fun h => by simp only at h; omega, fun h => by simp only; omega⟩ ?_ rfl
      unfold lanes wn
      exact congrArg _ (Fin.ext (by simp only; omega))
    · refine (Finset.sum_eq_zero fun r _ => Finset.sum_eq_zero fun j _ => if_neg fun h => ?_).symm
      omega
  unfold tileSum
  rw [hl, hr, ← Finset.sum_add_distrib]
  refine Finset.sum_congr rfl fun r _ => ?_
  rw [← Finset.sum_add_distrib, Fin.sum_univ_four, Fin.sum_univ_eight]
  simp only [add_assoc]
  rfl

theorem sum_square (f : Fin 64 → Fin 64 → ℝ) : ∑ x : Fin 4096, f ⟨x.val / 64, by omega⟩ ⟨x.val % 64, by omega⟩ = ∑ a, ∑ k, f a k := by
  rw [← Finset.sum_product']
  refine Finset.sum_bij' (fun x _ => (⟨x.val / 64, by omega⟩, ⟨x.val % 64, by omega⟩)) (fun x _ => ⟨x.1.val * 64 + x.2.val, by omega⟩) (fun _ _ => by simp)
    (fun _ _ => Finset.mem_univ _) (fun x _ => Fin.ext (by simp only; omega)) (fun x _ => ?_) (fun _ _ => rfl)
  obtain ⟨i, k⟩ := x
  exact Prod.ext (Fin.ext (by simp only; omega)) (Fin.ext (by simp only; omega))

/-- The gradient of the table of biases, as a sum over all that read an entry. -/
theorem outB_eq (A : Arrays) (h : Fin 8) (n : Fin 15) (e : Fin 31) :
    outB A h n e = ∑ r : Fin 64, ∑ a : Fin 64, ∑ i : Fin 8, ∑ k : Fin 64,
      if 7 + st r.val - r.val + i.val = n.val ∧ col a.val k.val = e.val then (blk A h r).ds a (wn i k) else 0 := by
  unfold outB
  rw [sum_square fun a k => tileSum A h n a k * (if col a.val k.val = e.val ∧ Sees a.val k.val then 1 else 0), Finset.sum_comm]
  simp only [tile_rows, Finset.sum_mul]
  rw [Finset.sum_congr rfl fun k _ => Finset.sum_comm, Finset.sum_comm]
  refine Finset.sum_congr rfl fun r _ => ?_
  rw [Finset.sum_comm]
  refine Finset.sum_congr rfl fun a _ => ?_
  rw [Finset.sum_comm]
  refine Finset.sum_congr rfl fun i _ => Finset.sum_congr rfl fun k _ => ?_
  by_cases hs : Sees a.val k.val
  · by_cases h1 : 7 + st r.val - r.val + i.val = n.val <;> by_cases h2 : col a.val k.val = e.val <;> simp [h1, h2, hs]
  · rw [ds_unseen _ a i k hs]
    simp

open Cert.NaReferenceIdeal Cert.NaReferenceIdeal.Gen Cert.NaReferenceIdeal.Read

variable {A : Arrays} {x0 : FVec Ideal S4096x3072 .bf16} {x1 : FVec Ideal S256x2048 .bf16} {x2 : FVec Ideal S8x15x31 .f32}
  {x3 : FVec Ideal S4096x2048 .bf16} (H : Args A x0 x1 x2 x3)
include H

theorem result_o (i : Fin 4096) (j : Fin 1024) : val_main_v199 (F := Ideal) x0 x1 x2 (ix2 i j) = ((outO A i j : ℝ) : EReal) := by
  pointwise [val_main_v199, val_main_v136, val_main_v135]
  exact output_at H ..

theorem result_q (i : Fin 4096) (j : Fin 1024) : val_main_v200 (F := Ideal) x0 x1 x2 x3 (ix2 i j) = ((outQ A i j : ℝ) : EReal) := by
  pointwise [val_main_v200, val_main_v198, val_main_v191]
  exact queries_at H ..

theorem result_kc (i : Fin 256) (j : Fin 1024) : val_main_v195 (F := Ideal) x0 x1 x2 x3 (ix2 i j) = ((outKc A i j : ℝ) : EReal) := by
  pointwise [val_main_v195]
  exact context_keys_at H ..

theorem result_vc (i : Fin 256) (j : Fin 1024) : val_main_v194 (F := Ideal) x0 x1 x2 x3 (ix2 i j) = ((outVc A i j : ℝ) : EReal) := by
  pointwise [val_main_v194]
  exact context_values_at H ..

theorem scattered_v (R k : Fin 64) (h : Fin 8) (d : Fin 128) : val_main_v186 (F := Ideal) x0 x1 x2 x3 (ix5 0 R k h d)
    = ((∑ r : Fin 64, ∑ i : Fin 8, if st r.val + i.val = R.val then (blk A h r).dv (wn i k) d else 0 : ℝ) : EReal) := by
  have e : val_main_v186 (F := Ideal) x0 x1 x2 x3 (ix5 0 R k h d) = _ :=
    scatter_rows (val_main_v185 (F := Ideal)) (val_main_v149 (F := Ideal) x0 x1 x2 x3) R k h d
  rw [e]
  pointwise [val_main_v185, val_main_cst_37]
  simp only [values_grad_at H, coe_sum]
  refine Finset.sum_congr rfl fun r _ => Finset.sum_congr rfl fun i _ => ?_
  split <;> rfl

theorem scattered_k (R k : Fin 64) (h : Fin 8) (d : Fin 128) : val_main_v189 (F := Ideal) x0 x1 x2 x3 (ix5 0 R k h d)
    = ((∑ r : Fin 64, ∑ i : Fin 8, if st r.val + i.val = R.val then (blk A h r).dk (wn i k) d else 0 : ℝ) : EReal) := by
  have e : val_main_v189 (F := Ideal) x0 x1 x2 x3 (ix5 0 R k h d) = _ :=
    scatter_rows (val_main_v188 (F := Ideal)) (val_main_v181 (F := Ideal) x0 x1 x2 x3) R k h d
  rw [e]
  pointwise [val_main_v188, val_main_cst_38]
  simp only [keys_at H, coe_sum]
  refine Finset.sum_congr rfl fun r _ => Finset.sum_congr rfl fun i _ => ?_
  split <;> rfl

theorem result_k (i : Fin 4096) (j : Fin 1024) : val_main_v197 (F := Ideal) x0 x1 x2 x3 (ix2 i j) = ((outK A i j : ℝ) : EReal) := by
  pointwise [val_main_v197, val_main_v190]
  refine (scattered_k H ..).trans (congrArg (fun r : ℝ => (r : EReal)) (Finset.sum_congr rfl fun r _ => ?_))
  exact rows_sum (st r.val) (by unfold st; omega) _ i _

theorem result_v (i : Fin 4096) (j : Fin 1024) : val_main_v196 (F := Ideal) x0 x1 x2 x3 (ix2 i j) = ((outV A i j : ℝ) : EReal) := by
  pointwise [val_main_v196, val_main_v187]
  refine (scattered_v H ..).trans (congrArg (fun r : ℝ => (r : EReal)) (Finset.sum_congr rfl fun r _ => ?_))
  exact rows_sum (st r.val) (by unfold st; omega) _ i _

theorem result_b (h : Fin 8) (n : Fin 15) (e : Fin 31) : val_main_v193 (F := Ideal) x0 x1 x2 x3 (ix3 h n e) = ((outB A h n e : ℝ) : EReal) := by
  have e1 : val_main_v193 (F := Ideal) x0 x1 x2 x3 (ix3 h n e) = _ :=
    scatter_bias (val_main_v192 (F := Ideal)) (val_main_v177 (F := Ideal) x0 x1 x2 x3) h n e
  rw [e1, outB_eq]
  pointwise [val_main_v192, val_main_cst_39]
  simp only [grad_bias_at H, coe_sum]
  refine Finset.sum_congr rfl fun r _ => Finset.sum_congr rfl fun a _ => Finset.sum_congr rfl fun i _ => Finset.sum_congr rfl fun k _ => ?_
  split <;> rfl

end Cert.NaMath
-- ==== Proof.NaClaims.lean ====
/- The claims about neighbourhood attention: its two calls run without fault, and over the extended reals they return the
   outputs that the attention's own lines give and the gradients that differentiating these lines gives, for finite inputs. -/
module

public import proofs.«01_k».proof.Defs
public import proofs.«01_k».proof.Proof.Gen.NaKernel
public import proofs.«01_k».proof.Proof.Gen.NaReferenceIdeal.Run
public import proofs.«01_k».proof.Proof.Gen.NaReferenceIdeal.Read
public import proofs.«01_k».proof.Proof.Gen.Pre_na_finite
public import proofs.«01_k».proof.Proof.NaRefOut
public import proofs.«01_k».proof.Proof.Reals
public import Idealize.ShloMosaic.Lib.Claim

@[expose] public section

set_option maxRecDepth 16384

noncomputable section

open Idealize.ShloMosaic Idealize.ShloMosaic.TcCoe Idealize.SL.Sem

namespace Cert.NaMath

theorem frame_kernel_ideal : Cert.quiescent_NaKernelIdeal := fun m ρ _ => Cert.NaKernelIdeal.NaRun.frame m ρ

section

open Cert.NaKernelIdeal

/-- The frame of the program as read at the ideal instance, at the machine's floats. -/
def FrameAtBits : Prop := ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- The kernel and its reading at the ideal instance are one program: no operation was rewritten. -/
theorem same_program : Cert.quiescent_NaKernel = FrameAtBits := by sl_kernel_rfl

end

theorem frame_kernel : Cert.quiescent_NaKernel := same_program.symm ▸ (fun m ρ _ => Cert.NaKernelIdeal.NaRun.frame (F := Bits) m ρ : FrameAtBits)

theorem frame_reference : Cert.quiescent_NaReferenceIdeal := fun m ρ _ =>
  (θ_run Cert.NaReferenceIdeal.defs _ _).mono
    (fun r h => ⟨fun c => (h c).2.2.2.2.2.2.2, sem_eq_zero_of_no_sems (by decide) r.2⟩) (Cert.NaReferenceIdeal.Value.run m ρ)

section

open Cert.NaReferenceIdeal Cert.NaReferenceIdeal.Read

variable {x0 : FVec Ideal S4096x3072 .bf16} {x1 : FVec Ideal S256x2048 .bf16} {x2 : FVec Ideal S8x15x31 .f32} {x3 : FVec Ideal S4096x2048 .bf16}

/-- What the precondition says of the arrays: they hold numbers. -/
theorem of_finite (h : Cert.Pre_na_finite.fn (F := Ideal) x0 x1 x2 x3 = fun _ => 1#1) : ∃ A : Arrays, Args A x0 x1 x2 x3 := by
  have e := congrFun h (fun a => a.elim0)
  simp only [Cert.Pre_na_finite.fn, Cert.Pre_na_finite.fn_part1] at e
  obtain ⟨e, h3⟩ := Cert.Reals.of_andi e
  obtain ⟨e, h2⟩ := Cert.Reals.of_andi e
  obtain ⟨h0, h1⟩ := Cert.Reals.of_andi e
  obtain ⟨r0, q0⟩ := Cert.Reals.finite16 x0 _ _ _ _ _ h0
  obtain ⟨r1, q1⟩ := Cert.Reals.finite16 x1 _ _ _ _ _ h1
  obtain ⟨r2, q2⟩ := Cert.Reals.finite_of_all x2 _ _ _ _ _ h2
  obtain ⟨r3, q3⟩ := Cert.Reals.finite16 x3 _ _ _ _ _ h3
  exact ⟨⟨fun i j => r0 (ix2 i j), fun i j => r1 (ix2 i j), fun h n e => r2 (ix3 h n e), fun i j => r3 (ix2 i j)⟩,
    ⟨fun i j => congrFun q0 _, fun i j => congrFun q1 _, fun h n e => congrFun q2 _, fun i j => congrFun q3 _⟩⟩

variable {A : Arrays} (H : Args A x0 x1 x2 x3)

include H

theorem o_eq : val_main_v199 (F := Ideal) x0 x1 x2 = fun y => ((outO A (y 0) (y 1) : ℝ) : EReal) :=
  funext fun y => by rw [eq_ix2 y]; exact result_o H (y 0) (y 1)

theorem q_eq : val_main_v200 (F := Ideal) x0 x1 x2 x3 = fun y => ((outQ A (y 0) (y 1) : ℝ) : EReal) :=
  funext fun y => by rw [eq_ix2 y]; exact result_q H (y 0) (y 1)

theorem k_eq : val_main_v197 (F := Ideal) x0 x1 x2 x3 = fun y => ((outK A (y 0) (y 1) : ℝ) : EReal) :=
  funext fun y => by rw [eq_ix2 y]; exact result_k H (y 0) (y 1)

theorem v_eq : val_main_v196 (F := Ideal) x0 x1 x2 x3 = fun y => ((outV A (y 0) (y 1) : ℝ) : EReal) :=
  funext fun y => by rw [eq_ix2 y]; exact result_v H (y 0) (y 1)

theorem kc_eq : val_main_v195 (F := Ideal) x0 x1 x2 x3 = fun y => ((outKc A (y 0) (y 1) : ℝ) : EReal) :=
  funext fun y => by rw [eq_ix2 y]; exact result_kc H (y 0) (y 1)

theorem vc_eq : val_main_v194 (F := Ideal) x0 x1 x2 x3 = fun y => ((outVc A (y 0) (y 1) : ℝ) : EReal) :=
  funext fun y => by rw [eq_ix2 y]; exact result_vc H (y 0) (y 1)

theorem b_eq : val_main_v193 (F := Ideal) x0 x1 x2 x3 = fun y => ((outB A (y 0) (y 1) (y 2) : ℝ) : EReal) :=
  funext fun y => by rw [eq_ix3 y]; exact result_b H (y 0) (y 1) (y 2)

end

section

open Cert.NaKernelIdeal Cert.NaKernelIdeal.Gen Cert.NaKernelIdeal.NaRun

/-- What the kernel ends with, whatever its arguments. -/
theorem kernel_ends (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v55_0) = Last m c (Proc.devRef .tc main_v55_0)
      ∧ r.2.mem ((c.tc : Thread nD τ).loc main_v56_0) = Last m c (Proc.devRef .tc main_v56_0)
      ∧ r.2.mem ((c.tc : Thread nD τ).loc main_v56_1) = Last m c (Proc.devRef .tc main_v56_1)
      ∧ r.2.mem ((c.tc : Thread nD τ).loc main_v56_2) = Last m c (Proc.devRef .tc main_v56_2)
      ∧ r.2.mem ((c.tc : Thread nD τ).loc main_v56_3) = Last m c (Proc.devRef .tc main_v56_3)
      ∧ r.2.mem ((c.tc : Thread nD τ).loc main_v56_4) = Last m c (Proc.devRef .tc main_v56_4)
      ∧ r.2.mem ((c.tc : Thread nD τ).loc main_v109) = Last m c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨at_end m h.1 c main_v55_0 (by decide), at_end m h.1 c main_v56_0 (by decide), at_end m h.1 c main_v56_1 (by decide),
     at_end m h.1 c main_v56_2 (by decide), at_end m h.1 c main_v56_3 (by decide), at_end m h.1 c main_v56_4 (by decide),
     at_end m h.1 c main_v109 (by decide),
     (at_end m h.1 c main_arg0 (by decide)).trans (V26_main_arg0 m (outs m) c),
     (at_end m h.1 c main_arg1 (by decide)).trans (V26_main_arg1 m (outs m) c),
     (at_end m h.1 c main_arg2 (by decide)).trans (V26_main_arg2 m (outs m) c),
     (at_end m h.1 c main_arg3 (by decide)).trans (V26_main_arg3 m (outs m) c)⟩) (run m g)

end

/-- Arrays of numbers are what the kernel starts from. -/
theorem numbers {A : Arrays} (m : (ℓ : Loc Cert.NaKernelIdeal.nD Cert.NaKernelIdeal.τ Cert.NaKernelIdeal.sig) → Buf (Elt Ideal) ℓ) (c : Dev Cert.NaKernelIdeal.nD)
    (H : Args A (m ((c.tc : Thread Cert.NaKernelIdeal.nD Cert.NaKernelIdeal.τ).loc Cert.NaKernelIdeal.main_arg0)) (m ((c.tc : Thread Cert.NaKernelIdeal.nD Cert.NaKernelIdeal.τ).loc Cert.NaKernelIdeal.main_arg1))
      (m ((c.tc : Thread Cert.NaKernelIdeal.nD Cert.NaKernelIdeal.τ).loc Cert.NaKernelIdeal.main_arg2)) (m ((c.tc : Thread Cert.NaKernelIdeal.nD Cert.NaKernelIdeal.τ).loc Cert.NaKernelIdeal.main_arg3))) :
    Numbers A (Cert.NaKernelIdeal.Gen.V0 m c) := ⟨H.x0, H.x1, H.x2, H.x3⟩

theorem value : Cert.algebraic_NaKernelIdeal_NaReferenceIdeal_pre_na_finite := fun m g m' g' hpre hagree => by
  refine ⟨_, _, _, _, _, _, _, kernel_ends m g, (θ_run Cert.NaReferenceIdeal.defs _ _).mono (fun r h c => ?_) (Cert.NaReferenceIdeal.Value.run m' g')⟩
  obtain ⟨A, H⟩ := of_finite (hpre c)
  have I := numbers m c H
  obtain ⟨a0, a1, a2, a3⟩ := hagree c
  rw [← a0, ← a1, ← a2, ← a3] at H
  obtain ⟨h0, h1, h2, h3, h4, h5, h6, h7⟩ := h c
  exact ⟨h0.trans <| (Cert.NaReferenceIdeal.Read.val_main_v199_eq _).trans <| (o_eq H).trans (last_o m c I).symm,
    h1.trans <| (Cert.NaReferenceIdeal.Read.val_main_v200_eq _).trans <| (q_eq H).trans (last_q m c I).symm,
    h2.trans <| (Cert.NaReferenceIdeal.Read.val_main_v197_eq _).trans <| (k_eq H).trans (last_k m c I).symm,
    h3.trans <| (Cert.NaReferenceIdeal.Read.val_main_v196_eq _).trans <| (v_eq H).trans (last_v m c I).symm,
    h4.trans <| (Cert.NaReferenceIdeal.Read.val_main_v195_eq _).trans <| (kc_eq H).trans (last_kc m c I).symm,
    h5.trans <| (Cert.NaReferenceIdeal.Read.val_main_v194_eq _).trans <| (vc_eq H).trans (last_vc m c I).symm,
    h6.trans <| (Cert.NaReferenceIdeal.Read.val_main_v193_eq _).trans <| (b_eq H).trans (last_b m c I).symm, h7⟩

end Cert.NaMath

end
-- ==== Proof.FfnCol.lean ====
/- The feed-forward layer's middle backward call, one column at a time: what each of its body's values is, at a row of a
   block of 256 rows, when the blocks hold the block's rows of a column and its neighbours' nearest rows. -/
module

public import proofs.«01_k».proof.Proof.Gen.FfnKernelIdeal.Frame
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.FfnMath

open Cert.FfnKernelIdeal Cert.FfnKernelIdeal.Gen

open Cert.FfnKernelIdeal Cert.FfnKernelIdeal.Gen

/-- A sequence's previous element, zero before the first, -/
def bel (f : Fin 4096 → EReal) (r : Fin 4096) : EReal := if h : r.val = 0 then 0 else f ⟨r.val - 1, by omega⟩

/-- and its next, zero after the last. -/
def abv (f : Fin 4096 → EReal) (r : Fin 4096) : EReal := if h : r.val = 4095 then 0 else f ⟨r.val + 1, by omega⟩

/-- The logistic function. -/
def sig' (x : EReal) : EReal := Ideal.div 1 (1 + Ideal.exp (0 - x))

/-- The short convolution of a column. -/
def conv (w : Fin 3 → EReal) (s : EReal) (x : Fin 4096 → EReal) (r : Fin 4096) : EReal :=
  s + w 0 * bel x r + w 1 * x r + w 2 * abv x r

/-- The gradients of the gated product, for the linear factor and for the gate. -/
def gu (d g : EReal) : EReal := d * g * sig' g

def gg (d u g : EReal) : EReal := d * u * sig' g * (1 + g * (1 - sig' g))

/-- The convolution's transpose. -/
def conv' (w : Fin 3 → EReal) (x : Fin 4096 → EReal) (r : Fin 4096) : EReal := w 0 * abv x r + w 1 * x r + w 2 * bel x r

/-- A row of a block. -/
def row (k : Fin 16) (a : Fin 256) : Fin 4096 := ⟨k.val * 256 + a.val, by omega⟩

/-- The blocks of a column: its rows, the two rows before and the two after, its taps and its bias. -/
structure Half (k : Fin 16) (b : Fin 512) (x : Fin 4096 → EReal) (w : Fin 3 → EReal) (s : EReal)
    (cur : FVec Ideal S1x256x512 .bf16) (pre post : FVec Ideal S1x16x512 .bf16) (w0 w1 w2 bb : FVec Ideal S1x1x512 .f32) : Prop where
  cur : ∀ a, cur (ix3 0 a b) = x (row k a)
  p14 : ∀ r : Fin 4096, r.val + 2 = k.val * 256 → pre (ix3 0 14 b) = x r
  p15 : ∀ r : Fin 4096, r.val + 1 = k.val * 256 → pre (ix3 0 15 b) = x r
  n0 : ∀ r : Fin 4096, r.val = k.val * 256 + 256 → post (ix3 0 0 b) = x r
  n1 : ∀ r : Fin 4096, r.val = k.val * 256 + 257 → post (ix3 0 1 b) = x r
  w0 : w0 (ix3 0 0 b) = w 0
  w1 : w1 (ix3 0 0 b) = w 1
  w2 : w2 (ix3 0 0 b) = w 2
  bb : bb (ix3 0 0 b) = s

/-- The two matrices that shift a block's rows down and up by one. -/
structure Shifts (dn up : FVec Ideal S1x256x256 .bf16) : Prop where
  dn : ∀ a l, dn (ix3 0 a l) = if l.val + 1 = a.val then 1 else 0
  up : ∀ a l, up (ix3 0 a l) = if l.val = a.val + 1 then 1 else 0

theorem sum_dn (S : Fin 256 → Fin 256 → EReal) (hS : ∀ a l, S a l = if l.val + 1 = a.val then 1 else 0)
    (f : Fin 256 → EReal) (a : Fin 256) (ha : a.val ≠ 0) : ∑ l, S a l * f l = f ⟨a.val - 1, by omega⟩ := by
  rw [Finset.sum_eq_single_of_mem (M := EReal) (⟨a.val - 1, by omega⟩ : Fin 256) (Finset.mem_univ _) fun l _ hl => ?_]
  · rw [hS, if_pos (by show a.val - 1 + 1 = a.val; omega), one_mul]
  · rw [hS, if_neg fun h => hl (Fin.ext (by show l.val = a.val - 1; omega)), zero_mul]

theorem sum_up (S : Fin 256 → Fin 256 → EReal) (hS : ∀ a l, S a l = if l.val = a.val + 1 then 1 else 0)
    (f : Fin 256 → EReal) (a : Fin 256) (ha : a.val ≠ 255) : ∑ l, S a l * f l = f ⟨a.val + 1, by omega⟩ := by
  rw [Finset.sum_eq_single_of_mem (M := EReal) (⟨a.val + 1, by omega⟩ : Fin 256) (Finset.mem_univ _) fun l _ hl => ?_]
  · rw [hS, if_pos rfl, one_mul]
  · rw [hS, if_neg fun h => hl (Fin.ext h), zero_mul]

theorem sel_eq {α : Type} (n m : ℕ) (hn : n < 2 ^ 32) (hm : m < 2 ^ 32) (A B : α) :
    Scalar.select (IntOp.cmpi .eq (BitVec.ofNat 32 n) (BitVec.ofNat 32 m)) A B = if n = m then A else B := by
  rw [WordCmp.cmpi_eq_ofNat hn hm, WordCmp.select_ofBool]; simp only [decide_eq_true_eq]

/-- The row that the block before, or after, gives a block of shifted rows. -/
theorem bel_rows {k : Fin 16} {dn up : FVec Ideal S1x256x256 .bf16} (hs : Shifts dn up) {f : Fin 4096 → EReal} {p : EReal} {c : Fin 256 → EReal}
    (hp : p = bel f (row k 0)) (hc : ∀ a, c a = f (row k a)) (a : Fin 256) :
    Scalar.select (IntOp.cmpi .eq (BitVec.ofNat 32 a.val) 0#32) p (∑ l, dn (ix3 0 a l) * c l) = bel f (row k a) := by
  rw [sel_eq a.val 0 (by omega) (by omega)]
  by_cases ha : a.val = 0
  · rw [if_pos ha, hp, show a = 0 from Fin.ext ha]
  · have hr : (row k a).val ≠ 0 := by show k.val * 256 + a.val ≠ 0; omega
    rw [if_neg ha, sum_dn (fun a l => dn (ix3 0 a l)) hs.dn c a ha, hc, bel, dif_neg hr]
    exact congrArg f (Fin.ext (by show k.val * 256 + (a.val - 1) = k.val * 256 + a.val - 1; omega))

theorem abv_rows {k : Fin 16} {dn up : FVec Ideal S1x256x256 .bf16} (hs : Shifts dn up) {f : Fin 4096 → EReal} {p : EReal} {c : Fin 256 → EReal}
    (hp : p = abv f (row k 255)) (hc : ∀ a, c a = f (row k a)) (a : Fin 256) :
    Scalar.select (IntOp.cmpi .eq (BitVec.ofNat 32 a.val) 255#32) p (∑ l, up (ix3 0 a l) * c l) = abv f (row k a) := by
  rw [sel_eq a.val 255 (by omega) (by omega)]
  by_cases ha : a.val = 255
  · rw [if_pos ha, hp, show a = 255 from Fin.ext ha]
  · have hr : (row k a).val ≠ 4095 := by show k.val * 256 + a.val ≠ 4095; omega
    rw [if_neg ha, sum_up (fun a l => up (ix3 0 a l)) hs.up c a ha, hc, abv, dif_neg hr]
    exact congrArg f (Fin.ext (by show k.val * 256 + (a.val + 1) = k.val * 256 + a.val + 1; omega))

theorem bel_first {k : Fin 16} (f : Fin 4096 → EReal) (p : EReal) (hp : ∀ r : Fin 4096, r.val + 1 = k.val * 256 → p = f r) :
    Scalar.select (IntOp.cmpi .eq (BitVec.ofNat 32 k.val) 0#32) 0 p = bel f (row k 0) := by
  rw [sel_eq k.val 0 (by omega) (by omega)]
  by_cases hk : k.val = 0
  · rw [if_pos hk, bel, dif_pos (by show k.val * 256 + 0 = 0; omega)]
  · rw [if_neg hk, bel, dif_neg (by show ¬k.val * 256 + 0 = 0; omega)]
    exact hp _ (by show k.val * 256 + 0 - 1 + 1 = k.val * 256; omega)

theorem abv_last {k : Fin 16} (f : Fin 4096 → EReal) (p : EReal) (hp : ∀ r : Fin 4096, r.val = k.val * 256 + 256 → p = f r) :
    Scalar.select (IntOp.cmpi .eq (BitVec.ofNat 32 k.val) 15#32) 0 p = abv f (row k 255) := by
  rw [sel_eq k.val 15 (by omega) (by omega)]
  by_cases hk : k.val = 15
  · rw [if_pos hk, abv, dif_pos (by show k.val * 256 + 255 = 4095; omega)]
  · rw [if_neg hk, abv, dif_neg (by show ¬k.val * 256 + 255 = 4095; omega)]
    exact hp _ (by show k.val * 256 + 255 + 1 = k.val * 256 + 256; omega)

section

variable {k : Fin 16} {b : Fin 512} {x : Fin 4096 → EReal} {w : Fin 3 → EReal} {s : EReal}
  {cur : FVec Ideal S1x256x512 .bf16} {pre post : FVec Ideal S1x16x512 .bf16} {w0 w1 w2 bb : FVec Ideal S1x1x512 .f32}
  (H : Half k b x w s cur pre post w0 w1 w2 bb) {dn up : FVec Ideal S1x256x256 .bf16} (hs : Shifts dn up)
  (i : grid0.Coords) (hi : (i 1).val = k.val)

/-! The rows, the rows above and below, and the convolution, of the first half -/

include H hs hi in
theorem below₀ (a : Fin 256) : k0_pay11 (F := Ideal) i cur pre dn (ix2 a b) = bel x (row k a) := by
  pointwise [k0_pay11, k0_pay7, k0_pay4, k0_pay2]
  rw [hi, WordCmp.scalar_cmpi_eq]
  exact bel_rows hs (bel_first x _ H.p15) H.cur a

include H hs hi in
theorem above₀ (a : Fin 256) : k0_pay14 (F := Ideal) (k0_pay10 cur up) k0_pay12 (k0_pay13 i post) (ix2 a b) = abv x (row k a) := by
  pointwise [k0_pay14, k0_pay10, k0_pay12, k0_pay13, k0_pay8, k0_pay5, k0_pay2]
  rw [hi, WordCmp.scalar_cmpi_eq]
  exact abv_rows hs (abv_last x _ H.n0) H.cur a

include H hs hi in
theorem conv₀ (a : Fin 256) : k0_pay19 (F := Ideal) (k0_pay3 cur) (k0_pay10 cur up) (k0_pay11 i cur pre dn) k0_pay12 (k0_pay13 i post) w0 w1 w2 bb
    (ix2 a b) = conv w s x (row k a) := by
  pointwise [k0_pay19, k0_pay15, k0_pay16, k0_pay17, k0_pay18, k0_pay3, k0_pay2, conv]
  rw [below₀ H hs i hi a, above₀ H hs i hi a, H.cur, H.w0, H.w1, H.w2, H.bb]

include H hi in
theorem convBefore₀ (r : Fin 4096) (hr : r.val + 1 = k.val * 256) :
    k0_pay20 (F := Ideal) (k0_pay3 cur) (k0_pay6 i pre) (k0_pay7 i pre) w0 w1 w2 bb (ix2 0 b) = conv w s x r := by
  pointwise [k0_pay20, k0_pay15, k0_pay16, k0_pay17, k0_pay18, k0_pay3, k0_pay2, k0_pay6, k0_pay7, k0_pay4]
  rw [hi, WordCmp.scalar_cmpi_eq, sel_eq k.val 0 (by omega) (by omega), if_neg (by omega), sel_eq k.val 0 (by omega) (by omega), if_neg (by omega),
    H.p15 r hr, H.p14 ⟨r.val - 1, by omega⟩ (by show r.val - 1 + 2 = k.val * 256; omega), H.w0, H.w1, H.w2, H.bb, H.cur, conv, bel, abv, dif_neg (by omega), dif_neg (by omega)]
  exact congrArg (fun q => _ + w 2 * x q) (Fin.ext (by show k.val * 256 + 0 = r.val + 1; omega))

include H hi in
theorem convAfter₀ (r : Fin 4096) (hr : r.val = k.val * 256 + 256) :
    k0_pay21 (F := Ideal) (k0_pay3 cur) (k0_pay8 i post) (k0_pay9 i post) w0 w1 w2 bb (ix2 0 b) = conv w s x r := by
  pointwise [k0_pay21, k0_pay15, k0_pay16, k0_pay17, k0_pay18, k0_pay3, k0_pay2, k0_pay8, k0_pay9, k0_pay5]
  rw [hi, WordCmp.scalar_cmpi_eq, sel_eq k.val 15 (by omega) (by omega), if_neg (by omega), sel_eq k.val 15 (by omega) (by omega), if_neg (by omega),
    H.n0 r hr, H.n1 ⟨r.val + 1, by omega⟩ (by show r.val + 1 = k.val * 256 + 257; omega), H.w0, H.w1, H.w2, H.bb, H.cur, conv, bel, abv, dif_neg (by omega), dif_neg (by omega)]
  exact congrArg (fun q => s + w 0 * x q + _ + _) (Fin.ext (by show k.val * 256 + 255 = r.val - 1; omega))

/-! and of the second. -/

include H hs hi in
theorem below₁ (a : Fin 256) : k0_pay30 (F := Ideal) (iota .tc S256x512 32 [0] iota_S256x512_d0_w32) (k0_pay22 cur)
    (k0_pay24 (Scalar.cmpi .eq (BitVec.ofNat 32 (i 1).val) 0#32) pre) dn (ix2 a b) = bel x (row k a) := by
  pointwise [k0_pay30, k0_pay22, k0_pay24, k0_pay27]
  rw [hi, WordCmp.scalar_cmpi_eq]
  exact bel_rows hs (bel_first x _ H.p15) H.cur a

include H hs hi in
theorem above₁ (a : Fin 256) : k0_pay31 (F := Ideal) (Scalar.cmpi .eq (BitVec.ofNat 32 (i 1).val) 15#32)
    (iota .tc S256x512 32 [0] iota_S256x512_d0_w32) (k0_pay22 cur) post up (ix2 a b) = abv x (row k a) := by
  pointwise [k0_pay31, k0_pay22, k0_pay25, k0_pay28]
  rw [hi, WordCmp.scalar_cmpi_eq]
  exact abv_rows hs (abv_last x _ H.n0) H.cur a

include H hs hi in
theorem conv₁ (a : Fin 256) : k0_pay37 (F := Ideal) (k0_pay23 cur)
    (k0_pay30 (iota .tc S256x512 32 [0] iota_S256x512_d0_w32) (k0_pay22 cur) (k0_pay24 (Scalar.cmpi .eq (BitVec.ofNat 32 (i 1).val) 0#32) pre) dn)
    (k0_pay31 (Scalar.cmpi .eq (BitVec.ofNat 32 (i 1).val) 15#32) (iota .tc S256x512 32 [0] iota_S256x512_d0_w32) (k0_pay22 cur) post up)
    (k0_pay33 w1) (k0_pay34 w2) (k0_pay35 bb) (k0_pay36 w0) (ix2 a b) = conv w s x (row k a) := by
  pointwise [k0_pay37, k0_pay33, k0_pay34, k0_pay35, k0_pay36, k0_pay32, k0_pay23, conv]
  rw [below₁ H hs i hi a, above₁ H hs i hi a, show k0_pay22 (F := Ideal) cur (ix2 a b) = x (row k a) from (by pointwise [k0_pay22]; exact H.cur a), H.w0, H.w1, H.w2, H.bb]

include H hi in
theorem convBefore₁ (r : Fin 4096) (hr : r.val + 1 = k.val * 256) :
    k0_pay38 (F := Ideal) (k0_pay23 cur) (k0_pay26 (k0_pay24 (Scalar.cmpi .eq (BitVec.ofNat 32 (i 1).val) 0#32) pre))
      (k0_pay27 (k0_pay24 (Scalar.cmpi .eq (BitVec.ofNat 32 (i 1).val) 0#32) pre)) (k0_pay32 w0) (k0_pay33 w1) (k0_pay34 w2) (k0_pay35 bb) (ix2 0 b)
      = conv w s x r := by
  pointwise [k0_pay38, k0_pay32, k0_pay33, k0_pay34, k0_pay35, k0_pay23, k0_pay22, k0_pay26, k0_pay27, k0_pay24]
  rw [hi, WordCmp.scalar_cmpi_eq, sel_eq k.val 0 (by omega) (by omega), if_neg (by omega), sel_eq k.val 0 (by omega) (by omega), if_neg (by omega),
    H.p15 r hr, H.p14 ⟨r.val - 1, by omega⟩ (by show r.val - 1 + 2 = k.val * 256; omega), H.w0, H.w1, H.w2, H.bb, H.cur, conv, bel, abv, dif_neg (by omega), dif_neg (by omega)]
  exact congrArg (fun q => _ + w 2 * x q) (Fin.ext (by show k.val * 256 + 0 = r.val + 1; omega))

include H hi in
theorem convAfter₁ (r : Fin 4096) (hr : r.val = k.val * 256 + 256) :
    k0_pay39 (F := Ideal) (k0_pay23 cur) (k0_pay28 (Scalar.cmpi .eq (BitVec.ofNat 32 (i 1).val) 15#32) post)
      (k0_pay29 (Scalar.cmpi .eq (BitVec.ofNat 32 (i 1).val) 15#32) post) (k0_pay32 w0) (k0_pay33 w1) (k0_pay34 w2) (k0_pay35 bb) (ix2 0 b)
      = conv w s x r := by
  pointwise [k0_pay39, k0_pay32, k0_pay33, k0_pay34, k0_pay35, k0_pay23, k0_pay22, k0_pay28, k0_pay29, k0_pay25]
  rw [hi, WordCmp.scalar_cmpi_eq, sel_eq k.val 15 (by omega) (by omega), if_neg (by omega), sel_eq k.val 15 (by omega) (by omega), if_neg (by omega),
    H.n0 r hr, H.n1 ⟨r.val + 1, by omega⟩ (by show r.val + 1 = k.val * 256 + 257; omega), H.w0, H.w1, H.w2, H.bb, H.cur, conv, bel, abv, dif_neg (by omega), dif_neg (by omega)]
  exact congrArg (fun q => s + w 0 * x q + _ + _) (Fin.ext (by show k.val * 256 + 255 = r.val - 1; omega))

end

/-! The gradients of the two convolutions' values, from anything that computes those values. -/

/-- The blocks of a column of the cotangent: its rows, and the row before and after. -/
structure Cot (k : Fin 16) (b : Fin 512) (d : Fin 4096 → EReal) (cur : FVec Ideal S1x256x512 .bf16) (pre post : FVec Ideal S1x16x512 .bf16) : Prop where
  cur : ∀ a, cur (ix3 0 a b) = d (row k a)
  pre : ∀ r : Fin 4096, r.val + 1 = k.val * 256 → pre (ix3 0 15 b) = d r
  post : ∀ r : Fin 4096, r.val = k.val * 256 + 256 → post (ix3 0 0 b) = d r

section

variable {k : Fin 16} {b : Fin 512} {d u g : Fin 4096 → EReal} {cur : FVec Ideal S1x256x512 .bf16} {pre post : FVec Ideal S1x16x512 .bf16}
  (H : Cot k b d cur pre post) {v70 v95 v100 v53 : FVec Ideal S256x512 .f32} {v104 v106 v108 : FVec Ideal S1x512 .f32} {v109 : FVec Ideal S256x512 .f32}
  (hg : ∀ a, k0_pay37 (F := Ideal) v70 v95 v100 v104 v106 v108 v109 (ix2 a b) = g (row k a)) (hu : ∀ a, v53 (ix2 a b) = u (row k a))

include H hg in
theorem gu_at (a : Fin 256) : k0_pay42 (F := Ideal) v70 v95 v100 v104 v106 v108 v109 cur (ix2 a b) = gu (d (row k a)) (g (row k a)) := by
  rw [← H.cur, ← hg a]
  pointwise [k0_pay42, k0_pay40, k0_pay41, gu, sig', Ideal.ofBits_one_f32]

include H hg hu in
theorem gg_at (a : Fin 256) : k0_pay43 (F := Ideal) v53 v70 v95 v100 v104 v106 v108 v109 cur (ix2 a b)
    = gg (d (row k a)) (u (row k a)) (g (row k a)) := by
  rw [← H.cur, ← hg a, ← hu a]
  pointwise [k0_pay43, k0_pay40, k0_pay41, gg, sig', Ideal.ofBits_one_f32]

variable {v125 v60 v132 v67 : FVec Ideal S1x512 .f32}

include H in
theorem gu_before {l : ℕ} (hl : l = k.val) (hg : ∀ r : Fin 4096, r.val + 1 = k.val * 256 → v125 (ix2 0 b) = g r) :
    k0_pay48 (F := Ideal) (Scalar.cmpi .eq (BitVec.ofNat 32 l) 0#32) v125 (k0_pay44 pre) k0_pay45 (ix2 0 b)
      = bel (fun r => gu (d r) (g r)) (row k 0) := by
  subst hl
  rw [← bel_first _ (gu (pre (ix3 0 15 b)) (v125 (ix2 0 b))) fun r hr => by rw [H.pre r hr, hg r hr]]
  pointwise [k0_pay48, k0_pay46, k0_pay47, k0_pay44, k0_pay45, gu, sig', Ideal.ofBits_one_f32]
  rw [WordCmp.scalar_cmpi_eq, sel_eq k.val 0 (by omega) (by omega)]

include H in
theorem gg_before {l : ℕ} (hl : l = k.val) (hg : ∀ r : Fin 4096, r.val + 1 = k.val * 256 → v125 (ix2 0 b) = g r) (hu : ∀ r : Fin 4096, r.val + 1 = k.val * 256 → v60 (ix2 0 b) = u r) :
    k0_pay49 (F := Ideal) (Scalar.cmpi .eq (BitVec.ofNat 32 l) 0#32) v60 v125 (k0_pay44 pre) k0_pay45 (ix2 0 b)
      = bel (fun r => gg (d r) (u r) (g r)) (row k 0) := by
  subst hl
  rw [← bel_first _ (gg (pre (ix3 0 15 b)) (v60 (ix2 0 b)) (v125 (ix2 0 b))) fun r hr => by rw [H.pre r hr, hg r hr, hu r hr]]
  pointwise [k0_pay49, k0_pay46, k0_pay47, k0_pay44, k0_pay45, gg, sig', Ideal.ofBits_one_f32]
  rw [WordCmp.scalar_cmpi_eq, sel_eq k.val 0 (by omega) (by omega)]

include H in
theorem gu_after {l : ℕ} (hl : l = k.val) (hg : ∀ r : Fin 4096, r.val = k.val * 256 + 256 → v132 (ix2 0 b) = g r) :
    k0_pay52 (F := Ideal) (Scalar.cmpi .eq (BitVec.ofNat 32 l) 15#32) v132 post (ix2 0 b)
      = abv (fun r => gu (d r) (g r)) (row k 255) := by
  subst hl
  rw [← abv_last _ (gu (post (ix3 0 0 b)) (v132 (ix2 0 b))) fun r hr => by rw [H.post r hr, hg r hr]]
  pointwise [k0_pay52, k0_pay50, k0_pay51, gu, sig', Ideal.ofBits_one_f32]
  rw [WordCmp.scalar_cmpi_eq, sel_eq k.val 15 (by omega) (by omega)]

include H in
theorem gg_after {l : ℕ} (hl : l = k.val) (hg : ∀ r : Fin 4096, r.val = k.val * 256 + 256 → v132 (ix2 0 b) = g r) (hu : ∀ r : Fin 4096, r.val = k.val * 256 + 256 → v67 (ix2 0 b) = u r) :
    k0_pay53 (F := Ideal) (Scalar.cmpi .eq (BitVec.ofNat 32 l) 15#32) v67 v132 post (ix2 0 b)
      = abv (fun r => gg (d r) (u r) (g r)) (row k 255) := by
  subst hl
  rw [← abv_last _ (gg (post (ix3 0 0 b)) (v67 (ix2 0 b)) (v132 (ix2 0 b))) fun r hr => by rw [H.post r hr, hg r hr, hu r hr]]
  pointwise [k0_pay53, k0_pay50, k0_pay51, gg, sig', Ideal.ofBits_one_f32]
  rw [WordCmp.scalar_cmpi_eq, sel_eq k.val 15 (by omega) (by omega)]

end

/-! The transposed convolution of a gradient, and its products' sums over a block's rows. -/

section

variable {k : Fin 16} {b : Fin 512} {f : Fin 4096 → EReal} {w : Fin 3 → EReal} {dn up : FVec Ideal S1x256x256 .bf16} (hs : Shifts dn up)
  {v : FVec Ideal S256x512 .f32} {p n : FVec Ideal S1x512 .f32} {w0 w1 w2 : FVec Ideal S1x1x512 .f32}
  (hv : ∀ a, v (ix2 a b) = f (row k a)) (hp : p (ix2 0 b) = bel f (row k 0)) (hn : n (ix2 0 b) = abv f (row k 255))
  (h0 : w0 (ix3 0 0 b) = w 0) (h1 : w1 (ix3 0 0 b) = w 1) (h2 : w2 (ix3 0 0 b) = w 2)

include hs hv hp hn h0 h1 h2

theorem back₀ (a : Fin 256) : k0_pay57 (F := Ideal) (iota .tc S256x512 32 [0] iota_S256x512_d0_w32) v p n (k0_pay56 v) dn up w0 w1 w2 (ix3 0 a b)
    = conv' w f (row k a) := by
  pointwise [k0_pay57, k0_pay56]
  rw [show _ = _ from bel_rows hs hp hv a, show _ = _ from abv_rows hs hn hv a, hv, h0, h1, h2]
  rfl

theorem back₁ (a : Fin 256) : k0_pay64 (F := Ideal) (k0_pay63 (iota .tc S256x512 32 [0] iota_S256x512_d0_w32) v p n dn up w0 w1 w2) (ix3 0 a b)
    = conv' w f (row k a) := by
  pointwise [k0_pay64, k0_pay63]
  rw [show _ = _ from bel_rows hs hp hv a, show _ = _ from abv_rows hs hn hv a, hv, h0, h1, h2]
  rfl

end

/-! The body's values, from its blocks: the two convolutions' gradients, at a block's rows and the rows next to it, -/

section

/-- Whether the block is the first, or the last, of its column; and its rows' numbers. -/
abbrev frst (i : grid0.Coords) : BitVec 1 := Scalar.cmpi .eq (BitVec.ofNat 32 (i 1).val) 0#32
abbrev lst (i : grid0.Coords) : BitVec 1 := Scalar.cmpi .eq (BitVec.ofNat 32 (i 1).val) 15#32
abbrev rows : IVec S256x512 32 := iota .tc S256x512 32 [0] iota_S256x512_d0_w32

variable (i : grid0.Coords) (c0 : FVec Ideal S1x256x512 .bf16) (p0 n0 : FVec Ideal S1x16x512 .bf16) (a0 a1 a2 a3 : FVec Ideal S1x1x512 .f32)
  (c1 : FVec Ideal S1x256x512 .bf16) (p1 n1 : FVec Ideal S1x16x512 .bf16) (b0 b1 b2 b3 : FVec Ideal S1x1x512 .f32)
  (dc : FVec Ideal S1x256x512 .bf16) (dp dq : FVec Ideal S1x16x512 .bf16) (dn up : FVec Ideal S1x256x256 .bf16)

abbrev vU := k0_pay42 (F := Ideal) (k0_pay23 c1) (k0_pay30 rows (k0_pay22 c1) (k0_pay24 (frst i) p1) dn) (k0_pay31 (lst i) rows (k0_pay22 c1) n1 up)
  (k0_pay33 b1) (k0_pay34 b2) (k0_pay35 b3) (k0_pay36 b0) dc
abbrev vG := k0_pay43 (F := Ideal) (k0_pay19 (k0_pay3 c0) (k0_pay10 c0 up) (k0_pay11 i c0 p0 dn) k0_pay12 (k0_pay13 i n0) a0 a1 a2 a3)
  (k0_pay23 c1) (k0_pay30 rows (k0_pay22 c1) (k0_pay24 (frst i) p1) dn) (k0_pay31 (lst i) rows (k0_pay22 c1) n1 up)
  (k0_pay33 b1) (k0_pay34 b2) (k0_pay35 b3) (k0_pay36 b0) dc
abbrev vBefore := k0_pay38 (F := Ideal) (k0_pay23 c1) (k0_pay26 (k0_pay24 (frst i) p1)) (k0_pay27 (k0_pay24 (frst i) p1))
  (k0_pay32 b0) (k0_pay33 b1) (k0_pay34 b2) (k0_pay35 b3)
abbrev vAfter := k0_pay39 (F := Ideal) (k0_pay23 c1) (k0_pay28 (lst i) n1) (k0_pay29 (lst i) n1) (k0_pay32 b0) (k0_pay33 b1) (k0_pay34 b2) (k0_pay35 b3)
abbrev uBefore := k0_pay20 (F := Ideal) (k0_pay3 c0) (k0_pay6 i p0) (k0_pay7 i p0) a0 a1 a2 a3
abbrev uAfter := k0_pay21 (F := Ideal) (k0_pay3 c0) (k0_pay8 i n0) (k0_pay9 i n0) a0 a1 a2 a3

variable {i c0 p0 n0 a0 a1 a2 a3 c1 p1 n1 b0 b1 b2 b3 dc dp dq dn up}
variable {k : Fin 16} {b : Fin 512} {x0 x1 d : Fin 4096 → EReal} {w0 w1 : Fin 3 → EReal} {s0 s1 : EReal}
  (H0 : Half k b x0 w0 s0 c0 p0 n0 a0 a1 a2 a3) (H1 : Half k b x1 w1 s1 c1 p1 n1 b0 b1 b2 b3) (HD : Cot k b d dc dp dq) (hs : Shifts dn up)
  (hi : (i 1).val = k.val)

include H1 HD hs hi in
theorem vU_at (a : Fin 256) : vU i c1 p1 n1 b0 b1 b2 b3 dc dn up (ix2 a b) = gu (d (row k a)) (conv w1 s1 x1 (row k a)) :=
  gu_at (g := conv w1 s1 x1) HD (fun a => conv₁ H1 hs i hi a) a

include H0 H1 HD hs hi in
theorem vG_at (a : Fin 256) : vG i c0 p0 n0 a0 a1 a2 a3 c1 p1 n1 b0 b1 b2 b3 dc dn up (ix2 a b)
    = gg (d (row k a)) (conv w0 s0 x0 (row k a)) (conv w1 s1 x1 (row k a)) :=
  gg_at (g := conv w1 s1 x1) (u := conv w0 s0 x0) HD (fun a => conv₁ H1 hs i hi a) (fun a => conv₀ H0 hs i hi a) a

/-! the gradient of the convolution's input, -/

include H0 H1 HD hs hi

theorem input₀ (a : Fin 256) : k0_pay57 (F := Ideal) rows (vU i c1 p1 n1 b0 b1 b2 b3 dc dn up)
      (k0_pay48 (frst i) (vBefore i c1 p1 b0 b1 b2 b3) (k0_pay44 dp) k0_pay45) (k0_pay52 (lst i) (vAfter i c1 n1 b0 b1 b2 b3) dq)
      (k0_pay56 (vU i c1 p1 n1 b0 b1 b2 b3 dc dn up)) dn up a0 a1 a2 (ix3 0 a b)
    = conv' w0 (fun r => gu (d r) (conv w1 s1 x1 r)) (row k a) :=
  back₀ (f := fun r => gu (d r) (conv w1 s1 x1 r)) hs (fun a => vU_at H1 HD hs hi a)
    (gu_before (g := conv w1 s1 x1) HD hi (fun r hr => convBefore₁ H1 i hi r hr))
    (gu_after (g := conv w1 s1 x1) HD hi (fun r hr => convAfter₁ H1 i hi r hr)) H0.w0 H0.w1 H0.w2 a

theorem input₁ (a : Fin 256) : k0_pay64 (F := Ideal) (k0_pay63 rows (vG i c0 p0 n0 a0 a1 a2 a3 c1 p1 n1 b0 b1 b2 b3 dc dn up)
      (k0_pay49 (frst i) (uBefore i c0 p0 a0 a1 a2 a3) (vBefore i c1 p1 b0 b1 b2 b3) (k0_pay44 dp) k0_pay45)
      (k0_pay53 (lst i) (uAfter i c0 n0 a0 a1 a2 a3) (vAfter i c1 n1 b0 b1 b2 b3) dq) dn up b0 b1 b2) (ix3 0 a b)
    = conv' w1 (fun r => gg (d r) (conv w0 s0 x0 r) (conv w1 s1 x1 r)) (row k a) :=
  back₁ (f := fun r => gg (d r) (conv w0 s0 x0 r) (conv w1 s1 x1 r)) hs (fun a => vG_at H0 H1 HD hs hi a)
    (gg_before (g := conv w1 s1 x1) (u := conv w0 s0 x0) HD hi (fun r hr => convBefore₁ H1 i hi r hr) (fun r hr => convBefore₀ H0 i hi r hr))
    (gg_after (g := conv w1 s1 x1) (u := conv w0 s0 x0) HD hi (fun r hr => convAfter₁ H1 i hi r hr) (fun r hr => convAfter₀ H0 i hi r hr))
    H1.w0 H1.w1 H1.w2 a

/-! and the sums of the gradients' products with what the taps multiply, over a block's rows. -/

variable (acc : FVec Ideal S1x1x512 .f32)

theorem bias₀ : k0_pay58 (F := Ideal) (vU i c1 p1 n1 b0 b1 b2 b3 dc dn up) acc (ix3 0 0 b)
    = acc (ix3 0 0 b) + ∑ a, gu (d (row k a)) (conv w1 s1 x1 (row k a)) := by
  pointwise [k0_pay58]
  exact congrArg (acc (ix3 0 0 b) + ·) (Finset.sum_congr (M := EReal) rfl fun a _ => vU_at H1 HD hs hi a)

theorem bias₁ : k0_pay65 (F := Ideal) (vG i c0 p0 n0 a0 a1 a2 a3 c1 p1 n1 b0 b1 b2 b3 dc dn up) acc (ix3 0 0 b)
    = acc (ix3 0 0 b) + ∑ a, gg (d (row k a)) (conv w0 s0 x0 (row k a)) (conv w1 s1 x1 (row k a)) := by
  pointwise [k0_pay65]
  exact congrArg (acc (ix3 0 0 b) + ·) (Finset.sum_congr (M := EReal) rfl fun a _ => vG_at H0 H1 HD hs hi a)

theorem tapBelow₀ : k0_pay59 (F := Ideal) (k0_pay11 i c0 p0 dn) (vU i c1 p1 n1 b0 b1 b2 b3 dc dn up) acc (ix3 0 0 b)
    = acc (ix3 0 0 b) + ∑ a, gu (d (row k a)) (conv w1 s1 x1 (row k a)) * bel x0 (row k a) := by
  pointwise [k0_pay59]
  exact congrArg (acc (ix3 0 0 b) + ·) (Finset.sum_congr (M := EReal) rfl fun a _ => congrArg₂ (· * ·) (vU_at H1 HD hs hi a) (below₀ H0 hs i hi a))

theorem tapHere₀ : k0_pay60 (F := Ideal) (k0_pay3 c0) (vU i c1 p1 n1 b0 b1 b2 b3 dc dn up) acc (ix3 0 0 b)
    = acc (ix3 0 0 b) + ∑ a, gu (d (row k a)) (conv w1 s1 x1 (row k a)) * x0 (row k a) := by
  have e : ∀ a, k0_pay3 (F := Ideal) c0 (ix2 a b) = x0 (row k a) := fun a => by pointwise [k0_pay3, k0_pay2]; exact H0.cur a
  pointwise [k0_pay60]
  exact congrArg (acc (ix3 0 0 b) + ·) (Finset.sum_congr (M := EReal) rfl fun a _ => congrArg₂ (· * ·) (vU_at H1 HD hs hi a) (e a))

theorem tapAbove₀ : k0_pay62 (F := Ideal) (k0_pay61 (k0_pay14 (k0_pay10 c0 up) k0_pay12 (k0_pay13 i n0)) (vU i c1 p1 n1 b0 b1 b2 b3 dc dn up) acc) (ix3 0 0 b)
    = acc (ix3 0 0 b) + ∑ a, gu (d (row k a)) (conv w1 s1 x1 (row k a)) * abv x0 (row k a) := by
  pointwise [k0_pay62, k0_pay61]
  exact congrArg (acc (ix3 0 0 b) + ·) (Finset.sum_congr (M := EReal) rfl fun a _ => congrArg₂ (· * ·) (vU_at H1 HD hs hi a) (above₀ H0 hs i hi a))

theorem tapBelow₁ : k0_pay66 (F := Ideal) (k0_pay30 rows (k0_pay22 c1) (k0_pay24 (frst i) p1) dn) (vG i c0 p0 n0 a0 a1 a2 a3 c1 p1 n1 b0 b1 b2 b3 dc dn up) acc (ix3 0 0 b)
    = acc (ix3 0 0 b) + ∑ a, gg (d (row k a)) (conv w0 s0 x0 (row k a)) (conv w1 s1 x1 (row k a)) * bel x1 (row k a) := by
  pointwise [k0_pay66]
  exact congrArg (acc (ix3 0 0 b) + ·) (Finset.sum_congr (M := EReal) rfl fun a _ => congrArg₂ (· * ·) (vG_at H0 H1 HD hs hi a) (below₁ H1 hs i hi a))

theorem tapHere₁ : k0_pay67 (F := Ideal) (k0_pay23 c1) (vG i c0 p0 n0 a0 a1 a2 a3 c1 p1 n1 b0 b1 b2 b3 dc dn up) acc (ix3 0 0 b)
    = acc (ix3 0 0 b) + ∑ a, gg (d (row k a)) (conv w0 s0 x0 (row k a)) (conv w1 s1 x1 (row k a)) * x1 (row k a) := by
  have e : ∀ a, k0_pay23 (F := Ideal) c1 (ix2 a b) = x1 (row k a) := fun a => by pointwise [k0_pay23, k0_pay22]; exact H1.cur a
  pointwise [k0_pay67]
  exact congrArg (acc (ix3 0 0 b) + ·) (Finset.sum_congr (M := EReal) rfl fun a _ => congrArg₂ (· * ·) (vG_at H0 H1 HD hs hi a) (e a))

theorem tapAbove₁ : k0_pay1 (F := Ideal) (k0_pay68 acc) (k0_pay69 (k0_pay31 (lst i) rows (k0_pay22 c1) n1 up) (vG i c0 p0 n0 a0 a1 a2 a3 c1 p1 n1 b0 b1 b2 b3 dc dn up)) (ix3 0 0 b)
    = acc (ix3 0 0 b) + ∑ a, gg (d (row k a)) (conv w0 s0 x0 (row k a)) (conv w1 s1 x1 (row k a)) * abv x1 (row k a) := by
  pointwise [k0_pay1, k0_pay68, k0_pay69]
  exact congrArg (acc (ix3 0 0 b) + ·) (Finset.sum_congr (M := EReal) rfl fun a _ => congrArg₂ (· * ·) (vG_at H0 H1 HD hs hi a) (above₁ H1 hs i hi a))

end

end Cert.FfnMath

end
-- ==== Proof.FfnBlocks.lean ====
/- What the feed-forward layer's middle backward call leaves in its three result arrays, over the extended reals: the
   gradient of the up projection's output, and for each column the sums that are the gradients of the short
   convolution's taps and bias. -/
module

public import proofs.«01_k».proof.Proof.FfnCol
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnMath

open Cert.FfnKernelIdeal Cert.FfnKernelIdeal.Gen

variable (m : (ℓ : Loc nD τ sig) → Buf (Elt Ideal) ℓ)

/-- A column of one of the two halves. -/
def cc (z : Fin 2) (n : Fin 5632) : Fin 11264 := ⟨z.val * 5632 + n.val, by omega⟩

section

variable (X : FVec Ideal S4096x11264 .bf16) (W : FVec Ideal S3x11264 .f32) (B : FVec Ideal S11264 .f32) (D : FVec Ideal S4096x5632 .bf16)

/-- A column of the up projection's output, its taps and its bias. -/
def col (z : Fin 2) (n : Fin 5632) : Fin 4096 → EReal := fun r => X (ix2 r (cc z n))

def wt (z : Fin 2) (n : Fin 5632) : Fin 3 → EReal := fun k => W (ix2 k (cc z n))

def bs (z : Fin 2) (n : Fin 5632) : EReal := B (ix1 (cc z n))

/-- The short convolution of a half's column, -/
def cv (z : Fin 2) (n : Fin 5632) : Fin 4096 → EReal := conv (wt W z n) (bs B z n) (col X z n)

/-- and the gradients of the gated product for the two. -/
def dc (z : Fin 2) (n : Fin 5632) (r : Fin 4096) : EReal :=
  if z = 0 then gu (D (ix2 r n)) (cv X W B 1 n r) else gg (D (ix2 r n)) (cv X W B 0 n r) (cv X W B 1 n r)

/-- The gradient of the convolution's input. -/
def dup : FVec Ideal S2x4096x5632 .bf16 := fun y => conv' (wt W (y 0) (y 2)) (dc X W B D (y 0) (y 2)) (y 1)

/-- What a tap multiplies. -/
def tap (k : Fin 3) (x : Fin 4096 → EReal) (r : Fin 4096) : EReal := if k = 0 then bel x r else if k = 1 then x r else abv x r

/-- The gradient of the taps, -/
def dcw : FVec Ideal S2x3x5632 .f32 := fun y => ∑ r : Fin 4096, dc X W B D (y 0) (y 2) r * tap (y 1) (col X (y 0) (y 2)) r

/-- and of the bias. -/
def dcb : FVec Ideal S2x1x5632 .f32 := fun y => ∑ r : Fin 4096, dc X W B D (y 0) (y 2) r

end

set_option maxHeartbeats 3200000 in
theorem idx : ∀ t : Fin cfg0.N, win0_0.index t = ![0, t.val % 16 * 16 - 1, t.val / 16] ∧ win0_1.index t = ![0, t.val % 16, t.val / 16]
    ∧ win0_2.index t = ![0, min (t.val % 16 * 16 + 16) 255, t.val / 16]
    ∧ win0_3.index t = ![0, t.val % 16 * 16 - 1, t.val / 16] ∧ win0_4.index t = ![0, t.val % 16, t.val / 16]
    ∧ win0_5.index t = ![0, min (t.val % 16 * 16 + 16) 255, t.val / 16]
    ∧ win0_6.index t = ![0, 0, t.val / 16] ∧ win0_7.index t = ![0, 0, t.val / 16] ∧ win0_8.index t = ![0, 0, 0]
    ∧ win0_9.index t = ![0, t.val % 16, t.val / 16] ∧ win0_10.index t = ![0, 0, t.val / 16] ∧ win0_11.index t = ![0, 0, t.val / 16]
    ∧ (grid0.coords t 1).val = t.val % 16 ∧ t.val < 176 :=
  (by decide +kernel : ∀ t : Fin grid0.N, _)

/-! What the call's argument arrays hold. -/

section

variable (c : Dev nD)

/-- The program's arguments. -/
abbrev xa : FVec Ideal S4096x11264 .bf16 := m ((c : Thread nD τ).loc main_arg0)
abbrev wa : FVec Ideal S3x11264 .f32 := m ((c : Thread nD τ).loc main_arg1)
abbrev ba : FVec Ideal S11264 .f32 := m ((c : Thread nD τ).loc main_arg2)
abbrev da : FVec Ideal S4096x5632 .bf16 := m ((c : Thread nD τ).loc main_arg3)

theorem up_array (y : S2x4096x5632.Idx) : V m c main_v1 y = xa m c (ix2 (y 1) (cc (y 0) (y 2))) := by
  simp only [V, V0, List.flatten_cons, List.flatten_nil, List.append_nil, List.cons_append, List.nil_append]
  entry_read
  pointwise [cc]

theorem taps_array (y : S2x3x5632.Idx) : V m c main_v3 y = wa m c (ix2 (y 1) (cc (y 0) (y 2))) := by
  simp only [V, V0, List.flatten_cons, List.flatten_nil, List.append_nil, List.cons_append, List.nil_append]
  entry_read
  pointwise [cc]

theorem bias_array (y : S2x1x5632.Idx) : V m c main_v4 y = ba m c (ix1 (cc (y 0) (y 2))) := by
  simp only [V, V0, List.flatten_cons, List.flatten_nil, List.append_nil, List.cons_append, List.nil_append]
  entry_read
  pointwise [cc]
  blk_ext []

theorem act_array₁ (y : S1x4096x5632.Idx) : V m c main_v5 y = da m c (ix2 (y 1) (y 2)) := by
  simp only [V, V0, List.flatten_cons, List.flatten_nil, List.append_nil, List.cons_append, List.nil_append]
  entry_read
  pointwise []

theorem act_array₂ (y : S1x4096x5632.Idx) : V m c main_v6 y = da m c (ix2 (y 1) (y 2)) := by
  simp only [V, V0, List.flatten_cons, List.flatten_nil, List.append_nil, List.cons_append, List.nil_append]
  entry_read
  pointwise []

theorem act_array₃ (y : S1x4096x5632.Idx) : V m c main_v7 y = da m c (ix2 (y 1) (y 2)) := by
  simp only [V, V0, List.flatten_cons, List.flatten_nil, List.append_nil, List.cons_append, List.nil_append]
  entry_read
  pointwise []

/-- The two matrices that shift rows by one. -/
theorem shift_array (z : Fin 2) (a l : Fin 256) : (show FVec Ideal S2x256x256 .bf16 from V m c main_v27) (ix3 z a l)
    = if z = 0 then (if l.val + 1 = a.val then 1 else 0) else (if l.val = a.val + 1 then 1 else 0) := by
  show V m c main_v27 (ix3 z a l) = _
  simp only [V, V0, List.flatten_cons, List.flatten_nil, List.append_nil, List.cons_append, List.nil_append]
  entry_read
  simp -implicitDefEqProofs only [StableHlo.TRef.toBuf, StableHlo.TRef.ofBuf, cast_cast, cast_eq]
  pointwise []
  have e0 : Scalar.select (IntOp.cmpi .eq (IntOp.subi (BitVec.ofNat 32 a.val) 1#32) (BitVec.ofNat 32 l.val)) (1 : EReal) 0 = if l.val + 1 = a.val then 1 else 0 := by
    rw [WordCmp.cmpi_eq_eq_toNat, WordCmp.select_ofBool]
    simp only [decide_eq_true_eq, IntOp.subi, BitVec.toNat_sub, BitVec.toNat_ofNat]
    exact if_congr (by omega) rfl rfl
  have e1 : Scalar.select (IntOp.cmpi .eq (IntOp.addi (BitVec.ofNat 32 a.val) 1#32) (BitVec.ofNat 32 l.val)) (1 : EReal) 0 = if l.val = a.val + 1 then 1 else 0 := by
    rw [WordCmp.cmpi_eq_eq_toNat, WordCmp.select_ofBool]
    simp only [decide_eq_true_eq, IntOp.addi, BitVec.toNat_add, BitVec.toNat_ofNat]
    exact if_congr (by omega) rfl rfl
  by_cases hz : z = 0
  · rw [dif_pos (by rw [hz]; decide), if_pos hz]; exact e0
  · rw [dif_neg (by omega), if_neg hz]; exact e1

end

/-- The row of blocks of a grid point, and its columns. -/
def kk (t : Fin cfg0.N) : Fin 16 := ⟨t.val % 16, by omega⟩

def nn (t : Fin cfg0.N) (b : Fin 512) : Fin 5632 :=
  ⟨t.val / 16 * 512 + b.val, by have := (idx t).2.2.2.2.2.2.2.2.2.2.2.2.2; omega⟩

section

variable (c : Dev nD) (t : Fin cfg0.N) (b : Fin 512)

theorem coord : (grid0.coords t 1).val = (kk t).val := (idx t).2.2.2.2.2.2.2.2.2.2.2.2.1

/-! The blocks of a grid point. -/

theorem cur_block (z : Fin 2) (a : Fin 256) : (show FVec Ideal S2x256x512 .bf16 from iblk m c 1 t) (ix3 z a b) = col (xa m c) z (nn t b) (row (kk t) a) := by
  refine (up_array m c _).trans ?_
  unfold col nn row kk cc
  blk_point [idx t]

theorem pre_block (z : Fin 2) (h : Fin 16) (r : Fin 4096) (hr : r.val + 16 = (kk t).val * 256 + h.val) :
    (show FVec Ideal S2x16x512 .bf16 from iblk m c 0 t) (ix3 z h b) = col (xa m c) z (nn t b) r := by
  have hr' : r.val + 16 = t.val % 16 * 256 + h.val := hr
  refine (up_array m c _).trans ?_
  unfold col nn cc
  blk_point [idx t]

theorem post_block (z : Fin 2) (h : Fin 16) (r : Fin 4096) (hr : r.val = (kk t).val * 256 + 256 + h.val) :
    (show FVec Ideal S2x16x512 .bf16 from iblk m c 2 t) (ix3 z h b) = col (xa m c) z (nn t b) r := by
  have hr' : r.val = t.val % 16 * 256 + 256 + h.val := hr
  refine (up_array m c _).trans ?_
  unfold col nn cc
  blk_point [idx t]

theorem dcur_block (a : Fin 256) : (show FVec Ideal S1x256x512 .bf16 from iblk m c 4 t) (ix3 0 a b) = da m c (ix2 (row (kk t) a) (nn t b)) := by
  refine (act_array₂ m c _).trans ?_
  unfold nn row kk
  blk_point [idx t]

theorem dpre_block (h : Fin 16) (r : Fin 4096) (hr : r.val + 16 = (kk t).val * 256 + h.val) :
    (show FVec Ideal S1x16x512 .bf16 from iblk m c 3 t) (ix3 0 h b) = da m c (ix2 r (nn t b)) := by
  have hr' : r.val + 16 = t.val % 16 * 256 + h.val := hr
  refine (act_array₁ m c _).trans ?_
  unfold nn
  blk_point [idx t]

theorem dpost_block (h : Fin 16) (r : Fin 4096) (hr : r.val = (kk t).val * 256 + 256 + h.val) :
    (show FVec Ideal S1x16x512 .bf16 from iblk m c 5 t) (ix3 0 h b) = da m c (ix2 r (nn t b)) := by
  have hr' : r.val = t.val % 16 * 256 + 256 + h.val := hr
  refine (act_array₃ m c _).trans ?_
  unfold nn
  blk_point [idx t]

theorem taps_block (z : Fin 2) (k : Fin 3) : (show FVec Ideal S2x3x512 .f32 from iblk m c 6 t) (ix3 z k b) = wt (wa m c) z (nn t b) k := by
  refine (taps_array m c _).trans ?_
  unfold wt nn cc
  blk_point [idx t]

theorem bias_block (z : Fin 2) : (show FVec Ideal S2x1x512 .f32 from iblk m c 7 t) (ix3 z 0 b) = bs (ba m c) z (nn t b) := by
  refine (bias_array m c _).trans ?_
  unfold bs nn cc
  blk_point [idx t]

theorem shift_block (z : Fin 2) (a l : Fin 256) : (show FVec Ideal S2x256x256 .bf16 from iblk m c 8 t) (ix3 z a l)
    = if z = 0 then (if l.val + 1 = a.val then 1 else 0) else (if l.val = a.val + 1 then 1 else 0) := by
  rw [← shift_array m c z a l]
  refine congrArg (V m c main_v27) ?_
  blk_ext! [idx t]

/-! So the blocks of a point hold the columns' rows. -/

theorem half (z : Fin 2) {cur : FVec Ideal S1x256x512 .bf16} {pre post : FVec Ideal S1x16x512 .bf16} {w0 w1 w2 bb : FVec Ideal S1x1x512 .f32}
    (h1 : ∀ a, cur (ix3 0 a b) = (show FVec Ideal S2x256x512 .bf16 from iblk m c 1 t) (ix3 z a b))
    (h2 : ∀ h, pre (ix3 0 h b) = (show FVec Ideal S2x16x512 .bf16 from iblk m c 0 t) (ix3 z h b))
    (h3 : ∀ h, post (ix3 0 h b) = (show FVec Ideal S2x16x512 .bf16 from iblk m c 2 t) (ix3 z h b))
    (h4 : w0 (ix3 0 0 b) = (show FVec Ideal S2x3x512 .f32 from iblk m c 6 t) (ix3 z 0 b))
    (h5 : w1 (ix3 0 0 b) = (show FVec Ideal S2x3x512 .f32 from iblk m c 6 t) (ix3 z 1 b))
    (h6 : w2 (ix3 0 0 b) = (show FVec Ideal S2x3x512 .f32 from iblk m c 6 t) (ix3 z 2 b))
    (h7 : bb (ix3 0 0 b) = (show FVec Ideal S2x1x512 .f32 from iblk m c 7 t) (ix3 z 0 b)) :
    Half (kk t) b (col (xa m c) z (nn t b)) (wt (wa m c) z (nn t b)) (bs (ba m c) z (nn t b)) cur pre post w0 w1 w2 bb where
  cur a := (h1 a).trans (cur_block m c t b z a)
  p14 r hr := (h2 14).trans (pre_block m c t b z 14 r (by show r.val + 16 = (kk t).val * 256 + 14; omega))
  p15 r hr := (h2 15).trans (pre_block m c t b z 15 r (by show r.val + 16 = (kk t).val * 256 + 15; omega))
  n0 r hr := (h3 0).trans (post_block m c t b z 0 r (by show r.val = (kk t).val * 256 + 256 + 0; omega))
  n1 r hr := (h3 1).trans (post_block m c t b z 1 r (by show r.val = (kk t).val * 256 + 256 + 1; omega))
  w0 := h4.trans (taps_block m c t b z 0)
  w1 := h5.trans (taps_block m c t b z 1)
  w2 := h6.trans (taps_block m c t b z 2)
  bb := h7.trans (bias_block m c t b z)

theorem cot : Cot (kk t) b (fun r => da m c (ix2 r (nn t b))) (iblk m c 4 t) (iblk m c 3 t) (iblk m c 5 t) where
  cur a := dcur_block m c t b a
  pre r hr := dpre_block m c t b 15 r (by show r.val + 16 = (kk t).val * 256 + 15; omega)
  post r hr := dpost_block m c t b 0 r (by show r.val = (kk t).val * 256 + 256 + 0; omega)

theorem shifts {dn up : FVec Ideal S1x256x256 .bf16}
    (h0 : ∀ a l, dn (ix3 0 a l) = (show FVec Ideal S2x256x256 .bf16 from iblk m c 8 t) (ix3 0 a l))
    (h1 : ∀ a l, up (ix3 0 a l) = (show FVec Ideal S2x256x256 .bf16 from iblk m c 8 t) (ix3 1 a l)) : Shifts dn up where
  dn a l := (h0 a l).trans (shift_block m c t 0 a l)
  up a l := (h1 a l).trans (shift_block m c t 1 a l)

end

end Cert.FfnMath

end
-- ==== Proof.Pieces.lean ====
/- Reading an array that was written piece by piece, at one index: the newest piece if it holds the index, the older
   pieces if it does not. -/
module

public import Idealize.ShloMosaic.Lib.Pipeline.ValueKit

@[expose] public section

noncomputable section

open Idealize.ShloMosaic
open Idealize.ShloMosaic.View (Piece)

namespace Cert.Pieces

variable {Val : EltTy → Type} [∀ e, Nonempty (Val e)] {e : EltTy} {A B C p q r : ℕ} {o0 o1 o2 : ℕ}
  {inb : ∀ a, (![o0, o1, o2] : Fin 3 → ℕ) a + (![p, q, r] : Fin 3 → ℕ) a ≤ (⟨3, ![A, B, C]⟩ : Shape).size a}

theorem emb_eq {z : Fin A} {i : Fin B} {j : Fin C} {u : Fin p} {k : Fin q} {l : Fin r}
    (h0 : z.val = o0 + u.val) (h1 : i.val = o1 + k.val) (h2 : j.val = o2 + l.val) :
    (Rect.unit (s := (⟨3, ![A, B, C]⟩ : Shape)) ![o0, o1, o2] ![p, q, r] inb).emb (ix3 u k l) = ix3 z i j := by
  funext x; apply Fin.ext
  fin_cases x
  · show o0 + 1 * u.val = z.val; omega
  · show o1 + 1 * k.val = i.val; omega
  · show o2 + 1 * l.val = j.val; omega

theorem hit {z : Fin A} {i : Fin B} {j : Fin C} {w : (⟨3, ![p, q, r]⟩ : Shape).Idx → Val e} {L : List (Piece Val (⟨3, ![A, B, C]⟩ : Shape) e)}
    (u : Fin p) (k : Fin q) (l : Fin r) (h0 : z.val = o0 + u.val) (h1 : i.val = o1 + k.val) (h2 : j.val = o2 + l.val) :
    View.canon ((⟨Rect.unit (s := (⟨3, ![A, B, C]⟩ : Shape)) ![o0, o1, o2] ![p, q, r] inb, w⟩ : Piece Val (⟨3, ![A, B, C]⟩ : Shape) e) :: L) (ix3 z i j)
      = w (ix3 u k l) :=
  (congrArg (View.canon _) (emb_eq (inb := inb) h0 h1 h2).symm).trans (View.canon_cons_emb (Rect.unit (s := (⟨3, ![A, B, C]⟩ : Shape)) ![o0, o1, o2] ![p, q, r] inb) w L (ix3 u k l))

theorem miss {z : Fin A} {i : Fin B} {j : Fin C} {w : (⟨3, ![p, q, r]⟩ : Shape).Idx → Val e} {L : List (Piece Val (⟨3, ![A, B, C]⟩ : Shape) e)}
    (h : (z.val < o0 ∨ o0 + p ≤ z.val) ∨ (i.val < o1 ∨ o1 + q ≤ i.val)) :
    View.canon ((⟨Rect.unit (s := (⟨3, ![A, B, C]⟩ : Shape)) ![o0, o1, o2] ![p, q, r] inb, w⟩ : Piece Val (⟨3, ![A, B, C]⟩ : Shape) e) :: L) (ix3 z i j)
      = View.canon L (ix3 z i j) := by
  refine View.canon_cons_of_not_mem _ L fun hm => ?_
  have m0 : o0 ≤ z.val ∧ z.val < o0 + p := (Rect.mem_set_unit (inb := inb)).mp hm (0 : Fin 3)
  have m1 : o1 ≤ i.val ∧ i.val < o1 + q := (Rect.mem_set_unit (inb := inb)).mp hm (1 : Fin 3)
  omega

/-- A read of what the pieces left. -/
theorem read {sig : RefSig} {κ : Kind} {sp : Space} (v : View sig κ sp (⟨3, ![A, B, C]⟩ : Shape) e) (L : List (Piece Val (⟨3, ![A, B, C]⟩ : Shape) e))
    {z : Fin A} {i : Fin B} {j : Fin C} {u : Fin p} {k : Fin q} {l : Fin r}
    (h0 : z.val = o0 + u.val) (h1 : i.val = o1 + k.val) (h2 : j.val = o2 + l.val) :
    v.readCov L (Rect.unit (s := (⟨3, ![A, B, C]⟩ : Shape)) ![o0, o1, o2] ![p, q, r] inb).toLoadRect (ix3 u k l) = View.canon L (ix3 z i j) := by
  rw [View.readCov_eq_canon']
  exact congrArg (View.canon L) (emb_eq (inb := inb) h0 h1 h2)

/-- A rectangle loaded from an array. -/
theorem load (X : (⟨3, ![A, B, C]⟩ : Shape).Idx → Val e) {z : Fin A} {i : Fin B} {j : Fin C} {u : Fin p} {k : Fin q} {l : Fin r}
    (h0 : z.val = o0 + u.val) (h1 : i.val = o1 + k.val) (h2 : j.val = o2 + l.val) :
    View.ld X (Rect.unit (s := (⟨3, ![A, B, C]⟩ : Shape)) ![o0, o1, o2] ![p, q, r] inb) (ix3 u k l) = X (ix3 z i j) :=
  congrArg X (emb_eq (inb := inb) h0 h1 h2)

end Cert.Pieces

end
-- ==== Proof.FfnValue.lean ====
/- The feed-forward layer's middle backward call leaves in its three result arrays the gradients of the convolution's
   input, of its taps and of its bias. -/
module

public import proofs.«01_k».proof.Proof.FfnBlocks
public import proofs.«01_k».proof.Proof.Pieces
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Idealize.ShloMosaic.View (Piece)

namespace Cert.FfnMath

open Cert.FfnKernelIdeal Cert.FfnKernelIdeal.Gen

variable (m : (ℓ : Loc nD τ sig) → Buf (Elt Ideal) ℓ)

/-- The two pieces of a block of the input's gradient. -/
theorem canon₂ (P1 P0 : FVec Ideal S1x256x512 .bf16) (z : Fin 2) (a : Fin 256) (b : Fin 512) :
    View.canon (Val := Elt Ideal) (e := .bf16) [(⟨Rect.unit (s := S2x256x512) ![1, 0, 0] ![1, 256, 512] inb_S2x256x512_S1x256x512_1_0_0, P1⟩ : Piece (Elt Ideal) S2x256x512 .bf16),
      (⟨Rect.unit (s := S2x256x512) ![0, 0, 0] ![1, 256, 512] inb_S2x256x512_S1x256x512_0_0_0, P0⟩ : Piece (Elt Ideal) S2x256x512 .bf16)] (ix3 z a b)
      = if z = 0 then P0 (ix3 0 a b) else P1 (ix3 0 a b) := by
  have hz : z = 0 ∨ z = 1 := by omega
  rcases hz with rfl | rfl
  · exact (Pieces.miss (Or.inl (Or.inl (by decide)))).trans (Pieces.hit 0 a b rfl (by omega) (by omega))
  · exact Pieces.hit 0 a b rfl (by omega) (by omega)

theorem dup_at (X : FVec Ideal S4096x11264 .bf16) (W : FVec Ideal S3x11264 .f32) (B : FVec Ideal S11264 .f32) (D : FVec Ideal S4096x5632 .bf16)
    (z : Fin 2) (r : Fin 4096) (n : Fin 5632) : dup X W B D (ix3 z r n)
      = if z = 0 then conv' (wt W 0 n) (fun r => gu (D (ix2 r n)) (conv (wt W 1 n) (bs B 1 n) (col X 1 n) r)) r
        else conv' (wt W 1 n) (fun r => gg (D (ix2 r n)) (conv (wt W 0 n) (bs B 0 n) (col X 0 n) r) (conv (wt W 1 n) (bs B 1 n) (col X 1 n) r)) r := by
  have hz : z = 0 ∨ z = 1 := by omega
  rcases hz with rfl | rfl
  · rfl
  · rfl

theorem ite_congr₂ {z : Fin 2} {x y x' y' : EReal} (h : x = x') (h' : y = y') : (if z = 0 then x else y) = if z = 0 then x' else y' := by
  rw [h, h']

section

variable (c : Dev nD) (t : Fin cfg0.N) (b : Fin 512)

theorem half₀ : Half (kk t) b (col (xa m c) 0 (nn t b)) (wt (wa m c) 0 (nn t b)) (bs (ba m c) 0 (nn t b))
    (View.ld (iblk m c 1 t) (Rect.unit (s := S2x256x512) ![0, 0, 0] ![1, 256, 512] inb_S2x256x512_S1x256x512_0_0_0)) (View.ld (iblk m c 0 t) (Rect.unit (s := S2x16x512) ![0, 0, 0] ![1, 16, 512] inb_S2x16x512_S1x16x512_0_0_0)) (View.ld (iblk m c 2 t) (Rect.unit (s := S2x16x512) ![0, 0, 0] ![1, 16, 512] inb_S2x16x512_S1x16x512_0_0_0)) (View.ld (iblk m c 6 t) (Rect.unit (s := S2x3x512) ![0, 0, 0] ![1, 1, 512] inb_S2x3x512_S1x1x512_0_0_0)) (View.ld (iblk m c 6 t) (Rect.unit (s := S2x3x512) ![0, 1, 0] ![1, 1, 512] inb_S2x3x512_S1x1x512_0_1_0)) (View.ld (iblk m c 6 t) (Rect.unit (s := S2x3x512) ![0, 2, 0] ![1, 1, 512] inb_S2x3x512_S1x1x512_0_2_0)) (View.ld (iblk m c 7 t) (Rect.unit (s := S2x1x512) ![0, 0, 0] ![1, 1, 512] inb_S2x1x512_S1x1x512_0_0_0)) :=
  half m c t b 0 (fun a => Pieces.load _ rfl (Nat.zero_add _).symm (Nat.zero_add _).symm) (fun a => Pieces.load _ rfl (Nat.zero_add _).symm (Nat.zero_add _).symm) (fun a => Pieces.load _ rfl (Nat.zero_add _).symm (Nat.zero_add _).symm) (Pieces.load _ rfl (Nat.zero_add _).symm (Nat.zero_add _).symm) (Pieces.load _ rfl (Nat.zero_add _).symm (Nat.zero_add _).symm) (Pieces.load _ rfl (Nat.zero_add _).symm (Nat.zero_add _).symm) (Pieces.load _ rfl (Nat.zero_add _).symm (Nat.zero_add _).symm)

theorem half₁ : Half (kk t) b (col (xa m c) 1 (nn t b)) (wt (wa m c) 1 (nn t b)) (bs (ba m c) 1 (nn t b))
    (View.ld (iblk m c 1 t) (Rect.unit (s := S2x256x512) ![1, 0, 0] ![1, 256, 512] inb_S2x256x512_S1x256x512_1_0_0)) (View.ld (iblk m c 0 t) (Rect.unit (s := S2x16x512) ![1, 0, 0] ![1, 16, 512] inb_S2x16x512_S1x16x512_1_0_0)) (View.ld (iblk m c 2 t) (Rect.unit (s := S2x16x512) ![1, 0, 0] ![1, 16, 512] inb_S2x16x512_S1x16x512_1_0_0)) (View.ld (iblk m c 6 t) (Rect.unit (s := S2x3x512) ![1, 0, 0] ![1, 1, 512] inb_S2x3x512_S1x1x512_1_0_0)) (View.ld (iblk m c 6 t) (Rect.unit (s := S2x3x512) ![1, 1, 0] ![1, 1, 512] inb_S2x3x512_S1x1x512_1_1_0)) (View.ld (iblk m c 6 t) (Rect.unit (s := S2x3x512) ![1, 2, 0] ![1, 1, 512] inb_S2x3x512_S1x1x512_1_2_0)) (View.ld (iblk m c 7 t) (Rect.unit (s := S2x1x512) ![1, 0, 0] ![1, 1, 512] inb_S2x1x512_S1x1x512_1_0_0)) :=
  half m c t b 1 (fun a => Pieces.load _ rfl (Nat.zero_add _).symm (Nat.zero_add _).symm) (fun a => Pieces.load _ rfl (Nat.zero_add _).symm (Nat.zero_add _).symm) (fun a => Pieces.load _ rfl (Nat.zero_add _).symm (Nat.zero_add _).symm) (Pieces.load _ rfl (Nat.zero_add _).symm (Nat.zero_add _).symm) (Pieces.load _ rfl (Nat.zero_add _).symm (Nat.zero_add _).symm) (Pieces.load _ rfl (Nat.zero_add _).symm (Nat.zero_add _).symm) (Pieces.load _ rfl (Nat.zero_add _).symm (Nat.zero_add _).symm)

theorem shifts' : Shifts (View.ld (iblk m c 8 t) (Rect.unit (s := S2x256x256) ![0, 0, 0] ![1, 256, 256] inb_S2x256x256_S1x256x256_0_0_0)) (View.ld (iblk m c 8 t) (Rect.unit (s := S2x256x256) ![1, 0, 0] ![1, 256, 256] inb_S2x256x256_S1x256x256_1_0_0)) :=
  shifts m c t (fun a l => Pieces.load _ rfl (Nat.zero_add _).symm (Nat.zero_add _).symm) (fun a l => Pieces.load _ rfl (Nat.zero_add _).symm (Nat.zero_add _).symm)

end

set_option maxHeartbeats 1600000 in
theorem input_final (c : Dev nD) : (dats m 0 c).arrAt 9 (cfgs 0).N = dup (xa m c) (wa m c) (ba m c) (da m c) := by
  refine (dats m 0 c).arrAt_eq_of_covers 9 _ (by decide +kernel) fun t _ y => ?_
  obtain ⟨z, a, b, rfl⟩ : ∃ (z : Fin 2) (a : Fin 256) (b : Fin 512), y = ix3 z a b := ⟨y 0, y 1, y 2, eq_ix3 y⟩
  have ht := (idx t).2.2.2.2.2.2.2.2.2.2.2.2.2
  have hr : ((cfg0.win 9).blk t).view.emb (ix3 z a b) = ix3 z (row (kk t) a) (nn t b) := by
    unfold row kk nn; blk_ext! [idx t]
  rw [hr, after0_9, dup_at]
  by_cases h1 : t.val % 16 = 0
  · rw [outsAt0_A m c t h1]; frame_out
    simp only [cast_eq]
    refine (canon₂ _ _ z a b).trans (ite_congr₂ ?_ ?_)
    · exact input₀ (half₀ m c t b) (half₁ m c t b) (cot m c t b) (shifts' m c t) (coord t) a
    · exact input₁ (half₀ m c t b) (half₁ m c t b) (cot m c t b) (shifts' m c t) (coord t) a
  · rw [outsAt0_B m c t h1]; frame_out
    simp only [cast_eq]
    refine (canon₂ _ _ z a b).trans (ite_congr₂ ?_ ?_)
    · exact input₀ (half₀ m c t b) (half₁ m c t b) (cot m c t b) (shifts' m c t) (coord t) a
    · exact input₁ (half₀ m c t b) (half₁ m c t b) (cot m c t b) (shifts' m c t) (coord t) a

/-- The term that a grid point adds to a tap's gradient. -/
def tapTerm (X : FVec Ideal S4096x11264 .bf16) (W : FVec Ideal S3x11264 .f32) (B : FVec Ideal S11264 .f32) (D : FVec Ideal S4096x5632 .bf16)
    (t : Fin cfg0.N) (j : S2x3x512.Idx) : EReal :=
  ∑ a : Fin 256, dc X W B D (j 0) (nn t (j 2)) (row (kk t) a) * tap (j 1) (col X (j 0) (nn t (j 2))) (row (kk t) a)

/-- The six pieces of a block of the taps' gradient: one for each tap of each half. -/
theorem canon₆ {P12 P11 P10 P02 P01 P00 : FVec Ideal S1x1x512 .f32} {L : List (Piece (Elt Ideal) S2x3x512 .f32)} (z : Fin 2) (k : Fin 3) (b : Fin 512)
    (Y : S2x3x512.Idx → EReal) (h00 : P00 (ix3 0 0 b) = Y (ix3 0 0 b)) (h01 : P01 (ix3 0 0 b) = Y (ix3 0 1 b)) (h02 : P02 (ix3 0 0 b) = Y (ix3 0 2 b)) (h10 : P10 (ix3 0 0 b) = Y (ix3 1 0 b)) (h11 : P11 (ix3 0 0 b) = Y (ix3 1 1 b)) (h12 : P12 (ix3 0 0 b) = Y (ix3 1 2 b)) :
    View.canon (Val := Elt Ideal) (e := .f32) (
      (⟨Rect.unit (s := S2x3x512) ![1, 2, 0] ![1, 1, 512] inb_S2x3x512_S1x1x512_1_2_0, P12⟩ : Piece (Elt Ideal) S2x3x512 .f32) ::
      (⟨Rect.unit (s := S2x3x512) ![1, 1, 0] ![1, 1, 512] inb_S2x3x512_S1x1x512_1_1_0, P11⟩ : Piece (Elt Ideal) S2x3x512 .f32) ::
      (⟨Rect.unit (s := S2x3x512) ![1, 0, 0] ![1, 1, 512] inb_S2x3x512_S1x1x512_1_0_0, P10⟩ : Piece (Elt Ideal) S2x3x512 .f32) ::
      (⟨Rect.unit (s := S2x3x512) ![0, 2, 0] ![1, 1, 512] inb_S2x3x512_S1x1x512_0_2_0, P02⟩ : Piece (Elt Ideal) S2x3x512 .f32) ::
      (⟨Rect.unit (s := S2x3x512) ![0, 1, 0] ![1, 1, 512] inb_S2x3x512_S1x1x512_0_1_0, P01⟩ : Piece (Elt Ideal) S2x3x512 .f32) ::
      (⟨Rect.unit (s := S2x3x512) ![0, 0, 0] ![1, 1, 512] inb_S2x3x512_S1x1x512_0_0_0, P00⟩ : Piece (Elt Ideal) S2x3x512 .f32) :: L) (ix3 z k b) = Y (ix3 z k b) := by
  have hz : z = 0 ∨ z = 1 := by omega
  have hk : k = 0 ∨ k = 1 ∨ k = 2 := by omega
  rcases hz with rfl | rfl <;> rcases hk with rfl | rfl | rfl
  · exact (Pieces.miss (by decide)).trans ((Pieces.miss (by decide)).trans ((Pieces.miss (by decide)).trans ((Pieces.miss (by decide)).trans ((Pieces.miss (by decide)).trans ((Pieces.hit 0 0 b rfl rfl (Nat.zero_add _).symm).trans h00)))))
  · exact (Pieces.miss (by decide)).trans ((Pieces.miss (by decide)).trans ((Pieces.miss (by decide)).trans ((Pieces.miss (by decide)).trans ((Pieces.hit 0 0 b rfl rfl (Nat.zero_add _).symm).trans h01))))
  · exact (Pieces.miss (by decide)).trans ((Pieces.miss (by decide)).trans ((Pieces.miss (by decide)).trans ((Pieces.hit 0 0 b rfl rfl (Nat.zero_add _).symm).trans h02)))
  · exact (Pieces.miss (by decide)).trans ((Pieces.miss (by decide)).trans ((Pieces.hit 0 0 b rfl rfl (Nat.zero_add _).symm).trans h10))
  · exact (Pieces.miss (by decide)).trans ((Pieces.hit 0 0 b rfl rfl (Nat.zero_add _).symm).trans h11)
  · exact (Pieces.hit 0 0 b rfl rfl (Nat.zero_add _).symm).trans h12

set_option maxHeartbeats 1600000 in
theorem taps_step (c : Dev nD) (t : Fin cfg0.N) (h : ¬ t.val % 16 = 0) (j : S2x3x512.Idx) :
    (outsAt0 m c t.val t.isLt).2.1 j = (outsAt0 m c (t.val - 1) (by have := t.isLt; omega)).2.1 j + tapTerm (xa m c) (wa m c) (ba m c) (da m c) t j := by
  obtain ⟨z, k, b, rfl⟩ : ∃ (z : Fin 2) (k : Fin 3) (b : Fin 512), j = ix3 z k b := ⟨j 0, j 1, j 2, eq_ix3 j⟩
  rw [outsAt0_B m c t h]; frame_out
  refine canon₆ z k b (fun j => (outsAt0 m c (t.val - 1) (by have := t.isLt; omega)).2.1 j + tapTerm (xa m c) (wa m c) (ba m c) (da m c) t j) ?_ ?_ ?_ ?_ ?_ ?_
  · exact (tapBelow₀ (half₀ m c t b) (half₁ m c t b) (cot m c t b) (shifts' m c t) (coord t) _).trans (congrArg₂ (· + ·) (Pieces.load _ rfl rfl (Nat.zero_add _).symm) rfl)
  · exact (tapHere₀ (half₀ m c t b) (half₁ m c t b) (cot m c t b) (shifts' m c t) (coord t) _).trans (congrArg₂ (· + ·) (Pieces.load _ rfl rfl (Nat.zero_add _).symm) rfl)
  · exact (tapAbove₀ (half₀ m c t b) (half₁ m c t b) (cot m c t b) (shifts' m c t) (coord t) _).trans (congrArg₂ (· + ·) (Pieces.load _ rfl rfl (Nat.zero_add _).symm) rfl)
  · exact (tapBelow₁ (half₀ m c t b) (half₁ m c t b) (cot m c t b) (shifts' m c t) (coord t) _).trans (congrArg₂ (· + ·) (Pieces.load _ rfl rfl (Nat.zero_add _).symm) rfl)
  · exact (tapHere₁ (half₀ m c t b) (half₁ m c t b) (cot m c t b) (shifts' m c t) (coord t) _).trans (congrArg₂ (· + ·) (Pieces.load _ rfl rfl (Nat.zero_add _).symm) rfl)
  · exact (tapAbove₁ (half₀ m c t b) (half₁ m c t b) (cot m c t b) (shifts' m c t) (coord t) _).trans (congrArg₂ (· + ·) (Pieces.load _ rfl rfl (Nat.zero_add _).symm) rfl)

/-- The block starts at zero. -/
theorem zero_taps (z : Fin 2) (k : Fin 3) (b : Fin 512) :
    View.canon (Val := Elt Ideal) (e := .f32) [(⟨Rect.unit (s := S2x3x512) ![0, 0, 0] ![2, 3, 512] inb_S2x3x512_S2x3x512_0_0_0, k0_pay54 (F := Ideal)⟩ : Piece (Elt Ideal) S2x3x512 .f32)] (ix3 z k b) = 0 :=
  (Pieces.hit z k b (Nat.zero_add _).symm (Nat.zero_add _).symm (Nat.zero_add _).symm).trans (by pointwise [k0_pay54])

set_option maxHeartbeats 1600000 in
theorem taps_first (c : Dev nD) (t : Fin cfg0.N) (h : t.val % 16 = 0) (j : S2x3x512.Idx) :
    (outsAt0 m c t.val t.isLt).2.1 j = 0 + tapTerm (xa m c) (wa m c) (ba m c) (da m c) t j := by
  obtain ⟨z, k, b, rfl⟩ : ∃ (z : Fin 2) (k : Fin 3) (b : Fin 512), j = ix3 z k b := ⟨j 0, j 1, j 2, eq_ix3 j⟩
  rw [outsAt0_A m c t h]; frame_out
  refine canon₆ z k b (fun j => 0 + tapTerm (xa m c) (wa m c) (ba m c) (da m c) t j) ?_ ?_ ?_ ?_ ?_ ?_
  · exact (tapBelow₀ (half₀ m c t b) (half₁ m c t b) (cot m c t b) (shifts' m c t) (coord t) _).trans (congrArg₂ (· + ·) ((Pieces.read _ _ rfl rfl (Nat.zero_add _).symm).trans (zero_taps 0 0 b)) rfl)
  · exact (tapHere₀ (half₀ m c t b) (half₁ m c t b) (cot m c t b) (shifts' m c t) (coord t) _).trans (congrArg₂ (· + ·) ((Pieces.read _ _ rfl rfl (Nat.zero_add _).symm).trans ((Pieces.miss (by decide)).trans (zero_taps 0 1 b))) rfl)
  · exact (tapAbove₀ (half₀ m c t b) (half₁ m c t b) (cot m c t b) (shifts' m c t) (coord t) _).trans (congrArg₂ (· + ·) ((Pieces.read _ _ rfl rfl (Nat.zero_add _).symm).trans ((Pieces.miss (by decide)).trans ((Pieces.miss (by decide)).trans (zero_taps 0 2 b)))) rfl)
  · exact (tapBelow₁ (half₀ m c t b) (half₁ m c t b) (cot m c t b) (shifts' m c t) (coord t) _).trans (congrArg₂ (· + ·) ((Pieces.read _ _ rfl rfl (Nat.zero_add _).symm).trans ((Pieces.miss (by decide)).trans ((Pieces.miss (by decide)).trans ((Pieces.miss (by decide)).trans (zero_taps 1 0 b))))) rfl)
  · exact (tapHere₁ (half₀ m c t b) (half₁ m c t b) (cot m c t b) (shifts' m c t) (coord t) _).trans (congrArg₂ (· + ·) ((Pieces.read _ _ rfl rfl (Nat.zero_add _).symm).trans ((Pieces.miss (by decide)).trans ((Pieces.miss (by decide)).trans ((Pieces.miss (by decide)).trans ((Pieces.miss (by decide)).trans (zero_taps 1 1 b)))))) rfl)
  · exact (tapAbove₁ (half₀ m c t b) (half₁ m c t b) (cot m c t b) (shifts' m c t) (coord t) _).trans (congrArg₂ (· + ·) ((Pieces.read _ _ rfl rfl (Nat.zero_add _).symm).trans ((Pieces.miss (by decide)).trans ((Pieces.miss (by decide)).trans ((Pieces.miss (by decide)).trans ((Pieces.miss (by decide)).trans ((Pieces.miss (by decide)).trans (zero_taps 1 2 b))))))) rfl)

/-- The two pieces of a block of the bias' gradient. -/
theorem canon₂' {P1 P0 : FVec Ideal S1x1x512 .f32} {L : List (Piece (Elt Ideal) S2x1x512 .f32)} (z : Fin 2) (b : Fin 512)
    (Y : S2x1x512.Idx → EReal) (h0 : P0 (ix3 0 0 b) = Y (ix3 0 0 b)) (h1 : P1 (ix3 0 0 b) = Y (ix3 1 0 b)) :
    View.canon (Val := Elt Ideal) (e := .f32) ((⟨Rect.unit (s := S2x1x512) ![1, 0, 0] ![1, 1, 512] inb_S2x1x512_S1x1x512_1_0_0, P1⟩ : Piece (Elt Ideal) S2x1x512 .f32) ::
      (⟨Rect.unit (s := S2x1x512) ![0, 0, 0] ![1, 1, 512] inb_S2x1x512_S1x1x512_0_0_0, P0⟩ : Piece (Elt Ideal) S2x1x512 .f32) :: L) (ix3 z 0 b) = Y (ix3 z 0 b) := by
  have hz : z = 0 ∨ z = 1 := by omega
  rcases hz with rfl | rfl
  · exact (Pieces.miss (by decide)).trans ((Pieces.hit 0 0 b rfl rfl (Nat.zero_add _).symm).trans h0)
  · exact (Pieces.hit 0 0 b rfl rfl (Nat.zero_add _).symm).trans h1

/-- The term that a grid point adds to the bias' gradient. -/
def biasTerm (X : FVec Ideal S4096x11264 .bf16) (W : FVec Ideal S3x11264 .f32) (B : FVec Ideal S11264 .f32) (D : FVec Ideal S4096x5632 .bf16)
    (t : Fin cfg0.N) (j : S2x1x512.Idx) : EReal := ∑ a : Fin 256, dc X W B D (j 0) (nn t (j 2)) (row (kk t) a)

set_option maxHeartbeats 1600000 in
theorem bias_step (c : Dev nD) (t : Fin cfg0.N) (h : ¬ t.val % 16 = 0) (j : S2x1x512.Idx) :
    (outsAt0 m c t.val t.isLt).2.2 j = (outsAt0 m c (t.val - 1) (by have := t.isLt; omega)).2.2 j + biasTerm (xa m c) (wa m c) (ba m c) (da m c) t j := by
  obtain ⟨z, k, b, rfl⟩ : ∃ (z : Fin 2) (k : Fin 1) (b : Fin 512), j = ix3 z k b := ⟨j 0, j 1, j 2, eq_ix3 j⟩
  obtain rfl : k = 0 := Subsingleton.elim _ _
  rw [outsAt0_B m c t h]; frame_out
  refine canon₂' z b (fun j => (outsAt0 m c (t.val - 1) (by have := t.isLt; omega)).2.2 j + biasTerm (xa m c) (wa m c) (ba m c) (da m c) t j) ?_ ?_
  · exact (bias₀ (half₀ m c t b) (half₁ m c t b) (cot m c t b) (shifts' m c t) (coord t) _).trans (congrArg₂ (· + ·) (Pieces.load _ rfl rfl (Nat.zero_add _).symm) rfl)
  · exact (bias₁ (half₀ m c t b) (half₁ m c t b) (cot m c t b) (shifts' m c t) (coord t) _).trans (congrArg₂ (· + ·) (Pieces.load _ rfl rfl (Nat.zero_add _).symm) rfl)

theorem zero_bias (z : Fin 2) (b : Fin 512) :
    View.canon (Val := Elt Ideal) (e := .f32) [(⟨Rect.unit (s := S2x1x512) ![0, 0, 0] ![2, 1, 512] inb_S2x1x512_S2x1x512_0_0_0, k0_pay55 (F := Ideal)⟩ : Piece (Elt Ideal) S2x1x512 .f32)] (ix3 z 0 b) = 0 :=
  (Pieces.hit z 0 b (Nat.zero_add _).symm rfl (Nat.zero_add _).symm).trans (by pointwise [k0_pay55])

set_option maxHeartbeats 1600000 in
theorem bias_first (c : Dev nD) (t : Fin cfg0.N) (h : t.val % 16 = 0) (j : S2x1x512.Idx) :
    (outsAt0 m c t.val t.isLt).2.2 j = 0 + biasTerm (xa m c) (wa m c) (ba m c) (da m c) t j := by
  obtain ⟨z, k, b, rfl⟩ : ∃ (z : Fin 2) (k : Fin 1) (b : Fin 512), j = ix3 z k b := ⟨j 0, j 1, j 2, eq_ix3 j⟩
  obtain rfl : k = 0 := Subsingleton.elim _ _
  rw [outsAt0_A m c t h]; frame_out
  refine canon₂' z b (fun j => 0 + biasTerm (xa m c) (wa m c) (ba m c) (da m c) t j) ?_ ?_
  · exact (bias₀ (half₀ m c t b) (half₁ m c t b) (cot m c t b) (shifts' m c t) (coord t) _).trans (congrArg₂ (· + ·) ((Pieces.read _ _ rfl rfl (Nat.zero_add _).symm).trans (zero_bias 0 b)) rfl)
  · exact (bias₁ (half₀ m c t b) (half₁ m c t b) (cot m c t b) (shifts' m c t) (coord t) _).trans
      (congrArg₂ (· + ·) ((Pieces.read _ _ rfl rfl (Nat.zero_add _).symm).trans ((Pieces.miss (by decide)).trans (zero_bias 1 b))) rfl)

/-- A run's point and a row of its block are a row of the array. -/
theorem run_point (t s : Fin cfg0.N) (k : Fin 16) (hs : s.val = 16 * (t.val / 16) + k.val) : kk s = k ∧ ∀ b, nn s b = nn t b := by
  refine ⟨Fin.ext (by show s.val % 16 = k.val; omega), fun b => Fin.ext ?_⟩
  show s.val / 16 * 512 + b.val = t.val / 16 * 512 + b.val
  omega

set_option maxHeartbeats 1600000 in
theorem taps_final (c : Dev nD) : (dats m 0 c).arrAt 10 (cfgs 0).N = dcw (xa m c) (wa m c) (ba m c) (da m c) := by
  refine (dats m 0 c).arrAt_eq_of_covers 10 _ (by decide +kernel) fun t hf y => ?_
  obtain ⟨z, k, b, rfl⟩ : ∃ (z : Fin 2) (k : Fin 3) (b : Fin 512), y = ix3 z k b := ⟨y 0, y 1, y 2, eq_ix3 y⟩
  have hr : ((cfg0.win 10).blk t).view.emb (ix3 z k b) = ix3 z k (nn t b) := by
    unfold nn; blk_ext! [idx t]
  rw [hr, after0_10]; blk_simp
  rw [Pipeline.eq_sum_fin_of_reset_step_apply_of_flush (fun n h => (outsAt0 m c n h).2.1) 16 (fun _ => 0)
    (tapTerm (xa m c) (wa m c) (ba m c) (da m c)) (fun t h j => taps_first m c t h j) (fun t h j => taps_step m c t h j) t ((flush0_10 t).mp hf) (ix3 z k b), zero_add]
  refine Fin.sum_mul_add_congr fun s a hl => ?_
  obtain ⟨e1, e2⟩ := run_point t ⟨16 * (t.val / 16) + s.val, Pipeline.run_point_lt_of_flush t ((flush0_10 t).mp hf) s⟩ s rfl
  show dc _ _ _ _ z (nn _ b) (row (kk _) a) * tap k (col _ z (nn _ b)) (row (kk _) a) = _
  rw [e1, e2]
  rfl

set_option maxHeartbeats 1600000 in
theorem bias_final (c : Dev nD) : (dats m 0 c).arrAt 11 (cfgs 0).N = dcb (xa m c) (wa m c) (ba m c) (da m c) := by
  refine (dats m 0 c).arrAt_eq_of_covers 11 _ (by decide +kernel) fun t hf y => ?_
  obtain ⟨z, k, b, rfl⟩ : ∃ (z : Fin 2) (k : Fin 1) (b : Fin 512), y = ix3 z k b := ⟨y 0, y 1, y 2, eq_ix3 y⟩
  have hr : ((cfg0.win 11).blk t).view.emb (ix3 z k b) = ix3 z k (nn t b) := by
    unfold nn; blk_ext! [idx t]
  rw [hr, after0_11]; blk_simp
  rw [Pipeline.eq_sum_fin_of_reset_step_apply_of_flush (fun n h => (outsAt0 m c n h).2.2) 16 (fun _ => 0)
    (biasTerm (xa m c) (wa m c) (ba m c) (da m c)) (fun t h j => bias_first m c t h j) (fun t h j => bias_step m c t h j) t ((flush0_11 t).mp hf) (ix3 z k b), zero_add]
  refine Fin.sum_mul_add_congr fun s a hl => ?_
  obtain ⟨e1, e2⟩ := run_point t ⟨16 * (t.val / 16) + s.val, Pipeline.run_point_lt_of_flush t ((flush0_11 t).mp hf) s⟩ s rfl
  show dc _ _ _ _ z (nn _ b) (row (kk _) a) = _
  rw [e1, e2]
  rfl

end Cert.FfnMath

end
-- ==== Proof.FfnClaims.lean ====
/- The claims about the feed-forward layer's middle backward call: both programs run without fault, and over the extended
   reals the call returns the gradients that differentiating the gated product of the short convolution gives, for
   finite inputs. -/
module

public import proofs.«01_k».proof.Defs
public import proofs.«01_k».proof.Proof.Gen.FfnKernel.Frame
public import proofs.«01_k».proof.Proof.Gen.FfnKernelIdeal.Frame
public import proofs.«01_k».proof.Proof.Gen.FfnReferenceIdeal.Run
public import proofs.«01_k».proof.Proof.Gen.FfnReferenceIdeal.Read
public import proofs.«01_k».proof.Proof.Gen.Pre_ffn_finite
public import proofs.«01_k».proof.Proof.FfnValue
public import proofs.«01_k».proof.Proof.Reals
public import Idealize.ShloMosaic.Lib.Claim

@[expose] public section

set_option maxRecDepth 16384

noncomputable section

open Idealize.ShloMosaic Idealize.ShloMosaic.TcCoe Idealize.SL.Sem

namespace Cert.FfnMath

section

open Cert.FfnReferenceIdeal Cert.FfnReferenceIdeal.Read

/-- What the precondition says of the arrays it reads. -/
theorem of_finite (x : FVec Ideal S4096x11264 .bf16) (w : FVec Ideal S3x11264 .f32) (b : FVec Ideal S11264 .f32)
    (d : FVec Ideal S4096x5632 .bf16) (h : Cert.Pre_ffn_finite.fn (F := Ideal) x w b d = fun _ => 1#1) :
    (∃ r : S4096x11264.Idx → ℝ, x = fun i => (r i : EReal)) ∧ (∃ r : S3x11264.Idx → ℝ, w = fun i => (r i : EReal))
    ∧ (∃ r : S11264.Idx → ℝ, b = fun i => (r i : EReal)) ∧ (∃ r : S4096x5632.Idx → ℝ, d = fun i => (r i : EReal)) := by
  have e := congrFun h (fun a => a.elim0)
  simp only [Cert.Pre_ffn_finite.fn, Cert.Pre_ffn_finite.fn_part1] at e
  obtain ⟨e1, e2⟩ := Cert.Reals.of_andi e
  obtain ⟨hx, hw⟩ := Cert.Reals.of_andi e1
  obtain ⟨hb, hd⟩ := Cert.Reals.of_andi e2
  exact ⟨Cert.Reals.finite16 x _ _ _ _ _ hx, Cert.Reals.finite_of_all w _ _ _ _ _ hw,
    Cert.Reals.finite_of_all b _ _ _ _ _ hb, Cert.Reals.finite16 d _ _ _ _ _ hd⟩

/-! The gate's gradient: for numbers, the product the kernel forms is the sum that the product rule gives. -/

theorem bel_coe (x : Fin 4096 → ℝ) (r : Fin 4096) : ∃ y : ℝ, bel (fun r => (x r : EReal)) r = (y : EReal) := by
  unfold bel; split
  · exact ⟨0, rfl⟩
  · exact ⟨_, rfl⟩

theorem abv_coe (x : Fin 4096 → ℝ) (r : Fin 4096) : ∃ y : ℝ, abv (fun r => (x r : EReal)) r = (y : EReal) := by
  unfold abv; split
  · exact ⟨0, rfl⟩
  · exact ⟨_, rfl⟩

theorem conv_coe (w : Fin 3 → ℝ) (s : ℝ) (x : Fin 4096 → ℝ) (r : Fin 4096) :
    ∃ y : ℝ, conv (fun k => (w k : EReal)) (s : EReal) (fun r => (x r : EReal)) r = (y : EReal) := by
  obtain ⟨p, hp⟩ := bel_coe x r
  obtain ⟨q, hq⟩ := abv_coe x r
  unfold conv
  rw [hp, hq]
  exact ⟨s + w 0 * p + w 1 * x r + w 2 * q, by push_cast; rfl⟩

theorem gg_eq (d u g : ℝ) : gg (d : EReal) (u : EReal) (g : EReal)
    = (d : EReal) * u * sig' g + (d : EReal) * u * g * (sig' g * (1 - sig' g)) := by
  unfold gg sig'
  rw [zero_sub, Cert.Reals.logistic_coe]
  simp only [← EReal.coe_one, ← EReal.coe_mul, ← EReal.coe_sub, ← EReal.coe_add]
  exact congrArg (fun r : ℝ => (r : EReal)) (by ring)

variable (X : FVec Ideal S4096x11264 .bf16) (W : FVec Ideal S3x11264 .f32) (B : FVec Ideal S11264 .f32) (D : FVec Ideal S4096x5632 .bf16)

/-! The convolution's terms and its value. -/

theorem reference_below (r : Fin 4096) (j : Fin 11264) : val_main_v7 (F := Ideal) X (ix2 r j) = bel (fun r => X (ix2 r j)) r := by
  pointwise [val_main_v7, val_main_v2, val_main_v1, val_main_cst, val_main_v0]
  unfold bel
  by_cases h : r.val = 0
  · rw [dif_pos h, dif_pos (by omega)]
  · rw [dif_neg h, dif_neg (by omega), dif_pos (by omega)]

theorem reference_here (r : Fin 4096) (j : Fin 11264) : val_main_v15 (F := Ideal) X (ix2 r j) = X (ix2 r j) := by
  pointwise [val_main_v15, val_main_v2, val_main_v1, val_main_cst, val_main_v0]

theorem reference_above (r : Fin 4096) (j : Fin 11264) : val_main_v22 (F := Ideal) X (ix2 r j) = abv (fun r => X (ix2 r j)) r := by
  pointwise [val_main_v22, val_main_v2, val_main_v1, val_main_cst, val_main_v0]
  unfold abv
  rw [dif_neg (by omega)]
  by_cases h : r.val = 4095
  · rw [dif_pos h, dif_neg (by omega)]
  · rw [dif_neg h, dif_pos (by omega)]
    exact congrArg (fun s => X (ix2 s j)) (Fin.ext (by show 2 + r.val - 1 = r.val + 1; omega))

theorem reference_conv (r : Fin 4096) (j : Fin 11264) :
    val_main_v29 (F := Ideal) X W B (ix2 r j) = conv (fun k => W (ix2 k j)) (B (ix1 j)) (fun r => X (ix2 r j)) r := by
  pointwise [val_main_v29, val_main_v28, val_main_v27, val_main_v26, val_main_v25, val_main_v24, val_main_v23, val_main_v21, val_main_v20,
    val_main_v19, val_main_v18, val_main_v17, val_main_v16, val_main_v14, val_main_v13, val_main_v12, val_main_v11, val_main_cst_2,
    val_main_v10, val_main_v9, val_main_v8, val_main_v6, val_main_v5]
  simp only [ix2_0, ix2_1, reference_below, reference_here, reference_above]
  unfold conv
  rw [add_comm (G := EReal), ← add_assoc (G := EReal), ← add_assoc (G := EReal)]

theorem reference_linear (r : Fin 4096) (n : Fin 5632) : val_main_v30 (F := Ideal) X W B (ix2 r n) = cv X W B 0 n r := by
  have e : (⟨n.val, by omega⟩ : Fin 11264) = cc 0 n := Fin.ext (by show n.val = 0 * 5632 + n.val; omega)
  pointwise [val_main_v30]
  rw [e]
  exact reference_conv X W B r (cc 0 n)

theorem reference_gate (r : Fin 4096) (n : Fin 5632) : val_main_v31 (F := Ideal) X W B (ix2 r n) = cv X W B 1 n r := by
  have e : (⟨5632 + n.val, by omega⟩ : Fin 11264) = cc 1 n := Fin.ext (by show 5632 + n.val = 1 * 5632 + n.val; omega)
  pointwise [val_main_v31]
  rw [e]
  exact reference_conv X W B r (cc 1 n)

theorem reference_sig (r : Fin 4096) (n : Fin 5632) : val_main_v32_2 (F := Ideal) X W B (ix2 r n) = sig' (cv X W B 1 n r) := by
  pointwise [val_main_v32_2, val_main_call0_v4, val_main_call0_cst_0, val_main_call0_v3, val_main_call0_v2, val_main_call0_cst, val_main_call0_v1, val_main_call0_v0]
  simp only [ix2_0, ix2_1, reference_gate]
  unfold sig'
  rw [zero_sub]

theorem reference_gu (r : Fin 4096) (n : Fin 5632) : val_main_v35 (F := Ideal) X W B D (ix2 r n) = gu (D (ix2 r n)) (cv X W B 1 n r) := by
  pointwise [val_main_v35, val_main_v34, val_main_v32_0]
  simp only [ix2_0, ix2_1, reference_gate, reference_sig]
  unfold gu
  rw [mul_comm, ← mul_assoc]

theorem reference_gg (r : Fin 4096) (n : Fin 5632) : val_main_v37 (F := Ideal) X W B D (ix2 r n)
    = D (ix2 r n) * cv X W B 0 n r * sig' (cv X W B 1 n r) + D (ix2 r n) * cv X W B 0 n r * cv X W B 1 n r * (sig' (cv X W B 1 n r) * (1 - sig' (cv X W B 1 n r))) := by
  pointwise [val_main_v37, val_main_call1_v2, val_main_call1_v1, val_main_call1_v0, val_main_v36, val_main_v34, val_main_v32_1, val_main_call0_v7, val_main_call0_v6, val_main_call0_cst_1]
  simp only [ix2_0, ix2_1, reference_gate, reference_sig, reference_linear]
  rw [mul_comm (cv X W B 1 n r) (D (ix2 r n) * cv X W B 0 n r)]

/-- The convolution's cotangent, in the columns of a half. -/
theorem reference_half (z : Fin 2) (n : Fin 5632) (r : Fin 4096) : val_main_v38 (F := Ideal) X W B D (ix2 r (cc z n))
    = if z = 0 then val_main_v35 (F := Ideal) X W B D (ix2 r n) else val_main_v37 (F := Ideal) X W B D (ix2 r n) := by
  pointwise [val_main_v38]
  generalize val_main_v35 (F := Ideal) X W B D = L
  generalize val_main_v37 (F := Ideal) X W B D = R
  have hz : z = 0 ∨ z = 1 := by omega
  rcases hz with rfl | rfl
  · have e : (cc 0 n).val = n.val := by simp [cc]
    rw [dif_pos (by omega), if_pos rfl]
    exact congrArg (fun s => L (ix2 r s)) (Fin.ext e)
  · have e : (cc 1 n).val = 5632 + n.val := by simp [cc]
    rw [dif_neg (by omega), if_neg (show ¬ (1 : Fin 2) = 0 by decide)]
    exact congrArg (fun s => R (ix2 r s)) (Fin.ext (by show (cc 1 n).val - 5632 = n.val; omega))

theorem taps_below (j : Fin 11264) : val_main_v8 (F := Ideal) W (ix2 0 j) = W (ix2 0 j) := by
  pointwise [val_main_v8, val_main_v6, val_main_v5]

theorem taps_here (j : Fin 11264) : val_main_v16 (F := Ideal) W (ix2 0 j) = W (ix2 1 j) := by
  pointwise [val_main_v16, val_main_v14, val_main_v13]

theorem taps_above (j : Fin 11264) : val_main_v23 (F := Ideal) W (ix2 0 j) = W (ix2 2 j) := by
  pointwise [val_main_v23, val_main_v21, val_main_v20]

/-- The convolution's transpose, as the sum of the three padded products. -/
theorem conv'_of_pads (w : Fin 3 → EReal) (f : Fin 4096 → EReal) (r : Fin 4096) (p : Prop) [Decidable p] (hp : p) :
    (((if h : (2 ≤ 1 + r.val ∧ 1 + r.val - 2 < 4096) ∧ p then w 2 * f ⟨1 + r.val - 2, h.1.2⟩ else 0) + if h : p then w 1 * f r else 0)
      + if h : 1 + r.val < 4096 ∧ p then w 0 * f ⟨1 + r.val, h.1⟩ else 0) = conv' w f r := by
  unfold conv' bel abv
  rw [dif_pos hp, add_comm (G := EReal), ← add_assoc (G := EReal), add_right_comm (G := EReal)]
  refine congrArg₂ (· + ·) (congrArg₂ (· + ·) ?_ rfl) ?_
  · by_cases h : r.val = 4095
    · rw [dif_pos h, dif_neg (by omega), mul_zero]
    · rw [dif_neg h, dif_pos ⟨by omega, hp⟩]
      exact congrArg (fun s => w 0 * f s) (Fin.ext (Nat.add_comm 1 r.val))
  · by_cases h : r.val = 0
    · rw [dif_pos h, dif_neg (by omega), mul_zero]
    · rw [dif_neg h, dif_pos ⟨by omega, hp⟩]
      exact congrArg (fun s => w 2 * f s) (Fin.ext (by simp only; omega))

set_option maxHeartbeats 1600000 in
theorem reference_input (z : Fin 2) (r : Fin 4096) (n : Fin 5632) : val_main_v78 (F := Ideal) X W B D (ix3 z r n)
    = conv' (wt W z n) (fun r => val_main_v38 (F := Ideal) X W B D (ix2 r (cc z n))) r := by
  have hn : z.val * 5632 + n.val < 11264 := by omega
  pointwise [val_main_v78, val_main_v77, val_main_v76, val_main_v74, val_main_v69, val_main_v68, val_main_cst_15, val_main_v63, val_main_v62,
    val_main_v58, val_main_v57, val_main_cst_11, val_main_v52, val_main_v51, val_main_v48, val_main_cst_7, val_main_v43, val_main_v42]
  simp only [taps_above, taps_here, taps_below]
  generalize val_main_v38 (F := Ideal) X W B D = G
  exact conv'_of_pads (wt W z n) (fun r => G (ix2 r (cc z n))) r (z.val * 5632 + n.val < 11264) hn

theorem reference_taps (k : Fin 3) (j : Fin 11264) : val_main_v72 (F := Ideal) X W B D (ix2 k j)
    = ∑ r : Fin 4096, val_main_v38 (F := Ideal) X W B D (ix2 r j) * tap k (fun r => X (ix2 r j)) r := by
  pointwise [val_main_v72, val_main_v71, val_main_cst_16, val_main_v70, val_main_v67, val_main_cst_14, val_main_v66, val_main_v65, val_main_cst_13, val_main_v64,
    val_main_v61, val_main_v60, val_main_cst_12, val_main_v59, val_main_v56, val_main_cst_10, val_main_v55, val_main_v54, val_main_cst_9, val_main_v53,
    val_main_v50, val_main_cst_8, val_main_v49, val_main_v47, val_main_cst_6, val_main_v46, val_main_v45, val_main_cst_5, val_main_v44]
  simp only [ix2_0, ix2_1, reference_below, reference_here, reference_above]
  have hk : k = 0 ∨ k = 1 ∨ k = 2 := by omega
  rcases hk with rfl | rfl | rfl <;> simp [tap]

theorem reference_bias (j : Fin 11264) : val_main_v41 (F := Ideal) X W B D (ix1 j)
    = ∑ r : Fin 4096, val_main_v38 (F := Ideal) X W B D (ix2 r j) := by
  pointwise [val_main_v41, val_main_cst_4, val_main_v40, val_main_v39, val_main_cst_3]
  simp

/-! The same of finite arrays, in the terms of what the kernel leaves. -/

variable {X W B D} (h : Cert.Pre_ffn_finite.fn (F := Ideal) X W B D = fun _ => 1#1)

include h

theorem reference_cot (z : Fin 2) (n : Fin 5632) (r : Fin 4096) : val_main_v38 (F := Ideal) X W B D (ix2 r (cc z n)) = dc X W B D z n r := by
  rw [reference_half, reference_gu, reference_gg]
  unfold dc
  obtain ⟨⟨x, rfl⟩, ⟨w, rfl⟩, ⟨b, rfl⟩, ⟨d, rfl⟩⟩ := of_finite X W B D h
  obtain ⟨u, hu⟩ := conv_coe (fun k => w (ix2 k (cc 0 n))) (b (ix1 (cc 0 n))) (fun r => x (ix2 r (cc 0 n))) r
  obtain ⟨g, hg⟩ := conv_coe (fun k => w (ix2 k (cc 1 n))) (b (ix1 (cc 1 n))) (fun r => x (ix2 r (cc 1 n))) r
  have eu : cv (fun i => (x i : EReal)) (fun i => (w i : EReal)) (fun i => (b i : EReal)) 0 n r = (u : EReal) := hu
  have eg : cv (fun i => (x i : EReal)) (fun i => (w i : EReal)) (fun i => (b i : EReal)) 1 n r = (g : EReal) := hg
  rw [eu, eg, gg_eq]

theorem input_eq : val_main_v78 (F := Ideal) X W B D = dup X W B D := by
  funext y
  rw [eq_ix3 y]
  refine (reference_input X W B D (y 0) (y 1) (y 2)).trans ?_
  exact congrArg (fun f => conv' (wt W (y 0) (y 2)) f (y 1)) (funext fun r => reference_cot h (y 0) (y 2) r)

end

/-! The host's last lines put the two halves' columns side by side. -/

/-- The half of a column and its place there. -/
theorem cc_split (j : Fin 11264) : j = cc ⟨j.val / 5632, by omega⟩ ⟨j.val % 5632, by omega⟩ := Fin.ext (by show j.val = j.val / 5632 * 5632 + j.val % 5632; omega)

def sideTaps (v : FVec Ideal Cert.FfnKernelIdeal.S2x3x5632 .f32) : FVec Ideal Cert.FfnKernelIdeal.S3x11264 .f32 :=
  fun y => v (ix3 ⟨(y 1).val / 5632, by have : (y 1).val < 11264 := (y 1).isLt; omega⟩ (y 0) ⟨(y 1).val % 5632, by omega⟩)

def sideBias (v : FVec Ideal Cert.FfnKernelIdeal.S2x1x5632 .f32) : FVec Ideal Cert.FfnKernelIdeal.S11264 .f32 :=
  fun y => v (ix3 ⟨(y 0).val / 5632, by have : (y 0).val < 11264 := (y 0).isLt; omega⟩ 0 ⟨(y 0).val % 5632, by omega⟩)

section

open Cert.FfnReferenceIdeal Cert.FfnReferenceIdeal.Read

variable {X : FVec Ideal S4096x11264 .bf16} {W : FVec Ideal S3x11264 .f32} {B : FVec Ideal S11264 .f32} {D : FVec Ideal S4096x5632 .bf16}
  (h : Cert.Pre_ffn_finite.fn (F := Ideal) X W B D = fun _ => 1#1)

include h

theorem taps_eq : val_main_v72 (F := Ideal) X W B D = sideTaps (dcw X W B D) := by
  funext y
  obtain ⟨k, j, rfl⟩ : ∃ (k : Fin 3) (j : Fin 11264), y = ix2 k j := ⟨y 0, y 1, eq_ix2 y⟩
  refine (reference_taps X W B D k j).trans ?_
  show _ = ∑ r : Fin 4096, dc X W B D ⟨j.val / 5632, by omega⟩ ⟨j.val % 5632, by omega⟩ r * tap k (col X ⟨j.val / 5632, by omega⟩ ⟨j.val % 5632, by omega⟩) r
  refine Finset.sum_congr (M := EReal) rfl fun r _ => ?_
  rw [← reference_cot h, ← cc_split j]
  unfold col
  rw [← cc_split j]

theorem bias_eq : val_main_v41 (F := Ideal) X W B D = sideBias (dcb X W B D) := by
  funext y
  obtain ⟨j, rfl⟩ : ∃ (j : Fin 11264), y = ix1 j := ⟨y 0, eq_ix1 y⟩
  refine (reference_bias X W B D j).trans ?_
  show _ = ∑ r : Fin 4096, dc X W B D ⟨j.val / 5632, by omega⟩ ⟨j.val % 5632, by omega⟩ r
  refine Finset.sum_congr (M := EReal) rfl fun r _ => ?_
  rw [← reference_cot h, ← cc_split j]

end

section

open Cert.FfnKernelIdeal Cert.FfnKernelIdeal.Gen

variable (m : (ℓ : Loc nD τ sig) → Buf (Elt Ideal) ℓ)

/-- Windows onto one array read it only. -/
theorem inputs_stay (c : Dev nD) : ∀ w w', w ≠ w' → Pipeline.arrRef spec0 w = Pipeline.arrRef spec0 w' →
    (dats m 0 c).arrAt w (cfgs 0).N = V0 m c (Proc.devRef .tc (Pipeline.arrRef spec0 w)) := fun w w' hne e =>
  (dats m 0 c).arrAt_sharedIn sharedIn0 (V0 m c) (A_eq m c) (cfgs 0).N w w' hne e

theorem taps_result (c : Dev nD) : Pipeline.afterTail₀ cfgs (dats m) 0 (V0 m) [hostOps1] c main_v30
    = sideTaps (dcw (xa m c) (wa m c) (ba m c) (da m c)) := by
  funext y
  unfold Pipeline.afterTail₀
  simp only [List.flatten_cons, List.flatten_nil, List.append_nil]
  entry_read
  rw [show Pipeline.withArrays (cfgs 0).spec c (V0 m c) (fun w => (dats m 0 c).arrAt w (cfgs 0).N) (Proc.tc.devRef main_v28_1)
      = (dats m 0 c).arrAt 10 (cfgs 0).N
    from Pipeline.withArrays_arr_shared spec0 c (V0 m c) (fun w => (dats m 0 c).arrAt w (cfgs 0).N) (inputs_stay m c) 10, taps_final]
  pointwise [sideTaps]

theorem bias_result (c : Dev nD) : Pipeline.afterTail₀ cfgs (dats m) 0 (V0 m) [hostOps1] c main_v31
    = sideBias (dcb (xa m c) (wa m c) (ba m c) (da m c)) := by
  funext y
  unfold Pipeline.afterTail₀
  simp only [List.flatten_cons, List.flatten_nil, List.append_nil]
  entry_read
  rw [show Pipeline.withArrays (cfgs 0).spec c (V0 m c) (fun w => (dats m 0 c).arrAt w (cfgs 0).N) (Proc.tc.devRef main_v28_2)
      = (dats m 0 c).arrAt 11 (cfgs 0).N
    from Pipeline.withArrays_arr_shared spec0 c (V0 m c) (fun w => (dats m 0 c).arrAt w (cfgs 0).N) (inputs_stay m c) 11, bias_final]
  pointwise [sideBias]

end

theorem frame_reference : Cert.quiescent_FfnReferenceIdeal := fun m ρ _ =>
  (θ_run Cert.FfnReferenceIdeal.defs _ _).mono
    (fun r h => ⟨fun c => (h c).2.2.2, sem_eq_zero_of_no_sems (by decide) r.2⟩) (Cert.FfnReferenceIdeal.Value.run m ρ)

theorem value : Cert.algebraic_FfnKernelIdeal_FfnReferenceIdeal_pre_ffn_finite := by
  pair_intro
  · run_from Cert.FfnKernelIdeal.Gen.run_main m g & Cert.FfnKernelIdeal.Gen.unchanged m g
  · run_from Cert.FfnReferenceIdeal.Value.run m' g'
    · refine (Cert.FfnReferenceIdeal.Read.val_main_v78_eq m' c).trans ?_
      obtain ⟨a0, a1, a2, a3⟩ := hagree c
      rw [a0, a1, a2, a3]
      exact (input_eq (hpre c)).trans (input_final m c).symm
    · refine (Cert.FfnReferenceIdeal.Read.val_main_v72_eq m' c).trans ?_
      obtain ⟨a0, a1, a2, a3⟩ := hagree c
      rw [a0, a1, a2, a3]
      exact (taps_eq (hpre c)).trans (taps_result m c).symm
    · refine (Cert.FfnReferenceIdeal.Read.val_main_v41_eq m' c).trans ?_
      obtain ⟨a0, a1, a2, a3⟩ := hagree c
      rw [a0, a1, a2, a3]
      exact (bias_eq (hpre c)).trans (bias_result m c).symm

end Cert.FfnMath

end
-- ==== Proof.SduClaims.lean ====
/- The recurrences' input gradient: the skip's term plus what the two directions give, entry by entry. -/
module

public import proofs.«01_k».proof.Defs
public import proofs.«01_k».proof.Proof.Gen.SduKernel.Frame
public import proofs.«01_k».proof.Proof.Gen.SduKernelIdeal.Frame
public import proofs.«01_k».proof.Proof.Gen.SduReferenceIdeal.Run
public import proofs.«01_k».proof.Proof.Gen.SduReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SduMath

/-- The skip's factor times the incoming gradient, plus the two directions' gradients. -/
def out (dy a b : FVec Ideal Cert.SduKernelIdeal.S4096x1024 .f32)
    (d : FVec Ideal Cert.SduKernelIdeal.S1024 .f32) : FVec Ideal Cert.SduKernelIdeal.S4096x1024 .bf16 :=
  fun i => d (ix1 (i 1)) * dy i + a i + b i

section

open Cert.SduKernelIdeal Cert.SduKernelIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

/-- The skip's factors reach the call as one row. -/
theorem skip_row (c : Dev nD) (i : S1x1024.Idx) :
    V m c main_v0 i = m ((c : Thread nD τ).loc main_arg3) (ix1 (i 1)) := by
  simp only [V, List.flatten_cons, List.flatten_nil, List.append_nil]
  entry_read
  pointwise

theorem out_final (c : Dev nD) : (dats m 0 c).arrAt 4 (cfgs 0).N
    = out (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4]
  unfold out0_4
  frame_out
  pointwise [k0_pay1, out]
  blk_simp [iblk, idx t]
  rw [skip_row]
  blk_point [iblk, V, idx t]

end

theorem reference_out (dy a b : FVec Ideal Cert.SduReferenceIdeal.S4096x1024 .f32) (d : FVec Ideal Cert.SduReferenceIdeal.S1024 .f32) :
    Cert.SduReferenceIdeal.Read.val_main_v8 (F := Ideal) dy a b d = out dy a b d := by
  funext i
  pointwise [Cert.SduReferenceIdeal.Read.val_main_v8, Cert.SduReferenceIdeal.Read.val_main_v7, Cert.SduReferenceIdeal.Read.val_main_v6,
    Cert.SduReferenceIdeal.Read.val_main_v5, Cert.SduReferenceIdeal.Read.val_main_v4, Cert.SduReferenceIdeal.Read.val_main_v1, out]
  rw [add_comm (G := EReal), add_assoc (G := EReal)]

theorem frame_reference : Cert.quiescent_SduReferenceIdeal := fun m ρ _ =>
  (θ_run Cert.SduReferenceIdeal.defs _ _).mono
    (fun r h => ⟨fun c => (h c).2, sem_eq_zero_of_no_sems (by decide) r.2⟩) (Cert.SduReferenceIdeal.Value.run m ρ)

theorem value : Cert.algebraic_SduKernelIdeal_SduReferenceIdeal := by
  pair_intro
  · run_from Cert.SduKernelIdeal.Gen.run_main m g & Cert.SduKernelIdeal.Gen.unchanged m g
  · run_from Cert.SduReferenceIdeal.Value.run m' g'
    · exact (Cert.SduReferenceIdeal.Read.val_main_v8_eq _ _ _ _).trans ((reference_out _ _ _ _).trans (out_final m c).symm)

end Cert.SduMath

end
-- ==== Proof.ModClaims.lean ====
/- The norm's forward call: each row over its root mean square, scaled and shifted by the modulation. -/
module

public import proofs.«01_k».proof.Defs
public import proofs.«01_k».proof.Proof.Gen.ModKernel.Frame
public import proofs.«01_k».proof.Proof.Gen.ModKernelIdeal.Frame
public import proofs.«01_k».proof.Proof.Gen.ModReferenceIdeal.Run
public import proofs.«01_k».proof.Proof.Gen.ModReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ModMath

/-- One over the root mean square of a row. -/
def inv (x : FVec Ideal Cert.ModKernelIdeal.S4096x2048 .f32) (i : Fin 4096) : EReal :=
  Ideal.rsqrt (Ideal.div (∑ k : Fin 2048, x (ix2 i k) * x (ix2 i k)) (Ideal.ofBits .f32 0x45000000#32) + Ideal.ofBits .f32 0x358637BD#32)

/-- The factor of each column: the norm's gain times one plus the modulation's scale. -/
def factor (g sc : FVec Ideal Cert.ModKernelIdeal.S2048 .f32) (k : Fin 2048) : EReal :=
  g (ix1 k) * (1 + sc (ix1 k))

/-- The normalised row times gain and one plus scale, plus the shift. -/
def out (x : FVec Ideal Cert.ModKernelIdeal.S4096x2048 .f32) (g sh sc : FVec Ideal Cert.ModKernelIdeal.S2048 .f32) :
    FVec Ideal Cert.ModKernelIdeal.S4096x2048 .bf16 :=
  fun i => x i * inv x (i 0) * factor g sc (i 1) + sh (ix1 (i 1))

section

open Cert.ModKernelIdeal Cert.ModKernelIdeal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The columns' factors reach the call as one row. -/
theorem factor_row (c : Dev nD) (i : S1x2048.Idx) :
    V m c main_v3 i = factor (m ((c : Thread nD τ).loc main_arg1)) (m ((c : Thread nD τ).loc main_arg3)) (i 1) := by
  simp only [V, List.flatten_cons, List.flatten_nil, List.append_nil]
  entry_read
  pointwise [factor]

/-- So does the shift. -/
theorem shift_row (c : Dev nD) (i : S1x2048.Idx) :
    V m c main_v4 i = m ((c : Thread nD τ).loc main_arg2) (ix1 (i 1)) := by
  simp only [V, List.flatten_cons, List.flatten_nil, List.append_nil]
  entry_read
  pointwise

theorem out_final (c : Dev nD) : (dats m 0 c).arrAt 3 (cfgs 0).N
    = out (m ((c : Thread nD τ).loc main_arg0)) (m ((c : Thread nD τ).loc main_arg1)) (m ((c : Thread nD τ).loc main_arg2))
      (m ((c : Thread nD τ).loc main_arg3)) := by
  refine (dats m 0 c).arrAt_eq_of_covers 3 _ (by decide +kernel) fun t _ y => ?_
  blk_simp
  rw [after0_3]
  unfold out0_3
  frame_out
  pointwise [k0_pay1, out, inv]
  blk_simp [iblk, idx t]
  rw [factor_row, shift_row]
  unfold factor
  blk_point [iblk, V, idx t]

end

theorem reference_out (x : FVec Ideal Cert.ModReferenceIdeal.S4096x2048 .f32) (g sh sc : FVec Ideal Cert.ModReferenceIdeal.S2048 .f32) :
    Cert.ModReferenceIdeal.Read.val_main_v21 (F := Ideal) x g sh sc = out x g sh sc := by
  funext i
  open Cert.ModReferenceIdeal.Read in
  pointwise [val_main_v21, val_main_v20, val_main_v19, val_main_v18, val_main_v17, val_main_v16, val_main_v15, val_main_v14, val_main_v13,
    val_main_cst_2, val_main_v12, val_main_v11, val_main_v10, val_main_v9, val_main_v8, val_main_v7, val_main_v6, val_main_v5, val_main_cst_1,
    val_main_v4, val_main_v3, val_main_cst_0, val_main_v2, val_main_v1, val_main_cst, val_main_v0, out, inv, factor]
  rw [mul_assoc]

theorem frame_reference : Cert.quiescent_ModReferenceIdeal := fun m ρ _ =>
  (θ_run Cert.ModReferenceIdeal.defs _ _).mono
    (fun r h => ⟨fun c => (h c).2, sem_eq_zero_of_no_sems (by decide) r.2⟩) (Cert.ModReferenceIdeal.Value.run m ρ)

theorem value : Cert.algebraic_ModKernelIdeal_ModReferenceIdeal := by
  pair_intro
  · run_from Cert.ModKernelIdeal.Gen.run_main m g & Cert.ModKernelIdeal.Gen.unchanged m g
  · run_from Cert.ModReferenceIdeal.Value.run m' g'
    · exact (Cert.ModReferenceIdeal.Read.val_main_v21_eq _ _ _ _).trans ((reference_out _ _ _ _).trans (out_final m c).symm)

end Cert.ModMath

end
-- ==== Proof.GresClaims.lean ====
/- The forward call of the gated residual: input plus gate times branch, entry by entry. -/
module

public import proofs.«01_k».proof.Defs
public import proofs.«01_k».proof.Proof.Gen.GresKernel.Frame
public import proofs.«01_k».proof.Proof.Gen.GresKernelIdeal.Frame
public import proofs.«01_k».proof.Proof.Gen.GresReferenceIdeal.Run
public import proofs.«01_k».proof.Proof.Gen.GresReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GresMath

/-- The residual plus the gated branch. -/
def out (x : FVec Ideal Cert.GresKernelIdeal.S4096x2048 .f32) (y : FVec Ideal Cert.GresKernelIdeal.S4096x2048 .bf16)
    (g : FVec Ideal Cert.GresKernelIdeal.S2048 .f32) : FVec Ideal Cert.GresKernelIdeal.S4096x2048 .f32 :=
  fun i => x i + g (ix1 (i 1)) * y i

section

open Cert.GresKernelIdeal Cert.GresKernelIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

/-- The gate reaches the call as one row. -/
theorem gate_row (c : Dev nD) (i : S1x2048.Idx) :
    V m c main_v0 i = m ((c : Thread nD τ).loc main_arg2) (ix1 (i 1)) := by
  simp only [V, List.flatten_cons, List.flatten_nil, List.append_nil]
  entry_read
  pointwise

theorem out_final (c : Dev nD) : (dats m 0 c).arrAt 3 (cfgs 0).N
    = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  frame_out
  pointwise [k0_pay1, out]
  blk_simp [iblk, idx t]
  rw [gate_row]
  blk_point [iblk, V, idx t]

end

theorem reference_out (x : FVec Ideal Cert.GresReferenceIdeal.S4096x2048 .f32) (y : FVec Ideal Cert.GresReferenceIdeal.S4096x2048 .bf16)
    (g : FVec Ideal Cert.GresReferenceIdeal.S2048 .f32) :
    Cert.GresReferenceIdeal.Read.val_main_v4 (F := Ideal) x y g = out x y g := by
  funext i
  pointwise [Cert.GresReferenceIdeal.Read.val_main_v4, Cert.GresReferenceIdeal.Read.val_main_v3, Cert.GresReferenceIdeal.Read.val_main_v2,
    Cert.GresReferenceIdeal.Read.val_main_v1, Cert.GresReferenceIdeal.Read.val_main_v0, out]

theorem frame_reference : Cert.quiescent_GresReferenceIdeal := fun m ρ _ =>
  (θ_run Cert.GresReferenceIdeal.defs _ _).mono
    (fun r h => ⟨fun c => (h c).2, sem_eq_zero_of_no_sems (by decide) r.2⟩) (Cert.GresReferenceIdeal.Value.run m ρ)

theorem value : Cert.algebraic_GresKernelIdeal_GresReferenceIdeal := by
  pair_intro
  · run_from Cert.GresKernelIdeal.Gen.run_main m g & Cert.GresKernelIdeal.Gen.unchanged m g
  · run_from Cert.GresReferenceIdeal.Value.run m' g'
    · exact (Cert.GresReferenceIdeal.Read.val_main_v4_eq _ _ _).trans ((reference_out _ _ _).trans (out_final m c).symm)

end Cert.GresMath

end
-- ==== Proof.RnClaims.lean ====
/- The forward call that adds a gated branch to the residual and norms and modulates the sum for the next sub-layer. -/
module

public import proofs.«01_k».proof.Defs
public import proofs.«01_k».proof.Proof.Gen.RnKernel.Frame
public import proofs.«01_k».proof.Proof.Gen.RnKernelIdeal.Frame
public import proofs.«01_k».proof.Proof.Gen.RnReferenceIdeal.Run
public import proofs.«01_k».proof.Proof.Gen.RnReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RnMath

/-- The residual plus the gated branch. -/
def sum (x : FVec Ideal Cert.RnKernelIdeal.S4096x2048 .f32) (y : FVec Ideal Cert.RnKernelIdeal.S4096x2048 .bf16)
    (g : FVec Ideal Cert.RnKernelIdeal.S2048 .f32) : FVec Ideal Cert.RnKernelIdeal.S4096x2048 .f32 :=
  fun i => x i + g (ix1 (i 1)) * y i

/-- One over the root mean square of a row. -/
def inv (x : FVec Ideal Cert.RnKernelIdeal.S4096x2048 .f32) (i : Fin 4096) : EReal :=
  Ideal.rsqrt (Ideal.div (∑ k : Fin 2048, x (ix2 i k) * x (ix2 i k)) (Ideal.ofBits .f32 0x45000000#32) + Ideal.ofBits .f32 0x358637BD#32)

/-- The factor of each column: the norm's gain times one plus the modulation's scale. -/
def factor (g sc : FVec Ideal Cert.RnKernelIdeal.S2048 .f32) (k : Fin 2048) : EReal :=
  g (ix1 k) * (1 + sc (ix1 k))

/-- The normalised row times gain and one plus scale, plus the shift. -/
def out (x : FVec Ideal Cert.RnKernelIdeal.S4096x2048 .f32) (g sh sc : FVec Ideal Cert.RnKernelIdeal.S2048 .f32) :
    FVec Ideal Cert.RnKernelIdeal.S4096x2048 .bf16 :=
  fun i => x i * inv x (i 0) * factor g sc (i 1) + sh (ix1 (i 1))

section

open Cert.RnKernelIdeal Cert.RnKernelIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0] ∧ t.val < 16 :=
  (by decide +kernel : ∀ t : Fin grid0.N, _)

/-- The gate reaches the call as one row. -/
theorem gate_row (c : Dev nD) (i : S1x2048.Idx) :
    V m c main_v3 i = m ((c : Thread nD τ).loc main_arg2) (ix1 (i 1)) := by
  simp only [V, List.flatten_cons, List.flatten_nil, List.append_nil]
  entry_read
  pointwise

/-- So do the columns' factors. -/
theorem factor_row (c : Dev nD) (i : S1x2048.Idx) :
    V m c main_v4 i = factor (m ((c : Thread nD τ).loc main_arg3)) (m ((c : Thread nD τ).loc main_arg5)) (i 1) := by
  simp only [V, List.flatten_cons, List.flatten_nil, List.append_nil]
  entry_read
  pointwise [factor]

/-- And the shift. -/
theorem shift_row (c : Dev nD) (i : S1x2048.Idx) :
    V m c main_v5 i = m ((c : Thread nD τ).loc main_arg4) (ix1 (i 1)) := by
  simp only [V, List.flatten_cons, List.flatten_nil, List.append_nil]
  entry_read
  pointwise

/-- An entry of a block of the sum. -/
theorem sum_point (c : Dev nD) (t : Fin cfg0.N) (i : S256x2048.Idx) (r : Fin 4096) (hr : r.val = t.val * 256 + (i 0).val) :
    k0_pay1 (iblk m c 0 t) (iblk m c 2 t) (iblk m c 1 t) i
      = sum (m ((c : Thread nD τ).loc main_arg0)) (m ((c : Thread nD τ).loc main_arg1)) (m ((c : Thread nD τ).loc main_arg2)) (ix2 r (i 1)) := by
  pointwise [k0_pay1, sum]
  blk_simp [iblk, idx t]
  rw [gate_row]
  blk_point [iblk, V, idx t]

theorem sum_final (c : Dev nD) : (dats m 0 c).arrAt 5 (cfgs 0).N
    = sum (m ((c : Thread nD τ).loc main_arg0)) (m ((c : Thread nD τ).loc main_arg1)) (m ((c : Thread nD τ).loc main_arg2)) := by
  refine (dats m 0 c).arrAt_eq_of_covers 5 _ (by decide +kernel) fun t _ y => ?_
  obtain ⟨a, b, rfl⟩ : ∃ a b, y = ix2 a b := ⟨y 0, y 1, eq_ix2 y⟩
  have hl : t.val * 256 + a.val < 4096 := by have := (idx t).2.2.2.2.2.2.2; have := a.isLt; omega
  have hr : ((cfg0.win 5).blk t).view.emb (ix2 a b) = ix2 ⟨t.val * 256 + a.val, hl⟩ b := by blk_ext! [idx t]
  rw [hr, after0_5]
  unfold out0_5
  frame_out
  exact sum_point m c t (ix2 a b) _ rfl

theorem out_final (c : Dev nD) : (dats m 0 c).arrAt 6 (cfgs 0).N
    = out (sum (m ((c : Thread nD τ).loc main_arg0)) (m ((c : Thread nD τ).loc main_arg1)) (m ((c : Thread nD τ).loc main_arg2)))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  obtain ⟨a, b, rfl⟩ : ∃ a b, y = ix2 a b := ⟨y 0, y 1, eq_ix2 y⟩
  have hl : t.val * 256 + a.val < 4096 := by have := (idx t).2.2.2.2.2.2.2; have := a.isLt; omega
  have hr : ((cfg0.win 6).blk t).view.emb (ix2 a b) = ix2 ⟨t.val * 256 + a.val, hl⟩ b := by blk_ext! [idx t]
  rw [hr, after0_6]
  unfold out0_6
  frame_out
  pointwise [k0_pay2, out, inv]
  simp only [ix2_0, ix2_1, fun k => sum_point m c t (ix2 a k) ⟨t.val * 256 + a.val, hl⟩ rfl]
  refine congrArg₂ (· + ·) (congrArg₂ (· * ·) (congrArg (· * _) (sum_point m c t (ix2 a b) ⟨t.val * 256 + a.val, hl⟩ rfl)) ?_) ?_
  · blk_simp [iblk, idx t]
    rw [factor_row]
    unfold factor
    blk_point [idx t]
  · blk_simp [iblk, idx t]
    rw [shift_row]
    blk_point [idx t]

end

theorem reference_sum (x : FVec Ideal Cert.RnReferenceIdeal.S4096x2048 .f32) (y : FVec Ideal Cert.RnReferenceIdeal.S4096x2048 .bf16)
    (g : FVec Ideal Cert.RnReferenceIdeal.S2048 .f32) :
    Cert.RnReferenceIdeal.Read.val_main_v4 (F := Ideal) x y g = sum x y g := by
  funext i
  open Cert.RnReferenceIdeal.Read in
  pointwise [val_main_v4, val_main_v3, val_main_v2, val_main_v1, val_main_v0, sum]

theorem reference_out (x : FVec Ideal Cert.RnReferenceIdeal.S4096x2048 .f32) (y : FVec Ideal Cert.RnReferenceIdeal.S4096x2048 .bf16)
    (gt g sh sc : FVec Ideal Cert.RnReferenceIdeal.S2048 .f32) :
    Cert.RnReferenceIdeal.Read.val_main_v26 (F := Ideal) x y gt g sh sc = out (sum x y gt) g sh sc := by
  funext i
  open Cert.RnReferenceIdeal.Read in
  pointwise [val_main_v26, val_main_v25, val_main_v24, val_main_v23, val_main_v22, val_main_v21, val_main_v20, val_main_v19, val_main_v18,
    val_main_cst_2, val_main_v17, val_main_v16, val_main_v15, val_main_v14, val_main_v13, val_main_v12, val_main_v11, val_main_v10, val_main_cst_1,
    val_main_v9, val_main_v8, val_main_cst_0, val_main_v7, val_main_v6, val_main_cst, val_main_v5, reference_sum, out, inv, factor]
  rw [mul_assoc]

theorem frame_reference : Cert.quiescent_RnReferenceIdeal := fun m ρ _ =>
  (θ_run Cert.RnReferenceIdeal.defs _ _).mono
    (fun r h => ⟨fun c => (h c).2.2, sem_eq_zero_of_no_sems (by decide) r.2⟩) (Cert.RnReferenceIdeal.Value.run m ρ)

theorem value : Cert.algebraic_RnKernelIdeal_RnReferenceIdeal := by
  pair_intro
  · run_from Cert.RnKernelIdeal.Gen.run_main m g & Cert.RnKernelIdeal.Gen.unchanged m g
  · run_from Cert.RnReferenceIdeal.Value.run m' g'
    · exact (Cert.RnReferenceIdeal.Read.val_main_v4_eq _ _ _).trans ((reference_sum _ _ _).trans (sum_final m c).symm)
    · exact (Cert.RnReferenceIdeal.Read.val_main_v26_eq _ _ _ _ _ _).trans ((reference_out _ _ _ _ _ _).trans (out_final m c).symm)

end Cert.RnMath

end
-- ==== Proof.MidClaims.lean ====
/- The feed-forward layer's middle forward call: both programs run without fault, and over the extended reals the call
   leaves the gated product of the short convolution's two halves. -/
module

public import proofs.«01_k».proof.Defs
public import proofs.«01_k».proof.Proof.Gen.MidKernel.Frame
public import proofs.«01_k».proof.Proof.Gen.MidKernelIdeal.Frame
public import proofs.«01_k».proof.Proof.Gen.MidReferenceIdeal.Run
public import proofs.«01_k».proof.Proof.Gen.MidReferenceIdeal.Read
public import proofs.«01_k».proof.Proof.FfnBlocks
public import proofs.«01_k».proof.Proof.Pieces
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MidMath

open Cert.FfnMath (bel abv sig' conv row Half Shifts bel_rows abv_rows bel_first abv_last cc col wt bs cv)

section

open Cert.MidKernelIdeal Cert.MidKernelIdeal.Gen

/-! The body, one column at a time. -/

section

variable {k : Fin 16} {b : Fin 512} {x : Fin 4096 → EReal} {w : Fin 3 → EReal} {s : EReal}
  {cur : FVec Ideal S1x256x512 .bf16} {pre post : FVec Ideal S1x16x512 .bf16} {w0 w1 w2 bb : FVec Ideal S1x1x512 .f32}
  (H : Half k b x w s cur pre post w0 w1 w2 bb) {dn up : FVec Ideal S1x256x256 .bf16} (hs : Shifts dn up)
  (i : grid0.Coords) (hi : (i 1).val = k.val)

include H hs hi in
/-- The convolution of the first half, -/
theorem conv₀ (a : Fin 256) : k0_pay5 (F := Ideal) (k0_pay2 cur) (k0_pay3 i cur pre dn) (k0_pay4 i cur post up) bb w0 w1 w2 (ix2 a b)
    = conv w s x (row k a) := by
  have e0 : k0_pay3 (F := Ideal) i cur pre dn (ix2 a b) = bel x (row k a) := by
    pointwise [k0_pay3, k0_pay2]
    rw [hi, WordCmp.scalar_cmpi_eq]
    exact bel_rows hs (bel_first x _ H.p15) H.cur a
  have e1 : k0_pay4 (F := Ideal) i cur post up (ix2 a b) = abv x (row k a) := by
    pointwise [k0_pay4, k0_pay2]
    rw [hi, WordCmp.scalar_cmpi_eq]
    exact abv_rows hs (abv_last x _ H.n0) H.cur a
  pointwise [k0_pay5, k0_pay2, conv]
  rw [e0, e1, H.cur, H.w0, H.w1, H.w2, H.bb]

include H hs hi in
/-- and of the second. -/
theorem conv₁ (a : Fin 256) : k0_pay9 (F := Ideal) (iota .tc S256x512 32 [0] iota_S256x512_d0_w32) (k0_pay6 cur)
    (k0_pay7 (BitVec.ofNat 32 (i 1).val) pre) (k0_pay8 (BitVec.ofNat 32 (i 1).val) post) dn up bb w0 w1 w2 (ix2 a b) = conv w s x (row k a) := by
  pointwise [k0_pay9, k0_pay6, k0_pay7, k0_pay8, conv]
  rw [hi, WordCmp.scalar_cmpi_eq, WordCmp.scalar_cmpi_eq, bel_rows hs (bel_first x _ H.p15) H.cur a, abv_rows hs (abv_last x _ H.n0) H.cur a,
    H.cur, H.w0, H.w1, H.w2, H.bb]

end

variable (m : (ℓ : Loc nD τ sig) → Buf (Elt Ideal) ℓ)

/-- The gated product. -/
def act (X : FVec Ideal S4096x11264 .bf16) (W : FVec Ideal S3x11264 .f32) (B : FVec Ideal S11264 .f32) : FVec Ideal S4096x5632 .bf16 := fun y =>
  cv X W B 0 (y 1) (y 0) * cv X W B 1 (y 1) (y 0) * sig' (cv X W B 1 (y 1) (y 0))

set_option maxHeartbeats 3200000 in
theorem idx : ∀ t : Fin cfg0.N, win0_0.index t = ![0, t.val % 16 * 16 - 1, t.val / 16] ∧ win0_1.index t = ![0, t.val % 16, t.val / 16]
    ∧ win0_2.index t = ![0, min (t.val % 16 * 16 + 16) 255, t.val / 16]
    ∧ win0_3.index t = ![0, 0, t.val / 16] ∧ win0_4.index t = ![0, 0, t.val / 16] ∧ win0_5.index t = ![0, 0, 0]
    ∧ win0_6.index t = ![t.val % 16, t.val / 16] ∧ (grid0.coords t 1).val = t.val % 16 ∧ t.val < 176 :=
  (by decide +kernel : ∀ t : Fin grid0.N, _)

section

variable (c : Dev nD)

/-! The program's arguments, and what the call's arrays hold. -/

abbrev xa : FVec Ideal S4096x11264 .bf16 := m ((c : Thread nD τ).loc main_arg0)
abbrev wa : FVec Ideal S3x11264 .f32 := m ((c : Thread nD τ).loc main_arg1)
abbrev ba : FVec Ideal S11264 .f32 := m ((c : Thread nD τ).loc main_arg2)

theorem up_array (y : S2x4096x5632.Idx) : V m c main_v1 y = xa m c (ix2 (y 1) (cc (y 0) (y 2))) := by
  simp only [V, List.flatten_cons, List.flatten_nil, List.append_nil, List.cons_append, List.nil_append]
  entry_read
  pointwise [cc]

theorem taps_array (y : S2x3x5632.Idx) : V m c main_v3 y = wa m c (ix2 (y 1) (cc (y 0) (y 2))) := by
  simp only [V, List.flatten_cons, List.flatten_nil, List.append_nil, List.cons_append, List.nil_append]
  entry_read
  pointwise [cc]

theorem bias_array (y : S2x1x5632.Idx) : V m c main_v4 y = ba m c (ix1 (cc (y 0) (y 2))) := by
  simp only [V, List.flatten_cons, List.flatten_nil, List.append_nil, List.cons_append, List.nil_append]
  entry_read
  pointwise [cc]
  blk_ext []

theorem shift_array (z : Fin 2) (a l : Fin 256) : (show FVec Ideal S2x256x256 .bf16 from V m c main_v24) (ix3 z a l)
    = if z = 0 then (if l.val + 1 = a.val then 1 else 0) else (if l.val = a.val + 1 then 1 else 0) := by
  show V m c main_v24 (ix3 z a l) = _
  simp only [V, List.flatten_cons, List.flatten_nil, List.append_nil, List.cons_append, List.nil_append]
  entry_read
  simp -implicitDefEqProofs only [StableHlo.TRef.toBuf, StableHlo.TRef.ofBuf, cast_cast, cast_eq]
  pointwise []
  have e0 : Scalar.select (IntOp.cmpi .eq (IntOp.subi (BitVec.ofNat 32 a.val) 1#32) (BitVec.ofNat 32 l.val)) (1 : EReal) 0 = if l.val + 1 = a.val then 1 else 0 := by
    rw [WordCmp.cmpi_eq_eq_toNat, WordCmp.select_ofBool]
    simp only [decide_eq_true_eq, IntOp.subi, BitVec.toNat_sub, BitVec.toNat_ofNat]
    exact if_congr (by omega) rfl rfl
  have e1 : Scalar.select (IntOp.cmpi .eq (IntOp.addi (BitVec.ofNat 32 a.val) 1#32) (BitVec.ofNat 32 l.val)) (1 : EReal) 0 = if l.val = a.val + 1 then 1 else 0 := by
    rw [WordCmp.cmpi_eq_eq_toNat, WordCmp.select_ofBool]
    simp only [decide_eq_true_eq, IntOp.addi, BitVec.toNat_add, BitVec.toNat_ofNat]
    exact if_congr (by omega) rfl rfl
  by_cases hz : z = 0
  · rw [dif_pos (by rw [hz]; decide), if_pos hz]; exact e0
  · rw [dif_neg (by omega), if_neg hz]; exact e1

/-- The row of blocks of a grid point, and its columns. -/
def kk (t : Fin cfg0.N) : Fin 16 := ⟨t.val % 16, by omega⟩

def nn (t : Fin cfg0.N) (b : Fin 512) : Fin 5632 := ⟨t.val / 16 * 512 + b.val, by have := (idx t).2.2.2.2.2.2.2.2; omega⟩

variable (t : Fin cfg0.N) (b : Fin 512)

/-! The blocks of a grid point hold the columns' rows. -/

theorem pre_block (z : Fin 2) (h : Fin 16) (r : Fin 4096) (hr : r.val + 16 = (kk t).val * 256 + h.val) :
    (show FVec Ideal S2x16x512 .bf16 from iblk m c 0 t) (ix3 z h b) = col (xa m c) z (nn t b) r := by
  have hr' : r.val + 16 = t.val % 16 * 256 + h.val := hr
  refine (up_array m c _).trans ?_
  unfold col nn cc
  blk_point [idx t]

theorem post_block (z : Fin 2) (h : Fin 16) (r : Fin 4096) (hr : r.val = (kk t).val * 256 + 256 + h.val) :
    (show FVec Ideal S2x16x512 .bf16 from iblk m c 2 t) (ix3 z h b) = col (xa m c) z (nn t b) r := by
  have hr' : r.val = t.val % 16 * 256 + 256 + h.val := hr
  refine (up_array m c _).trans ?_
  unfold col nn cc
  blk_point [idx t]

theorem taps_block (z : Fin 2) (k : Fin 3) : (show FVec Ideal S2x3x512 .f32 from iblk m c 3 t) (ix3 z k b) = wt (wa m c) z (nn t b) k := by
  refine (taps_array m c _).trans ?_
  unfold wt nn cc
  blk_point [idx t]

theorem half (z : Fin 2) {cur : FVec Ideal S1x256x512 .bf16} {pre post : FVec Ideal S1x16x512 .bf16} {w0 w1 w2 bb : FVec Ideal S1x1x512 .f32}
    (h1 : ∀ a, cur (ix3 0 a b) = (show FVec Ideal S2x256x512 .bf16 from iblk m c 1 t) (ix3 z a b))
    (h2 : ∀ h, pre (ix3 0 h b) = (show FVec Ideal S2x16x512 .bf16 from iblk m c 0 t) (ix3 z h b))
    (h3 : ∀ h, post (ix3 0 h b) = (show FVec Ideal S2x16x512 .bf16 from iblk m c 2 t) (ix3 z h b))
    (h4 : w0 (ix3 0 0 b) = (show FVec Ideal S2x3x512 .f32 from iblk m c 3 t) (ix3 z 0 b))
    (h5 : w1 (ix3 0 0 b) = (show FVec Ideal S2x3x512 .f32 from iblk m c 3 t) (ix3 z 1 b))
    (h6 : w2 (ix3 0 0 b) = (show FVec Ideal S2x3x512 .f32 from iblk m c 3 t) (ix3 z 2 b))
    (h7 : bb (ix3 0 0 b) = (show FVec Ideal S2x1x512 .f32 from iblk m c 4 t) (ix3 z 0 b)) :
    Half (kk t) b (col (xa m c) z (nn t b)) (wt (wa m c) z (nn t b)) (bs (ba m c) z (nn t b)) cur pre post w0 w1 w2 bb where
  cur a := (h1 a).trans <| (up_array m c _).trans <| by unfold col nn row kk cc; blk_point [idx t]
  p14 r hr := (h2 14).trans (pre_block m c t b z 14 r (by show r.val + 16 = (kk t).val * 256 + 14; omega))
  p15 r hr := (h2 15).trans (pre_block m c t b z 15 r (by show r.val + 16 = (kk t).val * 256 + 15; omega))
  n0 r hr := (h3 0).trans (post_block m c t b z 0 r (by show r.val = (kk t).val * 256 + 256 + 0; omega))
  n1 r hr := (h3 1).trans (post_block m c t b z 1 r (by show r.val = (kk t).val * 256 + 256 + 1; omega))
  w0 := h4.trans (taps_block m c t b z 0)
  w1 := h5.trans (taps_block m c t b z 1)
  w2 := h6.trans (taps_block m c t b z 2)
  bb := h7.trans <| (bias_array m c _).trans <| by unfold bs nn cc; blk_point [idx t]

theorem shift_block (z : Fin 2) (a l : Fin 256) : (show FVec Ideal S2x256x256 .bf16 from iblk m c 5 t) (ix3 z a l)
    = if z = 0 then (if l.val + 1 = a.val then 1 else 0) else (if l.val = a.val + 1 then 1 else 0) := by
  rw [← shift_array m c z a l]
  refine congrArg (V m c main_v24) ?_
  blk_ext! [idx t]

theorem shifts : Shifts (View.ld (iblk m c 5 t) r0_2) (View.ld (iblk m c 5 t) r0_3) where
  dn a l := (Pieces.load _ rfl (Nat.zero_add _).symm (Nat.zero_add _).symm).trans (shift_block m c t 0 a l)
  up a l := (Pieces.load _ rfl (Nat.zero_add _).symm (Nat.zero_add _).symm).trans (shift_block m c t 1 a l)

theorem half₀ : Half (kk t) b (col (xa m c) 0 (nn t b)) (wt (wa m c) 0 (nn t b)) (bs (ba m c) 0 (nn t b))
    (View.ld (iblk m c 1 t) r0_0) (View.ld (iblk m c 0 t) r0_1) (View.ld (iblk m c 2 t) r0_1)
    (View.ld (iblk m c 3 t) r0_5) (View.ld (iblk m c 3 t) r0_6) (View.ld (iblk m c 3 t) r0_7) (View.ld (iblk m c 4 t) r0_4) :=
  half m c t b 0 (fun a => Pieces.load _ rfl (Nat.zero_add _).symm (Nat.zero_add _).symm) (fun a => Pieces.load _ rfl (Nat.zero_add _).symm (Nat.zero_add _).symm)
    (fun a => Pieces.load _ rfl (Nat.zero_add _).symm (Nat.zero_add _).symm) (Pieces.load _ rfl rfl (Nat.zero_add _).symm)
    (Pieces.load _ rfl rfl (Nat.zero_add _).symm) (Pieces.load _ rfl rfl (Nat.zero_add _).symm) (Pieces.load _ rfl rfl (Nat.zero_add _).symm)

theorem half₁ : Half (kk t) b (col (xa m c) 1 (nn t b)) (wt (wa m c) 1 (nn t b)) (bs (ba m c) 1 (nn t b))
    (View.ld (iblk m c 1 t) r0_8) (View.ld (iblk m c 0 t) r0_9) (View.ld (iblk m c 2 t) r0_9)
    (View.ld (iblk m c 3 t) r0_11) (View.ld (iblk m c 3 t) r0_12) (View.ld (iblk m c 3 t) r0_13) (View.ld (iblk m c 4 t) r0_10) :=
  half m c t b 1 (fun a => Pieces.load _ rfl (Nat.zero_add _).symm (Nat.zero_add _).symm) (fun a => Pieces.load _ rfl (Nat.zero_add _).symm (Nat.zero_add _).symm)
    (fun a => Pieces.load _ rfl (Nat.zero_add _).symm (Nat.zero_add _).symm) (Pieces.load _ rfl rfl (Nat.zero_add _).symm)
    (Pieces.load _ rfl rfl (Nat.zero_add _).symm) (Pieces.load _ rfl rfl (Nat.zero_add _).symm) (Pieces.load _ rfl rfl (Nat.zero_add _).symm)

end

/-- The body's result from its two convolutions. -/
theorem product (v0 : IVec S256x512 32) (u : FVec Ideal S256x512 .f32) (x : FVec Ideal S256x512 .bf16) (p q : FVec Ideal S1x512 .f32)
    (dn up : FVec Ideal S1x256x256 .bf16) (bb w0 w1 w2 : FVec Ideal S1x1x512 .f32) (y : S256x512.Idx) :
    k0_pay1 (F := Ideal) (k0_pay10 v0 u x p q dn up bb w0 w1 w2) (k0_pay11 v0 x p q dn up bb w0 w1 w2) y
      = u y * k0_pay9 (F := Ideal) v0 x p q dn up bb w0 w1 w2 y * sig' (k0_pay9 (F := Ideal) v0 x p q dn up bb w0 w1 w2 y) := by
  have e : ∀ g : FVec Ideal S256x512 .f32, g = k0_pay9 (F := Ideal) v0 x p q dn up bb w0 w1 w2 →
      k0_pay1 (F := Ideal) (k0_pay10 v0 u x p q dn up bb w0 w1 w2) (k0_pay11 v0 x p q dn up bb w0 w1 w2) y = u y * g y * sig' (g y) := by
    intro g hg
    unfold k0_pay10 k0_pay11
    rw [← hg]
    pointwise [k0_pay1, sig']
  exact e _ rfl

set_option maxHeartbeats 1600000 in
theorem act_final (c : Dev nD) : (dats m 0 c).arrAt 6 (cfgs 0).N = act (xa m c) (wa m c) (ba m c) := by
  refine (dats m 0 c).arrAt_eq_of_covers 6 _ (by decide +kernel) fun t _ y => ?_
  obtain ⟨a, b, rfl⟩ : ∃ (a : Fin 256) (b : Fin 512), y = ix2 a b := ⟨y 0, y 1, eq_ix2 y⟩
  have ht := (idx t).2.2.2.2.2.2.2.2
  have hi := (idx t).2.2.2.2.2.2.2.1
  have hr : ((cfg0.win 6).blk t).view.emb (ix2 a b) = ix2 (row (kk t) a) (nn t b) := by
    unfold row kk nn; blk_ext! [idx t]
  rw [hr, after0_6]
  unfold_out out0_6
  frame_out
  simp only [cast_eq]
  refine (product _ _ _ _ _ _ _ _ _ _ _ (ix2 a b)).trans ?_
  exact congrArg₂ (fun u g : EReal => u * g * sig' g) (conv₀ (half₀ m c t b) (shifts m c t) (grid0.coords t) hi a)
    (conv₁ (half₁ m c t b) (shifts m c t) (grid0.coords t) hi a)

end

section

open Cert.MidReferenceIdeal Cert.MidReferenceIdeal.Read

variable (X : FVec Ideal S4096x11264 .bf16) (W : FVec Ideal S3x11264 .f32) (B : FVec Ideal S11264 .f32)

/-! The plain convolution's three terms, and its value. -/

theorem reference_below (r : Fin 4096) (j : Fin 11264) : val_main_v5 (F := Ideal) X (ix2 r j) = bel (fun r => X (ix2 r j)) r := by
  pointwise [val_main_v5, val_main_v2, val_main_v1, val_main_cst, val_main_v0]
  unfold bel
  by_cases h : r.val = 0
  · rw [dif_pos h, dif_pos (by omega)]
  · rw [dif_neg h, dif_neg (by omega), dif_pos (by omega)]

theorem reference_here (r : Fin 4096) (j : Fin 11264) : val_main_v13 (F := Ideal) X (ix2 r j) = X (ix2 r j) := by
  pointwise [val_main_v13, val_main_v2, val_main_v1, val_main_cst, val_main_v0]

theorem reference_above (r : Fin 4096) (j : Fin 11264) : val_main_v20 (F := Ideal) X (ix2 r j) = abv (fun r => X (ix2 r j)) r := by
  pointwise [val_main_v20, val_main_v2, val_main_v1, val_main_cst, val_main_v0]
  unfold abv
  rw [dif_neg (by omega)]
  by_cases h : r.val = 4095
  · rw [dif_pos h, dif_neg (by omega)]
  · rw [dif_neg h, dif_pos (by omega)]
    exact congrArg (fun s => X (ix2 s j)) (Fin.ext (by show 2 + r.val - 1 = r.val + 1; omega))

theorem reference_conv (r : Fin 4096) (j : Fin 11264) :
    val_main_v27 (F := Ideal) X W B (ix2 r j) = conv (fun k => W (ix2 k j)) (B (ix1 j)) (fun r => X (ix2 r j)) r := by
  pointwise [val_main_v27, val_main_v26, val_main_v25, val_main_v24, val_main_v23, val_main_v22, val_main_v21, val_main_v19, val_main_v18,
    val_main_v17, val_main_v16, val_main_v15, val_main_v14, val_main_v12, val_main_v11, val_main_v10, val_main_v9, val_main_cst_0,
    val_main_v8, val_main_v7, val_main_v6, val_main_v4, val_main_v3]
  simp only [ix2_0, ix2_1, reference_below, reference_here, reference_above]
  unfold conv
  rw [add_comm (G := EReal), ← add_assoc (G := EReal), ← add_assoc (G := EReal)]

theorem reference_linear (r : Fin 4096) (n : Fin 5632) : val_main_v28 (F := Ideal) X W B (ix2 r n) = cv X W B 0 n r := by
  have e : (⟨n.val, by omega⟩ : Fin 11264) = cc 0 n := Fin.ext (by show n.val = 0 * 5632 + n.val; omega)
  pointwise [val_main_v28]
  rw [e]
  exact reference_conv X W B r (cc 0 n)

theorem reference_gate (r : Fin 4096) (n : Fin 5632) : val_main_v29 (F := Ideal) X W B (ix2 r n) = cv X W B 1 n r := by
  have e : (⟨5632 + n.val, by omega⟩ : Fin 11264) = cc 1 n := Fin.ext (by show 5632 + n.val = 1 * 5632 + n.val; omega)
  pointwise [val_main_v29]
  rw [e]
  exact reference_conv X W B r (cc 1 n)

theorem reference_act : val_main_v32 (F := Ideal) X W B = act X W B := by
  funext y
  obtain ⟨r, n, rfl⟩ : ∃ (r : Fin 4096) (n : Fin 5632), y = ix2 r n := ⟨y 0, y 1, eq_ix2 y⟩
  pointwise [val_main_v32, val_main_v31, val_main_v30, val_main_call0_v5, val_main_call0_v4, val_main_call0_cst_0, val_main_call0_v3,
    val_main_call0_v2, val_main_call0_cst, val_main_call0_v1, val_main_call0_v0]
  simp only [ix2_0, ix2_1, reference_gate, reference_linear]
  unfold act sig'
  rw [← zero_sub, mul_comm, ← mul_assoc]
  rfl

end

theorem frame_reference : Cert.quiescent_MidReferenceIdeal := fun m ρ _ =>
  (θ_run Cert.MidReferenceIdeal.defs _ _).mono
    (fun r h => ⟨fun c => (h c).2, sem_eq_zero_of_no_sems (by decide) r.2⟩) (Cert.MidReferenceIdeal.Value.run m ρ)

theorem value : Cert.algebraic_MidKernelIdeal_MidReferenceIdeal := by
  pair_intro
  · run_from Cert.MidKernelIdeal.Gen.run_main m g & Cert.MidKernelIdeal.Gen.unchanged m g
  · run_from Cert.MidReferenceIdeal.Value.run m' g'
    · refine (Cert.MidReferenceIdeal.Read.val_main_v32_eq m' c).trans ?_
      obtain ⟨a0, a1, a2⟩ := hagree c
      rw [a0, a1, a2]
      exact (reference_act _ _ _).trans (act_final m c).symm

end Cert.MidMath

end
-- ==== Proof.GlufClaims.lean ====
/- The state space branch's gate: the activated sum of the two directions and the skip, times the logistic function of its own product. -/
module

public import proofs.«01_k».proof.Defs
public import proofs.«01_k».proof.Proof.Gen.GlufKernel.Frame
public import proofs.«01_k».proof.Proof.Gen.GlufKernelIdeal.Frame
public import proofs.«01_k».proof.Proof.Gen.GlufReferenceIdeal.Run
public import proofs.«01_k».proof.Proof.Gen.GlufReferenceIdeal.Read
public import proofs.«01_k».proof.Proof.Pieces
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlufMath

/-- The activation, -/
def gelu (x : EReal) : EReal :=
  Ideal.ofBits .f32 0x3F000000#32 * x * (1 + Ideal.tanh (Ideal.ofBits .f32 0x3F4C422A#32 * (x + Ideal.ofBits .f32 0x3D372713#32 * x * x * x)))

/-- the activated sum, -/
def act (u a b : FVec Ideal Cert.GlufKernelIdeal.S4096x1024 .f32) (d : FVec Ideal Cert.GlufKernelIdeal.S1024 .f32) (i : Fin 4096) (j : Fin 1024) : EReal :=
  gelu (d (ix1 j) * u (ix2 i j) + a (ix2 i j) + b (ix2 i j))

/-- and the gated result. -/
def out (u a b : FVec Ideal Cert.GlufKernelIdeal.S4096x1024 .f32) (d : FVec Ideal Cert.GlufKernelIdeal.S1024 .f32)
    (w : FVec Ideal Cert.GlufKernelIdeal.S1024x1024 .f32) : FVec Ideal Cert.GlufKernelIdeal.S4096x1024 .bf16 :=
  fun i => act u a b d (i 0) (i 1) * Ideal.div 1 (1 + Ideal.exp (0 - ∑ k : Fin 1024, act u a b d (i 0) k * w (ix2 k (i 1))))

section

open Cert.GlufKernelIdeal Cert.GlufKernelIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ t.val < 8 :=
  (by decide +kernel : ∀ t : Fin grid0.N, _)

/-- The skip's factors reach the call as one row, -/
theorem skip_row (c : Dev nD) (i : S1x1024.Idx) : V m c main_v1 i = m ((c : Thread nD τ).loc main_arg3) (ix1 (i 1)) := by
  simp only [V, List.flatten_cons, List.flatten_nil, List.append_nil]
  entry_read
  pointwise

/-- and the weight rounded, which over the reals changes nothing. -/
theorem weight (c : Dev nD) (i : S1024x1024.Idx) : V m c main_v0 i = m ((c : Thread nD τ).loc main_arg4) i := by
  simp only [V, List.flatten_cons, List.flatten_nil, List.append_nil]
  entry_read
  pointwise

/-- The row of a block. -/
def row (t : Fin cfg0.N) (a : Fin 512) : Fin 4096 := ⟨t.val * 512 + a.val, by have := (idx t).2.2.2.2.2.2; omega⟩

variable (c : Dev nD) (t : Fin cfg0.N)

/-! The blocks of a grid point. -/

theorem row_block (a : Fin 512) (b : Fin 1024) :
    (show FVec Ideal S512x1024 .f32 from iblk m c 0 t) (ix2 a b) = m ((c : Thread nD τ).loc main_arg0) (ix2 (row t a) b)
    ∧ (show FVec Ideal S512x1024 .f32 from iblk m c 1 t) (ix2 a b) = m ((c : Thread nD τ).loc main_arg1) (ix2 (row t a) b)
    ∧ (show FVec Ideal S512x1024 .f32 from iblk m c 2 t) (ix2 a b) = m ((c : Thread nD τ).loc main_arg2) (ix2 (row t a) b) := by
  unfold row
  refine ⟨?_, ?_, ?_⟩ <;> blk_point [iblk, V, idx t]

theorem skip_block (b : Fin 1024) : (show FVec Ideal S1x1024 .f32 from iblk m c 3 t) (ix2 0 b) = m ((c : Thread nD τ).loc main_arg3) (ix1 b) := by
  refine (skip_row m c _).trans ?_
  blk_point [idx t]

theorem weight_block (a b : Fin 1024) :
    (show FVec Ideal S1024x1024 .bf16 from iblk m c 4 t) (ix2 a b) = m ((c : Thread nD τ).loc main_arg4) (ix2 a b) := by
  refine (weight m c _).trans ?_
  blk_point [idx t]

/-- The body on its blocks. -/
theorem body (d : FVec Ideal S1x1024 .f32) (u a b : FVec Ideal S512x1024 .f32) (w : FVec Ideal S1024x1024 .bf16) (i : Fin 512) (j : Fin 1024)
    (z : Fin 1024 → EReal) (hz : ∀ k, gelu (d (ix2 0 k) * u (ix2 i k) + a (ix2 i k) + b (ix2 i k)) = z k) :
    k0_pay1 (F := Ideal) d u a b w (ix2 i j) = z j * Ideal.div 1 (1 + Ideal.exp (0 - ∑ k : Fin 1024, z k * w (ix2 k j))) := by
  simp only [← hz]
  pointwise [k0_pay1, gelu, Ideal.ofBits_one_f32]

theorem out_final : (dats m 0 c).arrAt 5 (cfgs 0).N
    = out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  obtain ⟨a, b, rfl⟩ : ∃ (a : Fin 512) (b : Fin 1024), y = ix2 a b := ⟨y 0, y 1, eq_ix2 y⟩
  have ht := (idx t).2.2.2.2.2.2
  have hr : ((cfg0.win 5).blk t).view.emb (ix2 a b) = ix2 (row t a) b := by
    unfold row; blk_ext! [idx t]
  rw [hr, after0_5]
  unfold out0_5
  frame_out
  refine (body _ _ _ _ _ a b (act (m ((c : Thread nD τ).loc main_arg0)) (m ((c : Thread nD τ).loc main_arg1))
    (m ((c : Thread nD τ).loc main_arg2)) (m ((c : Thread nD τ).loc main_arg3)) (row t a)) fun k => ?_).trans ?_
  · obtain ⟨e0, e1, e2⟩ := row_block m c t a k
    exact congrArg gelu (congrArg₂ (fun x y : EReal => x + y) (congrArg₂ (fun x y : EReal => x + y)
      (congrArg₂ (fun x y : EReal => x * y) (skip_block m c t k) e0) e1) e2)
  · exact congrArg (fun s : EReal => act (m ((c : Thread nD τ).loc main_arg0)) (m ((c : Thread nD τ).loc main_arg1))
      (m ((c : Thread nD τ).loc main_arg2)) (m ((c : Thread nD τ).loc main_arg3)) (row t a) b * Ideal.div 1 (1 + Ideal.exp (0 - s)))
      (Finset.sum_congr (M := EReal) rfl fun k _ => congrArg (fun x : EReal => _ * x) (weight_block m c t k b))

end

section

open Cert.GlufReferenceIdeal Cert.GlufReferenceIdeal.Read

variable (u a b : FVec Ideal S4096x1024 .f32) (d : FVec Ideal S1024 .f32) (w : FVec Ideal S1024x1024 .f32)

theorem reference_act (i : Fin 4096) (j : Fin 1024) : val_main_v17 (F := Ideal) u a b d (ix2 i j) = act u a b d i j := by
  pointwise [val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1,
    val_main_cst_2, Ideal.ofBits_one_f32]
  unfold act gelu
  generalize d (ix1 j) * u (ix2 i j) + a (ix2 i j) + b (ix2 i j) = x
  generalize Ideal.ofBits .f32 0x3D372713#32 = q
  have e : q * (x * x * x) = q * x * x * x := by simp only [mul_assoc]
  rw [e, ← mul_assoc, mul_comm x]

theorem reference_out : val_main_v26 (F := Ideal) u a b d w = out u a b d w := by
  funext y
  obtain ⟨i, j, rfl⟩ : ∃ (i : Fin 4096) (j : Fin 1024), y = ix2 i j := ⟨y 0, y 1, eq_ix2 y⟩
  pointwise [val_main_v26, val_main_v25, val_main_v24, val_main_v23, val_main_v22, val_main_v21, val_main_v20, val_main_v19, val_main_v18,
    val_main_cst_3, val_main_cst_4, Ideal.ofBits_one_f32, out]
  simp only [reference_act, zero_sub]

end

theorem frame_reference : Cert.quiescent_GlufReferenceIdeal := fun m ρ _ =>
  (θ_run Cert.GlufReferenceIdeal.defs _ _).mono
    (fun r h => ⟨fun c => (h c).2, sem_eq_zero_of_no_sems (by decide) r.2⟩) (Cert.GlufReferenceIdeal.Value.run m ρ)

theorem value : Cert.algebraic_GlufKernelIdeal_GlufReferenceIdeal := by
  pair_intro
  · run_from Cert.GlufKernelIdeal.Gen.run_main m g & Cert.GlufKernelIdeal.Gen.unchanged m g
  · run_from Cert.GlufReferenceIdeal.Value.run m' g'
    · refine (Cert.GlufReferenceIdeal.Read.val_main_v26_eq m' c).trans ?_
      obtain ⟨a0, a1, a2, a3, a4⟩ := hagree c
      rw [a0, a1, a2, a3, a4]
      exact (reference_out _ _ _ _ _).trans (out_final m c).symm

end Cert.GlufMath

end
-- ==== Proof.GluReal.lean ====
/- The gate's gradient over the real numbers: for one row, what the gate computes and what flows back through it. -/
module

public import proofs.«01_k».proof.Proof.Reals

@[expose] public section

noncomputable section

open Idealize.ShloMosaic

namespace Cert.GluMath

/-- The factor inside the activation's hyperbolic tangent, as the word that writes it. -/
def C : ℝ := 13386282 / 2 ^ 24

theorem ofBits_C : Ideal.ofBits .f32 0x3F4C422A#32 = ((C : ℝ) : EReal) := by
  unfold C
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem tanh_coe (x : ℝ) : Ideal.tanh (x : EReal) = ((Real.tanh x : ℝ) : EReal) := rfl

/-- The activation's hyperbolic tangent, -/
def th (x : ℝ) : ℝ := Real.tanh (C * (x + 8943 / 200000 * x * x * x))

/-- the activation, -/
def act (x : ℝ) : ℝ := 1 / 2 * x * (1 + th x)

/-- and its derivative. -/
def slope (x : ℝ) : ℝ := 1 / 2 * (1 + th x) + 1 / 2 * x * (1 - th x * th x) * C * (1 + 26829 / 200000 * x * x)

variable (w : Fin 1024 → Fin 1024 → ℝ) (p g : Fin 1024 → ℝ) (j : Fin 1024)

/-- The gate, -/
def gate : ℝ := 1 / (1 + Real.exp (-∑ k : Fin 1024, act (p k) * w k j))

/-- the gradient of the product inside it, -/
def inner : ℝ := g j * act (p j) * gate w p j * (1 - gate w p j)

/-- and the gradient of the activation's input. -/
def outer : ℝ := (g j * gate w p j + ∑ k : Fin 1024, inner w p g k * w j k) * slope (p j)

/-- The logistic function of a number written as a sum. -/
theorem gate_coe (x : ℝ) : Ideal.div ((1 : ℝ) : EReal) (((1 : ℝ) : EReal) + Ideal.exp (x : EReal)) = ((1 / (1 + Real.exp x) : ℝ) : EReal) := by
  rw [Cert.Reals.exp_coe, ← EReal.coe_add, Cert.Reals.div_coe_coe _ (by positivity)]

end Cert.GluMath

end
-- ==== Proof.GluValue.lean ====
/- What the gate's backward call leaves in its four result arrays for finite inputs: the gradient of the activation's input,
   the activation, the gradient of the gate's inner product, and the column sums that are the gradient of the skip's factors. -/
module

public import proofs.«01_k».proof.Proof.Gen.GluKernelIdeal.Frame
public import proofs.«01_k».proof.Proof.GluReal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GluMath

open Cert.GluKernelIdeal Cert.GluKernelIdeal.Gen

theorem table : κ "cubic" = some ((8943 / 200000 : ℝ) : EReal) ∧ κ "cubic3" = some ((26829 / 200000 : ℝ) : EReal) := ⟨rfl, rfl⟩

theorem cubic (b : BitVec FTy.f32.bits) : Named.named (F := Ideal) κ "cubic" b = ((8943 / 200000 : ℝ) : EReal) :=
  IdealRules.named_const.ideal_named_scalar _ _ b _ table.1

theorem cubic3 (b : BitVec FTy.f32.bits) : Named.named (F := Ideal) κ "cubic3" b = ((26829 / 200000 : ℝ) : EReal) :=
  IdealRules.named_const.ideal_named_scalar _ _ b _ table.2

/-! The body on a row of numbers. -/

section

variable (u a b : FVec Ideal S512x1024 .f32) (d : FVec Ideal S1x1024 .f32) (w : FVec Ideal S1024x1024 .bf16) (e : FVec Ideal S512x1024 .bf16)
  (i : Fin 512) (p g : Fin 1024 → ℝ) (q : Fin 1024 → Fin 1024 → ℝ)
  (hp : ∀ k, d (ix2 0 k) * u (ix2 i k) + a (ix2 i k) + b (ix2 i k) = (p k : EReal))
  (hw : ∀ k l, w (ix2 k l) = (q k l : EReal)) (hg : ∀ k, e (ix2 i k) = (g k : EReal)) (j : Fin 1024)
  (o : EReal) (ho : o = 1)

include hp

theorem body_pre : k0_pay3 (F := Ideal) u d a b (ix2 i j) = (p j : EReal) := by
  pointwise [k0_pay3]
  exact hp j

theorem body_act : k0_pay4 (F := Ideal) u d a b (ix2 i j) = (act (p j) : EReal) := by
  pointwise [k0_pay4]
  simp only [ix2_0, ix2_1, body_pre u a b d i p hp, cubic, ofBits_C, Cert.Reals.ofBits_half, Ideal.ofBits_one_f32, ← EReal.coe_one,
    ← EReal.coe_mul, ← EReal.coe_add, tanh_coe]
  rfl

include hw

theorem body_gate : k0_pay5 (F := Ideal) u d a b w (ix2 i j) = (gate q p j : EReal) := by
  pointwise [k0_pay5]
  simp only [ix2_0, ix2_1, body_act u a b d i p hp, hw, Ideal.ofBits_one_f32, ← EReal.coe_one, ← EReal.coe_mul, ← Cert.Reals.coe_sum,
    zero_sub, ← EReal.coe_neg, gate_coe]
  rfl

include hg

theorem body_scaled : k0_pay7 (F := Ideal) u d a b w e (ix2 i j) = ((g j * act (p j) * gate q p j : ℝ) : EReal) := by
  pointwise [k0_pay7, k0_pay6]
  simp only [ix2_0, ix2_1, body_act u a b d i p hp, body_gate u a b d w i p q hp hw, hg, ← EReal.coe_mul]

include ho

theorem body_inner : k0_pay8 (F := Ideal) (k0_pay5 u d a b w) (k0_pay7 u d a b w e) o (ix2 i j)
    = (inner q p g j : EReal) := by
  pointwise [k0_pay8]
  simp only [ix2_0, ix2_1, body_scaled u a b d w e i p g q hp hw hg, body_gate u a b d w i p q hp hw, ho, ← EReal.coe_one,
    ← EReal.coe_mul, ← EReal.coe_sub]
  rfl

theorem body_outer : k0_pay9 (F := Ideal) (k0_pay3 u d a b) (k0_pay5 u d a b w) (k0_pay6 e) (k0_pay7 u d a b w e)
    o w (ix2 i j) = (outer q p g j : EReal) := by
  pointwise [k0_pay9, k0_pay6]
  simp only [ix2_0, ix2_1, body_inner u a b d w e i p g q hp hw hg _ o ho, body_gate u a b d w i p q hp hw, body_pre u a b d i p hp, hw, hg,
    cubic, cubic3, ofBits_C, Cert.Reals.ofBits_half, Ideal.ofBits_one_f32, ← EReal.coe_one,
    ← EReal.coe_mul, ← Cert.Reals.coe_sum, ← EReal.coe_add, ← EReal.coe_sub, tanh_coe]
  rfl

end

theorem first_skip (u v : FVec Ideal S512x1024 .f32) (j : S1x1024.Idx) :
    k0_pay1 (F := Ideal) u v j = 0 + ∑ k : Fin 512, v (ix2 k (j 1)) * u (ix2 k (j 1)) := by
  pointwise [k0_pay1]

theorem step_skip (u v : FVec Ideal S512x1024 .f32) (acc : Vec Ideal S1x1024 .f32) (j : S1x1024.Idx) :
    k0_pay2 (F := Ideal) u v acc j = acc j + ∑ k : Fin 512, v (ix2 k (j 1)) * u (ix2 k (j 1)) := by
  pointwise [k0_pay2, k0_pay1]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![0, 0] ∧ t.val < 8 :=
  (by decide +kernel : ∀ t : Fin grid0.N, _)

theorem lt8 (t : Fin cfg0.N) : t.val < 8 := (idx t).2.2.2.2.2.2.2.2.2.2

/-- The skip's factors reach the call as one row, -/
theorem skip_row (c : Dev nD) (i : S1x1024.Idx) : V m c main_v3 i = m ((c : Thread nD τ).loc main_arg3) (ix1 (i 1)) := by
  simp only [V, V0, List.flatten_cons, List.flatten_nil, List.append_nil]
  entry_read
  pointwise []

/-- the weight rounded, which over the reals changes nothing, -/
theorem weight (c : Dev nD) (i : S1024x1024.Idx) : V m c main_v2 i = m ((c : Thread nD τ).loc main_arg4) i := by
  simp only [V, V0, List.flatten_cons, List.flatten_nil, List.append_nil]
  entry_read
  pointwise []

/-- and the cotangent as the left half of an array. -/
theorem cotangent (c : Dev nD) (i : S4096x2048.Idx) (h : (i 1).val < 1024) :
    V m c main_v1 i = m ((c : Thread nD τ).loc main_arg5) (ix2 (i 0) ⟨(i 1).val, h⟩) := by
  simp only [V, V0, List.flatten_cons, List.flatten_nil, List.append_nil]
  entry_read
  pointwise []
  simp only [dif_pos h]

/-- The row of a block. -/
def row (t : Fin cfg0.N) (a : Fin 512) : Fin 4096 := ⟨t.val * 512 + a.val, by have := lt8 t; omega⟩

variable (c : Dev nD) (t : Fin cfg0.N)

/-! The blocks of a grid point. -/

theorem row_block (a : Fin 512) (b : Fin 1024) :
    (show FVec Ideal S512x1024 .f32 from iblk m c 0 t) (ix2 a b) = m ((c : Thread nD τ).loc main_arg0) (ix2 (row t a) b)
    ∧ (show FVec Ideal S512x1024 .f32 from iblk m c 1 t) (ix2 a b) = m ((c : Thread nD τ).loc main_arg1) (ix2 (row t a) b)
    ∧ (show FVec Ideal S512x1024 .f32 from iblk m c 2 t) (ix2 a b) = m ((c : Thread nD τ).loc main_arg2) (ix2 (row t a) b) := by
  unfold row
  refine ⟨?_, ?_, ?_⟩ <;> blk_point [iblk, V, idx t]

theorem skip_block (b : Fin 1024) : (show FVec Ideal S1x1024 .f32 from iblk m c 3 t) (ix2 0 b) = m ((c : Thread nD τ).loc main_arg3) (ix1 b) := by
  refine (skip_row m c _).trans ?_
  blk_point [idx t]

theorem weight_block (a b : Fin 1024) :
    (show FVec Ideal S1024x1024 .bf16 from iblk m c 4 t) (ix2 a b) = m ((c : Thread nD τ).loc main_arg4) (ix2 a b) := by
  refine (weight m c _).trans ?_
  blk_point [idx t]

theorem cotangent_block (a : Fin 512) (b : Fin 1024) :
    (show FVec Ideal S512x1024 .bf16 from iblk m c 5 t) (ix2 a b) = m ((c : Thread nD τ).loc main_arg5) (ix2 (row t a) b) := by
  have e : ((cfg0.win 5).blk t).view.emb (ix2 a b) = ix2 (row t a) (⟨b.val, by omega⟩ : Fin 2048) := by
    unfold row; blk_ext! [idx t]
  refine (congrArg (V m c main_v1) e).trans ((cotangent m c _ ?_).trans ?_)
  · exact b.isLt
  · rfl

/-! The results. -/

section

variable (u a b : S4096x1024.Idx → ℝ) (d : S1024.Idx → ℝ) (w : S1024x1024.Idx → ℝ) (g : S4096x1024.Idx → ℝ)

/-- A row of what is activated, -/
def rowPre (i : Fin 4096) (k : Fin 1024) : ℝ := d (ix1 k) * u (ix2 i k) + a (ix2 i k) + b (ix2 i k)

/-- the gradient of the activation's input, -/
def outers : FVec Ideal S4096x1024 .f32 :=
  fun y => (outer (fun k l => w (ix2 k l)) (rowPre u a b d (y 0)) (fun k => g (ix2 (y 0) k)) (y 1) : EReal)

/-- the activation, -/
def acts : FVec Ideal S4096x1024 .bf16 := fun y => (act (rowPre u a b d (y 0) (y 1)) : EReal)

/-- the gradient of the gate's inner product, -/
def inners : FVec Ideal S4096x1024 .bf16 :=
  fun y => (inner (fun k l => w (ix2 k l)) (rowPre u a b d (y 0)) (fun k => g (ix2 (y 0) k)) (y 1) : EReal)

/-- and the gradient of the skip's factors. -/
def skips : FVec Ideal S1x1024 .f32 := fun y => ∑ i : Fin 4096, outers u a b d w g (ix2 i (y 1)) * (u (ix2 i (y 1)) : EReal)

variable (hu : m ((c : Thread nD τ).loc main_arg0) = fun i => (u i : EReal)) (ha : m ((c : Thread nD τ).loc main_arg1) = fun i => (a i : EReal))
  (hb : m ((c : Thread nD τ).loc main_arg2) = fun i => (b i : EReal)) (hd : m ((c : Thread nD τ).loc main_arg3) = fun i => (d i : EReal))
  (hw : m ((c : Thread nD τ).loc main_arg4) = fun i => (w i : EReal)) (hg : m ((c : Thread nD τ).loc main_arg5) = fun i => (g i : EReal))

include hu ha hb hd

theorem pre_block (i : Fin 512) (k : Fin 1024) :
    (show FVec Ideal S1x1024 .f32 from iblk m c 3 t) (ix2 0 k) * (show FVec Ideal S512x1024 .f32 from iblk m c 0 t) (ix2 i k)
      + (show FVec Ideal S512x1024 .f32 from iblk m c 1 t) (ix2 i k) + (show FVec Ideal S512x1024 .f32 from iblk m c 2 t) (ix2 i k)
      = (rowPre u a b d (row t i) k : EReal) := by
  obtain ⟨e0, e1, e2⟩ := row_block m c t i k
  have e3 := skip_block m c t k
  rw [e0, e1, e2, e3, hu, ha, hb, hd]
  unfold rowPre
  simp only [EReal.coe_mul, EReal.coe_add]

theorem act_block (i : Fin 512) (j : Fin 1024) :
    k0_pay4 (F := Ideal) (iblk m c 0 t) (iblk m c 3 t) (iblk m c 1 t) (iblk m c 2 t) (ix2 i j) = acts u a b d (ix2 (row t i) j) :=
  body_act _ _ _ _ i _ (pre_block m c t u a b d hu ha hb hd i) j

include hw hg

theorem inner_block (i : Fin 512) (j : Fin 1024) :
    k0_pay8 (F := Ideal) (k0_pay5 (iblk m c 0 t) (iblk m c 3 t) (iblk m c 1 t) (iblk m c 2 t) (iblk m c 4 t))
        (k0_pay7 (iblk m c 0 t) (iblk m c 3 t) (iblk m c 1 t) (iblk m c 2 t) (iblk m c 4 t) (iblk m c 5 t)) (Scalar.ofBits .f32 0x3F800000#32) (ix2 i j)
      = inners u a b d w g (ix2 (row t i) j) :=
  body_inner _ _ _ _ _ _ i _ _ _ (pre_block m c t u a b d hu ha hb hd i)
    (fun k l => (weight_block m c t k l).trans (congrFun hw _)) (fun k => (cotangent_block m c t i k).trans (congrFun hg _)) j _ Ideal.ofBits_one_f32

theorem outer_block (i : Fin 512) (j : Fin 1024) :
    k0_pay9 (F := Ideal) (k0_pay3 (iblk m c 0 t) (iblk m c 3 t) (iblk m c 1 t) (iblk m c 2 t))
        (k0_pay5 (iblk m c 0 t) (iblk m c 3 t) (iblk m c 1 t) (iblk m c 2 t) (iblk m c 4 t)) (k0_pay6 (iblk m c 5 t))
        (k0_pay7 (iblk m c 0 t) (iblk m c 3 t) (iblk m c 1 t) (iblk m c 2 t) (iblk m c 4 t) (iblk m c 5 t)) (Scalar.ofBits .f32 0x3F800000#32)
        (iblk m c 4 t) (ix2 i j)
      = outers u a b d w g (ix2 (row t i) j) :=
  body_outer _ _ _ _ _ _ i _ _ _ (pre_block m c t u a b d hu ha hb hd i)
    (fun k l => (weight_block m c t k l).trans (congrFun hw _)) (fun k => (cotangent_block m c t i k).trans (congrFun hg _)) j _ Ideal.ofBits_one_f32

theorem outer_final : (dats m 0 c).arrAt 6 (cfgs 0).N = outers u a b d w g := by
  refine (dats m 0 c).arrAt_eq_of_covers 6 _ (by decide +kernel) fun t _ y => ?_
  obtain ⟨i, j, rfl⟩ : ∃ (i : Fin 512) (j : Fin 1024), y = ix2 i j := ⟨y 0, y 1, eq_ix2 y⟩
  have ht := lt8 t
  have hr : ((cfg0.win 6).blk t).view.emb (ix2 i j) = ix2 (row t i) j := by
    unfold row; blk_ext! [idx t]
  rw [hr, after0_6]
  by_cases h1 : 1 ≤ t.val
  · rw [outsAt0_B m c t (by omega) h1]; frame_out
    exact outer_block m c t u a b d w g hu ha hb hd hw hg i j
  · rw [outsAt0_A m c t (by omega) h1]; frame_out
    exact outer_block m c t u a b d w g hu ha hb hd hw hg i j

theorem act_final : (dats m 0 c).arrAt 7 (cfgs 0).N = acts u a b d := by
  refine (dats m 0 c).arrAt_eq_of_covers 7 _ (by decide +kernel) fun t _ y => ?_
  obtain ⟨i, j, rfl⟩ : ∃ (i : Fin 512) (j : Fin 1024), y = ix2 i j := ⟨y 0, y 1, eq_ix2 y⟩
  have ht := lt8 t
  have hr : ((cfg0.win 7).blk t).view.emb (ix2 i j) = ix2 (row t i) j := by
    unfold row; blk_ext! [idx t]
  rw [hr, after0_7]
  by_cases h1 : 1 ≤ t.val
  · rw [outsAt0_B m c t (by omega) h1]; frame_out
    pointwise [k0_pay10]
    exact act_block m c t u a b d hu ha hb hd i j
  · rw [outsAt0_A m c t (by omega) h1]; frame_out
    pointwise [k0_pay10]
    exact act_block m c t u a b d hu ha hb hd i j

theorem inner_final : (dats m 0 c).arrAt 8 (cfgs 0).N = inners u a b d w g := by
  refine (dats m 0 c).arrAt_eq_of_covers 8 _ (by decide +kernel) fun t _ y => ?_
  obtain ⟨i, j, rfl⟩ : ∃ (i : Fin 512) (j : Fin 1024), y = ix2 i j := ⟨y 0, y 1, eq_ix2 y⟩
  have ht := lt8 t
  have hr : ((cfg0.win 8).blk t).view.emb (ix2 i j) = ix2 (row t i) j := by
    unfold row; blk_ext! [idx t]
  rw [hr, after0_8]
  by_cases h1 : 1 ≤ t.val
  · rw [outsAt0_B m c t (by omega) h1]; frame_out
    exact inner_block m c t u a b d w g hu ha hb hd hw hg i j
  · rw [outsAt0_A m c t (by omega) h1]; frame_out
    exact inner_block m c t u a b d w g hu ha hb hd hw hg i j

theorem skip_final : (dats m 0 c).arrAt 9 (cfgs 0).N = skips u a b d w g := by
  refine (dats m 0 c).arrAt_eq_of_after_last 9 t0_7 (by decide +kernel) _ fun j => ?_
  blk_simp
  rw [after0_9, Pipeline.eq_sum_fin_of_reset_step_apply_last (fun n h => (outsAt0 m c n h).2.2.2) 8 (fun _ => 0) _
    (fun t h j => by
      rw [outsAt0_A m c t h (by have := lt8 t; omega)]; frame_out; rw [first_skip])
    (fun t h j => by rw [outsAt0_B m c t h (by omega)]; frame_out; rw [step_skip])
    (le_of_eq N_0) t0_7 rfl j, zero_add]
  unfold skips
  refine Fin.sum_mul_add_congr fun t k hl => ?_
  exact congrArg₂ (fun x y : EReal => x * y) (outer_block m c t u a b d w g hu ha hb hd hw hg k (j 1))
    ((row_block m c t k (j 1)).1.trans (congrFun hu _))

end

end Cert.GluMath

end
-- ==== Proof.GluClaims.lean ====
/- The claims about the gate's backward call: both programs run without fault, and over the extended reals the call returns
   the gradients that differentiating the gated activation gives, for finite inputs. -/
module

public import proofs.«01_k».proof.Defs
public import proofs.«01_k».proof.Proof.Gen.GluKernel.Frame
public import proofs.«01_k».proof.Proof.Gen.GluKernelIdeal.Frame
public import proofs.«01_k».proof.Proof.Gen.GluReferenceIdeal.Frame
public import proofs.«01_k».proof.Proof.Gen.Pre_glu_finite
public import proofs.«01_k».proof.Proof.GluValue
public import proofs.«01_k».proof.Proof.Reals
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GluMath

section

open Cert.GluReferenceIdeal Cert.GluReferenceIdeal.Gen

/-- What the precondition says of the arrays it reads. -/
theorem of_finite (u a b : FVec Ideal S4096x1024 .f32) (d : FVec Ideal S1024 .f32) (w : FVec Ideal S1024x1024 .f32) (g : FVec Ideal S4096x1024 .bf16)
    (h : Cert.Pre_glu_finite.fn (F := Ideal) u a b d w g = fun _ => 1#1) :
    (∃ r : S4096x1024.Idx → ℝ, u = fun i => (r i : EReal)) ∧ (∃ r : S4096x1024.Idx → ℝ, a = fun i => (r i : EReal))
    ∧ (∃ r : S4096x1024.Idx → ℝ, b = fun i => (r i : EReal)) ∧ (∃ r : S1024.Idx → ℝ, d = fun i => (r i : EReal))
    ∧ (∃ r : S1024x1024.Idx → ℝ, w = fun i => (r i : EReal)) ∧ (∃ r : S4096x1024.Idx → ℝ, g = fun i => (r i : EReal)) := by
  have e := congrFun h (fun a => a.elim0)
  simp only [Cert.Pre_glu_finite.fn, Cert.Pre_glu_finite.fn_part1] at e
  obtain ⟨e, hg⟩ := Cert.Reals.of_andi e
  obtain ⟨e, hw⟩ := Cert.Reals.of_andi e
  obtain ⟨e, hd⟩ := Cert.Reals.of_andi e
  obtain ⟨e, hb⟩ := Cert.Reals.of_andi e
  obtain ⟨hu, ha⟩ := Cert.Reals.of_andi e
  exact ⟨Cert.Reals.finite_of_all u _ _ _ _ _ hu, Cert.Reals.finite_of_all a _ _ _ _ _ ha, Cert.Reals.finite_of_all b _ _ _ _ _ hb,
    Cert.Reals.finite_of_all d _ _ _ _ _ hd, Cert.Reals.finite_of_all w _ _ _ _ _ hw, Cert.Reals.finite16 g _ _ _ _ _ hg⟩

theorem table' : Cert.GluReferenceIdeal.κ "cubic" = some ((8943 / 200000 : ℝ) : EReal) := rfl

theorem cubic' (b : BitVec FTy.f32.bits) : Named.named (F := Ideal) Cert.GluReferenceIdeal.κ "cubic" b = ((8943 / 200000 : ℝ) : EReal) :=
  IdealRules.named_const.ideal_named_scalar _ _ b _ table'

/-! The differentiated lines on a row of numbers. -/

section

variable (u a b : FVec Ideal S4096x1024 .f32) (d : FVec Ideal S1x1024 .f32) (w : FVec Ideal S1024x1024 .f32) (e : FVec Ideal S4096x1024 .bf16)
  (i : Fin 4096) (p g : Fin 1024 → ℝ) (q : Fin 1024 → Fin 1024 → ℝ)
  (hp : ∀ k, d (ix2 0 k) * u (ix2 i k) + a (ix2 i k) + b (ix2 i k) = (p k : EReal))
  (hw : ∀ k l, w (ix2 k l) = (q k l : EReal)) (hg : ∀ k, e (ix2 i k) = (g k : EReal)) (j : Fin 1024)

include hp

theorem lines_pre : k0_pay6 (F := Ideal) u a b d (ix2 i j) = (p j : EReal) := by
  pointwise [k0_pay6]
  exact hp j

theorem lines_square : k0_pay7 (F := Ideal) u a b d (ix2 i j) = ((3 * (p j * p j) : ℝ) : EReal) := by
  pointwise [k0_pay7]
  simp only [ix2_0, ix2_1, lines_pre u a b d i p hp, ofBits_three, ← EReal.coe_mul]

theorem lines_th : k0_pay8 (F := Ideal) u a b d (ix2 i j) = (th (p j) : EReal) := by
  pointwise [k0_pay8]
  simp only [ix2_0, ix2_1, lines_pre u a b d i p hp, cubic', ofBits_C, ← EReal.coe_mul, ← EReal.coe_add, tanh_coe]
  refine congrArg (fun x : ℝ => (Real.tanh x : EReal)) ?_
  ring

theorem lines_below : k0_pay9 (F := Ideal) u a b d (ix2 i j) = (((1 + th (p j)) * (1 - th (p j)) : ℝ) : EReal) := by
  pointwise [k0_pay9]
  simp only [ix2_0, ix2_1, lines_th u a b d i p hp, Ideal.ofBits_one_f32, ← EReal.coe_one, ← EReal.coe_mul, ← EReal.coe_add, ← EReal.coe_sub]

theorem lines_half : k0_pay10 (F := Ideal) u a b d (ix2 i j) = ((1 / 2 * (1 + th (p j)) : ℝ) : EReal) := by
  pointwise [k0_pay10]
  simp only [ix2_0, ix2_1, lines_th u a b d i p hp, Ideal.ofBits_one_f32, Cert.Reals.ofBits_half, ← EReal.coe_one, ← EReal.coe_mul, ← EReal.coe_add]

theorem lines_act : k0_pay11 (F := Ideal) u a b d (ix2 i j) = (act (p j) : EReal) := by
  pointwise [k0_pay11]
  simp only [ix2_0, ix2_1, lines_pre u a b d i p hp, lines_half u a b d i p hp, ← EReal.coe_mul]
  refine congrArg (fun x : ℝ => (x : EReal)) ?_
  unfold act; ring

include hw

theorem lines_gate : k0_pay12 (F := Ideal) u a b d w (ix2 i j) = (gate q p j : EReal) := by
  pointwise [k0_pay12]
  simp only [Ideal.logistic, ix2_0, ix2_1, lines_act u a b d i p hp, hw, ← EReal.coe_mul, ← Cert.Reals.coe_sum, ← EReal.coe_one,
    ← EReal.coe_neg, gate_coe]
  rfl

theorem lines_spread : k0_pay13 (F := Ideal) u a b d w (ix2 i j) = ((gate q p j * (1 - gate q p j) : ℝ) : EReal) := by
  pointwise [k0_pay13]
  simp only [ix2_0, ix2_1, lines_gate u a b d w i p q hp hw, Ideal.ofBits_one_f32, ← EReal.coe_one, ← EReal.coe_mul, ← EReal.coe_sub]

include hg

theorem lines_scaled : k0_pay15 (F := Ideal) u a b d e (ix2 i j) = ((act (p j) * g j : ℝ) : EReal) := by
  pointwise [k0_pay15, k0_pay14]
  simp only [ix2_0, ix2_1, lines_act u a b d i p hp, hg, ← EReal.coe_mul]

theorem lines_inner : k0_pay1 (F := Ideal) (k0_pay13 u a b d w) (k0_pay15 u a b d e) (ix2 i j) = (inner q p g j : EReal) := by
  pointwise [k0_pay1]
  simp only [ix2_0, ix2_1, lines_scaled u a b d w e i p g q hp hw hg, lines_spread u a b d w i p q hp hw, ← EReal.coe_mul]
  refine congrArg (fun x : ℝ => (x : EReal)) ?_
  unfold inner; ring

theorem lines_outer : k0_pay2 (F := Ideal) w (k0_pay6 u a b d) (k0_pay7 u a b d) (k0_pay9 u a b d) (k0_pay10 u a b d) (k0_pay12 u a b d w)
    (k0_pay13 u a b d w) (k0_pay14 e) (k0_pay15 u a b d e) (ix2 i j) = (outer q p g j : EReal) := by
  pointwise [k0_pay2, k0_pay14]
  simp only [ix2_0, ix2_1, lines_inner u a b d w e i p g q hp hw hg, lines_gate u a b d w i p q hp hw, lines_pre u a b d i p hp,
    lines_square u a b d i p hp, lines_below u a b d i p hp, lines_half u a b d i p hp, hw, hg,
    cubic', ofBits_C, Cert.Reals.ofBits_half, ← EReal.coe_mul, ← Cert.Reals.coe_sum, ← EReal.coe_add]
  refine congrArg (fun x : ℝ => (x : EReal)) ?_
  unfold outer slope; ring

end

theorem lines_skip (u : FVec Ideal S4096x1024 .f32) (w : FVec Ideal S1024x1024 .f32) (x₁ x₂ x₃ x₄ x₅ x₆ x₇ x₈ : FVec Ideal S4096x1024 .f32)
    (j : S1x1024.Idx) : k0_pay3 (F := Ideal) u w x₁ x₂ x₃ x₄ x₅ x₆ x₇ x₈ j
      = ∑ k : Fin 4096, k0_pay2 (F := Ideal) w x₁ x₂ x₃ x₄ x₅ x₆ x₇ x₈ (ix2 k (j 1)) * u (ix2 k (j 1)) := by
  pointwise [k0_pay3]

variable (m : (ℓ : Loc nD τ sig) → Buf (Elt Ideal) ℓ)

theorem idx' : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ t.val < 1 :=
  (by decide +kernel : ∀ t : Fin grid0.N, _)

theorem skip_row' (c : Dev nD) (i : S1x1024.Idx) : V m c main_v0 i = m ((c : Thread nD τ).loc main_arg3) (ix1 (i 1)) := by
  simp only [V, V0, List.flatten_cons, List.flatten_nil, List.append_nil]
  entry_read
  pointwise []

variable (c : Dev nD) (t : Fin cfg0.N)

theorem rows_whole (i : Fin 4096) (k : Fin 1024) :
    (show FVec Ideal S4096x1024 .f32 from iblk m c 0 t) (ix2 i k) = m ((c : Thread nD τ).loc main_arg0) (ix2 i k)
    ∧ (show FVec Ideal S4096x1024 .f32 from iblk m c 1 t) (ix2 i k) = m ((c : Thread nD τ).loc main_arg1) (ix2 i k)
    ∧ (show FVec Ideal S4096x1024 .f32 from iblk m c 2 t) (ix2 i k) = m ((c : Thread nD τ).loc main_arg2) (ix2 i k)
    ∧ (show FVec Ideal S4096x1024 .bf16 from iblk m c 5 t) (ix2 i k) = m ((c : Thread nD τ).loc main_arg5) (ix2 i k) := by
  refine ⟨?_, ?_, ?_, ?_⟩ <;> blk_point [iblk, V, idx' t]

theorem skip_whole (b : Fin 1024) : (show FVec Ideal S1x1024 .f32 from iblk m c 3 t) (ix2 0 b) = m ((c : Thread nD τ).loc main_arg3) (ix1 b) := by
  refine (skip_row' m c _).trans ?_
  blk_point [idx' t]

theorem weight_whole (a b : Fin 1024) :
    (show FVec Ideal S1024x1024 .f32 from iblk m c 4 t) (ix2 a b) = m ((c : Thread nD τ).loc main_arg4) (ix2 a b) := by
  blk_point [iblk, V, idx' t]

section

variable (u a b : S4096x1024.Idx → ℝ) (d : S1024.Idx → ℝ) (w : S1024x1024.Idx → ℝ) (g : S4096x1024.Idx → ℝ)
  (hu : m ((c : Thread nD τ).loc main_arg0) = fun i => (u i : EReal)) (ha : m ((c : Thread nD τ).loc main_arg1) = fun i => (a i : EReal))
  (hb : m ((c : Thread nD τ).loc main_arg2) = fun i => (b i : EReal)) (hd : m ((c : Thread nD τ).loc main_arg3) = fun i => (d i : EReal))
  (hw : m ((c : Thread nD τ).loc main_arg4) = fun i => (w i : EReal)) (hg : m ((c : Thread nD τ).loc main_arg5) = fun i => (g i : EReal))

include hu ha hb hd

theorem pre_whole (i : Fin 4096) (k : Fin 1024) :
    (show FVec Ideal S1x1024 .f32 from iblk m c 3 t) (ix2 0 k) * (show FVec Ideal S4096x1024 .f32 from iblk m c 0 t) (ix2 i k)
      + (show FVec Ideal S4096x1024 .f32 from iblk m c 1 t) (ix2 i k) + (show FVec Ideal S4096x1024 .f32 from iblk m c 2 t) (ix2 i k)
      = (rowPre u a b d i k : EReal) := by
  obtain ⟨e0, e1, e2, _⟩ := rows_whole m c t i k
  have e3 := skip_whole m c t k
  rw [e0, e1, e2, e3, hu, ha, hb, hd]
  unfold rowPre
  simp only [EReal.coe_mul, EReal.coe_add]

theorem act_lines : (dats m 0 c).arrAt 7 (cfgs 0).N = acts u a b d := by
  refine (dats m 0 c).arrAt_eq_of_covers 7 _ (by decide +kernel) fun t _ y => ?_
  obtain ⟨i, j, rfl⟩ : ∃ (i : Fin 4096) (j : Fin 1024), y = ix2 i j := ⟨y 0, y 1, eq_ix2 y⟩
  have hr : ((cfg0.win 7).blk t).view.emb (ix2 i j) = ix2 i j := by blk_ext! [idx' t]
  rw [hr, after0_7]
  unfold_out out0_7
  frame_out
  pointwise [k0_pay4]
  exact lines_act _ _ _ _ i _ (pre_whole m c t u a b d hu ha hb hd i) j

include hw hg

theorem outer_whole (i : Fin 4096) (j : Fin 1024) :
    k0_pay2 (F := Ideal) (iblk m c 4 t) (k0_pay6 (iblk m c 0 t) (iblk m c 1 t) (iblk m c 2 t) (iblk m c 3 t))
        (k0_pay7 (iblk m c 0 t) (iblk m c 1 t) (iblk m c 2 t) (iblk m c 3 t)) (k0_pay9 (iblk m c 0 t) (iblk m c 1 t) (iblk m c 2 t) (iblk m c 3 t))
        (k0_pay10 (iblk m c 0 t) (iblk m c 1 t) (iblk m c 2 t) (iblk m c 3 t))
        (k0_pay12 (iblk m c 0 t) (iblk m c 1 t) (iblk m c 2 t) (iblk m c 3 t) (iblk m c 4 t))
        (k0_pay13 (iblk m c 0 t) (iblk m c 1 t) (iblk m c 2 t) (iblk m c 3 t) (iblk m c 4 t)) (k0_pay14 (iblk m c 5 t))
        (k0_pay15 (iblk m c 0 t) (iblk m c 1 t) (iblk m c 2 t) (iblk m c 3 t) (iblk m c 5 t)) (ix2 i j)
      = outers u a b d w g (ix2 i j) :=
  lines_outer _ _ _ _ _ _ i _ _ _ (pre_whole m c t u a b d hu ha hb hd i)
    (fun k l => (weight_whole m c t k l).trans (congrFun hw _)) (fun k => (rows_whole m c t i k).2.2.2.trans (congrFun hg _)) j

theorem outer_lines : (dats m 0 c).arrAt 6 (cfgs 0).N = outers u a b d w g := by
  refine (dats m 0 c).arrAt_eq_of_covers 6 _ (by decide +kernel) fun t _ y => ?_
  obtain ⟨i, j, rfl⟩ : ∃ (i : Fin 4096) (j : Fin 1024), y = ix2 i j := ⟨y 0, y 1, eq_ix2 y⟩
  have hr : ((cfg0.win 6).blk t).view.emb (ix2 i j) = ix2 i j := by blk_ext! [idx' t]
  rw [hr, after0_6]
  unfold_out out0_6
  frame_out
  exact outer_whole m c t u a b d w g hu ha hb hd hw hg i j

theorem inner_lines : (dats m 0 c).arrAt 8 (cfgs 0).N = inners u a b d w g := by
  refine (dats m 0 c).arrAt_eq_of_covers 8 _ (by decide +kernel) fun t _ y => ?_
  obtain ⟨i, j, rfl⟩ : ∃ (i : Fin 4096) (j : Fin 1024), y = ix2 i j := ⟨y 0, y 1, eq_ix2 y⟩
  have hr : ((cfg0.win 8).blk t).view.emb (ix2 i j) = ix2 i j := by blk_ext! [idx' t]
  rw [hr, after0_8]
  unfold_out out0_8
  frame_out
  pointwise [k0_pay5]
  exact lines_inner _ _ _ _ _ _ i _ _ _ (pre_whole m c t u a b d hu ha hb hd i)
    (fun k l => (weight_whole m c t k l).trans (congrFun hw _)) (fun k => (rows_whole m c t i k).2.2.2.trans (congrFun hg _)) j

theorem skip_lines : (dats m 0 c).arrAt 9 (cfgs 0).N = skips u a b d w g := by
  refine (dats m 0 c).arrAt_eq_of_covers 9 _ (by decide +kernel) fun t _ y => ?_
  obtain ⟨j, rfl⟩ : ∃ j : Fin 1024, y = ix2 0 j := ⟨y 1, (eq_ix2 y).trans (congrArg (fun i => ix2 i (y 1)) (Subsingleton.elim (α := Fin 1) _ _))⟩
  have hr : ((cfg0.win 9).blk t).view.emb (ix2 0 j) = ix2 0 j := by blk_ext! [idx' t]
  rw [hr, after0_9]
  unfold_out out0_9
  frame_out
  rw [lines_skip]
  unfold skips
  refine Finset.sum_congr (M := EReal) rfl fun k _ => ?_
  exact congrArg₂ (fun x y : EReal => x * y) (outer_whole m c t u a b d w g hu ha hb hd hw hg k j)
    ((rows_whole m c t k j).1.trans (congrFun hu _))

end

/-- The column sums leave the program as a vector. -/
theorem skip_result' : Pipeline.afterTail₀ cfgs (dats m) 0 (V0 m) [hostOps1] c main_v2
    = fun j => (dats m 0 c).arrAt 9 (cfgs 0).N (ix2 0 (j 0) : S1x1024.Idx) := by
  funext j
  unfold Pipeline.afterTail₀
  simp only [List.flatten_cons, List.flatten_nil, List.append_nil]
  entry_read
  rw [show Pipeline.withArrays (cfgs 0).spec c (V0 m c) (fun w => (dats m 0 c).arrAt w (cfgs 0).N) (Proc.tc.devRef main_v1_3)
      = (dats m 0 c).arrAt 9 (cfgs 0).N
    from Pipeline.withArrays_arr spec0 (by decide) c (V0 m c) (fun w => (dats m 0 c).arrAt w (cfgs 0).N) 9]
  pointwise []

end

section

open Cert.GluKernelIdeal Cert.GluKernelIdeal.Gen

variable (m : (ℓ : Loc nD τ sig) → Buf (Elt Ideal) ℓ) (c : Dev nD)

theorem skip_result : Pipeline.afterTail₀ cfgs (dats m) 0 (V0 m) [hostOps1] c main_v5
    = fun j => (dats m 0 c).arrAt 9 (cfgs 0).N (ix2 0 (j 0) : S1x1024.Idx) := by
  funext j
  unfold Pipeline.afterTail₀
  simp only [List.flatten_cons, List.flatten_nil, List.append_nil]
  entry_read
  rw [show Pipeline.withArrays (cfgs 0).spec c (V0 m c) (fun w => (dats m 0 c).arrAt w (cfgs 0).N) (Proc.tc.devRef main_v4_3)
      = (dats m 0 c).arrAt 9 (cfgs 0).N
    from Pipeline.withArrays_arr spec0 (by decide) c (V0 m c) (fun w => (dats m 0 c).arrAt w (cfgs 0).N) 9]
  pointwise []

end

theorem frame_reference : Cert.quiescent_GluReferenceIdeal := fun m ρ _ => Cert.GluReferenceIdeal.Gen.frame m ρ

theorem preserves : Cert.preserves_GluKernel_GluKernelIdeal :=
  ⟨IdealRules.named_const.statement _ _ _ _ _ table.1, IdealRules.named_const.statement _ _ _ _ _ table.2⟩

/-- The four results of the two programs agree. -/
theorem agree (m : (ℓ : Loc Cert.GluKernelIdeal.nD Cert.GluKernelIdeal.τ Cert.GluKernelIdeal.sig) → Buf (Elt Ideal) ℓ)
    (m' : (ℓ : Loc Cert.GluReferenceIdeal.nD Cert.GluReferenceIdeal.τ Cert.GluReferenceIdeal.sig) → Buf (Elt Ideal) ℓ)
    (hpre : Cert.Pre_GluKernelIdeal_glu_finite m) (c : Dev Cert.GluKernelIdeal.nD)
    (h0 : m' (c.tc.loc Cert.GluReferenceIdeal.main_arg0) = m (c.tc.loc Cert.GluKernelIdeal.main_arg0))
    (h1 : m' (c.tc.loc Cert.GluReferenceIdeal.main_arg1) = m (c.tc.loc Cert.GluKernelIdeal.main_arg1))
    (h2 : m' (c.tc.loc Cert.GluReferenceIdeal.main_arg2) = m (c.tc.loc Cert.GluKernelIdeal.main_arg2))
    (h3 : m' (c.tc.loc Cert.GluReferenceIdeal.main_arg3) = m (c.tc.loc Cert.GluKernelIdeal.main_arg3))
    (h4 : m' (c.tc.loc Cert.GluReferenceIdeal.main_arg4) = m (c.tc.loc Cert.GluKernelIdeal.main_arg4))
    (h5 : m' (c.tc.loc Cert.GluReferenceIdeal.main_arg5) = m (c.tc.loc Cert.GluKernelIdeal.main_arg5)) :
    (Cert.GluReferenceIdeal.Gen.dats m' 0 c).arrAt 6 (Cert.GluReferenceIdeal.cfgs 0).N
        = (Cert.GluKernelIdeal.Gen.dats m 0 c).arrAt 6 (Cert.GluKernelIdeal.cfgs 0).N
    ∧ (Cert.GluReferenceIdeal.Gen.dats m' 0 c).arrAt 7 (Cert.GluReferenceIdeal.cfgs 0).N
        = (Cert.GluKernelIdeal.Gen.dats m 0 c).arrAt 7 (Cert.GluKernelIdeal.cfgs 0).N
    ∧ (Cert.GluReferenceIdeal.Gen.dats m' 0 c).arrAt 8 (Cert.GluReferenceIdeal.cfgs 0).N
        = (Cert.GluKernelIdeal.Gen.dats m 0 c).arrAt 8 (Cert.GluKernelIdeal.cfgs 0).N
    ∧ (Cert.GluReferenceIdeal.Gen.dats m' 0 c).arrAt 9 (Cert.GluReferenceIdeal.cfgs 0).N
        = (Cert.GluKernelIdeal.Gen.dats m 0 c).arrAt 9 (Cert.GluKernelIdeal.cfgs 0).N := by
  obtain ⟨⟨u, hu⟩, ⟨a, ha⟩, ⟨b, hb⟩, ⟨d, hd⟩, ⟨w, hw⟩, ⟨g, hg⟩⟩ := of_finite _ _ _ _ _ _ (hpre c)
  exact ⟨(outer_lines m' c u a b d w g (h0.trans hu) (h1.trans ha) (h2.trans hb) (h3.trans hd) (h4.trans hw) (h5.trans hg)).trans
      (outer_final m c u a b d w g hu ha hb hd hw hg).symm,
    (act_lines m' c u a b d (h0.trans hu) (h1.trans ha) (h2.trans hb) (h3.trans hd)).trans (act_final m c u a b d w g hu ha hb hd hw hg).symm,
    (inner_lines m' c u a b d w g (h0.trans hu) (h1.trans ha) (h2.trans hb) (h3.trans hd) (h4.trans hw) (h5.trans hg)).trans
      (inner_final m c u a b d w g hu ha hb hd hw hg).symm,
    (skip_lines m' c u a b d w g (h0.trans hu) (h1.trans ha) (h2.trans hb) (h3.trans hd) (h4.trans hw) (h5.trans hg)).trans
      (skip_final m c u a b d w g hu ha hb hd hw hg).symm⟩

theorem value : Cert.algebraic_GluKernelIdeal_GluReferenceIdeal_pre_glu_finite := by
  pair_intro
  · run_from Cert.GluKernelIdeal.Gen.run_main m g & Cert.GluKernelIdeal.Gen.unchanged m g
  · run_from Cert.GluReferenceIdeal.Gen.run_main m' g' & Cert.GluReferenceIdeal.Gen.unchanged m' g' <;>
      obtain ⟨h0, h1, h2, h3, h4, h5⟩ := hagree c <;> obtain ⟨e6, e7, e8, e9⟩ := agree m m' hpre c h0 h1 h2 h3 h4 h5
    · exact e6
    · exact e7
    · exact e8
    · refine (skip_result' m' c).trans (Eq.trans ?_ (skip_result m c).symm)
      exact funext fun j => congrFun e9 (ix2 0 (j 0))

end Cert.GluMath

end
-- ==== Proof.DnClaims.lean ====
/- A plain product: the feed-forward layer's down projection. -/
module

public import proofs.«01_k».proof.Defs
public import proofs.«01_k».proof.Proof.Gen.DnKernel.Frame
public import proofs.«01_k».proof.Proof.Gen.DnKernelIdeal.Frame
public import proofs.«01_k».proof.Proof.Gen.DnReferenceIdeal.Run
public import proofs.«01_k».proof.Proof.Gen.DnReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DnMath

/-- Rows times columns. -/
def out (x : FVec Ideal Cert.DnKernelIdeal.S4096x5632 .bf16) (w : FVec Ideal Cert.DnKernelIdeal.S5632x2048 .f32) :
    FVec Ideal Cert.DnKernelIdeal.S4096x2048 .bf16 :=
  fun i => ∑ k : Fin 5632, x (ix2 (i 0) k) * w (ix2 k (i 1))

section

open Cert.DnKernelIdeal Cert.DnKernelIdeal.Gen

variable (m : (ℓ : Loc nD τ sig) → Buf (Elt Ideal) ℓ)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The weight reaches the call rounded, which over the reals changes nothing. -/
theorem weight (c : Dev nD) (i : S5632x2048.Idx) : V m c main_v0 i = m ((c : Thread nD τ).loc main_arg1) i := by
  simp only [V, List.flatten_cons, List.flatten_nil, List.append_nil]
  entry_read
  pointwise

theorem out_final (c : Dev nD) : (dats m 0 c).arrAt 2 (cfgs 0).N
    = out (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  pointwise [k0_pay1, out]
  refine Finset.sum_congr (M := EReal) rfl fun k _ => ?_
  blk_simp [iblk, idx t]
  rw [weight]
  blk_point [iblk, V, idx t]

end

theorem reference_out (x : FVec Ideal Cert.DnReferenceIdeal.S4096x5632 .bf16) (w : FVec Ideal Cert.DnReferenceIdeal.S5632x2048 .f32) :
    Cert.DnReferenceIdeal.Read.val_main_v2 (F := Ideal) x w = out x w := by
  funext i
  pointwise [Cert.DnReferenceIdeal.Read.val_main_v2, Cert.DnReferenceIdeal.Read.val_main_v1, Cert.DnReferenceIdeal.Read.val_main_v0, out]

theorem frame_reference : Cert.quiescent_DnReferenceIdeal := fun m ρ _ =>
  (θ_run Cert.DnReferenceIdeal.defs _ _).mono
    (fun r h => ⟨fun c => (h c).2, sem_eq_zero_of_no_sems (by decide) r.2⟩) (Cert.DnReferenceIdeal.Value.run m ρ)

theorem value : Cert.algebraic_DnKernelIdeal_DnReferenceIdeal := by
  pair_intro
  · run_from Cert.DnKernelIdeal.Gen.run_main m g & Cert.DnKernelIdeal.Gen.unchanged m g
  · run_from Cert.DnReferenceIdeal.Value.run m' g'
    · exact (Cert.DnReferenceIdeal.Read.val_main_v2_eq _ _).trans ((reference_out _ _).trans (out_final m c).symm)

end Cert.DnMath

end
-- ==== Proof.DnxClaims.lean ====
/- A plain product with the second factor transposed: the gradient of the down projection's input. -/
module

public import proofs.«01_k».proof.Defs
public import proofs.«01_k».proof.Proof.Gen.DnxKernel.Frame
public import proofs.«01_k».proof.Proof.Gen.DnxKernelIdeal.Frame
public import proofs.«01_k».proof.Proof.Gen.DnxReferenceIdeal.Run
public import proofs.«01_k».proof.Proof.Gen.DnxReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DnxMath

/-- Rows times rows. -/
def out (x : FVec Ideal Cert.DnxKernelIdeal.S4096x2048 .bf16) (w : FVec Ideal Cert.DnxKernelIdeal.S5632x2048 .f32) :
    FVec Ideal Cert.DnxKernelIdeal.S4096x5632 .bf16 :=
  fun i => ∑ k : Fin 2048, x (ix2 (i 0) k) * w (ix2 (i 1) k)

section

open Cert.DnxKernelIdeal Cert.DnxKernelIdeal.Gen

variable (m : (ℓ : Loc nD τ sig) → Buf (Elt Ideal) ℓ)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- The weight reaches the call rounded, which over the reals changes nothing. -/
theorem weight (c : Dev nD) (i : S5632x2048.Idx) : V m c main_v0 i = m ((c : Thread nD τ).loc main_arg1) i := by
  simp only [V, List.flatten_cons, List.flatten_nil, List.append_nil]
  entry_read
  pointwise

theorem out_final (c : Dev nD) : (dats m 0 c).arrAt 2 (cfgs 0).N
    = out (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  pointwise [k0_pay1, out]
  refine Finset.sum_congr (M := EReal) rfl fun k _ => ?_
  blk_simp [iblk, idx t]
  rw [weight]
  blk_point [iblk, V, idx t]

end

theorem reference_out (x : FVec Ideal Cert.DnxReferenceIdeal.S4096x2048 .bf16) (w : FVec Ideal Cert.DnxReferenceIdeal.S5632x2048 .f32) :
    Cert.DnxReferenceIdeal.Read.val_main_v4 (F := Ideal) x w = out x w := by
  funext i
  pointwise [Cert.DnxReferenceIdeal.Read.val_main_v4, Cert.DnxReferenceIdeal.Read.val_main_v3, Cert.DnxReferenceIdeal.Read.val_main_v2, Cert.DnxReferenceIdeal.Read.val_main_v1, Cert.DnxReferenceIdeal.Read.val_main_v0, out]

theorem frame_reference : Cert.quiescent_DnxReferenceIdeal := fun m ρ _ =>
  (θ_run Cert.DnxReferenceIdeal.defs _ _).mono
    (fun r h => ⟨fun c => (h c).2, sem_eq_zero_of_no_sems (by decide) r.2⟩) (Cert.DnxReferenceIdeal.Value.run m ρ)

theorem value : Cert.algebraic_DnxKernelIdeal_DnxReferenceIdeal := by
  pair_intro
  · run_from Cert.DnxKernelIdeal.Gen.run_main m g & Cert.DnxKernelIdeal.Gen.unchanged m g
  · run_from Cert.DnxReferenceIdeal.Value.run m' g'
    · exact (Cert.DnxReferenceIdeal.Read.val_main_v4_eq _ _).trans ((reference_out _ _).trans (out_final m c).symm)

end Cert.DnxMath

end
-- ==== Proof.DnwClaims.lean ====
/- A plain product with the first factor transposed: the gradient of the down projection's weight. -/
module

public import proofs.«01_k».proof.Defs
public import proofs.«01_k».proof.Proof.Gen.DnwKernel.Frame
public import proofs.«01_k».proof.Proof.Gen.DnwKernelIdeal.Frame
public import proofs.«01_k».proof.Proof.Gen.DnwReferenceIdeal.Run
public import proofs.«01_k».proof.Proof.Gen.DnwReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DnwMath

/-- Columns times columns. -/
def out (x : FVec Ideal Cert.DnwKernelIdeal.S4096x5632 .bf16) (w : FVec Ideal Cert.DnwKernelIdeal.S4096x2048 .bf16) :
    FVec Ideal Cert.DnwKernelIdeal.S5632x2048 .bf16 :=
  fun i => ∑ k : Fin 4096, x (ix2 k (i 0)) * w (ix2 k (i 1))

section

open Cert.DnwKernelIdeal Cert.DnwKernelIdeal.Gen

variable (m : (ℓ : Loc nD τ sig) → Buf (Elt Ideal) ℓ)

theorem idx : ∀ t : Fin cfg0.N, win0_0.index t = ![0, t.val / 4] ∧ win0_1.index t = ![0, t.val % 4] ∧ win0_2.index t = ![t.val / 4, t.val % 4] :=
  (by decide +kernel : ∀ t : Fin grid0.N, _)

theorem out_final (c : Dev nD) : (dats m 0 c).arrAt 2 (cfgs 0).N
    = out (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  pointwise [k0_pay1, out]
  refine Finset.sum_congr (M := EReal) rfl fun k _ => ?_
  blk_simp [iblk, idx t]

  blk_point [iblk, V, idx t]

end

theorem reference_out (x : FVec Ideal Cert.DnwReferenceIdeal.S4096x5632 .bf16) (w : FVec Ideal Cert.DnwReferenceIdeal.S4096x2048 .bf16) :
    Cert.DnwReferenceIdeal.Read.val_main_v6 (F := Ideal) x w = out x w := by
  funext i
  pointwise [Cert.DnwReferenceIdeal.Read.val_main_v6, Cert.DnwReferenceIdeal.Read.val_main_v5, Cert.DnwReferenceIdeal.Read.val_main_v4, Cert.DnwReferenceIdeal.Read.val_main_v3, Cert.DnwReferenceIdeal.Read.val_main_v2, Cert.DnwReferenceIdeal.Read.val_main_v1, Cert.DnwReferenceIdeal.Read.val_main_v0, out]
  exact Finset.sum_congr (M := EReal) rfl fun k _ => mul_comm _ _

theorem frame_reference : Cert.quiescent_DnwReferenceIdeal := fun m ρ _ =>
  (θ_run Cert.DnwReferenceIdeal.defs _ _).mono
    (fun r h => ⟨fun c => (h c).2, sem_eq_zero_of_no_sems (by decide) r.2⟩) (Cert.DnwReferenceIdeal.Value.run m ρ)

theorem value : Cert.algebraic_DnwKernelIdeal_DnwReferenceIdeal := by
  pair_intro
  · run_from Cert.DnwKernelIdeal.Gen.run_main m g & Cert.DnwKernelIdeal.Gen.unchanged m g
  · run_from Cert.DnwReferenceIdeal.Value.run m' g'
    · exact (Cert.DnwReferenceIdeal.Read.val_main_v6_eq _ _).trans ((reference_out _ _).trans (out_final m c).symm)

end Cert.DnwMath

end
-- ==== Proof.UpfClaims.lean ====
/- The feed-forward layer's up projection, whose weight comes in the devices' pieces. -/
module

public import proofs.«01_k».proof.Defs
public import proofs.«01_k».proof.Proof.Gen.UpfKernel.Frame
public import proofs.«01_k».proof.Proof.Gen.UpfKernelIdeal.Frame
public import proofs.«01_k».proof.Proof.Gen.UpfReferenceIdeal.Run
public import proofs.«01_k».proof.Proof.Gen.UpfReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpfMath

section

open Cert.UpfKernelIdeal Cert.UpfKernelIdeal.Gen

/-- Rows times columns, the columns in two halves. -/
def out (x : FVec Ideal S4096x2048 .bf16) (w : FVec Ideal S2048x11264 .f32) : FVec Ideal S2x4096x5632 .bf16 :=
  fun i => ∑ k : Fin 2048, x (ix2 (i 1) k) * w (ix2 k ⟨(i 0).val * 5632 + (i 2).val, by have h0 : (i 0).val < 2 := (i 0).isLt; have h2 : (i 2).val < 5632 := (i 2).isLt; omega⟩)

variable (m : (ℓ : Loc nD τ sig) → Buf (Elt Ideal) ℓ)

theorem idx : ∀ t : Fin cfg0.N, win0_0.index t = ![t.val / 8, 0] ∧ win0_1.index t = ![t.val % 8 / 2, 0, t.val % 2] ∧ win0_2.index t = ![t.val % 8 / 4, t.val / 8, t.val % 4] :=
  (by decide +kernel : ∀ t : Fin grid0.N, _)

/-- The weight's pieces. -/
theorem array (c : Dev nD) (y : S4x2048x2816.Idx) : V m c main_v2 y
    = m ((c : Thread nD τ).loc main_arg1) (ix2 (y 1) ⟨(y 0).val * 2816 + (y 2).val, by have h0 : (y 0).val < 4 := (y 0).isLt; have h2 : (y 2).val < 2816 := (y 2).isLt; omega⟩) := by
  simp only [V, List.flatten_cons, List.flatten_nil, List.append_nil, List.cons_append, List.nil_append]
  entry_read
  pointwise []

theorem out_final (c : Dev nD) : (dats m 0 c).arrAt 2 (cfgs 0).N
    = out (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  pointwise [k0_pay1, out]
  refine Finset.sum_congr (M := EReal) rfl fun k _ => ?_
  blk_simp [iblk, idx t]
  rw [array]
  blk_point [iblk, V, idx t]

end

theorem reference_out (x : FVec Ideal Cert.UpfReferenceIdeal.S4096x2048 .bf16) (w : FVec Ideal Cert.UpfReferenceIdeal.S2048x11264 .f32) :
    Cert.UpfReferenceIdeal.Read.val_main_v4 (F := Ideal) x w = out x w := by
  funext i
  pointwise [Cert.UpfReferenceIdeal.Read.val_main_v4, Cert.UpfReferenceIdeal.Read.val_main_v3, Cert.UpfReferenceIdeal.Read.val_main_v2, Cert.UpfReferenceIdeal.Read.val_main_v1, Cert.UpfReferenceIdeal.Read.val_main_v0, out]

theorem frame_reference : Cert.quiescent_UpfReferenceIdeal := fun m ρ _ =>
  (θ_run Cert.UpfReferenceIdeal.defs _ _).mono
    (fun r h => ⟨fun c => (h c).2, sem_eq_zero_of_no_sems (by decide) r.2⟩) (Cert.UpfReferenceIdeal.Value.run m ρ)

theorem value : Cert.algebraic_UpfKernelIdeal_UpfReferenceIdeal := by
  pair_intro
  · run_from Cert.UpfKernelIdeal.Gen.run_main m g & Cert.UpfKernelIdeal.Gen.unchanged m g
  · run_from Cert.UpfReferenceIdeal.Value.run m' g'
    · exact (Cert.UpfReferenceIdeal.Read.val_main_v4_eq _ _).trans ((reference_out _ _).trans (out_final m c).symm)

end Cert.UpfMath

end
-- ==== Proof.UpwClaims.lean ====
/- The gradient of the up projection's weight, in the devices' pieces. -/
module

public import proofs.«01_k».proof.Defs
public import proofs.«01_k».proof.Proof.Gen.UpwKernel.Frame
public import proofs.«01_k».proof.Proof.Gen.UpwKernelIdeal.Frame
public import proofs.«01_k».proof.Proof.Gen.UpwReferenceIdeal.Run
public import proofs.«01_k».proof.Proof.Gen.UpwReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpwMath

section

open Cert.UpwKernelIdeal Cert.UpwKernelIdeal.Gen

/-- Columns times columns, the second factor's in four pieces. -/
def out (x : FVec Ideal S4096x2048 .bf16) (w : FVec Ideal S4096x11264 .bf16) : FVec Ideal S4x2048x2816 .bf16 :=
  fun i => ∑ k : Fin 4096, x (ix2 k (i 1)) * w (ix2 k ⟨(i 0).val * 2816 + (i 2).val, by have h0 : (i 0).val < 4 := (i 0).isLt; have h2 : (i 2).val < 2816 := (i 2).isLt; omega⟩)

variable (m : (ℓ : Loc nD τ sig) → Buf (Elt Ideal) ℓ)

theorem idx : ∀ t : Fin cfg0.N, win0_0.index t = ![0, t.val / 8] ∧ win0_1.index t = ![t.val % 8 / 4, 0, t.val % 4] ∧ win0_2.index t = ![t.val % 8 / 2, t.val / 8, t.val % 2] :=
  (by decide +kernel : ∀ t : Fin grid0.N, _)

/-- The two halves of the columns. -/
theorem array (c : Dev nD) (y : S2x4096x5632.Idx) : V m c main_v1 y
    = m ((c : Thread nD τ).loc main_arg1) (ix2 (y 1) ⟨(y 0).val * 5632 + (y 2).val, by have h0 : (y 0).val < 2 := (y 0).isLt; have h2 : (y 2).val < 5632 := (y 2).isLt; omega⟩) := by
  simp only [V, List.flatten_cons, List.flatten_nil, List.append_nil, List.cons_append, List.nil_append]
  entry_read
  pointwise []

theorem out_final (c : Dev nD) : (dats m 0 c).arrAt 2 (cfgs 0).N
    = out (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  pointwise [k0_pay1, out]
  refine Finset.sum_congr (M := EReal) rfl fun k _ => ?_
  blk_simp [iblk, idx t]
  rw [array]
  blk_point [iblk, V, idx t]

end

theorem reference_out (x : FVec Ideal Cert.UpwReferenceIdeal.S4096x2048 .bf16) (w : FVec Ideal Cert.UpwReferenceIdeal.S4096x11264 .bf16) :
    Cert.UpwReferenceIdeal.Read.val_main_v8 (F := Ideal) x w = out x w := by
  funext i
  pointwise [Cert.UpwReferenceIdeal.Read.val_main_v8, Cert.UpwReferenceIdeal.Read.val_main_v7, Cert.UpwReferenceIdeal.Read.val_main_v6, Cert.UpwReferenceIdeal.Read.val_main_v5, Cert.UpwReferenceIdeal.Read.val_main_v4, Cert.UpwReferenceIdeal.Read.val_main_v3, Cert.UpwReferenceIdeal.Read.val_main_v2, Cert.UpwReferenceIdeal.Read.val_main_v1, Cert.UpwReferenceIdeal.Read.val_main_v0, out]
  exact Finset.sum_congr (M := EReal) rfl fun k _ => mul_comm _ _

theorem frame_reference : Cert.quiescent_UpwReferenceIdeal := fun m ρ _ =>
  (θ_run Cert.UpwReferenceIdeal.defs _ _).mono
    (fun r h => ⟨fun c => (h c).2, sem_eq_zero_of_no_sems (by decide) r.2⟩) (Cert.UpwReferenceIdeal.Value.run m ρ)

theorem value : Cert.algebraic_UpwKernelIdeal_UpwReferenceIdeal := by
  pair_intro
  · run_from Cert.UpwKernelIdeal.Gen.run_main m g & Cert.UpwKernelIdeal.Gen.unchanged m g
  · run_from Cert.UpwReferenceIdeal.Value.run m' g'
    · exact (Cert.UpwReferenceIdeal.Read.val_main_v8_eq _ _).trans ((reference_out _ _).trans (out_final m c).symm)

end Cert.UpwMath

end
-- ==== Proof.UpxClaims.lean ====
/- The gradient of the up projection's input, added up over the devices' pieces. -/
module

public import proofs.«01_k».proof.Defs
public import proofs.«01_k».proof.Proof.Gen.UpxKernel.Frame
public import proofs.«01_k».proof.Proof.Gen.UpxKernelIdeal.Frame
public import proofs.«01_k».proof.Proof.Gen.UpxReferenceIdeal.Run
public import proofs.«01_k».proof.Proof.Gen.UpxReferenceIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpxMath

section

open Cert.UpxKernelIdeal Cert.UpxKernelIdeal.Gen

/-- One piece's part of an entry. -/
def term (x : FVec Ideal S4096x11264 .bf16) (w : FVec Ideal S2048x11264 .f32) (R : Fin 4096) (C : Fin 2048) (p : Fin 4) : EReal :=
  ∑ l : Fin 2816, x (ix2 R ⟨p.val * 2816 + l.val, by omega⟩) * w (ix2 C ⟨p.val * 2816 + l.val, by omega⟩)

/-- Rows times rows. -/
def out (x : FVec Ideal S4096x11264 .bf16) (w : FVec Ideal S2048x11264 .f32) : FVec Ideal S4096x2048 .bf16 :=
  fun i => ∑ k : Fin 11264, x (ix2 (i 0) k) * w (ix2 (i 1) k)

theorem out_eq (x : FVec Ideal S4096x11264 .bf16) (w : FVec Ideal S2048x11264 .f32) (R : Fin 4096) (C : Fin 2048) :
    out x w (ix2 R C) = ((term x w R C 0 + term x w R C 1) + term x w R C 2) + term x w R C 3 := by
  rw [← Fin.sum_univ_four (fun p => term x w R C p)]
  exact (Fin.sum_mul_add_congr fun p l hl => rfl).symm

variable (m : (ℓ : Loc nD τ sig) → Buf (Elt Ideal) ℓ)

theorem idx : ∀ t : Fin cfg0.N, win0_0.index t = ![t.val % 4 / 2, t.val / 8, t.val % 2] ∧ win0_1.index t = ![t.val % 4, t.val % 8 / 4, 0]
    ∧ win0_2.index t = ![t.val / 8, t.val % 8 / 4] :=
  (by decide +kernel : ∀ t : Fin grid0.N, _)

theorem lt32 (t : Fin cfg0.N) : t.val < 32 := lt_of_lt_of_eq t.isLt (show cfg0.N = 32 from N_0)

/-- The two halves of the columns. -/
theorem rows (c : Dev nD) (y : S2x4096x5632.Idx) : V m c main_v1 y
    = m ((c : Thread nD τ).loc main_arg0) (ix2 (y 1) ⟨(y 0).val * 5632 + (y 2).val, by have h0 : (y 0).val < 2 := (y 0).isLt; have h2 : (y 2).val < 5632 := (y 2).isLt; omega⟩) := by
  simp only [V, List.flatten_cons, List.flatten_nil, List.append_nil, List.cons_append, List.nil_append]
  entry_read
  pointwise []

/-- The weight's pieces. -/
theorem weight (c : Dev nD) (y : S4x2048x2816.Idx) : V m c main_v4 y
    = m ((c : Thread nD τ).loc main_arg1) (ix2 (y 1) ⟨(y 0).val * 2816 + (y 2).val, by have h0 : (y 0).val < 4 := (y 0).isLt; have h2 : (y 2).val < 2816 := (y 2).isLt; omega⟩) := by
  simp only [V, List.flatten_cons, List.flatten_nil, List.append_nil, List.cons_append, List.nil_append]
  entry_read
  pointwise []

/-- What one point of the grid adds. -/
theorem part (c : Dev nD) (t : Fin cfg0.N) (i j : Fin 1024) (R : Fin 4096) (C : Fin 2048) (p : Fin 4)
    (hR : R.val = t.val / 8 * 1024 + i.val) (hC : C.val = t.val % 8 / 4 * 1024 + j.val) (hp : p.val = t.val % 4) :
    k0_pay1 (F := Ideal) (iblk m c 0 t) (iblk m c 1 t) (ix2 i j)
      = term (m ((c : Thread nD τ).loc main_arg0)) (m ((c : Thread nD τ).loc main_arg1)) R C p := by
  have ht := lt32 t
  pointwise [k0_pay1, term]
  refine Finset.sum_congr (M := EReal) rfl fun k _ => ?_
  blk_simp [iblk, idx t]
  rw [rows, weight]
  blk_point [idx t]

theorem first (a b : Vec Ideal S1x1024x2816 .bf16) (y : S1024x1024.Idx) : k0_pay2 a b y = k0_pay1 a b y := by
  pointwise [k0_pay2]

theorem next (a b : Vec Ideal S1x1024x2816 .bf16) (s : Vec Ideal S1024x1024 .f32) (y : S1024x1024.Idx) :
    k0_pay3 a b s y = s y + k0_pay1 a b y := by
  pointwise [k0_pay3]

theorem last (s : Vec Ideal S1024x1024 .f32) (y : S1024x1024.Idx) : k0_pay4 s y = s y := by
  pointwise [k0_pay4]

theorem acc_A (c : Dev nD) (t : Fin cfg0.N) (h : t.val % 4 = 0) (y : S1024x1024.Idx) :
    (outsAt0 m c t.val t.isLt).2 y = k0_pay1 (F := Ideal) (iblk m c 0 t) (iblk m c 1 t) y := by
  rw [outsAt0_A m c t h (by omega) (by omega)]; frame_out; rw [first]

theorem acc_B (c : Dev nD) (t : Fin cfg0.N) (h : ¬t.val % 4 = 0) (h3 : ¬t.val % 4 = 3) (y : S1024x1024.Idx) :
    (outsAt0 m c t.val t.isLt).2 y = (outsAt0 m c (t.val - 1) (Nat.lt_of_le_of_lt (Nat.sub_le _ _) t.isLt)).2 y
      + k0_pay1 (F := Ideal) (iblk m c 0 t) (iblk m c 1 t) y := by
  rw [outsAt0_B m c t h (by omega) h3]; frame_out; rw [next]
  rw [read_unread_whole]

theorem out_C (c : Dev nD) (t : Fin cfg0.N) (h3 : t.val % 4 = 3) (y : S1024x1024.Idx) :
    (outsAt0 m c t.val t.isLt).1 y = (outsAt0 m c (t.val - 1) (Nat.lt_of_le_of_lt (Nat.sub_le _ _) t.isLt)).2 y
      + k0_pay1 (F := Ideal) (iblk m c 0 t) (iblk m c 1 t) y := by
  rw [outsAt0_C m c t (by omega) (by omega) h3]; frame_out; rw [last, next]
  rw [read_unread_whole]

theorem block (c : Dev nD) (t : Fin cfg0.N) (h3 : t.val % 4 = 3) (i j : Fin 1024) (R : Fin 4096) (C : Fin 2048)
    (hR : R.val = t.val / 8 * 1024 + i.val) (hC : C.val = t.val % 8 / 4 * 1024 + j.val) :
    (outsAt0 m c t.val t.isLt).1 (ix2 i j)
      = out (m ((c : Thread nD τ).loc main_arg0)) (m ((c : Thread nD τ).loc main_arg1)) (ix2 R C) := by
  obtain ⟨n, hn⟩ := t
  obtain ⟨q, rfl⟩ : ∃ q, n = q + 1 + 1 + 1 := ⟨n - 3, by simp only at h3; omega⟩
  simp only at h3 hR hC
  have h0 : q < cfg0.N := by omega
  have h1 : q + 1 < cfg0.N := by omega
  have h2 : q + 1 + 1 < cfg0.N := by omega
  rw [out_eq, out_C m c ⟨q + 1 + 1 + 1, hn⟩ h3,
    part m c ⟨q + 1 + 1 + 1, hn⟩ i j R C 3 hR hC (by show 3 = _; simp only; omega)]
  refine congrArg (· + _) ((acc_B m c ⟨q + 1 + 1, h2⟩ (by simp only; omega) (by simp only; omega) (ix2 i j)).trans ?_)
  rw [part m c ⟨q + 1 + 1, h2⟩ i j R C 2 (by simp only; omega) (by simp only; omega) (by show 2 = _; simp only; omega)]
  refine congrArg (· + _) ((acc_B m c ⟨q + 1, h1⟩ (by simp only; omega) (by simp only; omega) (ix2 i j)).trans ?_)
  rw [part m c ⟨q + 1, h1⟩ i j R C 1 (by simp only; omega) (by simp only; omega) (by show 1 = _; simp only; omega)]
  refine congrArg (· + _) ((acc_A m c ⟨q, h0⟩ (by simp only; omega) (ix2 i j)).trans ?_)
  exact part m c ⟨q, h0⟩ i j R C 0 (by simp only; omega) (by simp only; omega) (by show 0 = _; simp only; omega)

theorem out_final (c : Dev nD) : (dats m 0 c).arrAt 2 (cfgs 0).N
    = out (m ((c : Thread nD τ).loc main_arg0)) (m ((c : Thread nD τ).loc main_arg1)) := by
  refine (dats m 0 c).arrAt_eq_of_covers 2 _ (by decide +kernel) fun t hf y => ?_
  have ht := lt32 t
  have h3 : t.val % 4 = 3 := (by decide +kernel : ∀ t : Fin cfg0.N, (cfg0.win 2).flush t = true → t.val % 4 = 3) t hf
  obtain ⟨i, j, rfl⟩ : ∃ (i : Fin 1024) (j : Fin 1024), y = ix2 i j := ⟨y 0, y 1, eq_ix2 y⟩
  have hr : ((cfg0.win 2).blk t).view.emb (ix2 i j)
      = ix2 (⟨t.val / 8 * 1024 + i.val, by omega⟩ : Fin 4096) (⟨t.val % 8 / 4 * 1024 + j.val, by omega⟩ : Fin 2048) := by
    blk_ext! [idx t]
  rw [hr]
  blk_simp
  rw [after0_2]
  exact block m c t h3 i j _ _ rfl rfl

end

theorem reference_out (x : FVec Ideal Cert.UpxReferenceIdeal.S4096x11264 .bf16) (w : FVec Ideal Cert.UpxReferenceIdeal.S2048x11264 .f32) :
    Cert.UpxReferenceIdeal.Read.val_main_v4 (F := Ideal) x w = out x w := by
  funext i
  pointwise [Cert.UpxReferenceIdeal.Read.val_main_v4, Cert.UpxReferenceIdeal.Read.val_main_v3, Cert.UpxReferenceIdeal.Read.val_main_v2, Cert.UpxReferenceIdeal.Read.val_main_v1, Cert.UpxReferenceIdeal.Read.val_main_v0, out]

theorem frame_reference : Cert.quiescent_UpxReferenceIdeal := fun m ρ _ =>
  (θ_run Cert.UpxReferenceIdeal.defs _ _).mono
    (fun r h => ⟨fun c => (h c).2, sem_eq_zero_of_no_sems (by decide) r.2⟩) (Cert.UpxReferenceIdeal.Value.run m ρ)

theorem value : Cert.algebraic_UpxKernelIdeal_UpxReferenceIdeal := by
  pair_intro
  · run_from Cert.UpxKernelIdeal.Gen.run_main m g & Cert.UpxKernelIdeal.Gen.unchanged m g
  · run_from Cert.UpxReferenceIdeal.Value.run m' g'
    · exact (Cert.UpxReferenceIdeal.Read.val_main_v4_eq _ _).trans ((reference_out _ _).trans (out_final m c).symm)

end Cert.UpxMath

end
-- ==== Proof.InxClaims.lean ====
/- The gradient of the mixer's input, added up over the four projections. -/
module

public import proofs.«01_k».proof.Defs
public import proofs.«01_k».proof.Proof.Gen.InxKernel.Frame
public import proofs.«01_k».proof.Proof.Gen.InxKernelIdeal.Frame
public import proofs.«01_k».proof.Proof.Gen.InxReferenceIdeal.Run
public import proofs.«01_k».proof.Proof.Gen.InxReferenceIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InxMath

section

open Cert.InxKernelIdeal Cert.InxKernelIdeal.Gen

/-- One projection's part of an entry. -/
def term (x : FVec Ideal S4096x1024 .bf16) (w : FVec Ideal S2048x4096 .f32) (R : Fin 4096) (C : Fin 2048) (p : Fin 4) : EReal :=
  ∑ l : Fin 1024, x (ix2 R l) * w (ix2 C ⟨p.val * 1024 + l.val, by omega⟩)

/-- The four parts. -/
def out (x0 x1 x2 x3 : FVec Ideal S4096x1024 .bf16) (w : FVec Ideal S2048x4096 .f32) : FVec Ideal S4096x2048 .bf16 :=
  fun i => ((term x0 w (i 0) (i 1) 0 + term x1 w (i 0) (i 1) 1) + term x2 w (i 0) (i 1) 2) + term x3 w (i 0) (i 1) 3

/-- The product of two blocks. -/
def dot (a : Vec Ideal S1024x1024 .bf16) (b : Vec Ideal S1x1024x1024 .bf16) (i j : Fin 1024) : EReal :=
  ∑ k : Fin 1024, a (ix2 i k) * b (ix3 0 j k)

variable (m : (ℓ : Loc nD τ sig) → Buf (Elt Ideal) ℓ)

theorem idx : ∀ t : Fin cfg0.N, win0_0.index t = ![t.val / 8, 0] ∧ win0_1.index t = ![t.val / 8, 0] ∧ win0_2.index t = ![t.val / 8, 0]
    ∧ win0_3.index t = ![t.val / 8, 0] ∧ win0_4.index t = ![t.val % 4, t.val % 8 / 4, 0] ∧ win0_5.index t = ![t.val / 8, t.val % 8 / 4] :=
  (by decide +kernel : ∀ t : Fin grid0.N, _)

theorem lt32 (t : Fin cfg0.N) : t.val < 32 := lt_of_lt_of_eq t.isLt (show cfg0.N = 32 from N_0)

/-- The weight's pieces. -/
theorem weight (c : Dev nD) (y : S4x2048x1024.Idx) : V m c main_v2 y
    = m ((c : Thread nD τ).loc main_arg4) (ix2 (y 1) ⟨(y 0).val * 1024 + (y 2).val, by have h0 : (y 0).val < 4 := (y 0).isLt; have h2 : (y 2).val < 1024 := (y 2).isLt; omega⟩) := by
  simp only [V, List.flatten_cons, List.flatten_nil, List.append_nil, List.cons_append, List.nil_append]
  entry_read
  pointwise []

theorem part0 (c : Dev nD) (t : Fin cfg0.N) (h : t.val % 4 = 0) (i j : Fin 1024) (R : Fin 4096) (C : Fin 2048)
    (hR : R.val = t.val / 8 * 1024 + i.val) (hC : C.val = t.val % 8 / 4 * 1024 + j.val) :
    dot (iblk m c 0 t) (iblk m c 4 t) i j
      = term (m ((c : Thread nD τ).loc main_arg0)) (m ((c : Thread nD τ).loc main_arg4)) R C 0 := by
  have ht := lt32 t
  unfold dot term
  refine Finset.sum_congr (M := EReal) rfl fun k _ => ?_
  blk_simp [iblk, idx t]
  rw [weight]
  blk_point [V, idx t]

theorem part1 (c : Dev nD) (t : Fin cfg0.N) (h : t.val % 4 = 1) (i j : Fin 1024) (R : Fin 4096) (C : Fin 2048)
    (hR : R.val = t.val / 8 * 1024 + i.val) (hC : C.val = t.val % 8 / 4 * 1024 + j.val) :
    dot (iblk m c 1 t) (iblk m c 4 t) i j
      = term (m ((c : Thread nD τ).loc main_arg1)) (m ((c : Thread nD τ).loc main_arg4)) R C 1 := by
  have ht := lt32 t
  unfold dot term
  refine Finset.sum_congr (M := EReal) rfl fun k _ => ?_
  blk_simp [iblk, idx t]
  rw [weight]
  blk_point [V, idx t]

theorem part2 (c : Dev nD) (t : Fin cfg0.N) (h : t.val % 4 = 2) (i j : Fin 1024) (R : Fin 4096) (C : Fin 2048)
    (hR : R.val = t.val / 8 * 1024 + i.val) (hC : C.val = t.val % 8 / 4 * 1024 + j.val) :
    dot (iblk m c 2 t) (iblk m c 4 t) i j
      = term (m ((c : Thread nD τ).loc main_arg2)) (m ((c : Thread nD τ).loc main_arg4)) R C 2 := by
  have ht := lt32 t
  unfold dot term
  refine Finset.sum_congr (M := EReal) rfl fun k _ => ?_
  blk_simp [iblk, idx t]
  rw [weight]
  blk_point [V, idx t]

theorem part3 (c : Dev nD) (t : Fin cfg0.N) (h : t.val % 4 = 3) (i j : Fin 1024) (R : Fin 4096) (C : Fin 2048)
    (hR : R.val = t.val / 8 * 1024 + i.val) (hC : C.val = t.val % 8 / 4 * 1024 + j.val) :
    dot (iblk m c 3 t) (iblk m c 4 t) i j
      = term (m ((c : Thread nD τ).loc main_arg3)) (m ((c : Thread nD τ).loc main_arg4)) R C 3 := by
  have ht := lt32 t
  unfold dot term
  refine Finset.sum_congr (M := EReal) rfl fun k _ => ?_
  blk_simp [iblk, idx t]
  rw [weight]
  blk_point [V, idx t]

theorem pay1 (a : Vec Ideal S1024x1024 .bf16) (b : Vec Ideal S1x1024x1024 .bf16) (i j : Fin 1024) : k0_pay1 a b (ix2 i j) = dot a b i j := by
  pointwise [k0_pay1, dot]

theorem pay2 (a : Vec Ideal S1024x1024 .bf16) (b : Vec Ideal S1x1024x1024 .bf16) (s : Vec Ideal S1024x1024 .f32) (i j : Fin 1024) :
    k0_pay2 a b s (ix2 i j) = s (ix2 i j) + dot a b i j := by
  pointwise [k0_pay2, dot]

theorem pay3 (a : Vec Ideal S1024x1024 .bf16) (b : Vec Ideal S1x1024x1024 .bf16) (s : Vec Ideal S1024x1024 .f32) (i j : Fin 1024) :
    k0_pay3 a b s (ix2 i j) = s (ix2 i j) + dot a b i j := by
  pointwise [k0_pay3, dot]

theorem pay4 (a : Vec Ideal S1024x1024 .bf16) (b : Vec Ideal S1x1024x1024 .bf16) (s : Vec Ideal S1024x1024 .f32) (i j : Fin 1024) :
    k0_pay4 a b s (ix2 i j) = s (ix2 i j) + dot a b i j := by
  pointwise [k0_pay4, dot]

theorem pay5 (s : Vec Ideal S1024x1024 .f32) (y : S1024x1024.Idx) : k0_pay5 s y = s y := by
  pointwise [k0_pay5]

theorem acc_A (c : Dev nD) (t : Fin cfg0.N) (h : t.val % 4 = 0) (i j : Fin 1024) :
    (outsAt0 m c t.val t.isLt).2 (ix2 i j) = dot (iblk m c 0 t) (iblk m c 4 t) i j := by
  rw [outsAt0_A m c t h (by omega) (by omega) (by omega) (by omega)]; frame_out; rw [pay1]

theorem acc_B (c : Dev nD) (t : Fin cfg0.N) (h : t.val % 4 = 1) (i j : Fin 1024) :
    (outsAt0 m c t.val t.isLt).2 (ix2 i j) = (outsAt0 m c (t.val - 1) (Nat.lt_of_le_of_lt (Nat.sub_le _ _) t.isLt)).2 (ix2 i j)
      + dot (iblk m c 1 t) (iblk m c 4 t) i j := by
  rw [outsAt0_B m c t (by omega) h (by omega) (by omega) (by omega)]; frame_out; rw [pay2, read_unread_whole]

theorem acc_C (c : Dev nD) (t : Fin cfg0.N) (h : t.val % 4 = 2) (i j : Fin 1024) :
    (outsAt0 m c t.val t.isLt).2 (ix2 i j) = (outsAt0 m c (t.val - 1) (Nat.lt_of_le_of_lt (Nat.sub_le _ _) t.isLt)).2 (ix2 i j)
      + dot (iblk m c 2 t) (iblk m c 4 t) i j := by
  rw [outsAt0_C m c t (by omega) (by omega) h (by omega) (by omega)]; frame_out; rw [pay3, read_unread_whole]

theorem out_D (c : Dev nD) (t : Fin cfg0.N) (h : t.val % 4 = 3) (i j : Fin 1024) :
    (outsAt0 m c t.val t.isLt).1 (ix2 i j) = (outsAt0 m c (t.val - 1) (Nat.lt_of_le_of_lt (Nat.sub_le _ _) t.isLt)).2 (ix2 i j)
      + dot (iblk m c 3 t) (iblk m c 4 t) i j := by
  rw [outsAt0_D m c t (by omega) (by omega) (by omega) h h]; frame_out; rw [pay5, pay4, read_unread_whole]

theorem block (c : Dev nD) (t : Fin cfg0.N) (h3 : t.val % 4 = 3) (i j : Fin 1024) (R : Fin 4096) (C : Fin 2048)
    (hR : R.val = t.val / 8 * 1024 + i.val) (hC : C.val = t.val % 8 / 4 * 1024 + j.val) :
    (outsAt0 m c t.val t.isLt).1 (ix2 i j) = out (m ((c : Thread nD τ).loc main_arg0)) (m ((c : Thread nD τ).loc main_arg1)) (m ((c : Thread nD τ).loc main_arg2)) (m ((c : Thread nD τ).loc main_arg3)) (m ((c : Thread nD τ).loc main_arg4)) (ix2 R C) := by
  obtain ⟨n, hn⟩ := t
  obtain ⟨q, rfl⟩ : ∃ q, n = q + 1 + 1 + 1 := ⟨n - 3, by simp only at h3; omega⟩
  simp only at h3 hR hC
  have h0 : q < cfg0.N := by omega
  have h1 : q + 1 < cfg0.N := by omega
  have h2 : q + 1 + 1 < cfg0.N := by omega
  show _ = ((_ + _) + _) + _
  rw [out_D m c ⟨q + 1 + 1 + 1, hn⟩ h3, part3 m c ⟨q + 1 + 1 + 1, hn⟩ h3 i j R C hR hC]
  refine congrArg (· + _) ((acc_C m c ⟨q + 1 + 1, h2⟩ (by simp only; omega) i j).trans ?_)
  rw [part2 m c ⟨q + 1 + 1, h2⟩ (by simp only; omega) i j R C (by simp only; omega) (by simp only; omega)]
  refine congrArg (· + _) ((acc_B m c ⟨q + 1, h1⟩ (by simp only; omega) i j).trans ?_)
  rw [part1 m c ⟨q + 1, h1⟩ (by simp only; omega) i j R C (by simp only; omega) (by simp only; omega)]
  refine congrArg (· + _) ((acc_A m c ⟨q, h0⟩ (by simp only; omega) i j).trans ?_)
  exact part0 m c ⟨q, h0⟩ (by simp only; omega) i j R C (by simp only; omega) (by simp only; omega)

theorem out_final (c : Dev nD) : (dats m 0 c).arrAt 5 (cfgs 0).N = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht := lt32 t
  have h3 : t.val % 4 = 3 := (by decide +kernel : ∀ t : Fin cfg0.N, (cfg0.win 5).flush t = true → t.val % 4 = 3) t hf
  obtain ⟨i, j, rfl⟩ : ∃ (i : Fin 1024) (j : Fin 1024), y = ix2 i j := ⟨y 0, y 1, eq_ix2 y⟩
  have hr : ((cfg0.win 5).blk t).view.emb (ix2 i j)
      = ix2 (⟨t.val / 8 * 1024 + i.val, by omega⟩ : Fin 4096) (⟨t.val % 8 / 4 * 1024 + j.val, by omega⟩ : Fin 2048) := by
    blk_ext! [idx t]
  rw [hr]
  blk_simp
  rw [after0_5]
  exact block m c t h3 i j _ _ rfl rfl

end

section

variable (x0 x1 x2 x3 : FVec Ideal Cert.InxReferenceIdeal.S4096x1024 .bf16) (w : FVec Ideal Cert.InxReferenceIdeal.S2048x4096 .f32)

theorem cat0 (r : Fin 4096) (l : Fin 1024) (h : 0 * 1024 + l.val < 4096) :
    Cert.InxReferenceIdeal.Read.val_main_v1 (F := Ideal) x0 x1 x2 x3 (ix2 r ⟨0 * 1024 + l.val, h⟩) = x0 (ix2 r l) := by
  pointwise [Cert.InxReferenceIdeal.Read.val_main_v1, Cert.InxReferenceIdeal.Read.val_main_v0]

theorem cat1 (r : Fin 4096) (l : Fin 1024) (h : 1 * 1024 + l.val < 4096) :
    Cert.InxReferenceIdeal.Read.val_main_v1 (F := Ideal) x0 x1 x2 x3 (ix2 r ⟨1 * 1024 + l.val, h⟩) = x1 (ix2 r l) := by
  pointwise [Cert.InxReferenceIdeal.Read.val_main_v1, Cert.InxReferenceIdeal.Read.val_main_v0]

theorem cat2 (r : Fin 4096) (l : Fin 1024) (h : 2 * 1024 + l.val < 4096) :
    Cert.InxReferenceIdeal.Read.val_main_v1 (F := Ideal) x0 x1 x2 x3 (ix2 r ⟨2 * 1024 + l.val, h⟩) = x2 (ix2 r l) := by
  pointwise [Cert.InxReferenceIdeal.Read.val_main_v1, Cert.InxReferenceIdeal.Read.val_main_v0]
  rw [dif_neg (by omega), dif_neg (by omega), dif_pos (by omega)]
  exact congrArg (fun z => x2 (ix2 r z)) (Fin.ext (by simp only; omega))

theorem cat3 (r : Fin 4096) (l : Fin 1024) (h : 3 * 1024 + l.val < 4096) :
    Cert.InxReferenceIdeal.Read.val_main_v1 (F := Ideal) x0 x1 x2 x3 (ix2 r ⟨3 * 1024 + l.val, h⟩) = x3 (ix2 r l) := by
  pointwise [Cert.InxReferenceIdeal.Read.val_main_v1, Cert.InxReferenceIdeal.Read.val_main_v0]
  rw [dif_neg (by omega), dif_neg (by omega), dif_neg (by omega)]
  exact congrArg (fun z => x3 (ix2 r z)) (Fin.ext (by simp only; omega))

theorem reference_out : Cert.InxReferenceIdeal.Read.val_main_v5 (F := Ideal) x0 x1 x2 x3 w = out x0 x1 x2 x3 w := by
  funext i
  pointwise [Cert.InxReferenceIdeal.Read.val_main_v5, Cert.InxReferenceIdeal.Read.val_main_v4, Cert.InxReferenceIdeal.Read.val_main_v3]
  generalize hg : Cert.InxReferenceIdeal.Read.val_main_v1 (F := Ideal) x0 x1 x2 x3 = g
  have e (p : Fin 4) (x : FVec Ideal Cert.InxReferenceIdeal.S4096x1024 .bf16)
      (h : ∀ (l : Fin 1024) (hl : p.val * 1024 + l.val < 4096), g (ix2 (i 0) ⟨p.val * 1024 + l.val, hl⟩) = x (ix2 (i 0) l)) :
      ∑ l : Fin 1024, g (ix2 (i 0) ⟨p.val * 1024 + l.val, by omega⟩) * w (ix2 (i 1) ⟨p.val * 1024 + l.val, by omega⟩)
        = term x w (i 0) (i 1) p :=
    Finset.sum_congr (M := EReal) rfl fun l _ => congrArg (· * _) (h l (by omega))
  show _ = ((_ + _) + _) + _
  rw [← e 0 x0 fun l hl => hg ▸ cat0 x0 x1 x2 x3 (i 0) l hl, ← e 1 x1 fun l hl => hg ▸ cat1 x0 x1 x2 x3 (i 0) l hl,
    ← e 2 x2 fun l hl => hg ▸ cat2 x0 x1 x2 x3 (i 0) l hl, ← e 3 x3 fun l hl => hg ▸ cat3 x0 x1 x2 x3 (i 0) l hl]
  rw [← Fin.sum_univ_four (fun p : Fin 4 => ∑ l : Fin 1024, g (ix2 (i 0) ⟨p.val * 1024 + l.val, by omega⟩) * w (ix2 (i 1) ⟨p.val * 1024 + l.val, by omega⟩))]
  exact (Fin.sum_mul_add_congr fun p l hl => rfl).symm

end

theorem frame_reference : Cert.quiescent_InxReferenceIdeal := fun m ρ _ =>
  (θ_run Cert.InxReferenceIdeal.defs _ _).mono
    (fun r h => ⟨fun c => (h c).2, sem_eq_zero_of_no_sems (by decide) r.2⟩) (Cert.InxReferenceIdeal.Value.run m ρ)

theorem value : Cert.algebraic_InxKernelIdeal_InxReferenceIdeal := by
  pair_intro
  · run_from Cert.InxKernelIdeal.Gen.run_main m g & Cert.InxKernelIdeal.Gen.unchanged m g
  · run_from Cert.InxReferenceIdeal.Value.run m' g'
    · exact (Cert.InxReferenceIdeal.Read.val_main_v5_eq _ _ _ _ _).trans ((reference_out _ _ _ _ _).trans (out_final m c).symm)

end Cert.InxMath

end
-- ==== Proof.AddhClaims.lean ====
/- One core's half of a gradient plus the half received from its neighbour: the core's number reaches the index map as a
   prefetched word, `device & 1`, so the blocks read are those of the first or of the second half of the rows. -/
module

public import proofs.«01_k».proof.Defs
public import proofs.«01_k».proof.Proof.Gen.AddhKernel.Frame
public import proofs.«01_k».proof.Proof.Gen.AddhKernelIdeal.Frame
public import proofs.«01_k».proof.Proof.Gen.AddhReferenceIdeal.Run
public import proofs.«01_k».proof.Proof.Gen.AddhReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AddhMath

/-- The word of which half the core holds is zero or one. -/
theorem bit_cases (w : BitVec 32) : w &&& 1#32 = 0#32 ∨ w &&& 1#32 = 1#32 := by
  have h : (w &&& 1#32).toNat = w.toNat % 2 := by
    rw [BitVec.toNat_and]; exact Nat.and_one_is_mod _
  rcases Nat.mod_two_eq_zero_or_one w.toNat with e | e
  · left; apply BitVec.eq_of_toNat_eq; rw [h, e]; rfl
  · right; apply BitVec.eq_of_toNat_eq; rw [h, e]; rfl

section

open Cert.AddhKernel Cert.AddhKernel.Gen

set_option backward.proofsInPublic true in
/-- The prefetched table holding `w`. -/
def pfK (w : BitVec 32) : pre0.Contents (Elt Bits) := fun | ⟨0, _⟩ => fun _ => w | ⟨_ + 1, h⟩ => absurd h (by simp)

/-- The device's number. -/
def wordK (m : (ℓ : Loc nD τ sig) → Buf (Elt Bits) ℓ) : BitVec 32 := m (((0 : Dev nD) : Thread nD τ).loc main_arg2) (ix1 0)

theorem tblK (m : (ℓ : Loc nD τ sig) → Buf (Elt Bits) ℓ) :
    tbl m = pfK (wordK m &&& 1#32) := by
  funext j x
  match j with
  | ⟨0, _⟩ =>
    obtain rfl : x = (ix1 0 : S1.Idx) := by funext a; fin_cases a; exact Subsingleton.elim (α := Fin 1) _ _
    show V m (0 : Dev nD) main_v1 (ix1 0) = _
    simp only [V, List.flatten_cons, List.flatten_nil, List.append_nil]
    entry_read
    rfl

theorem okK0 : ok0 (F := Bits) (pfK 0#32) := by decide +kernel
theorem okK1 : ok0 (F := Bits) (pfK 1#32) := by decide +kernel

theorem okK (m : (ℓ : Loc nD τ sig) → Buf (Elt Bits) ℓ) : Ok m := by
  unfold Ok
  rw [tblK]
  rcases bit_cases (wordK m) with e | e <;> rw [e]
  · exact okK0
  · exact okK1

end

theorem frame_kernel : Cert.quiescent_AddhKernel := fun m ρ _ => Cert.AddhKernel.Gen.frame m ρ (okK m)

section

open Cert.AddhKernelIdeal Cert.AddhKernelIdeal.Gen

set_option backward.proofsInPublic true in
/-- The prefetched table holding `w`. -/
def pfI (w : BitVec 32) : pre0.Contents (Elt Ideal) := fun | ⟨0, _⟩ => fun _ => w | ⟨_ + 1, h⟩ => absurd h (by simp)

/-- The device's number. -/
def wordI (m : (ℓ : Loc nD τ sig) → Buf (Elt Ideal) ℓ) : BitVec 32 := m (((0 : Dev nD) : Thread nD τ).loc main_arg2) (ix1 0)

theorem tblI (m : (ℓ : Loc nD τ sig) → Buf (Elt Ideal) ℓ) :
    tbl m = pfI (wordI m &&& 1#32) := by
  funext j x
  match j with
  | ⟨0, _⟩ =>
    obtain rfl : x = (ix1 0 : S1.Idx) := by funext a; fin_cases a; exact Subsingleton.elim (α := Fin 1) _ _
    show V m (0 : Dev nD) main_v1 (ix1 0) = _
    simp only [V, List.flatten_cons, List.flatten_nil, List.append_nil]
    entry_read
    rfl

theorem okI0 : ok0 (F := Ideal) (pfI 0#32) := by decide +kernel
theorem okI1 : ok0 (F := Ideal) (pfI 1#32) := by decide +kernel

theorem okI (m : (ℓ : Loc nD τ sig) → Buf (Elt Ideal) ℓ) : Ok m := by
  unfold Ok
  rw [tblI]
  rcases bit_cases (wordI m) with e | e <;> rw [e]
  · exact okI0
  · exact okI1

end

theorem frame_kernel_ideal : Cert.quiescent_AddhKernelIdeal := fun m ρ _ => Cert.AddhKernelIdeal.Gen.frame m ρ (okI m)

/-- Half `w` of a gradient plus what was received. -/
def out (x : FVec Ideal Cert.AddhKernelIdeal.S4x2048x2816 .bf16) (y : FVec Ideal Cert.AddhKernelIdeal.S4x1024x2816 .bf16)
    (w : BitVec 32) : FVec Ideal Cert.AddhKernelIdeal.S4x1024x2816 .bf16 :=
  fun i => (if w = 0#32 then x (ix3 (i 0) ⟨(i 1).val, lt_of_lt_of_le (i 1).isLt (by decide)⟩ (i 2))
    else x (ix3 (i 0) ⟨1024 + (i 1).val, Nat.add_lt_add_left (i 1).isLt 1024⟩ (i 2))) + y i

section

open Cert.AddhKernelIdeal Cert.AddhKernelIdeal.Gen

/-- What the body leaves at a point: the sum of the two blocks, entry by entry. -/
theorem body_out (c : Dev nD) (i : grid0.Coords) (arg3 : Memref sig .tc .vmem S1x256x2816 .bf16) (harg3 : arg3.IsWhole)
    (arg4 : Memref sig .tc .vmem S1x256x2816 .bf16) (harg4 : arg4.IsWhole) (arg5 : Memref sig .tc .vmem S1x256x2816 .bf16) (harg5 : arg5.IsWhole)
    (x0 x1 : FVec Ideal S1x256x2816 .bf16) (xt0 : TbBuf0 (F := Ideal) c tbM0_0) (y : S1x256x2816.Idx) :
    out0_A_2 c i arg3 harg3 arg4 harg4 arg5 harg5 x0 x1 xt0 y = x0 y + x1 y := by
  unfold out0_A_2
  frame_out
  pointwise [k0_pay1]
  all_goals rw [Memref.IsWhole.read_unread]

theorem at0 : ((cfg0 (F := Ideal) ⟨pfI 0#32, okI0⟩).win 2).Covers
    ∧ ∀ t : Fin (cfg0 (F := Ideal) ⟨pfI 0#32, okI0⟩).N,
      (win0 (F := Ideal) ⟨pfI 0#32, okI0⟩ 0).index t = ![t.val / 4, t.val % 4, 0]
      ∧ (win0 (F := Ideal) ⟨pfI 0#32, okI0⟩ 1).index t = ![t.val / 4, t.val % 4, 0]
      ∧ (win0 (F := Ideal) ⟨pfI 0#32, okI0⟩ 2).index t = ![t.val / 4, t.val % 4, 0] := by decide +kernel

theorem idxs0 (a : (pcfg0 (F := Ideal)).Adm) (h : a.1 = pfI 0#32) : ((cfg0 a).win 2).Covers
    ∧ ∀ t : Fin (cfg0 a).N, (win0 a 0).index t = ![t.val / 4, t.val % 4, 0]
      ∧ (win0 a 1).index t = ![t.val / 4, t.val % 4, 0] ∧ (win0 a 2).index t = ![t.val / 4, t.val % 4, 0] := by
  obtain ⟨p, hp⟩ := a
  obtain rfl : p = pfI 0#32 := h
  exact at0

theorem at1 : ((cfg0 (F := Ideal) ⟨pfI 1#32, okI1⟩).win 2).Covers
    ∧ ∀ t : Fin (cfg0 (F := Ideal) ⟨pfI 1#32, okI1⟩).N,
      (win0 (F := Ideal) ⟨pfI 1#32, okI1⟩ 0).index t = ![t.val / 4, 4 + t.val % 4, 0]
      ∧ (win0 (F := Ideal) ⟨pfI 1#32, okI1⟩ 1).index t = ![t.val / 4, t.val % 4, 0]
      ∧ (win0 (F := Ideal) ⟨pfI 1#32, okI1⟩ 2).index t = ![t.val / 4, t.val % 4, 0] := by decide +kernel

theorem idxs1 (a : (pcfg0 (F := Ideal)).Adm) (h : a.1 = pfI 1#32) : ((cfg0 a).win 2).Covers
    ∧ ∀ t : Fin (cfg0 a).N, (win0 a 0).index t = ![t.val / 4, 4 + t.val % 4, 0]
      ∧ (win0 a 1).index t = ![t.val / 4, t.val % 4, 0] ∧ (win0 a 2).index t = ![t.val / 4, t.val % 4, 0] := by
  obtain ⟨p, hp⟩ := a
  obtain rfl : p = pfI 1#32 := h
  exact at1

variable (m : (ℓ : Loc nD τ sig) → Buf (Elt Ideal) ℓ)

/-- The block of the own gradient at a point, and of what was received. -/
def own (hO : Ok m) (c : Dev nD) (t : Fin (cfgM m hO).N) : FVec Ideal S1x256x2816 .bf16 := iblk m hO c 0 t
def got (hO : Ok m) (c : Dev nD) (t : Fin (cfgM m hO).N) : FVec Ideal S1x256x2816 .bf16 := iblk m hO c 1 t

theorem after_out (hO : Ok m) (c : Dev nD) (t : Fin (cfgM m hO).N) (y : S1x256x2816.Idx) :
    (dats m hO 0 c).after 2 t y = own m hO c t y + got m hO c t y := by
  rw [after0_2]
  unfold outsAt0
  exact body_out _ _ _ _ _ _ _ _ (own m hO c t) (got m hO c t) _ y

theorem own_at (hO : Ok m) (c : Dev nD) (t : Fin (cfgM m hO).N) (y : S1x256x2816.Idx) :
    own m hO c t y = m ((c : Thread nD τ).loc main_arg0) ((((cfgM m hO).win 0).blk t).view.emb y) := by
  exact congrFun (V_main_arg0 m c) _

theorem got_at (hO : Ok m) (c : Dev nD) (t : Fin (cfgM m hO).N) (y : S1x256x2816.Idx) :
    got m hO c t y = m ((c : Thread nD τ).loc main_arg1) ((((cfgM m hO).win 1).blk t).view.emb y) := by
  exact congrFun (V_main_arg1 m c) _

theorem emb0 (hO : Ok m) (t : Fin (cfgM m hO).N) (y : S1x256x2816.Idx) (a : Fin 3) :
    ((((cfgM m hO).win 0).blk t).view.emb y a).val = ((cfgM m hO).win 0).index t a * S1x256x2816.size a + (y a).val := by
  exact ValueKit.view_emb_slice_whole_unit_val _ _ _ _ _ _

theorem emb1 (hO : Ok m) (t : Fin (cfgM m hO).N) (y : S1x256x2816.Idx) (a : Fin 3) :
    ((((cfgM m hO).win 1).blk t).view.emb y a).val = ((cfgM m hO).win 1).index t a * S1x256x2816.size a + (y a).val := by
  exact ValueKit.view_emb_slice_whole_unit_val _ _ _ _ _ _

theorem emb2 (hO : Ok m) (t : Fin (cfgM m hO).N) (y : S1x256x2816.Idx) (a : Fin 3) :
    ((((cfgM m hO).win 2).blk t).view.emb y a).val = ((cfgM m hO).win 2).index t a * S1x256x2816.size a + (y a).val := by
  exact ValueKit.view_emb_slice_whole_unit_val _ _ _ _ _ _

theorem point0 (hO : Ok m) (c : Dev nD) (t : Fin (cfgM m hO).N) (y : S1x256x2816.Idx) (i : S4x1024x2816.Idx)
    (hi : ∀ a : Fin 3, (i a).val = ((cfgM m hO).win 2).index t a * S1x256x2816.size a + (y a).val)
    (h : ((cfgM m hO).win 0).index t = ![t.val / 4, t.val % 4, 0] ∧ ((cfgM m hO).win 1).index t = ![t.val / 4, t.val % 4, 0]
      ∧ ((cfgM m hO).win 2).index t = ![t.val / 4, t.val % 4, 0]) :
    own m hO c t y + got m hO c t y = out (m ((c : Thread nD τ).loc main_arg0)) (m ((c : Thread nD τ).loc main_arg1)) 0#32 i := by
  obtain ⟨h0, h1, h2⟩ := h
  have i0 : (i 0).val = t.val / 4 * 1 + (y 0).val := by rw [hi 0, h2]; rfl
  have i1 : (i 1).val = t.val % 4 * 256 + (y 1).val := by rw [hi 1, h2]; rfl
  have i2 : (i 2).val = 0 * 2816 + (y 2).val := by rw [hi 2, h2]; rfl
  unfold out
  rw [if_pos rfl, own_at, got_at]
  refine congrArg₂ (· + ·) (congrArg _ (funext fun a => Fin.ext ((emb0 m hO t y a).trans ?_))) (congrArg _ (funext fun a => Fin.ext ((emb1 m hO t y a).trans ?_)))
  · rw [h0]
    match a with
    | ⟨0, _⟩ => exact i0.symm
    | ⟨1, _⟩ =>
      show (t.val % 4) * 256 + (y 1).val = (i 1).val
      omega
    | ⟨2, _⟩ => exact i2.symm
  · rw [h1]
    match a with
    | ⟨0, _⟩ => exact i0.symm
    | ⟨1, _⟩ => exact i1.symm
    | ⟨2, _⟩ => exact i2.symm

theorem final0 (hO : Ok m) (c : Dev nD) (h : wordI m &&& 1#32 = 0#32) : (dats m hO 0 c).arrAt 2 (cfgM m hO).N
    = out (m ((c : Thread nD τ).loc main_arg0)) (m ((c : Thread nD τ).loc main_arg1)) 0#32 := by
  obtain ⟨cov, idx⟩ := idxs0 (adm m hO) ((tblI m).trans (congrArg pfI h))
  refine (dats m hO 0 c).arrAt_eq_of_covers 2 _ cov fun t _ y => ?_
  exact (after_out m hO c t y).trans (point0 m hO c t y _ (emb2 m hO t y) (idx t))

theorem point1 (hO : Ok m) (c : Dev nD) (t : Fin (cfgM m hO).N) (y : S1x256x2816.Idx) (i : S4x1024x2816.Idx)
    (hi : ∀ a : Fin 3, (i a).val = ((cfgM m hO).win 2).index t a * S1x256x2816.size a + (y a).val)
    (h : ((cfgM m hO).win 0).index t = ![t.val / 4, 4 + t.val % 4, 0] ∧ ((cfgM m hO).win 1).index t = ![t.val / 4, t.val % 4, 0]
      ∧ ((cfgM m hO).win 2).index t = ![t.val / 4, t.val % 4, 0]) :
    own m hO c t y + got m hO c t y = out (m ((c : Thread nD τ).loc main_arg0)) (m ((c : Thread nD τ).loc main_arg1)) 1#32 i := by
  obtain ⟨h0, h1, h2⟩ := h
  have i0 : (i 0).val = t.val / 4 * 1 + (y 0).val := by rw [hi 0, h2]; rfl
  have i1 : (i 1).val = t.val % 4 * 256 + (y 1).val := by rw [hi 1, h2]; rfl
  have i2 : (i 2).val = 0 * 2816 + (y 2).val := by rw [hi 2, h2]; rfl
  unfold out
  rw [if_neg (by decide), own_at, got_at]
  refine congrArg₂ (· + ·) (congrArg _ (funext fun a => Fin.ext ((emb0 m hO t y a).trans ?_))) (congrArg _ (funext fun a => Fin.ext ((emb1 m hO t y a).trans ?_)))
  · rw [h0]
    match a with
    | ⟨0, _⟩ => exact i0.symm
    | ⟨1, _⟩ =>
      show (4 + t.val % 4) * 256 + (y 1).val = 1024 + (i 1).val
      omega
    | ⟨2, _⟩ => exact i2.symm
  · rw [h1]
    match a with
    | ⟨0, _⟩ => exact i0.symm
    | ⟨1, _⟩ => exact i1.symm
    | ⟨2, _⟩ => exact i2.symm

theorem final1 (hO : Ok m) (c : Dev nD) (h : wordI m &&& 1#32 = 1#32) : (dats m hO 0 c).arrAt 2 (cfgM m hO).N
    = out (m ((c : Thread nD τ).loc main_arg0)) (m ((c : Thread nD τ).loc main_arg1)) 1#32 := by
  obtain ⟨cov, idx⟩ := idxs1 (adm m hO) ((tblI m).trans (congrArg pfI h))
  refine (dats m hO 0 c).arrAt_eq_of_covers 2 _ cov fun t _ y => ?_
  exact (after_out m hO c t y).trans (point1 m hO c t y _ (emb2 m hO t y) (idx t))

theorem final (hO : Ok m) (c : Dev nD) : (dats m hO 0 c).arrAt 2 (cfgM m hO).N
    = out (m ((c : Thread nD τ).loc main_arg0)) (m ((c : Thread nD τ).loc main_arg1))
        (IntOp.andi (show BitVec 32 from m ((c : Thread nD τ).loc main_arg2) (ix1 0)) 1#32) := by
  obtain rfl : c = 0 := Subsingleton.elim _ _
  show _ = out _ _ (wordI m &&& 1#32)
  rcases bit_cases (wordI m) with e | e
  · rw [e]; exact final0 m hO 0 e
  · rw [e]; exact final1 m hO 0 e

end

theorem reference_out (x : FVec Ideal Cert.AddhReferenceIdeal.S4x2048x2816 .bf16) (y : FVec Ideal Cert.AddhReferenceIdeal.S4x1024x2816 .bf16)
    (w : IVec Cert.AddhReferenceIdeal.S1 32) :
    Cert.AddhReferenceIdeal.Read.val_main_v9 (F := Ideal) x y w = out x y (IntOp.andi (w (ix1 0)) 1#32) := by
  funext i
  pointwise [Cert.AddhReferenceIdeal.Read.val_main_v9, Cert.AddhReferenceIdeal.Read.val_main_v8, Cert.AddhReferenceIdeal.Read.val_main_v7,
    Cert.AddhReferenceIdeal.Read.val_main_v6, Cert.AddhReferenceIdeal.Read.val_main_v5, Cert.AddhReferenceIdeal.Read.val_main_v4,
    Cert.AddhReferenceIdeal.Read.val_main_v3, Cert.AddhReferenceIdeal.Read.val_main_v2, Cert.AddhReferenceIdeal.Read.val_main_v1,
    Cert.AddhReferenceIdeal.Read.val_main_v0, Cert.AddhReferenceIdeal.Read.val_main_c, Cert.AddhReferenceIdeal.Read.val_main_c_0, out]
  refine congrArg (· + y i) ?_
  by_cases h : IntOp.andi (w (ix1 0)) 1#32 = 0#32
  · rw [h]; rfl
  · rw [if_neg h]
    simp only [Scalar.select, IntOp.cmpi, beq_eq_false_iff_ne.mpr h]
    rfl

theorem frame_reference : Cert.quiescent_AddhReferenceIdeal := fun m ρ _ =>
  (θ_run Cert.AddhReferenceIdeal.defs _ _).mono
    (fun r h => ⟨fun c => (h c).2, sem_eq_zero_of_no_sems (by decide) r.2⟩) (Cert.AddhReferenceIdeal.Value.run m ρ)

theorem value : Cert.algebraic_AddhKernelIdeal_AddhReferenceIdeal := by
  pair_intro
  · run_from Cert.AddhKernelIdeal.Gen.run_main m g (okI m) & Cert.AddhKernelIdeal.Gen.unchanged m g (okI m)
    · exact final m (okI m) c
  · run_from Cert.AddhReferenceIdeal.Value.run m' g'
    · exact (Cert.AddhReferenceIdeal.Read.val_main_v9_eq _ _ _).trans (reference_out _ _ _)

end Cert.AddhMath

end
-- ==== Proof.SumlClaims.lean ====
/- The sum of eight devices' parts. -/
module

public import proofs.«01_k».proof.Defs
public import proofs.«01_k».proof.Proof.Gen.SumlKernel.Frame
public import proofs.«01_k».proof.Proof.Gen.SumlKernelIdeal.Frame
public import proofs.«01_k».proof.Proof.Gen.SumlReferenceIdeal.Run
public import proofs.«01_k».proof.Proof.Gen.SumlReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SumlMath

/-- The sum over the devices. -/
def out (x : FVec Ideal Cert.SumlKernelIdeal.S8x8x12288 .f32) : FVec Ideal Cert.SumlKernelIdeal.S8x12288 .f32 :=
  fun i => ∑ k : Fin 8, x (ix3 k (i 0) (i 1))

section

open Cert.SumlKernelIdeal Cert.SumlKernelIdeal.Gen

variable (m : (ℓ : Loc nD τ sig) → Buf (Elt Ideal) ℓ)

theorem idx : ∀ t : Fin cfg0.N, win0_0.index t = ![0, 0, 0] ∧ win0_1.index t = ![0, 0] :=
  (by decide +kernel : ∀ t : Fin grid0.N, _)

theorem out_final (c : Dev nD) : (dats m 0 c).arrAt 1 (cfgs 0).N = out (m ((c : Thread nD τ).loc main_arg0)) := by
  refine (dats m 0 c).arrAt_eq_of_covers 1 _ (by decide +kernel) fun t _ y => ?_
  blk_simp
  rw [after0_1]
  unfold out0_1
  frame_out
  pointwise [k0_pay1, out]
  rw [Fin.sum_univ_eight]
  blk_point [iblk, V, idx t]

end

theorem reference_out (x : FVec Ideal Cert.SumlReferenceIdeal.S8x8x12288 .f32) :
    Cert.SumlReferenceIdeal.Read.val_main_v0 (F := Ideal) x = out x := by
  funext i
  pointwise [Cert.SumlReferenceIdeal.Read.val_main_v0, Cert.SumlReferenceIdeal.Read.val_main_cst, out]

theorem frame_reference : Cert.quiescent_SumlReferenceIdeal := fun m ρ _ =>
  (θ_run Cert.SumlReferenceIdeal.defs _ _).mono
    (fun r h => ⟨fun c => (h c).2, sem_eq_zero_of_no_sems (by decide) r.2⟩) (Cert.SumlReferenceIdeal.Value.run m ρ)

theorem value : Cert.algebraic_SumlKernelIdeal_SumlReferenceIdeal := by
  pair_intro
  · run_from Cert.SumlKernelIdeal.Gen.run_main m g & Cert.SumlKernelIdeal.Gen.unchanged m g
  · exact θ_run_mono (Cert.SumlReferenceIdeal.Value.run m' g') fun r hr c => ⟨(hr c).1.trans
      ((congrArg _ (hagree c)).trans ((reference_out _).trans (out_final m c).symm)), (hr c).2⟩

end Cert.SumlMath

end
-- ==== Proof.AdamClaims.lean ====
/- One optimiser step of a weight: the two moving averages and the update. -/
module

public import proofs.«01_k».proof.Defs
public import proofs.«01_k».proof.Proof.Gen.AdamKernel.Frame
public import proofs.«01_k».proof.Proof.Gen.AdamKernelIdeal.Frame
public import proofs.«01_k».proof.Proof.Gen.AdamReferenceIdeal.Run
public import proofs.«01_k».proof.Proof.Gen.AdamReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamMath

variable (w g a v : FVec Ideal Cert.AdamKernelIdeal.S2048x12288 .f32)

/-- The gradient's average, -/
def first : FVec Ideal Cert.AdamKernelIdeal.S2048x12288 .f32 :=
  fun i => Ideal.ofBits .f32 0x3F666666#32 * a i + Ideal.ofBits .f32 0x3DCCCCCD#32 * g i

/-- its square's average, -/
def second : FVec Ideal Cert.AdamKernelIdeal.S2048x12288 .f32 :=
  fun i => Ideal.ofBits .f32 0x3F7FBE77#32 * v i + Ideal.ofBits .f32 0x3A83126F#32 * (g i * g i)

/-- and the update. -/
def step : FVec Ideal Cert.AdamKernelIdeal.S2048x12288 .f32 :=
  fun i => Ideal.ofBits .f32 0xBA83126F#32 * (Ideal.div (Ideal.div (first g a i) (Ideal.ofBits .f32 0x3F26BD02#32))
    (Ideal.sqrt (Ideal.div (second g v i) (Ideal.ofBits .f32 0x3C231ACC#32)) + Ideal.ofBits .f32 0x322BCC77#32) + Ideal.ofBits .f32 0x3C23D70A#32 * w i)

section

open Cert.AdamKernelIdeal Cert.AdamKernelIdeal.Gen

variable (m : (ℓ : Loc nD τ sig) → Buf (Elt Ideal) ℓ)

theorem idx : ∀ t : Fin cfg0.N, win0_0.index t = ![t.val / 8, t.val % 8] ∧ win0_1.index t = ![t.val / 8, t.val % 8]
    ∧ win0_2.index t = ![t.val / 8, t.val % 8] ∧ win0_3.index t = ![t.val / 8, t.val % 8] ∧ win0_4.index t = ![t.val / 8, t.val % 8]
    ∧ win0_5.index t = ![t.val / 8, t.val % 8] ∧ win0_6.index t = ![t.val / 8, t.val % 8] :=
  (by decide +kernel : ∀ t : Fin grid0.N, _)

theorem first_final (c : Dev nD) : (dats m 0 c).arrAt 5 (cfgs 0).N = first (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  frame_out
  pointwise [k0_pay1, k0_pay2, k0_pay3, first]
  blk_point [iblk, V, idx t]

theorem second_final (c : Dev nD) : (dats m 0 c).arrAt 6 (cfgs 0).N = second (m ((c : Thread nD τ).loc main_arg1)) (m ((c : Thread nD τ).loc main_arg3)) := by
  refine (dats m 0 c).arrAt_eq_of_covers 6 _ (by decide +kernel) fun t _ y => ?_
  blk_simp
  rw [after0_6]
  unfold out0_6
  frame_out
  pointwise [k0_pay1, k0_pay2, k0_pay3, second]
  blk_point [iblk, V, idx t]

theorem step_final (c : Dev nD) : (dats m 0 c).arrAt 4 (cfgs 0).N = step (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4]
  unfold out0_4
  frame_out
  pointwise [k0_pay1, k0_pay2, k0_pay3, step, first, second]
  blk_point [iblk, V, idx t]

end

theorem reference_first : Cert.AdamReferenceIdeal.Read.val_main_v4 (F := Ideal) g a = first g a := by
  funext i
  pointwise [Cert.AdamReferenceIdeal.Read.val_main_v4, Cert.AdamReferenceIdeal.Read.val_main_v3, Cert.AdamReferenceIdeal.Read.val_main_v2, Cert.AdamReferenceIdeal.Read.val_main_v1, Cert.AdamReferenceIdeal.Read.val_main_v0, Cert.AdamReferenceIdeal.Read.val_main_cst, Cert.AdamReferenceIdeal.Read.val_main_cst_0, first]

theorem reference_second : Cert.AdamReferenceIdeal.Read.val_main_v10 (F := Ideal) g v = second g v := by
  funext i
  pointwise [Cert.AdamReferenceIdeal.Read.val_main_v10, Cert.AdamReferenceIdeal.Read.val_main_v9, Cert.AdamReferenceIdeal.Read.val_main_v8, Cert.AdamReferenceIdeal.Read.val_main_v7, Cert.AdamReferenceIdeal.Read.val_main_v6, Cert.AdamReferenceIdeal.Read.val_main_v5, Cert.AdamReferenceIdeal.Read.val_main_cst_1, Cert.AdamReferenceIdeal.Read.val_main_cst_2, second]

theorem reference_step : Cert.AdamReferenceIdeal.Read.val_main_v23 (F := Ideal) w g a v = step w g a v := by
  funext i
  pointwise [Cert.AdamReferenceIdeal.Read.val_main_v23, Cert.AdamReferenceIdeal.Read.val_main_v22, Cert.AdamReferenceIdeal.Read.val_main_v21, Cert.AdamReferenceIdeal.Read.val_main_v20, Cert.AdamReferenceIdeal.Read.val_main_v19, Cert.AdamReferenceIdeal.Read.val_main_v18, Cert.AdamReferenceIdeal.Read.val_main_v17, Cert.AdamReferenceIdeal.Read.val_main_v16, Cert.AdamReferenceIdeal.Read.val_main_v15, Cert.AdamReferenceIdeal.Read.val_main_v14, Cert.AdamReferenceIdeal.Read.val_main_v13, Cert.AdamReferenceIdeal.Read.val_main_v12, Cert.AdamReferenceIdeal.Read.val_main_v11, Cert.AdamReferenceIdeal.Read.val_main_cst_3, Cert.AdamReferenceIdeal.Read.val_main_cst_4, Cert.AdamReferenceIdeal.Read.val_main_cst_5, Cert.AdamReferenceIdeal.Read.val_main_cst_6, Cert.AdamReferenceIdeal.Read.val_main_cst_7, step]
  rw [reference_first, reference_second]

theorem frame_reference : Cert.quiescent_AdamReferenceIdeal := fun m ρ _ =>
  (θ_run Cert.AdamReferenceIdeal.defs _ _).mono
    (fun r h => ⟨fun c => (h c).2.2.2, sem_eq_zero_of_no_sems (by decide) r.2⟩) (Cert.AdamReferenceIdeal.Value.run m ρ)

theorem value : Cert.algebraic_AdamKernelIdeal_AdamReferenceIdeal := by
  pair_intro
  · run_from Cert.AdamKernelIdeal.Gen.run_main m g & Cert.AdamKernelIdeal.Gen.unchanged m g
  · run_from Cert.AdamReferenceIdeal.Value.run m' g'
    · exact (Cert.AdamReferenceIdeal.Read.val_main_v23_eq _ _ _ _).trans ((reference_step _ _ _ _).trans (step_final m c).symm)
    · exact (Cert.AdamReferenceIdeal.Read.val_main_v4_eq _ _).trans ((reference_first _ _).trans (first_final m c).symm)
    · exact (Cert.AdamReferenceIdeal.Read.val_main_v10_eq _ _).trans ((reference_second _ _).trans (second_final m c).symm)

end Cert.AdamMath

end
-- ==== Proof.lean ====
module

public import proofs.«01_k».proof.Defs
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormReferenceIdeal
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.LnKernel
public import proofs.«01_k».proof.Proof.Gen.LnKernel.Skeleton
public import proofs.«01_k».proof.Proof.Gen.LnKernel.Launch
public import proofs.«01_k».proof.Proof.Gen.LnKernel.Points
public import proofs.«01_k».proof.Proof.Gen.LnKernel.Frame
public import proofs.«01_k».proof.Proof.Gen.LnKernelIdeal
public import proofs.«01_k».proof.Proof.Gen.LnKernelIdeal.Skeleton
public import proofs.«01_k».proof.Proof.Gen.LnKernelIdeal.Launch
public import proofs.«01_k».proof.Proof.Gen.LnKernelIdeal.Points
public import proofs.«01_k».proof.Proof.Gen.LnKernelIdeal.Frame
public import proofs.«01_k».proof.Proof.Gen.LnReferenceIdeal
public import proofs.«01_k».proof.Proof.Gen.NaKernel
public import proofs.«01_k».proof.Proof.Gen.NaKernel.Skeleton
public import proofs.«01_k».proof.Proof.Gen.NaKernel.Launch
public import proofs.«01_k».proof.Proof.Gen.NaKernel.Regions
public import proofs.«01_k».proof.Proof.Gen.NaKernel.Points
public import proofs.«01_k».proof.Proof.Gen.NaKernelIdeal
public import proofs.«01_k».proof.Proof.Gen.NaKernelIdeal.Skeleton
public import proofs.«01_k».proof.Proof.Gen.NaKernelIdeal.Launch
public import proofs.«01_k».proof.Proof.Gen.NaKernelIdeal.Regions
public import proofs.«01_k».proof.Proof.Gen.NaKernelIdeal.Points
public import proofs.«01_k».proof.Proof.Gen.NaReferenceIdeal
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.SduKernel
public import proofs.«01_k».proof.Proof.Gen.SduKernel.Skeleton
public import proofs.«01_k».proof.Proof.Gen.SduKernel.Launch
public import proofs.«01_k».proof.Proof.Gen.SduKernel.Points
public import proofs.«01_k».proof.Proof.Gen.SduKernel.Frame
public import proofs.«01_k».proof.Proof.Gen.SduKernelIdeal
public import proofs.«01_k».proof.Proof.Gen.SduKernelIdeal.Skeleton
public import proofs.«01_k».proof.Proof.Gen.SduKernelIdeal.Launch
public import proofs.«01_k».proof.Proof.Gen.SduKernelIdeal.Points
public import proofs.«01_k».proof.Proof.Gen.SduKernelIdeal.Frame
public import proofs.«01_k».proof.Proof.Gen.SduReferenceIdeal
public import proofs.«01_k».proof.Proof.Gen.ModKernel
public import proofs.«01_k».proof.Proof.Gen.ModKernel.Skeleton
public import proofs.«01_k».proof.Proof.Gen.ModKernel.Launch
public import proofs.«01_k».proof.Proof.Gen.ModKernel.Points
public import proofs.«01_k».proof.Proof.Gen.ModKernel.Frame
public import proofs.«01_k».proof.Proof.Gen.ModKernelIdeal
public import proofs.«01_k».proof.Proof.Gen.ModKernelIdeal.Skeleton
public import proofs.«01_k».proof.Proof.Gen.ModKernelIdeal.Launch
public import proofs.«01_k».proof.Proof.Gen.ModKernelIdeal.Points
public import proofs.«01_k».proof.Proof.Gen.ModKernelIdeal.Frame
public import proofs.«01_k».proof.Proof.Gen.ModReferenceIdeal
public import proofs.«01_k».proof.Proof.Gen.GresKernel
public import proofs.«01_k».proof.Proof.Gen.GresKernel.Skeleton
public import proofs.«01_k».proof.Proof.Gen.GresKernel.Launch
public import proofs.«01_k».proof.Proof.Gen.GresKernel.Points
public import proofs.«01_k».proof.Proof.Gen.GresKernel.Frame
public import proofs.«01_k».proof.Proof.Gen.GresKernelIdeal
public import proofs.«01_k».proof.Proof.Gen.GresKernelIdeal.Skeleton
public import proofs.«01_k».proof.Proof.Gen.GresKernelIdeal.Launch
public import proofs.«01_k».proof.Proof.Gen.GresKernelIdeal.Points
public import proofs.«01_k».proof.Proof.Gen.GresKernelIdeal.Frame
public import proofs.«01_k».proof.Proof.Gen.GresReferenceIdeal
public import proofs.«01_k».proof.Proof.Gen.RnKernel
public import proofs.«01_k».proof.Proof.Gen.RnKernel.Skeleton
public import proofs.«01_k».proof.Proof.Gen.RnKernel.Launch
public import proofs.«01_k».proof.Proof.Gen.RnKernel.Points
public import proofs.«01_k».proof.Proof.Gen.RnKernel.Frame
public import proofs.«01_k».proof.Proof.Gen.RnKernelIdeal
public import proofs.«01_k».proof.Proof.Gen.RnKernelIdeal.Skeleton
public import proofs.«01_k».proof.Proof.Gen.RnKernelIdeal.Launch
public import proofs.«01_k».proof.Proof.Gen.RnKernelIdeal.Points
public import proofs.«01_k».proof.Proof.Gen.RnKernelIdeal.Frame
public import proofs.«01_k».proof.Proof.Gen.RnReferenceIdeal
public import proofs.«01_k».proof.Proof.Gen.MidKernel
public import proofs.«01_k».proof.Proof.Gen.MidKernel.Skeleton
public import proofs.«01_k».proof.Proof.Gen.MidKernel.Launch
public import proofs.«01_k».proof.Proof.Gen.MidKernel.Points
public import proofs.«01_k».proof.Proof.Gen.MidKernel.Frame
public import proofs.«01_k».proof.Proof.Gen.MidKernelIdeal
public import proofs.«01_k».proof.Proof.Gen.MidKernelIdeal.Skeleton
public import proofs.«01_k».proof.Proof.Gen.MidKernelIdeal.Launch
public import proofs.«01_k».proof.Proof.Gen.MidKernelIdeal.Points
public import proofs.«01_k».proof.Proof.Gen.MidKernelIdeal.Frame
public import proofs.«01_k».proof.Proof.Gen.MidReferenceIdeal
public import proofs.«01_k».proof.Proof.Gen.GlufKernel
public import proofs.«01_k».proof.Proof.Gen.GlufKernel.Skeleton
public import proofs.«01_k».proof.Proof.Gen.GlufKernel.Launch
public import proofs.«01_k».proof.Proof.Gen.GlufKernel.Points
public import proofs.«01_k».proof.Proof.Gen.GlufKernel.Frame
public import proofs.«01_k».proof.Proof.Gen.GlufKernelIdeal
public import proofs.«01_k».proof.Proof.Gen.GlufKernelIdeal.Skeleton
public import proofs.«01_k».proof.Proof.Gen.GlufKernelIdeal.Launch
public import proofs.«01_k».proof.Proof.Gen.GlufKernelIdeal.Points
public import proofs.«01_k».proof.Proof.Gen.GlufKernelIdeal.Frame
public import proofs.«01_k».proof.Proof.Gen.GlufReferenceIdeal
public import proofs.«01_k».proof.Proof.Gen.GluKernel
public import proofs.«01_k».proof.Proof.Gen.GluKernel.Skeleton
public import proofs.«01_k».proof.Proof.Gen.GluKernel.Launch
public import proofs.«01_k».proof.Proof.Gen.GluKernel.Points
public import proofs.«01_k».proof.Proof.Gen.GluKernel.Frame
public import proofs.«01_k».proof.Proof.Gen.GluKernelIdeal
public import proofs.«01_k».proof.Proof.Gen.GluKernelIdeal.Skeleton
public import proofs.«01_k».proof.Proof.Gen.GluKernelIdeal.Launch
public import proofs.«01_k».proof.Proof.Gen.GluKernelIdeal.Points
public import proofs.«01_k».proof.Proof.Gen.GluKernelIdeal.Frame
public import proofs.«01_k».proof.Proof.Gen.GluReferenceIdeal
public import proofs.«01_k».proof.Proof.Gen.GluReferenceIdeal.Skeleton
public import proofs.«01_k».proof.Proof.Gen.GluReferenceIdeal.Launch
public import proofs.«01_k».proof.Proof.Gen.GluReferenceIdeal.Points
public import proofs.«01_k».proof.Proof.Gen.GluReferenceIdeal.Frame
public import proofs.«01_k».proof.Proof.Gen.DnKernel
public import proofs.«01_k».proof.Proof.Gen.DnKernel.Skeleton
public import proofs.«01_k».proof.Proof.Gen.DnKernel.Launch
public import proofs.«01_k».proof.Proof.Gen.DnKernel.Points
public import proofs.«01_k».proof.Proof.Gen.DnKernel.Frame
public import proofs.«01_k».proof.Proof.Gen.DnKernelIdeal
public import proofs.«01_k».proof.Proof.Gen.DnKernelIdeal.Skeleton
public import proofs.«01_k».proof.Proof.Gen.DnKernelIdeal.Launch
public import proofs.«01_k».proof.Proof.Gen.DnKernelIdeal.Points
public import proofs.«01_k».proof.Proof.Gen.DnKernelIdeal.Frame
public import proofs.«01_k».proof.Proof.Gen.DnReferenceIdeal
public import proofs.«01_k».proof.Proof.Gen.DnxKernel
public import proofs.«01_k».proof.Proof.Gen.DnxKernel.Skeleton
public import proofs.«01_k».proof.Proof.Gen.DnxKernel.Launch
public import proofs.«01_k».proof.Proof.Gen.DnxKernel.Points
public import proofs.«01_k».proof.Proof.Gen.DnxKernel.Frame
public import proofs.«01_k».proof.Proof.Gen.DnxKernelIdeal
public import proofs.«01_k».proof.Proof.Gen.DnxKernelIdeal.Skeleton
public import proofs.«01_k».proof.Proof.Gen.DnxKernelIdeal.Launch
public import proofs.«01_k».proof.Proof.Gen.DnxKernelIdeal.Points
public import proofs.«01_k».proof.Proof.Gen.DnxKernelIdeal.Frame
public import proofs.«01_k».proof.Proof.Gen.DnxReferenceIdeal
public import proofs.«01_k».proof.Proof.Gen.DnwKernel
public import proofs.«01_k».proof.Proof.Gen.DnwKernel.Skeleton
public import proofs.«01_k».proof.Proof.Gen.DnwKernel.Launch
public import proofs.«01_k».proof.Proof.Gen.DnwKernel.Points
public import proofs.«01_k».proof.Proof.Gen.DnwKernel.Frame
public import proofs.«01_k».proof.Proof.Gen.DnwKernelIdeal
public import proofs.«01_k».proof.Proof.Gen.DnwKernelIdeal.Skeleton
public import proofs.«01_k».proof.Proof.Gen.DnwKernelIdeal.Launch
public import proofs.«01_k».proof.Proof.Gen.DnwKernelIdeal.Points
public import proofs.«01_k».proof.Proof.Gen.DnwKernelIdeal.Frame
public import proofs.«01_k».proof.Proof.Gen.DnwReferenceIdeal
public import proofs.«01_k».proof.Proof.Gen.UpfKernel
public import proofs.«01_k».proof.Proof.Gen.UpfKernel.Skeleton
public import proofs.«01_k».proof.Proof.Gen.UpfKernel.Launch
public import proofs.«01_k».proof.Proof.Gen.UpfKernel.Points
public import proofs.«01_k».proof.Proof.Gen.UpfKernel.Frame
public import proofs.«01_k».proof.Proof.Gen.UpfKernelIdeal
public import proofs.«01_k».proof.Proof.Gen.UpfKernelIdeal.Skeleton
public import proofs.«01_k».proof.Proof.Gen.UpfKernelIdeal.Launch
public import proofs.«01_k».proof.Proof.Gen.UpfKernelIdeal.Points
public import proofs.«01_k».proof.Proof.Gen.UpfKernelIdeal.Frame
public import proofs.«01_k».proof.Proof.Gen.UpfReferenceIdeal
public import proofs.«01_k».proof.Proof.Gen.UpwKernel
public import proofs.«01_k».proof.Proof.Gen.UpwKernel.Skeleton
public import proofs.«01_k».proof.Proof.Gen.UpwKernel.Launch
public import proofs.«01_k».proof.Proof.Gen.UpwKernel.Points
public import proofs.«01_k».proof.Proof.Gen.UpwKernel.Frame
public import proofs.«01_k».proof.Proof.Gen.UpwKernelIdeal
public import proofs.«01_k».proof.Proof.Gen.UpwKernelIdeal.Skeleton
public import proofs.«01_k».proof.Proof.Gen.UpwKernelIdeal.Launch
public import proofs.«01_k».proof.Proof.Gen.UpwKernelIdeal.Points
public import proofs.«01_k».proof.Proof.Gen.UpwKernelIdeal.Frame
public import proofs.«01_k».proof.Proof.Gen.UpwReferenceIdeal
public import proofs.«01_k».proof.Proof.Gen.UpxKernel
public import proofs.«01_k».proof.Proof.Gen.UpxKernel.Skeleton
public import proofs.«01_k».proof.Proof.Gen.UpxKernel.Launch
public import proofs.«01_k».proof.Proof.Gen.UpxKernel.Points
public import proofs.«01_k».proof.Proof.Gen.UpxKernel.Frame
public import proofs.«01_k».proof.Proof.Gen.UpxKernelIdeal
public import proofs.«01_k».proof.Proof.Gen.UpxKernelIdeal.Skeleton
public import proofs.«01_k».proof.Proof.Gen.UpxKernelIdeal.Launch
public import proofs.«01_k».proof.Proof.Gen.UpxKernelIdeal.Points
public import proofs.«01_k».proof.Proof.Gen.UpxKernelIdeal.Frame
public import proofs.«01_k».proof.Proof.Gen.UpxReferenceIdeal
public import proofs.«01_k».proof.Proof.Gen.InxKernel
public import proofs.«01_k».proof.Proof.Gen.InxKernel.Skeleton
public import proofs.«01_k».proof.Proof.Gen.InxKernel.Launch
public import proofs.«01_k».proof.Proof.Gen.InxKernel.Points
public import proofs.«01_k».proof.Proof.Gen.InxKernel.Frame
public import proofs.«01_k».proof.Proof.Gen.InxKernelIdeal
public import proofs.«01_k».proof.Proof.Gen.InxKernelIdeal.Skeleton
public import proofs.«01_k».proof.Proof.Gen.InxKernelIdeal.Launch
public import proofs.«01_k».proof.Proof.Gen.InxKernelIdeal.Points
public import proofs.«01_k».proof.Proof.Gen.InxKernelIdeal.Frame
public import proofs.«01_k».proof.Proof.Gen.InxReferenceIdeal
public import proofs.«01_k».proof.Proof.Gen.AddhKernel
public import proofs.«01_k».proof.Proof.Gen.AddhKernel.Skeleton
public import proofs.«01_k».proof.Proof.Gen.AddhKernel.Launch
public import proofs.«01_k».proof.Proof.Gen.AddhKernel.Points
public import proofs.«01_k».proof.Proof.Gen.AddhKernel.Frame
public import proofs.«01_k».proof.Proof.Gen.AddhKernelIdeal
public import proofs.«01_k».proof.Proof.Gen.AddhKernelIdeal.Skeleton
public import proofs.«01_k».proof.Proof.Gen.AddhKernelIdeal.Launch
public import proofs.«01_k».proof.Proof.Gen.AddhKernelIdeal.Points
public import proofs.«01_k».proof.Proof.Gen.AddhKernelIdeal.Frame
public import proofs.«01_k».proof.Proof.Gen.AddhReferenceIdeal
public import proofs.«01_k».proof.Proof.Gen.SumlKernel
public import proofs.«01_k».proof.Proof.Gen.SumlKernel.Skeleton
public import proofs.«01_k».proof.Proof.Gen.SumlKernel.Launch
public import proofs.«01_k».proof.Proof.Gen.SumlKernel.Points
public import proofs.«01_k».proof.Proof.Gen.SumlKernel.Frame
public import proofs.«01_k».proof.Proof.Gen.SumlKernelIdeal
public import proofs.«01_k».proof.Proof.Gen.SumlKernelIdeal.Skeleton
public import proofs.«01_k».proof.Proof.Gen.SumlKernelIdeal.Launch
public import proofs.«01_k».proof.Proof.Gen.SumlKernelIdeal.Points
public import proofs.«01_k».proof.Proof.Gen.SumlKernelIdeal.Frame
public import proofs.«01_k».proof.Proof.Gen.SumlReferenceIdeal
public import proofs.«01_k».proof.Proof.Gen.AdamKernel
public import proofs.«01_k».proof.Proof.Gen.AdamKernel.Skeleton
public import proofs.«01_k».proof.Proof.Gen.AdamKernel.Launch
public import proofs.«01_k».proof.Proof.Gen.AdamKernel.Points
public import proofs.«01_k».proof.Proof.Gen.AdamKernel.Frame
public import proofs.«01_k».proof.Proof.Gen.AdamKernelIdeal
public import proofs.«01_k».proof.Proof.Gen.AdamKernelIdeal.Skeleton
public import proofs.«01_k».proof.Proof.Gen.AdamKernelIdeal.Launch
public import proofs.«01_k».proof.Proof.Gen.AdamKernelIdeal.Points
public import proofs.«01_k».proof.Proof.Gen.AdamKernelIdeal.Frame
public import proofs.«01_k».proof.Proof.Gen.AdamReferenceIdeal
public import proofs.«01_k».proof.Proof.Gen.Pre_norm_finite
public import proofs.«01_k».proof.Proof.Gen.Pre_loss_finite
public import proofs.«01_k».proof.Proof.Gen.Pre_ln_finite
public import proofs.«01_k».proof.Proof.Gen.Pre_na_finite
public import proofs.«01_k».proof.Proof.Gen.Pre_ffn_finite
public import proofs.«01_k».proof.Proof.Gen.Pre_glu_finite
public import proofs.«01_k».proof.Proof.Gen.GateReferenceIdeal.Run
public import proofs.«01_k».proof.Proof.Gen.GateReferenceIdeal.Read
public import proofs.«01_k».proof.Proof.Gen.NormReferenceIdeal.Run
public import proofs.«01_k».proof.Proof.Gen.NormReferenceIdeal.Read
public import proofs.«01_k».proof.Proof.Gen.LossReferenceIdeal.Run
public import proofs.«01_k».proof.Proof.Gen.LossReferenceIdeal.Read
public import proofs.«01_k».proof.Proof.Gen.LnReferenceIdeal.Run
public import proofs.«01_k».proof.Proof.Gen.LnReferenceIdeal.Read
public import proofs.«01_k».proof.Proof.Gen.NaReferenceIdeal.Run
public import proofs.«01_k».proof.Proof.Gen.NaReferenceIdeal.Read
public import proofs.«01_k».proof.Proof.Gen.FfnReferenceIdeal.Run
public import proofs.«01_k».proof.Proof.Gen.FfnReferenceIdeal.Read
public import proofs.«01_k».proof.Proof.Gen.SduReferenceIdeal.Run
public import proofs.«01_k».proof.Proof.Gen.SduReferenceIdeal.Read
public import proofs.«01_k».proof.Proof.Gen.ModReferenceIdeal.Run
public import proofs.«01_k».proof.Proof.Gen.ModReferenceIdeal.Read
public import proofs.«01_k».proof.Proof.Gen.GresReferenceIdeal.Run
public import proofs.«01_k».proof.Proof.Gen.GresReferenceIdeal.Read
public import proofs.«01_k».proof.Proof.Gen.RnReferenceIdeal.Run
public import proofs.«01_k».proof.Proof.Gen.RnReferenceIdeal.Read
public import proofs.«01_k».proof.Proof.Gen.MidReferenceIdeal.Run
public import proofs.«01_k».proof.Proof.Gen.MidReferenceIdeal.Read
public import proofs.«01_k».proof.Proof.Gen.GlufReferenceIdeal.Run
public import proofs.«01_k».proof.Proof.Gen.GlufReferenceIdeal.Read
public import proofs.«01_k».proof.Proof.Gen.GluReferenceIdeal.Run
public import proofs.«01_k».proof.Proof.Gen.GluReferenceIdeal.Read
public import proofs.«01_k».proof.Proof.Gen.DnReferenceIdeal.Run
public import proofs.«01_k».proof.Proof.Gen.DnReferenceIdeal.Read
public import proofs.«01_k».proof.Proof.Gen.DnxReferenceIdeal.Run
public import proofs.«01_k».proof.Proof.Gen.DnxReferenceIdeal.Read
public import proofs.«01_k».proof.Proof.Gen.DnwReferenceIdeal.Run
public import proofs.«01_k».proof.Proof.Gen.DnwReferenceIdeal.Read
public import proofs.«01_k».proof.Proof.Gen.UpfReferenceIdeal.Run
public import proofs.«01_k».proof.Proof.Gen.UpfReferenceIdeal.Read
public import proofs.«01_k».proof.Proof.Gen.UpwReferenceIdeal.Run
public import proofs.«01_k».proof.Proof.Gen.UpwReferenceIdeal.Read
public import proofs.«01_k».proof.Proof.Gen.UpxReferenceIdeal.Run
public import proofs.«01_k».proof.Proof.Gen.UpxReferenceIdeal.Read
public import proofs.«01_k».proof.Proof.Gen.InxReferenceIdeal.Run
public import proofs.«01_k».proof.Proof.Gen.InxReferenceIdeal.Read
public import proofs.«01_k».proof.Proof.Gen.AddhReferenceIdeal.Run
public import proofs.«01_k».proof.Proof.Gen.AddhReferenceIdeal.Read
public import proofs.«01_k».proof.Proof.Gen.SumlReferenceIdeal.Run
public import proofs.«01_k».proof.Proof.Gen.SumlReferenceIdeal.Read
public import proofs.«01_k».proof.Proof.Gen.AdamReferenceIdeal.Run
public import proofs.«01_k».proof.Proof.Gen.AdamReferenceIdeal.Read
public import proofs.«01_k».proof.Proof.GateClaims
public import proofs.«01_k».proof.Proof.NormClaims
public import proofs.«01_k».proof.Proof.LossClaims
public import proofs.«01_k».proof.Proof.LnClaims
public import proofs.«01_k».proof.Proof.NaClaims
public import proofs.«01_k».proof.Proof.FfnClaims
public import proofs.«01_k».proof.Proof.SduClaims
public import proofs.«01_k».proof.Proof.ModClaims
public import proofs.«01_k».proof.Proof.GresClaims
public import proofs.«01_k».proof.Proof.RnClaims
public import proofs.«01_k».proof.Proof.MidClaims
public import proofs.«01_k».proof.Proof.GlufClaims
public import proofs.«01_k».proof.Proof.GluClaims
public import proofs.«01_k».proof.Proof.DnClaims
public import proofs.«01_k».proof.Proof.DnxClaims
public import proofs.«01_k».proof.Proof.DnwClaims
public import proofs.«01_k».proof.Proof.UpfClaims
public import proofs.«01_k».proof.Proof.UpwClaims
public import proofs.«01_k».proof.Proof.UpxClaims
public import proofs.«01_k».proof.Proof.InxClaims
public import proofs.«01_k».proof.Proof.AddhClaims
public import proofs.«01_k».proof.Proof.SumlClaims
public import proofs.«01_k».proof.Proof.AdamClaims
public import Idealize.ShloMosaic.Adequacy
public import Idealize.ShloMosaic.Init

@[expose] public section

noncomputable section

namespace Cert.Proof

open Idealize.ShloMosaic Idealize.SL.Sem Cert.GateKernel

theorem claim : Cert.Claim := ⟨Cert.GateKernel.Gen.facts,
  Cert.GateKernelIdeal.Gen.facts,
  Cert.GateReferenceIdeal.Gen.facts,
  Cert.NormKernel.Gen.facts,
  Cert.NormKernelIdeal.Gen.facts,
  Cert.NormReferenceIdeal.Gen.facts,
  Cert.LossKernel.Gen.facts,
  Cert.LossKernelIdeal.Gen.facts,
  Cert.LossReferenceIdeal.Gen.facts,
  Cert.LnKernel.Gen.facts,
  Cert.LnKernelIdeal.Gen.facts,
  Cert.LnReferenceIdeal.Gen.facts,
  Cert.NaKernel.Gen.facts,
  Cert.NaKernelIdeal.Gen.facts,
  Cert.NaReferenceIdeal.Gen.facts,
  Cert.FfnKernel.Gen.facts,
  Cert.FfnKernelIdeal.Gen.facts,
  Cert.FfnReferenceIdeal.Gen.facts,
  Cert.SduKernel.Gen.facts,
  Cert.SduKernelIdeal.Gen.facts,
  Cert.SduReferenceIdeal.Gen.facts,
  Cert.ModKernel.Gen.facts,
  Cert.ModKernelIdeal.Gen.facts,
  Cert.ModReferenceIdeal.Gen.facts,
  Cert.GresKernel.Gen.facts,
  Cert.GresKernelIdeal.Gen.facts,
  Cert.GresReferenceIdeal.Gen.facts,
  Cert.RnKernel.Gen.facts,
  Cert.RnKernelIdeal.Gen.facts,
  Cert.RnReferenceIdeal.Gen.facts,
  Cert.MidKernel.Gen.facts,
  Cert.MidKernelIdeal.Gen.facts,
  Cert.MidReferenceIdeal.Gen.facts,
  Cert.GlufKernel.Gen.facts,
  Cert.GlufKernelIdeal.Gen.facts,
  Cert.GlufReferenceIdeal.Gen.facts,
  Cert.GluKernel.Gen.facts,
  Cert.GluKernelIdeal.Gen.facts,
  Cert.GluReferenceIdeal.Gen.facts,
  Cert.DnKernel.Gen.facts,
  Cert.DnKernelIdeal.Gen.facts,
  Cert.DnReferenceIdeal.Gen.facts,
  Cert.DnxKernel.Gen.facts,
  Cert.DnxKernelIdeal.Gen.facts,
  Cert.DnxReferenceIdeal.Gen.facts,
  Cert.DnwKernel.Gen.facts,
  Cert.DnwKernelIdeal.Gen.facts,
  Cert.DnwReferenceIdeal.Gen.facts,
  Cert.UpfKernel.Gen.facts,
  Cert.UpfKernelIdeal.Gen.facts,
  Cert.UpfReferenceIdeal.Gen.facts,
  Cert.UpwKernel.Gen.facts,
  Cert.UpwKernelIdeal.Gen.facts,
  Cert.UpwReferenceIdeal.Gen.facts,
  Cert.UpxKernel.Gen.facts,
  Cert.UpxKernelIdeal.Gen.facts,
  Cert.UpxReferenceIdeal.Gen.facts,
  Cert.InxKernel.Gen.facts,
  Cert.InxKernelIdeal.Gen.facts,
  Cert.InxReferenceIdeal.Gen.facts,
  Cert.AddhKernel.Gen.facts,
  Cert.AddhKernelIdeal.Gen.facts,
  Cert.AddhReferenceIdeal.Gen.facts,
  Cert.SumlKernel.Gen.facts,
  Cert.SumlKernelIdeal.Gen.facts,
  Cert.SumlReferenceIdeal.Gen.facts,
  Cert.AdamKernel.Gen.facts,
  Cert.AdamKernelIdeal.Gen.facts,
  Cert.AdamReferenceIdeal.Gen.facts,
  Cert.Pre_norm_finite.Gen.facts,
  Cert.Pre_loss_finite.Gen.facts,
  Cert.Pre_ln_finite.Gen.facts,
  Cert.Pre_na_finite.Gen.facts,
  Cert.Pre_ffn_finite.Gen.facts,
  Cert.Pre_glu_finite.Gen.facts,
  fun m ρ _ => Cert.GateKernel.Gen.frame m ρ,
  fun m ρ _ => Cert.GateKernelIdeal.Gen.frame m ρ,
  Cert.GateMath.frame_reference,
  fun m ρ _ => Cert.NormKernel.Gen.frame m ρ,
  fun m ρ _ => Cert.NormKernelIdeal.Gen.frame m ρ,
  fun m ρ _ => Cert.NormKernelIdeal.Gen.frame m ρ,
  Cert.NormMath.frame_reference,
  fun m ρ _ => Cert.NormMath.frame_reference m ρ trivial,
  fun m ρ _ => Cert.LossKernel.Gen.frame m ρ,
  fun m ρ _ => Cert.LossKernelIdeal.Gen.frame m ρ,
  fun m ρ _ => Cert.LossKernelIdeal.Gen.frame m ρ,
  Cert.LossMath.frame_reference,
  fun m ρ _ => Cert.LossMath.frame_reference m ρ trivial,
  fun m ρ _ => Cert.LnKernel.Gen.frame m ρ,
  fun m ρ _ => Cert.LnKernelIdeal.Gen.frame m ρ,
  fun m ρ _ => Cert.LnKernelIdeal.Gen.frame m ρ,
  Cert.LnMath.frame_reference,
  fun m ρ _ => Cert.LnMath.frame_reference m ρ trivial,
  Cert.NaMath.frame_kernel,
  Cert.NaMath.frame_kernel_ideal,
  fun m ρ _ => Cert.NaMath.frame_kernel_ideal m ρ trivial,
  Cert.NaMath.frame_reference,
  fun m ρ _ => Cert.NaMath.frame_reference m ρ trivial,
  fun m ρ _ => Cert.FfnKernel.Gen.frame m ρ,
  fun m ρ _ => Cert.FfnKernelIdeal.Gen.frame m ρ,
  fun m ρ _ => Cert.FfnKernelIdeal.Gen.frame m ρ,
  Cert.FfnMath.frame_reference,
  fun m ρ _ => Cert.FfnMath.frame_reference m ρ trivial,
  fun m ρ _ => Cert.SduKernel.Gen.frame m ρ,
  fun m ρ _ => Cert.SduKernelIdeal.Gen.frame m ρ,
  Cert.SduMath.frame_reference,
  fun m ρ _ => Cert.ModKernel.Gen.frame m ρ,
  fun m ρ _ => Cert.ModKernelIdeal.Gen.frame m ρ,
  Cert.ModMath.frame_reference,
  fun m ρ _ => Cert.GresKernel.Gen.frame m ρ,
  fun m ρ _ => Cert.GresKernelIdeal.Gen.frame m ρ,
  Cert.GresMath.frame_reference,
  fun m ρ _ => Cert.RnKernel.Gen.frame m ρ,
  fun m ρ _ => Cert.RnKernelIdeal.Gen.frame m ρ,
  Cert.RnMath.frame_reference,
  fun m ρ _ => Cert.MidKernel.Gen.frame m ρ,
  fun m ρ _ => Cert.MidKernelIdeal.Gen.frame m ρ,
  Cert.MidMath.frame_reference,
  fun m ρ _ => Cert.GlufKernel.Gen.frame m ρ,
  fun m ρ _ => Cert.GlufKernelIdeal.Gen.frame m ρ,
  Cert.GlufMath.frame_reference,
  fun m ρ _ => Cert.GluKernel.Gen.frame m ρ,
  fun m ρ _ => Cert.GluKernelIdeal.Gen.frame m ρ,
  fun m ρ _ => Cert.GluKernelIdeal.Gen.frame m ρ,
  Cert.GluMath.frame_reference,
  fun m ρ _ => Cert.GluMath.frame_reference m ρ trivial,
  fun m ρ _ => Cert.DnKernel.Gen.frame m ρ,
  fun m ρ _ => Cert.DnKernelIdeal.Gen.frame m ρ,
  Cert.DnMath.frame_reference,
  fun m ρ _ => Cert.DnxKernel.Gen.frame m ρ,
  fun m ρ _ => Cert.DnxKernelIdeal.Gen.frame m ρ,
  Cert.DnxMath.frame_reference,
  fun m ρ _ => Cert.DnwKernel.Gen.frame m ρ,
  fun m ρ _ => Cert.DnwKernelIdeal.Gen.frame m ρ,
  Cert.DnwMath.frame_reference,
  fun m ρ _ => Cert.UpfKernel.Gen.frame m ρ,
  fun m ρ _ => Cert.UpfKernelIdeal.Gen.frame m ρ,
  Cert.UpfMath.frame_reference,
  fun m ρ _ => Cert.UpwKernel.Gen.frame m ρ,
  fun m ρ _ => Cert.UpwKernelIdeal.Gen.frame m ρ,
  Cert.UpwMath.frame_reference,
  fun m ρ _ => Cert.UpxKernel.Gen.frame m ρ,
  fun m ρ _ => Cert.UpxKernelIdeal.Gen.frame m ρ,
  Cert.UpxMath.frame_reference,
  fun m ρ _ => Cert.InxKernel.Gen.frame m ρ,
  fun m ρ _ => Cert.InxKernelIdeal.Gen.frame m ρ,
  Cert.InxMath.frame_reference,
  Cert.AddhMath.frame_kernel,
  Cert.AddhMath.frame_kernel_ideal,
  Cert.AddhMath.frame_reference,
  fun m ρ _ => Cert.SumlKernel.Gen.frame m ρ,
  fun m ρ _ => Cert.SumlKernelIdeal.Gen.frame m ρ,
  Cert.SumlMath.frame_reference,
  fun m ρ _ => Cert.AdamKernel.Gen.frame m ρ,
  fun m ρ _ => Cert.AdamKernelIdeal.Gen.frame m ρ,
  Cert.AdamMath.frame_reference,
  trivial,
  Cert.GateMath.value,
  trivial,
  Cert.NormMath.value,
  trivial,
  Cert.LossMath.value,
  trivial,
  Cert.LnMath.value,
  trivial,
  Cert.NaMath.value,
  trivial,
  Cert.FfnMath.value,
  trivial,
  Cert.SduMath.value,
  trivial,
  Cert.ModMath.value,
  trivial,
  Cert.GresMath.value,
  trivial,
  Cert.RnMath.value,
  trivial,
  Cert.MidMath.value,
  trivial,
  Cert.GlufMath.value,
  Cert.GluMath.preserves,
  Cert.GluMath.value,
  trivial,
  Cert.DnMath.value,
  trivial,
  Cert.DnxMath.value,
  trivial,
  Cert.DnwMath.value,
  trivial,
  Cert.UpfMath.value,
  trivial,
  Cert.UpwMath.value,
  trivial,
  Cert.UpxMath.value,
  trivial,
  Cert.InxMath.value,
  trivial,
  Cert.AddhMath.value,
  trivial,
  Cert.SumlMath.value,
  trivial,
  Cert.AdamMath.value⟩

end Cert.Proof

end
